-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_finite [hPre_gate_finite : Cert.Pre_gate_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_finite [hPre_gate_finite : Cert.Pre_gate_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_bwd_down_finite [hPre_bwd_down_finite : Cert.Pre_bwd_down_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_bwd_down_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_bwd_down_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_bwd_down_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_bwd_down_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_bwd_down_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_bwd_down_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 = (fun _ => 1#1)
    ∧ (Cert.Pre_bwd_down_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_bwd_down_finite [hPre_bwd_down_finite : Cert.Pre_bwd_down_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_bwd_down_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_bwd_down_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_bwd_down_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_bwd_down_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_bwd_down_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_bwd_down_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.1 = (fun _ => 1#1)
    ∧ (Cert.Pre_bwd_down_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_inproj_bwd_finite [hPre_inproj_bwd_finite : Cert.Pre_inproj_bwd_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_inproj_bwd_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_inproj_bwd_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_inproj_bwd_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_inproj_bwd_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_inproj_bwd_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_inproj_bwd_finite [hPre_inproj_bwd_finite : Cert.Pre_inproj_bwd_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_inproj_bwd_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_inproj_bwd_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_inproj_bwd_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_inproj_bwd_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_inproj_bwd_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_loss_head_finite [hPre_loss_head_finite : Cert.Pre_loss_head_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_loss_head_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_loss_head_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_loss_head_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_loss_head_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.1 = (fun _ => 1#1)
    ∧ (Cert.Pre_loss_head_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_loss_head_finite [hPre_loss_head_finite : Cert.Pre_loss_head_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_loss_head_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_loss_head_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_loss_head_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_loss_head_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.1 = (fun _ => 1#1)
    ∧ (Cert.Pre_loss_head_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_pool_half_finite [hPre_pool_half_finite : Cert.Pre_pool_half_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_pool_half_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14))).1 = (fun _ => 1#1)
    ∧ (Cert.Pre_pool_half_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14))).2.1 = (fun _ => 1#1)
    ∧ (Cert.Pre_pool_half_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14))).2.2.1 = (fun _ => 1#1)
    ∧ (Cert.Pre_pool_half_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14))).2.2.2.1 = (fun _ => 1#1)
    ∧ (Cert.Pre_pool_half_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14))).2.2.2.2.1 = (fun _ => 1#1)
    ∧ (Cert.Pre_pool_half_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14))).2.2.2.2.2.1 = (fun _ => 1#1)
    ∧ (Cert.Pre_pool_half_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14))).2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_pool_half_finite [hPre_pool_half_finite : Cert.Pre_pool_half_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_pool_half_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14))).1 = (fun _ => 1#1)
    ∧ (Cert.Pre_pool_half_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14))).2.1 = (fun _ => 1#1)
    ∧ (Cert.Pre_pool_half_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14))).2.2.1 = (fun _ => 1#1)
    ∧ (Cert.Pre_pool_half_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14))).2.2.2.1 = (fun _ => 1#1)
    ∧ (Cert.Pre_pool_half_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14))).2.2.2.2.1 = (fun _ => 1#1)
    ∧ (Cert.Pre_pool_half_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14))).2.2.2.2.2.1 = (fun _ => 1#1)
    ∧ (Cert.Pre_pool_half_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14))).2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Reference14 (m : (ℓ : Loc Cert.Reference14.nD Cert.Reference14.τ Cert.Reference14.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gate_finite [hKernelIdeal : Cert.KernelIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gate_finite [hReferenceIdeal : Cert.ReferenceIdeal.Facts] [hPre_gate_finite : Cert.Pre_gate_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_bwd_down_finite [hKernel2Ideal : Cert.Kernel2Ideal.Facts] [hPre_bwd_down_finite : Cert.Pre_bwd_down_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_bwd_down_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_bwd_down_finite [hReference2Ideal : Cert.Reference2Ideal.Facts] [hPre_bwd_down_finite : Cert.Pre_bwd_down_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_bwd_down_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_inproj_bwd_finite [hKernel3Ideal : Cert.Kernel3Ideal.Facts] [hPre_inproj_bwd_finite : Cert.Pre_inproj_bwd_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_inproj_bwd_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_inproj_bwd_finite [hReference3Ideal : Cert.Reference3Ideal.Facts] [hPre_inproj_bwd_finite : Cert.Pre_inproj_bwd_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_inproj_bwd_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_loss_head_finite [hKernel4Ideal : Cert.Kernel4Ideal.Facts] [hPre_loss_head_finite : Cert.Pre_loss_head_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_loss_head_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_loss_head_finite [hReference4Ideal : Cert.Reference4Ideal.Facts] [hPre_loss_head_finite : Cert.Pre_loss_head_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_loss_head_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

def quiescent_Kernel5Ideal_pre_pool_half_finite [hKernel5Ideal : Cert.Kernel5Ideal.Facts] [hPre_pool_half_finite : Cert.Pre_pool_half_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_pool_half_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14))
      ∧ r.2.sem = fun _ => 0)

def quiescent_Reference5Ideal_pre_pool_half_finite [hReference5Ideal : Cert.Reference5Ideal.Facts] [hPre_pool_half_finite : Cert.Pre_pool_half_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_pool_half_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Reference14 [hReference14 : Cert.Reference14.Facts] : Prop :=
  ∀ (m : (ℓ : Loc Cert.Reference14.nD Cert.Reference14.τ Cert.Reference14.sig) → Buf (Elt Bits) ℓ) (g : Dev Cert.Reference14.nD → PrngReg), Pre_Reference14 m →
    θ_run (Cert.Reference14.defs (F := Bits)) (onTc (τ := Cert.Reference14.τ) (Cert.Reference14.main (F := Bits))) ⟨m, fun _ => 0, g⟩ (fun r => (∀ c : Dev Cert.Reference14.nD,
      r.2.mem ((c.tc : Thread Cert.Reference14.nD Cert.Reference14.τ).loc Cert.Reference14.main_arg0) = m ((c.tc : Thread Cert.Reference14.nD Cert.Reference14.τ).loc Cert.Reference14.main_arg0))
      ∧ r.2.sem = fun _ => 0)

def preserves_Kernel_KernelIdeal : Prop :=
  True

def algebraic_KernelIdeal_ReferenceIdeal_pre_gate_finite [hKernelIdeal : Cert.KernelIdeal.Facts] [hReferenceIdeal : Cert.ReferenceIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_bwd_down_finite [hKernel2Ideal : Cert.Kernel2Ideal.Facts] [hReference2Ideal : Cert.Reference2Ideal.Facts] [hPre_bwd_down_finite : Cert.Pre_bwd_down_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_bwd_down_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v16) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_inproj_bwd_finite [hKernel3Ideal : Cert.Kernel3Ideal.Facts] [hReference3Ideal : Cert.Reference3Ideal.Facts] [hPre_inproj_bwd_finite : Cert.Pre_inproj_bwd_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_inproj_bwd_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v5)) (v2 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v5) = v1 c
          ∧ r.2.mem ((c.tc : Thread Cert.Kernel3Ideal.nD Cert.Kernel3Ideal.τ).loc Cert.Kernel3Ideal.main_v7) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_loss_head_finite [hKernel4Ideal : Cert.Kernel4Ideal.Facts] [hReference4Ideal : Cert.Reference4Ideal.Facts] [hPre_loss_head_finite : Cert.Pre_loss_head_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_loss_head_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7)) (v1 : (c : Dev Cert.Kernel4Ideal.nD) → Buf (Elt Ideal) ((c.tc : Thread Cert.Kernel4Ideal.nD Cert.Kernel4Ideal.τ).loc Cert.Kernel4Ideal.main_v5_0)) (v2 : (c : Dev Cert.Kernel4Ideal.nD) → Buf (Elt Ideal) ((c.tc : Thread Cert.Kernel4Ideal.nD Cert.Kernel4Ideal.τ).loc Cert.Kernel4Ideal.main_v8)) (v3 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_v5_0) = v1 c
          ∧ r.2.mem ((c.tc : Thread Cert.Kernel4Ideal.nD Cert.Kernel4Ideal.τ).loc Cert.Kernel4Ideal.main_v8) = v2 c
          ∧ r.2.mem ((c.tc : Thread Cert.Kernel4Ideal.nD Cert.Kernel4Ideal.τ).loc Cert.Kernel4Ideal.main_v10) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_v54) = v2 c
          ∧ r.2.mem ((c.tc : Thread Cert.Reference4Ideal.nD Cert.Reference4Ideal.τ).loc Cert.Reference4Ideal.main_v55) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_pool_half_finite [hKernel5Ideal : Cert.Kernel5Ideal.Facts] [hReference5Ideal : Cert.Reference5Ideal.Facts] [hPre_pool_half_finite : Cert.Pre_pool_half_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_pool_half_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)) →
    ∃ (v0 : (c : Dev Cert.Kernel5Ideal.nD) → Buf (Elt Ideal) ((c.tc : Thread Cert.Kernel5Ideal.nD Cert.Kernel5Ideal.τ).loc Cert.Kernel5Ideal.main_v594)) (v1 : (c : Dev Cert.Kernel5Ideal.nD) → Buf (Elt Ideal) ((c.tc : Thread Cert.Kernel5Ideal.nD Cert.Kernel5Ideal.τ).loc Cert.Kernel5Ideal.main_v595)) (v2 : (c : Dev Cert.Kernel5Ideal.nD) → Buf (Elt Ideal) ((c.tc : Thread Cert.Kernel5Ideal.nD Cert.Kernel5Ideal.τ).loc Cert.Kernel5Ideal.main_v596)) (v3 : (c : Dev Cert.Kernel5Ideal.nD) → Buf (Elt Ideal) ((c.tc : Thread Cert.Kernel5Ideal.nD Cert.Kernel5Ideal.τ).loc Cert.Kernel5Ideal.main_v597)) (v4 : (c : Dev Cert.Kernel5Ideal.nD) → Buf (Elt Ideal) ((c.tc : Thread Cert.Kernel5Ideal.nD Cert.Kernel5Ideal.τ).loc Cert.Kernel5Ideal.main_v598)) (v5 : (c : Dev Cert.Kernel5Ideal.nD) → Buf (Elt Ideal) ((c.tc : Thread Cert.Kernel5Ideal.nD Cert.Kernel5Ideal.τ).loc Cert.Kernel5Ideal.main_v599)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v594) = v0 c
          ∧ r.2.mem ((c.tc : Thread Cert.Kernel5Ideal.nD Cert.Kernel5Ideal.τ).loc Cert.Kernel5Ideal.main_v595) = v1 c
          ∧ r.2.mem ((c.tc : Thread Cert.Kernel5Ideal.nD Cert.Kernel5Ideal.τ).loc Cert.Kernel5Ideal.main_v596) = v2 c
          ∧ r.2.mem ((c.tc : Thread Cert.Kernel5Ideal.nD Cert.Kernel5Ideal.τ).loc Cert.Kernel5Ideal.main_v597) = v3 c
          ∧ r.2.mem ((c.tc : Thread Cert.Kernel5Ideal.nD Cert.Kernel5Ideal.τ).loc Cert.Kernel5Ideal.main_v598) = v4 c
          ∧ r.2.mem ((c.tc : Thread Cert.Kernel5Ideal.nD Cert.Kernel5Ideal.τ).loc Cert.Kernel5Ideal.main_v599) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v127) = v0 c
          ∧ r.2.mem ((c.tc : Thread Cert.Reference5Ideal.nD Cert.Reference5Ideal.τ).loc Cert.Reference5Ideal.main_v130) = v1 c
          ∧ r.2.mem ((c.tc : Thread Cert.Reference5Ideal.nD Cert.Reference5Ideal.τ).loc Cert.Reference5Ideal.main_v129) = v2 c
          ∧ r.2.mem ((c.tc : Thread Cert.Reference5Ideal.nD Cert.Reference5Ideal.τ).loc Cert.Reference5Ideal.main_v128) = v3 c
          ∧ r.2.mem ((c.tc : Thread Cert.Reference5Ideal.nD Cert.Reference5Ideal.τ).loc Cert.Reference5Ideal.main_v89) = v4 c
          ∧ r.2.mem ((c.tc : Thread Cert.Reference5Ideal.nD Cert.Reference5Ideal.τ).loc Cert.Reference5Ideal.main_v67) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v9)) (v1 : (c : Dev Cert.Kernel6Ideal.nD) → Buf (Elt Ideal) ((c.tc : Thread Cert.Kernel6Ideal.nD Cert.Kernel6Ideal.τ).loc Cert.Kernel6Ideal.main_v12)) (v2 : (c : Dev Cert.Kernel6Ideal.nD) → Buf (Elt Ideal) ((c.tc : Thread Cert.Kernel6Ideal.nD Cert.Kernel6Ideal.τ).loc Cert.Kernel6Ideal.main_v15)) (v3 : (c : Dev Cert.Kernel6Ideal.nD) → Buf (Elt Ideal) ((c.tc : Thread Cert.Kernel6Ideal.nD Cert.Kernel6Ideal.τ).loc Cert.Kernel6Ideal.main_v18)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_v12) = v1 c
          ∧ r.2.mem ((c.tc : Thread Cert.Kernel6Ideal.nD Cert.Kernel6Ideal.τ).loc Cert.Kernel6Ideal.main_v15) = v2 c
          ∧ r.2.mem ((c.tc : Thread Cert.Kernel6Ideal.nD Cert.Kernel6Ideal.τ).loc Cert.Kernel6Ideal.main_v18) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_v17) = v2 c
          ∧ r.2.mem ((c.tc : Thread Cert.Reference6Ideal.nD Cert.Reference6Ideal.τ).loc Cert.Reference6Ideal.main_v19) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)) →
    ∃ (v0 : (c : Dev Cert.Kernel8Ideal.nD) → Buf (Elt Ideal) ((c.tc : Thread Cert.Kernel8Ideal.nD Cert.Kernel8Ideal.τ).loc Cert.Kernel8Ideal.main_v19)) (v1 : (c : Dev Cert.Kernel8Ideal.nD) → Buf (Elt Ideal) ((c.tc : Thread Cert.Kernel8Ideal.nD Cert.Kernel8Ideal.τ).loc Cert.Kernel8Ideal.main_v20)) (v2 : (c : Dev Cert.Kernel8Ideal.nD) → Buf (Elt Ideal) ((c.tc : Thread Cert.Kernel8Ideal.nD Cert.Kernel8Ideal.τ).loc Cert.Kernel8Ideal.main_v21)) (v3 : (c : Dev Cert.Kernel8Ideal.nD) → Buf (Elt Ideal) ((c.tc : Thread Cert.Kernel8Ideal.nD Cert.Kernel8Ideal.τ).loc Cert.Kernel8Ideal.main_v22)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v19) = v0 c
          ∧ r.2.mem ((c.tc : Thread Cert.Kernel8Ideal.nD Cert.Kernel8Ideal.τ).loc Cert.Kernel8Ideal.main_v20) = v1 c
          ∧ r.2.mem ((c.tc : Thread Cert.Kernel8Ideal.nD Cert.Kernel8Ideal.τ).loc Cert.Kernel8Ideal.main_v21) = v2 c
          ∧ r.2.mem ((c.tc : Thread Cert.Kernel8Ideal.nD Cert.Kernel8Ideal.τ).loc Cert.Kernel8Ideal.main_v22) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_v48) = v1 c
          ∧ r.2.mem ((c.tc : Thread Cert.Reference8Ideal.nD Cert.Reference8Ideal.τ).loc Cert.Reference8Ideal.main_v62) = v2 c
          ∧ r.2.mem ((c.tc : Thread Cert.Reference8Ideal.nD Cert.Reference8Ideal.τ).loc Cert.Reference8Ideal.main_v76) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v13)) (v1 : (c : Dev Cert.Kernel9Ideal.nD) → Buf (Elt Ideal) ((c.tc : Thread Cert.Kernel9Ideal.nD Cert.Kernel9Ideal.τ).loc Cert.Kernel9Ideal.main_v15)) (v2 : (c : Dev Cert.Kernel9Ideal.nD) → Buf (Elt Ideal) ((c.tc : Thread Cert.Kernel9Ideal.nD Cert.Kernel9Ideal.τ).loc Cert.Kernel9Ideal.main_v16)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v13) = v0 c
          ∧ r.2.mem ((c.tc : Thread Cert.Kernel9Ideal.nD Cert.Kernel9Ideal.τ).loc Cert.Kernel9Ideal.main_v15) = v1 c
          ∧ r.2.mem ((c.tc : Thread Cert.Kernel9Ideal.nD Cert.Kernel9Ideal.τ).loc Cert.Kernel9Ideal.main_v16) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_v13) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v6) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v1) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v17) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m ((c.tc : Thread Cert.Kernel14Ideal.nD Cert.Kernel14Ideal.τ).loc Cert.Kernel14Ideal.main_arg0) = Layout.blockN ⟨2, ![352, 1024]⟩ ⟨2, ![704, 1024]⟩ (Layout.meshBlock [1, 1, 2] ![[2], []] c) (m' (((0 : Dev Cert.Reference14Ideal.nD).tc : Thread Cert.Reference14Ideal.nD Cert.Reference14Ideal.τ).loc Cert.Reference14Ideal.main_arg0))) →
    ∃ (v0 : Buf (Elt Ideal) (((0 : Dev Cert.Reference14Ideal.nD).tc : Thread Cert.Reference14Ideal.nD Cert.Reference14Ideal.τ).loc Cert.Reference14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = Layout.blockN ⟨2, ![352, 1024]⟩ ⟨2, ![704, 1024]⟩ (Layout.meshBlock [1, 1, 2] ![[2], []] c) v0
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r =>
          r.2.mem (((0 : Dev Cert.Reference14Ideal.nD).tc : Thread Cert.Reference14Ideal.nD Cert.Reference14Ideal.τ).loc Cert.Reference14Ideal.main_v2) = v0
          ∧ r.2.mem (((0 : Dev Cert.Reference14Ideal.nD).tc : Thread Cert.Reference14Ideal.nD Cert.Reference14Ideal.τ).loc Cert.Reference14Ideal.main_arg0) = m' (((0 : Dev Cert.Reference14Ideal.nD).tc : Thread Cert.Reference14Ideal.nD Cert.Reference14Ideal.τ).loc Cert.Reference14Ideal.main_arg0))

def bitexact_Kernel14_Reference14 [hKernel14 : Cert.Kernel14.Facts] [hReference14 : Cert.Reference14.Facts] : Prop :=
  ∀ (m : (ℓ : Loc Cert.Kernel14.nD Cert.Kernel14.τ Cert.Kernel14.sig) → Buf (Elt Bits) ℓ) (g : Dev Cert.Kernel14.nD → PrngReg)
    (m' : (ℓ : Loc Cert.Reference14.nD Cert.Reference14.τ Cert.Reference14.sig) → Buf (Elt Bits) ℓ) (g' : Dev Cert.Reference14.nD → PrngReg), Pre_Kernel14 m →
    (∀ c : Dev Cert.Kernel14.nD,
      m ((c.tc : Thread Cert.Kernel14.nD Cert.Kernel14.τ).loc Cert.Kernel14.main_arg0) = Layout.blockN ⟨2, ![352, 1024]⟩ ⟨2, ![704, 1024]⟩ (Layout.meshBlock [1, 1, 2] ![[2], []] c) (m' (((0 : Dev Cert.Reference14.nD).tc : Thread Cert.Reference14.nD Cert.Reference14.τ).loc Cert.Reference14.main_arg0))) →
    ∃ (v0 : Buf (Elt Bits) (((0 : Dev Cert.Reference14.nD).tc : Thread Cert.Reference14.nD Cert.Reference14.τ).loc Cert.Reference14.main_v2)),
      θ_run (Cert.Kernel14.defs (F := Bits)) (onTc (τ := Cert.Kernel14.τ) (Cert.Kernel14.main (F := Bits))) ⟨m, fun _ => 0, g⟩ (fun r => ∀ c : Dev Cert.Kernel14.nD,
          r.2.mem ((c.tc : Thread Cert.Kernel14.nD Cert.Kernel14.τ).loc Cert.Kernel14.main_v1) = Layout.blockN ⟨2, ![352, 1024]⟩ ⟨2, ![704, 1024]⟩ (Layout.meshBlock [1, 1, 2] ![[2], []] c) v0
          ∧ r.2.mem ((c.tc : Thread Cert.Kernel14.nD Cert.Kernel14.τ).loc Cert.Kernel14.main_arg0) = m ((c.tc : Thread Cert.Kernel14.nD Cert.Kernel14.τ).loc Cert.Kernel14.main_arg0))
      ∧ θ_run (Cert.Reference14.defs (F := Bits)) (onTc (τ := Cert.Reference14.τ) (Cert.Reference14.main (F := Bits))) ⟨m', fun _ => 0, g'⟩ (fun r =>
          r.2.mem (((0 : Dev Cert.Reference14.nD).tc : Thread Cert.Reference14.nD Cert.Reference14.τ).loc Cert.Reference14.main_v2) = v0
          ∧ r.2.mem (((0 : Dev Cert.Reference14.nD).tc : Thread Cert.Reference14.nD Cert.Reference14.τ).loc Cert.Reference14.main_arg0) = m' (((0 : Dev Cert.Reference14.nD).tc : Thread Cert.Reference14.nD Cert.Reference14.τ).loc Cert.Reference14.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hReference14 : Cert.Reference14.Facts) (hPre_gate_finite : Cert.Pre_gate_finite.Facts) (hPre_bwd_down_finite : Cert.Pre_bwd_down_finite.Facts) (hPre_inproj_bwd_finite : Cert.Pre_inproj_bwd_finite.Facts) (hPre_loss_head_finite : Cert.Pre_loss_head_finite.Facts) (hPre_pool_half_finite : Cert.Pre_pool_half_finite.Facts),
    quiescent_Kernel (hKernel := hKernel)
    ∧ quiescent_KernelIdeal (hKernelIdeal := hKernelIdeal)
    ∧ quiescent_KernelIdeal_pre_gate_finite (hKernelIdeal := hKernelIdeal) (hPre_gate_finite := hPre_gate_finite)
    ∧ quiescent_ReferenceIdeal (hReferenceIdeal := hReferenceIdeal)
    ∧ quiescent_ReferenceIdeal_pre_gate_finite (hReferenceIdeal := hReferenceIdeal) (hPre_gate_finite := hPre_gate_finite)
    ∧ quiescent_Kernel2 (hKernel2 := hKernel2)
    ∧ quiescent_Kernel2Ideal (hKernel2Ideal := hKernel2Ideal)
    ∧ quiescent_Kernel2Ideal_pre_bwd_down_finite (hKernel2Ideal := hKernel2Ideal) (hPre_bwd_down_finite := hPre_bwd_down_finite)
    ∧ quiescent_Reference2Ideal (hReference2Ideal := hReference2Ideal)
    ∧ quiescent_Reference2Ideal_pre_bwd_down_finite (hReference2Ideal := hReference2Ideal) (hPre_bwd_down_finite := hPre_bwd_down_finite)
    ∧ quiescent_Kernel3 (hKernel3 := hKernel3)
    ∧ quiescent_Kernel3Ideal (hKernel3Ideal := hKernel3Ideal)
    ∧ quiescent_Kernel3Ideal_pre_inproj_bwd_finite (hKernel3Ideal := hKernel3Ideal) (hPre_inproj_bwd_finite := hPre_inproj_bwd_finite)
    ∧ quiescent_Reference3Ideal (hReference3Ideal := hReference3Ideal)
    ∧ quiescent_Reference3Ideal_pre_inproj_bwd_finite (hReference3Ideal := hReference3Ideal) (hPre_inproj_bwd_finite := hPre_inproj_bwd_finite)
    ∧ quiescent_Kernel4 (hKernel4 := hKernel4)
    ∧ quiescent_Kernel4Ideal (hKernel4Ideal := hKernel4Ideal)
    ∧ quiescent_Kernel4Ideal_pre_loss_head_finite (hKernel4Ideal := hKernel4Ideal) (hPre_loss_head_finite := hPre_loss_head_finite)
    ∧ quiescent_Reference4Ideal (hReference4Ideal := hReference4Ideal)
    ∧ quiescent_Reference4Ideal_pre_loss_head_finite (hReference4Ideal := hReference4Ideal) (hPre_loss_head_finite := hPre_loss_head_finite)
    ∧ quiescent_Kernel5 (hKernel5 := hKernel5)
    ∧ quiescent_Kernel5Ideal (hKernel5Ideal := hKernel5Ideal)
    ∧ quiescent_Kernel5Ideal_pre_pool_half_finite (hKernel5Ideal := hKernel5Ideal) (hPre_pool_half_finite := hPre_pool_half_finite)
    ∧ quiescent_Reference5Ideal (hReference5Ideal := hReference5Ideal)
    ∧ quiescent_Reference5Ideal_pre_pool_half_finite (hReference5Ideal := hReference5Ideal) (hPre_pool_half_finite := hPre_pool_half_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Reference14 (hReference14 := hReference14)
    ∧ preserves_Kernel_KernelIdeal
    ∧ algebraic_KernelIdeal_ReferenceIdeal_pre_gate_finite (hKernelIdeal := hKernelIdeal) (hReferenceIdeal := hReferenceIdeal) (hPre_gate_finite := hPre_gate_finite)
    ∧ preserves_Kernel2_Kernel2Ideal
    ∧ algebraic_Kernel2Ideal_Reference2Ideal_pre_bwd_down_finite (hKernel2Ideal := hKernel2Ideal) (hReference2Ideal := hReference2Ideal) (hPre_bwd_down_finite := hPre_bwd_down_finite)
    ∧ preserves_Kernel3_Kernel3Ideal
    ∧ algebraic_Kernel3Ideal_Reference3Ideal_pre_inproj_bwd_finite (hKernel3Ideal := hKernel3Ideal) (hReference3Ideal := hReference3Ideal) (hPre_inproj_bwd_finite := hPre_inproj_bwd_finite)
    ∧ preserves_Kernel4_Kernel4Ideal
    ∧ algebraic_Kernel4Ideal_Reference4Ideal_pre_loss_head_finite (hKernel4Ideal := hKernel4Ideal) (hReference4Ideal := hReference4Ideal) (hPre_loss_head_finite := hPre_loss_head_finite)
    ∧ preserves_Kernel5_Kernel5Ideal
    ∧ algebraic_Kernel5Ideal_Reference5Ideal_pre_pool_half_finite (hKernel5Ideal := hKernel5Ideal) (hReference5Ideal := hReference5Ideal) (hPre_pool_half_finite := hPre_pool_half_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ bitexact_Kernel14_Reference14 (hKernel14 := hKernel14) (hReference14 := hReference14)
-- ==== Pre_bwd_down_finite.lean ====
abbrev S8192x1024 : Shape := ⟨2, ![8192, 1024]⟩
abbrev S1x1024 : Shape := ⟨2, ![1, 1024]⟩
abbrev S1x1024x2816 : Shape := ⟨3, ![1, 1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S8192x2816 : S_.BroadcastsInDim S8192x2816 (![] : Fin 0 → Fin S8192x2816.rank)

variable [Facts]

def fn_part1 {F : FTy → Type} [FloatOps F] (main_arg6 : FVec F S8192x1024 .f32) (main_v2 : IVec S8192x1024 1) (main_v5 : IVec S1x1024 1) (main_v8 : IVec S1x1024x2816 1) (main_v11 : IVec S1x1024x2816 1) (main_v14 : IVec S8192x2816 1) (main_v17 : IVec S8192x2816 1) : IVec S8192x1024 1 × IVec S1x1024 1 × IVec S1x1024x2816 1 × IVec S1x1024x2816 1 × IVec S8192x2816 1 × IVec S8192x2816 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x1024 .f32) (main_arg1 : FVec F S1x1024 .f32) (main_arg2 : FVec F S1x1024x2816 .f32) (main_arg3 : FVec F S1x1024x2816 .f32) (main_arg4 : FVec F S8192x2816 .f32) (main_arg5 : FVec F S8192x2816 .f32) (main_arg6 : FVec F S8192x1024 .f32) : IVec S8192x1024 1 × IVec S1x1024 1 × IVec S1x1024x2816 1 × IVec S1x1024x2816 1 × IVec S8192x2816 1 × IVec S8192x2816 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2816 .f32 := Host.absf main_arg2
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x1024x2816 .f32 := Host.absf main_arg3
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_v12 : FVec F S8192x2816 .f32 := Host.absf main_arg4
  let main_cst_3 : FVec F S_ .f32 := constant S_ .f32 0x7F800000#32
  let main_v13 : FVec F S8192x2816 .f32 := broadcastInDim S8192x2816 ![] bcast_S_S8192x2816 main_cst_3
  let main_v14 : IVec S8192x2816 1 := cmpf .olt main_v12 main_v13
  let main_v15 : FVec F S8192x2816 .f32 := Host.absf main_arg5
  let main_cst_4 : FVec F S_ .f32 := constant S_ .f32 0x7F800000#32
  let main_v16 : FVec F S8192x2816 .f32 := broadcastInDim S8192x2816 ![] bcast_S_S8192x2816 main_cst_4
  let main_v17 : IVec S8192x2816 1 := cmpf .olt main_v15 main_v16
  fn_part1 (F := F) main_arg6 main_v2 main_v5 main_v8 main_v11 main_v14 main_v17
-- ==== Pre_gate_finite.lean ====
abbrev S8192x2816 : Shape := ⟨2, ![8192, 2816]⟩
abbrev S1x2816x1024 : Shape := ⟨3, ![1, 2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  bcast_S_S1x2816x1024 : S_.BroadcastsInDim S1x2816x1024 (![] : Fin 0 → Fin S1x2816x1024.rank)
  bcast_S_S8192x1024 : S_.BroadcastsInDim S8192x1024 (![] : Fin 0 → Fin S8192x1024.rank)

variable [Facts]

def fn {F : FTy → Type} [FloatOps F] (main_arg0 : FVec F S8192x2816 .f32) (main_arg1 : FVec F S8192x2816 .f32) (main_arg2 : FVec F S1x2816x1024 .f32) (main_arg3 : FVec F S8192x1024 .f32) : IVec S8192x2816 1 × IVec S8192x2816 1 × IVec S1x2816x1024 1 × IVec S8192x1024 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S8192x2816 .f32 := Host.absf main_arg1
  let main_cst_0 : FVec F S_ .f32 := constant S_ .f32 0x7F800000#32
  let main_v4 : FVec F S8192x2816 .f32 := broadcastInDim S8192x2816 ![] bcast_S_S8192x2816 main_cst_0
  let main_v5 : IVec S8192x2816 1 := cmpf .olt main_v3 main_v4
  let main_v6 : FVec F S1x2816x1024 .f32 := Host.absf main_arg2
  let main_cst_1 : FVec F S_ .f32 := constant S_ .f32 0x7F800000#32
  let main_v7 : FVec F S1x2816x1024 .f32 := broadcastInDim S1x2816x1024 ![] bcast_S_S1x2816x1024 main_cst_1
  let main_v8 : IVec S1x2816x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_inproj_bwd_finite.lean ====
abbrev S8192x1024 : Shape := ⟨2, ![8192, 1024]⟩
abbrev S1x1024 : Shape := ⟨2, ![1, 1024]⟩
abbrev S1x1024x1536 : Shape := ⟨3, ![1, 1024, 1536]⟩
abbrev S8192x1536 : Shape := ⟨2, ![8192, 1536]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x1536 : S_.BroadcastsInDim S1x1024x1536 (![] : Fin 0 → Fin S1x1024x1536.rank)
  bcast_S_S8192x1536 : S_.BroadcastsInDim S8192x1536 (![] : Fin 0 → Fin S8192x1536.rank)

variable [Facts]

def fn {F : FTy → Type} [FloatOps F] (main_arg0 : FVec F S8192x1024 .f32) (main_arg1 : FVec F S1x1024 .f32) (main_arg2 : FVec F S1x1024x1536 .f32) (main_arg3 : FVec F S8192x1536 .f32) (main_arg4 : FVec F S8192x1024 .f32) : IVec S8192x1024 1 × IVec S1x1024 1 × IVec S1x1024x1536 1 × IVec S8192x1536 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x1536 .f32 := Host.absf main_arg2
  let main_cst_1 : FVec F S_ .f32 := constant S_ .f32 0x7F800000#32
  let main_v7 : FVec F S1x1024x1536 .f32 := broadcastInDim S1x1024x1536 ![] bcast_S_S1x1024x1536 main_cst_1
  let main_v8 : IVec S1x1024x1536 1 := cmpf .olt main_v6 main_v7
  let main_v9 : FVec F S8192x1536 .f32 := Host.absf main_arg3
  let main_cst_2 : FVec F S_ .f32 := constant S_ .f32 0x7F800000#32
  let main_v10 : FVec F S8192x1536 .f32 := broadcastInDim S8192x1536 ![] bcast_S_S8192x1536 main_cst_2
  let main_v11 : IVec S8192x1536 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_loss_head_finite.lean ====
abbrev S8192x2816 : Shape := ⟨2, ![8192, 2816]⟩
abbrev S8192x1024 : Shape := ⟨2, ![8192, 1024]⟩
abbrev S1x1024 : Shape := ⟨2, ![1, 1024]⟩
abbrev S1x2816x1024 : Shape := ⟨3, ![1, 2816, 1024]⟩
abbrev S_ : Shape := ⟨0, ![]⟩

class Facts : Prop where
  bcast_S_S8192x2816 : S_.BroadcastsInDim S8192x2816 (![] : Fin 0 → Fin S8192x2816.rank)
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x2816x1024 : S_.BroadcastsInDim S1x2816x1024 (![] : Fin 0 → Fin S1x2816x1024.rank)

variable [Facts]

def fn {F : FTy → Type} [FloatOps F] (main_arg0 : FVec F S8192x2816 .f32) (main_arg1 : FVec F S8192x1024 .f32) (main_arg2 : FVec F S8192x1024 .f32) (main_arg3 : FVec F S1x1024 .f32) (main_arg4 : FVec F S1x2816x1024 .f32) : IVec S8192x2816 1 × IVec S8192x1024 1 × IVec S8192x1024 1 × IVec S1x1024 1 × IVec S1x2816x1024 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x2816x1024 .f32 := Host.absf main_arg4
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  (main_v2, main_v5, main_v8, main_v11, main_v14)
-- ==== Pre_pool_half_finite.lean ====
abbrev S1x8192x1536 : Shape := ⟨3, ![1, 8192, 1536]⟩
abbrev S1x4x512 : Shape := ⟨3, ![1, 4, 512]⟩
abbrev S1x512 : Shape := ⟨2, ![1, 512]⟩
abbrev S1x8x64x64 : Shape := ⟨4, ![1, 8, 64, 64]⟩
abbrev S1x4x128x128 : Shape := ⟨4, ![1, 4, 128, 128]⟩
abbrev S1x1024x1024 : Shape := ⟨3, ![1, 1024, 1024]⟩
abbrev S1x8192x1024 : Shape := ⟨3, ![1, 8192, 1024]⟩
abbrev S1x8192x512 : Shape := ⟨3, ![1, 8192, 512]⟩
abbrev S_ : Shape := ⟨0, ![]⟩

class Facts : Prop where
  slices_S1x8192x1536_S1x8192x512_0_0_1024 : S1x8192x1536.Slices ![0, 0, 1024] S1x8192x512
  bcast_S_S1x8192x512 : S_.BroadcastsInDim S1x8192x512 (![] : Fin 0 → Fin S1x8192x512.rank)
  bcast_S_S1x4x128x128 : S_.BroadcastsInDim S1x4x128x128 (![] : Fin 0 → Fin S1x4x128x128.rank)
  bcast_S_S1x512 : S_.BroadcastsInDim S1x512 (![] : Fin 0 → Fin S1x512.rank)
  bcast_S_S1x1024x1024 : S_.BroadcastsInDim S1x1024x1024 (![] : Fin 0 → Fin S1x1024x1024.rank)
  bcast_S_S1x8192x1024 : S_.BroadcastsInDim S1x8192x1024 (![] : Fin 0 → Fin S1x8192x1024.rank)

variable [Facts]

def fn_part1 {F : FTy → Type} [FloatOps F] (main_arg14 : FVec F S1x8192x1024 .f32) (main_v3 : IVec S1x8192x512 1) (main_v6 : IVec S1x4x128x128 1) (main_v9 : IVec S1x512 1) (main_v12 : IVec S1x512 1) (main_v15 : IVec S1x512 1) (main_v16 : FVec F S1x1024x1024 .f32) (main_v17 : FVec F S1x1024x1024 .f32) : IVec S1x8192x512 1 × IVec S1x4x128x128 1 × IVec S1x512 1 × IVec S1x512 1 × IVec S1x512 1 × IVec S1x1024x1024 1 × IVec S1x8192x1024 1 :=
  let main_v18 : IVec S1x1024x1024 1 := cmpf .olt main_v16 main_v17
  let main_v19 : FVec F S1x8192x1024 .f32 := Host.absf main_arg14
  let main_cst_5 : FVec F S_ .f32 := constant S_ .f32 0x7F800000#32
  let main_v20 : FVec F S1x8192x1024 .f32 := broadcastInDim S1x8192x1024 ![] bcast_S_S1x8192x1024 main_cst_5
  let main_v21 : IVec S1x8192x1024 1 := cmpf .olt main_v19 main_v20
  (main_v3, main_v6, main_v9, main_v12, main_v15, main_v18, main_v21)

def fn {F : FTy → Type} [FloatOps F] (main_arg0 : FVec F S1x8192x1536 .f32) (main_arg1 : FVec F S1x4x512 .f32) (main_arg2 : FVec F S1x512 .f32) (main_arg3 : FVec F S1x8x64x64 .f32) (main_arg4 : FVec F S1x512 .f32) (main_arg5 : FVec F S1x8x64x64 .f32) (main_arg6 : FVec F S1x512 .f32) (main_arg7 : FVec F S1x512 .f32) (main_arg8 : FVec F S1x4x128x128 .f32) (main_arg9 : FVec F S1x512 .f32) (main_arg10 : FVec F S1x512 .f32) (main_arg11 : FVec F S1x512 .f32) (main_arg12 : FVec F S1x512 .f32) (main_arg13 : FVec F S1x1024x1024 .f32) (main_arg14 : FVec F S1x8192x1024 .f32) : IVec S1x8192x512 1 × IVec S1x4x128x128 1 × IVec S1x512 1 × IVec S1x512 1 × IVec S1x512 1 × IVec S1x1024x1024 1 × IVec S1x8192x1024 1 :=
  let main_v0 : FVec F S1x8192x512 .f32 := (extractStridedSlice S1x8192x512 ![0, 0, 1024] · slices_S1x8192x1536_S1x8192x512_0_0_1024) main_arg0
  let main_v1 : FVec F S1x8192x512 .f32 := Host.absf main_v0
  let main_cst : FVec F S_ .f32 := constant S_ .f32 0x7F800000#32
  let main_v2 : FVec F S1x8192x512 .f32 := broadcastInDim S1x8192x512 ![] bcast_S_S1x8192x512 main_cst
  let main_v3 : IVec S1x8192x512 1 := cmpf .olt main_v1 main_v2
  let main_v4 : FVec F S1x4x128x128 .f32 := Host.absf main_arg8
  let main_cst_0 : FVec F S_ .f32 := constant S_ .f32 0x7F800000#32
  let main_v5 : FVec F S1x4x128x128 .f32 := broadcastInDim S1x4x128x128 ![] bcast_S_S1x4x128x128 main_cst_0
  let main_v6 : IVec S1x4x128x128 1 := cmpf .olt main_v4 main_v5
  let main_v7 : FVec F S1x512 .f32 := Host.absf main_arg9
  let main_cst_1 : FVec F S_ .f32 := constant S_ .f32 0x7F800000#32
  let main_v8 : FVec F S1x512 .f32 := broadcastInDim S1x512 ![] bcast_S_S1x512 main_cst_1
  let main_v9 : IVec S1x512 1 := cmpf .olt main_v7 main_v8
  let main_v10 : FVec F S1x512 .f32 := Host.absf main_arg10
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  let main_v13 : FVec F S1x512 .f32 := Host.absf main_arg12
  let main_cst_3 : FVec F S_ .f32 := constant S_ .f32 0x7F800000#32
  let main_v14 : FVec F S1x512 .f32 := broadcastInDim S1x512 ![] bcast_S_S1x512 main_cst_3
  let main_v15 : IVec S1x512 1 := cmpf .olt main_v13 main_v14
  let main_v16 : FVec F S1x1024x1024 .f32 := Host.absf main_arg13
  let main_cst_4 : FVec F S_ .f32 := constant S_ .f32 0x7F800000#32
  let main_v17 : FVec F S1x1024x1024 .f32 := broadcastInDim S1x1024x1024 ![] bcast_S_S1x1024x1024 main_cst_4
  fn_part1 (F := F) main_arg14 main_v3 main_v6 main_v9 main_v12 main_v15 main_v16 main_v17
-- ==== Kernel.lean ====
abbrev S8192x2816 : Shape := ⟨2, ![8192, 2816]⟩
abbrev S1x2816x1024 : Shape := ⟨3, ![1, 2816, 1024]⟩
abbrev S8192x1024 : Shape := ⟨2, ![8192, 1024]⟩
abbrev S2816x1024 : Shape := ⟨2, ![2816, 1024]⟩
abbrev S4x704x1024 : Shape := ⟨3, ![4, 704, 1024]⟩
abbrev S8192x4x704 : Shape := ⟨3, ![8192, 4, 704]⟩
abbrev S4x8192x704 : Shape := ⟨3, ![4, 8192, 704]⟩
abbrev S512x1024 : Shape := ⟨2, ![512, 1024]⟩
abbrev S4x512x704 : Shape := ⟨3, ![4, 512, 704]⟩
abbrev S256x1024 : Shape := ⟨2, ![256, 1024]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 22
  | .vmem => 11
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1x2816x1024, .f32⟩
  | .hbm, ⟨3, _⟩ => ⟨S8192x1024, .f32⟩
  | .hbm, ⟨4, _⟩ => ⟨S2816x1024, .f32⟩
  | .hbm, ⟨5, _⟩ => ⟨S4x704x1024, .f32⟩
  | .hbm, ⟨6, _⟩ => ⟨S4x704x1024, .bf16⟩
  | .hbm, ⟨7, _⟩ => ⟨S8192x1024, .bf16⟩
  | .hbm, ⟨8, _⟩ => ⟨S8192x4x704, .f32⟩
  | .hbm, ⟨9, _⟩ => ⟨S4x8192x704, .f32⟩
  | .hbm, ⟨10, _⟩ => ⟨S4x8192x704, .bf16⟩
  | .hbm, ⟨11, _⟩ => ⟨S8192x4x704, .f32⟩
  | .hbm, ⟨12, _⟩ => ⟨S4x8192x704, .f32⟩
  | .hbm, ⟨13, _⟩ => ⟨S4x8192x704, .bf16⟩
  | .hbm, ⟨14, _⟩ => ⟨S4x8192x704, .bf16⟩
  | .hbm, ⟨15, _⟩ => ⟨S4x8192x704, .bf16⟩
  | .hbm, ⟨16, _⟩ => ⟨S8192x4x704, .bf16⟩
  | .hbm, ⟨17, _⟩ => ⟨S8192x2816, .bf16⟩
  | .hbm, ⟨18, _⟩ => ⟨S8192x2816, .f32⟩
  | .hbm, ⟨19, _⟩ => ⟨S8192x4x704, .bf16⟩
  | .hbm, ⟨20, _⟩ => ⟨S8192x2816, .bf16⟩
  | .hbm, ⟨21, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S4x512x704, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x704x1024, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8192x2816 : Shape := ⟨2, ![8192, 2816]⟩
abbrev S1x2816x1024 : Shape := ⟨3, ![1, 2816, 1024]⟩
abbrev S8192x1024 : Shape := ⟨2, ![8192, 1024]⟩
abbrev S_ : Shape := ⟨0, ![]⟩
abbrev S2816x1024 : Shape := ⟨2, ![2816, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1x2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S2816x1024, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1x1024x2816 : Shape := ⟨3, ![1, 1024, 2816]⟩
abbrev S8192x2816 : Shape := ⟨2, ![8192, 2816]⟩
abbrev S8192x4x704 : Shape := ⟨3, ![8192, 4, 704]⟩
abbrev S4x8192x704 : Shape := ⟨3, ![4, 8192, 704]⟩
abbrev S1024x2816 : Shape := ⟨2, ![1024, 2816]⟩
abbrev S2816x1024 : Shape := ⟨2, ![2816, 1024]⟩
abbrev S4x704x1024 : Shape := ⟨3, ![4, 704, 1024]⟩
abbrev S8x1024 : Shape := ⟨2, ![8, 1024]⟩
abbrev S4x512x704 : Shape := ⟨3, ![4, 512, 704]⟩
abbrev S512x1024 : Shape := ⟨2, ![512, 1024]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256x1024 : Shape := ⟨2, ![256, 1024]⟩
abbrev S256 : Shape := ⟨1, ![256]⟩
abbrev S256x1 : Shape := ⟨2, ![256, 1]⟩
abbrev S32x8x1024 : Shape := ⟨3, ![32, 8, 1024]⟩
abbrev S_ : Shape := ⟨0, ![]⟩
abbrev S1024 : Shape := ⟨1, ![1024]⟩

abbrev nBuf : Space → Nat
  | .hbm => 26
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S8192x2816, .f32⟩
  | .hbm, ⟨5, _⟩ => ⟨S8192x2816, .f32⟩
  | .hbm, ⟨6, _⟩ => ⟨S8192x1024, .f32⟩
  | .hbm, ⟨7, _⟩ => ⟨S8192x4x704, .f32⟩
  | .hbm, ⟨8, _⟩ => ⟨S4x8192x704, .f32⟩
  | .hbm, ⟨9, _⟩ => ⟨S4x8192x704, .bf16⟩
  | .hbm, ⟨10, _⟩ => ⟨S8192x4x704, .f32⟩
  | .hbm, ⟨11, _⟩ => ⟨S4x8192x704, .f32⟩
  | .hbm, ⟨12, _⟩ => ⟨S4x8192x704, .bf16⟩
  | .hbm, ⟨13, _⟩ => ⟨S1024x2816, .f32⟩
  | .hbm, ⟨14, _⟩ => ⟨S2816x1024, .f32⟩
  | .hbm, ⟨15, _⟩ => ⟨S4x704x1024, .f32⟩
  | .hbm, ⟨16, _⟩ => ⟨S4x704x1024, .bf16⟩
  | .hbm, ⟨17, _⟩ => ⟨S1024x2816, .f32⟩
  | .hbm, ⟨18, _⟩ => ⟨S2816x1024, .f32⟩
  | .hbm, ⟨19, _⟩ => ⟨S4x704x1024, .f32⟩
  | .hbm, ⟨20, _⟩ => ⟨S4x704x1024, .bf16⟩
  | .hbm, ⟨21, _⟩ => ⟨S8192x1024, .f32⟩
  | .hbm, ⟨22, _⟩ => ⟨S8x1024, .f32⟩
  | .hbm, ⟨23, _⟩ => ⟨S_, .f32⟩
  | .hbm, ⟨24, _⟩ => ⟨S1024, .f32⟩
  | .hbm, ⟨25, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S4x704x1024, .bf16⟩
  | .local _ .vmem, ⟨10, _⟩ => ⟨S4x704x1024, .bf16⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S8192x1024 : Shape := ⟨2, ![8192, 1024]⟩
abbrev S1x1024 : Shape := ⟨2, ![1, 1024]⟩
abbrev S1x1024x2816 : Shape := ⟨3, ![1, 1024, 2816]⟩
abbrev S8192x2816 : Shape := ⟨2, ![8192, 2816]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S8192x2816, .f32⟩
  | .hbm, ⟨5, _⟩ => ⟨S8192x2816, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1024x2816, .f32⟩
  | .hbm, ⟨29, _⟩ => ⟨S8192x2816, .f32⟩
  | .hbm, ⟨30, _⟩ => ⟨S1024x2816, .f32⟩
  | .hbm, ⟨31, _⟩ => ⟨S8192x2816, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1x1024x1536 : Shape := ⟨3, ![1, 1024, 1536]⟩
abbrev S8192x1536 : Shape := ⟨2, ![8192, 1536]⟩
abbrev S1024x1536 : Shape := ⟨2, ![1024, 1536]⟩
abbrev S4x1024x384 : Shape := ⟨3, ![4, 1024, 384]⟩
abbrev S8x1024 : Shape := ⟨2, ![8, 1024]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩
abbrev S64x8x1024 : Shape := ⟨3, ![64, 8, 1024]⟩
abbrev S1x1024x384 : Shape := ⟨3, ![1, 1024, 384]⟩
abbrev S1024x384 : Shape := ⟨2, ![1024, 384]⟩
abbrev S512x384 : Shape := ⟨2, ![512, 384]⟩
abbrev S_ : Shape := ⟨0, ![]⟩
abbrev S1024 : Shape := ⟨1, ![1024]⟩
abbrev S1024x4x384 : Shape := ⟨3, ![1024, 4, 384]⟩

abbrev nBuf : Space → Nat
  | .hbm => 16
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1536, .f32⟩
  | .hbm, ⟨3, _⟩ => ⟨S8192x1536, .f32⟩
  | .hbm, ⟨4, _⟩ => ⟨S8192x1024, .f32⟩
  | .hbm, ⟨5, _⟩ => ⟨S8192x1536, .bf16⟩
  | .hbm, ⟨6, _⟩ => ⟨S1024x1536, .f32⟩
  | .hbm, ⟨7, _⟩ => ⟨S1024x1536, .bf16⟩
  | .hbm, ⟨8, _⟩ => ⟨S8192x1024, .f32⟩
  | .hbm, ⟨9, _⟩ => ⟨S4x1024x384, .f32⟩
  | .hbm, ⟨10, _⟩ => ⟨S8x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1024x4x384, .f32⟩
  | .hbm, ⟨15, _⟩ => ⟨S1x1024x1536, .f32⟩
  | .local _ .vmem, ⟨0, _⟩ => ⟨S512x1024, .f32⟩
  | .local _ .vmem, ⟨1, _⟩ => ⟨S512x1024, .f32⟩
  | .local _ .vmem, ⟨2, _⟩ => ⟨S512x1536, .bf16⟩
  | .local _ .vmem, ⟨3, _⟩ => ⟨S512x1536, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1536, .bf16⟩
  | .local _ .vmem, ⟨8, _⟩ => ⟨S512x1024, .f32⟩
  | .local _ .vmem, ⟨9, _⟩ => ⟨S512x1024, .f32⟩
  | .local _ .vmem, ⟨10, _⟩ => ⟨S4x1024x384, .f32⟩
  | .local _ .vmem, ⟨11, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S8192x1024 : Shape := ⟨2, ![8192, 1024]⟩
abbrev S1x1024 : Shape := ⟨2, ![1, 1024]⟩
abbrev S1x1024x1536 : Shape := ⟨3, ![1, 1024, 1536]⟩
abbrev S8192x1536 : Shape := ⟨2, ![8192, 1536]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1536 : Shape := ⟨2, ![1024, 1536]⟩
abbrev S1536x1024 : Shape := ⟨2, ![1536, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1536, .f32⟩
  | .hbm, ⟨3, _⟩ => ⟨S8192x1536, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x1536, .f32⟩
  | .hbm, ⟨27, _⟩ => ⟨S8192x1536, .f32⟩
  | .hbm, ⟨28, _⟩ => ⟨S1536x1024, .f32⟩
  | .hbm, ⟨29, _⟩ => ⟨S1024x1536, .f32⟩
  | .hbm, ⟨30, _⟩ => ⟨S8192x1024, .f32⟩
  | .hbm, ⟨31, _⟩ => ⟨S1x1024x1536, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S1x1024 : Shape := ⟨2, ![1, 1024]⟩
abbrev S1x2816x1024 : Shape := ⟨3, ![1, 2816, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S8x128 : Shape := ⟨2, ![8, 128]⟩
abbrev S8x1024 : Shape := ⟨2, ![8, 1024]⟩
abbrev S4x512x704 : Shape := ⟨3, ![4, 512, 704]⟩
abbrev S512x1024 : Shape := ⟨2, ![512, 1024]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S32x8x1024 : Shape := ⟨3, ![32, 8, 1024]⟩
abbrev S_ : Shape := ⟨0, ![]⟩
abbrev S1024 : Shape := ⟨1, ![1024]⟩

abbrev nBuf : Space → Nat
  | .hbm => 20
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x2816x1024, .f32⟩
  | .hbm, ⟨5, _⟩ => ⟨S8192x4x704, .f32⟩
  | .hbm, ⟨6, _⟩ => ⟨S4x8192x704, .f32⟩
  | .hbm, ⟨7, _⟩ => ⟨S4x8192x704, .bf16⟩
  | .hbm, ⟨8, _⟩ => ⟨S4x704x1024, .f32⟩
  | .hbm, ⟨9, _⟩ => ⟨S4x704x1024, .bf16⟩
  | .hbm, ⟨10, _⟩ => ⟨S8192x1024, .f32⟩
  | .hbm, ⟨11, _⟩ => ⟨S8192x1024, .bf16⟩
  | .hbm, ⟨12, _⟩ => ⟨S8x128, .f32⟩
  | .hbm, ⟨13, _⟩ => ⟨S8x1024, .f32⟩
  | .hbm, ⟨14, _⟩ => ⟨S1x1, .f32⟩
  | .hbm, ⟨15, _⟩ => ⟨S_, .f32⟩
  | .hbm, ⟨16, _⟩ => ⟨S8192x1024, .f32⟩
  | .hbm, ⟨17, _⟩ => ⟨S_, .f32⟩
  | .hbm, ⟨18, _⟩ => ⟨S1024, .f32⟩
  | .hbm, ⟨19, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x704x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x128, .f32⟩
  | .local _ .vmem, ⟨13, _⟩ => ⟨S8x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S8192x2816 : Shape := ⟨2, ![8192, 2816]⟩
abbrev S8192x1024 : Shape := ⟨2, ![8192, 1024]⟩
abbrev S1x1024 : Shape := ⟨2, ![1, 1024]⟩
abbrev S1x2816x1024 : Shape := ⟨3, ![1, 2816, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 78
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x2816x1024, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Kernel5.lean ====
abbrev S1x8192x1536 : Shape := ⟨3, ![1, 8192, 1536]⟩
abbrev S1x4x512 : Shape := ⟨3, ![1, 4, 512]⟩
abbrev S1x512 : Shape := ⟨2, ![1, 512]⟩
abbrev S1x8x64x64 : Shape := ⟨4, ![1, 8, 64, 64]⟩
abbrev S1x4x128x128 : Shape := ⟨4, ![1, 4, 128, 128]⟩
abbrev S1x1024x1024 : Shape := ⟨3, ![1, 1024, 1024]⟩
abbrev S1x8192x1024 : Shape := ⟨3, ![1, 8192, 1024]⟩
abbrev S1x8192x512 : Shape := ⟨3, ![1, 8192, 512]⟩
abbrev S4x512 : Shape := ⟨2, ![4, 512]⟩
abbrev S512 : Shape := ⟨1, ![512]⟩
abbrev S_ : Shape := ⟨0, ![]⟩
abbrev S1x3x512 : Shape := ⟨3, ![1, 3, 512]⟩
abbrev S1x8195x512 : Shape := ⟨3, ![1, 8195, 512]⟩
abbrev S1x1x512 : Shape := ⟨3, ![1, 1, 512]⟩
abbrev S1x8192x8x64 : Shape := ⟨4, ![1, 8192, 8, 64]⟩
abbrev S8x64x64 : Shape := ⟨3, ![8, 64, 64]⟩
abbrev S8x64x1x8192 : Shape := ⟨4, ![8, 64, 1, 8192]⟩
abbrev S1x4096x2x512 : Shape := ⟨4, ![1, 4096, 2, 512]⟩
abbrev S1x4096x1x512 : Shape := ⟨4, ![1, 4096, 1, 512]⟩
abbrev S1x4096x512 : Shape := ⟨3, ![1, 4096, 512]⟩
abbrev S1x2048x2x512 : Shape := ⟨4, ![1, 2048, 2, 512]⟩
abbrev S1x2048x1x512 : Shape := ⟨4, ![1, 2048, 1, 512]⟩
abbrev S1x2048x512 : Shape := ⟨3, ![1, 2048, 512]⟩
abbrev S1x1024x2x512 : Shape := ⟨4, ![1, 1024, 2, 512]⟩
abbrev S1x1024x1x512 : Shape := ⟨4, ![1, 1024, 1, 512]⟩
abbrev S1x1024x512 : Shape := ⟨3, ![1, 1024, 512]⟩
abbrev S1x512x2x512 : Shape := ⟨4, ![1, 512, 2, 512]⟩
abbrev S1x512x1x512 : Shape := ⟨4, ![1, 512, 1, 512]⟩
abbrev S1x512x512 : Shape := ⟨3, ![1, 512, 512]⟩
abbrev S1x256x2x512 : Shape := ⟨4, ![1, 256, 2, 512]⟩
abbrev S1x256x1x512 : Shape := ⟨4, ![1, 256, 1, 512]⟩
abbrev S1x256x512 : Shape := ⟨3, ![1, 256, 512]⟩
abbrev S1x128x2x512 : Shape := ⟨4, ![1, 128, 2, 512]⟩
abbrev S1x128x1x512 : Shape := ⟨4, ![1, 128, 1, 512]⟩
abbrev S1x128x512 : Shape := ⟨3, ![1, 128, 512]⟩
abbrev S1x64x2x512 : Shape := ⟨4, ![1, 64, 2, 512]⟩
abbrev S1x64x1x512 : Shape := ⟨4, ![1, 64, 1, 512]⟩
abbrev S1x64x512 : Shape := ⟨3, ![1, 64, 512]⟩
abbrev S1x32x2x512 : Shape := ⟨4, ![1, 32, 2, 512]⟩
abbrev S1x32x1x512 : Shape := ⟨4, ![1, 32, 1, 512]⟩
abbrev S1x32x512 : Shape := ⟨3, ![1, 32, 512]⟩
abbrev S1x16x2x512 : Shape := ⟨4, ![1, 16, 2, 512]⟩
abbrev S1x16x1x512 : Shape := ⟨4, ![1, 16, 1, 512]⟩
abbrev S1x16x512 : Shape := ⟨3, ![1, 16, 512]⟩
abbrev S1x8x2x512 : Shape := ⟨4, ![1, 8, 2, 512]⟩
abbrev S1x8x1x512 : Shape := ⟨4, ![1, 8, 1, 512]⟩
abbrev S1x8x512 : Shape := ⟨3, ![1, 8, 512]⟩
abbrev S1x4x2x512 : Shape := ⟨4, ![1, 4, 2, 512]⟩
abbrev S1x4x1x512 : Shape := ⟨4, ![1, 4, 1, 512]⟩
abbrev S1x2x2x512 : Shape := ⟨4, ![1, 2, 2, 512]⟩
abbrev S1x2x1x512 : Shape := ⟨4, ![1, 2, 1, 512]⟩
abbrev S1x2x512 : Shape := ⟨3, ![1, 2, 512]⟩
abbrev S1x1x2x512 : Shape := ⟨4, ![1, 1, 2, 512]⟩
abbrev S1x1x1x512 : Shape := ⟨4, ![1, 1, 1, 512]⟩
abbrev S1x0x512 : Shape := ⟨3, ![1, 0, 512]⟩
abbrev S1x7x512 : Shape := ⟨3, ![1, 7, 512]⟩
abbrev S1x15x512 : Shape := ⟨3, ![1, 15, 512]⟩
abbrev S1x31x512 : Shape := ⟨3, ![1, 31, 512]⟩
abbrev S1x63x512 : Shape := ⟨3, ![1, 63, 512]⟩
abbrev S1x127x512 : Shape := ⟨3, ![1, 127, 512]⟩
abbrev S1x255x512 : Shape := ⟨3, ![1, 255, 512]⟩
abbrev S1x511x512 : Shape := ⟨3, ![1, 511, 512]⟩
abbrev S1x1023x512 : Shape := ⟨3, ![1, 1023, 512]⟩
abbrev S1x2047x512 : Shape := ⟨3, ![1, 2047, 512]⟩
abbrev S1x4095x512 : Shape := ⟨3, ![1, 4095, 512]⟩
abbrev S8192x512 : Shape := ⟨2, ![8192, 512]⟩
abbrev S16x512 : Shape := ⟨2, ![16, 512]⟩
abbrev S8208x512 : Shape := ⟨2, ![8208, 512]⟩
abbrev S8192x128 : Shape := ⟨2, ![8192, 128]⟩
abbrev S8192x4x128 : Shape := ⟨3, ![8192, 4, 128]⟩
abbrev S8192 : Shape := ⟨1, ![8192]⟩
abbrev S8192x1 : Shape := ⟨2, ![8192, 1]⟩
abbrev S8192x4 : Shape := ⟨2, ![8192, 4]⟩
abbrev S8192x4x1 : Shape := ⟨3, ![8192, 4, 1]⟩
abbrev S4x8192x512 : Shape := ⟨3, ![4, 8192, 512]⟩
abbrev S4x128x128 : Shape := ⟨3, ![4, 128, 128]⟩
abbrev S8192x1536 : Shape := ⟨2, ![8192, 1536]⟩
abbrev S8192x1024 : Shape := ⟨2, ![8192, 1024]⟩
abbrev S1024x1024 : Shape := ⟨2, ![1024, 1024]⟩
abbrev S272x512 : Shape := ⟨2, ![272, 512]⟩
abbrev S512x512 : Shape := ⟨2, ![512, 512]⟩
abbrev S4x512x512 : Shape := ⟨3, ![4, 512, 512]⟩
abbrev S8x512 : Shape := ⟨2, ![8, 512]⟩
abbrev S512x1024 : Shape := ⟨2, ![512, 1024]⟩
abbrev S512x1536 : Shape := ⟨2, ![512, 1536]⟩
abbrev S2x256x512 : Shape := ⟨3, ![2, 256, 512]⟩
abbrev S128x512 : Shape := ⟨2, ![128, 512]⟩
abbrev S32x512 : Shape := ⟨2, ![32, 512]⟩
abbrev S64x64 : Shape := ⟨2, ![64, 64]⟩
abbrev S1x64x64 : Shape := ⟨3, ![1, 64, 64]⟩
abbrev S64x256 : Shape := ⟨2, ![64, 256]⟩
abbrev S1x64x256 : Shape := ⟨3, ![1, 64, 256]⟩
abbrev S16x128 : Shape := ⟨2, ![16, 128]⟩
abbrev S1x512x128 : Shape := ⟨3, ![1, 512, 128]⟩
abbrev S512x128 : Shape := ⟨2, ![512, 128]⟩
abbrev S1x128x128 : Shape := ⟨3, ![1, 128, 128]⟩
abbrev S128x128 : Shape := ⟨2, ![128, 128]⟩
abbrev S512x1 : Shape := ⟨2, ![512, 1]⟩
abbrev S64x8x512 : Shape := ⟨3, ![64, 8, 512]⟩
abbrev S496x128 : Shape := ⟨2, ![496, 128]⟩
abbrev S528x128 : Shape := ⟨2, ![528, 128]⟩
abbrev S520x512 : Shape := ⟨2, ![520, 512]⟩
abbrev S512x256 : Shape := ⟨2, ![512, 256]⟩
abbrev S256x512 : Shape := ⟨2, ![256, 512]⟩
abbrev S1x512x256 : Shape := ⟨3, ![1, 512, 256]⟩
abbrev S128x4x128 : Shape := ⟨3, ![128, 4, 128]⟩

abbrev nBuf : Space → Nat
  | .hbm => 657
  | .vmem => 40
  | .smem => 0
  | _ => 0

abbrev hbmTy0_0 (i : Nat) : BufTy := match i % 128 with
  | 0 => ⟨S1x8192x1536, .f32⟩
  | 1 => ⟨S1x4x512, .f32⟩
  | 2 => ⟨S1x512, .f32⟩
  | 3 => ⟨S1x8x64x64, .f32⟩
  | 4 => ⟨S1x512, .f32⟩
  | 5 => ⟨S1x8x64x64, .f32⟩
  | 6 => ⟨S1x512, .f32⟩
  | 7 => ⟨S1x512, .f32⟩
  | 8 => ⟨S1x4x128x128, .f32⟩
  | 9 => ⟨S1x512, .f32⟩
  | 10 => ⟨S1x512, .f32⟩
  | 11 => ⟨S1x512, .f32⟩
  | 12 => ⟨S1x512, .f32⟩
  | 13 => ⟨S1x1024x1024, .f32⟩
  | 14 => ⟨S1x8192x1024, .f32⟩
  | 15 => ⟨S1x8192x512, .f32⟩
  | 16 => ⟨S4x512, .f32⟩
  | 17 => ⟨S512, .f32⟩
  | 18 => ⟨S_, .f32⟩
  | 19 => ⟨S1x3x512, .f32⟩
  | 20 => ⟨S1x8195x512, .f32⟩
  | 21 => ⟨S1x8192x512, .f32⟩
  | 22 => ⟨S1x512, .f32⟩
  | 23 => ⟨S512, .f32⟩
  | 24 => ⟨S1x1x512, .f32⟩
  | 25 => ⟨S1x8192x512, .f32⟩
  | 26 => ⟨S1x8192x512, .f32⟩
  | 27 => ⟨S1x1x512, .f32⟩
  | 28 => ⟨S1x8192x512, .f32⟩
  | 29 => ⟨S1x8192x512, .f32⟩
  | 30 => ⟨S1x8192x512, .f32⟩
  | 31 => ⟨S1x512, .f32⟩
  | 32 => ⟨S512, .f32⟩
  | 33 => ⟨S1x1x512, .f32⟩
  | 34 => ⟨S1x8192x512, .f32⟩
  | 35 => ⟨S1x8192x512, .f32⟩
  | 36 => ⟨S1x8192x512, .f32⟩
  | 37 => ⟨S1x8192x512, .f32⟩
  | 38 => ⟨S1x512, .f32⟩
  | 39 => ⟨S512, .f32⟩
  | 40 => ⟨S1x1x512, .f32⟩
  | 41 => ⟨S1x8192x512, .f32⟩
  | 42 => ⟨S1x8192x512, .f32⟩
  | 43 => ⟨S1x8192x512, .f32⟩
  | 44 => ⟨S1x8192x512, .f32⟩
  | 45 => ⟨S1x512, .f32⟩
  | 46 => ⟨S512, .f32⟩
  | 47 => ⟨S1x1x512, .f32⟩
  | 48 => ⟨S1x8192x512, .f32⟩
  | 49 => ⟨S1x8192x512, .f32⟩
  | 50 => ⟨S1x8192x512, .f32⟩
  | 51 => ⟨S1x8192x8x64, .f32⟩
  | 52 => ⟨S8x64x64, .f32⟩
  | 53 => ⟨S8x64x1x8192, .f32⟩
  | 54 => ⟨S1x8192x8x64, .f32⟩
  | 55 => ⟨S1x8192x512, .f32⟩
  | 56 => ⟨S512, .f32⟩
  | 57 => ⟨S1x1x512, .f32⟩
  | 58 => ⟨S1x8192x512, .f32⟩
  | 59 => ⟨S1x8192x512, .f32⟩
  | 60 => ⟨S1x8192x512, .f32⟩
  | 61 => ⟨S1x8192x512, .f32⟩
  | 62 => ⟨S_, .f32⟩
  | 63 => ⟨S1x8192x512, .f32⟩
  | 64 => ⟨S1x8192x512, .f32⟩
  | 65 => ⟨S_, .f32⟩
  | 66 => ⟨S1x8192x512, .f32⟩
  | 67 => ⟨S1x8192x512, .f32⟩
  | 68 => ⟨S8x64x64, .f32⟩
  | 69 => ⟨S8x64x1x8192, .f32⟩
  | 70 => ⟨S1x8192x8x64, .f32⟩
  | 71 => ⟨S1x8192x512, .f32⟩
  | 72 => ⟨S512, .f32⟩
  | 73 => ⟨S1x1x512, .f32⟩
  | 74 => ⟨S1x8192x512, .f32⟩
  | 75 => ⟨S1x8192x512, .f32⟩
  | 76 => ⟨S1x8192x512, .f32⟩
  | 77 => ⟨S1x8192x512, .f32⟩
  | 78 => ⟨S_, .f32⟩
  | 79 => ⟨S1x8192x512, .f32⟩
  | 80 => ⟨S1x8192x512, .f32⟩
  | 81 => ⟨S_, .f32⟩
  | 82 => ⟨S1x8192x512, .f32⟩
  | 83 => ⟨S1x8192x512, .f32⟩
  | 84 => ⟨S_, .f32⟩
  | 85 => ⟨S1x8192x512, .f32⟩
  | 86 => ⟨S1x8192x512, .f32⟩
  | 87 => ⟨S512, .f32⟩
  | 88 => ⟨S512, .f32⟩
  | 89 => ⟨S_, .f32⟩
  | 90 => ⟨S512, .f32⟩
  | 91 => ⟨S512, .f32⟩
  | 92 => ⟨S512, .f32⟩
  | 93 => ⟨S512, .f32⟩
  | 94 => ⟨S512, .i1⟩
  | 95 => ⟨S512, .f32⟩
  | 96 => ⟨S512, .f32⟩
  | 97 => ⟨S512, .f32⟩
  | 98 => ⟨S512, .f32⟩
  | 99 => ⟨S512, .f32⟩
  | 100 => ⟨S512, .f32⟩
  | 101 => ⟨S512, .f32⟩
  | 102 => ⟨S512, .f32⟩
  | 103 => ⟨S1x1x512, .f32⟩
  | 104 => ⟨S1x8192x512, .f32⟩
  | 105 => ⟨S1x8192x512, .f32⟩
  | 106 => ⟨S1x8192x512, .f32⟩
  | 107 => ⟨S_, .f32⟩
  | 108 => ⟨S1x8192x512, .f32⟩
  | 109 => ⟨S1x8192x512, .f32⟩
  | 110 => ⟨S1x8192x512, .f32⟩
  | 111 => ⟨S1x8192x512, .f32⟩
  | 112 => ⟨S_, .f32⟩
  | 113 => ⟨S1x8192x512, .f32⟩
  | 114 => ⟨S1x8192x512, .f32⟩
  | 115 => ⟨S1x8192x512, .f32⟩
  | 116 => ⟨S1x8192x512, .f32⟩
  | 117 => ⟨S1x8192x512, .f32⟩
  | 118 => ⟨S1x4096x2x512, .f32⟩
  | 119 => ⟨S1x4096x2x512, .f32⟩
  | 120 => ⟨S1x4096x1x512, .f32⟩
  | 121 => ⟨S1x4096x512, .f32⟩
  | 122 => ⟨S1x4096x1x512, .f32⟩
  | 123 => ⟨S1x4096x512, .f32⟩
  | 124 => ⟨S1x4096x1x512, .f32⟩
  | 125 => ⟨S1x4096x512, .f32⟩
  | 126 => ⟨S1x4096x1x512, .f32⟩
  | 127 => ⟨S1x4096x512, .f32⟩
  | _ => ⟨S1x8192x1536, .f32⟩

abbrev hbmTy0_1 (i : Nat) : BufTy := match i % 128 with
  | 0 => ⟨S1x4096x512, .f32⟩
  | 1 => ⟨S1x4096x512, .f32⟩
  | 2 => ⟨S1x4096x512, .f32⟩
  | 3 => ⟨S1x2048x2x512, .f32⟩
  | 4 => ⟨S1x2048x2x512, .f32⟩
  | 5 => ⟨S1x2048x1x512, .f32⟩
  | 6 => ⟨S1x2048x512, .f32⟩
  | 7 => ⟨S1x2048x1x512, .f32⟩
  | 8 => ⟨S1x2048x512, .f32⟩
  | 9 => ⟨S1x2048x1x512, .f32⟩
  | 10 => ⟨S1x2048x512, .f32⟩
  | 11 => ⟨S1x2048x1x512, .f32⟩
  | 12 => ⟨S1x2048x512, .f32⟩
  | 13 => ⟨S1x2048x512, .f32⟩
  | 14 => ⟨S1x2048x512, .f32⟩
  | 15 => ⟨S1x2048x512, .f32⟩
  | 16 => ⟨S1x1024x2x512, .f32⟩
  | 17 => ⟨S1x1024x2x512, .f32⟩
  | 18 => ⟨S1x1024x1x512, .f32⟩
  | 19 => ⟨S1x1024x512, .f32⟩
  | 20 => ⟨S1x1024x1x512, .f32⟩
  | 21 => ⟨S1x1024x512, .f32⟩
  | 22 => ⟨S1x1024x1x512, .f32⟩
  | 23 => ⟨S1x1024x512, .f32⟩
  | 24 => ⟨S1x1024x1x512, .f32⟩
  | 25 => ⟨S1x1024x512, .f32⟩
  | 26 => ⟨S1x1024x512, .f32⟩
  | 27 => ⟨S1x1024x512, .f32⟩
  | 28 => ⟨S1x1024x512, .f32⟩
  | 29 => ⟨S1x512x2x512, .f32⟩
  | 30 => ⟨S1x512x2x512, .f32⟩
  | 31 => ⟨S1x512x1x512, .f32⟩
  | 32 => ⟨S1x512x512, .f32⟩
  | 33 => ⟨S1x512x1x512, .f32⟩
  | 34 => ⟨S1x512x512, .f32⟩
  | 35 => ⟨S1x512x1x512, .f32⟩
  | 36 => ⟨S1x512x512, .f32⟩
  | 37 => ⟨S1x512x1x512, .f32⟩
  | 38 => ⟨S1x512x512, .f32⟩
  | 39 => ⟨S1x512x512, .f32⟩
  | 40 => ⟨S1x512x512, .f32⟩
  | 41 => ⟨S1x512x512, .f32⟩
  | 42 => ⟨S1x256x2x512, .f32⟩
  | 43 => ⟨S1x256x2x512, .f32⟩
  | 44 => ⟨S1x256x1x512, .f32⟩
  | 45 => ⟨S1x256x512, .f32⟩
  | 46 => ⟨S1x256x1x512, .f32⟩
  | 47 => ⟨S1x256x512, .f32⟩
  | 48 => ⟨S1x256x1x512, .f32⟩
  | 49 => ⟨S1x256x512, .f32⟩
  | 50 => ⟨S1x256x1x512, .f32⟩
  | 51 => ⟨S1x256x512, .f32⟩
  | 52 => ⟨S1x256x512, .f32⟩
  | 53 => ⟨S1x256x512, .f32⟩
  | 54 => ⟨S1x256x512, .f32⟩
  | 55 => ⟨S1x128x2x512, .f32⟩
  | 56 => ⟨S1x128x2x512, .f32⟩
  | 57 => ⟨S1x128x1x512, .f32⟩
  | 58 => ⟨S1x128x512, .f32⟩
  | 59 => ⟨S1x128x1x512, .f32⟩
  | 60 => ⟨S1x128x512, .f32⟩
  | 61 => ⟨S1x128x1x512, .f32⟩
  | 62 => ⟨S1x128x512, .f32⟩
  | 63 => ⟨S1x128x1x512, .f32⟩
  | 64 => ⟨S1x128x512, .f32⟩
  | 65 => ⟨S1x128x512, .f32⟩
  | 66 => ⟨S1x128x512, .f32⟩
  | 67 => ⟨S1x128x512, .f32⟩
  | 68 => ⟨S1x64x2x512, .f32⟩
  | 69 => ⟨S1x64x2x512, .f32⟩
  | 70 => ⟨S1x64x1x512, .f32⟩
  | 71 => ⟨S1x64x512, .f32⟩
  | 72 => ⟨S1x64x1x512, .f32⟩
  | 73 => ⟨S1x64x512, .f32⟩
  | 74 => ⟨S1x64x1x512, .f32⟩
  | 75 => ⟨S1x64x512, .f32⟩
  | 76 => ⟨S1x64x1x512, .f32⟩
  | 77 => ⟨S1x64x512, .f32⟩
  | 78 => ⟨S1x64x512, .f32⟩
  | 79 => ⟨S1x64x512, .f32⟩
  | 80 => ⟨S1x64x512, .f32⟩
  | 81 => ⟨S1x32x2x512, .f32⟩
  | 82 => ⟨S1x32x2x512, .f32⟩
  | 83 => ⟨S1x32x1x512, .f32⟩
  | 84 => ⟨S1x32x512, .f32⟩
  | 85 => ⟨S1x32x1x512, .f32⟩
  | 86 => ⟨S1x32x512, .f32⟩
  | 87 => ⟨S1x32x1x512, .f32⟩
  | 88 => ⟨S1x32x512, .f32⟩
  | 89 => ⟨S1x32x1x512, .f32⟩
  | 90 => ⟨S1x32x512, .f32⟩
  | 91 => ⟨S1x32x512, .f32⟩
  | 92 => ⟨S1x32x512, .f32⟩
  | 93 => ⟨S1x32x512, .f32⟩
  | 94 => ⟨S1x16x2x512, .f32⟩
  | 95 => ⟨S1x16x2x512, .f32⟩
  | 96 => ⟨S1x16x1x512, .f32⟩
  | 97 => ⟨S1x16x512, .f32⟩
  | 98 => ⟨S1x16x1x512, .f32⟩
  | 99 => ⟨S1x16x512, .f32⟩
  | 100 => ⟨S1x16x1x512, .f32⟩
  | 101 => ⟨S1x16x512, .f32⟩
  | 102 => ⟨S1x16x1x512, .f32⟩
  | 103 => ⟨S1x16x512, .f32⟩
  | 104 => ⟨S1x16x512, .f32⟩
  | 105 => ⟨S1x16x512, .f32⟩
  | 106 => ⟨S1x16x512, .f32⟩
  | 107 => ⟨S1x8x2x512, .f32⟩
  | 108 => ⟨S1x8x2x512, .f32⟩
  | 109 => ⟨S1x8x1x512, .f32⟩
  | 110 => ⟨S1x8x512, .f32⟩
  | 111 => ⟨S1x8x1x512, .f32⟩
  | 112 => ⟨S1x8x512, .f32⟩
  | 113 => ⟨S1x8x1x512, .f32⟩
  | 114 => ⟨S1x8x512, .f32⟩
  | 115 => ⟨S1x8x1x512, .f32⟩
  | 116 => ⟨S1x8x512, .f32⟩
  | 117 => ⟨S1x8x512, .f32⟩
  | 118 => ⟨S1x8x512, .f32⟩
  | 119 => ⟨S1x8x512, .f32⟩
  | 120 => ⟨S1x4x2x512, .f32⟩
  | 121 => ⟨S1x4x2x512, .f32⟩
  | 122 => ⟨S1x4x1x512, .f32⟩
  | 123 => ⟨S1x4x512, .f32⟩
  | 124 => ⟨S1x4x1x512, .f32⟩
  | 125 => ⟨S1x4x512, .f32⟩
  | 126 => ⟨S1x4x1x512, .f32⟩
  | 127 => ⟨S1x4x512, .f32⟩
  | _ => ⟨S1x8192x1536, .f32⟩

abbrev hbmTy0_2 (i : Nat) : BufTy := match i % 128 with
  | 0 => ⟨S1x4x1x512, .f32⟩
  | 1 => ⟨S1x4x512, .f32⟩
  | 2 => ⟨S1x4x512, .f32⟩
  | 3 => ⟨S1x4x512, .f32⟩
  | 4 => ⟨S1x4x512, .f32⟩
  | 5 => ⟨S1x2x2x512, .f32⟩
  | 6 => ⟨S1x2x2x512, .f32⟩
  | 7 => ⟨S1x2x1x512, .f32⟩
  | 8 => ⟨S1x2x512, .f32⟩
  | 9 => ⟨S1x2x1x512, .f32⟩
  | 10 => ⟨S1x2x512, .f32⟩
  | 11 => ⟨S1x2x1x512, .f32⟩
  | 12 => ⟨S1x2x512, .f32⟩
  | 13 => ⟨S1x2x1x512, .f32⟩
  | 14 => ⟨S1x2x512, .f32⟩
  | 15 => ⟨S1x2x512, .f32⟩
  | 16 => ⟨S1x2x512, .f32⟩
  | 17 => ⟨S1x2x512, .f32⟩
  | 18 => ⟨S1x1x2x512, .f32⟩
  | 19 => ⟨S1x1x2x512, .f32⟩
  | 20 => ⟨S1x1x1x512, .f32⟩
  | 21 => ⟨S1x1x512, .f32⟩
  | 22 => ⟨S1x1x1x512, .f32⟩
  | 23 => ⟨S1x1x512, .f32⟩
  | 24 => ⟨S1x1x1x512, .f32⟩
  | 25 => ⟨S1x1x512, .f32⟩
  | 26 => ⟨S1x1x1x512, .f32⟩
  | 27 => ⟨S1x1x512, .f32⟩
  | 28 => ⟨S1x1x512, .f32⟩
  | 29 => ⟨S1x1x512, .f32⟩
  | 30 => ⟨S1x1x512, .f32⟩
  | 31 => ⟨S1x0x512, .f32⟩
  | 32 => ⟨S1x0x512, .f32⟩
  | 33 => ⟨S1x0x512, .f32⟩
  | 34 => ⟨S1x0x512, .f32⟩
  | 35 => ⟨S1x0x512, .f32⟩
  | 36 => ⟨S1x0x512, .f32⟩
  | 37 => ⟨S1x0x512, .f32⟩
  | 38 => ⟨S1x1x512, .f32⟩
  | 39 => ⟨S1x1x512, .f32⟩
  | 40 => ⟨S1x1x1x512, .f32⟩
  | 41 => ⟨S1x1x1x512, .f32⟩
  | 42 => ⟨S1x1x2x512, .f32⟩
  | 43 => ⟨S1x2x512, .f32⟩
  | 44 => ⟨S1x1x1x512, .f32⟩
  | 45 => ⟨S1x1x1x512, .f32⟩
  | 46 => ⟨S1x1x2x512, .f32⟩
  | 47 => ⟨S1x2x512, .f32⟩
  | 48 => ⟨S1x1x512, .f32⟩
  | 49 => ⟨S1x1x512, .f32⟩
  | 50 => ⟨S1x1x512, .f32⟩
  | 51 => ⟨S1x1x512, .f32⟩
  | 52 => ⟨S1x1x512, .f32⟩
  | 53 => ⟨S1x1x512, .f32⟩
  | 54 => ⟨S1x1x512, .f32⟩
  | 55 => ⟨S1x1x512, .f32⟩
  | 56 => ⟨S1x2x512, .f32⟩
  | 57 => ⟨S1x1x512, .f32⟩
  | 58 => ⟨S1x2x512, .f32⟩
  | 59 => ⟨S1x2x1x512, .f32⟩
  | 60 => ⟨S1x2x1x512, .f32⟩
  | 61 => ⟨S1x2x2x512, .f32⟩
  | 62 => ⟨S1x4x512, .f32⟩
  | 63 => ⟨S1x2x1x512, .f32⟩
  | 64 => ⟨S1x2x1x512, .f32⟩
  | 65 => ⟨S1x2x2x512, .f32⟩
  | 66 => ⟨S1x4x512, .f32⟩
  | 67 => ⟨S1x3x512, .f32⟩
  | 68 => ⟨S1x3x512, .f32⟩
  | 69 => ⟨S1x3x512, .f32⟩
  | 70 => ⟨S1x3x512, .f32⟩
  | 71 => ⟨S1x3x512, .f32⟩
  | 72 => ⟨S1x3x512, .f32⟩
  | 73 => ⟨S1x3x512, .f32⟩
  | 74 => ⟨S1x1x512, .f32⟩
  | 75 => ⟨S1x4x512, .f32⟩
  | 76 => ⟨S1x1x512, .f32⟩
  | 77 => ⟨S1x4x512, .f32⟩
  | 78 => ⟨S1x4x1x512, .f32⟩
  | 79 => ⟨S1x4x1x512, .f32⟩
  | 80 => ⟨S1x4x2x512, .f32⟩
  | 81 => ⟨S1x8x512, .f32⟩
  | 82 => ⟨S1x4x1x512, .f32⟩
  | 83 => ⟨S1x4x1x512, .f32⟩
  | 84 => ⟨S1x4x2x512, .f32⟩
  | 85 => ⟨S1x8x512, .f32⟩
  | 86 => ⟨S1x7x512, .f32⟩
  | 87 => ⟨S1x7x512, .f32⟩
  | 88 => ⟨S1x7x512, .f32⟩
  | 89 => ⟨S1x7x512, .f32⟩
  | 90 => ⟨S1x7x512, .f32⟩
  | 91 => ⟨S1x7x512, .f32⟩
  | 92 => ⟨S1x7x512, .f32⟩
  | 93 => ⟨S1x1x512, .f32⟩
  | 94 => ⟨S1x8x512, .f32⟩
  | 95 => ⟨S1x1x512, .f32⟩
  | 96 => ⟨S1x8x512, .f32⟩
  | 97 => ⟨S1x8x1x512, .f32⟩
  | 98 => ⟨S1x8x1x512, .f32⟩
  | 99 => ⟨S1x8x2x512, .f32⟩
  | 100 => ⟨S1x16x512, .f32⟩
  | 101 => ⟨S1x8x1x512, .f32⟩
  | 102 => ⟨S1x8x1x512, .f32⟩
  | 103 => ⟨S1x8x2x512, .f32⟩
  | 104 => ⟨S1x16x512, .f32⟩
  | 105 => ⟨S1x15x512, .f32⟩
  | 106 => ⟨S1x15x512, .f32⟩
  | 107 => ⟨S1x15x512, .f32⟩
  | 108 => ⟨S1x15x512, .f32⟩
  | 109 => ⟨S1x15x512, .f32⟩
  | 110 => ⟨S1x15x512, .f32⟩
  | 111 => ⟨S1x15x512, .f32⟩
  | 112 => ⟨S1x1x512, .f32⟩
  | 113 => ⟨S1x16x512, .f32⟩
  | 114 => ⟨S1x1x512, .f32⟩
  | 115 => ⟨S1x16x512, .f32⟩
  | 116 => ⟨S1x16x1x512, .f32⟩
  | 117 => ⟨S1x16x1x512, .f32⟩
  | 118 => ⟨S1x16x2x512, .f32⟩
  | 119 => ⟨S1x32x512, .f32⟩
  | 120 => ⟨S1x16x1x512, .f32⟩
  | 121 => ⟨S1x16x1x512, .f32⟩
  | 122 => ⟨S1x16x2x512, .f32⟩
  | 123 => ⟨S1x32x512, .f32⟩
  | 124 => ⟨S1x31x512, .f32⟩
  | 125 => ⟨S1x31x512, .f32⟩
  | 126 => ⟨S1x31x512, .f32⟩
  | 127 => ⟨S1x31x512, .f32⟩
  | _ => ⟨S1x8192x1536, .f32⟩

abbrev hbmTy0_3 (i : Nat) : BufTy := match i % 128 with
  | 0 => ⟨S1x31x512, .f32⟩
  | 1 => ⟨S1x31x512, .f32⟩
  | 2 => ⟨S1x31x512, .f32⟩
  | 3 => ⟨S1x1x512, .f32⟩
  | 4 => ⟨S1x32x512, .f32⟩
  | 5 => ⟨S1x1x512, .f32⟩
  | 6 => ⟨S1x32x512, .f32⟩
  | 7 => ⟨S1x32x1x512, .f32⟩
  | 8 => ⟨S1x32x1x512, .f32⟩
  | 9 => ⟨S1x32x2x512, .f32⟩
  | 10 => ⟨S1x64x512, .f32⟩
  | 11 => ⟨S1x32x1x512, .f32⟩
  | 12 => ⟨S1x32x1x512, .f32⟩
  | 13 => ⟨S1x32x2x512, .f32⟩
  | 14 => ⟨S1x64x512, .f32⟩
  | 15 => ⟨S1x63x512, .f32⟩
  | 16 => ⟨S1x63x512, .f32⟩
  | 17 => ⟨S1x63x512, .f32⟩
  | 18 => ⟨S1x63x512, .f32⟩
  | 19 => ⟨S1x63x512, .f32⟩
  | 20 => ⟨S1x63x512, .f32⟩
  | 21 => ⟨S1x63x512, .f32⟩
  | 22 => ⟨S1x1x512, .f32⟩
  | 23 => ⟨S1x64x512, .f32⟩
  | 24 => ⟨S1x1x512, .f32⟩
  | 25 => ⟨S1x64x512, .f32⟩
  | 26 => ⟨S1x64x1x512, .f32⟩
  | 27 => ⟨S1x64x1x512, .f32⟩
  | 28 => ⟨S1x64x2x512, .f32⟩
  | 29 => ⟨S1x128x512, .f32⟩
  | 30 => ⟨S1x64x1x512, .f32⟩
  | 31 => ⟨S1x64x1x512, .f32⟩
  | 32 => ⟨S1x64x2x512, .f32⟩
  | 33 => ⟨S1x128x512, .f32⟩
  | 34 => ⟨S1x127x512, .f32⟩
  | 35 => ⟨S1x127x512, .f32⟩
  | 36 => ⟨S1x127x512, .f32⟩
  | 37 => ⟨S1x127x512, .f32⟩
  | 38 => ⟨S1x127x512, .f32⟩
  | 39 => ⟨S1x127x512, .f32⟩
  | 40 => ⟨S1x127x512, .f32⟩
  | 41 => ⟨S1x1x512, .f32⟩
  | 42 => ⟨S1x128x512, .f32⟩
  | 43 => ⟨S1x1x512, .f32⟩
  | 44 => ⟨S1x128x512, .f32⟩
  | 45 => ⟨S1x128x1x512, .f32⟩
  | 46 => ⟨S1x128x1x512, .f32⟩
  | 47 => ⟨S1x128x2x512, .f32⟩
  | 48 => ⟨S1x256x512, .f32⟩
  | 49 => ⟨S1x128x1x512, .f32⟩
  | 50 => ⟨S1x128x1x512, .f32⟩
  | 51 => ⟨S1x128x2x512, .f32⟩
  | 52 => ⟨S1x256x512, .f32⟩
  | 53 => ⟨S1x255x512, .f32⟩
  | 54 => ⟨S1x255x512, .f32⟩
  | 55 => ⟨S1x255x512, .f32⟩
  | 56 => ⟨S1x255x512, .f32⟩
  | 57 => ⟨S1x255x512, .f32⟩
  | 58 => ⟨S1x255x512, .f32⟩
  | 59 => ⟨S1x255x512, .f32⟩
  | 60 => ⟨S1x1x512, .f32⟩
  | 61 => ⟨S1x256x512, .f32⟩
  | 62 => ⟨S1x1x512, .f32⟩
  | 63 => ⟨S1x256x512, .f32⟩
  | 64 => ⟨S1x256x1x512, .f32⟩
  | 65 => ⟨S1x256x1x512, .f32⟩
  | 66 => ⟨S1x256x2x512, .f32⟩
  | 67 => ⟨S1x512x512, .f32⟩
  | 68 => ⟨S1x256x1x512, .f32⟩
  | 69 => ⟨S1x256x1x512, .f32⟩
  | 70 => ⟨S1x256x2x512, .f32⟩
  | 71 => ⟨S1x512x512, .f32⟩
  | 72 => ⟨S1x511x512, .f32⟩
  | 73 => ⟨S1x511x512, .f32⟩
  | 74 => ⟨S1x511x512, .f32⟩
  | 75 => ⟨S1x511x512, .f32⟩
  | 76 => ⟨S1x511x512, .f32⟩
  | 77 => ⟨S1x511x512, .f32⟩
  | 78 => ⟨S1x511x512, .f32⟩
  | 79 => ⟨S1x1x512, .f32⟩
  | 80 => ⟨S1x512x512, .f32⟩
  | 81 => ⟨S1x1x512, .f32⟩
  | 82 => ⟨S1x512x512, .f32⟩
  | 83 => ⟨S1x512x1x512, .f32⟩
  | 84 => ⟨S1x512x1x512, .f32⟩
  | 85 => ⟨S1x512x2x512, .f32⟩
  | 86 => ⟨S1x1024x512, .f32⟩
  | 87 => ⟨S1x512x1x512, .f32⟩
  | 88 => ⟨S1x512x1x512, .f32⟩
  | 89 => ⟨S1x512x2x512, .f32⟩
  | 90 => ⟨S1x1024x512, .f32⟩
  | 91 => ⟨S1x1023x512, .f32⟩
  | 92 => ⟨S1x1023x512, .f32⟩
  | 93 => ⟨S1x1023x512, .f32⟩
  | 94 => ⟨S1x1023x512, .f32⟩
  | 95 => ⟨S1x1023x512, .f32⟩
  | 96 => ⟨S1x1023x512, .f32⟩
  | 97 => ⟨S1x1023x512, .f32⟩
  | 98 => ⟨S1x1x512, .f32⟩
  | 99 => ⟨S1x1024x512, .f32⟩
  | 100 => ⟨S1x1x512, .f32⟩
  | 101 => ⟨S1x1024x512, .f32⟩
  | 102 => ⟨S1x1024x1x512, .f32⟩
  | 103 => ⟨S1x1024x1x512, .f32⟩
  | 104 => ⟨S1x1024x2x512, .f32⟩
  | 105 => ⟨S1x2048x512, .f32⟩
  | 106 => ⟨S1x1024x1x512, .f32⟩
  | 107 => ⟨S1x1024x1x512, .f32⟩
  | 108 => ⟨S1x1024x2x512, .f32⟩
  | 109 => ⟨S1x2048x512, .f32⟩
  | 110 => ⟨S1x2047x512, .f32⟩
  | 111 => ⟨S1x2047x512, .f32⟩
  | 112 => ⟨S1x2047x512, .f32⟩
  | 113 => ⟨S1x2047x512, .f32⟩
  | 114 => ⟨S1x2047x512, .f32⟩
  | 115 => ⟨S1x2047x512, .f32⟩
  | 116 => ⟨S1x2047x512, .f32⟩
  | 117 => ⟨S1x1x512, .f32⟩
  | 118 => ⟨S1x2048x512, .f32⟩
  | 119 => ⟨S1x1x512, .f32⟩
  | 120 => ⟨S1x2048x512, .f32⟩
  | 121 => ⟨S1x2048x1x512, .f32⟩
  | 122 => ⟨S1x2048x1x512, .f32⟩
  | 123 => ⟨S1x2048x2x512, .f32⟩
  | 124 => ⟨S1x4096x512, .f32⟩
  | 125 => ⟨S1x2048x1x512, .f32⟩
  | 126 => ⟨S1x2048x1x512, .f32⟩
  | 127 => ⟨S1x2048x2x512, .f32⟩
  | _ => ⟨S1x8192x1536, .f32⟩

abbrev hbmTy0_4 (i : Nat) : BufTy := match i % 128 with
  | 0 => ⟨S1x4096x512, .f32⟩
  | 1 => ⟨S1x4095x512, .f32⟩
  | 2 => ⟨S1x4095x512, .f32⟩
  | 3 => ⟨S1x4095x512, .f32⟩
  | 4 => ⟨S1x4095x512, .f32⟩
  | 5 => ⟨S1x4095x512, .f32⟩
  | 6 => ⟨S1x4095x512, .f32⟩
  | 7 => ⟨S1x4095x512, .f32⟩
  | 8 => ⟨S1x1x512, .f32⟩
  | 9 => ⟨S1x4096x512, .f32⟩
  | 10 => ⟨S1x1x512, .f32⟩
  | 11 => ⟨S1x4096x512, .f32⟩
  | 12 => ⟨S1x4096x1x512, .f32⟩
  | 13 => ⟨S1x4096x1x512, .f32⟩
  | 14 => ⟨S1x4096x2x512, .f32⟩
  | 15 => ⟨S1x8192x512, .f32⟩
  | 16 => ⟨S1x4096x1x512, .f32⟩
  | 17 => ⟨S1x4096x1x512, .f32⟩
  | 18 => ⟨S1x4096x2x512, .f32⟩
  | 19 => ⟨S1x8192x512, .f32⟩
  | 20 => ⟨S1x8192x512, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S8192x512, .f32⟩
  | 39 => ⟨S_, .f32⟩
  | 40 => ⟨S8192x512, .f32⟩
  | 41 => ⟨S8192x512, .f32⟩
  | 42 => ⟨S_, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S_, .f32⟩
  | 60 => ⟨S8192x512, .f32⟩
  | 61 => ⟨S8192x512, .f32⟩
  | 62 => ⟨S8192x512, .f32⟩
  | 63 => ⟨S8192x512, .f32⟩
  | 64 => ⟨S1x8192x512, .f32⟩
  | 65 => ⟨S8192x512, .f32⟩
  | 66 => ⟨S_, .f32⟩
  | 67 => ⟨S16x512, .f32⟩
  | 68 => ⟨S8208x512, .f32⟩
  | 69 => ⟨S_, .f32⟩
  | 70 => ⟨S_, .f32⟩
  | 71 => ⟨S8208x512, .f32⟩
  | 72 => ⟨S8192x128, .f32⟩
  | 73 => ⟨S8192x128, .f32⟩
  | 74 => ⟨S8192x128, .f32⟩
  | 75 => ⟨S8192x128, .f32⟩
  | 76 => ⟨S8192x512, .f32⟩
  | 77 => ⟨S8192x512, .f32⟩
  | 78 => ⟨S8192x512, .f32⟩
  | 79 => ⟨S8192x4x128, .f32⟩
  | 80 => ⟨S8192, .i32⟩
  | 81 => ⟨S_, .i32⟩
  | 82 => ⟨S8192, .i32⟩
  | 83 => ⟨S8192, .i32⟩
  | 84 => ⟨S8192x1, .i32⟩
  | 85 => ⟨S_, .i32⟩
  | 86 => ⟨S8192x1, .i32⟩
  | 87 => ⟨S8192x1, .i32⟩
  | 88 => ⟨S_, .i32⟩
  | 89 => ⟨S8192x1, .i32⟩
  | 90 => ⟨S8192x1, .i32⟩
  | 91 => ⟨S_, .i32⟩
  | 92 => ⟨S8192x1, .i32⟩
  | 93 => ⟨S8192x1, .i32⟩
  | 94 => ⟨S_, .i32⟩
  | 95 => ⟨S8192x1, .i32⟩
  | 96 => ⟨S8192x1, .i32⟩
  | 97 => ⟨S8192x4, .i32⟩
  | 98 => ⟨S8192x4, .f32⟩
  | 99 => ⟨S8192x4x1, .f32⟩
  | 100 => ⟨S8192x4x128, .f32⟩
  | 101 => ⟨S8192x4x128, .f32⟩
  | 102 => ⟨S1x8192x512, .f32⟩
  | 103 => ⟨S8192x512, .f32⟩
  | 104 => ⟨S8192x4x128, .f32⟩
  | 105 => ⟨S8192x4x128, .f32⟩
  | 106 => ⟨S8192x512, .f32⟩
  | 107 => ⟨S8192x512, .f32⟩
  | 108 => ⟨S8192x512, .f32⟩
  | 109 => ⟨S8192x512, .f32⟩
  | 110 => ⟨S1x8192x512, .f32⟩
  | 111 => ⟨S1x8192x512, .f32⟩
  | 112 => ⟨S1x8192x512, .f32⟩
  | 113 => ⟨S1x8192x512, .f32⟩
  | 114 => ⟨S4x8192x512, .f32⟩
  | 115 => ⟨S8192x512, .f32⟩
  | 116 => ⟨S8192x512, .f32⟩
  | 117 => ⟨S1x8192x512, .f32⟩
  | 118 => ⟨S1x8192x512, .f32⟩
  | 119 => ⟨S1x8192x512, .f32⟩
  | 120 => ⟨S1x8192x512, .f32⟩
  | 121 => ⟨S4x8192x512, .f32⟩
  | 122 => ⟨S4x8192x512, .bf16⟩
  | 123 => ⟨S4x512, .f32⟩
  | 124 => ⟨S8x64x64, .f32⟩
  | 125 => ⟨S8x64x64, .f32⟩
  | 126 => ⟨S4x128x128, .f32⟩
  | 127 => ⟨S8192x1536, .f32⟩
  | _ => ⟨S1x8192x1536, .f32⟩

abbrev hbmTy0_5 (i : Nat) : BufTy := match i % 128 with
  | 0 => ⟨S8192x512, .f32⟩
  | 1 => ⟨S8192x1024, .f32⟩
  | 2 => ⟨S1024x1024, .f32⟩
  | 3 => ⟨S1024x1024, .bf16⟩
  | 4 => ⟨S8192x1536, .bf16⟩
  | 5 => ⟨S272x512, .f32⟩
  | 6 => ⟨S1024x1024, .f32⟩
  | 7 => ⟨S128x512, .f32⟩
  | 8 => ⟨S128x4x128, .f32⟩
  | 9 => ⟨S4x128x128, .f32⟩
  | 10 => ⟨S8192x512, .bf16⟩
  | 11 => ⟨S8192x512, .f32⟩
  | 12 => ⟨S1x4x128x128, .f32⟩
  | 13 => ⟨S1x512, .f32⟩
  | 14 => ⟨S1x512, .f32⟩
  | 15 => ⟨S1x512, .f32⟩
  | 16 => ⟨S512x1024, .f32⟩
  | _ => ⟨S1x8192x1536, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x8192x1536, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S4x512x512, .f32⟩
  | .local _ .vmem, ⟨3, _⟩ => ⟨S4x512x512, .f32⟩
  | .local _ .vmem, ⟨4, _⟩ => ⟨S4x512x512, .bf16⟩
  | .local _ .vmem, ⟨5, _⟩ => ⟨S4x512x512, .bf16⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S512x1024, .f32⟩
  | .local _ .vmem, ⟨11, _⟩ => ⟨S512x1024, .f32⟩
  | .local _ .vmem, ⟨12, _⟩ => ⟨S4x512, .f32⟩
  | .local _ .vmem, ⟨13, _⟩ => ⟨S1x512, .f32⟩
  | .local _ .vmem, ⟨14, _⟩ => ⟨S8x64x64, .f32⟩
  | .local _ .vmem, ⟨15, _⟩ => ⟨S8x64x64, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S4x128x128, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1024x1024, .bf16⟩
  | .local _ .vmem, ⟨25, _⟩ => ⟨S512x1536, .bf16⟩
  | .local _ .vmem, ⟨26, _⟩ => ⟨S512x1536, .bf16⟩
  | .local _ .vmem, ⟨27, _⟩ => ⟨S272x512, .f32⟩
  | .local _ .vmem, ⟨28, _⟩ => ⟨S1024x1024, .f32⟩
  | .local _ .vmem, ⟨29, _⟩ => ⟨S2x256x512, .bf16⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S8x512, .f32⟩
  | .local _ .vmem, ⟨34, _⟩ => ⟨S8x512, .f32⟩
  | .local _ .vmem, ⟨35, _⟩ => ⟨S16x512, .f32⟩
  | .local _ .vmem, ⟨36, _⟩ => ⟨S128x512, .f32⟩
  | .local _ .vmem, ⟨37, _⟩ => ⟨S32x512, .f32⟩
  | .local _ .vmem, ⟨38, _⟩ => ⟨S2x256x512, .f32⟩
  | .local _ .vmem, ⟨39, _⟩ => ⟨S128x512, .f32⟩
  | _, _ => ⟨S1x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_0 : Ref sig .tc := ⟨.hbm, 62, rfl⟩
abbrev main_v46 : Ref sig .tc := ⟨.hbm, 63, rfl⟩
abbrev main_v47 : Ref sig .tc := ⟨.hbm, 64, rfl⟩
abbrev main_cst_1 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_2 : Ref sig .tc := ⟨.hbm, 78, rfl⟩
abbrev main_v60 : Ref sig .tc := ⟨.hbm, 79, rfl⟩
abbrev main_v61 : Ref sig .tc := ⟨.hbm, 80, rfl⟩
abbrev main_cst_3 : Ref sig .tc := ⟨.hbm, 81, rfl⟩
abbrev main_v62 : Ref sig .tc := ⟨.hbm, 82, rfl⟩
abbrev main_v63 : Ref sig .tc := ⟨.hbm, 83, rfl⟩
abbrev main_cst_4 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_call0_cst : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_v6 : Ref sig .tc := ⟨.hbm, 96, rfl⟩
abbrev main_call0_v7 : Ref sig .tc := ⟨.hbm, 97, rfl⟩
abbrev main_call0_v8 : Ref sig .tc := ⟨.hbm, 98, rfl⟩
abbrev main_call0_v9 : Ref sig .tc := ⟨.hbm, 99, rfl⟩
abbrev main_call0_v10 : Ref sig .tc := ⟨.hbm, 100, rfl⟩
abbrev main_call0_v11 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_5 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_6 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩
abbrev main_v263 : Ref sig .tc := ⟨.hbm, 299, rfl⟩
abbrev main_v264 : Ref sig .tc := ⟨.hbm, 300, rfl⟩
abbrev main_v265 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩
abbrev main_v278 : Ref sig .tc := ⟨.hbm, 314, rfl⟩
abbrev main_v279 : Ref sig .tc := ⟨.hbm, 315, rfl⟩
abbrev main_v280 : Ref sig .tc := ⟨.hbm, 316, rfl⟩
abbrev main_v281 : Ref sig .tc := ⟨.hbm, 317, rfl⟩
abbrev main_v282 : Ref sig .tc := ⟨.hbm, 318, rfl⟩
abbrev main_v283 : Ref sig .tc := ⟨.hbm, 319, rfl⟩
abbrev main_v284 : Ref sig .tc := ⟨.hbm, 320, rfl⟩
abbrev main_v285 : Ref sig .tc := ⟨.hbm, 321, rfl⟩
abbrev main_v286 : Ref sig .tc := ⟨.hbm, 322, rfl⟩
abbrev main_v287 : Ref sig .tc := ⟨.hbm, 323, rfl⟩
abbrev main_v288 : Ref sig .tc := ⟨.hbm, 324, rfl⟩
abbrev main_v289 : Ref sig .tc := ⟨.hbm, 325, rfl⟩
abbrev main_v290 : Ref sig .tc := ⟨.hbm, 326, rfl⟩
abbrev main_v291 : Ref sig .tc := ⟨.hbm, 327, rfl⟩
abbrev main_v292 : Ref sig .tc := ⟨.hbm, 328, rfl⟩
abbrev main_v293 : Ref sig .tc := ⟨.hbm, 329, rfl⟩
abbrev main_v294 : Ref sig .tc := ⟨.hbm, 330, rfl⟩
abbrev main_v295 : Ref sig .tc := ⟨.hbm, 331, rfl⟩
abbrev main_v296 : Ref sig .tc := ⟨.hbm, 332, rfl⟩
abbrev main_v297 : Ref sig .tc := ⟨.hbm, 333, rfl⟩
abbrev main_v298 : Ref sig .tc := ⟨.hbm, 334, rfl⟩
abbrev main_v299 : Ref sig .tc := ⟨.hbm, 335, rfl⟩
abbrev main_v300 : Ref sig .tc := ⟨.hbm, 336, rfl⟩
abbrev main_v301 : Ref sig .tc := ⟨.hbm, 337, rfl⟩
abbrev main_v302 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_v309 : Ref sig .tc := ⟨.hbm, 345, rfl⟩
abbrev main_v310 : Ref sig .tc := ⟨.hbm, 346, rfl⟩
abbrev main_v311 : Ref sig .tc := ⟨.hbm, 347, rfl⟩
abbrev main_v312 : Ref sig .tc := ⟨.hbm, 348, rfl⟩
abbrev main_v313 : Ref sig .tc := ⟨.hbm, 349, rfl⟩
abbrev main_v314 : Ref sig .tc := ⟨.hbm, 350, rfl⟩
abbrev main_v315 : Ref sig .tc := ⟨.hbm, 351, rfl⟩
abbrev main_v316 : Ref sig .tc := ⟨.hbm, 352, rfl⟩
abbrev main_v317 : Ref sig .tc := ⟨.hbm, 353, rfl⟩
abbrev main_v318 : Ref sig .tc := ⟨.hbm, 354, rfl⟩
abbrev main_v319 : Ref sig .tc := ⟨.hbm, 355, rfl⟩
abbrev main_v320 : Ref sig .tc := ⟨.hbm, 356, rfl⟩
abbrev main_v321 : Ref sig .tc := ⟨.hbm, 357, rfl⟩
abbrev main_v322 : Ref sig .tc := ⟨.hbm, 358, rfl⟩
abbrev main_v323 : Ref sig .tc := ⟨.hbm, 359, rfl⟩
abbrev main_v324 : Ref sig .tc := ⟨.hbm, 360, rfl⟩
abbrev main_v325 : Ref sig .tc := ⟨.hbm, 361, rfl⟩
abbrev main_v326 : Ref sig .tc := ⟨.hbm, 362, rfl⟩
abbrev main_v327 : Ref sig .tc := ⟨.hbm, 363, rfl⟩
abbrev main_v328 : Ref sig .tc := ⟨.hbm, 364, rfl⟩
abbrev main_v329 : Ref sig .tc := ⟨.hbm, 365, rfl⟩
abbrev main_v330 : Ref sig .tc := ⟨.hbm, 366, rfl⟩
abbrev main_v331 : Ref sig .tc := ⟨.hbm, 367, rfl⟩
abbrev main_v332 : Ref sig .tc := ⟨.hbm, 368, rfl⟩
abbrev main_v333 : Ref sig .tc := ⟨.hbm, 369, rfl⟩
abbrev main_v334 : Ref sig .tc := ⟨.hbm, 370, rfl⟩
abbrev main_v335 : Ref sig .tc := ⟨.hbm, 371, rfl⟩
abbrev main_v336 : Ref sig .tc := ⟨.hbm, 372, rfl⟩
abbrev main_v337 : Ref sig .tc := ⟨.hbm, 373, rfl⟩
abbrev main_v338 : Ref sig .tc := ⟨.hbm, 374, rfl⟩
abbrev main_v339 : Ref sig .tc := ⟨.hbm, 375, rfl⟩
abbrev main_v340 : Ref sig .tc := ⟨.hbm, 376, rfl⟩
abbrev main_v341 : Ref sig .tc := ⟨.hbm, 377, rfl⟩
abbrev main_v342 : Ref sig .tc := ⟨.hbm, 378, rfl⟩
abbrev main_v343 : Ref sig .tc := ⟨.hbm, 379, rfl⟩
abbrev main_v344 : Ref sig .tc := ⟨.hbm, 380, rfl⟩
abbrev main_v345 : Ref sig .tc := ⟨.hbm, 381, rfl⟩
abbrev main_v346 : Ref sig .tc := ⟨.hbm, 382, rfl⟩
abbrev main_v347 : Ref sig .tc := ⟨.hbm, 383, rfl⟩
abbrev main_v348 : Ref sig .tc := ⟨.hbm, 384, rfl⟩
abbrev main_v349 : Ref sig .tc := ⟨.hbm, 385, rfl⟩
abbrev main_v350 : Ref sig .tc := ⟨.hbm, 386, rfl⟩
abbrev main_v351 : Ref sig .tc := ⟨.hbm, 387, rfl⟩
abbrev main_v352 : Ref sig .tc := ⟨.hbm, 388, rfl⟩
abbrev main_v353 : Ref sig .tc := ⟨.hbm, 389, rfl⟩
abbrev main_v354 : Ref sig .tc := ⟨.hbm, 390, rfl⟩
abbrev main_v355 : Ref sig .tc := ⟨.hbm, 391, rfl⟩
abbrev main_v356 : Ref sig .tc := ⟨.hbm, 392, rfl⟩
abbrev main_v357 : Ref sig .tc := ⟨.hbm, 393, rfl⟩
abbrev main_v358 : Ref sig .tc := ⟨.hbm, 394, rfl⟩
abbrev main_v359 : Ref sig .tc := ⟨.hbm, 395, rfl⟩
abbrev main_v360 : Ref sig .tc := ⟨.hbm, 396, rfl⟩
abbrev main_v361 : Ref sig .tc := ⟨.hbm, 397, rfl⟩
abbrev main_v362 : Ref sig .tc := ⟨.hbm, 398, rfl⟩
abbrev main_v363 : Ref sig .tc := ⟨.hbm, 399, rfl⟩
abbrev main_v364 : Ref sig .tc := ⟨.hbm, 400, rfl⟩
abbrev main_v365 : Ref sig .tc := ⟨.hbm, 401, rfl⟩
abbrev main_v366 : Ref sig .tc := ⟨.hbm, 402, rfl⟩
abbrev main_v367 : Ref sig .tc := ⟨.hbm, 403, rfl⟩
abbrev main_v368 : Ref sig .tc := ⟨.hbm, 404, rfl⟩
abbrev main_v369 : Ref sig .tc := ⟨.hbm, 405, rfl⟩
abbrev main_v370 : Ref sig .tc := ⟨.hbm, 406, rfl⟩
abbrev main_v371 : Ref sig .tc := ⟨.hbm, 407, rfl⟩
abbrev main_v372 : Ref sig .tc := ⟨.hbm, 408, rfl⟩
abbrev main_v373 : Ref sig .tc := ⟨.hbm, 409, rfl⟩
abbrev main_v374 : Ref sig .tc := ⟨.hbm, 410, rfl⟩
abbrev main_v375 : Ref sig .tc := ⟨.hbm, 411, rfl⟩
abbrev main_v376 : Ref sig .tc := ⟨.hbm, 412, rfl⟩
abbrev main_v377 : Ref sig .tc := ⟨.hbm, 413, rfl⟩
abbrev main_v378 : Ref sig .tc := ⟨.hbm, 414, rfl⟩
abbrev main_v379 : Ref sig .tc := ⟨.hbm, 415, rfl⟩
abbrev main_v380 : Ref sig .tc := ⟨.hbm, 416, rfl⟩
abbrev main_v381 : Ref sig .tc := ⟨.hbm, 417, rfl⟩
abbrev main_v382 : Ref sig .tc := ⟨.hbm, 418, rfl⟩
abbrev main_v383 : Ref sig .tc := ⟨.hbm, 419, rfl⟩
abbrev main_v384 : Ref sig .tc := ⟨.hbm, 420, rfl⟩
abbrev main_v385 : Ref sig .tc := ⟨.hbm, 421, rfl⟩
abbrev main_v386 : Ref sig .tc := ⟨.hbm, 422, rfl⟩
abbrev main_v387 : Ref sig .tc := ⟨.hbm, 423, rfl⟩
abbrev main_v388 : Ref sig .tc := ⟨.hbm, 424, rfl⟩
abbrev main_v389 : Ref sig .tc := ⟨.hbm, 425, rfl⟩
abbrev main_v390 : Ref sig .tc := ⟨.hbm, 426, rfl⟩
abbrev main_v391 : Ref sig .tc := ⟨.hbm, 427, rfl⟩
abbrev main_v392 : Ref sig .tc := ⟨.hbm, 428, rfl⟩
abbrev main_v393 : Ref sig .tc := ⟨.hbm, 429, rfl⟩
abbrev main_v394 : Ref sig .tc := ⟨.hbm, 430, rfl⟩
abbrev main_v395 : Ref sig .tc := ⟨.hbm, 431, rfl⟩
abbrev main_v396 : Ref sig .tc := ⟨.hbm, 432, rfl⟩
abbrev main_v397 : Ref sig .tc := ⟨.hbm, 433, rfl⟩
abbrev main_v398 : Ref sig .tc := ⟨.hbm, 434, rfl⟩
abbrev main_v399 : Ref sig .tc := ⟨.hbm, 435, rfl⟩
abbrev main_v400 : Ref sig .tc := ⟨.hbm, 436, rfl⟩
abbrev main_v401 : Ref sig .tc := ⟨.hbm, 437, rfl⟩
abbrev main_v402 : Ref sig .tc := ⟨.hbm, 438, rfl⟩
abbrev main_v403 : Ref sig .tc := ⟨.hbm, 439, rfl⟩
abbrev main_v404 : Ref sig .tc := ⟨.hbm, 440, rfl⟩
abbrev main_v405 : Ref sig .tc := ⟨.hbm, 441, rfl⟩
abbrev main_v406 : Ref sig .tc := ⟨.hbm, 442, rfl⟩
abbrev main_v407 : Ref sig .tc := ⟨.hbm, 443, rfl⟩
abbrev main_v408 : Ref sig .tc := ⟨.hbm, 444, rfl⟩
abbrev main_v409 : Ref sig .tc := ⟨.hbm, 445, rfl⟩
abbrev main_v410 : Ref sig .tc := ⟨.hbm, 446, rfl⟩
abbrev main_v411 : Ref sig .tc := ⟨.hbm, 447, rfl⟩
abbrev main_v412 : Ref sig .tc := ⟨.hbm, 448, rfl⟩
abbrev main_v413 : Ref sig .tc := ⟨.hbm, 449, rfl⟩
abbrev main_v414 : Ref sig .tc := ⟨.hbm, 450, rfl⟩
abbrev main_v415 : Ref sig .tc := ⟨.hbm, 451, rfl⟩
abbrev main_v416 : Ref sig .tc := ⟨.hbm, 452, rfl⟩
abbrev main_v417 : Ref sig .tc := ⟨.hbm, 453, rfl⟩
abbrev main_v418 : Ref sig .tc := ⟨.hbm, 454, rfl⟩
abbrev main_v419 : Ref sig .tc := ⟨.hbm, 455, rfl⟩
abbrev main_v420 : Ref sig .tc := ⟨.hbm, 456, rfl⟩
abbrev main_v421 : Ref sig .tc := ⟨.hbm, 457, rfl⟩
abbrev main_v422 : Ref sig .tc := ⟨.hbm, 458, rfl⟩
abbrev main_v423 : Ref sig .tc := ⟨.hbm, 459, rfl⟩
abbrev main_v424 : Ref sig .tc := ⟨.hbm, 460, rfl⟩
abbrev main_v425 : Ref sig .tc := ⟨.hbm, 461, rfl⟩
abbrev main_v426 : Ref sig .tc := ⟨.hbm, 462, rfl⟩
abbrev main_v427 : Ref sig .tc := ⟨.hbm, 463, rfl⟩
abbrev main_v428 : Ref sig .tc := ⟨.hbm, 464, rfl⟩
abbrev main_v429 : Ref sig .tc := ⟨.hbm, 465, rfl⟩
abbrev main_v430 : Ref sig .tc := ⟨.hbm, 466, rfl⟩
abbrev main_v431 : Ref sig .tc := ⟨.hbm, 467, rfl⟩
abbrev main_v432 : Ref sig .tc := ⟨.hbm, 468, rfl⟩
abbrev main_v433 : Ref sig .tc := ⟨.hbm, 469, rfl⟩
abbrev main_v434 : Ref sig .tc := ⟨.hbm, 470, rfl⟩
abbrev main_v435 : Ref sig .tc := ⟨.hbm, 471, rfl⟩
abbrev main_v436 : Ref sig .tc := ⟨.hbm, 472, rfl⟩
abbrev main_v437 : Ref sig .tc := ⟨.hbm, 473, rfl⟩
abbrev main_v438 : Ref sig .tc := ⟨.hbm, 474, rfl⟩
abbrev main_v439 : Ref sig .tc := ⟨.hbm, 475, rfl⟩
abbrev main_v440 : Ref sig .tc := ⟨.hbm, 476, rfl⟩
abbrev main_v441 : Ref sig .tc := ⟨.hbm, 477, rfl⟩
abbrev main_v442 : Ref sig .tc := ⟨.hbm, 478, rfl⟩
abbrev main_v443 : Ref sig .tc := ⟨.hbm, 479, rfl⟩
abbrev main_v444 : Ref sig .tc := ⟨.hbm, 480, rfl⟩
abbrev main_v445 : Ref sig .tc := ⟨.hbm, 481, rfl⟩
abbrev main_v446 : Ref sig .tc := ⟨.hbm, 482, rfl⟩
abbrev main_v447 : Ref sig .tc := ⟨.hbm, 483, rfl⟩
abbrev main_v448 : Ref sig .tc := ⟨.hbm, 484, rfl⟩
abbrev main_v449 : Ref sig .tc := ⟨.hbm, 485, rfl⟩
abbrev main_v450 : Ref sig .tc := ⟨.hbm, 486, rfl⟩
abbrev main_v451 : Ref sig .tc := ⟨.hbm, 487, rfl⟩
abbrev main_v452 : Ref sig .tc := ⟨.hbm, 488, rfl⟩
abbrev main_v453 : Ref sig .tc := ⟨.hbm, 489, rfl⟩
abbrev main_v454 : Ref sig .tc := ⟨.hbm, 490, rfl⟩
abbrev main_v455 : Ref sig .tc := ⟨.hbm, 491, rfl⟩
abbrev main_v456 : Ref sig .tc := ⟨.hbm, 492, rfl⟩
abbrev main_v457 : Ref sig .tc := ⟨.hbm, 493, rfl⟩
abbrev main_v458 : Ref sig .tc := ⟨.hbm, 494, rfl⟩
abbrev main_v459 : Ref sig .tc := ⟨.hbm, 495, rfl⟩
abbrev main_v460 : Ref sig .tc := ⟨.hbm, 496, rfl⟩
abbrev main_v461 : Ref sig .tc := ⟨.hbm, 497, rfl⟩
abbrev main_v462 : Ref sig .tc := ⟨.hbm, 498, rfl⟩
abbrev main_v463 : Ref sig .tc := ⟨.hbm, 499, rfl⟩
abbrev main_v464 : Ref sig .tc := ⟨.hbm, 500, rfl⟩
abbrev main_v465 : Ref sig .tc := ⟨.hbm, 501, rfl⟩
abbrev main_v466 : Ref sig .tc := ⟨.hbm, 502, rfl⟩
abbrev main_v467 : Ref sig .tc := ⟨.hbm, 503, rfl⟩
abbrev main_v468 : Ref sig .tc := ⟨.hbm, 504, rfl⟩
abbrev main_v469 : Ref sig .tc := ⟨.hbm, 505, rfl⟩
abbrev main_v470 : Ref sig .tc := ⟨.hbm, 506, rfl⟩
abbrev main_v471 : Ref sig .tc := ⟨.hbm, 507, rfl⟩
abbrev main_v472 : Ref sig .tc := ⟨.hbm, 508, rfl⟩
abbrev main_v473 : Ref sig .tc := ⟨.hbm, 509, rfl⟩
abbrev main_v474 : Ref sig .tc := ⟨.hbm, 510, rfl⟩
abbrev main_v475 : Ref sig .tc := ⟨.hbm, 511, rfl⟩
abbrev main_v476 : Ref sig .tc := ⟨.hbm, 512, rfl⟩
abbrev main_v477 : Ref sig .tc := ⟨.hbm, 513, rfl⟩
abbrev main_v478 : Ref sig .tc := ⟨.hbm, 514, rfl⟩
abbrev main_v479 : Ref sig .tc := ⟨.hbm, 515, rfl⟩
abbrev main_v480 : Ref sig .tc := ⟨.hbm, 516, rfl⟩
abbrev main_v481 : Ref sig .tc := ⟨.hbm, 517, rfl⟩
abbrev main_v482 : Ref sig .tc := ⟨.hbm, 518, rfl⟩
abbrev main_v483 : Ref sig .tc := ⟨.hbm, 519, rfl⟩
abbrev main_v484 : Ref sig .tc := ⟨.hbm, 520, rfl⟩
abbrev main_v485 : Ref sig .tc := ⟨.hbm, 521, rfl⟩
abbrev main_v486 : Ref sig .tc := ⟨.hbm, 522, rfl⟩
abbrev main_v487 : Ref sig .tc := ⟨.hbm, 523, rfl⟩
abbrev main_v488 : Ref sig .tc := ⟨.hbm, 524, rfl⟩
abbrev main_v489 : Ref sig .tc := ⟨.hbm, 525, rfl⟩
abbrev main_v490 : Ref sig .tc := ⟨.hbm, 526, rfl⟩
abbrev main_v491 : Ref sig .tc := ⟨.hbm, 527, rfl⟩
abbrev main_v492 : Ref sig .tc := ⟨.hbm, 528, rfl⟩
abbrev main_v493 : Ref sig .tc := ⟨.hbm, 529, rfl⟩
abbrev main_v494 : Ref sig .tc := ⟨.hbm, 530, rfl⟩
abbrev main_v495 : Ref sig .tc := ⟨.hbm, 531, rfl⟩
abbrev main_v496 : Ref sig .tc := ⟨.hbm, 532, rfl⟩
abbrev main_v497 : Ref sig .tc := ⟨.hbm, 533, rfl⟩
abbrev main_v498 : Ref sig .tc := ⟨.hbm, 534, rfl⟩
abbrev main_cst_7 : Ref sig .tc := ⟨.hbm, 535, rfl⟩
abbrev main_v499 : Ref sig .tc := ⟨.hbm, 536, rfl⟩
abbrev main_v500 : Ref sig .tc := ⟨.hbm, 537, rfl⟩
abbrev main_v501 : Ref sig .tc := ⟨.hbm, 538, rfl⟩
abbrev main_v502 : Ref sig .tc := ⟨.hbm, 539, rfl⟩
abbrev main_cst_8 : Ref sig .tc := ⟨.hbm, 540, rfl⟩
abbrev main_v503 : Ref sig .tc := ⟨.hbm, 541, rfl⟩
abbrev main_v504 : Ref sig .tc := ⟨.hbm, 542, rfl⟩
abbrev main_v505 : Ref sig .tc := ⟨.hbm, 543, rfl⟩
abbrev main_cst_9 : Ref sig .tc := ⟨.hbm, 544, rfl⟩
abbrev main_v506 : Ref sig .tc := ⟨.hbm, 545, rfl⟩
abbrev main_v507 : Ref sig .tc := ⟨.hbm, 546, rfl⟩
abbrev main_cst_10 : Ref sig .tc := ⟨.hbm, 547, rfl⟩
abbrev main_v508 : Ref sig .tc := ⟨.hbm, 548, rfl⟩
abbrev main_v509 : Ref sig .tc := ⟨.hbm, 549, rfl⟩
abbrev main_v510 : Ref sig .tc := ⟨.hbm, 550, rfl⟩
abbrev main_cst_11 : Ref sig .tc := ⟨.hbm, 551, rfl⟩
abbrev main_v511 : Ref sig .tc := ⟨.hbm, 552, rfl⟩
abbrev main_v512 : Ref sig .tc := ⟨.hbm, 553, rfl⟩
abbrev main_cst_12 : Ref sig .tc := ⟨.hbm, 554, rfl⟩
abbrev main_v513 : Ref sig .tc := ⟨.hbm, 555, rfl⟩
abbrev main_v514 : Ref sig .tc := ⟨.hbm, 556, rfl⟩
abbrev main_cst_13 : Ref sig .tc := ⟨.hbm, 557, rfl⟩
abbrev main_v515 : Ref sig .tc := ⟨.hbm, 558, rfl⟩
abbrev main_v516 : Ref sig .tc := ⟨.hbm, 559, rfl⟩
abbrev main_v517 : Ref sig .tc := ⟨.hbm, 560, rfl⟩
abbrev main_cst_14 : Ref sig .tc := ⟨.hbm, 561, rfl⟩
abbrev main_v518 : Ref sig .tc := ⟨.hbm, 562, rfl⟩
abbrev main_v519 : Ref sig .tc := ⟨.hbm, 563, rfl⟩
abbrev main_v520 : Ref sig .tc := ⟨.hbm, 564, rfl⟩
abbrev main_cst_15 : Ref sig .tc := ⟨.hbm, 565, rfl⟩
abbrev main_v521 : Ref sig .tc := ⟨.hbm, 566, rfl⟩
abbrev main_v522 : Ref sig .tc := ⟨.hbm, 567, rfl⟩
abbrev main_cst_16 : Ref sig .tc := ⟨.hbm, 568, rfl⟩
abbrev main_v523 : Ref sig .tc := ⟨.hbm, 569, rfl⟩
abbrev main_v524 : Ref sig .tc := ⟨.hbm, 570, rfl⟩
abbrev main_cst_17 : Ref sig .tc := ⟨.hbm, 571, rfl⟩
abbrev main_v525 : Ref sig .tc := ⟨.hbm, 572, rfl⟩
abbrev main_v526 : Ref sig .tc := ⟨.hbm, 573, rfl⟩
abbrev main_v527 : Ref sig .tc := ⟨.hbm, 574, rfl⟩
abbrev main_v528 : Ref sig .tc := ⟨.hbm, 575, rfl⟩
abbrev main_v529 : Ref sig .tc := ⟨.hbm, 576, rfl⟩
abbrev main_v530 : Ref sig .tc := ⟨.hbm, 577, rfl⟩
abbrev main_cst_18 : Ref sig .tc := ⟨.hbm, 578, rfl⟩
abbrev main_v531 : Ref sig .tc := ⟨.hbm, 579, rfl⟩
abbrev main_v532 : Ref sig .tc := ⟨.hbm, 580, rfl⟩
abbrev main_call1_call0_cst : Ref sig .tc := ⟨.hbm, 581, rfl⟩
abbrev main_call1_call0_v0 : Ref sig .tc := ⟨.hbm, 582, rfl⟩
abbrev main_v533 : Ref sig .tc := ⟨.hbm, 583, rfl⟩
abbrev main_v534 : Ref sig .tc := ⟨.hbm, 584, rfl⟩
abbrev main_v535 : Ref sig .tc := ⟨.hbm, 585, rfl⟩
abbrev main_v536 : Ref sig .tc := ⟨.hbm, 586, rfl⟩
abbrev main_v537 : Ref sig .tc := ⟨.hbm, 587, rfl⟩
abbrev main_v538 : Ref sig .tc := ⟨.hbm, 588, rfl⟩
abbrev main_v539 : Ref sig .tc := ⟨.hbm, 589, rfl⟩
abbrev main_v540 : Ref sig .tc := ⟨.hbm, 590, rfl⟩
abbrev main_v541 : Ref sig .tc := ⟨.hbm, 591, rfl⟩
abbrev main_v542 : Ref sig .tc := ⟨.hbm, 592, rfl⟩
abbrev main_c : Ref sig .tc := ⟨.hbm, 593, rfl⟩
abbrev main_v543 : Ref sig .tc := ⟨.hbm, 594, rfl⟩
abbrev main_v544 : Ref sig .tc := ⟨.hbm, 595, rfl⟩
abbrev main_v545 : Ref sig .tc := ⟨.hbm, 596, rfl⟩
abbrev main_c_19 : Ref sig .tc := ⟨.hbm, 597, rfl⟩
abbrev main_v546 : Ref sig .tc := ⟨.hbm, 598, rfl⟩
abbrev main_v547 : Ref sig .tc := ⟨.hbm, 599, rfl⟩
abbrev main_c_20 : Ref sig .tc := ⟨.hbm, 600, rfl⟩
abbrev main_v548 : Ref sig .tc := ⟨.hbm, 601, rfl⟩
abbrev main_v549 : Ref sig .tc := ⟨.hbm, 602, rfl⟩
abbrev main_c_21 : Ref sig .tc := ⟨.hbm, 603, rfl⟩
abbrev main_v550 : Ref sig .tc := ⟨.hbm, 604, rfl⟩
abbrev main_v551 : Ref sig .tc := ⟨.hbm, 605, rfl⟩
abbrev main_c_22 : Ref sig .tc := ⟨.hbm, 606, rfl⟩
abbrev main_v552 : Ref sig .tc := ⟨.hbm, 607, rfl⟩
abbrev main_v553 : Ref sig .tc := ⟨.hbm, 608, rfl⟩
abbrev main_v554 : Ref sig .tc := ⟨.hbm, 609, rfl⟩
abbrev main_v555 : Ref sig .tc := ⟨.hbm, 610, rfl⟩
abbrev main_v556 : Ref sig .tc := ⟨.hbm, 611, rfl⟩
abbrev main_v557 : Ref sig .tc := ⟨.hbm, 612, rfl⟩
abbrev main_v558 : Ref sig .tc := ⟨.hbm, 613, rfl⟩
abbrev main_v559 : Ref sig .tc := ⟨.hbm, 614, rfl⟩
abbrev main_v560 : Ref sig .tc := ⟨.hbm, 615, rfl⟩
abbrev main_v561 : Ref sig .tc := ⟨.hbm, 616, rfl⟩
abbrev main_v562 : Ref sig .tc := ⟨.hbm, 617, rfl⟩
abbrev main_v563 : Ref sig .tc := ⟨.hbm, 618, rfl⟩
abbrev main_v564 : Ref sig .tc := ⟨.hbm, 619, rfl⟩
abbrev main_v565 : Ref sig .tc := ⟨.hbm, 620, rfl⟩
abbrev main_v566 : Ref sig .tc := ⟨.hbm, 621, rfl⟩
abbrev main_v567 : Ref sig .tc := ⟨.hbm, 622, rfl⟩
abbrev main_v568 : Ref sig .tc := ⟨.hbm, 623, rfl⟩
abbrev main_v569 : Ref sig .tc := ⟨.hbm, 624, rfl⟩
abbrev main_v570 : Ref sig .tc := ⟨.hbm, 625, rfl⟩
abbrev main_v571 : Ref sig .tc := ⟨.hbm, 626, rfl⟩
abbrev main_v572 : Ref sig .tc := ⟨.hbm, 627, rfl⟩
abbrev main_v573 : Ref sig .tc := ⟨.hbm, 628, rfl⟩
abbrev main_v574 : Ref sig .tc := ⟨.hbm, 629, rfl⟩
abbrev main_v575 : Ref sig .tc := ⟨.hbm, 630, rfl⟩
abbrev main_v576 : Ref sig .tc := ⟨.hbm, 631, rfl⟩
abbrev main_v577 : Ref sig .tc := ⟨.hbm, 632, rfl⟩
abbrev main_v578 : Ref sig .tc := ⟨.hbm, 633, rfl⟩
abbrev main_v579 : Ref sig .tc := ⟨.hbm, 634, rfl⟩
abbrev main_v580 : Ref sig .tc := ⟨.hbm, 635, rfl⟩
abbrev main_v581 : Ref sig .tc := ⟨.hbm, 636, rfl⟩
abbrev main_v582 : Ref sig .tc := ⟨.hbm, 637, rfl⟩
abbrev main_v583 : Ref sig .tc := ⟨.hbm, 638, rfl⟩
abbrev main_v584 : Ref sig .tc := ⟨.hbm, 639, rfl⟩
abbrev main_v585 : Ref sig .tc := ⟨.hbm, 640, rfl⟩
abbrev main_v586 : Ref sig .tc := ⟨.hbm, 641, rfl⟩
abbrev main_v587 : Ref sig .tc := ⟨.hbm, 642, rfl⟩
abbrev main_v588 : Ref sig .tc := ⟨.hbm, 643, rfl⟩
abbrev main_v589_0 : Ref sig .tc := ⟨.hbm, 644, rfl⟩
abbrev main_v589_1 : Ref sig .tc := ⟨.hbm, 645, rfl⟩
abbrev main_v589_2 : Ref sig .tc := ⟨.hbm, 646, rfl⟩
abbrev main_v590 : Ref sig .tc := ⟨.hbm, 647, rfl⟩
abbrev main_v591 : Ref sig .tc := ⟨.hbm, 648, rfl⟩
abbrev main_v592 : Ref sig .tc := ⟨.hbm, 649, rfl⟩
abbrev main_v593 : Ref sig .tc := ⟨.hbm, 650, rfl⟩
abbrev main_v594 : Ref sig .tc := ⟨.hbm, 651, rfl⟩
abbrev main_v595 : Ref sig .tc := ⟨.hbm, 652, rfl⟩
abbrev main_v596 : Ref sig .tc := ⟨.hbm, 653, rfl⟩
abbrev main_v597 : Ref sig .tc := ⟨.hbm, 654, rfl⟩
abbrev main_v598 : Ref sig .tc := ⟨.hbm, 655, rfl⟩
abbrev main_v599 : Ref sig .tc := ⟨.hbm, 656, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg21_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_scratch7 : Ref sig .tc := ⟨.vmem, 36, rfl⟩
abbrev cc0_scratch8 : Ref sig .tc := ⟨.vmem, 37, rfl⟩
abbrev cc0_scratch9 : Ref sig .tc := ⟨.vmem, 38, rfl⟩
abbrev cc0_scratch10 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem19_1 : DmaSem sig := 26
abbrev cc0_sem20_0 : DmaSem sig := 27
abbrev cc0_sem21_0 : DmaSem sig := 28

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_182 : BitVec 32 := 0#32
  let c64_i32 : BitVec 32 := 64#32
  let v365 : BitVec 32 := Scalar.addi c0_i32_182 c64_i32
  let c1_i32_183 : BitVec 32 := 1#32
  ⟨c0_i32_182, v365, c1_i32_183⟩
def k0_mult1 (k0_t1 : Fin k0_t1_loop.trips) : BitVec 32 :=
  let c63_i32 : BitVec 32 := 63#32
  let c0_i32_182 : BitVec 32 := 0#32
  let c1_i32_183 : BitVec 32 := 1#32
  let arg34 : BitVec 32 := Scf.iv c0_i32_182 c1_i32_183 k0_t1
  let v591 : BitVec 32 := Scalar.subi c63_i32 arg34
  let c8_i32_312 : BitVec 32 := 8#32
  let v592 : BitVec 32 := Scalar.muli v591 c8_i32_312
  v592
def k0_off1 (k0_t1 : Fin k0_t1_loop.trips) : Fin 2 → Nat :=
  let c63_i32 : BitVec 32 := 63#32
  let c0_i32_182 : BitVec 32 := 0#32
  let c1_i32_183 : BitVec 32 := 1#32
  let arg34 : BitVec 32 := Scf.iv c0_i32_182 c1_i32_183 k0_t1
  let v591 : BitVec 32 := Scalar.subi c63_i32 arg34
  let c8_i32_312 : BitVec 32 := 8#32
  let v592 : BitVec 32 := Scalar.muli v591 c8_i32_312
  let v593 : BitVec 32 := v592
  let v594 : Index := Scalar.indexCast v593
  let c0_313 : Index := 0#32
  ![v594.toNat, 0]
def k0_cond2 (i : grid0.Coords) : BitVec 1 :=
  let arg0 : BitVec 32 := BitVec.ofNat 32 (i 0).val
  let c15_i32_310 : BitVec 32 := 15#32
  let v588 : BitVec 1 := Scalar.cmpi .eq arg0 c15_i32_310
  let v589 : BitVec 32 := Scalar.extui v588
  let c0_i32_311 : BitVec 32 := 0#32
  let v590 : BitVec 1 := Scalar.cmpi .ne v589 c0_i32_311
  v590

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1536 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S272x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Reference5Ideal.lean ====
abbrev S1x8192x1536 : Shape := ⟨3, ![1, 8192, 1536]⟩
abbrev S1x4x512 : Shape := ⟨3, ![1, 4, 512]⟩
abbrev S1x512 : Shape := ⟨2, ![1, 512]⟩
abbrev S1x8x64x64 : Shape := ⟨4, ![1, 8, 64, 64]⟩
abbrev S1x4x128x128 : Shape := ⟨4, ![1, 4, 128, 128]⟩
abbrev S1x1024x1024 : Shape := ⟨3, ![1, 1024, 1024]⟩
abbrev S1x8192x1024 : Shape := ⟨3, ![1, 8192, 1024]⟩
abbrev S1x8192x512 : Shape := ⟨3, ![1, 8192, 512]⟩
abbrev S8192x512 : Shape := ⟨2, ![8192, 512]⟩
abbrev S1x512x1024 : Shape := ⟨3, ![1, 512, 1024]⟩
abbrev S512x1024 : Shape := ⟨2, ![512, 1024]⟩
abbrev S4x128x128 : Shape := ⟨3, ![4, 128, 128]⟩
abbrev S512 : Shape := ⟨1, ![512]⟩
abbrev S_ : Shape := ⟨0, ![]⟩
abbrev S16x512 : Shape := ⟨2, ![16, 512]⟩
abbrev S8208x512 : Shape := ⟨2, ![8208, 512]⟩
abbrev S8192x128 : Shape := ⟨2, ![8192, 128]⟩
abbrev S8192x4x128 : Shape := ⟨3, ![8192, 4, 128]⟩
abbrev S8192 : Shape := ⟨1, ![8192]⟩
abbrev S8192x1 : Shape := ⟨2, ![8192, 1]⟩
abbrev S8192x4 : Shape := ⟨2, ![8192, 4]⟩
abbrev S8192x4x1 : Shape := ⟨3, ![8192, 4, 1]⟩
abbrev S4x128x8192 : Shape := ⟨3, ![4, 128, 8192]⟩
abbrev S8192x1024 : Shape := ⟨2, ![8192, 1024]⟩
abbrev S1024x512 : Shape := ⟨2, ![1024, 512]⟩
abbrev S4x8192x128 : Shape := ⟨3, ![4, 8192, 128]⟩

abbrev nBuf : Space → Nat
  | .hbm => 175
  | .vmem => 0
  | .smem => 0
  | _ => 0

abbrev hbmTy0_0 (i : Nat) : BufTy := match i % 128 with
  | 0 => ⟨S1x8192x1536, .f32⟩
  | 1 => ⟨S1x4x512, .f32⟩
  | 2 => ⟨S1x512, .f32⟩
  | 3 => ⟨S1x8x64x64, .f32⟩
  | 4 => ⟨S1x512, .f32⟩
  | 5 => ⟨S1x8x64x64, .f32⟩
  | 6 => ⟨S1x512, .f32⟩
  | 7 => ⟨S1x512, .f32⟩
  | 8 => ⟨S1x4x128x128, .f32⟩
  | 9 => ⟨S1x512, .f32⟩
  | 10 => ⟨S1x512, .f32⟩
  | 11 => ⟨S1x512, .f32⟩
  | 12 => ⟨S1x512, .f32⟩
  | 13 => ⟨S1x1024x1024, .f32⟩
  | 14 => ⟨S1x8192x1024, .f32⟩
  | 15 => ⟨S1x8192x512, .f32⟩
  | 16 => ⟨S8192x512, .f32⟩
  | 17 => ⟨S1x512x1024, .f32⟩
  | 18 => ⟨S512x1024, .f32⟩
  | 19 => ⟨S4x128x128, .f32⟩
  | 20 => ⟨S512, .f32⟩
  | 21 => ⟨S512, .f32⟩
  | 22 => ⟨S_, .f32⟩
  | 23 => ⟨S16x512, .f32⟩
  | 24 => ⟨S8208x512, .f32⟩
  | 25 => ⟨S_, .f32⟩
  | 26 => ⟨S16x512, .f32⟩
  | 27 => ⟨S_, .f32⟩
  | 28 => ⟨S_, .f32⟩
  | 29 => ⟨S8208x512, .f32⟩
  | 30 => ⟨S8192x128, .f32⟩
  | 31 => ⟨S8192x128, .f32⟩
  | 32 => ⟨S8192x128, .f32⟩
  | 33 => ⟨S8192x128, .f32⟩
  | 34 => ⟨S8192x512, .f32⟩
  | 35 => ⟨S8192x512, .f32⟩
  | 36 => ⟨S8192x512, .f32⟩
  | 37 => ⟨S8192x4x128, .f32⟩
  | 38 => ⟨S8192, .i32⟩
  | 39 => ⟨S_, .i32⟩
  | 40 => ⟨S8192, .i32⟩
  | 41 => ⟨S8192, .i32⟩
  | 42 => ⟨S8192x1, .i32⟩
  | 43 => ⟨S_, .i32⟩
  | 44 => ⟨S8192x1, .i32⟩
  | 45 => ⟨S8192x1, .i32⟩
  | 46 => ⟨S_, .i32⟩
  | 47 => ⟨S8192x1, .i32⟩
  | 48 => ⟨S8192x1, .i32⟩
  | 49 => ⟨S_, .i32⟩
  | 50 => ⟨S8192x1, .i32⟩
  | 51 => ⟨S8192x1, .i32⟩
  | 52 => ⟨S_, .i32⟩
  | 53 => ⟨S8192x1, .i32⟩
  | 54 => ⟨S8192x1, .i32⟩
  | 55 => ⟨S8192x4, .i32⟩
  | 56 => ⟨S8192x4, .f32⟩
  | 57 => ⟨S8192x4x1, .f32⟩
  | 58 => ⟨S8192x4x128, .f32⟩
  | 59 => ⟨S8192x4x128, .f32⟩
  | 60 => ⟨S8192x4x128, .f32⟩
  | 61 => ⟨S8192x4x128, .f32⟩
  | 62 => ⟨S4x128x8192, .f32⟩
  | 63 => ⟨S8192x4x128, .f32⟩
  | 64 => ⟨S8192x512, .f32⟩
  | 65 => ⟨S1x512, .f32⟩
  | 66 => ⟨S8192x512, .f32⟩
  | 67 => ⟨S8192x512, .f32⟩
  | 68 => ⟨S1x512, .f32⟩
  | 69 => ⟨S8192x512, .f32⟩
  | 70 => ⟨S8192x512, .f32⟩
  | 71 => ⟨S512, .f32⟩
  | 72 => ⟨S8192x512, .f32⟩
  | 73 => ⟨S_, .f32⟩
  | 74 => ⟨S8192, .f32⟩
  | 75 => ⟨S8192x1, .f32⟩
  | 76 => ⟨S_, .f32⟩
  | 77 => ⟨S8192x1, .f32⟩
  | 78 => ⟨S8192x1, .f32⟩
  | 79 => ⟨S_, .f32⟩
  | 80 => ⟨S8192x1, .f32⟩
  | 81 => ⟨S8192x1, .f32⟩
  | 82 => ⟨S8192x1, .f32⟩
  | 83 => ⟨S8192x1, .f32⟩
  | 84 => ⟨S_, .f32⟩
  | 85 => ⟨S8192x1, .f32⟩
  | 86 => ⟨S8192x1, .f32⟩
  | 87 => ⟨S8192x512, .f32⟩
  | 88 => ⟨S8192x512, .f32⟩
  | 89 => ⟨S1x512, .f32⟩
  | 90 => ⟨S8192x512, .f32⟩
  | 91 => ⟨S8192x512, .f32⟩
  | 92 => ⟨S8192x1024, .f32⟩
  | 93 => ⟨S8192x1024, .f32⟩
  | 94 => ⟨S1024x512, .f32⟩
  | 95 => ⟨S512x1024, .f32⟩
  | 96 => ⟨S8192x512, .f32⟩
  | 97 => ⟨S8192x512, .f32⟩
  | 98 => ⟨S_, .f32⟩
  | 99 => ⟨S512, .f32⟩
  | 100 => ⟨S1x512, .f32⟩
  | 101 => ⟨S8192x512, .f32⟩
  | 102 => ⟨S8192x512, .f32⟩
  | 103 => ⟨S_, .f32⟩
  | 104 => ⟨S512, .f32⟩
  | 105 => ⟨S8192x512, .f32⟩
  | 106 => ⟨S_, .f32⟩
  | 107 => ⟨S8192, .f32⟩
  | 108 => ⟨S8192x1, .f32⟩
  | 109 => ⟨S8192x512, .f32⟩
  | 110 => ⟨S8192x512, .f32⟩
  | 111 => ⟨S8192x1, .f32⟩
  | 112 => ⟨S_, .f32⟩
  | 113 => ⟨S8192x1, .f32⟩
  | 114 => ⟨S8192x1, .f32⟩
  | 115 => ⟨S_, .f32⟩
  | 116 => ⟨S8192, .f32⟩
  | 117 => ⟨S8192x512, .f32⟩
  | 118 => ⟨S8192x512, .f32⟩
  | 119 => ⟨S8192x512, .f32⟩
  | 120 => ⟨S8192x512, .f32⟩
  | 121 => ⟨S8192x512, .f32⟩
  | 122 => ⟨S1x512, .f32⟩
  | 123 => ⟨S8192x512, .f32⟩
  | 124 => ⟨S_, .f32⟩
  | 125 => ⟨S512, .f32⟩
  | 126 => ⟨S1x512, .f32⟩
  | 127 => ⟨S8192x512, .f32⟩
  | _ => ⟨S1x8192x1536, .f32⟩

abbrev hbmTy0_1 (i : Nat) : BufTy := match i % 128 with
  | 0 => ⟨S8192x512, .f32⟩
  | 1 => ⟨S_, .f32⟩
  | 2 => ⟨S512, .f32⟩
  | 3 => ⟨S_, .f32⟩
  | 4 => ⟨S512, .f32⟩
  | 5 => ⟨S1x512, .f32⟩
  | 6 => ⟨S_, .f32⟩
  | 7 => ⟨S512, .f32⟩
  | 8 => ⟨S8192x4x128, .f32⟩
  | 9 => ⟨S4x128x8192, .f32⟩
  | 10 => ⟨S4x8192x128, .f32⟩
  | 11 => ⟨S8192x4x128, .f32⟩
  | 12 => ⟨S4x128x128, .f32⟩
  | 13 => ⟨S4x128x128, .f32⟩
  | 14 => ⟨S8192x4x128, .f32⟩
  | 15 => ⟨S8192x512, .f32⟩
  | 16 => ⟨S8192x4x128, .f32⟩
  | 17 => ⟨S8192x4x128, .f32⟩
  | 18 => ⟨S8192x512, .f32⟩
  | 19 => ⟨S8192x512, .f32⟩
  | 20 => ⟨S8192x128, .f32⟩
  | 21 => ⟨S8192x128, .f32⟩
  | 22 => ⟨S8192x128, .f32⟩
  | 23 => ⟨S8192x128, .f32⟩
  | 24 => ⟨S_, .f32⟩
  | 25 => ⟨S8208x512, .f32⟩
  | 26 => ⟨S_, .f32⟩
  | 27 => ⟨S8208x512, .f32⟩
  | 28 => ⟨S8208x512, .f32⟩
  | 29 => ⟨S_, .f32⟩
  | 30 => ⟨S8208x512, .f32⟩
  | 31 => ⟨S8208x512, .f32⟩
  | 32 => ⟨S_, .f32⟩
  | 33 => ⟨S8208x512, .f32⟩
  | 34 => ⟨S8208x512, .f32⟩
  | 35 => ⟨S_, .f32⟩
  | 36 => ⟨S8208x512, .f32⟩
  | 37 => ⟨S8208x512, .f32⟩
  | 38 => ⟨S_, .f32⟩
  | 39 => ⟨S_, .f32⟩
  | 40 => ⟨S8208x512, .f32⟩
  | 41 => ⟨S16x512, .f32⟩
  | 42 => ⟨S8192x512, .f32⟩
  | 43 => ⟨S8192x512, .f32⟩
  | 44 => ⟨S1x512, .f32⟩
  | 45 => ⟨S1x512, .f32⟩
  | 46 => ⟨S1x4x128x128, .f32⟩
  | _ => ⟨S1x8192x1536, .f32⟩

abbrev hbmTy (i : Nat) : BufTy := match i / 128 with
  | 0 => hbmTy0_0 i
  | 1 => hbmTy0_1 i
  | _ => ⟨S1x8192x1536, .f32⟩

abbrev bufTy : (tb : Table) → Fin (tcTables nBuf tb) → BufTy
  | .hbm, ⟨i, _⟩ => hbmTy i
  | _, _ => ⟨S1x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_call0_call0_cst : Ref sig .tc := ⟨.hbm, 27, rfl⟩
abbrev main_call0_call0_v0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_1 : Ref sig .tc := ⟨.hbm, 43, rfl⟩
abbrev main_v23 : Ref sig .tc := ⟨.hbm, 44, rfl⟩
abbrev main_v24 : Ref sig .tc := ⟨.hbm, 45, rfl⟩
abbrev main_c_2 : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_5 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_8 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_9 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_10 : Ref sig .tc := ⟨.hbm, 103, rfl⟩
abbrev main_v74 : Ref sig .tc := ⟨.hbm, 104, rfl⟩
abbrev main_v75 : Ref sig .tc := ⟨.hbm, 105, rfl⟩
abbrev main_cst_11 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_12 : Ref sig .tc := ⟨.hbm, 112, rfl⟩
abbrev main_v81 : Ref sig .tc := ⟨.hbm, 113, rfl⟩
abbrev main_v82 : Ref sig .tc := ⟨.hbm, 114, rfl⟩
abbrev main_cst_13 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_14 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_15 : Ref sig .tc := ⟨.hbm, 129, rfl⟩
abbrev main_v95 : Ref sig .tc := ⟨.hbm, 130, rfl⟩
abbrev main_cst_16 : Ref sig .tc := ⟨.hbm, 131, rfl⟩
abbrev main_v96 : Ref sig .tc := ⟨.hbm, 132, rfl⟩
abbrev main_v97 : Ref sig .tc := ⟨.hbm, 133, rfl⟩
abbrev main_cst_17 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_18 : Ref sig .tc := ⟨.hbm, 152, rfl⟩
abbrev main_v115 : Ref sig .tc := ⟨.hbm, 153, rfl⟩
abbrev main_cst_19 : Ref sig .tc := ⟨.hbm, 154, rfl⟩
abbrev main_v116 : Ref sig .tc := ⟨.hbm, 155, rfl⟩
abbrev main_v117 : Ref sig .tc := ⟨.hbm, 156, rfl⟩
abbrev main_cst_20 : Ref sig .tc := ⟨.hbm, 157, rfl⟩
abbrev main_v118 : Ref sig .tc := ⟨.hbm, 158, rfl⟩
abbrev main_v119 : Ref sig .tc := ⟨.hbm, 159, rfl⟩
abbrev main_cst_21 : Ref sig .tc := ⟨.hbm, 160, rfl⟩
abbrev main_v120 : Ref sig .tc := ⟨.hbm, 161, rfl⟩
abbrev main_v121 : Ref sig .tc := ⟨.hbm, 162, rfl⟩
abbrev main_cst_22 : Ref sig .tc := ⟨.hbm, 163, rfl⟩
abbrev main_v122 : Ref sig .tc := ⟨.hbm, 164, rfl⟩
abbrev main_v123 : Ref sig .tc := ⟨.hbm, 165, rfl⟩
abbrev main_call1_call0_cst : Ref sig .tc := ⟨.hbm, 166, rfl⟩
abbrev main_call1_call0_v0 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1x1024x2816 : Shape := ⟨3, ![1, 1024, 2816]⟩
abbrev S1024x2816 : Shape := ⟨2, ![1024, 2816]⟩
abbrev S2816x1024 : Shape := ⟨2, ![2816, 1024]⟩
abbrev S4x704x1024 : Shape := ⟨3, ![4, 704, 1024]⟩
abbrev S4x8192x704 : Shape := ⟨3, ![4, 8192, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩
abbrev S8192x4x704 : Shape := ⟨3, ![8192, 4, 704]⟩
abbrev S8192x2816 : Shape := ⟨2, ![8192, 2816]⟩

abbrev nBuf : Space → Nat
  | .hbm => 26
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1024x2816, .f32⟩
  | .hbm, ⟨5, _⟩ => ⟨S2816x1024, .f32⟩
  | .hbm, ⟨6, _⟩ => ⟨S4x704x1024, .f32⟩
  | .hbm, ⟨7, _⟩ => ⟨S4x704x1024, .bf16⟩
  | .hbm, ⟨8, _⟩ => ⟨S1024x2816, .f32⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S8192x1024, .bf16⟩
  | .hbm, ⟨13, _⟩ => ⟨S4x8192x704, .bf16⟩
  | .hbm, ⟨14, _⟩ => ⟨S4x8192x704, .bf16⟩
  | .hbm, ⟨15, _⟩ => ⟨S4x8192x704, .bf16⟩
  | .hbm, ⟨16, _⟩ => ⟨S8192x1024, .f32⟩
  | .hbm, ⟨17, _⟩ => ⟨S8192x4x704, .bf16⟩
  | .hbm, ⟨18, _⟩ => ⟨S8192x2816, .bf16⟩
  | .hbm, ⟨19, _⟩ => ⟨S8192x2816, .f32⟩
  | .hbm, ⟨20, _⟩ => ⟨S8192x4x704, .bf16⟩
  | .hbm, ⟨21, _⟩ => ⟨S8192x2816, .bf16⟩
  | .hbm, ⟨22, _⟩ => ⟨S8192x2816, .f32⟩
  | .hbm, ⟨23, _⟩ => ⟨S8192x4x704, .bf16⟩
  | .hbm, ⟨24, _⟩ => ⟨S8192x2816, .bf16⟩
  | .hbm, ⟨25, _⟩ => ⟨S8192x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S512x1024, .bf16⟩
  | .local _ .vmem, ⟨6, _⟩ => ⟨S512x1024, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S8192x1024 : Shape := ⟨2, ![8192, 1024]⟩
abbrev S1x1024 : Shape := ⟨2, ![1, 1024]⟩
abbrev S1x1024x2816 : Shape := ⟨3, ![1, 1024, 2816]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1024x2816, .f32⟩
  | .hbm, ⟨22, _⟩ => ⟨S8192x2816, .f32⟩
  | .hbm, ⟨23, _⟩ => ⟨S1024x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S1x1024x1536 : Shape := ⟨3, ![1, 1024, 1536]⟩
abbrev S1024x1536 : Shape := ⟨2, ![1024, 1536]⟩
abbrev S8192x1536 : Shape := ⟨2, ![8192, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1536, .f32⟩
  | .hbm, ⟨3, _⟩ => ⟨S1024x1536, .f32⟩
  | .hbm, ⟨4, _⟩ => ⟨S1024x1536, .bf16⟩
  | .hbm, ⟨5, _⟩ => ⟨S8192x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x1536, .f32⟩
  | .local _ .vmem, ⟨5, _⟩ => ⟨S512x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8192x1024 : Shape := ⟨2, ![8192, 1024]⟩
abbrev S1x1024 : Shape := ⟨2, ![1, 1024]⟩
abbrev S1x1024x1536 : Shape := ⟨3, ![1, 1024, 1536]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1536 : Shape := ⟨2, ![1024, 1536]⟩
abbrev S8192x1536 : Shape := ⟨2, ![8192, 1536]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1536, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x1536, .f32⟩
  | .hbm, ⟨21, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel8.lean ====
abbrev S1x8192x1536 : Shape := ⟨3, ![1, 8192, 1536]⟩
abbrev S1x8192x1024 : Shape := ⟨3, ![1, 8192, 1024]⟩
abbrev S1x4x512 : Shape := ⟨3, ![1, 4, 512]⟩
abbrev S1x512 : Shape := ⟨2, ![1, 512]⟩
abbrev S1x8x64x64 : Shape := ⟨4, ![1, 8, 64, 64]⟩
abbrev S1x4x128x128 : Shape := ⟨4, ![1, 4, 128, 128]⟩
abbrev S1x1024x1024 : Shape := ⟨3, ![1, 1024, 1024]⟩
abbrev S4x512 : Shape := ⟨2, ![4, 512]⟩
abbrev S8x64x64 : Shape := ⟨3, ![8, 64, 64]⟩
abbrev S4x128x128 : Shape := ⟨3, ![4, 128, 128]⟩
abbrev S8192x1536 : Shape := ⟨2, ![8192, 1536]⟩
abbrev S8192x1024 : Shape := ⟨2, ![8192, 1024]⟩
abbrev S1024x1024 : Shape := ⟨2, ![1024, 1024]⟩
abbrev S8192x512 : Shape := ⟨2, ![8192, 512]⟩
abbrev S4x8192x512 : Shape := ⟨3, ![4, 8192, 512]⟩
abbrev S512x1536 : Shape := ⟨2, ![512, 1536]⟩
abbrev S16x1536 : Shape := ⟨2, ![16, 1536]⟩
abbrev S512x1024 : Shape := ⟨2, ![512, 1024]⟩
abbrev S512x512 : Shape := ⟨2, ![512, 512]⟩
abbrev S4x512x512 : Shape := ⟨3, ![4, 512, 512]⟩
abbrev S2x256x512 : Shape := ⟨3, ![2, 256, 512]⟩
abbrev S8x512 : Shape := ⟨2, ![8, 512]⟩
abbrev S64x64 : Shape := ⟨2, ![64, 64]⟩
abbrev S1x64x64 : Shape := ⟨3, ![1, 64, 64]⟩
abbrev S64x256 : Shape := ⟨2, ![64, 256]⟩
abbrev S1x64x256 : Shape := ⟨3, ![1, 64, 256]⟩
abbrev S16x512 : Shape := ⟨2, ![16, 512]⟩
abbrev S528x512 : Shape := ⟨2, ![528, 512]⟩
abbrev S1x512x512 : Shape := ⟨3, ![1, 512, 512]⟩
abbrev S512x256 : Shape := ⟨2, ![512, 256]⟩
abbrev S1x256x512 : Shape := ⟨3, ![1, 256, 512]⟩
abbrev S256x512 : Shape := ⟨2, ![256, 512]⟩
abbrev S16x128 : Shape := ⟨2, ![16, 128]⟩
abbrev S512x128 : Shape := ⟨2, ![512, 128]⟩
abbrev S528x128 : Shape := ⟨2, ![528, 128]⟩
abbrev S496x128 : Shape := ⟨2, ![496, 128]⟩
abbrev S1x512x128 : Shape := ⟨3, ![1, 512, 128]⟩
abbrev S1x128x128 : Shape := ⟨3, ![1, 128, 128]⟩
abbrev S128x128 : Shape := ⟨2, ![128, 128]⟩
abbrev S64x8x512 : Shape := ⟨3, ![64, 8, 512]⟩
abbrev S512 : Shape := ⟨1, ![512]⟩
abbrev S512x1 : Shape := ⟨2, ![512, 1]⟩
abbrev S1x8192x512 : Shape := ⟨3, ![1, 8192, 512]⟩

abbrev nBuf : Space → Nat
  | .hbm => 41
  | .vmem => 31
  | .smem => 0
  | _ => 0

abbrev bufTy : (tb : Table) → Fin (tcTables nBuf tb) → BufTy
  | .hbm, ⟨0, _⟩ => ⟨S1x8192x1536, .f32⟩
  | .hbm, ⟨1, _⟩ => ⟨S1x8192x1024, .f32⟩
  | .hbm, ⟨2, _⟩ => ⟨S1x4x512, .f32⟩
  | .hbm, ⟨3, _⟩ => ⟨S1x512, .f32⟩
  | .hbm, ⟨4, _⟩ => ⟨S1x8x64x64, .f32⟩
  | .hbm, ⟨5, _⟩ => ⟨S1x512, .f32⟩
  | .hbm, ⟨6, _⟩ => ⟨S1x8x64x64, .f32⟩
  | .hbm, ⟨7, _⟩ => ⟨S1x512, .f32⟩
  | .hbm, ⟨8, _⟩ => ⟨S1x512, .f32⟩
  | .hbm, ⟨9, _⟩ => ⟨S1x4x128x128, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x1024x1024, .f32⟩
  | .hbm, ⟨15, _⟩ => ⟨S4x512, .f32⟩
  | .hbm, ⟨16, _⟩ => ⟨S8x64x64, .f32⟩
  | .hbm, ⟨17, _⟩ => ⟨S8x64x64, .f32⟩
  | .hbm, ⟨18, _⟩ => ⟨S4x128x128, .f32⟩
  | .hbm, ⟨19, _⟩ => ⟨S8192x1536, .f32⟩
  | .hbm, ⟨20, _⟩ => ⟨S8192x1024, .f32⟩
  | .hbm, ⟨21, _⟩ => ⟨S1024x1024, .f32⟩
  | .hbm, ⟨22, _⟩ => ⟨S1024x1024, .bf16⟩
  | .hbm, ⟨23, _⟩ => ⟨S8192x512, .f32⟩
  | .hbm, ⟨24, _⟩ => ⟨S8192x1024, .f32⟩
  | .hbm, ⟨25, _⟩ => ⟨S4x8192x512, .f32⟩
  | .hbm, ⟨26, _⟩ => ⟨S4x8192x512, .bf16⟩
  | .hbm, ⟨27, _⟩ => ⟨S1x8192x512, .f32⟩
  | .hbm, ⟨28, _⟩ => ⟨S8192x512, .f32⟩
  | .hbm, ⟨29, _⟩ => ⟨S1x8192x512, .f32⟩
  | .hbm, ⟨30, _⟩ => ⟨S8192x512, .f32⟩
  | .hbm, ⟨31, _⟩ => ⟨S1x8192x512, .bf16⟩
  | .hbm, ⟨32, _⟩ => ⟨S8192x512, .bf16⟩
  | .hbm, ⟨33, _⟩ => ⟨S8192x512, .f32⟩
  | .hbm, ⟨34, _⟩ => ⟨S1x8192x512, .bf16⟩
  | .hbm, ⟨35, _⟩ => ⟨S8192x512, .bf16⟩
  | .hbm, ⟨36, _⟩ => ⟨S8192x512, .f32⟩
  | .hbm, ⟨37, _⟩ => ⟨S1x8192x512, .f32⟩
  | .hbm, ⟨38, _⟩ => ⟨S1x8192x512, .f32⟩
  | .hbm, ⟨39, _⟩ => ⟨S1x8192x512, .f32⟩
  | .hbm, ⟨40, _⟩ => ⟨S1x8192x512, .f32⟩
  | .local _ .vmem, ⟨0, _⟩ => ⟨S512x1536, .f32⟩
  | .local _ .vmem, ⟨1, _⟩ => ⟨S512x1536, .f32⟩
  | .local _ .vmem, ⟨2, _⟩ => ⟨S16x1536, .f32⟩
  | .local _ .vmem, ⟨3, _⟩ => ⟨S16x1536, .f32⟩
  | .local _ .vmem, ⟨4, _⟩ => ⟨S512x1024, .f32⟩
  | .local _ .vmem, ⟨5, _⟩ => ⟨S512x1024, .f32⟩
  | .local _ .vmem, ⟨6, _⟩ => ⟨S4x512, .f32⟩
  | .local _ .vmem, ⟨7, _⟩ => ⟨S1x512, .f32⟩
  | .local _ .vmem, ⟨8, _⟩ => ⟨S8x64x64, .f32⟩
  | .local _ .vmem, ⟨9, _⟩ => ⟨S8x64x64, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S4x128x128, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1024x1024, .bf16⟩
  | .local _ .vmem, ⟨19, _⟩ => ⟨S512x512, .f32⟩
  | .local _ .vmem, ⟨20, _⟩ => ⟨S512x512, .f32⟩
  | .local _ .vmem, ⟨21, _⟩ => ⟨S512x1024, .f32⟩
  | .local _ .vmem, ⟨22, _⟩ => ⟨S512x1024, .f32⟩
  | .local _ .vmem, ⟨23, _⟩ => ⟨S4x512x512, .f32⟩
  | .local _ .vmem, ⟨24, _⟩ => ⟨S4x512x512, .f32⟩
  | .local _ .vmem, ⟨25, _⟩ => ⟨S4x512x512, .bf16⟩
  | .local _ .vmem, ⟨26, _⟩ => ⟨S4x512x512, .bf16⟩
  | .local _ .vmem, ⟨27, _⟩ => ⟨S2x256x512, .bf16⟩
  | .local _ .vmem, ⟨28, _⟩ => ⟨S512x512, .f32⟩
  | .local _ .vmem, ⟨29, _⟩ => ⟨S512x512, .f32⟩
  | .local _ .vmem, ⟨30, _⟩ => ⟨S8x512, .f32⟩
  | _, _ => ⟨S1x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_157 : BitVec 32 := 0#32
  let c64_i32 : BitVec 32 := 64#32
  let v374 : BitVec 32 := Scalar.addi c0_i32_157 c64_i32
  let c1_i32_158 : BitVec 32 := 1#32
  ⟨c0_i32_157, v374, c1_i32_158⟩
def k0_mult1 (k0_t1 : Fin k0_t1_loop.trips) : BitVec 32 :=
  let c0_i32_157 : BitVec 32 := 0#32
  let c1_i32_158 : BitVec 32 := 1#32
  let arg25 : BitVec 32 := Scf.iv c0_i32_157 c1_i32_158 k0_t1
  let c8_i32_184 : BitVec 32 := 8#32
  let v419 : BitVec 32 := Scalar.muli arg25 c8_i32_184
  v419
def k0_off1 (k0_t1 : Fin k0_t1_loop.trips) : Fin 2 → Nat :=
  let c0_i32_157 : BitVec 32 := 0#32
  let c1_i32_158 : BitVec 32 := 1#32
  let arg25 : BitVec 32 := Scf.iv c0_i32_157 c1_i32_158 k0_t1
  let c8_i32_184 : BitVec 32 := 8#32
  let v419 : BitVec 32 := Scalar.muli arg25 c8_i32_184
  let v420 : BitVec 32 := v419
  let v421 : Index := Scalar.indexCast v420
  let c0_185 : Index := 0#32
  ![v421.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference8Ideal.lean ====
abbrev S1x8192x1536 : Shape := ⟨3, ![1, 8192, 1536]⟩
abbrev S1x8192x1024 : Shape := ⟨3, ![1, 8192, 1024]⟩
abbrev S1x4x512 : Shape := ⟨3, ![1, 4, 512]⟩
abbrev S1x512 : Shape := ⟨2, ![1, 512]⟩
abbrev S1x8x64x64 : Shape := ⟨4, ![1, 8, 64, 64]⟩
abbrev S1x4x128x128 : Shape := ⟨4, ![1, 4, 128, 128]⟩
abbrev S1x1024x1024 : Shape := ⟨3, ![1, 1024, 1024]⟩
abbrev S1x8192x512 : Shape := ⟨3, ![1, 8192, 512]⟩
abbrev S4x512 : Shape := ⟨2, ![4, 512]⟩
abbrev S512 : Shape := ⟨1, ![512]⟩
abbrev S_ : Shape := ⟨0, ![]⟩
abbrev S1x8195x512 : Shape := ⟨3, ![1, 8195, 512]⟩
abbrev S1x1x512 : Shape := ⟨3, ![1, 1, 512]⟩
abbrev S1x8192x8x64 : Shape := ⟨4, ![1, 8192, 8, 64]⟩
abbrev S8x64x64 : Shape := ⟨3, ![8, 64, 64]⟩
abbrev S8x64x1x8192 : Shape := ⟨4, ![8, 64, 1, 8192]⟩

abbrev nBuf : Space → Nat
  | .hbm => 102
  | .vmem => 0
  | .smem => 0
  | _ => 0

abbrev bufTy : (tb : Table) → Fin (tcTables nBuf tb) → BufTy
  | .hbm, ⟨0, _⟩ => ⟨S1x8192x1536, .f32⟩
  | .hbm, ⟨1, _⟩ => ⟨S1x8192x1024, .f32⟩
  | .hbm, ⟨2, _⟩ => ⟨S1x4x512, .f32⟩
  | .hbm, ⟨3, _⟩ => ⟨S1x512, .f32⟩
  | .hbm, ⟨4, _⟩ => ⟨S1x8x64x64, .f32⟩
  | .hbm, ⟨5, _⟩ => ⟨S1x512, .f32⟩
  | .hbm, ⟨6, _⟩ => ⟨S1x8x64x64, .f32⟩
  | .hbm, ⟨7, _⟩ => ⟨S1x512, .f32⟩
  | .hbm, ⟨8, _⟩ => ⟨S1x512, .f32⟩
  | .hbm, ⟨9, _⟩ => ⟨S1x4x128x128, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x1024x1024, .f32⟩
  | .hbm, ⟨15, _⟩ => ⟨S1x8192x512, .f32⟩
  | .hbm, ⟨16, _⟩ => ⟨S4x512, .f32⟩
  | .hbm, ⟨17, _⟩ => ⟨S512, .f32⟩
  | .hbm, ⟨18, _⟩ => ⟨S_, .i32⟩
  | .hbm, ⟨19, _⟩ => ⟨S_, .f32⟩
  | .hbm, ⟨20, _⟩ => ⟨S1x8195x512, .f32⟩
  | .hbm, ⟨21, _⟩ => ⟨S1x8192x512, .f32⟩
  | .hbm, ⟨22, _⟩ => ⟨S1x512, .f32⟩
  | .hbm, ⟨23, _⟩ => ⟨S512, .f32⟩
  | .hbm, ⟨24, _⟩ => ⟨S1x1x512, .f32⟩
  | .hbm, ⟨25, _⟩ => ⟨S1x8192x512, .f32⟩
  | .hbm, ⟨26, _⟩ => ⟨S1x8192x512, .f32⟩
  | .hbm, ⟨27, _⟩ => ⟨S1x1x512, .f32⟩
  | .hbm, ⟨28, _⟩ => ⟨S1x8192x512, .f32⟩
  | .hbm, ⟨29, _⟩ => ⟨S1x8192x512, .f32⟩
  | .hbm, ⟨30, _⟩ => ⟨S1x8192x512, .f32⟩
  | .hbm, ⟨31, _⟩ => ⟨S1x512, .f32⟩
  | .hbm, ⟨32, _⟩ => ⟨S512, .f32⟩
  | .hbm, ⟨33, _⟩ => ⟨S1x1x512, .f32⟩
  | .hbm, ⟨34, _⟩ => ⟨S1x8192x512, .f32⟩
  | .hbm, ⟨35, _⟩ => ⟨S1x8192x512, .f32⟩
  | .hbm, ⟨36, _⟩ => ⟨S1x8192x512, .f32⟩
  | .hbm, ⟨37, _⟩ => ⟨S1x8192x512, .f32⟩
  | .hbm, ⟨38, _⟩ => ⟨S1x512, .f32⟩
  | .hbm, ⟨39, _⟩ => ⟨S512, .f32⟩
  | .hbm, ⟨40, _⟩ => ⟨S1x1x512, .f32⟩
  | .hbm, ⟨41, _⟩ => ⟨S1x8192x512, .f32⟩
  | .hbm, ⟨42, _⟩ => ⟨S1x8192x512, .f32⟩
  | .hbm, ⟨43, _⟩ => ⟨S1x8192x512, .f32⟩
  | .hbm, ⟨44, _⟩ => ⟨S1x8192x512, .f32⟩
  | .hbm, ⟨45, _⟩ => ⟨S1x512, .f32⟩
  | .hbm, ⟨46, _⟩ => ⟨S512, .f32⟩
  | .hbm, ⟨47, _⟩ => ⟨S1x1x512, .f32⟩
  | .hbm, ⟨48, _⟩ => ⟨S1x8192x512, .f32⟩
  | .hbm, ⟨49, _⟩ => ⟨S1x8192x512, .f32⟩
  | .hbm, ⟨50, _⟩ => ⟨S1x8192x512, .f32⟩
  | .hbm, ⟨51, _⟩ => ⟨S1x8192x8x64, .f32⟩
  | .hbm, ⟨52, _⟩ => ⟨S8x64x64, .f32⟩
  | .hbm, ⟨53, _⟩ => ⟨S8x64x1x8192, .f32⟩
  | .hbm, ⟨54, _⟩ => ⟨S1x8192x8x64, .f32⟩
  | .hbm, ⟨55, _⟩ => ⟨S1x8192x512, .f32⟩
  | .hbm, ⟨56, _⟩ => ⟨S512, .f32⟩
  | .hbm, ⟨57, _⟩ => ⟨S1x1x512, .f32⟩
  | .hbm, ⟨58, _⟩ => ⟨S1x8192x512, .f32⟩
  | .hbm, ⟨59, _⟩ => ⟨S1x8192x512, .f32⟩
  | .hbm, ⟨60, _⟩ => ⟨S1x8192x512, .f32⟩
  | .hbm, ⟨61, _⟩ => ⟨S1x8192x512, .f32⟩
  | .hbm, ⟨62, _⟩ => ⟨S_, .f32⟩
  | .hbm, ⟨63, _⟩ => ⟨S1x8192x512, .f32⟩
  | .hbm, ⟨64, _⟩ => ⟨S1x8192x512, .f32⟩
  | .hbm, ⟨65, _⟩ => ⟨S_, .f32⟩
  | .hbm, ⟨66, _⟩ => ⟨S1x8192x512, .f32⟩
  | .hbm, ⟨67, _⟩ => ⟨S1x8192x512, .f32⟩
  | .hbm, ⟨68, _⟩ => ⟨S8x64x64, .f32⟩
  | .hbm, ⟨69, _⟩ => ⟨S8x64x1x8192, .f32⟩
  | .hbm, ⟨70, _⟩ => ⟨S1x8192x8x64, .f32⟩
  | .hbm, ⟨71, _⟩ => ⟨S1x8192x512, .f32⟩
  | .hbm, ⟨72, _⟩ => ⟨S512, .f32⟩
  | .hbm, ⟨73, _⟩ => ⟨S1x1x512, .f32⟩
  | .hbm, ⟨74, _⟩ => ⟨S1x8192x512, .f32⟩
  | .hbm, ⟨75, _⟩ => ⟨S1x8192x512, .f32⟩
  | .hbm, ⟨76, _⟩ => ⟨S1x8192x512, .f32⟩
  | .hbm, ⟨77, _⟩ => ⟨S1x8192x512, .f32⟩
  | .hbm, ⟨78, _⟩ => ⟨S_, .f32⟩
  | .hbm, ⟨79, _⟩ => ⟨S1x8192x512, .f32⟩
  | .hbm, ⟨80, _⟩ => ⟨S1x8192x512, .f32⟩
  | .hbm, ⟨81, _⟩ => ⟨S_, .f32⟩
  | .hbm, ⟨82, _⟩ => ⟨S1x8192x512, .f32⟩
  | .hbm, ⟨83, _⟩ => ⟨S1x8192x512, .f32⟩
  | .hbm, ⟨84, _⟩ => ⟨S1x8192x512, .f32⟩
  | .hbm, ⟨85, _⟩ => ⟨S1x8192x512, .f32⟩
  | .hbm, ⟨86, _⟩ => ⟨S1x8192x512, .f32⟩
  | .hbm, ⟨87, _⟩ => ⟨S_, .f32⟩
  | .hbm, ⟨88, _⟩ => ⟨S1x8192x512, .f32⟩
  | .hbm, ⟨89, _⟩ => ⟨S1x8192x512, .f32⟩
  | .hbm, ⟨90, _⟩ => ⟨S1x8192x512, .f32⟩
  | .hbm, ⟨91, _⟩ => ⟨S_, .f32⟩
  | .hbm, ⟨92, _⟩ => ⟨S1x8192x512, .f32⟩
  | .hbm, ⟨93, _⟩ => ⟨S1x8192x512, .f32⟩
  | .hbm, ⟨94, _⟩ => ⟨S1x8192x512, .f32⟩
  | .hbm, ⟨95, _⟩ => ⟨S_, .f32⟩
  | .hbm, ⟨96, _⟩ => ⟨S1x8192x512, .f32⟩
  | .hbm, ⟨97, _⟩ => ⟨S1x8192x512, .f32⟩
  | .hbm, ⟨98, _⟩ => ⟨S_, .f32⟩
  | .hbm, ⟨99, _⟩ => ⟨S1x8192x512, .f32⟩
  | .hbm, ⟨100, _⟩ => ⟨S1x8192x512, .f32⟩
  | .hbm, ⟨101, _⟩ => ⟨S1x8192x512, .f32⟩
  | _, _ => ⟨S1x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst : Ref sig .tc := ⟨.hbm, 62, rfl⟩
abbrev main_v45 : Ref sig .tc := ⟨.hbm, 63, rfl⟩
abbrev main_v46 : Ref sig .tc := ⟨.hbm, 64, rfl⟩
abbrev main_cst_0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_1 : Ref sig .tc := ⟨.hbm, 78, rfl⟩
abbrev main_v59 : Ref sig .tc := ⟨.hbm, 79, rfl⟩
abbrev main_v60 : Ref sig .tc := ⟨.hbm, 80, rfl⟩
abbrev main_cst_2 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_3 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_4 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_5 : Ref sig .tc := ⟨.hbm, 95, rfl⟩
abbrev main_v72 : Ref sig .tc := ⟨.hbm, 96, rfl⟩
abbrev main_v73 : Ref sig .tc := ⟨.hbm, 97, rfl⟩
abbrev main_cst_6 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]
-- ==== Kernel9.lean ====
abbrev S8192x1024 : Shape := ⟨2, ![8192, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S4x704x1024 : Shape := ⟨3, ![4, 704, 1024]⟩
abbrev S2048x1024 : Shape := ⟨2, ![2048, 1024]⟩
abbrev S1x2048x704 : Shape := ⟨3, ![1, 2048, 704]⟩
abbrev S1x704x1024 : Shape := ⟨3, ![1, 704, 1024]⟩
abbrev S704x1024 : Shape := ⟨2, ![704, 1024]⟩
abbrev S2048x704 : Shape := ⟨2, ![2048, 704]⟩
abbrev S1x2816x1024 : Shape := ⟨3, ![1, 2816, 1024]⟩
abbrev S1x1024x2816 : Shape := ⟨3, ![1, 1024, 2816]⟩

abbrev nBuf : Space → Nat
  | .hbm => 24
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x1024, .bf16⟩
  | .hbm, ⟨6, _⟩ => ⟨S8192x1024, .bf16⟩
  | .hbm, ⟨7, _⟩ => ⟨S8192x4x704, .f32⟩
  | .hbm, ⟨8, _⟩ => ⟨S4x8192x704, .f32⟩
  | .hbm, ⟨9, _⟩ => ⟨S4x8192x704, .bf16⟩
  | .hbm, ⟨10, _⟩ => ⟨S8192x4x704, .f32⟩
  | .hbm, ⟨11, _⟩ => ⟨S4x8192x704, .f32⟩
  | .hbm, ⟨12, _⟩ => ⟨S4x8192x704, .bf16⟩
  | .hbm, ⟨13, _⟩ => ⟨S8192x4x704, .f32⟩
  | .hbm, ⟨14, _⟩ => ⟨S4x8192x704, .f32⟩
  | .hbm, ⟨15, _⟩ => ⟨S4x8192x704, .bf16⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S1x2816x1024, .f32⟩
  | .hbm, ⟨20, _⟩ => ⟨S1x1024x2816, .f32⟩
  | .hbm, ⟨21, _⟩ => ⟨S1x2816x1024, .f32⟩
  | .hbm, ⟨22, _⟩ => ⟨S1x1024x2816, .f32⟩
  | .hbm, ⟨23, _⟩ => ⟨S1x2816x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x704x1024, .f32⟩
  | .local _ .vmem, ⟨11, _⟩ => ⟨S1x704x1024, .f32⟩
  | .local _ .vmem, ⟨12, _⟩ => ⟨S1x704x1024, .f32⟩
  | .local _ .vmem, ⟨13, _⟩ => ⟨S1x704x1024, .f32⟩
  | .local _ .vmem, ⟨14, _⟩ => ⟨S1x704x1024, .f32⟩
  | .local _ .vmem, ⟨15, _⟩ => ⟨S1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference9Ideal.lean ====
abbrev S8192x1024 : Shape := ⟨2, ![8192, 1024]⟩
abbrev S8192x2816 : Shape := ⟨2, ![8192, 2816]⟩
abbrev S_ : Shape := ⟨0, ![]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S_, .f32⟩
  | .hbm, ⟨6, _⟩ => ⟨S1x1024x2816, .f32⟩
  | .hbm, ⟨7, _⟩ => ⟨S_, .f32⟩
  | .hbm, ⟨8, _⟩ => ⟨S1x2816x1024, .f32⟩
  | .hbm, ⟨9, _⟩ => ⟨S1024x2816, .f32⟩
  | .hbm, ⟨10, _⟩ => ⟨S8192x2816, .f32⟩
  | .hbm, ⟨11, _⟩ => ⟨S1024x2816, .f32⟩
  | .hbm, ⟨12, _⟩ => ⟨S8192x2816, .f32⟩
  | .hbm, ⟨13, _⟩ => ⟨S2816x1024, .f32⟩
  | .hbm, ⟨14, _⟩ => ⟨S8192x1024, .f32⟩
  | .hbm, ⟨15, _⟩ => ⟨S1024x2816, .f32⟩
  | .hbm, ⟨16, _⟩ => ⟨S2816x1024, .f32⟩
  | .hbm, ⟨17, _⟩ => ⟨S1x2816x1024, .f32⟩
  | .hbm, ⟨18, _⟩ => ⟨S2816x1024, .f32⟩
  | .hbm, ⟨19, _⟩ => ⟨S1024x2816, .f32⟩
  | .hbm, ⟨20, _⟩ => ⟨S1x1024x2816, .f32⟩
  | .hbm, ⟨21, _⟩ => ⟨S2816x1024, .f32⟩
  | .hbm, ⟨22, _⟩ => ⟨S1024x2816, .f32⟩
  | .hbm, ⟨23, _⟩ => ⟨S1x1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel10.lean ====
abbrev S1x704x1024 : Shape := ⟨3, ![1, 704, 1024]⟩
abbrev S352x1024 : Shape := ⟨2, ![352, 1024]⟩
abbrev S_ : Shape := ⟨0, ![]⟩
abbrev S8x128 : Shape := ⟨2, ![8, 128]⟩
abbrev S1 : Shape := ⟨1, ![1]⟩
abbrev S1x176x1024 : Shape := ⟨3, ![1, 176, 1024]⟩
abbrev S176x1024 : Shape := ⟨2, ![176, 1024]⟩
abbrev S1x1 : Shape := ⟨2, ![1, 1]⟩

abbrev nBuf : Space → Nat
  | .hbm => 13
  | .vmem => 19
  | .smem => 1
  | _ => 0

abbrev bufTy : (tb : Table) → Fin (tcTables nBuf tb) → BufTy
  | .hbm, ⟨0, _⟩ => ⟨S1x704x1024, .f32⟩
  | .hbm, ⟨1, _⟩ => ⟨S352x1024, .f32⟩
  | .hbm, ⟨2, _⟩ => ⟨S352x1024, .f32⟩
  | .hbm, ⟨3, _⟩ => ⟨S1x704x1024, .f32⟩
  | .hbm, ⟨4, _⟩ => ⟨S1x704x1024, .f32⟩
  | .hbm, ⟨5, _⟩ => ⟨S_, .f32⟩
  | .hbm, ⟨6, _⟩ => ⟨S8x128, .f32⟩
  | .hbm, ⟨7, _⟩ => ⟨S_, .i32⟩
  | .hbm, ⟨8, _⟩ => ⟨S1, .i32⟩
  | .hbm, ⟨9, _⟩ => ⟨S1x704x1024, .f32⟩
  | .hbm, ⟨10, _⟩ => ⟨S1x704x1024, .f32⟩
  | .hbm, ⟨11, _⟩ => ⟨S1x704x1024, .f32⟩
  | .hbm, ⟨12, _⟩ => ⟨S1x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S8x128, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .smem, ⟨0, _⟩ => ⟨S1, .i32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S1x704x1024 : Shape := ⟨3, ![1, 704, 1024]⟩
abbrev S352x1024 : Shape := ⟨2, ![352, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S352x1024, .f32⟩
  | .hbm, ⟨2, _⟩ => ⟨S352x1024, .f32⟩
  | .hbm, ⟨3, _⟩ => ⟨S1x704x1024, .f32⟩
  | .hbm, ⟨4, _⟩ => ⟨S1x704x1024, .f32⟩
  | .hbm, ⟨5, _⟩ => ⟨S704x1024, .f32⟩
  | .hbm, ⟨6, _⟩ => ⟨S1x704x1024, .f32⟩
  | .hbm, ⟨7, _⟩ => ⟨S_, .f32⟩
  | .hbm, ⟨8, _⟩ => ⟨S1x704x1024, .f32⟩
  | .hbm, ⟨9, _⟩ => ⟨S1x704x1024, .f32⟩
  | .hbm, ⟨10, _⟩ => ⟨S_, .f32⟩
  | .hbm, ⟨11, _⟩ => ⟨S1x704x1024, .f32⟩
  | .hbm, ⟨12, _⟩ => ⟨S1x704x1024, .f32⟩
  | .hbm, ⟨13, _⟩ => ⟨S1x704x1024, .f32⟩
  | .hbm, ⟨14, _⟩ => ⟨S_, .f32⟩
  | .hbm, ⟨15, _⟩ => ⟨S1x704x1024, .f32⟩
  | .hbm, ⟨16, _⟩ => ⟨S1x704x1024, .f32⟩
  | .hbm, ⟨17, _⟩ => ⟨S1x704x1024, .f32⟩
  | .hbm, ⟨18, _⟩ => ⟨S_, .f32⟩
  | .hbm, ⟨19, _⟩ => ⟨S1x704x1024, .f32⟩
  | .hbm, ⟨20, _⟩ => ⟨S1x704x1024, .f32⟩
  | .hbm, ⟨21, _⟩ => ⟨S1x704x1024, .f32⟩
  | .hbm, ⟨22, _⟩ => ⟨S_, .f32⟩
  | .hbm, ⟨23, _⟩ => ⟨S1x704x1024, .f32⟩
  | .hbm, ⟨24, _⟩ => ⟨S1x704x1024, .f32⟩
  | .hbm, ⟨25, _⟩ => ⟨S_, .f32⟩
  | .hbm, ⟨26, _⟩ => ⟨S1x704x1024, .f32⟩
  | .hbm, ⟨27, _⟩ => ⟨S1x704x1024, .f32⟩
  | .hbm, ⟨28, _⟩ => ⟨S1x704x1024, .f32⟩
  | .hbm, ⟨29, _⟩ => ⟨S_, .f32⟩
  | .hbm, ⟨30, _⟩ => ⟨S1x704x1024, .f32⟩
  | .hbm, ⟨31, _⟩ => ⟨S1x704x1024, .f32⟩
  | .hbm, ⟨32, _⟩ => ⟨S1x704x1024, .f32⟩
  | .hbm, ⟨33, _⟩ => ⟨S_, .f32⟩
  | .hbm, ⟨34, _⟩ => ⟨S1x704x1024, .f32⟩
  | .hbm, ⟨35, _⟩ => ⟨S1x704x1024, .f32⟩
  | .hbm, ⟨36, _⟩ => ⟨S1x704x1024, .f32⟩
  | .hbm, ⟨37, _⟩ => ⟨S_, .f32⟩
  | .hbm, ⟨38, _⟩ => ⟨S1x704x1024, .f32⟩
  | .hbm, ⟨39, _⟩ => ⟨S1x704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel11.lean ====
abbrev S352x1024 : Shape := ⟨2, ![352, 1024]⟩
abbrev S4x352x1024 : Shape := ⟨3, ![4, 352, 1024]⟩
abbrev S_ : Shape := ⟨0, ![]⟩
abbrev S1 : Shape := ⟨1, ![1]⟩
abbrev S1x352x1024 : Shape := ⟨3, ![1, 352, 1024]⟩

abbrev nBuf : Space → Nat
  | .hbm => 6
  | .vmem => 6
  | .smem => 1
  | _ => 0

abbrev bufTy : (tb : Table) → Fin (tcTables nBuf tb) → BufTy
  | .hbm, ⟨0, _⟩ => ⟨S352x1024, .f32⟩
  | .hbm, ⟨1, _⟩ => ⟨S4x352x1024, .f32⟩
  | .hbm, ⟨2, _⟩ => ⟨S4x352x1024, .bf16⟩
  | .hbm, ⟨3, _⟩ => ⟨S_, .i32⟩
  | .hbm, ⟨4, _⟩ => ⟨S1, .i32⟩
  | .hbm, ⟨5, _⟩ => ⟨S352x1024, .f32⟩
  | .local _ .vmem, ⟨0, _⟩ => ⟨S352x1024, .f32⟩
  | .local _ .vmem, ⟨1, _⟩ => ⟨S1x352x1024, .bf16⟩
  | .local _ .vmem, ⟨2, _⟩ => ⟨S1x352x1024, .bf16⟩
  | .local _ .vmem, ⟨3, _⟩ => ⟨S1x352x1024, .bf16⟩
  | .local _ .vmem, ⟨4, _⟩ => ⟨S1x352x1024, .bf16⟩
  | .local _ .vmem, ⟨5, _⟩ => ⟨S352x1024, .f32⟩
  | .local _ .smem, ⟨0, _⟩ => ⟨S1, .i32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v3 : Ref sig .tc := ⟨.hbm, 5, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq v0 c0_i32
  let c1_i32 : BitVec 32 := 1#32
  let c0_i32_0 : BitVec 32 := 0#32
  let v2 : BitVec 32 := Scalar.select v1 c1_i32 c0_i32_0
  let c0_i32_1 : BitVec 32 := 0#32
  let c0_i32_2 : BitVec 32 := 0#32
  ![v2.toNat, arg0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq v0 c1_i32
  let c2_i32 : BitVec 32 := 2#32
  let c1_i32_0 : BitVec 32 := 1#32
  let v2 : BitVec 32 := Scalar.select v1 c2_i32 c1_i32_0
  let c0_i32 : BitVec 32 := 0#32
  let c0_i32_1 : BitVec 32 := 0#32
  ![v2.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 1 := Scalar.cmpi .eq v0 c2_i32
  let c3_i32 : BitVec 32 := 3#32
  let c2_i32_0 : BitVec 32 := 2#32
  let v2 : BitVec 32 := Scalar.select v1 c3_i32 c2_i32_0
  let c0_i32 : BitVec 32 := 0#32
  let c0_i32_1 : BitVec 32 := 0#32
  ![v2.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 1 := Scalar.cmpi .eq v0 c3_i32
  let c0_i32 : BitVec 32 := 0#32
  let c3_i32_0 : BitVec 32 := 3#32
  let v2 : BitVec 32 := Scalar.select v1 c0_i32 c3_i32_0
  let c0_i32_1 : BitVec 32 := 0#32
  let c0_i32_2 : BitVec 32 := 0#32
  ![v2.toNat, arg0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference11Ideal.lean ====
abbrev S352x1024 : Shape := ⟨2, ![352, 1024]⟩
abbrev S4x352x1024 : Shape := ⟨3, ![4, 352, 1024]⟩
abbrev S3x352x1024 : Shape := ⟨3, ![3, 352, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S4x352x1024, .f32⟩
  | .hbm, ⟨2, _⟩ => ⟨S3x352x1024, .f32⟩
  | .hbm, ⟨3, _⟩ => ⟨S_, .f32⟩
  | .hbm, ⟨4, _⟩ => ⟨S352x1024, .f32⟩
  | .hbm, ⟨5, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S4x704x1024 : Shape := ⟨3, ![4, 704, 1024]⟩
abbrev S4x352x1024 : Shape := ⟨3, ![4, 352, 1024]⟩
abbrev S_ : Shape := ⟨0, ![]⟩
abbrev S1 : Shape := ⟨1, ![1]⟩
abbrev S2 : Shape := ⟨1, ![2]⟩
abbrev S352x1024 : Shape := ⟨2, ![352, 1024]⟩
abbrev S1x352x1024 : Shape := ⟨3, ![1, 352, 1024]⟩

abbrev nBuf : Space → Nat
  | .hbm => 11
  | .vmem => 7
  | .smem => 1
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S_, .i32⟩
  | .hbm, ⟨3, _⟩ => ⟨S1, .i32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S352x1024, .f32⟩
  | .hbm, ⟨9, _⟩ => ⟨S4x352x1024, .bf16⟩
  | .hbm, ⟨10, _⟩ => ⟨S4x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S352x1024, .f32⟩
  | .local _ .vmem, ⟨5, _⟩ => ⟨S1x352x1024, .bf16⟩
  | .local _ .vmem, ⟨6, _⟩ => ⟨S1x352x1024, .bf16⟩
  | .local _ .smem, ⟨0, _⟩ => ⟨S2, .i32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32 : BitVec 32 := 0#32
  let v11 : BitVec 1 := Scalar.cmpi .ne v10 c0_i32
  v11

def cc0_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.addi v0 c1_i32
  let v2 : BitVec 32 := Scalar.addi v1 arg1
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0 : Index := 0#32
  let v13 : BitVec 32 := pf.at 0 (Rect.unit (s := S2) ![0] S1.size inb_S2_S1_0) numel1_S1
  let c1_i32_4 : BitVec 32 := 1#32
  let v14 : BitVec 32 := Scalar.muli v13 c1_i32_4
  let v15 : BitVec 32 := Scalar.addi v14 arg0
  let c0_i32_5 : BitVec 32 := 0#32
  let c0_i32_6 : BitVec 32 := 0#32
  ![v12.toNat, v15.toNat, c0_i32_5.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.addi v0 c1_i32
  let v2 : BitVec 32 := Scalar.addi v1 arg1
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  ![v12.toNat, arg0.toNat, c0_i32_4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.addi v0 c1_i32
  let v2 : BitVec 32 := Scalar.addi v1 arg1
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  ![v12.toNat, arg0.toNat, c0_i32_4.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S4x704x1024 : Shape := ⟨3, ![4, 704, 1024]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1x352x1024, .f32⟩
  | .hbm, ⟨5, _⟩ => ⟨S352x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S272x512 : Shape := ⟨2, ![272, 512]⟩
abbrev S8x1024 : Shape := ⟨2, ![8, 1024]⟩
abbrev S8x128 : Shape := ⟨2, ![8, 128]⟩
abbrev S4x288x512 : Shape := ⟨3, ![4, 288, 512]⟩
abbrev S1024 : Shape := ⟨1, ![1024]⟩
abbrev S1x1024 : Shape := ⟨2, ![1, 1024]⟩
abbrev S1x512 : Shape := ⟨2, ![1, 512]⟩
abbrev S1x128 : Shape := ⟨2, ![1, 128]⟩
abbrev S9x512 : Shape := ⟨2, ![9, 512]⟩
abbrev S16x512 : Shape := ⟨2, ![16, 512]⟩
abbrev S1x272x512 : Shape := ⟨3, ![1, 272, 512]⟩
abbrev S1x16x512 : Shape := ⟨3, ![1, 16, 512]⟩

abbrev nBuf : Space → Nat
  | .hbm => 6
  | .vmem => 6
  | .smem => 0
  | _ => 0

abbrev bufTy : (tb : Table) → Fin (tcTables nBuf tb) → BufTy
  | .hbm, ⟨0, _⟩ => ⟨S272x512, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x128, .f32⟩
  | .hbm, ⟨5, _⟩ => ⟨S4x288x512, .f32⟩
  | .local _ .vmem, ⟨0, _⟩ => ⟨S272x512, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x128, .f32⟩
  | .local _ .vmem, ⟨5, _⟩ => ⟨S4x288x512, .f32⟩
  | _, _ => ⟨S272x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S272x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x288x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference13Ideal.lean ====
abbrev S272x512 : Shape := ⟨2, ![272, 512]⟩
abbrev S8x1024 : Shape := ⟨2, ![8, 1024]⟩
abbrev S8x128 : Shape := ⟨2, ![8, 128]⟩
abbrev S_ : Shape := ⟨0, ![]⟩
abbrev S1024 : Shape := ⟨1, ![1024]⟩
abbrev S2x512 : Shape := ⟨2, ![2, 512]⟩
abbrev S6x512 : Shape := ⟨2, ![6, 512]⟩
abbrev S1x128 : Shape := ⟨2, ![1, 128]⟩
abbrev S1x1x1x128 : Shape := ⟨4, ![1, 1, 1, 128]⟩
abbrev S1x1x4x128 : Shape := ⟨4, ![1, 1, 4, 128]⟩
abbrev S1x512 : Shape := ⟨2, ![1, 512]⟩
abbrev S9x512 : Shape := ⟨2, ![9, 512]⟩
abbrev S288x512 : Shape := ⟨2, ![288, 512]⟩
abbrev S1x288x512 : Shape := ⟨3, ![1, 288, 512]⟩
abbrev S4x288x512 : Shape := ⟨3, ![4, 288, 512]⟩

abbrev nBuf : Space → Nat
  | .hbm => 27
  | .vmem => 0
  | .smem => 0
  | _ => 0

abbrev bufTy : (tb : Table) → Fin (tcTables nBuf tb) → BufTy
  | .hbm, ⟨0, _⟩ => ⟨S272x512, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x128, .f32⟩
  | .hbm, ⟨5, _⟩ => ⟨S_, .f32⟩
  | .hbm, ⟨6, _⟩ => ⟨S1024, .f32⟩
  | .hbm, ⟨7, _⟩ => ⟨S2x512, .f32⟩
  | .hbm, ⟨8, _⟩ => ⟨S_, .f32⟩
  | .hbm, ⟨9, _⟩ => ⟨S1024, .f32⟩
  | .hbm, ⟨10, _⟩ => ⟨S2x512, .f32⟩
  | .hbm, ⟨11, _⟩ => ⟨S_, .f32⟩
  | .hbm, ⟨12, _⟩ => ⟨S1024, .f32⟩
  | .hbm, ⟨13, _⟩ => ⟨S2x512, .f32⟩
  | .hbm, ⟨14, _⟩ => ⟨S6x512, .f32⟩
  | .hbm, ⟨15, _⟩ => ⟨S1x128, .f32⟩
  | .hbm, ⟨16, _⟩ => ⟨S1x1x1x128, .f32⟩
  | .hbm, ⟨17, _⟩ => ⟨S1x1x4x128, .f32⟩
  | .hbm, ⟨18, _⟩ => ⟨S1x512, .f32⟩
  | .hbm, ⟨19, _⟩ => ⟨S_, .f32⟩
  | .hbm, ⟨20, _⟩ => ⟨S9x512, .f32⟩
  | .hbm, ⟨21, _⟩ => ⟨S288x512, .f32⟩
  | .hbm, ⟨22, _⟩ => ⟨S1x288x512, .f32⟩
  | .hbm, ⟨23, _⟩ => ⟨S1x288x512, .f32⟩
  | .hbm, ⟨24, _⟩ => ⟨S1x288x512, .f32⟩
  | .hbm, ⟨25, _⟩ => ⟨S1x288x512, .f32⟩
  | .hbm, ⟨26, _⟩ => ⟨S4x288x512, .f32⟩
  | _, _ => ⟨S272x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel14.lean ====
abbrev S352x1024 : Shape := ⟨2, ![352, 1024]⟩
abbrev S1 : Shape := ⟨1, ![1]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 2
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let c2_i32_6 : BitVec 32 := 2#32
  let v10 : BitVec 32 := Scalar.muli v2 c2_i32_6
  let v11 : BitVec 32 := Scalar.addi c0_i32_7 v10
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let c2_i32_8 : BitVec 32 := 2#32
  let v12 : BitVec 32 := Scalar.muli v5 c2_i32_8
  let v13 : BitVec 32 := Scalar.addi v11 v12
  let c1_i32_4 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v9 : BitVec 32 := Scalar.subi c1_i32_4 v8
  let c1_i32_9 : BitVec 32 := 1#32
  let v14 : BitVec 32 := Scalar.muli v9 c1_i32_9
  let v15 : BitVec 32 := Scalar.addi v13 v14
  v15.toNat
-- ==== Reference14.lean ====
abbrev S704x1024 : Shape := ⟨2, ![704, 1024]⟩
abbrev S352x1024 : Shape := ⟨2, ![352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S352x1024, .f32⟩
  | .hbm, ⟨2, _⟩ => ⟨S352x1024, .f32⟩
  | .hbm, ⟨3, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Common.Reals.lean ====
module

public import Idealize.ShloMosaic.Lib.Pipeline.ValueKit
public import Idealize.ShloMosaic.Lib.Pointwise

@[expose] public section
noncomputable section
open Idealize.ShloMosaic

/-! Finite extended reals: reading a finiteness test, and moving sums and quotients to the reals. -/
namespace Cert.Reals

/-- An array each of whose absolute values is below infinity holds real numbers. -/
theorem finite {s z : Shape} {axes : Fin z.rank → Fin s.rank} (X : FVec Ideal s .f32) (h : z.BroadcastsInDim s axes)
    (e : cmpf .olt (Host.absf X) (broadcastInDim (α := Ideal .f32) s axes h (constant z .f32 0x7F800000#32)) = fun _ => 1#1) :
    ∃ f : s.Idx → ℝ, ∀ i, X i = ((f i : ℝ) : EReal) := by
  have fin : ∀ i, ∃ r : ℝ, X i = (r : EReal) := fun i => by
    have hi := congrFun e i
    have ht : Ideal.ofBits .f32 0x7F800000#32 = ⊤ := by simp [Ideal.ofBits, Ideal.ieee]
    have hb : broadcastInDim (α := Ideal .f32) s axes h (constant z .f32 0x7F800000#32) i = (⊤ : EReal) := by
      show Ideal.ofBits .f32 0x7F800000#32 = ⊤
      exact ht
    have hc : Ideal.cmp .olt (max (X i) (-(X i))) ⊤ = 1#1 := by
      rw [← hb]; exact hi
    rcases hx : (X i : EReal) with _ | _ | r
    · exfalso; rw [show X i = (⊥ : EReal) from hx] at hc; simp [Ideal.cmp] at hc
    · exfalso; rw [show X i = (⊤ : EReal) from hx] at hc; simp [Ideal.cmp] at hc
    · exact ⟨r, rfl⟩
  exact ⟨fun i => (fin i).choose, fun i => (fin i).choose_spec⟩

theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem div_coe (x y : ℝ) (h : y ≠ 0) : Ideal.div (x : EReal) (y : EReal) = ((x / y : ℝ) : EReal) := by
  rw [Ideal.div_coe h, ← EReal.coe_mul, mul_one_div]

end Cert.Reals
end
-- ==== Proof.Gate.Body.lean ====
module

public import proofs.«01_k».proof.Proof.Gen.KernelIdeal.Frame
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
namespace Cert.KernelIdeal.Gate
open Cert.KernelIdeal Cert.KernelIdeal.Gen

/-- One over one plus `exp (0 - a)`. -/
def sg (a : EReal) : EReal := Ideal.div 1 (1 + Ideal.exp (0 - a))
/-- The cotangent of `a1`, from those of the product. -/
def e1 (d a b : EReal) : EReal := d * b * (sg a * (1 + (a - a * sg a)))
/-- The cotangent of `a3`. -/
def e3 (d a : EReal) : EReal := d * (a * sg a)

/-- The cotangent of the gated product at one block index: a row of `x0` against a row of block `y 0` of `x3`. -/
def dff (x0 : FVec Ideal S512x1024 .bf16) (x3 : FVec Ideal S4x704x1024 .bf16) (y : S4x512x704.Idx) : EReal :=
  ∑ k : Fin 1024, x0 (ix2 (y 1) k) * x3 (ix3 (y 0) (y 2) k)

def g4 (x0 : FVec Ideal S512x1024 .bf16) (x1 x2 : FVec Ideal S4x512x704 .bf16) (x3 : FVec Ideal S4x704x1024 .bf16) (y : S4x512x704.Idx) : EReal :=
  e1 (dff x0 x3 y) (x1 y) (x2 y)

set_option maxHeartbeats 2000000 in
theorem out4 (x0 : FVec Ideal S512x1024 .bf16) (x1 x2 : FVec Ideal S4x512x704 .bf16) (x3 : FVec Ideal S4x704x1024 .bf16) (y : S4x512x704.Idx) :
    out0_4 (F := Ideal) x0 x1 x2 x3 y = g4 x0 x1 x2 x3 y := by
  unfold_out out0_4
  canon_tiles x h
  all_goals (open_payloads; pointwise [g4, e1, sg, dff]; blk_point [])

def g5 (x0 : FVec Ideal S512x1024 .bf16) (x1 : FVec Ideal S4x512x704 .bf16) (x3 : FVec Ideal S4x704x1024 .bf16) (y : S4x512x704.Idx) : EReal :=
  e3 (dff x0 x3 y) (x1 y)

set_option maxHeartbeats 2000000 in
theorem out5 (x0 : FVec Ideal S512x1024 .bf16) (x1 x2 : FVec Ideal S4x512x704 .bf16) (x3 : FVec Ideal S4x704x1024 .bf16) (y : S4x512x704.Idx) :
    out0_5 (F := Ideal) x0 x1 x2 x3 y = g5 x0 x1 x3 y := by
  unfold_out out0_5
  canon_tiles x h
  all_goals (open_payloads; pointwise [g5, e3, sg, dff]; blk_point [])
end Cert.KernelIdeal.Gate
end
-- ==== Proof.Gate.Arrays.lean ====
module

public import proofs.«01_k».proof.Proof.Gate.Body
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.KernelIdeal.Gate
open Cert.KernelIdeal Cert.KernelIdeal.Gen
variable (m : (ℓ : Loc nD τ sig) → Buf (Elt Ideal) ℓ)

/-- Which block of each array a grid point works on. -/
theorem idx : ∀ t : Fin cfg0.N, win0_0.index t = ![t.val, 0] ∧ win0_1.index t = ![0, t.val, 0] ∧ win0_2.index t = ![0, t.val, 0]
    ∧ win0_3.index t = ![0, 0, 0] ∧ win0_4.index t = ![0, t.val, 0] ∧ win0_5.index t = ![0, t.val, 0] :=
  (by decide +kernel : ∀ t : Fin grid0.N, _)

/-- The cotangent of the gated product: a row of the result's cotangent against a row of the weight. -/
def prod (w : FVec Ideal S1x2816x1024 .f32) (ct : FVec Ideal S8192x1024 .f32) (r : Fin 8192) (n : Fin 2816) : EReal :=
  ∑ k : Fin 1024, ct (ix2 r k) * w (ix3 0 n k)

/-- Column of the whole array from block number and column within the block. -/
def col (j : Fin 4) (n : Fin 704) : Fin 2816 := ⟨j.val * 704 + n.val, by omega⟩

def A4 (a b : FVec Ideal S8192x2816 .f32) (w : FVec Ideal S1x2816x1024 .f32) (ct : FVec Ideal S8192x1024 .f32) : FVec Ideal S4x8192x704 .bf16 :=
  fun i => e1 (prod w ct (i 1) (col (i 0) (i 2))) (a (ix2 (i 1) (col (i 0) (i 2)))) (b (ix2 (i 1) (col (i 0) (i 2))))

def A5 (a : FVec Ideal S8192x2816 .f32) (w : FVec Ideal S1x2816x1024 .f32) (ct : FVec Ideal S8192x1024 .f32) : FVec Ideal S4x8192x704 .bf16 :=
  fun i => e3 (prod w ct (i 1) (col (i 0) (i 2))) (a (ix2 (i 1) (col (i 0) (i 2))))

/-- An activation cut into blocks of columns. -/
theorem blocks (X : FVec Ideal S8192x2816 .f32) (i : S4x8192x704.Idx) : truncf (F := Ideal) .bf16 (transpose S4x8192x704 [1, 0, 2]
      (shapeCast S8192x4x704 X shapeCasts_S8192x2816_S8192x4x704) transposes_S8192x4x704_S4x8192x704_1_0_2) bitsLt_bf16_f32 i
    = X (ix2 (i 1) (col (i 0) (i 2))) := by
  idx_vars i
  pointwise [col]

/-- The weight cut into blocks of rows. -/
theorem blocksW (X : FVec Ideal S1x2816x1024 .f32) (i : S4x704x1024.Idx) : truncf (F := Ideal) .bf16 (shapeCast S4x704x1024
      (shapeCast S2816x1024 X shapeCasts_S1x2816x1024_S2816x1024) shapeCasts_S2816x1024_S4x704x1024) bitsLt_bf16_f32 i
    = X (ix3 0 (col (i 0) (i 1)) (i 2)) := by
  idx_vars i
  pointwise [col]

theorem entry2 (c : Dev nD) (i : S4x704x1024.Idx) : V m c main_v2 i = m ((c : Thread nD τ).loc main_arg2) (ix3 0 (col (i 0) (i 1)) (i 2)) := by
  refine (congrFun (?_ : V m c main_v2 = truncf (F := Ideal) .bf16 (shapeCast S4x704x1024
      (shapeCast S2816x1024 (m ((c : Thread nD τ).loc main_arg2)) shapeCasts_S1x2816x1024_S2816x1024) shapeCasts_S2816x1024_S4x704x1024) bitsLt_bf16_f32) i).trans (blocksW _ i)
  show StableHlo.after hostOps0 _ _ = _
  after_results; rfl
theorem entry6 (c : Dev nD) (i : S4x8192x704.Idx) : V m c main_v6 i = m ((c : Thread nD τ).loc main_arg0) (ix2 (i 1) (col (i 0) (i 2))) := by
  refine (congrFun (?_ : V m c main_v6 = truncf (F := Ideal) .bf16 (transpose S4x8192x704 [1, 0, 2]
      (shapeCast S8192x4x704 (m ((c : Thread nD τ).loc main_arg0)) shapeCasts_S8192x2816_S8192x4x704) transposes_S8192x4x704_S4x8192x704_1_0_2) bitsLt_bf16_f32) i).trans (blocks _ i)
  show StableHlo.after hostOps0 _ _ = _
  after_results; rfl
theorem entry9 (c : Dev nD) (i : S4x8192x704.Idx) : V m c main_v9 i = m ((c : Thread nD τ).loc main_arg1) (ix2 (i 1) (col (i 0) (i 2))) := by
  refine (congrFun (?_ : V m c main_v9 = truncf (F := Ideal) .bf16 (transpose S4x8192x704 [1, 0, 2]
      (shapeCast S8192x4x704 (m ((c : Thread nD τ).loc main_arg1)) shapeCasts_S8192x2816_S8192x4x704) transposes_S8192x4x704_S4x8192x704_1_0_2) bitsLt_bf16_f32) i).trans (blocks _ i)
  show StableHlo.after hostOps0 _ _ = _
  after_results; rfl

set_option maxHeartbeats 2000000 in
theorem final4 (c : Dev nD) : (dats m 0 c).arrAt 4 (cfgs 0).N
    = A4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, out4]
  simp only [g4, dff, A4, prod, col]
  blk_point [iblk, V, idx t]
  all_goals (first | rw [entry2] | rw [entry6] | rw [entry9]); simp only [col]; blk_ext [idx t]

set_option maxHeartbeats 2000000 in
theorem final5 (c : Dev nD) : (dats m 0 c).arrAt 5 (cfgs 0).N
    = A5 (m ((c : Thread nD τ).loc main_arg0)) (m ((c : Thread nD τ).loc main_arg2)) (m ((c : Thread nD τ).loc main_arg3)) := by
  refine (dats m 0 c).arrAt_eq_of_covers 5 _ (by decide +kernel) fun t _ y => ?_
  blk_simp
  rw [after0_5, out5]
  simp only [g5, dff, A5, prod, col]
  blk_point [iblk, V, idx t]
  all_goals (first | rw [entry2] | rw [entry6] | rw [entry9]); simp only [col]; blk_ext [idx t]
end Cert.KernelIdeal.Gate
end
-- ==== Proof.Gate.Value.lean ====
module

public import proofs.«01_k».proof.Defs
public import proofs.«01_k».proof.Proof.Common.Reals
public import proofs.«01_k».proof.Proof.Gate.Arrays
public import proofs.«01_k».proof.Proof.Gen.ReferenceIdeal
public import proofs.«01_k».proof.Proof.Gen.ReferenceIdeal.Read

@[expose] public section
set_option maxRecDepth 16384
noncomputable section
open Idealize.ShloMosaic Idealize.ShloMosaic.TcCoe Idealize.SL.Sem

namespace Cert.KernelIdeal.Gate
open Cert.KernelIdeal Cert.KernelIdeal.Gen
variable (m : (ℓ : Loc nD τ sig) → Buf (Elt Ideal) ℓ)

/-- A row of the whole array is made of the rows of its four blocks. -/
theorem rows (X : FVec Ideal S4x8192x704 .bf16) (i : S8192x2816.Idx) : extf (F := Ideal) .f32 (shapeCast S8192x2816
      (transpose S8192x4x704 [1, 0, 2] X transposes_S4x8192x704_S8192x4x704_1_0_2) shapeCasts_S8192x4x704_S8192x2816) bitsLt_bf16_f32 i
    = X (ix3 ⟨(i 1).val / 704, by have : (i 1).val < 2816 := (i 1).isLt; omega⟩ (i 0) ⟨(i 1).val % 704, by omega⟩) := by
  idx_vars i
  pointwise

/-- The four blocks of a result laid side by side, in the wider format. -/
abbrev whole (X : FVec Ideal S4x8192x704 .bf16) : FVec Ideal S8192x2816 .f32 :=
  extf (F := Ideal) .f32 (shapeCast S8192x2816 (transpose S8192x4x704 [1, 0, 2] X transposes_S4x8192x704_S8192x4x704_1_0_2) shapeCasts_S8192x4x704_S8192x2816) bitsLt_bf16_f32

theorem tail13 (c : Dev nD) : Pipeline.afterTail₀ cfgs (dats m) 0 (V0 m) [hostOps1] c main_v13
    = whole (A4 (m ((c : Thread nD τ).loc main_arg0)) (m ((c : Thread nD τ).loc main_arg1)) (m ((c : Thread nD τ).loc main_arg2)) (m ((c : Thread nD τ).loc main_arg3))) := by
  rw [← final4 m c]
  show StableHlo.after hostOps1 _ _ = _
  after_results
  exact congrArg whole (Pipeline.withArrays_arr spec0 (by decide) c _ _ 4)

theorem tail16 (c : Dev nD) : Pipeline.afterTail₀ cfgs (dats m) 0 (V0 m) [hostOps1] c main_v16
    = whole (A5 (m ((c : Thread nD τ).loc main_arg0)) (m ((c : Thread nD τ).loc main_arg2)) (m ((c : Thread nD τ).loc main_arg3))) := by
  rw [← final5 m c]
  show StableHlo.after hostOps1 _ _ = _
  after_results
  exact congrArg whole (Pipeline.withArrays_arr spec0 (by decide) c _ _ 5)

/-- Over the reals the two spellings of the cotangent of `a1` agree. -/
theorem silu_grad (d a b : ℝ) : e1 (d : EReal) (a : EReal) (b : EReal)
    = (d : EReal) * b * Ideal.div 1 (1 + Ideal.exp (-(a : EReal)))
      + (a : EReal) * ((d : EReal) * b) * (Ideal.div 1 (1 + Ideal.exp (-(a : EReal))) * (1 - Ideal.div 1 (1 + Ideal.exp (-(a : EReal))))) := by
  have h : (1 : ℝ) + Real.exp (-a) ≠ 0 := by positivity
  have hs : Ideal.div 1 (1 + Ideal.exp (-(a : EReal))) = ((1 / (1 + Real.exp (-a)) : ℝ) : EReal) := by
    rw [← EReal.coe_neg, Ideal.exp_coe, ← EReal.coe_one, ← EReal.coe_add, Cert.Reals.div_coe _ _ h]
  have hg : sg (a : EReal) = ((1 / (1 + Real.exp (-a)) : ℝ) : EReal) := by
    unfold sg; rw [zero_sub, hs]
  unfold e1
  rw [hg, hs, ← EReal.coe_one]
  simp only [← EReal.coe_mul, ← EReal.coe_add, ← EReal.coe_sub]
  congr 1; ring

open Cert.ReferenceIdeal.Read in
/-- The reference's cotangent of `a1`, read at an index. -/
theorem ref1 (a b : FVec Ideal S8192x2816 .f32) (w : FVec Ideal S1x2816x1024 .f32) (ct : FVec Ideal S8192x1024 .f32) (r : Fin 8192) (n : Fin 2816) :
    val_main_v7 (F := Ideal) a b w ct (ix2 r n)
      = prod w ct r n * b (ix2 r n) * Ideal.div 1 (1 + Ideal.exp (-(a (ix2 r n))))
      + a (ix2 r n) * (prod w ct r n * b (ix2 r n)) * (Ideal.div 1 (1 + Ideal.exp (-(a (ix2 r n)))) * (1 - Ideal.div 1 (1 + Ideal.exp (-(a (ix2 r n)))))) := by
  pointwise [prod, val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_v2, val_main_v4, val_main_v5, val_main_v6, val_main_call1_v0, val_main_call1_v1, val_main_call1_v2, val_main_v7]

open Cert.ReferenceIdeal.Read in
/-- The reference's cotangent of `a3`, read at an index. -/
theorem ref3 (a : FVec Ideal S8192x2816 .f32) (w : FVec Ideal S1x2816x1024 .f32) (ct : FVec Ideal S8192x1024 .f32) (r : Fin 8192) (n : Fin 2816) :
    val_main_v5 (F := Ideal) a w ct (ix2 r n) = a (ix2 r n) * Ideal.div 1 (1 + Ideal.exp (-(a (ix2 r n)))) * prod w ct r n := by
  pointwise [prod, val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_v2, val_main_v4, val_main_v5, val_main_v6, val_main_call1_v0, val_main_call1_v1, val_main_call1_v2, val_main_v7]

theorem col_split (n : Fin 2816) : col ⟨n.val / 704, by omega⟩ ⟨n.val % 704, by omega⟩ = n := by
  apply Fin.ext; show n.val / 704 * 704 + n.val % 704 = n.val; omega

theorem A4_at (a b : FVec Ideal S8192x2816 .f32) (w : FVec Ideal S1x2816x1024 .f32) (ct : FVec Ideal S8192x1024 .f32) (r : Fin 8192) (n : Fin 2816) :
    A4 a b w ct (ix3 ⟨n.val / 704, by omega⟩ r ⟨n.val % 704, by omega⟩) = e1 (prod w ct r n) (a (ix2 r n)) (b (ix2 r n)) := by
  show e1 (prod w ct r (col ⟨n.val / 704, _⟩ ⟨n.val % 704, _⟩)) (a (ix2 r (col ⟨n.val / 704, _⟩ ⟨n.val % 704, _⟩))) (b (ix2 r (col ⟨n.val / 704, _⟩ ⟨n.val % 704, _⟩))) = _
  rw [col_split n]

theorem A5_at (a : FVec Ideal S8192x2816 .f32) (w : FVec Ideal S1x2816x1024 .f32) (ct : FVec Ideal S8192x1024 .f32) (r : Fin 8192) (n : Fin 2816) :
    A5 a w ct (ix3 ⟨n.val / 704, by omega⟩ r ⟨n.val % 704, by omega⟩) = e3 (prod w ct r n) (a (ix2 r n)) := by
  show e3 (prod w ct r (col ⟨n.val / 704, _⟩ ⟨n.val % 704, _⟩)) (a (ix2 r (col ⟨n.val / 704, _⟩ ⟨n.val % 704, _⟩))) = _
  rw [col_split n]

open Cert.ReferenceIdeal.Read in
/-- The two cotangents of `a1`, at finite arguments. -/
theorem same1 (a b : FVec Ideal S8192x2816 .f32) (w : FVec Ideal S1x2816x1024 .f32) (ct : FVec Ideal S8192x1024 .f32)
    (fa fb : S8192x2816.Idx → ℝ) (fw : S1x2816x1024.Idx → ℝ) (fc : S8192x1024.Idx → ℝ)
    (ha : ∀ i, a i = ((fa i : ℝ) : EReal)) (hb : ∀ i, b i = ((fb i : ℝ) : EReal)) (hw : ∀ i, w i = ((fw i : ℝ) : EReal)) (hc : ∀ i, ct i = ((fc i : ℝ) : EReal)) :
    val_main_v7 (F := Ideal) a b w ct = whole (A4 a b w ct) := by
  funext i
  idx_vars i
  refine Eq.trans ?_ (rows _ _).symm
  refine Eq.trans ?_ (A4_at a b w ct i0 i1).symm
  have hp : prod w ct i0 i1 = ((∑ k : Fin 1024, fc (ix2 i0 k) * fw (ix3 0 i1 k) : ℝ) : EReal) := by
    unfold prod
    rw [← Cert.Reals.sum_coe]
    exact Finset.sum_congr rfl fun k _ => by rw [EReal.coe_mul, hc, hw]
  rw [ref1, hp, ha, hb]
  exact (silu_grad _ _ _).symm

open Cert.ReferenceIdeal.Read in
/-- The two cotangents of `a3`. -/
theorem same3 (a : FVec Ideal S8192x2816 .f32) (w : FVec Ideal S1x2816x1024 .f32) (ct : FVec Ideal S8192x1024 .f32) :
    val_main_v5 (F := Ideal) a w ct = whole (A5 a w ct) := by
  funext i
  idx_vars i
  refine Eq.trans ?_ (rows _ _).symm
  refine Eq.trans ?_ (A5_at a w ct i0 i1).symm
  rw [ref3]
  unfold e3 sg
  rw [zero_sub, mul_comm]

end Cert.KernelIdeal.Gate

namespace Cert.Proof
open Cert.KernelIdeal.Gate

theorem gate_algebraic (hf : Cert.Pre_gate_finite.Facts) : Cert.algebraic_KernelIdeal_ReferenceIdeal_pre_gate_finite (hKernelIdeal := Cert.KernelIdeal.Gen.facts)
    (hReferenceIdeal := Cert.ReferenceIdeal.Gen.facts) (hPre_gate_finite := hf) := by
  pair_intro
  · run_from Cert.KernelIdeal.Gen.run_main m g
    · exact Cert.KernelIdeal.Gen.W_main_arg0 m _ c
    · exact Cert.KernelIdeal.Gen.W_main_arg1 m _ c
    · exact Cert.KernelIdeal.Gen.W_main_arg2 m _ c
    · exact Cert.KernelIdeal.Gen.W_main_arg3 m _ c
  · have hfin := hpre
    run_from Cert.ReferenceIdeal.Value.run m' g'
    · obtain ⟨f0, h0⟩ := Cert.Reals.finite _ _ (hfin c).1
      obtain ⟨f1, h1⟩ := Cert.Reals.finite _ _ (hfin c).2.1
      obtain ⟨f2, h2⟩ := Cert.Reals.finite _ _ (hfin c).2.2.1
      obtain ⟨f3, h3⟩ := Cert.Reals.finite _ _ (hfin c).2.2.2
      exact (same1 _ _ _ _ f0 f1 f2 f3 h0 h1 h2 h3).trans (tail13 m c).symm
    · exact (same3 _ _ _).trans (tail16 m c).symm
end Cert.Proof
end
-- ==== Proof.Down.Body.lean ====
module

public import proofs.«01_k».proof.Proof.Gen.Kernel2Ideal.Frame
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
namespace Cert.Kernel2Ideal.Down
open Cert.Kernel2Ideal Cert.Kernel2Ideal.Gen
variable (m : (ℓ : Loc nD τ sig) → Buf (Elt Ideal) ℓ)

/-- Block `j`'s part of the cotangent of the normed rows. -/
def part (x0 x1 : FVec Ideal S4x512x704 .bf16) (x5 x6 : FVec Ideal S4x704x1024 .bf16) (j : Fin 4) (r : Fin 512) (k : Fin 1024) : EReal :=
  (∑ n : Fin 704, x0 (ix3 j r n) * x5 (ix3 j n k)) + ∑ n : Fin 704, x1 (ix3 j r n) * x6 (ix3 j n k)
/-- The cotangent of the normed rows: the four blocks' parts added up. -/
def dy (x0 x1 : FVec Ideal S4x512x704 .bf16) (x5 x6 : FVec Ideal S4x704x1024 .bf16) (r : Fin 512) (k : Fin 1024) : EReal :=
  part x0 x1 x5 x6 0 r k + part x0 x1 x5 x6 1 r k + part x0 x1 x5 x6 2 r k + part x0 x1 x5 x6 3 r k

def rinv (x : FVec Ideal S512x1024 .f32) (r : Fin 512) : EReal :=
  Ideal.rsqrt (Ideal.div (∑ k : Fin 1024, x (ix2 r k) * x (ix2 r k)) (Ideal.ofBits .f32 0x44800000#32) + Ideal.ofBits .f32 0x358637BD#32)

def g7 (x0 x1 : FVec Ideal S4x512x704 .bf16) (x2 x3 : FVec Ideal S512x1024 .f32) (x4 : FVec Ideal S1x1024 .f32) (x5 x6 : FVec Ideal S4x704x1024 .bf16) (y : S512x1024.Idx) : EReal :=
  x2 y + rinv x3 (y 0) * (dy x0 x1 x5 x6 (y 0) (y 1) * x4 (ix2 0 (y 1)) - x3 y * rinv x3 (y 0) *
    Ideal.div (∑ k : Fin 1024, dy x0 x1 x5 x6 (y 0) k * x4 (ix2 0 k) * (x3 (ix2 (y 0) k) * rinv x3 (y 0))) (Ideal.ofBits .f32 0x44800000#32))

theorem out7_A (c : Dev nD) (t : Fin cfg0.N) (h : t.val % 16 = 0) (y : S512x1024.Idx) :
    (outsAt0 m c t.val t.isLt).1 y = g7 (iblk m c 0 t) (iblk m c 1 t) (iblk m c 2 t) (iblk m c 3 t) (iblk m c 4 t) (iblk m c 5 t) (iblk m c 6 t) y := by
  rw [outsAt0_A m c t h]; dsimp only; unfold out0_A_7
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  clear h
  idx_vars y
  canon_tiles x h
  case piece0 =>
    rw [show y0 = ⟨256 + (x 0).val, by omega⟩ from Fin.ext h0, show y1 = x 1 from Fin.ext h1]
    open_payloads; pointwise [g7, dy, rinv, part]
  case piece1 =>
    rw [show y0 = ⟨(x 0).val, by omega⟩ from Fin.ext h0, show y1 = x 1 from Fin.ext h1]
    open_payloads; pointwise [g7, dy, rinv, part]
theorem out7_B (c : Dev nD) (t : Fin cfg0.N) (h : ¬ t.val % 16 = 0) (y : S512x1024.Idx) :
    (outsAt0 m c t.val t.isLt).1 y = g7 (iblk m c 0 t) (iblk m c 1 t) (iblk m c 2 t) (iblk m c 3 t) (iblk m c 4 t) (iblk m c 5 t) (iblk m c 6 t) y := by
  rw [outsAt0_B m c t h]; dsimp only; unfold out0_B_7
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  clear h
  idx_vars y
  canon_tiles x h
  case piece0 =>
    rw [show y0 = ⟨256 + (x 0).val, by omega⟩ from Fin.ext h0, show y1 = x 1 from Fin.ext h1]
    open_payloads; pointwise [g7, dy, rinv, part]
  case piece1 =>
    rw [show y0 = ⟨(x 0).val, by omega⟩ from Fin.ext h0, show y1 = x 1 from Fin.ext h1]
    open_payloads; pointwise [g7, dy, rinv, part]

/-- One point's pass over the gain's accumulator, from the blocks it reads. -/
def step8 (x0 x1 : Vec Ideal S4x512x704 .bf16) (x3 : Vec Ideal S512x1024 .f32) (x5 x6 : Vec Ideal S4x704x1024 .bf16) (acc : Vec Ideal S8x1024 .f32) : Vec Ideal S8x1024 .f32 :=
  k0_pay17 (F := Ideal) (k0_pay12 (F := Ideal) (k0_pay11 (F := Ideal) (View.ld x0 (Rect.unit ![0, 256, 0] ![1, 256, 704] inb_S4x512x704_S1x256x704_0_256_0)) (View.ld x5 (Rect.unit ![0, 0, 0] ![1, 704, 1024] inb_S4x704x1024_S1x704x1024_0_0_0))) (View.ld x1 (Rect.unit ![0, 256, 0] ![1, 256, 704] inb_S4x512x704_S1x256x704_0_256_0)) (View.ld x6 (Rect.unit ![0, 0, 0] ![1, 704, 1024] inb_S4x704x1024_S1x704x1024_0_0_0)) (View.ld x0 (Rect.unit ![1, 256, 0] ![1, 256, 704] inb_S4x512x704_S1x256x704_1_256_0)) (View.ld x5 (Rect.unit ![1, 0, 0] ![1, 704, 1024] inb_S4x704x1024_S1x704x1024_1_0_0)) (View.ld x1 (Rect.unit ![1, 256, 0] ![1, 256, 704] inb_S4x512x704_S1x256x704_1_256_0)) (View.ld x6 (Rect.unit ![1, 0, 0] ![1, 704, 1024] inb_S4x704x1024_S1x704x1024_1_0_0)))
    (k0_pay13 (F := Ideal) (View.ld x0 (Rect.unit ![2, 256, 0] ![1, 256, 704] inb_S4x512x704_S1x256x704_2_256_0)) (View.ld x5 (Rect.unit ![2, 0, 0] ![1, 704, 1024] inb_S4x704x1024_S1x704x1024_2_0_0)) (View.ld x1 (Rect.unit ![2, 256, 0] ![1, 256, 704] inb_S4x512x704_S1x256x704_2_256_0)) (View.ld x6 (Rect.unit ![2, 0, 0] ![1, 704, 1024] inb_S4x704x1024_S1x704x1024_2_0_0))) (View.ld x0 (Rect.unit ![3, 256, 0] ![1, 256, 704] inb_S4x512x704_S1x256x704_3_256_0)) (View.ld x5 (Rect.unit ![3, 0, 0] ![1, 704, 1024] inb_S4x704x1024_S1x704x1024_3_0_0)) (View.ld x1 (Rect.unit ![3, 256, 0] ![1, 256, 704] inb_S4x512x704_S1x256x704_3_256_0)) (View.ld x6 (Rect.unit ![3, 0, 0] ![1, 704, 1024] inb_S4x704x1024_S1x704x1024_3_0_0)) (View.ld x3 (Rect.unit ![256, 0] ![256, 1024] inb_S512x1024_S256x1024_256_0))
    (k0_pay9 (F := Ideal) (k0_pay5 (F := Ideal) (k0_pay3 (F := Ideal) (View.ld x0 (Rect.unit ![0, 0, 0] ![1, 256, 704] inb_S4x512x704_S1x256x704_0_0_0)) (View.ld x5 (Rect.unit ![0, 0, 0] ![1, 704, 1024] inb_S4x704x1024_S1x704x1024_0_0_0)) (View.ld x1 (Rect.unit ![0, 0, 0] ![1, 256, 704] inb_S4x512x704_S1x256x704_0_0_0)) (View.ld x6 (Rect.unit ![0, 0, 0] ![1, 704, 1024] inb_S4x704x1024_S1x704x1024_0_0_0))) (k0_pay4 (F := Ideal) (View.ld x0 (Rect.unit ![1, 0, 0] ![1, 256, 704] inb_S4x512x704_S1x256x704_1_0_0)) (View.ld x5 (Rect.unit ![1, 0, 0] ![1, 704, 1024] inb_S4x704x1024_S1x704x1024_1_0_0)) (View.ld x1 (Rect.unit ![1, 0, 0] ![1, 256, 704] inb_S4x512x704_S1x256x704_1_0_0)) (View.ld x6 (Rect.unit ![1, 0, 0] ![1, 704, 1024] inb_S4x704x1024_S1x704x1024_1_0_0))) (View.ld x0 (Rect.unit ![2, 0, 0] ![1, 256, 704] inb_S4x512x704_S1x256x704_2_0_0)) (View.ld x5 (Rect.unit ![2, 0, 0] ![1, 704, 1024] inb_S4x704x1024_S1x704x1024_2_0_0)) (View.ld x1 (Rect.unit ![2, 0, 0] ![1, 256, 704] inb_S4x512x704_S1x256x704_2_0_0)) (View.ld x6 (Rect.unit ![2, 0, 0] ![1, 704, 1024] inb_S4x704x1024_S1x704x1024_2_0_0)) (View.ld x0 (Rect.unit ![3, 0, 0] ![1, 256, 704] inb_S4x512x704_S1x256x704_3_0_0)) (View.ld x5 (Rect.unit ![3, 0, 0] ![1, 704, 1024] inb_S4x704x1024_S1x704x1024_3_0_0)) (View.ld x1 (Rect.unit ![3, 0, 0] ![1, 256, 704] inb_S4x512x704_S1x256x704_3_0_0)) (View.ld x6 (Rect.unit ![3, 0, 0] ![1, 704, 1024] inb_S4x704x1024_S1x704x1024_3_0_0)))
      (View.ld x3 (Rect.unit ![0, 0] ![256, 1024] inb_S512x1024_S256x1024_0_0)) (k0_pay6 (F := Ideal) (View.ld x3 (Rect.unit ![0, 0] ![256, 1024] inb_S512x1024_S256x1024_0_0))) acc)
end Cert.Kernel2Ideal.Down
end
-- ==== Proof.Down.Acc.lean ====
module

public import proofs.«01_k».proof.Proof.Down.Body
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
namespace Cert.Kernel2Ideal.Down
open Cert.Kernel2Ideal Cert.Kernel2Ideal.Gen
variable (m : (ℓ : Loc nD τ sig) → Buf (Elt Ideal) ℓ)

/-- A row's term of the gain's gradient. -/
def term8 (x0 x1 : Vec Ideal S4x512x704 .bf16) (x3 : Vec Ideal S512x1024 .f32) (x5 x6 : Vec Ideal S4x704x1024 .bf16) (r : Fin 512) (k : Fin 1024) : EReal :=
  dy x0 x1 x5 x6 r k * (x3 (ix2 r k) * rinv x3 r)

theorem step8_eq (x0 x1 : FVec Ideal S4x512x704 .bf16) (x3 : FVec Ideal S512x1024 .f32) (x5 x6 : FVec Ideal S4x704x1024 .bf16) (acc : FVec Ideal S8x1024 .f32) (y0 : Fin 8) (y1 : Fin 1024) :
    step8 x0 x1 x3 x5 x6 acc (ix2 y0 y1) = acc (ix2 y0 y1) + ((∑ q : Fin 32, term8 x0 x1 x3 x5 x6 ⟨q.val * 8 + y0.val, by omega⟩ y1)
      + ∑ q : Fin 32, term8 x0 x1 x3 x5 x6 ⟨256 + (q.val * 8 + y0.val), by omega⟩ y1) := by
  unfold step8
  open_payloads
  pointwise [term8, dy, rinv, part]
  rw [add_assoc]

theorem out8_A (c : Dev nD) (t : Fin cfg0.N) (h : t.val % 16 = 0) :
    (outsAt0 m c t.val t.isLt).2 = step8 (iblk m c 0 t) (iblk m c 1 t) (iblk m c 3 t) (iblk m c 5 t) (iblk m c 6 t) (k0_pay2 (F := Ideal)) := by
  rw [outsAt0_A m c t h]
  frame_out
  rfl
theorem out8_B (c : Dev nD) (t : Fin cfg0.N) (h : ¬ t.val % 16 = 0)  :
    (outsAt0 m c t.val t.isLt).2 = step8 (iblk m c 0 t) (iblk m c 1 t) (iblk m c 3 t) (iblk m c 5 t) (iblk m c 6 t) (outsAt0 m c (t.val - 1) (by omega)).2 := by
  rw [outsAt0_B m c t h]
  frame_out
  rfl
/-- A point's contribution to the gain's accumulator. -/
def g8 (x0 x1 : Vec Ideal S4x512x704 .bf16) (x3 : Vec Ideal S512x1024 .f32) (x5 x6 : Vec Ideal S4x704x1024 .bf16) (y : S8x1024.Idx) : EReal :=
  (∑ q : Fin 32, term8 x0 x1 x3 x5 x6 ⟨q.val * 8 + (y 0).val, by have : (y 0).val < 8 := (y 0).isLt; omega⟩ (y 1))
    + ∑ q : Fin 32, term8 x0 x1 x3 x5 x6 ⟨256 + (q.val * 8 + (y 0).val), by have : (y 0).val < 8 := (y 0).isLt; omega⟩ (y 1)

theorem step8_at (x0 x1 : FVec Ideal S4x512x704 .bf16) (x3 : FVec Ideal S512x1024 .f32) (x5 x6 : FVec Ideal S4x704x1024 .bf16) (acc : FVec Ideal S8x1024 .f32) (y : S8x1024.Idx) :
    step8 x0 x1 x3 x5 x6 acc y = acc y + g8 x0 x1 x3 x5 x6 y := by
  idx_vars y
  exact step8_eq x0 x1 x3 x5 x6 acc y0 y1

theorem zero8 (y : S8x1024.Idx) : k0_pay2 (F := Ideal) y = 0 := by pointwise [k0_pay2]

end Cert.Kernel2Ideal.Down
end
-- ==== Proof.Common.Sums.lean ====
module

public import Idealize.ShloMosaic.Lib.Pipeline.ValueKit

@[expose] public section
noncomputable section

/-! Sums over rows taken tile by tile. -/
namespace Cert.Sums

theorem mul_range {M : Type*} [AddCommMonoid M] (f : ℕ → M) (a b : ℕ) :
    ∑ i ∈ Finset.range (a * b), f i = ∑ p ∈ Finset.range a, ∑ q ∈ Finset.range b, f (p * b + q) := by
  induction a with
  | zero => simp
  | succ a ih => rw [Nat.succ_mul, Finset.sum_range_add, ih, Finset.sum_range_succ]

/-- Tiles of 512 rows, each in two halves of 32 groups of eight rows, add up to all rows. -/
theorem rows8 {M : Type*} [AddCommMonoid M] (f : ℕ → M) :
    ∑ l : Fin 8, ∑ p : Fin 16, ((∑ q : Fin 32, f (p.val * 512 + (q.val * 8 + l.val))) + ∑ q : Fin 32, f (p.val * 512 + (256 + (q.val * 8 + l.val))))
      = ∑ r : Fin 8192, f r.val := by
  rw [Finset.sum_comm, Fin.sum_univ_eq_sum_range (fun r => f r) 8192, show 8192 = 16 * 512 from rfl, mul_range]
  rw [← Fin.sum_univ_eq_sum_range (fun p => ∑ q ∈ Finset.range 512, f (p * 512 + q)) 16]
  refine Finset.sum_congr rfl fun p _ => ?_
  rw [Finset.sum_add_distrib, show 512 = 256 + 256 from rfl, Finset.sum_range_add]
  have h : ∀ g : ℕ → M, ∑ l : Fin 8, ∑ q : Fin 32, g (q.val * 8 + l.val) = ∑ q ∈ Finset.range 256, g q := fun g => by
    rw [Finset.sum_comm, show 256 = 32 * 8 from rfl, mul_range, ← Fin.sum_univ_eq_sum_range (fun p => ∑ q ∈ Finset.range 8, g (p * 8 + q)) 32]
    refine Finset.sum_congr rfl fun q _ => ?_
    exact Fin.sum_univ_eq_sum_range (fun l => g (q.val * 8 + l)) 8
  exact congrArg₂ (· + ·) (h fun q => f (p.val * 512 + q)) (h fun q => f (p.val * 512 + (256 + q)))

/-- Sixteen tiles of 512 rows make all rows. -/
theorem tiles {M : Type*} [AddCommMonoid M] (f : Fin 8192 → M) :
    ∑ p : Fin 16, ∑ q : Fin 512, f ⟨p.val * 512 + q.val, by omega⟩ = ∑ r : Fin 8192, f r :=
  Fin.sum_mul_add_congr fun s k hl => rfl

/-- Tiles of 512 rows, each in 64 groups of eight rows, add up to all rows. -/
theorem lanes8 {M : Type*} [AddCommMonoid M] (f : Fin 8192 → M) :
    ∑ l : Fin 8, ∑ p : Fin 16, ∑ q : Fin 64, f ⟨p.val * 512 + (q.val * 8 + l.val), by omega⟩ = ∑ r : Fin 8192, f r := by
  rw [Finset.sum_comm, ← tiles f]
  refine Finset.sum_congr rfl fun p _ => ?_
  rw [Finset.sum_comm]
  exact Fin.sum_mul_add_congr (S := 64) (n := 8) (L := 512) (f := fun k : Fin 512 => f ⟨p.val * 512 + k.val, by omega⟩) fun s k hl => rfl

/-- Four blocks of 704 columns make all 2816 columns. -/
theorem cols4 {M : Type*} [AddCommMonoid M] (f : Fin 2816 → M) :
    (∑ j : Fin 4, ∑ n : Fin 704, f ⟨j.val * 704 + n.val, by omega⟩) = ∑ n : Fin 2816, f n :=
  Fin.sum_mul_add_congr fun s k hl => rfl
end Cert.Sums
end
-- ==== Proof.Down.Arrays.lean ====
module

public import proofs.«01_k».proof.Proof.Down.Acc
public import Idealize.ShloMosaic.Lib.Pipeline.ValueKit
public import Idealize.ShloMosaic.Lib.Pointwise
public import Idealize.ShloMosaic.Lib.Claim
public import proofs.«01_k».proof.Proof.Common.Sums

@[expose] public section
set_option maxRecDepth 16384
noncomputable section
open Idealize.ShloMosaic Idealize.ShloMosaic.TcCoe Idealize.SL.Sem
open Idealize.ShloMosaic.Pipeline (Dat)
namespace Cert.Kernel2Ideal.Down
open Cert.Kernel2Ideal Cert.Kernel2Ideal.Gen
variable (m : (ℓ : Loc nD τ sig) → Buf (Elt Ideal) ℓ)

/-- Which block of each array a grid point works on. -/
theorem idx : ∀ t : Fin cfg0.N, win0_0.index t = ![0, t.val, 0] ∧ win0_1.index t = ![0, t.val, 0] ∧ win0_2.index t = ![t.val, 0]
    ∧ win0_3.index t = ![t.val, 0] ∧ win0_4.index t = ![0, 0] ∧ win0_5.index t = ![0, 0, 0] ∧ win0_6.index t = ![0, 0, 0] ∧ win0_7.index t = ![t.val, 0] ∧ win0_8.index t = ![0, 0] :=
  (by decide +kernel : ∀ t : Fin grid0.N, _)

/-- Column of the whole array from block number and column within the block. -/
def col (j : Fin 4) (n : Fin 704) : Fin 2816 := ⟨j.val * 704 + n.val, by omega⟩

/-- An activation's cotangent cut into blocks of columns. -/
theorem blocks (X : FVec Ideal S8192x2816 .f32) (i : S4x8192x704.Idx) : truncf (F := Ideal) .bf16 (transpose S4x8192x704 [1, 0, 2]
      (shapeCast S8192x4x704 X shapeCasts_S8192x2816_S8192x4x704) transposes_S8192x4x704_S4x8192x704_1_0_2) bitsLt_bf16_f32 i
    = X (ix2 (i 1) (col (i 0) (i 2))) := by
  idx_vars i
  pointwise [col]

/-- A weight turned and cut into blocks of its columns. -/
theorem turned (X : FVec Ideal S1x1024x2816 .f32) (i : S4x704x1024.Idx) : truncf (F := Ideal) .bf16 (shapeCast S4x704x1024 (transpose S2816x1024 [1, 0]
      (shapeCast S1024x2816 X shapeCasts_S1x1024x2816_S1024x2816) transposes_S1024x2816_S2816x1024_1_0) shapeCasts_S2816x1024_S4x704x1024) bitsLt_bf16_f32 i
    = X (ix3 0 (i 2) (col (i 0) (i 1))) := by
  idx_vars i
  pointwise [col]

theorem entry2 (c : Dev nD) (i : S4x8192x704.Idx) : V m c main_v2 i = m ((c : Thread nD τ).loc main_arg4) (ix2 (i 1) (col (i 0) (i 2))) := by
  refine (congrFun (?_ : V m c main_v2 = truncf (F := Ideal) .bf16 (transpose S4x8192x704 [1, 0, 2]
      (shapeCast S8192x4x704 (m ((c : Thread nD τ).loc main_arg4)) shapeCasts_S8192x2816_S8192x4x704) transposes_S8192x4x704_S4x8192x704_1_0_2) bitsLt_bf16_f32) i).trans (blocks _ i)
  show StableHlo.after hostOps0 _ _ = _
  after_results; rfl
theorem entry5 (c : Dev nD) (i : S4x8192x704.Idx) : V m c main_v5 i = m ((c : Thread nD τ).loc main_arg5) (ix2 (i 1) (col (i 0) (i 2))) := by
  refine (congrFun (?_ : V m c main_v5 = truncf (F := Ideal) .bf16 (transpose S4x8192x704 [1, 0, 2]
      (shapeCast S8192x4x704 (m ((c : Thread nD τ).loc main_arg5)) shapeCasts_S8192x2816_S8192x4x704) transposes_S8192x4x704_S4x8192x704_1_0_2) bitsLt_bf16_f32) i).trans (blocks _ i)
  show StableHlo.after hostOps0 _ _ = _
  after_results; rfl
theorem entry9 (c : Dev nD) (i : S4x704x1024.Idx) : V m c main_v9 i = m ((c : Thread nD τ).loc main_arg2) (ix3 0 (i 2) (col (i 0) (i 1))) := by
  refine (congrFun (?_ : V m c main_v9 = truncf (F := Ideal) .bf16 (shapeCast S4x704x1024 (transpose S2816x1024 [1, 0]
      (shapeCast S1024x2816 (m ((c : Thread nD τ).loc main_arg2)) shapeCasts_S1x1024x2816_S1024x2816) transposes_S1024x2816_S2816x1024_1_0) shapeCasts_S2816x1024_S4x704x1024) bitsLt_bf16_f32) i).trans (turned _ i)
  show StableHlo.after hostOps0 _ _ = _
  after_results; rfl
theorem entry13 (c : Dev nD) (i : S4x704x1024.Idx) : V m c main_v13 i = m ((c : Thread nD τ).loc main_arg3) (ix3 0 (i 2) (col (i 0) (i 1))) := by
  refine (congrFun (?_ : V m c main_v13 = truncf (F := Ideal) .bf16 (shapeCast S4x704x1024 (transpose S2816x1024 [1, 0]
      (shapeCast S1024x2816 (m ((c : Thread nD τ).loc main_arg3)) shapeCasts_S1x1024x2816_S1024x2816) transposes_S1024x2816_S2816x1024_1_0) shapeCasts_S2816x1024_S4x704x1024) bitsLt_bf16_f32) i).trans (turned _ i)
  show StableHlo.after hostOps0 _ _ = _
  after_results; rfl

/-- Block `j`'s part of the cotangent of the normed rows, from the whole arrays. -/
def partA (w1 w3 : FVec Ideal S1x1024x2816 .f32) (c1 c3 : FVec Ideal S8192x2816 .f32) (j : Fin 4) (r : Fin 8192) (k : Fin 1024) : EReal :=
  (∑ n : Fin 704, c1 (ix2 r (col j n)) * w1 (ix3 0 k (col j n))) + ∑ n : Fin 704, c3 (ix2 r (col j n)) * w3 (ix3 0 k (col j n))
/-- The cotangent of the normed rows, from the whole arrays. -/
def dyA (w1 w3 : FVec Ideal S1x1024x2816 .f32) (c1 c3 : FVec Ideal S8192x2816 .f32) (r : Fin 8192) (k : Fin 1024) : EReal :=
  partA w1 w3 c1 c3 0 r k + partA w1 w3 c1 c3 1 r k + partA w1 w3 c1 c3 2 r k + partA w1 w3 c1 c3 3 r k
/-- A row's reciprocal root mean square. -/
def rinvA (x : FVec Ideal S8192x1024 .f32) (r : Fin 8192) : EReal :=
  Ideal.rsqrt (Ideal.div (∑ k : Fin 1024, x (ix2 r k) * x (ix2 r k)) (Ideal.ofBits .f32 0x44800000#32) + Ideal.ofBits .f32 0x358637BD#32)
def A7 (x : FVec Ideal S8192x1024 .f32) (g : FVec Ideal S1x1024 .f32) (w1 w3 : FVec Ideal S1x1024x2816 .f32) (c1 c3 : FVec Ideal S8192x2816 .f32) (ct : FVec Ideal S8192x1024 .f32) : FVec Ideal S8192x1024 .f32 :=
  fun y => ct (ix2 (y 0) (y 1)) + rinvA x (y 0) * (dyA w1 w3 c1 c3 (y 0) (y 1) * g (ix2 0 (y 1)) - x (ix2 (y 0) (y 1)) * rinvA x (y 0) *
    Ideal.div (∑ k : Fin 1024, dyA w1 w3 c1 c3 (y 0) k * g (ix2 0 k) * (x (ix2 (y 0) k) * rinvA x (y 0))) (Ideal.ofBits .f32 0x44800000#32))
def termA (x : FVec Ideal S8192x1024 .f32) (w1 w3 : FVec Ideal S1x1024x2816 .f32) (c1 c3 : FVec Ideal S8192x2816 .f32) (r : Fin 8192) (k : Fin 1024) : EReal :=
  dyA w1 w3 c1 c3 r k * (x (ix2 r k) * rinvA x r)
def A8 (x : FVec Ideal S8192x1024 .f32) (w1 w3 : FVec Ideal S1x1024x2816 .f32) (c1 c3 : FVec Ideal S8192x2816 .f32) : FVec Ideal S8x1024 .f32 :=
  fun y => ∑ p : Fin cfg0.N,
    ((∑ q : Fin 32, termA x w1 w3 c1 c3 ⟨p.val * 512 + (q.val * 8 + (y 0).val), by have : (y 0).val < 8 := (y 0).isLt; have := lt_of_lt_of_eq p.isLt N_0; omega⟩ (y 1))
    + ∑ q : Fin 32, termA x w1 w3 c1 c3 ⟨p.val * 512 + (256 + (q.val * 8 + (y 0).val)), by have : (y 0).val < 8 := (y 0).isLt; have := lt_of_lt_of_eq p.isLt N_0; omega⟩ (y 1))

theorem out7 (c : Dev nD) (t : Fin cfg0.N) (y : S512x1024.Idx) :
    (outsAt0 m c t.val t.isLt).1 y = g7 (iblk m c 0 t) (iblk m c 1 t) (iblk m c 2 t) (iblk m c 3 t) (iblk m c 4 t) (iblk m c 5 t) (iblk m c 6 t) y := by
  by_cases h : t.val % 16 = 0
  · exact out7_A m c t h y
  · exact out7_B m c t h y

set_option maxHeartbeats 4000000 in
theorem dy_at (c : Dev nD) (t : Fin cfg0.N) (r : Fin 512) (k : Fin 1024) :
    dy (iblk m c 0 t) (iblk m c 1 t) (iblk m c 5 t) (iblk m c 6 t) r k
      = dyA (m ((c : Thread nD τ).loc main_arg2)) (m ((c : Thread nD τ).loc main_arg3)) (m ((c : Thread nD τ).loc main_arg4)) (m ((c : Thread nD τ).loc main_arg5))
        ⟨t.val * 512 + r.val, by have := lt_of_lt_of_eq t.isLt N_0; omega⟩ k := by
  simp only [dy, part, dyA, partA, col]
  blk_point [iblk, V, idx t]
  all_goals (first | rw [entry2] | rw [entry5] | rw [entry9] | rw [entry13]); simp only [col]; blk_ext [idx t]

theorem rinv_at (c : Dev nD) (t : Fin cfg0.N) (r : Fin 512) :
    rinv (iblk m c 3 t) r = rinvA (m ((c : Thread nD τ).loc main_arg0)) ⟨t.val * 512 + r.val, by have := lt_of_lt_of_eq t.isLt N_0; omega⟩ := by
  simp only [rinv, rinvA]
  blk_point [iblk, V, idx t]

end Cert.Kernel2Ideal.Down
end
-- ==== Proof.Down.Final.lean ====
module

public import proofs.«01_k».proof.Proof.Down.Arrays
public import Idealize.ShloMosaic.Lib.Pipeline.ValueKit
public import Idealize.ShloMosaic.Lib.Pointwise
public import Idealize.ShloMosaic.Lib.Claim
public import proofs.«01_k».proof.Proof.Common.Sums

@[expose] public section
set_option maxRecDepth 16384
noncomputable section
open Idealize.ShloMosaic Idealize.ShloMosaic.TcCoe Idealize.SL.Sem
open Idealize.ShloMosaic.Pipeline (Dat)
namespace Cert.Kernel2Ideal.Down
open Cert.Kernel2Ideal Cert.Kernel2Ideal.Gen
variable (m : (ℓ : Loc nD τ sig) → Buf (Elt Ideal) ℓ)

theorem at2 (c : Dev nD) (t : Fin cfg0.N) (r : Fin 512) (k : Fin 1024) : iblk m c 2 t (ix2 r k) = (m ((c : Thread nD τ).loc main_arg6)) (ix2 ⟨t.val * 512 + r.val, by have := lt_of_lt_of_eq t.isLt N_0; omega⟩ k) := by
  blk_point [iblk, V, idx t]
theorem at3 (c : Dev nD) (t : Fin cfg0.N) (r : Fin 512) (k : Fin 1024) : iblk m c 3 t (ix2 r k) = (m ((c : Thread nD τ).loc main_arg0)) (ix2 ⟨t.val * 512 + r.val, by have := lt_of_lt_of_eq t.isLt N_0; omega⟩ k) := by
  blk_point [iblk, V, idx t]
theorem at4 (c : Dev nD) (t : Fin cfg0.N) (k : Fin 1024) : iblk m c 4 t (ix2 0 k) = (m ((c : Thread nD τ).loc main_arg1)) (ix2 0 k) := by
  blk_point [iblk, V, idx t]

theorem g7_open (x0 x1 : FVec Ideal S4x512x704 .bf16) (x2 x3 : FVec Ideal S512x1024 .f32) (x4 : FVec Ideal S1x1024 .f32) (x5 x6 : FVec Ideal S4x704x1024 .bf16) (y0 : Fin 512) (y1 : Fin 1024) :
    g7 x0 x1 x2 x3 x4 x5 x6 (ix2 y0 y1) = x2 (ix2 y0 y1) + rinv x3 y0 * (dy x0 x1 x5 x6 y0 y1 * x4 (ix2 0 y1) - x3 (ix2 y0 y1) * rinv x3 y0 *
    Ideal.div (∑ k : Fin 1024, dy x0 x1 x5 x6 y0 k * x4 (ix2 0 k) * (x3 (ix2 y0 k) * rinv x3 y0)) (Ideal.ofBits .f32 0x44800000#32)) := rfl

theorem g7_at (c : Dev nD) (t : Fin cfg0.N) (y0 : Fin 512) (y1 : Fin 1024) :
    g7 (iblk m c 0 t) (iblk m c 1 t) (iblk m c 2 t) (iblk m c 3 t) (iblk m c 4 t) (iblk m c 5 t) (iblk m c 6 t) (ix2 y0 y1)
      = A7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨t.val * 512 + y0.val, by have := lt_of_lt_of_eq t.isLt N_0; omega⟩ y1) := by
  rw [g7_open]
  simp only [dy_at, rinv_at, at2, at3, at4]
  rfl

theorem g8_at (c : Dev nD) (t : Fin cfg0.N) (y0 : Fin 8) (y1 : Fin 1024) :
    g8 (iblk m c 0 t) (iblk m c 1 t) (iblk m c 3 t) (iblk m c 5 t) (iblk m c 6 t) (ix2 y0 y1)
      = (∑ q : Fin 32, termA (m ((c : Thread nD τ).loc main_arg0)) (m ((c : Thread nD τ).loc main_arg2)) (m ((c : Thread nD τ).loc main_arg3)) (m ((c : Thread nD τ).loc main_arg4)) (m ((c : Thread nD τ).loc main_arg5)) ⟨t.val * 512 + (q.val * 8 + y0.val), by have := lt_of_lt_of_eq t.isLt N_0; omega⟩ y1)
        + ∑ q : Fin 32, termA (m ((c : Thread nD τ).loc main_arg0)) (m ((c : Thread nD τ).loc main_arg2)) (m ((c : Thread nD τ).loc main_arg3)) (m ((c : Thread nD τ).loc main_arg4)) (m ((c : Thread nD τ).loc main_arg5)) ⟨t.val * 512 + (256 + (q.val * 8 + y0.val)), by have := lt_of_lt_of_eq t.isLt N_0; omega⟩ y1 := by
  show (∑ q : Fin 32, term8 _ _ _ _ _ (⟨q.val * 8 + y0.val, _⟩ : Fin 512) y1) + (∑ q : Fin 32, term8 _ _ _ _ _ (⟨256 + (q.val * 8 + y0.val), _⟩ : Fin 512) y1) = _
  simp only [term8, dy_at, rinv_at, at3, termA]

theorem final7 (c : Dev nD) : (dats m 0 c).arrAt 7 (cfgs 0).N
    = A7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7, out7]
  have e : y = ix2 (y 0) (y 1) := by funext a; fin_cases a <;> rfl
  refine ((congrArg _ e).trans (g7_at m c t (y 0) (y 1))).trans (congrArg _ ?_)
  blk_ext [idx t]

theorem final8 (c : Dev nD) : (dats m 0 c).arrAt 8 (cfgs 0).N
    = A8 (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_after_last 8 t0_15 (by decide +kernel) _ fun j => ?_
  blk_simp
  rw [after0_8, Pipeline.eq_sum_fin_of_reset_step_apply_last (fun n h => (outsAt0 m c n h).2) 16 (fun _ => 0)
    (fun p j => g8 (iblk m c 0 p) (iblk m c 1 p) (iblk m c 3 p) (iblk m c 5 p) (iblk m c 6 p) j)
    (fun t h j => by rw [out8_A m c t h, step8_at, zero8])
    (fun t h j => by rw [out8_B m c t h, step8_at])
    (le_of_eq N_0) t0_15 rfl j, zero_add]
  unfold A8
  refine Fin.sum_fin_congr fun p => ?_
  exact g8_at m c p (j 0) (j 1)
end Cert.Kernel2Ideal.Down
end
-- ==== Proof.Common.Rms.lean ====
module

public import proofs.«01_k».proof.Proof.Common.Reals

@[expose] public section
noncomputable section
open Idealize.ShloMosaic

/-! The gradient of the root-mean-square norm over the reals, in the two groupings met. -/
namespace Cert.Rms

theorem c1024 : Ideal.ofBits .f32 0x44800000#32 = ((1024 : ℝ) : EReal) := by
  simp [Ideal.ofBits, Ideal.ieee]; rw [← EReal.coe_mul]; norm_num
theorem half : Ideal.ofBits .f32 0xBF000000#32 = ((-(1 / 2) : ℝ) : EReal) := by
  simp [Ideal.ofBits, Ideal.ieee]; rw [← EReal.coe_mul]; norm_num
theorem eps : Ideal.ofBits .f32 0x358637BD#32 = ((8796093 * (1 / 8796093022208) : ℝ) : EReal) := by
  simp [Ideal.ofBits, Ideal.ieee]; try norm_num

theorem c512 : Ideal.ofBits .f32 0x44000000#32 = ((512 : ℝ) : EReal) := by
  simp [Ideal.ofBits, Ideal.ieee]; rw [← EReal.coe_mul]; norm_num

/-- The mean square of finite numbers, with the small constant, is a positive real. -/
theorem ms_of {N : ℕ} (cst : EReal) (n : ℝ) (hn : 0 < n) (hc : cst = (n : EReal)) (x : Fin N → ℝ) : ∃ v : ℝ, 0 < v ∧
    Ideal.div (∑ k : Fin N, (x k : EReal) * (x k : EReal)) cst + Ideal.ofBits .f32 0x358637BD#32 = (v : EReal) := by
  refine ⟨(∑ k : Fin N, x k * x k) / n + 8796093 * (1 / 8796093022208), ?_, ?_⟩
  · have : 0 ≤ ∑ k : Fin N, x k * x k := Finset.sum_nonneg fun k _ => mul_self_nonneg _
    positivity
  · rw [hc, eps]
    simp only [← EReal.coe_mul]
    rw [Cert.Reals.sum_coe, Cert.Reals.div_coe _ _ hn.ne', ← EReal.coe_add]
theorem ms (x : Fin 1024 → ℝ) : ∃ v : ℝ, 0 < v ∧
    Ideal.div (∑ k : Fin 1024, (x k : EReal) * (x k : EReal)) (Ideal.ofBits .f32 0x44800000#32) + Ideal.ofBits .f32 0x358637BD#32 = (v : EReal) :=
  ms_of _ 1024 (by norm_num) c1024 x

theorem rsqrt (v : ℝ) (h : 0 < v) : Ideal.rsqrt (v : EReal) = (((Real.sqrt v)⁻¹ : ℝ) : EReal) := by
  rw [Ideal.rsqrt_coe, if_neg (not_lt.2 h.le), if_neg h.ne']

/-- A row of the norm's gradient: by the normed row's own mean, and by differentiating the reciprocal root. -/
theorem back_of {N : ℕ} (cst : EReal) (n : ℝ) (hn : 0 < n) (hc : cst = (n : EReal)) (x d g : Fin N → ℝ) (ct : ℝ) (k : Fin N) (M R : EReal)
    (hM : M = Ideal.div (∑ k : Fin N, (x k : EReal) * (x k : EReal)) cst + Ideal.ofBits .f32 0x358637BD#32) (hR : R = Ideal.rsqrt M) :
    (ct : EReal) + R * ((d k : EReal) * (g k : EReal) - (x k : EReal) * R *
        Ideal.div (∑ l : Fin N, (d l : EReal) * (g l : EReal) * ((x l : EReal) * R)) cst)
      = (ct : EReal) + (d k : EReal) * (g k : EReal) * R
        + (x k : EReal) * Ideal.div ((∑ l : Fin N, (x l : EReal) * ((d l : EReal) * (g l : EReal))) * (Ideal.ofBits .f32 0xBF000000#32 * Ideal.div R M)) cst
        + Ideal.div ((∑ l : Fin N, (x l : EReal) * ((d l : EReal) * (g l : EReal))) * (Ideal.ofBits .f32 0xBF000000#32 * Ideal.div R M)) cst * (x k : EReal) := by
  obtain ⟨v, hv, hm⟩ := ms_of cst n hn hc x
  have hs : Real.sqrt v * Real.sqrt v = v := Real.mul_self_sqrt hv.le
  have hp : 0 < Real.sqrt v := Real.sqrt_pos.2 hv
  rw [hR, hM, hm, rsqrt v hv, hc, half, Cert.Reals.div_coe _ v hv.ne']
  generalize hr : (Real.sqrt v)⁻¹ = r
  have h3 : r / v = r * r * r := by
    rw [← hr]; field_simp; rw [pow_two, hs]
  simp only [← EReal.coe_mul, Cert.Reals.sum_coe]
  rw [Cert.Reals.div_coe _ _ hn.ne', Cert.Reals.div_coe _ _ hn.ne']
  simp only [← EReal.coe_mul, ← EReal.coe_add, ← EReal.coe_sub]
  have ht : ∑ l : Fin N, d l * g l * (x l * r) = (∑ l : Fin N, x l * (d l * g l)) * r := by
    rw [Finset.sum_mul]; exact Finset.sum_congr rfl fun l _ => by ring
  rw [ht, h3]
  congr 1; ring

/-- For the rows of the residual stream, -/
theorem back (x d g : Fin 1024 → ℝ) (ct : ℝ) (k : Fin 1024) (M R : EReal)
    (hM : M = Ideal.div (∑ k : Fin 1024, (x k : EReal) * (x k : EReal)) (Ideal.ofBits .f32 0x44800000#32) + Ideal.ofBits .f32 0x358637BD#32) (hR : R = Ideal.rsqrt M) :
    (ct : EReal) + R * ((d k : EReal) * (g k : EReal) - (x k : EReal) * R *
        Ideal.div (∑ l : Fin 1024, (d l : EReal) * (g l : EReal) * ((x l : EReal) * R)) (Ideal.ofBits .f32 0x44800000#32))
      = (ct : EReal) + (d k : EReal) * (g k : EReal) * R
        + (x k : EReal) * Ideal.div ((∑ l : Fin 1024, (x l : EReal) * ((d l : EReal) * (g l : EReal))) * (Ideal.ofBits .f32 0xBF000000#32 * Ideal.div R M)) (Ideal.ofBits .f32 0x44800000#32)
        + Ideal.div ((∑ l : Fin 1024, (x l : EReal) * ((d l : EReal) * (g l : EReal))) * (Ideal.ofBits .f32 0xBF000000#32 * Ideal.div R M)) (Ideal.ofBits .f32 0x44800000#32) * (x k : EReal) :=
  back_of _ 1024 (by norm_num) c1024 x d g ct k M R hM hR

end Cert.Rms
end
-- ==== Proof.Down.Value.lean ====
module

public import proofs.«01_k».proof.Proof.Down.Final
public import Idealize.ShloMosaic.Lib.Pipeline.ValueKit
public import Idealize.ShloMosaic.Lib.Pointwise
public import Idealize.ShloMosaic.Lib.Claim
public import proofs.«01_k».proof.Proof.Common.Sums
public import proofs.«01_k».proof.Proof.Common.Rms
public import proofs.«01_k».proof.Defs
public import proofs.«01_k».proof.Proof.Gen.Reference2Ideal
public import proofs.«01_k».proof.Proof.Gen.Reference2Ideal.Read

@[expose] public section
set_option maxRecDepth 16384
noncomputable section
open Idealize.ShloMosaic Idealize.ShloMosaic.TcCoe Idealize.SL.Sem
open Idealize.ShloMosaic.Pipeline (Dat)
namespace Cert.Kernel2Ideal.Down
open Cert.Kernel2Ideal Cert.Kernel2Ideal.Gen
variable (m : (ℓ : Loc nD τ sig) → Buf (Elt Ideal) ℓ)

/-- The cotangent of the normed rows, over all columns at once. -/
def dyR (w1 w3 : FVec Ideal S1x1024x2816 .f32) (c1 c3 : FVec Ideal S8192x2816 .f32) (r : Fin 8192) (k : Fin 1024) : EReal :=
  (∑ n : Fin 2816, c3 (ix2 r n) * w3 (ix3 0 k n)) + ∑ n : Fin 2816, c1 (ix2 r n) * w1 (ix3 0 k n)

theorem dyR_eq (w1 w3 : FVec Ideal S1x1024x2816 .f32) (c1 c3 : FVec Ideal S8192x2816 .f32) (r : Fin 8192) (k : Fin 1024) :
    dyA w1 w3 c1 c3 r k = dyR w1 w3 c1 c3 r k := by
  unfold dyR dyA partA col
  rw [← Cert.Sums.cols4 fun n => c3 (ix2 r n) * w3 (ix3 0 k n), ← Cert.Sums.cols4 fun n => c1 (ix2 r n) * w1 (ix3 0 k n), Fin.sum_univ_four, Fin.sum_univ_four]
  abel

open Cert.Reference2Ideal.Read in
theorem ref23 (w1 w3 : FVec Ideal S1x1024x2816 .f32) (c1 c3 : FVec Ideal S8192x2816 .f32) (r : Fin 8192) (k : Fin 1024) :
    val_main_v23 (F := Ideal) w1 w3 c1 c3 (ix2 r k) = dyR w1 w3 c1 c3 r k := by
  pointwise [dyR, val_main_v23, val_main_v22, val_main_v21, val_main_v19, val_main_v17]

open Cert.Reference2Ideal.Read in
theorem ref7 (x : FVec Ideal S8192x1024 .f32) (r : Fin 8192) :
    val_main_v7 (F := Ideal) x (ix2 r 0) = Ideal.div (∑ k : Fin 1024, x (ix2 r k) * x (ix2 r k)) (Ideal.ofBits .f32 0x44800000#32) + Ideal.ofBits .f32 0x358637BD#32 := by
  pointwise [val_main_v7, val_main_v6, val_main_cst_1, val_main_v5, val_main_v4, val_main_cst_0, val_main_v3, val_main_v2, val_main_cst, val_main_v1]

open Cert.Reference2Ideal.Read in
theorem ref44 (x : FVec Ideal S8192x1024 .f32) (g : FVec Ideal S1x1024 .f32) (w1 w3 : FVec Ideal S1x1024x2816 .f32) (c1 c3 : FVec Ideal S8192x2816 .f32) (ct : FVec Ideal S8192x1024 .f32) (r : Fin 8192) (k : Fin 1024) :
    val_main_v44 (F := Ideal) x g w1 w3 c1 c3 ct (ix2 r k)
      = ct (ix2 r k) + val_main_v23 (F := Ideal) w1 w3 c1 c3 (ix2 r k) * g (ix2 0 k) * Ideal.rsqrt (val_main_v7 (F := Ideal) x (ix2 r 0))
        + x (ix2 r k) * Ideal.div ((∑ l : Fin 1024, x (ix2 r l) * (val_main_v23 (F := Ideal) w1 w3 c1 c3 (ix2 r l) * g (ix2 0 l))) * (Ideal.ofBits .f32 0xBF000000#32 * Ideal.div (Ideal.rsqrt (val_main_v7 (F := Ideal) x (ix2 r 0))) (val_main_v7 (F := Ideal) x (ix2 r 0)))) (Ideal.ofBits .f32 0x44800000#32) + Ideal.div ((∑ l : Fin 1024, x (ix2 r l) * (val_main_v23 (F := Ideal) w1 w3 c1 c3 (ix2 r l) * g (ix2 0 l))) * (Ideal.ofBits .f32 0xBF000000#32 * Ideal.div (Ideal.rsqrt (val_main_v7 (F := Ideal) x (ix2 r 0))) (val_main_v7 (F := Ideal) x (ix2 r 0)))) (Ideal.ofBits .f32 0x44800000#32) * x (ix2 r k) := by
  pointwise [val_main_v44, val_main_v43, val_main_v42, val_main_v41, val_main_v40, val_main_v39, val_main_cst_7, val_main_v38, val_main_v37, val_main_cst_6, val_main_v36, val_main_v35, val_main_v34, val_main_v33, val_main_v32, val_main_v31, val_main_cst_5, val_main_v30, val_main_v28, val_main_v27, val_main_v26, val_main_v15, val_main_v14, val_main_v0, val_main_v11, val_main_v10, val_main_cst_2, val_main_v9, val_main_v8]
  rw [Fin.sum_univ_one]

open Cert.Reference2Ideal.Read in
theorem ref45 (x : FVec Ideal S8192x1024 .f32) (w1 w3 : FVec Ideal S1x1024x2816 .f32) (c1 c3 : FVec Ideal S8192x2816 .f32) (k : Fin 1024) :
    val_main_v45 (F := Ideal) x w1 w3 c1 c3 (ix2 0 k) = ∑ r : Fin 8192, x (ix2 r k) * Ideal.rsqrt (val_main_v7 (F := Ideal) x (ix2 r 0)) * val_main_v23 (F := Ideal) w1 w3 c1 c3 (ix2 r k) := by
  pointwise [val_main_v45, val_main_v29, val_main_cst_4, val_main_v26, val_main_v25, val_main_cst_3, val_main_v24, val_main_v13, val_main_v12, val_main_v8]
  rw [Fin.sum_univ_one]

open Cert.Reference2Ideal.Read in
/-- The two cotangents of the rows, at finite arguments. -/
theorem same7 (x : FVec Ideal S8192x1024 .f32) (g : FVec Ideal S1x1024 .f32) (w1 w3 : FVec Ideal S1x1024x2816 .f32) (c1 c3 : FVec Ideal S8192x2816 .f32) (ct : FVec Ideal S8192x1024 .f32)
    (fx : S8192x1024.Idx → ℝ) (fg : S1x1024.Idx → ℝ) (f1 f3 : S1x1024x2816.Idx → ℝ) (e1 e3 : S8192x2816.Idx → ℝ) (fc : S8192x1024.Idx → ℝ)
    (hx : ∀ i, x i = ((fx i : ℝ) : EReal)) (hg : ∀ i, g i = ((fg i : ℝ) : EReal)) (h1 : ∀ i, w1 i = ((f1 i : ℝ) : EReal)) (h3 : ∀ i, w3 i = ((f3 i : ℝ) : EReal))
    (hc1 : ∀ i, c1 i = ((e1 i : ℝ) : EReal)) (hc3 : ∀ i, c3 i = ((e3 i : ℝ) : EReal)) (hct : ∀ i, ct i = ((fc i : ℝ) : EReal)) :
    val_main_v44 (F := Ideal) x g w1 w3 c1 c3 ct = A7 x g w1 w3 c1 c3 ct := by
  funext i
  idx_vars i
  have hd : ∀ k : Fin 1024, dyR w1 w3 c1 c3 i0 k = (((∑ n : Fin 2816, e3 (ix2 i0 n) * f3 (ix3 0 k n)) + ∑ n : Fin 2816, e1 (ix2 i0 n) * f1 (ix3 0 k n) : ℝ) : EReal) := fun k => by
    unfold dyR
    rw [EReal.coe_add, ← Cert.Reals.sum_coe, ← Cert.Reals.sum_coe]
    exact congrArg₂ (· + ·) (Finset.sum_congr rfl fun n _ => by rw [EReal.coe_mul, hc3, h3]) (Finset.sum_congr rfl fun n _ => by rw [EReal.coe_mul, hc1, h1])
  rw [ref44]
  show _ = ct (ix2 i0 i1) + rinvA x i0 * (dyA w1 w3 c1 c3 i0 i1 * g (ix2 0 i1) - x (ix2 i0 i1) * rinvA x i0 *
    Ideal.div (∑ k : Fin 1024, dyA w1 w3 c1 c3 i0 k * g (ix2 0 k) * (x (ix2 i0 k) * rinvA x i0)) (Ideal.ofBits .f32 0x44800000#32))
  have hr : rinvA x i0 = Ideal.rsqrt (val_main_v7 (F := Ideal) x (ix2 i0 0)) := by rw [ref7]; rfl
  have h7 := ref7 x i0
  generalize val_main_v7 (F := Ideal) x (ix2 i0 0) = ms at h7 hr ⊢
  rw [hr]
  simp only [ref23, dyR_eq, hd, hx, hg, hct] at h7 ⊢
  exact (Cert.Rms.back (fun k => fx (ix2 i0 k)) (fun k => (∑ n : Fin 2816, e3 (ix2 i0 n) * f3 (ix3 0 k n)) + ∑ n : Fin 2816, e1 (ix2 i0 n) * f1 (ix3 0 k n)) (fun k => fg (ix2 0 k)) (fc (ix2 i0 i1)) i1 ms _ h7 rfl).symm

/-- The eight rows of partial sums added up. -/
abbrev total (X : FVec Ideal S8x1024 .f32) : FVec Ideal S1x1024 .f32 :=
  broadcastInDim S1x1024 ![1] bcast_S1024_S1x1024_1 (Host.reduceAdd (F := Ideal) X (constant (F := Ideal) S_ .f32 0x00000000#32) reducesTo_S8x1024_S1024_d0 h_S_)

theorem total_at (X : FVec Ideal S8x1024 .f32) (k : Fin 1024) : total X (ix2 0 k) = ∑ l : Fin 8, X (ix2 l k) := by
  pointwise [total]

theorem A8_total (x : FVec Ideal S8192x1024 .f32) (w1 w3 : FVec Ideal S1x1024x2816 .f32) (c1 c3 : FVec Ideal S8192x2816 .f32) (k : Fin 1024) :
    total (A8 x w1 w3 c1 c3) (ix2 0 k) = ∑ r : Fin 8192, termA x w1 w3 c1 c3 r k := by
  rw [total_at]
  have h := Cert.Sums.rows8 fun R => if h : R < 8192 then termA x w1 w3 c1 c3 ⟨R, h⟩ k else 0
  refine Eq.trans ?_ (h.trans (Finset.sum_congr rfl fun r _ => dif_pos r.isLt))
  refine Finset.sum_congr rfl fun l _ => ?_
  show (∑ p : Fin 16, ((∑ q : Fin 32, termA x w1 w3 c1 c3 ⟨p.val * 512 + (q.val * 8 + l.val), _⟩ k)
    + ∑ q : Fin 32, termA x w1 w3 c1 c3 ⟨p.val * 512 + (256 + (q.val * 8 + l.val)), _⟩ k)) = _
  refine Finset.sum_congr rfl fun p _ => congrArg₂ (· + ·) (Finset.sum_congr rfl fun q _ => ?_) (Finset.sum_congr rfl fun q _ => ?_)
  · rw [dif_pos (show p.val * 512 + (q.val * 8 + l.val) < 8192 by omega)]
  · rw [dif_pos (show p.val * 512 + (256 + (q.val * 8 + l.val)) < 8192 by omega)]

open Cert.Reference2Ideal.Read in
/-- The two gradients of the gain. -/
theorem same8 (x : FVec Ideal S8192x1024 .f32) (w1 w3 : FVec Ideal S1x1024x2816 .f32) (c1 c3 : FVec Ideal S8192x2816 .f32) :
    val_main_v45 (F := Ideal) x w1 w3 c1 c3 = total (A8 x w1 w3 c1 c3) := by
  funext i
  have e : i = ix2 0 (i 1) := by
    funext a
    fin_cases a
    · apply Fin.ext; have : (i 0).val < 1 := (i 0).isLt; show (i 0).val = 0; omega
    · rfl
  obtain ⟨k, hk⟩ : ∃ k : Fin 1024, i = ix2 0 k := ⟨i 1, e⟩
  rw [hk]
  refine (ref45 x w1 w3 c1 c3 k).trans (Eq.trans ?_ (A8_total x w1 w3 c1 c3 k).symm)
  refine Finset.sum_congr rfl fun r _ => ?_
  rw [ref23, ref7, ← dyR_eq, termA, rinvA, mul_comm]

theorem tail8 (c : Dev nD) : Pipeline.afterTail₀ cfgs (dats m) 0 (V0 m) [hostOps1] c main_v16
    = total (A8 (m ((c : Thread nD τ).loc main_arg0)) (m ((c : Thread nD τ).loc main_arg2)) (m ((c : Thread nD τ).loc main_arg3)) (m ((c : Thread nD τ).loc main_arg4)) (m ((c : Thread nD τ).loc main_arg5))) := by
  rw [← final8 m c]
  show StableHlo.after hostOps1 _ _ = _
  after_results
  exact congrArg total (Pipeline.withArrays_arr spec0 (by decide) c _ _ 8)
end Cert.Kernel2Ideal.Down

namespace Cert.Proof
open Cert.Kernel2Ideal.Down

theorem down_algebraic (hf : Cert.Pre_bwd_down_finite.Facts) : Cert.algebraic_Kernel2Ideal_Reference2Ideal_pre_bwd_down_finite (hKernel2Ideal := Cert.Kernel2Ideal.Gen.facts)
    (hReference2Ideal := Cert.Reference2Ideal.Gen.facts) (hPre_bwd_down_finite := hf) := by
  pair_intro
  · run_from Cert.Kernel2Ideal.Gen.run_main m g
    · exact Cert.Kernel2Ideal.Gen.W_main_arg2 m _ c
    · exact Cert.Kernel2Ideal.Gen.W_main_arg3 m _ c
    · exact Cert.Kernel2Ideal.Gen.W_main_arg4 m _ c
    · exact Cert.Kernel2Ideal.Gen.W_main_arg5 m _ c
  · have hfin := hpre
    run_from Cert.Reference2Ideal.Value.run m' g'
    · obtain ⟨f0, h0⟩ := Cert.Reals.finite _ _ (hfin c).1
      obtain ⟨f1, h1⟩ := Cert.Reals.finite _ _ (hfin c).2.1
      obtain ⟨f2, h2⟩ := Cert.Reals.finite _ _ (hfin c).2.2.1
      obtain ⟨f3, h3⟩ := Cert.Reals.finite _ _ (hfin c).2.2.2.1
      obtain ⟨f4, h4⟩ := Cert.Reals.finite _ _ (hfin c).2.2.2.2.1
      obtain ⟨f5, h5⟩ := Cert.Reals.finite _ _ (hfin c).2.2.2.2.2.1
      obtain ⟨f6, h6⟩ := Cert.Reals.finite _ _ (hfin c).2.2.2.2.2.2
      obtain ⟨a0, a1, a2, a3, a4, a5, a6⟩ := hagree c
      rw [Cert.Reference2Ideal.Read.val_main_v44_eq, a0, a1, a2, a3, a4, a5, a6]
      exact (same7 _ _ _ _ _ _ _ f0 f1 f2 f3 f4 f5 f6 h0 h1 h2 h3 h4 h5 h6).trans (final7 m c).symm
    · exact (same8 _ _ _ _ _).trans (tail8 m c).symm
end Cert.Proof
end
-- ==== Proof.Inb.Body.lean ====
module

public import proofs.«01_k».proof.Proof.Gen.Kernel3Ideal.Frame
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
namespace Cert.Kernel3Ideal.Inb
open Cert.Kernel3Ideal Cert.Kernel3Ideal.Gen
variable (m : (ℓ : Loc nD τ sig) → Buf (Elt Ideal) ℓ)

/-- The cotangent of the normed rows. -/
def dh (x1 : FVec Ideal S512x1536 .bf16) (x4 : FVec Ideal S1024x1536 .bf16) (r : Fin 512) (k : Fin 1024) : EReal :=
  ∑ n : Fin 1536, x1 (ix2 r n) * x4 (ix2 k n)

/-- A row's reciprocal root mean square. -/
def rinv (x : FVec Ideal S512x1024 .f32) (r : Fin 512) : EReal :=
  Ideal.rsqrt (Ideal.div (∑ k : Fin 1024, x (ix2 r k) * x (ix2 r k)) (Ideal.ofBits .f32 0x44800000#32) + Ideal.ofBits .f32 0x358637BD#32)

/-- The rows' cotangent within a tile. -/
def g5 (x0 : FVec Ideal S512x1024 .f32) (x1 : FVec Ideal S512x1536 .bf16) (x2 : FVec Ideal S512x1024 .f32) (x3 : FVec Ideal S1x1024 .f32) (x4 : FVec Ideal S1024x1536 .bf16) (y : S512x1024.Idx) : EReal :=
  x2 y + rinv x0 (y 0) * (dh x1 x4 (y 0) (y 1) * x3 (ix2 0 (y 1)) - x0 y * rinv x0 (y 0) *
    Ideal.div (∑ k : Fin 1024, dh x1 x4 (y 0) k * x3 (ix2 0 k) * (x0 (ix2 (y 0) k) * rinv x0 (y 0))) (Ideal.ofBits .f32 0x44800000#32))

/-- A tile's part of the projection's gradient: block `y 0` of the columns. -/
def g6 (x0 : FVec Ideal S512x1024 .f32) (x1 : FVec Ideal S512x1536 .bf16) (x3 : FVec Ideal S1x1024 .f32) (y : S4x1024x384.Idx) : EReal :=
  ∑ q : Fin 512, x0 (ix2 q (y 1)) * rinv x0 q * x3 (ix2 0 (y 1)) * x1 (ix2 q ⟨(y 0).val * 384 + (y 2).val, by have : (y 0).val < 4 := (y 0).isLt; have : (y 2).val < 384 := (y 2).isLt; omega⟩)

/-- A tile's part of the gain's gradient, eight rows of partial sums. -/
def g7 (x0 : FVec Ideal S512x1024 .f32) (x1 : FVec Ideal S512x1536 .bf16) (x4 : FVec Ideal S1024x1536 .bf16) (y : S8x1024.Idx) : EReal :=
  ∑ q : Fin 64, dh x1 x4 ⟨q.val * 8 + (y 0).val, by have : (y 0).val < 8 := (y 0).isLt; omega⟩ (y 1)
    * (x0 (ix2 ⟨q.val * 8 + (y 0).val, by have : (y 0).val < 8 := (y 0).isLt; omega⟩ (y 1)) * rinv x0 ⟨q.val * 8 + (y 0).val, by have : (y 0).val < 8 := (y 0).isLt; omega⟩)

theorem out5_A (c : Dev nD) (t : Fin cfg0.N) (h : t.val % 16 = 0) (y : S512x1024.Idx) :
    (outsAt0 m c t.val t.isLt).1 y = g5 (iblk m c 0 t) (iblk m c 1 t) (iblk m c 2 t) (iblk m c 3 t) (iblk m c 4 t) y := by
  rw [outsAt0_A m c t h]; dsimp only; unfold out0_A_5
  frame_out
  generalize iblk m c 0 t = x0
  generalize iblk m c 1 t = x1
  generalize iblk m c 2 t = x2
  generalize iblk m c 3 t = x3
  generalize iblk m c 4 t = x4
  clear h
  idx_vars y
  open_payloads; pointwise [g5, dh, rinv]
theorem out5_B (c : Dev nD) (t : Fin cfg0.N) (h : ¬ t.val % 16 = 0) (y : S512x1024.Idx) :
    (outsAt0 m c t.val t.isLt).1 y = g5 (iblk m c 0 t) (iblk m c 1 t) (iblk m c 2 t) (iblk m c 3 t) (iblk m c 4 t) y := by
  rw [outsAt0_B m c t h]; dsimp only; unfold out0_B_5
  frame_out
  generalize iblk m c 0 t = x0
  generalize iblk m c 1 t = x1
  generalize iblk m c 2 t = x2
  generalize iblk m c 3 t = x3
  generalize iblk m c 4 t = x4
  clear h
  idx_vars y
  open_payloads; pointwise [g5, dh, rinv]

theorem out7_A (c : Dev nD) (t : Fin cfg0.N) (h : t.val % 16 = 0) (y : S8x1024.Idx) :
    (outsAt0 m c t.val t.isLt).2.2 y = 0 + g7 (iblk m c 0 t) (iblk m c 1 t) (iblk m c 4 t) y := by
  rw [outsAt0_A m c t h]; dsimp only; unfold out0_A_7
  frame_out
  generalize iblk m c 0 t = x0
  generalize iblk m c 1 t = x1
  generalize iblk m c 4 t = x4
  clear h
  idx_vars y
  open_payloads; pointwise [g7, dh, rinv]
theorem out7_B (c : Dev nD) (t : Fin cfg0.N) (h : ¬ t.val % 16 = 0) (y : S8x1024.Idx) :
    (outsAt0 m c t.val t.isLt).2.2 y = (outsAt0 m c (t.val - 1) (by omega)).2.2 y + g7 (iblk m c 0 t) (iblk m c 1 t) (iblk m c 4 t) y := by
  rw [outsAt0_B m c t h]; dsimp only; unfold out0_B_7
  frame_out
  generalize iblk m c 0 t = x0
  generalize iblk m c 1 t = x1
  generalize iblk m c 4 t = x4
  generalize (outsAt0 m c (t.val - 1) _).2.2 = acc
  clear h
  idx_vars y
  open_payloads; pointwise [g7, dh, rinv]

theorem out6_B (c : Dev nD) (t : Fin cfg0.N) (h : ¬ t.val % 16 = 0) (y : S4x1024x384.Idx) :
    (outsAt0 m c t.val t.isLt).2.1 y = (outsAt0 m c (t.val - 1) (by omega)).2.1 y + g6 (iblk m c 0 t) (iblk m c 1 t) (iblk m c 3 t) y := by
  rw [outsAt0_B m c t h]; dsimp only; unfold out0_B_6
  frame_out
  generalize iblk m c 0 t = x0
  generalize iblk m c 1 t = x1
  generalize iblk m c 3 t = x3
  generalize (outsAt0 m c (t.val - 1) _).2.1 = acc
  clear h
  idx_vars y
  canon_tiles x h
  case piece0 =>
    rw [show y0 = (3 : Fin 4) from Fin.ext (by show y0.val = 3; have e : y0.val = 3 + (x 0).val := h0; omega), show y1 = x 1 from Fin.ext h1, show y2 = x 2 from Fin.ext h2]
    open_payloads; pointwise [g6, rinv]
  case piece1 =>
    rw [show y0 = (2 : Fin 4) from Fin.ext (by show y0.val = 2; have e : y0.val = 2 + (x 0).val := h0; omega), show y1 = x 1 from Fin.ext h1, show y2 = x 2 from Fin.ext h2]
    open_payloads; pointwise [g6, rinv]
  case piece2 =>
    rw [show y0 = (1 : Fin 4) from Fin.ext (by show y0.val = 1; have e : y0.val = 1 + (x 0).val := h0; omega), show y1 = x 1 from Fin.ext h1, show y2 = x 2 from Fin.ext h2]
    open_payloads; pointwise [g6, rinv]
  case piece3 =>
    rw [show y0 = (0 : Fin 4) from Fin.ext (by show y0.val = 0; have e : y0.val = (x 0).val := h0; omega), show y1 = x 1 from Fin.ext h1, show y2 = x 2 from Fin.ext h2]
    open_payloads; pointwise [g6, rinv]
/-- A block of the accumulator read past a store into an earlier block. -/
theorem other (a b : ℕ) (h : a + 1 ≤ b) {ia : ∀ x, ![a, 0, 0] x + ![1, 1024, 384] x ≤ S4x1024x384.size x} {ib : ∀ x, ![b, 0, 0] x + ![1, 1024, 384] x ≤ S4x1024x384.size x}
    (v : View sig .tc .vmem S4x1024x384 .f32) (w : Vec Ideal S1x1024x384 .f32) (L : List (View.Piece (Elt Ideal) S4x1024x384 .f32)) :
    v.readCov (⟨Rect.unit ![a, 0, 0] ![1, 1024, 384] ia, w⟩ :: L) (Rect.unit ![b, 0, 0] ![1, 1024, 384] ib).toLoadRect = v.readCov L (Rect.unit ![b, 0, 0] ![1, 1024, 384] ib).toLoadRect :=
  View.readCov_cons_of_disjoint _ _ _ _ (Rect.unit_disjoint (inb := ia) (inb' := ib) 0 (Or.inl h))

/-- A block of the accumulator read after the whole was filled. -/
theorem filled (b : ℕ) {i0 : ∀ x, ![0, 0, 0] x + ![4, 1024, 384] x ≤ S4x1024x384.size x} {ib : ∀ x, ![b, 0, 0] x + ![1, 1024, 384] x ≤ S4x1024x384.size x}
    (v : View sig .tc .vmem S4x1024x384 .f32) (w : Vec Ideal S4x1024x384 .f32) :
    v.readCov [⟨Rect.unit ![0, 0, 0] ![4, 1024, 384] i0, w⟩] (Rect.unit ![b, 0, 0] ![1, 1024, 384] ib).toLoadRect = View.ld w (Rect.unit ![b, 0, 0] ![1, 1024, 384] ib) := by
  rw [View.readCov_eq_canon']
  exact congrArg (fun X : Vec Ideal S4x1024x384 .f32 => View.ld X (Rect.unit ![b, 0, 0] ![1, 1024, 384] ib)) (View.canon_cons_unit_lit i0 w [] (by decide))

/-- The accumulator at a block just stored, -/
theorem hit (a : ℕ) (ha : a < 4) (y0 : Fin 4) (hy : y0.val = a) {ia : ∀ x, ![a, 0, 0] x + ![1, 1024, 384] x ≤ S4x1024x384.size x} (w : Vec Ideal S1x1024x384 .f32) (L : List (View.Piece (Elt Ideal) S4x1024x384 .f32)) (y1 : Fin 1024) (y2 : Fin 384) :
    View.canon ((⟨Rect.unit ![a, 0, 0] ![1, 1024, 384] ia, w⟩ : View.Piece (Elt Ideal) S4x1024x384 .f32) :: L) (ix3 y0 y1 y2) = w (ix3 0 y1 y2) := by
  have hx : ix3 y0 y1 y2 = (Rect.unit (s := S4x1024x384) ![a, 0, 0] ![1, 1024, 384] ia).emb (ix3 (0 : Fin 1) y1 y2 : S1x1024x384.Idx) := by
    funext x
    apply Fin.ext
    fin_cases x
    · show y0.val = a + 1 * 0; omega
    · show y1.val = 0 + 1 * y1.val; omega
    · show y2.val = 0 + 1 * y2.val; omega
  rw [hx]
  exact View.canon_cons_emb (Rect.unit (s := S4x1024x384) ![a, 0, 0] ![1, 1024, 384] ia) w L _

/-- and at another one. -/
theorem miss (a : ℕ) (y0 : Fin 4) (h : y0.val ≠ a) {ia : ∀ x, ![a, 0, 0] x + ![1, 1024, 384] x ≤ S4x1024x384.size x} (w : Vec Ideal S1x1024x384 .f32) (L : List (View.Piece (Elt Ideal) S4x1024x384 .f32)) (y1 : Fin 1024) (y2 : Fin 384) :
    View.canon ((⟨Rect.unit ![a, 0, 0] ![1, 1024, 384] ia, w⟩ : View.Piece (Elt Ideal) S4x1024x384 .f32) :: L) (ix3 y0 y1 y2) = View.canon L (ix3 y0 y1 y2) := by
  refine View.canon_cons_of_not_mem _ _ fun hm => ?_
  have := (Rect.mem_set_unit (s := S4x1024x384) (inb := ia)).mp hm 0
  have h1 : a ≤ y0.val ∧ y0.val < a + 1 := this
  omega

theorem out6_A (c : Dev nD) (t : Fin cfg0.N) (h : t.val % 16 = 0) (y : S4x1024x384.Idx) :
    (outsAt0 m c t.val t.isLt).2.1 y = 0 + g6 (iblk m c 0 t) (iblk m c 1 t) (iblk m c 3 t) y := by
  rw [outsAt0_A m c t h]; dsimp only; unfold out0_A_6
  frame_out
  generalize iblk m c 0 t = x0
  generalize iblk m c 1 t = x1
  generalize iblk m c 3 t = x3
  clear h
  idx_vars y
  have e : y0 = 0 ∨ y0 = 1 ∨ y0 = 2 ∨ y0 = 3 := by omega
  rcases e with rfl | rfl | rfl | rfl
  · rw [miss 3 _ (by decide), miss 2 _ (by decide), miss 1 _ (by decide), hit 0 (by decide) _ (by rfl), filled 0]
    open_payloads; pointwise [g6, rinv]
  · rw [miss 3 _ (by decide), miss 2 _ (by decide), hit 1 (by decide) _ (by rfl), other 0 1 (by decide), filled 1]
    open_payloads; pointwise [g6, rinv]
  · rw [miss 3 _ (by decide), hit 2 (by decide) _ (by rfl), other 1 2 (by decide), other 0 2 (by decide), filled 2]
    open_payloads; pointwise [g6, rinv]
  · rw [hit 3 (by decide) _ (by rfl), other 2 3 (by decide), other 1 3 (by decide), other 0 3 (by decide), filled 3]
    open_payloads; pointwise [g6, rinv]
end Cert.Kernel3Ideal.Inb
end
-- ==== Proof.Inb.Arrays.lean ====
module

public import proofs.«01_k».proof.Proof.Inb.Body
public import Idealize.ShloMosaic.Lib.Pipeline.ValueKit
public import Idealize.ShloMosaic.Lib.Pointwise
public import Idealize.ShloMosaic.Lib.Claim
public import proofs.«01_k».proof.Proof.Common.Sums

@[expose] public section
set_option maxRecDepth 16384
noncomputable section
open Idealize.ShloMosaic Idealize.ShloMosaic.TcCoe Idealize.SL.Sem
open Idealize.ShloMosaic.Pipeline (Dat)
namespace Cert.Kernel3Ideal.Inb
open Cert.Kernel3Ideal Cert.Kernel3Ideal.Gen
variable (m : (ℓ : Loc nD τ sig) → Buf (Elt Ideal) ℓ)

/-- Which block of each array a grid point works on. -/
theorem idx : ∀ t : Fin cfg0.N, win0_0.index t = ![t.val, 0] ∧ win0_1.index t = ![t.val, 0] ∧ win0_2.index t = ![t.val, 0] ∧ win0_3.index t = ![0, 0] ∧ win0_4.index t = ![0, 0]
    ∧ win0_5.index t = ![t.val, 0] ∧ win0_6.index t = ![0, 0, 0] ∧ win0_7.index t = ![0, 0] :=
  (by decide +kernel : ∀ t : Fin grid0.N, _)

theorem entry0 (c : Dev nD) (i : S8192x1536.Idx) : V m c main_v0 i = m ((c : Thread nD τ).loc main_arg3) i := by
  refine congrFun (?_ : V m c main_v0 = truncf (F := Ideal) .bf16 (m ((c : Thread nD τ).loc main_arg3)) bitsLt_bf16_f32) i
  show StableHlo.after hostOps0 _ _ = _
  after_results
theorem weight (X : FVec Ideal S1x1024x1536 .f32) (i : S1024x1536.Idx) : truncf (F := Ideal) .bf16 (shapeCast S1024x1536 X shapeCasts_S1x1024x1536_S1024x1536) bitsLt_bf16_f32 i
    = X (ix3 0 (i 0) (i 1)) := by
  idx_vars i
  pointwise []
theorem entry2 (c : Dev nD) (i : S1024x1536.Idx) : V m c main_v2 i = m ((c : Thread nD τ).loc main_arg2) (ix3 0 (i 0) (i 1)) := by
  refine (congrFun (?_ : V m c main_v2 = truncf (F := Ideal) .bf16 (shapeCast S1024x1536 (m ((c : Thread nD τ).loc main_arg2)) shapeCasts_S1x1024x1536_S1024x1536) bitsLt_bf16_f32) i).trans (weight _ i)
  show StableHlo.after hostOps0 _ _ = _
  after_results; rfl

/-- The cotangent of the normed rows, from the whole arrays. -/
def dhA (w : FVec Ideal S1x1024x1536 .f32) (ct : FVec Ideal S8192x1536 .f32) (r : Fin 8192) (k : Fin 1024) : EReal :=
  ∑ n : Fin 1536, ct (ix2 r n) * w (ix3 0 k n)
/-- A row's reciprocal root mean square. -/
def rinvA (x : FVec Ideal S8192x1024 .f32) (r : Fin 8192) : EReal :=
  Ideal.rsqrt (Ideal.div (∑ k : Fin 1024, x (ix2 r k) * x (ix2 r k)) (Ideal.ofBits .f32 0x44800000#32) + Ideal.ofBits .f32 0x358637BD#32)
/-- The rows' cotangent. -/
def A5 (x : FVec Ideal S8192x1024 .f32) (g : FVec Ideal S1x1024 .f32) (w : FVec Ideal S1x1024x1536 .f32) (ct : FVec Ideal S8192x1536 .f32) (cr : FVec Ideal S8192x1024 .f32) : FVec Ideal S8192x1024 .f32 :=
  fun y => cr (ix2 (y 0) (y 1)) + rinvA x (y 0) * (dhA w ct (y 0) (y 1) * g (ix2 0 (y 1)) - x (ix2 (y 0) (y 1)) * rinvA x (y 0) *
    Ideal.div (∑ k : Fin 1024, dhA w ct (y 0) k * g (ix2 0 k) * (x (ix2 (y 0) k) * rinvA x (y 0))) (Ideal.ofBits .f32 0x44800000#32))
/-- A row's term of the projection's gradient. -/
def term6 (x : FVec Ideal S8192x1024 .f32) (g : FVec Ideal S1x1024 .f32) (ct : FVec Ideal S8192x1536 .f32) (k : Fin 1024) (n : Fin 1536) (r : Fin 8192) : EReal :=
  x (ix2 r k) * rinvA x r * g (ix2 0 k) * ct (ix2 r n)
/-- A row's term of the gain's gradient. -/
def term7 (x : FVec Ideal S8192x1024 .f32) (w : FVec Ideal S1x1024x1536 .f32) (ct : FVec Ideal S8192x1536 .f32) (k : Fin 1024) (r : Fin 8192) : EReal :=
  dhA w ct r k * (x (ix2 r k) * rinvA x r)
/-- The projection's gradient as the kernel leaves it: four blocks of columns, the tiles of rows added up. -/
def A6 (x : FVec Ideal S8192x1024 .f32) (g : FVec Ideal S1x1024 .f32) (ct : FVec Ideal S8192x1536 .f32) : FVec Ideal S4x1024x384 .f32 :=
  fun y => ∑ p : Fin cfg0.N, ∑ q : Fin 512, term6 x g ct (y 1) ⟨(y 0).val * 384 + (y 2).val, by have : (y 0).val < 4 := (y 0).isLt; have : (y 2).val < 384 := (y 2).isLt; omega⟩ ⟨p.val * 512 + q.val, by have := lt_of_lt_of_eq p.isLt N_0; omega⟩
/-- The gain's gradient as the kernel leaves it: eight rows of partial sums. -/
def A7 (x : FVec Ideal S8192x1024 .f32) (w : FVec Ideal S1x1024x1536 .f32) (ct : FVec Ideal S8192x1536 .f32) : FVec Ideal S8x1024 .f32 :=
  fun y => ∑ p : Fin cfg0.N, ∑ q : Fin 64, term7 x w ct (y 1) ⟨p.val * 512 + (q.val * 8 + (y 0).val), by have : (y 0).val < 8 := (y 0).isLt; have := lt_of_lt_of_eq p.isLt N_0; omega⟩

theorem out5 (c : Dev nD) (t : Fin cfg0.N) (y : S512x1024.Idx) :
    (outsAt0 m c t.val t.isLt).1 y = g5 (iblk m c 0 t) (iblk m c 1 t) (iblk m c 2 t) (iblk m c 3 t) (iblk m c 4 t) y := by
  by_cases h : t.val % 16 = 0
  · exact out5_A m c t h y
  · exact out5_B m c t h y

theorem at0 (c : Dev nD) (t : Fin cfg0.N) (r : Fin 512) (k : Fin 1024) : iblk m c 0 t (ix2 r k) = (m ((c : Thread nD τ).loc main_arg0)) (ix2 ⟨t.val * 512 + r.val, by have := lt_of_lt_of_eq t.isLt N_0; omega⟩ k) := by
  blk_point [iblk, V, idx t]
theorem at1 (c : Dev nD) (t : Fin cfg0.N) (r : Fin 512) (k : Fin 1536) : iblk m c 1 t (ix2 r k) = (m ((c : Thread nD τ).loc main_arg3)) (ix2 ⟨t.val * 512 + r.val, by have := lt_of_lt_of_eq t.isLt N_0; omega⟩ k) := by
  blk_point [iblk, V, idx t]
theorem at2 (c : Dev nD) (t : Fin cfg0.N) (r : Fin 512) (k : Fin 1024) : iblk m c 2 t (ix2 r k) = (m ((c : Thread nD τ).loc main_arg4)) (ix2 ⟨t.val * 512 + r.val, by have := lt_of_lt_of_eq t.isLt N_0; omega⟩ k) := by
  blk_point [iblk, V, idx t]
theorem at3 (c : Dev nD) (t : Fin cfg0.N) (k : Fin 1024) : iblk m c 3 t (ix2 0 k) = (m ((c : Thread nD τ).loc main_arg1)) (ix2 0 k) := by
  blk_point [iblk, V, idx t]
theorem at4 (c : Dev nD) (t : Fin cfg0.N) (k : Fin 1024) (n : Fin 1536) : iblk m c 4 t (ix2 k n) = (m ((c : Thread nD τ).loc main_arg2)) (ix3 0 k n) := by
  refine (entry2 m c _).trans ?_
  blk_ext [idx t]

theorem dh_at (c : Dev nD) (t : Fin cfg0.N) (r : Fin 512) (k : Fin 1024) : dh (iblk m c 1 t) (iblk m c 4 t) r k = dhA (m ((c : Thread nD τ).loc main_arg2)) (m ((c : Thread nD τ).loc main_arg3)) ⟨t.val * 512 + r.val, by have := lt_of_lt_of_eq t.isLt N_0; omega⟩ k := by
  simp only [dh, dhA, at1, at4]
theorem rinv_at (c : Dev nD) (t : Fin cfg0.N) (r : Fin 512) : rinv (iblk m c 0 t) r = rinvA (m ((c : Thread nD τ).loc main_arg0)) ⟨t.val * 512 + r.val, by have := lt_of_lt_of_eq t.isLt N_0; omega⟩ := by
  simp only [rinv, rinvA, at0]
end Cert.Kernel3Ideal.Inb
end
-- ==== Proof.Inb.Final.lean ====
module

public import proofs.«01_k».proof.Proof.Inb.Arrays
public import Idealize.ShloMosaic.Lib.Pipeline.ValueKit
public import Idealize.ShloMosaic.Lib.Pointwise
public import Idealize.ShloMosaic.Lib.Claim
public import proofs.«01_k».proof.Proof.Common.Sums

@[expose] public section
set_option maxRecDepth 16384
noncomputable section
open Idealize.ShloMosaic Idealize.ShloMosaic.TcCoe Idealize.SL.Sem
open Idealize.ShloMosaic.Pipeline (Dat)
namespace Cert.Kernel3Ideal.Inb
open Cert.Kernel3Ideal Cert.Kernel3Ideal.Gen
variable (m : (ℓ : Loc nD τ sig) → Buf (Elt Ideal) ℓ)

theorem g5_open (x0 : FVec Ideal S512x1024 .f32) (x1 : FVec Ideal S512x1536 .bf16) (x2 : FVec Ideal S512x1024 .f32) (x3 : FVec Ideal S1x1024 .f32) (x4 : FVec Ideal S1024x1536 .bf16) (y0 : Fin 512) (y1 : Fin 1024) :
    g5 x0 x1 x2 x3 x4 (ix2 y0 y1) = x2 (ix2 y0 y1) + rinv x0 y0 * (dh x1 x4 y0 y1 * x3 (ix2 0 y1) - x0 (ix2 y0 y1) * rinv x0 y0 *
    Ideal.div (∑ k : Fin 1024, dh x1 x4 y0 k * x3 (ix2 0 k) * (x0 (ix2 y0 k) * rinv x0 y0)) (Ideal.ofBits .f32 0x44800000#32)) := rfl

theorem g6_open (x0 : FVec Ideal S512x1024 .f32) (x1 : FVec Ideal S512x1536 .bf16) (x3 : FVec Ideal S1x1024 .f32) (j : Fin 4) (k : Fin 1024) (n : Fin 384) :
    g6 x0 x1 x3 (ix3 j k n) = ∑ q : Fin 512, x0 (ix2 q k) * rinv x0 q * x3 (ix2 0 k) * x1 (ix2 q ⟨j.val * 384 + n.val, by omega⟩) := rfl
theorem g7_open (x0 : FVec Ideal S512x1024 .f32) (x1 : FVec Ideal S512x1536 .bf16) (x4 : FVec Ideal S1024x1536 .bf16) (l : Fin 8) (k : Fin 1024) :
    g7 x0 x1 x4 (ix2 l k) = ∑ q : Fin 64, dh x1 x4 ⟨q.val * 8 + l.val, by omega⟩ k * (x0 (ix2 ⟨q.val * 8 + l.val, by omega⟩ k) * rinv x0 ⟨q.val * 8 + l.val, by omega⟩) := rfl

theorem g5_at (c : Dev nD) (t : Fin cfg0.N) (r : Fin 512) (k : Fin 1024) :
    g5 (iblk m c 0 t) (iblk m c 1 t) (iblk m c 2 t) (iblk m c 3 t) (iblk m c 4 t) (ix2 r k) = A5 (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + r.val, by have := lt_of_lt_of_eq t.isLt N_0; omega⟩ k) := by
  rw [g5_open]
  simp only [dh_at, rinv_at, at0, at2, at3]
  rfl
theorem g6_at (c : Dev nD) (t : Fin cfg0.N) (j : Fin 4) (k : Fin 1024) (n : Fin 384) :
    g6 (iblk m c 0 t) (iblk m c 1 t) (iblk m c 3 t) (ix3 j k n)
      = ∑ r : Fin 512, term6 (m ((c : Thread nD τ).loc main_arg0)) (m ((c : Thread nD τ).loc main_arg1)) (m ((c : Thread nD τ).loc main_arg3)) k ⟨j.val * 384 + n.val, by omega⟩ ⟨t.val * 512 + r.val, by have := lt_of_lt_of_eq t.isLt N_0; omega⟩ := by
  rw [g6_open]
  simp only [rinv_at, at0, at1, at3, term6]
theorem g7_at (c : Dev nD) (t : Fin cfg0.N) (l : Fin 8) (k : Fin 1024) :
    g7 (iblk m c 0 t) (iblk m c 1 t) (iblk m c 4 t) (ix2 l k)
      = ∑ q : Fin 64, term7 (m ((c : Thread nD τ).loc main_arg0)) (m ((c : Thread nD τ).loc main_arg2)) (m ((c : Thread nD τ).loc main_arg3)) k ⟨t.val * 512 + (q.val * 8 + l.val), by have := lt_of_lt_of_eq t.isLt N_0; omega⟩ := by
  rw [g7_open]
  simp only [dh_at, rinv_at, at0, term7]

theorem final5 (c : Dev nD) : (dats m 0 c).arrAt 5 (cfgs 0).N = A5 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, out5]
  have e : y = ix2 (y 0) (y 1) := by funext a; fin_cases a <;> rfl
  refine ((congrArg _ e).trans (g5_at m c t (y 0) (y 1))).trans (congrArg _ ?_)
  blk_ext [idx t]

theorem final6 (c : Dev nD) : (dats m 0 c).arrAt 6 (cfgs 0).N = A6 (m ((c : Thread nD τ).loc main_arg0)) (m ((c : Thread nD τ).loc main_arg1)) (m ((c : Thread nD τ).loc main_arg3)) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0)
    (fun p j => g6 (iblk m c 0 p) (iblk m c 1 p) (iblk m c 3 p) j)
    (fun t h j => out6_A m c t h j) (fun t h j => out6_B m c t h j) (le_of_eq N_0) t0_15 rfl j, zero_add]
  unfold A6
  refine Fin.sum_fin_congr fun p => ?_
  have e : j = ix3 (j 0) (j 1) (j 2) := by funext a; fin_cases a <;> rfl
  exact (congrArg _ e).trans (g6_at m c p (j 0) (j 1) (j 2))

theorem final7 (c : Dev nD) : (dats m 0 c).arrAt 7 (cfgs 0).N = A7 (m ((c : Thread nD τ).loc main_arg0)) (m ((c : Thread nD τ).loc main_arg2)) (m ((c : Thread nD τ).loc main_arg3)) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0)
    (fun p j => g7 (iblk m c 0 p) (iblk m c 1 p) (iblk m c 4 p) j)
    (fun t h j => out7_A m c t h j) (fun t h j => out7_B m c t h j) (le_of_eq N_0) t0_15 rfl j, zero_add]
  unfold A7
  refine Fin.sum_fin_congr fun p => ?_
  have e : j = ix2 (j 0) (j 1) := by funext a; fin_cases a <;> rfl
  exact (congrArg _ e).trans (g7_at m c p (j 0) (j 1))
end Cert.Kernel3Ideal.Inb
end
-- ==== Proof.Inb.Value.lean ====
module

public import proofs.«01_k».proof.Proof.Inb.Final
public import Idealize.ShloMosaic.Lib.Pipeline.ValueKit
public import Idealize.ShloMosaic.Lib.Pointwise
public import Idealize.ShloMosaic.Lib.Claim
public import proofs.«01_k».proof.Proof.Common.Sums
public import proofs.«01_k».proof.Proof.Common.Rms
public import proofs.«01_k».proof.Defs
public import proofs.«01_k».proof.Proof.Gen.Reference3Ideal
public import proofs.«01_k».proof.Proof.Gen.Reference3Ideal.Read

@[expose] public section
set_option maxRecDepth 16384
noncomputable section
open Idealize.ShloMosaic Idealize.ShloMosaic.TcCoe Idealize.SL.Sem
open Idealize.ShloMosaic.Pipeline (Dat)
namespace Cert.Kernel3Ideal.Inb
open Cert.Kernel3Ideal Cert.Kernel3Ideal.Gen
variable (m : (ℓ : Loc nD τ sig) → Buf (Elt Ideal) ℓ)

open Cert.Reference3Ideal.Read in
theorem ref21 (w : FVec Ideal S1x1024x1536 .f32) (ct : FVec Ideal S8192x1536 .f32) (r : Fin 8192) (k : Fin 1024) :
    val_main_v21 (F := Ideal) w ct (ix2 r k) = dhA w ct r k := by
  pointwise [dhA, val_main_v21, val_main_v17]

open Cert.Reference3Ideal.Read in
theorem ref7 (x : FVec Ideal S8192x1024 .f32) (r : Fin 8192) :
    val_main_v7 (F := Ideal) x (ix2 r 0) = Ideal.div (∑ k : Fin 1024, x (ix2 r k) * x (ix2 r k)) (Ideal.ofBits .f32 0x44800000#32) + Ideal.ofBits .f32 0x358637BD#32 := by
  pointwise [val_main_v7, val_main_v6, val_main_cst_1, val_main_v5, val_main_v4, val_main_cst_0, val_main_v3, val_main_v2, val_main_cst, val_main_v1]

open Cert.Reference3Ideal.Read in
theorem ref43 (x : FVec Ideal S8192x1024 .f32) (g : FVec Ideal S1x1024 .f32) (w : FVec Ideal S1x1024x1536 .f32) (ct : FVec Ideal S8192x1536 .f32) (cr : FVec Ideal S8192x1024 .f32) (r : Fin 8192) (k : Fin 1024) :
    val_main_v43 (F := Ideal) x g w ct cr (ix2 r k)
      = cr (ix2 r k) + val_main_v21 (F := Ideal) w ct (ix2 r k) * g (ix2 0 k) * Ideal.rsqrt (val_main_v7 (F := Ideal) x (ix2 r 0))
        + x (ix2 r k) * Ideal.div ((∑ l : Fin 1024, x (ix2 r l) * (val_main_v21 (F := Ideal) w ct (ix2 r l) * g (ix2 0 l))) * (Ideal.ofBits .f32 0xBF000000#32 * Ideal.div (Ideal.rsqrt (val_main_v7 (F := Ideal) x (ix2 r 0))) (val_main_v7 (F := Ideal) x (ix2 r 0)))) (Ideal.ofBits .f32 0x44800000#32) + Ideal.div ((∑ l : Fin 1024, x (ix2 r l) * (val_main_v21 (F := Ideal) w ct (ix2 r l) * g (ix2 0 l))) * (Ideal.ofBits .f32 0xBF000000#32 * Ideal.div (Ideal.rsqrt (val_main_v7 (F := Ideal) x (ix2 r 0))) (val_main_v7 (F := Ideal) x (ix2 r 0)))) (Ideal.ofBits .f32 0x44800000#32) * x (ix2 r k) := by
  pointwise [val_main_v43, val_main_v42, val_main_v41, val_main_v40, val_main_v39, val_main_v38, val_main_cst_7, val_main_v37, val_main_v36, val_main_cst_6, val_main_v35, val_main_v34, val_main_v33, val_main_v32, val_main_v31, val_main_v30, val_main_cst_5, val_main_v29, val_main_v27, val_main_v26, val_main_v14, val_main_v0, val_main_v11, val_main_v10, val_main_cst_2, val_main_v9, val_main_v8]
  rw [Fin.sum_univ_one]

open Cert.Reference3Ideal.Read in
theorem ref44 (x : FVec Ideal S8192x1024 .f32) (w : FVec Ideal S1x1024x1536 .f32) (ct : FVec Ideal S8192x1536 .f32) (k : Fin 1024) :
    val_main_v44 (F := Ideal) x w ct (ix2 0 k) = ∑ r : Fin 8192, x (ix2 r k) * Ideal.rsqrt (val_main_v7 (F := Ideal) x (ix2 r 0)) * val_main_v21 (F := Ideal) w ct (ix2 r k) := by
  pointwise [val_main_v44, val_main_v28, val_main_cst_4, val_main_v25, val_main_v24, val_main_cst_3, val_main_v23, val_main_v13, val_main_v12, val_main_v8]
  rw [Fin.sum_univ_one]

open Cert.Reference3Ideal.Read in
theorem ref22 (x : FVec Ideal S8192x1024 .f32) (g : FVec Ideal S1x1024 .f32) (ct : FVec Ideal S8192x1536 .f32) (k : Fin 1024) (n : Fin 1536) :
    val_main_v22 (F := Ideal) x g ct (ix3 0 k n) = ∑ r : Fin 8192, ct (ix2 r n) * (x (ix2 r k) * Ideal.rsqrt (val_main_v7 (F := Ideal) x (ix2 r 0)) * g (ix2 0 k)) := by
  pointwise [val_main_v22, val_main_v20, val_main_v19, val_main_v16, val_main_v15, val_main_v14, val_main_v0, val_main_v13, val_main_v12, val_main_v8]

open Cert.Reference3Ideal.Read in
/-- The two cotangents of the rows, at finite arguments. -/
theorem same5 (x : FVec Ideal S8192x1024 .f32) (g : FVec Ideal S1x1024 .f32) (w : FVec Ideal S1x1024x1536 .f32) (ct : FVec Ideal S8192x1536 .f32) (cr : FVec Ideal S8192x1024 .f32)
    (fx : S8192x1024.Idx → ℝ) (fg : S1x1024.Idx → ℝ) (fw : S1x1024x1536.Idx → ℝ) (fc : S8192x1536.Idx → ℝ) (fr : S8192x1024.Idx → ℝ)
    (hx : ∀ i, x i = ((fx i : ℝ) : EReal)) (hg : ∀ i, g i = ((fg i : ℝ) : EReal)) (hw : ∀ i, w i = ((fw i : ℝ) : EReal))
    (hc : ∀ i, ct i = ((fc i : ℝ) : EReal)) (hr : ∀ i, cr i = ((fr i : ℝ) : EReal)) :
    val_main_v43 (F := Ideal) x g w ct cr = A5 x g w ct cr := by
  funext i
  idx_vars i
  have hd : ∀ k : Fin 1024, dhA w ct i0 k = ((∑ n : Fin 1536, fc (ix2 i0 n) * fw (ix3 0 k n) : ℝ) : EReal) := fun k => by
    unfold dhA
    rw [← Cert.Reals.sum_coe]
    exact Finset.sum_congr rfl fun n _ => by rw [EReal.coe_mul, hc, hw]
  rw [ref43]
  show _ = cr (ix2 i0 i1) + rinvA x i0 * (dhA w ct i0 i1 * g (ix2 0 i1) - x (ix2 i0 i1) * rinvA x i0 *
    Ideal.div (∑ k : Fin 1024, dhA w ct i0 k * g (ix2 0 k) * (x (ix2 i0 k) * rinvA x i0)) (Ideal.ofBits .f32 0x44800000#32))
  have hi : rinvA x i0 = Ideal.rsqrt (val_main_v7 (F := Ideal) x (ix2 i0 0)) := by rw [ref7]; rfl
  have h7 := ref7 x i0
  generalize val_main_v7 (F := Ideal) x (ix2 i0 0) = ms at h7 hi ⊢
  rw [hi]
  simp only [ref21, hd, hx, hg, hr] at h7 ⊢
  exact (Cert.Rms.back (fun k => fx (ix2 i0 k)) (fun k => ∑ n : Fin 1536, fc (ix2 i0 n) * fw (ix3 0 k n)) (fun k => fg (ix2 0 k)) (fr (ix2 i0 i1)) i1 ms _ h7 rfl).symm

/-- The eight rows of partial sums added up. -/
abbrev total (X : FVec Ideal S8x1024 .f32) : FVec Ideal S1x1024 .f32 :=
  broadcastInDim S1x1024 ![1] bcast_S1024_S1x1024_1 (Host.reduceAdd (F := Ideal) X (constant (F := Ideal) S_ .f32 0x00000000#32) reducesTo_S8x1024_S1024_d0 h_S_)

theorem total_at (X : FVec Ideal S8x1024 .f32) (k : Fin 1024) : total X (ix2 0 k) = ∑ l : Fin 8, X (ix2 l k) := by
  pointwise [total]

/-- The blocks of columns side by side. -/
abbrev joined (X : FVec Ideal S4x1024x384 .f32) : FVec Ideal S1x1024x1536 .f32 :=
  shapeCast S1x1024x1536 (transpose S1024x4x384 [1, 0, 2] X transposes_S4x1024x384_S1024x4x384_1_0_2) shapeCasts_S1024x4x384_S1x1024x1536

theorem joined_at (X : FVec Ideal S4x1024x384 .f32) (k : Fin 1024) (n : Fin 1536) :
    joined X (ix3 0 k n) = X (ix3 ⟨n.val / 384, by omega⟩ k ⟨n.val % 384, by omega⟩) := by
  pointwise [joined]

theorem A7_total (x : FVec Ideal S8192x1024 .f32) (w : FVec Ideal S1x1024x1536 .f32) (ct : FVec Ideal S8192x1536 .f32) (k : Fin 1024) :
    total (A7 x w ct) (ix2 0 k) = ∑ r : Fin 8192, term7 x w ct k r := by
  rw [total_at]
  exact Cert.Sums.lanes8 (fun r => term7 x w ct k r)

theorem A6_joined (x : FVec Ideal S8192x1024 .f32) (g : FVec Ideal S1x1024 .f32) (ct : FVec Ideal S8192x1536 .f32) (k : Fin 1024) (n : Fin 1536) :
    joined (A6 x g ct) (ix3 0 k n) = ∑ r : Fin 8192, term6 x g ct k n r := by
  rw [joined_at]
  have e : (⟨n.val / 384 * 384 + n.val % 384, by omega⟩ : Fin 1536) = n := Fin.ext (by show n.val / 384 * 384 + n.val % 384 = n.val; omega)
  refine Eq.trans ?_ (Cert.Sums.tiles (fun r => term6 x g ct k n r))
  show (∑ p : Fin 16, ∑ q : Fin 512, term6 x g ct k (⟨n.val / 384 * 384 + n.val % 384, _⟩ : Fin 1536) (⟨p.val * 512 + q.val, _⟩ : Fin 8192)) = _
  rw [e]

open Cert.Reference3Ideal.Read in
/-- The two gradients of the gain. -/
theorem same7 (x : FVec Ideal S8192x1024 .f32) (w : FVec Ideal S1x1024x1536 .f32) (ct : FVec Ideal S8192x1536 .f32) :
    val_main_v44 (F := Ideal) x w ct = total (A7 x w ct) := by
  funext i
  have e : i = ix2 0 (i 1) := by
    funext a
    fin_cases a
    · apply Fin.ext; have : (i 0).val < 1 := (i 0).isLt; show (i 0).val = 0; omega
    · rfl
  obtain ⟨k, hk⟩ : ∃ k : Fin 1024, i = ix2 0 k := ⟨i 1, e⟩
  rw [hk]
  refine (ref44 x w ct k).trans (Eq.trans ?_ (A7_total x w ct k).symm)
  refine Finset.sum_congr rfl fun r _ => ?_
  rw [ref21, ref7, term7, rinvA, mul_comm]

open Cert.Reference3Ideal.Read in
/-- The two gradients of the projection. -/
theorem same6 (x : FVec Ideal S8192x1024 .f32) (g : FVec Ideal S1x1024 .f32) (ct : FVec Ideal S8192x1536 .f32) :
    val_main_v22 (F := Ideal) x g ct = joined (A6 x g ct) := by
  funext i
  have e : i = ix3 0 (i 1) (i 2) := by
    funext a
    fin_cases a
    · apply Fin.ext; have : (i 0).val < 1 := (i 0).isLt; show (i 0).val = 0; omega
    · rfl
    · rfl
  obtain ⟨k, n, hk⟩ : ∃ (k : Fin 1024) (n : Fin 1536), i = ix3 0 k n := ⟨i 1, i 2, e⟩
  rw [hk]
  refine (ref22 x g ct k n).trans (Eq.trans ?_ (A6_joined x g ct k n).symm)
  refine Finset.sum_congr rfl fun r _ => ?_
  rw [ref7, term6, rinvA, mul_comm]

theorem tail7 (c : Dev nD) : Pipeline.afterTail₀ cfgs (dats m) 0 (V0 m) [hostOps1] c main_v5 = total (A7 (m ((c : Thread nD τ).loc main_arg0)) (m ((c : Thread nD τ).loc main_arg2)) (m ((c : Thread nD τ).loc main_arg3))) := by
  rw [← final7 m c]
  show StableHlo.after hostOps1 _ _ = _
  after_results
  exact congrArg total (Pipeline.withArrays_arr spec0 (by decide) c _ _ 7)
theorem tail6 (c : Dev nD) : Pipeline.afterTail₀ cfgs (dats m) 0 (V0 m) [hostOps1] c main_v7 = joined (A6 (m ((c : Thread nD τ).loc main_arg0)) (m ((c : Thread nD τ).loc main_arg1)) (m ((c : Thread nD τ).loc main_arg3))) := by
  rw [← final6 m c]
  show StableHlo.after hostOps1 _ _ = _
  after_results
  exact congrArg joined (Pipeline.withArrays_arr spec0 (by decide) c _ _ 6)
end Cert.Kernel3Ideal.Inb

namespace Cert.Proof
open Cert.Kernel3Ideal.Inb

theorem inb_algebraic (hf : Cert.Pre_inproj_bwd_finite.Facts) : Cert.algebraic_Kernel3Ideal_Reference3Ideal_pre_inproj_bwd_finite (hKernel3Ideal := Cert.Kernel3Ideal.Gen.facts)
    (hReference3Ideal := Cert.Reference3Ideal.Gen.facts) (hPre_inproj_bwd_finite := hf) := by
  pair_intro
  · run_from Cert.Kernel3Ideal.Gen.run_main m g
    · exact Cert.Kernel3Ideal.Gen.W_main_arg2 m _ c
    · exact Cert.Kernel3Ideal.Gen.W_main_arg3 m _ c
  · have hfin := hpre
    run_from Cert.Reference3Ideal.Value.run m' g'
    · obtain ⟨f0, h0⟩ := Cert.Reals.finite _ _ (hfin c).1
      obtain ⟨f1, h1⟩ := Cert.Reals.finite _ _ (hfin c).2.1
      obtain ⟨f2, h2⟩ := Cert.Reals.finite _ _ (hfin c).2.2.1
      obtain ⟨f3, h3⟩ := Cert.Reals.finite _ _ (hfin c).2.2.2.1
      obtain ⟨f4, h4⟩ := Cert.Reals.finite _ _ (hfin c).2.2.2.2
      obtain ⟨a0, a1, a2, a3, a4⟩ := hagree c
      rw [Cert.Reference3Ideal.Read.val_main_v43_eq, a0, a1, a2, a3, a4]
      exact (same5 _ _ _ _ _ f0 f1 f2 f3 f4 h0 h1 h2 h3 h4).trans (final5 m c).symm
    · exact (same7 _ _ _).trans (tail7 m c).symm
    · exact (same6 _ _ _).trans (tail6 m c).symm
end Cert.Proof
end
-- ==== Proof.Head.Body.lean ====
module

public import proofs.«01_k».proof.Proof.Gen.Kernel4Ideal.Frame
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.Kernel4Ideal.Head
open Cert.Kernel4Ideal Cert.Kernel4Ideal.Gen
variable (m : (ℓ : Loc nD τ sig) → Buf (Elt Ideal) ℓ)

/-- A residual row: the row before plus the product of the activations with the weights, four blocks of columns. -/
def hr (x0 : FVec Ideal S4x512x704 .bf16) (x1 : FVec Ideal S512x1024 .f32) (x4 : FVec Ideal S4x704x1024 .bf16) (r : Fin 512) (k : Fin 1024) : EReal :=
  x1 (ix2 r k) + ((∑ n : Fin 704, x0 (ix3 0 r n) * x4 (ix3 0 n k)) + (∑ n : Fin 704, x0 (ix3 1 r n) * x4 (ix3 1 n k))
    + (∑ n : Fin 704, x0 (ix3 2 r n) * x4 (ix3 2 n k)) + ∑ n : Fin 704, x0 (ix3 3 r n) * x4 (ix3 3 n k))
/-- A row's reciprocal root mean square. -/
def rinv (x0 : FVec Ideal S4x512x704 .bf16) (x1 : FVec Ideal S512x1024 .f32) (x4 : FVec Ideal S4x704x1024 .bf16) (r : Fin 512) : EReal :=
  Ideal.rsqrt (Ideal.div (∑ k : Fin 1024, hr x0 x1 x4 r k * hr x0 x1 x4 r k) (Ideal.ofBits .f32 0x44800000#32) + Ideal.ofBits .f32 0x358637BD#32)
/-- The normed row less the target. -/
def diff (x0 : FVec Ideal S4x512x704 .bf16) (x1 : FVec Ideal S512x1024 .f32) (x2 : FVec Ideal S512x1024 .f32) (x3 : FVec Ideal S1x1024 .f32) (x4 : FVec Ideal S4x704x1024 .bf16) (r : Fin 512) (k : Fin 1024) : EReal :=
  hr x0 x1 x4 r k * rinv x0 x1 x4 r * x3 (ix2 0 k) - x2 (ix2 r k)
/-- The loss's cotangent at the normed row. -/
def dout (x0 : FVec Ideal S4x512x704 .bf16) (x1 : FVec Ideal S512x1024 .f32) (x2 : FVec Ideal S512x1024 .f32) (x3 : FVec Ideal S1x1024 .f32) (x4 : FVec Ideal S4x704x1024 .bf16) (r : Fin 512) (k : Fin 1024) : EReal := diff x0 x1 x2 x3 x4 r k * Ideal.ofBits .f32 0x3A800000#32
/-- The rows' cotangent within a tile. -/
def g5 (x0 : FVec Ideal S4x512x704 .bf16) (x1 : FVec Ideal S512x1024 .f32) (x2 : FVec Ideal S512x1024 .f32) (x3 : FVec Ideal S1x1024 .f32) (x4 : FVec Ideal S4x704x1024 .bf16) (y : S512x1024.Idx) : EReal :=
  rinv x0 x1 x4 (y 0) * (dout x0 x1 x2 x3 x4 (y 0) (y 1) * x3 (ix2 0 (y 1)) - hr x0 x1 x4 (y 0) (y 1) * rinv x0 x1 x4 (y 0) *
    Ideal.div (∑ k : Fin 1024, dout x0 x1 x2 x3 x4 (y 0) k * x3 (ix2 0 k) * (hr x0 x1 x4 (y 0) k * rinv x0 x1 x4 (y 0))) (Ideal.ofBits .f32 0x44800000#32))

theorem out5_A (c : Dev nD) (t : Fin cfg0.N) (h : t.val % 16 = 0) (y : S512x1024.Idx) :
    (outsAt0 m c t.val t.isLt).1 y = g5 (iblk m c 0 t) (iblk m c 1 t) (iblk m c 2 t) (iblk m c 3 t) (iblk m c 4 t) y := by
  rw [outsAt0_A m c t h]; dsimp only; unfold out0_A_5
  frame_out
  generalize iblk m c 0 t = x0
  generalize iblk m c 1 t = x1
  generalize iblk m c 2 t = x2
  generalize iblk m c 3 t = x3
  generalize iblk m c 4 t = x4
  clear h
  idx_vars y
  canon_tiles x h
  case piece0 =>
    rw [show y0 = ⟨256 + (x 0).val, by omega⟩ from Fin.ext h0, show y1 = x 1 from Fin.ext h1]
    open_payloads; pointwise [g5, dout, diff, rinv, hr]
  case piece1 =>
    rw [show y0 = ⟨(x 0).val, by omega⟩ from Fin.ext h0, show y1 = x 1 from Fin.ext h1]
    open_payloads; pointwise [g5, dout, diff, rinv, hr]
theorem out5_B (c : Dev nD) (t : Fin cfg0.N) (h : ¬ t.val % 16 = 0) (y : S512x1024.Idx) :
    (outsAt0 m c t.val t.isLt).1 y = g5 (iblk m c 0 t) (iblk m c 1 t) (iblk m c 2 t) (iblk m c 3 t) (iblk m c 4 t) y := by
  rw [outsAt0_B m c t h]; dsimp only; unfold out0_B_5
  frame_out
  generalize iblk m c 0 t = x0
  generalize iblk m c 1 t = x1
  generalize iblk m c 2 t = x2
  generalize iblk m c 3 t = x3
  generalize iblk m c 4 t = x4
  clear h
  idx_vars y
  canon_tiles x h
  case piece0 =>
    rw [show y0 = ⟨256 + (x 0).val, by omega⟩ from Fin.ext h0, show y1 = x 1 from Fin.ext h1]
    open_payloads; pointwise [g5, dout, diff, rinv, hr]
  case piece1 =>
    rw [show y0 = ⟨(x 0).val, by omega⟩ from Fin.ext h0, show y1 = x 1 from Fin.ext h1]
    open_payloads; pointwise [g5, dout, diff, rinv, hr]
theorem out6_A (c : Dev nD) (t : Fin cfg0.N) (h : t.val % 16 = 0) (y : S512x1024.Idx) :
    (outsAt0 m c t.val t.isLt).2.1 y = g5 (iblk m c 0 t) (iblk m c 1 t) (iblk m c 2 t) (iblk m c 3 t) (iblk m c 4 t) y := by
  rw [outsAt0_A m c t h]; dsimp only; unfold out0_A_6
  frame_out
  generalize iblk m c 0 t = x0
  generalize iblk m c 1 t = x1
  generalize iblk m c 2 t = x2
  generalize iblk m c 3 t = x3
  generalize iblk m c 4 t = x4
  clear h
  idx_vars y
  canon_tiles x h
  case piece0 =>
    rw [show y0 = ⟨256 + (x 0).val, by omega⟩ from Fin.ext h0, show y1 = x 1 from Fin.ext h1]
    open_payloads; pointwise [g5, dout, diff, rinv, hr]
  case piece1 =>
    rw [show y0 = ⟨(x 0).val, by omega⟩ from Fin.ext h0, show y1 = x 1 from Fin.ext h1]
    open_payloads; pointwise [g5, dout, diff, rinv, hr]
theorem out6_B (c : Dev nD) (t : Fin cfg0.N) (h : ¬ t.val % 16 = 0) (y : S512x1024.Idx) :
    (outsAt0 m c t.val t.isLt).2.1 y = g5 (iblk m c 0 t) (iblk m c 1 t) (iblk m c 2 t) (iblk m c 3 t) (iblk m c 4 t) y := by
  rw [outsAt0_B m c t h]; dsimp only; unfold out0_B_6
  frame_out
  generalize iblk m c 0 t = x0
  generalize iblk m c 1 t = x1
  generalize iblk m c 2 t = x2
  generalize iblk m c 3 t = x3
  generalize iblk m c 4 t = x4
  clear h
  idx_vars y
  canon_tiles x h
  case piece0 =>
    rw [show y0 = ⟨256 + (x 0).val, by omega⟩ from Fin.ext h0, show y1 = x 1 from Fin.ext h1]
    open_payloads; pointwise [g5, dout, diff, rinv, hr]
  case piece1 =>
    rw [show y0 = ⟨(x 0).val, by omega⟩ from Fin.ext h0, show y1 = x 1 from Fin.ext h1]
    open_payloads; pointwise [g5, dout, diff, rinv, hr]
end Cert.Kernel4Ideal.Head
end
-- ==== Proof.Head.Acc.lean ====
module

public import proofs.«01_k».proof.Proof.Head.Body
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.Kernel4Ideal.Head
open Cert.Kernel4Ideal Cert.Kernel4Ideal.Gen
variable (m : (ℓ : Loc nD τ sig) → Buf (Elt Ideal) ℓ)

/-- The products met in the two halves of a tile. -/
def first (x0 : Vec Ideal S4x512x704 .bf16) (x4 : Vec Ideal S4x704x1024 .bf16) : FVec Ideal S256x1024 .f32 := k0_pay6 (F := Ideal) (View.ld x0 (Rect.unit ![0, 0, 0] ![1, 256, 704] inb_S4x512x704_S1x256x704_0_0_0)) (View.ld x4 (Rect.unit ![0, 0, 0] ![1, 704, 1024] inb_S4x704x1024_S1x704x1024_0_0_0)) (View.ld x0 (Rect.unit ![1, 0, 0] ![1, 256, 704] inb_S4x512x704_S1x256x704_1_0_0)) (View.ld x4 (Rect.unit ![1, 0, 0] ![1, 704, 1024] inb_S4x704x1024_S1x704x1024_1_0_0)) (View.ld x0 (Rect.unit ![2, 0, 0] ![1, 256, 704] inb_S4x512x704_S1x256x704_2_0_0)) (View.ld x4 (Rect.unit ![2, 0, 0] ![1, 704, 1024] inb_S4x704x1024_S1x704x1024_2_0_0))
def second (x0 : Vec Ideal S4x512x704 .bf16) (x4 : Vec Ideal S4x704x1024 .bf16) : FVec Ideal S256x1024 .f32 := k0_pay7 (F := Ideal) (View.ld x0 (Rect.unit ![3, 0, 0] ![1, 256, 704] inb_S4x512x704_S1x256x704_3_0_0)) (View.ld x4 (Rect.unit ![3, 0, 0] ![1, 704, 1024] inb_S4x704x1024_S1x704x1024_3_0_0))
def third (x0 : Vec Ideal S4x512x704 .bf16) (x4 : Vec Ideal S4x704x1024 .bf16) : FVec Ideal S256x1024 .f32 := k0_pay17 (F := Ideal) (View.ld x0 (Rect.unit ![0, 256, 0] ![1, 256, 704] inb_S4x512x704_S1x256x704_0_256_0)) (View.ld x4 (Rect.unit ![0, 0, 0] ![1, 704, 1024] inb_S4x704x1024_S1x704x1024_0_0_0)) (View.ld x0 (Rect.unit ![1, 256, 0] ![1, 256, 704] inb_S4x512x704_S1x256x704_1_256_0)) (View.ld x4 (Rect.unit ![1, 0, 0] ![1, 704, 1024] inb_S4x704x1024_S1x704x1024_1_0_0))
def fourth (x0 : Vec Ideal S4x512x704 .bf16) (x4 : Vec Ideal S4x704x1024 .bf16) : FVec Ideal S256x1024 .f32 := k0_pay18 (F := Ideal) (View.ld x0 (Rect.unit ![2, 256, 0] ![1, 256, 704] inb_S4x512x704_S1x256x704_2_256_0)) (View.ld x4 (Rect.unit ![2, 0, 0] ![1, 704, 1024] inb_S4x704x1024_S1x704x1024_2_0_0))
/-- One point's pass over the loss, from the blocks it reads. -/
def step7 (x0 : Vec Ideal S4x512x704 .bf16) (x1 : Vec Ideal S512x1024 .f32) (x2 : Vec Ideal S512x1024 .f32) (x3 : Vec Ideal S1x1024 .f32) (x4 : Vec Ideal S4x704x1024 .bf16) (acc : Vec Ideal S8x128 .f32) : Vec Ideal S8x128 .f32 :=
  k0_pay23 (F := Ideal) x3 (third x0 x4) (fourth x0 x4) (View.ld x0 (Rect.unit ![3, 256, 0] ![1, 256, 704] inb_S4x512x704_S1x256x704_3_256_0)) (View.ld x4 (Rect.unit ![3, 0, 0] ![1, 704, 1024] inb_S4x704x1024_S1x704x1024_3_0_0)) (View.ld x1 (Rect.unit ![256, 0] ![256, 1024] inb_S512x1024_S256x1024_256_0)) (View.ld x2 (Rect.unit ![256, 0] ![256, 1024] inb_S512x1024_S256x1024_256_0))
    (k0_pay12 (F := Ideal) x3 (first x0 x4) (second x0 x4) (View.ld x1 (Rect.unit ![0, 0] ![256, 1024] inb_S512x1024_S256x1024_0_0)) (View.ld x2 (Rect.unit ![0, 0] ![256, 1024] inb_S512x1024_S256x1024_0_0)) acc)
/-- One point's pass over the gain's accumulator. -/
def step8 (x0 : Vec Ideal S4x512x704 .bf16) (x1 : Vec Ideal S512x1024 .f32) (x2 : Vec Ideal S512x1024 .f32) (x3 : Vec Ideal S1x1024 .f32) (x4 : Vec Ideal S4x704x1024 .bf16) (acc : Vec Ideal S8x1024 .f32) : Vec Ideal S8x1024 .f32 :=
  k0_pay1 (F := Ideal) (k0_pay21 (F := Ideal) (third x0 x4) (fourth x0 x4) (View.ld x0 (Rect.unit ![3, 256, 0] ![1, 256, 704] inb_S4x512x704_S1x256x704_3_256_0)) (View.ld x4 (Rect.unit ![3, 0, 0] ![1, 704, 1024] inb_S4x704x1024_S1x704x1024_3_0_0)) (View.ld x1 (Rect.unit ![256, 0] ![256, 1024] inb_S512x1024_S256x1024_256_0)))
    (k0_pay24 (F := Ideal) x3 (third x0 x4) (fourth x0 x4) (View.ld x0 (Rect.unit ![3, 256, 0] ![1, 256, 704] inb_S4x512x704_S1x256x704_3_256_0)) (View.ld x4 (Rect.unit ![3, 0, 0] ![1, 704, 1024] inb_S4x704x1024_S1x704x1024_3_0_0)) (View.ld x1 (Rect.unit ![256, 0] ![256, 1024] inb_S512x1024_S256x1024_256_0)) (View.ld x2 (Rect.unit ![256, 0] ![256, 1024] inb_S512x1024_S256x1024_256_0)))
    (k0_pay14 (F := Ideal) x3 (first x0 x4) (second x0 x4) (View.ld x1 (Rect.unit ![0, 0] ![256, 1024] inb_S512x1024_S256x1024_0_0)) (View.ld x2 (Rect.unit ![0, 0] ![256, 1024] inb_S512x1024_S256x1024_0_0)) acc)

/-- A row's squared distance from the target. -/
def sq (x0 : FVec Ideal S4x512x704 .bf16) (x1 : FVec Ideal S512x1024 .f32) (x2 : FVec Ideal S512x1024 .f32) (x3 : FVec Ideal S1x1024 .f32) (x4 : FVec Ideal S4x704x1024 .bf16) (r : Fin 512) : EReal := ∑ k : Fin 1024, diff x0 x1 x2 x3 x4 r k * diff x0 x1 x2 x3 x4 r k
/-- A row's term of the gain's gradient. -/
def term8 (x0 : FVec Ideal S4x512x704 .bf16) (x1 : FVec Ideal S512x1024 .f32) (x2 : FVec Ideal S512x1024 .f32) (x3 : FVec Ideal S1x1024 .f32) (x4 : FVec Ideal S4x704x1024 .bf16) (r : Fin 512) (k : Fin 1024) : EReal := dout x0 x1 x2 x3 x4 r k * (hr x0 x1 x4 r k * rinv x0 x1 x4 r)
/-- A point's contribution to the loss. -/
def g7 (x0 : FVec Ideal S4x512x704 .bf16) (x1 : FVec Ideal S512x1024 .f32) (x2 : FVec Ideal S512x1024 .f32) (x3 : FVec Ideal S1x1024 .f32) (x4 : FVec Ideal S4x704x1024 .bf16) : EReal :=
  (∑ q : Fin 256, sq x0 x1 x2 x3 x4 ⟨q.val, by omega⟩) * Ideal.ofBits .f32 0x3A000000#32 + (∑ q : Fin 256, sq x0 x1 x2 x3 x4 ⟨256 + q.val, by omega⟩) * Ideal.ofBits .f32 0x3A000000#32
/-- A point's contribution to the gain's accumulator. -/
def g8 (x0 : FVec Ideal S4x512x704 .bf16) (x1 : FVec Ideal S512x1024 .f32) (x2 : FVec Ideal S512x1024 .f32) (x3 : FVec Ideal S1x1024 .f32) (x4 : FVec Ideal S4x704x1024 .bf16) (y0 : Fin 8) (y1 : Fin 1024) : EReal :=
  (∑ q : Fin 32, term8 x0 x1 x2 x3 x4 ⟨q.val * 8 + y0.val, by omega⟩ y1) + ∑ q : Fin 32, term8 x0 x1 x2 x3 x4 ⟨256 + (q.val * 8 + y0.val), by omega⟩ y1

theorem step7_at (x0 : FVec Ideal S4x512x704 .bf16) (x1 : FVec Ideal S512x1024 .f32) (x2 : FVec Ideal S512x1024 .f32) (x3 : FVec Ideal S1x1024 .f32) (x4 : FVec Ideal S4x704x1024 .bf16) (acc : FVec Ideal S8x128 .f32) (y : S8x128.Idx) : step7 x0 x1 x2 x3 x4 acc y = acc y + g7 x0 x1 x2 x3 x4 := by
  idx_vars y
  unfold step7 first second third fourth
  open_payloads
  pointwise [g7, sq, diff, rinv, hr]
  rw [add_assoc]
theorem step8_at (x0 : FVec Ideal S4x512x704 .bf16) (x1 : FVec Ideal S512x1024 .f32) (x2 : FVec Ideal S512x1024 .f32) (x3 : FVec Ideal S1x1024 .f32) (x4 : FVec Ideal S4x704x1024 .bf16) (acc : FVec Ideal S8x1024 .f32) (y : S8x1024.Idx) : step8 x0 x1 x2 x3 x4 acc y = acc y + g8 x0 x1 x2 x3 x4 (y 0) (y 1) := by
  idx_vars y
  unfold step8 first second third fourth
  open_payloads
  pointwise [g8, term8, dout, diff, rinv, hr]
  rw [add_assoc]
theorem zero7 (y : S8x128.Idx) : k0_pay4 (F := Ideal) y = 0 := by pointwise [k0_pay4]
theorem zero8 (y : S8x1024.Idx) : k0_pay5 (F := Ideal) y = 0 := by pointwise [k0_pay5]

theorem out7_A (c : Dev nD) (t : Fin cfg0.N) (h : t.val % 16 = 0) :
    (outsAt0 m c t.val t.isLt).2.2.1 = step7 (iblk m c 0 t) (iblk m c 1 t) (iblk m c 2 t) (iblk m c 3 t) (iblk m c 4 t) (k0_pay4 (F := Ideal)) := by
  rw [outsAt0_A m c t h]
  frame_out
  rfl
theorem out7_B (c : Dev nD) (t : Fin cfg0.N) (h : ¬ t.val % 16 = 0) :
    (outsAt0 m c t.val t.isLt).2.2.1 = step7 (iblk m c 0 t) (iblk m c 1 t) (iblk m c 2 t) (iblk m c 3 t) (iblk m c 4 t) (outsAt0 m c (t.val - 1) (by omega)).2.2.1 := by
  rw [outsAt0_B m c t h]
  frame_out
  rfl
theorem out8_A (c : Dev nD) (t : Fin cfg0.N) (h : t.val % 16 = 0) :
    (outsAt0 m c t.val t.isLt).2.2.2 = step8 (iblk m c 0 t) (iblk m c 1 t) (iblk m c 2 t) (iblk m c 3 t) (iblk m c 4 t) (k0_pay5 (F := Ideal)) := by
  rw [outsAt0_A m c t h]
  frame_out
  rfl
theorem out8_B (c : Dev nD) (t : Fin cfg0.N) (h : ¬ t.val % 16 = 0) :
    (outsAt0 m c t.val t.isLt).2.2.2 = step8 (iblk m c 0 t) (iblk m c 1 t) (iblk m c 2 t) (iblk m c 3 t) (iblk m c 4 t) (outsAt0 m c (t.val - 1) (by omega)).2.2.2 := by
  rw [outsAt0_B m c t h]
  frame_out
  rfl
end Cert.Kernel4Ideal.Head
end
-- ==== Proof.Head.Final.lean ====
module

public import proofs.«01_k».proof.Proof.Head.Acc
public import Idealize.ShloMosaic.Lib.Pipeline.ValueKit
public import Idealize.ShloMosaic.Lib.Pointwise
public import Idealize.ShloMosaic.Lib.Claim
public import proofs.«01_k».proof.Proof.Common.Sums

@[expose] public section
set_option maxRecDepth 16384
noncomputable section
open Idealize.ShloMosaic Idealize.ShloMosaic.TcCoe Idealize.SL.Sem
open Idealize.ShloMosaic.Pipeline (Dat)
namespace Cert.Kernel4Ideal.Head
open Cert.Kernel4Ideal Cert.Kernel4Ideal.Gen
variable (m : (ℓ : Loc nD τ sig) → Buf (Elt Ideal) ℓ)

/-- Which block of each array a grid point works on. -/
theorem idx : ∀ t : Fin cfg0.N, win0_0.index t = ![0, t.val, 0] ∧ win0_1.index t = ![t.val, 0] ∧ win0_2.index t = ![t.val, 0] ∧ win0_3.index t = ![0, 0] ∧ win0_4.index t = ![0, 0, 0]
    ∧ win0_5.index t = ![t.val, 0] ∧ win0_6.index t = ![t.val, 0] ∧ win0_7.index t = ![0, 0] ∧ win0_8.index t = ![0, 0] :=
  (by decide +kernel : ∀ t : Fin grid0.N, _)

/-- Column of the whole array from block number and column within the block. -/
def col (j : Fin 4) (n : Fin 704) : Fin 2816 := ⟨j.val * 704 + n.val, by omega⟩

/-- The activations cut into blocks of columns. -/
theorem blocks (X : FVec Ideal S8192x2816 .f32) (i : S4x8192x704.Idx) : truncf (F := Ideal) .bf16 (transpose S4x8192x704 [1, 0, 2]
      (shapeCast S8192x4x704 X shapeCasts_S8192x2816_S8192x4x704) transposes_S8192x4x704_S4x8192x704_1_0_2) bitsLt_bf16_f32 i
    = X (ix2 (i 1) (col (i 0) (i 2))) := by
  idx_vars i
  pointwise [col]
/-- The weights cut into blocks of rows. -/
theorem cut (X : FVec Ideal S1x2816x1024 .f32) (i : S4x704x1024.Idx) : truncf (F := Ideal) .bf16 (shapeCast S4x704x1024 X shapeCasts_S1x2816x1024_S4x704x1024) bitsLt_bf16_f32 i
    = X (ix3 0 (col (i 0) (i 1)) (i 2)) := by
  idx_vars i
  pointwise [col]

theorem entry2 (c : Dev nD) (i : S4x8192x704.Idx) : V m c main_v2 i = m ((c : Thread nD τ).loc main_arg0) (ix2 (i 1) (col (i 0) (i 2))) := by
  refine (congrFun (?_ : V m c main_v2 = truncf (F := Ideal) .bf16 (transpose S4x8192x704 [1, 0, 2]
      (shapeCast S8192x4x704 (m ((c : Thread nD τ).loc main_arg0)) shapeCasts_S8192x2816_S8192x4x704) transposes_S8192x4x704_S4x8192x704_1_0_2) bitsLt_bf16_f32) i).trans (blocks _ i)
  show StableHlo.after hostOps0 _ _ = _
  after_results; rfl
theorem entry4 (c : Dev nD) (i : S4x704x1024.Idx) : V m c main_v4 i = m ((c : Thread nD τ).loc main_arg4) (ix3 0 (col (i 0) (i 1)) (i 2)) := by
  refine (congrFun (?_ : V m c main_v4 = truncf (F := Ideal) .bf16 (shapeCast S4x704x1024 (m ((c : Thread nD τ).loc main_arg4)) shapeCasts_S1x2816x1024_S4x704x1024) bitsLt_bf16_f32) i).trans (cut _ i)
  show StableHlo.after hostOps0 _ _ = _
  after_results; rfl

/-- A residual row, from the whole arrays. -/
def hrA (f : FVec Ideal S8192x2816 .f32) (h : FVec Ideal S8192x1024 .f32) (w : FVec Ideal S1x2816x1024 .f32) (r : Fin 8192) (k : Fin 1024) : EReal :=
  h (ix2 r k) + ((∑ n : Fin 704, f (ix2 r (col 0 n)) * w (ix3 0 (col 0 n) k)) + (∑ n : Fin 704, f (ix2 r (col 1 n)) * w (ix3 0 (col 1 n) k))
    + (∑ n : Fin 704, f (ix2 r (col 2 n)) * w (ix3 0 (col 2 n) k)) + ∑ n : Fin 704, f (ix2 r (col 3 n)) * w (ix3 0 (col 3 n) k))
/-- A row's reciprocal root mean square. -/
def rinvA (f : FVec Ideal S8192x2816 .f32) (h : FVec Ideal S8192x1024 .f32) (w : FVec Ideal S1x2816x1024 .f32) (r : Fin 8192) : EReal :=
  Ideal.rsqrt (Ideal.div (∑ k : Fin 1024, hrA f h w r k * hrA f h w r k) (Ideal.ofBits .f32 0x44800000#32) + Ideal.ofBits .f32 0x358637BD#32)
/-- The normed row less the target. -/
def diffA (f : FVec Ideal S8192x2816 .f32) (h : FVec Ideal S8192x1024 .f32) (y : FVec Ideal S8192x1024 .f32) (g : FVec Ideal S1x1024 .f32) (w : FVec Ideal S1x2816x1024 .f32) (r : Fin 8192) (k : Fin 1024) : EReal := hrA f h w r k * rinvA f h w r * g (ix2 0 k) - y (ix2 r k)
/-- The loss's cotangent at the normed row. -/
def doutA (f : FVec Ideal S8192x2816 .f32) (h : FVec Ideal S8192x1024 .f32) (y : FVec Ideal S8192x1024 .f32) (g : FVec Ideal S1x1024 .f32) (w : FVec Ideal S1x2816x1024 .f32) (r : Fin 8192) (k : Fin 1024) : EReal := diffA f h y g w r k * Ideal.ofBits .f32 0x3A800000#32
/-- A row's squared distance from the target. -/
def sqA (f : FVec Ideal S8192x2816 .f32) (h : FVec Ideal S8192x1024 .f32) (y : FVec Ideal S8192x1024 .f32) (g : FVec Ideal S1x1024 .f32) (w : FVec Ideal S1x2816x1024 .f32) (r : Fin 8192) : EReal := ∑ k : Fin 1024, diffA f h y g w r k * diffA f h y g w r k
/-- A row's term of the gain's gradient. -/
def termA (f : FVec Ideal S8192x2816 .f32) (h : FVec Ideal S8192x1024 .f32) (y : FVec Ideal S8192x1024 .f32) (g : FVec Ideal S1x1024 .f32) (w : FVec Ideal S1x2816x1024 .f32) (r : Fin 8192) (k : Fin 1024) : EReal := doutA f h y g w r k * (hrA f h w r k * rinvA f h w r)
/-- The rows' cotangent. -/
def A5 (f : FVec Ideal S8192x2816 .f32) (h : FVec Ideal S8192x1024 .f32) (y : FVec Ideal S8192x1024 .f32) (g : FVec Ideal S1x1024 .f32) (w : FVec Ideal S1x2816x1024 .f32) : FVec Ideal S8192x1024 .f32 :=
  fun i => rinvA f h w (i 0) * (doutA f h y g w (i 0) (i 1) * g (ix2 0 (i 1)) - hrA f h w (i 0) (i 1) * rinvA f h w (i 0) *
    Ideal.div (∑ k : Fin 1024, doutA f h y g w (i 0) k * g (ix2 0 k) * (hrA f h w (i 0) k * rinvA f h w (i 0))) (Ideal.ofBits .f32 0x44800000#32))
/-- The loss as the kernel leaves it, the same number in every place. -/
def A7 (f : FVec Ideal S8192x2816 .f32) (h : FVec Ideal S8192x1024 .f32) (y : FVec Ideal S8192x1024 .f32) (g : FVec Ideal S1x1024 .f32) (w : FVec Ideal S1x2816x1024 .f32) : FVec Ideal S8x128 .f32 :=
  fun _ => ∑ p : Fin cfg0.N, ((∑ q : Fin 256, sqA f h y g w ⟨p.val * 512 + q.val, by have := lt_of_lt_of_eq p.isLt N_0; omega⟩) * Ideal.ofBits .f32 0x3A000000#32
    + (∑ q : Fin 256, sqA f h y g w ⟨p.val * 512 + (256 + q.val), by have := lt_of_lt_of_eq p.isLt N_0; omega⟩) * Ideal.ofBits .f32 0x3A000000#32)
/-- The gain's gradient as the kernel leaves it: eight rows of partial sums. -/
def A8 (f : FVec Ideal S8192x2816 .f32) (h : FVec Ideal S8192x1024 .f32) (y : FVec Ideal S8192x1024 .f32) (g : FVec Ideal S1x1024 .f32) (w : FVec Ideal S1x2816x1024 .f32) : FVec Ideal S8x1024 .f32 :=
  fun i => ∑ p : Fin cfg0.N,
    ((∑ q : Fin 32, termA f h y g w ⟨p.val * 512 + (q.val * 8 + (i 0).val), by have : (i 0).val < 8 := (i 0).isLt; have := lt_of_lt_of_eq p.isLt N_0; omega⟩ (i 1))
    + ∑ q : Fin 32, termA f h y g w ⟨p.val * 512 + (256 + (q.val * 8 + (i 0).val)), by have : (i 0).val < 8 := (i 0).isLt; have := lt_of_lt_of_eq p.isLt N_0; omega⟩ (i 1))

theorem at0 (c : Dev nD) (t : Fin cfg0.N) (j : Fin 4) (r : Fin 512) (n : Fin 704) : iblk m c 0 t (ix3 j r n) = (m ((c : Thread nD τ).loc main_arg0)) (ix2 ⟨t.val * 512 + r.val, by have := lt_of_lt_of_eq t.isLt N_0; omega⟩ (col j n)) := by
  refine (entry2 m c _).trans ?_
  simp only [col]; blk_ext [idx t]
theorem at1 (c : Dev nD) (t : Fin cfg0.N) (r : Fin 512) (k : Fin 1024) : iblk m c 1 t (ix2 r k) = (m ((c : Thread nD τ).loc main_arg1)) (ix2 ⟨t.val * 512 + r.val, by have := lt_of_lt_of_eq t.isLt N_0; omega⟩ k) := by
  blk_point [iblk, V, idx t]
theorem at2 (c : Dev nD) (t : Fin cfg0.N) (r : Fin 512) (k : Fin 1024) : iblk m c 2 t (ix2 r k) = (m ((c : Thread nD τ).loc main_arg2)) (ix2 ⟨t.val * 512 + r.val, by have := lt_of_lt_of_eq t.isLt N_0; omega⟩ k) := by
  blk_point [iblk, V, idx t]
theorem at3 (c : Dev nD) (t : Fin cfg0.N) (k : Fin 1024) : iblk m c 3 t (ix2 0 k) = (m ((c : Thread nD τ).loc main_arg3)) (ix2 0 k) := by
  blk_point [iblk, V, idx t]
theorem at4 (c : Dev nD) (t : Fin cfg0.N) (j : Fin 4) (n : Fin 704) (k : Fin 1024) : iblk m c 4 t (ix3 j n k) = (m ((c : Thread nD τ).loc main_arg4)) (ix3 0 (col j n) k) := by
  refine (entry4 m c _).trans ?_
  simp only [col]; blk_ext [idx t]

theorem hr_at (c : Dev nD) (t : Fin cfg0.N) (r : Fin 512) (k : Fin 1024) : hr (iblk m c 0 t) (iblk m c 1 t) (iblk m c 4 t) r k = hrA (m ((c : Thread nD τ).loc main_arg0)) (m ((c : Thread nD τ).loc main_arg1)) (m ((c : Thread nD τ).loc main_arg4)) ⟨t.val * 512 + r.val, by have := lt_of_lt_of_eq t.isLt N_0; omega⟩ k := by
  simp only [hr, hrA, at0, at1, at4]
theorem rinv_at (c : Dev nD) (t : Fin cfg0.N) (r : Fin 512) : rinv (iblk m c 0 t) (iblk m c 1 t) (iblk m c 4 t) r = rinvA (m ((c : Thread nD τ).loc main_arg0)) (m ((c : Thread nD τ).loc main_arg1)) (m ((c : Thread nD τ).loc main_arg4)) ⟨t.val * 512 + r.val, by have := lt_of_lt_of_eq t.isLt N_0; omega⟩ := by
  simp only [rinv, rinvA, hr_at]
theorem diff_at (c : Dev nD) (t : Fin cfg0.N) (r : Fin 512) (k : Fin 1024) : diff (iblk m c 0 t) (iblk m c 1 t) (iblk m c 2 t) (iblk m c 3 t) (iblk m c 4 t) r k = diffA (m ((c : Thread nD τ).loc main_arg0)) (m ((c : Thread nD τ).loc main_arg1)) (m ((c : Thread nD τ).loc main_arg2)) (m ((c : Thread nD τ).loc main_arg3)) (m ((c : Thread nD τ).loc main_arg4)) ⟨t.val * 512 + r.val, by have := lt_of_lt_of_eq t.isLt N_0; omega⟩ k := by
  simp only [diff, diffA, hr_at, rinv_at, at2, at3]
theorem dout_at (c : Dev nD) (t : Fin cfg0.N) (r : Fin 512) (k : Fin 1024) : dout (iblk m c 0 t) (iblk m c 1 t) (iblk m c 2 t) (iblk m c 3 t) (iblk m c 4 t) r k = doutA (m ((c : Thread nD τ).loc main_arg0)) (m ((c : Thread nD τ).loc main_arg1)) (m ((c : Thread nD τ).loc main_arg2)) (m ((c : Thread nD τ).loc main_arg3)) (m ((c : Thread nD τ).loc main_arg4)) ⟨t.val * 512 + r.val, by have := lt_of_lt_of_eq t.isLt N_0; omega⟩ k := by
  simp only [dout, doutA, diff_at]
theorem sq_at (c : Dev nD) (t : Fin cfg0.N) (r : Fin 512) : sq (iblk m c 0 t) (iblk m c 1 t) (iblk m c 2 t) (iblk m c 3 t) (iblk m c 4 t) r = sqA (m ((c : Thread nD τ).loc main_arg0)) (m ((c : Thread nD τ).loc main_arg1)) (m ((c : Thread nD τ).loc main_arg2)) (m ((c : Thread nD τ).loc main_arg3)) (m ((c : Thread nD τ).loc main_arg4)) ⟨t.val * 512 + r.val, by have := lt_of_lt_of_eq t.isLt N_0; omega⟩ := by
  simp only [sq, sqA, diff_at]
theorem term8_at (c : Dev nD) (t : Fin cfg0.N) (r : Fin 512) (k : Fin 1024) : term8 (iblk m c 0 t) (iblk m c 1 t) (iblk m c 2 t) (iblk m c 3 t) (iblk m c 4 t) r k = termA (m ((c : Thread nD τ).loc main_arg0)) (m ((c : Thread nD τ).loc main_arg1)) (m ((c : Thread nD τ).loc main_arg2)) (m ((c : Thread nD τ).loc main_arg3)) (m ((c : Thread nD τ).loc main_arg4)) ⟨t.val * 512 + r.val, by have := lt_of_lt_of_eq t.isLt N_0; omega⟩ k := by
  simp only [term8, termA, dout_at, hr_at, rinv_at]

theorem out5 (c : Dev nD) (t : Fin cfg0.N) (y : S512x1024.Idx) : (outsAt0 m c t.val t.isLt).1 y = g5 (iblk m c 0 t) (iblk m c 1 t) (iblk m c 2 t) (iblk m c 3 t) (iblk m c 4 t) y := by
  by_cases h : t.val % 16 = 0
  · exact out5_A m c t h y
  · exact out5_B m c t h y
theorem out6 (c : Dev nD) (t : Fin cfg0.N) (y : S512x1024.Idx) : (outsAt0 m c t.val t.isLt).2.1 y = g5 (iblk m c 0 t) (iblk m c 1 t) (iblk m c 2 t) (iblk m c 3 t) (iblk m c 4 t) y := by
  by_cases h : t.val % 16 = 0
  · exact out6_A m c t h y
  · exact out6_B m c t h y

theorem g5_open (x0 : FVec Ideal S4x512x704 .bf16) (x1 : FVec Ideal S512x1024 .f32) (x2 : FVec Ideal S512x1024 .f32) (x3 : FVec Ideal S1x1024 .f32) (x4 : FVec Ideal S4x704x1024 .bf16) (y0 : Fin 512) (y1 : Fin 1024) : g5 x0 x1 x2 x3 x4 (ix2 y0 y1) = rinv x0 x1 x4 y0 * (dout x0 x1 x2 x3 x4 y0 y1 * x3 (ix2 0 y1) - hr x0 x1 x4 y0 y1 * rinv x0 x1 x4 y0 *
    Ideal.div (∑ k : Fin 1024, dout x0 x1 x2 x3 x4 y0 k * x3 (ix2 0 k) * (hr x0 x1 x4 y0 k * rinv x0 x1 x4 y0)) (Ideal.ofBits .f32 0x44800000#32)) := rfl
theorem g5_at (c : Dev nD) (t : Fin cfg0.N) (r : Fin 512) (k : Fin 1024) : g5 (iblk m c 0 t) (iblk m c 1 t) (iblk m c 2 t) (iblk m c 3 t) (iblk m c 4 t) (ix2 r k) = A5 (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + r.val, by have := lt_of_lt_of_eq t.isLt N_0; omega⟩ k) := by
  rw [g5_open]
  simp only [dout_at, rinv_at, hr_at, at3]
  rfl

theorem final5 (c : Dev nD) : (dats m 0 c).arrAt 5 (cfgs 0).N = A5 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, out5]
  have e : y = ix2 (y 0) (y 1) := by funext a; fin_cases a <;> rfl
  refine ((congrArg _ e).trans (g5_at m c t (y 0) (y 1))).trans (congrArg _ ?_)
  blk_ext [idx t]
theorem final6 (c : Dev nD) : (dats m 0 c).arrAt 6 (cfgs 0).N = A5 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, out6]
  have e : y = ix2 (y 0) (y 1) := by funext a; fin_cases a <;> rfl
  refine ((congrArg _ e).trans (g5_at m c t (y 0) (y 1))).trans (congrArg _ ?_)
  blk_ext [idx t]
theorem g8_at (c : Dev nD) (t : Fin cfg0.N) (l : Fin 8) (k : Fin 1024) : g8 (iblk m c 0 t) (iblk m c 1 t) (iblk m c 2 t) (iblk m c 3 t) (iblk m c 4 t) l k
    = (∑ q : Fin 32, termA (m ((c : Thread nD τ).loc main_arg0)) (m ((c : Thread nD τ).loc main_arg1)) (m ((c : Thread nD τ).loc main_arg2)) (m ((c : Thread nD τ).loc main_arg3)) (m ((c : Thread nD τ).loc main_arg4)) ⟨t.val * 512 + (q.val * 8 + l.val), by have := lt_of_lt_of_eq t.isLt N_0; omega⟩ k) + ∑ q : Fin 32, termA (m ((c : Thread nD τ).loc main_arg0)) (m ((c : Thread nD τ).loc main_arg1)) (m ((c : Thread nD τ).loc main_arg2)) (m ((c : Thread nD τ).loc main_arg3)) (m ((c : Thread nD τ).loc main_arg4)) ⟨t.val * 512 + (256 + (q.val * 8 + l.val)), by have := lt_of_lt_of_eq t.isLt N_0; omega⟩ k := by
  simp only [g8, term8_at]

theorem final7 (c : Dev nD) : (dats m 0 c).arrAt 7 (cfgs 0).N = A7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0) (fun p j => g7 (iblk m c 0 p) (iblk m c 1 p) (iblk m c 2 p) (iblk m c 3 p) (iblk m c 4 p))
    (fun t h j => by rw [out7_A m c t h, step7_at, zero7]) (fun t h j => by rw [out7_B m c t h, step7_at]) (le_of_eq N_0) t0_15 rfl j, zero_add]
  unfold A7
  refine Fin.sum_fin_congr fun p => ?_
  simp only [g7, sq_at]
theorem final8 (c : Dev nD) : (dats m 0 c).arrAt 8 (cfgs 0).N = A8 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0) (fun p j => g8 (iblk m c 0 p) (iblk m c 1 p) (iblk m c 2 p) (iblk m c 3 p) (iblk m c 4 p) (j 0) (j 1))
    (fun t h j => by rw [out8_A m c t h, step8_at, zero8]) (fun t h j => by rw [out8_B m c t h, step8_at]) (le_of_eq N_0) t0_15 rfl j, zero_add]
  unfold A8
  refine Fin.sum_fin_congr fun p => ?_
  exact g8_at m c p (j 0) (j 1)
end Cert.Kernel4Ideal.Head
end
-- ==== Proof.Head.Value.lean ====
module

public import proofs.«01_k».proof.Proof.Head.Final
public import Idealize.ShloMosaic.Lib.Pipeline.ValueKit
public import Idealize.ShloMosaic.Lib.Pointwise
public import Idealize.ShloMosaic.Lib.Claim
public import proofs.«01_k».proof.Proof.Common.Sums
public import proofs.«01_k».proof.Proof.Common.Rms
public import proofs.«01_k».proof.Defs
public import proofs.«01_k».proof.Proof.Gen.Reference4Ideal
public import proofs.«01_k».proof.Proof.Gen.Reference4Ideal.Read

@[expose] public section
set_option maxRecDepth 16384
noncomputable section
open Idealize.ShloMosaic Idealize.ShloMosaic.TcCoe Idealize.SL.Sem
open Idealize.ShloMosaic.Pipeline (Dat)
namespace Cert.Kernel4Ideal.Head
open Cert.Kernel4Ideal Cert.Kernel4Ideal.Gen
variable (m : (ℓ : Loc nD τ sig) → Buf (Elt Ideal) ℓ)

open Cert.Reference4Ideal.Read in
theorem ref2 (f : FVec Ideal S8192x2816 .f32) (h : FVec Ideal S8192x1024 .f32) (w : FVec Ideal S1x2816x1024 .f32) (r : Fin 8192) (k : Fin 1024) : val_main_v2 (F := Ideal) f h w (ix2 r k) = hrA f h w r k := by
  have e := Cert.Sums.cols4 fun n : Fin 2816 => f (ix2 r n) * w (ix3 0 n k)
  rw [Fin.sum_univ_four] at e
  refine Eq.trans ?_ (congrArg (fun s => h (ix2 r k) + s) e.symm)
  pointwise [val_main_v2, val_main_v1, val_main_v0]
open Cert.Reference4Ideal.Read in
theorem ref10 (f : FVec Ideal S8192x2816 .f32) (h : FVec Ideal S8192x1024 .f32) (w : FVec Ideal S1x2816x1024 .f32) (r : Fin 8192) :
    val_main_v10 (F := Ideal) f h w (ix2 r 0) = Ideal.div (∑ k : Fin 1024, val_main_v2 (F := Ideal) f h w (ix2 r k) * val_main_v2 (F := Ideal) f h w (ix2 r k)) (Ideal.ofBits .f32 0x44800000#32) + Ideal.ofBits .f32 0x358637BD#32 := by
  pointwise [val_main_v10, val_main_v9, val_main_cst_1, val_main_v8, val_main_v7, val_main_cst_0, val_main_v6, val_main_v5, val_main_cst, val_main_v4]
open Cert.Reference4Ideal.Read in
theorem ref20 (f : FVec Ideal S8192x2816 .f32) (h : FVec Ideal S8192x1024 .f32) (y : FVec Ideal S8192x1024 .f32) (g : FVec Ideal S1x1024 .f32) (w : FVec Ideal S1x2816x1024 .f32) (r : Fin 8192) (k : Fin 1024) :
    val_main_v20 (F := Ideal) f h y g w (ix2 r k) = val_main_v2 (F := Ideal) f h w (ix2 r k) * Ideal.rsqrt (val_main_v10 (F := Ideal) f h w (ix2 r 0)) * g (ix2 0 k) - y (ix2 r k) := by
  pointwise [val_main_v20, val_main_v19, val_main_v18, val_main_v17, val_main_v16, val_main_v15, val_main_v11, val_main_v3]
open Cert.Reference4Ideal.Read in
theorem ref28 (f : FVec Ideal S8192x2816 .f32) (h : FVec Ideal S8192x1024 .f32) (y : FVec Ideal S8192x1024 .f32) (g : FVec Ideal S1x1024 .f32) (w : FVec Ideal S1x2816x1024 .f32) (i : S_.Idx) : val_main_v28 (F := Ideal) f h y g w i
    = Ideal.ofBits .f32 0x3F000000#32 * ∑ r : Fin 8192, Ideal.div (∑ k : Fin 1024, val_main_v20 (F := Ideal) f h y g w (ix2 r k) * val_main_v20 (F := Ideal) f h y g w (ix2 r k)) (Ideal.ofBits .f32 0x44800000#32) := by
  pointwise [val_main_v28, val_main_cst_7, val_main_v27, val_main_cst_6, val_main_v26, val_main_v25, val_main_cst_5, val_main_v24, val_main_cst_4, val_main_v21]
open Cert.Reference4Ideal.Read in
theorem ref34 (f : FVec Ideal S8192x2816 .f32) (h : FVec Ideal S8192x1024 .f32) (y : FVec Ideal S8192x1024 .f32) (g : FVec Ideal S1x1024 .f32) (w : FVec Ideal S1x2816x1024 .f32) (r : Fin 8192) (k : Fin 1024) : val_main_v34 (F := Ideal) f h y g w (ix2 r k)
    = Ideal.div (Ideal.ofBits .f32 0x3F000000#32 * Ideal.ofBits .f32 0x3F800000#32) (Ideal.ofBits .f32 0x44800000#32) * (Ideal.ofBits .f32 0x40000000#32 * val_main_v20 (F := Ideal) f h y g w (ix2 r k)) := by
  pointwise [val_main_v34, val_main_v33, val_main_v32, val_main_v31, val_main_cst_10, val_main_v30, val_main_v29, val_main_cst_9, val_main_cst_8, val_main_v23, val_main_v22, val_main_cst_3]
open Cert.Reference4Ideal.Read in
theorem ref54 (f : FVec Ideal S8192x2816 .f32) (h : FVec Ideal S8192x1024 .f32) (y : FVec Ideal S8192x1024 .f32) (g : FVec Ideal S1x1024 .f32) (w : FVec Ideal S1x2816x1024 .f32) (r : Fin 8192) (k : Fin 1024) : val_main_v54 (F := Ideal) f h y g w (ix2 r k)
    = val_main_v34 (F := Ideal) f h y g w (ix2 r k) * g (ix2 0 k) * Ideal.rsqrt (val_main_v10 (F := Ideal) f h w (ix2 r 0)) + val_main_v2 (F := Ideal) f h w (ix2 r k) * Ideal.div ((∑ l : Fin 1024, val_main_v2 (F := Ideal) f h w (ix2 r l) * (val_main_v34 (F := Ideal) f h y g w (ix2 r l) * g (ix2 0 l))) * (Ideal.ofBits .f32 0xBF000000#32 * Ideal.div (Ideal.rsqrt (val_main_v10 (F := Ideal) f h w (ix2 r 0))) (val_main_v10 (F := Ideal) f h w (ix2 r 0)))) (Ideal.ofBits .f32 0x44800000#32) + Ideal.div ((∑ l : Fin 1024, val_main_v2 (F := Ideal) f h w (ix2 r l) * (val_main_v34 (F := Ideal) f h y g w (ix2 r l) * g (ix2 0 l))) * (Ideal.ofBits .f32 0xBF000000#32 * Ideal.div (Ideal.rsqrt (val_main_v10 (F := Ideal) f h w (ix2 r 0))) (val_main_v10 (F := Ideal) f h w (ix2 r 0)))) (Ideal.ofBits .f32 0x44800000#32) * val_main_v2 (F := Ideal) f h w (ix2 r k) := by
  pointwise [val_main_v54, val_main_v53, val_main_v52, val_main_v51, val_main_v50, val_main_v49, val_main_cst_15, val_main_v48, val_main_v47, val_main_cst_14, val_main_v46, val_main_v45, val_main_v44, val_main_v43, val_main_v42, val_main_cst_13, val_main_v41, val_main_v39, val_main_v38, val_main_v17, val_main_v3, val_main_v14, val_main_v13, val_main_cst_2, val_main_v12, val_main_v11]
  rw [Fin.sum_univ_one]
open Cert.Reference4Ideal.Read in
theorem ref55 (f : FVec Ideal S8192x2816 .f32) (h : FVec Ideal S8192x1024 .f32) (y : FVec Ideal S8192x1024 .f32) (g : FVec Ideal S1x1024 .f32) (w : FVec Ideal S1x2816x1024 .f32) (k : Fin 1024) : val_main_v55 (F := Ideal) f h y g w (ix2 0 k)
    = ∑ r : Fin 8192, val_main_v2 (F := Ideal) f h w (ix2 r k) * Ideal.rsqrt (val_main_v10 (F := Ideal) f h w (ix2 r 0)) * val_main_v34 (F := Ideal) f h y g w (ix2 r k) := by
  pointwise [val_main_v55, val_main_v40, val_main_cst_12, val_main_v37, val_main_v36, val_main_cst_11, val_main_v35, val_main_v16, val_main_v15, val_main_v11]
  rw [Fin.sum_univ_one]

theorem cHalf : Ideal.ofBits .f32 0x3F000000#32 = ((1 / 2 : ℝ) : EReal) := by
  simp [Ideal.ofBits, Ideal.ieee]; rw [← EReal.coe_mul]; norm_num
theorem cOne : Ideal.ofBits .f32 0x3F800000#32 = ((1 : ℝ) : EReal) := by
  simp [Ideal.ofBits, Ideal.ieee]; rw [← EReal.coe_mul]; norm_num
theorem cTwo : Ideal.ofBits .f32 0x40000000#32 = ((2 : ℝ) : EReal) := by
  simp [Ideal.ofBits, Ideal.ieee]; rw [← EReal.coe_mul]; norm_num
theorem cInv : Ideal.ofBits .f32 0x3A800000#32 = ((1 / 1024 : ℝ) : EReal) := by
  simp [Ideal.ofBits, Ideal.ieee]; rw [← EReal.coe_mul]; norm_num
theorem cHalfInv : Ideal.ofBits .f32 0x3A000000#32 = ((1 / 2048 : ℝ) : EReal) := by
  simp [Ideal.ofBits, Ideal.ieee]; rw [← EReal.coe_mul]; norm_num

open Cert.Reference4Ideal.Read in
theorem ref_rinv (f : FVec Ideal S8192x2816 .f32) (h : FVec Ideal S8192x1024 .f32) (w : FVec Ideal S1x2816x1024 .f32) (r : Fin 8192) : Ideal.rsqrt (val_main_v10 (F := Ideal) f h w (ix2 r 0)) = rinvA f h w r := by
  rw [ref10]; simp only [ref2]; rfl
open Cert.Reference4Ideal.Read in
theorem ref_diff (f : FVec Ideal S8192x2816 .f32) (h : FVec Ideal S8192x1024 .f32) (y : FVec Ideal S8192x1024 .f32) (g : FVec Ideal S1x1024 .f32) (w : FVec Ideal S1x2816x1024 .f32) (r : Fin 8192) (k : Fin 1024) : val_main_v20 (F := Ideal) f h y g w (ix2 r k) = diffA f h y g w r k := by
  rw [ref20, ref_rinv, ref2]; rfl

/-- At finite arguments a residual row is real, -/
theorem hr_real (f : FVec Ideal S8192x2816 .f32) (h : FVec Ideal S8192x1024 .f32) (w : FVec Ideal S1x2816x1024 .f32) (ff : S8192x2816.Idx → ℝ) (fh : S8192x1024.Idx → ℝ) (fw : S1x2816x1024.Idx → ℝ)
    (hf : ∀ i, f i = ((ff i : ℝ) : EReal)) (hh : ∀ i, h i = ((fh i : ℝ) : EReal)) (hw : ∀ i, w i = ((fw i : ℝ) : EReal)) :
    ∃ H : Fin 8192 → Fin 1024 → ℝ, ∀ r k, hrA f h w r k = ((H r k : ℝ) : EReal) := by
  refine ⟨fun r k => fh (ix2 r k) + ((∑ n : Fin 704, ff (ix2 r (col 0 n)) * fw (ix3 0 (col 0 n) k)) + (∑ n : Fin 704, ff (ix2 r (col 1 n)) * fw (ix3 0 (col 1 n) k))
    + (∑ n : Fin 704, ff (ix2 r (col 2 n)) * fw (ix3 0 (col 2 n) k)) + ∑ n : Fin 704, ff (ix2 r (col 3 n)) * fw (ix3 0 (col 3 n) k)), fun r k => ?_⟩
  simp only [hrA, hf, hh, hw, ← EReal.coe_mul, Cert.Reals.sum_coe, ← EReal.coe_add]
/-- and so is its distance from the target. -/
theorem diff_real (f : FVec Ideal S8192x2816 .f32) (h : FVec Ideal S8192x1024 .f32) (y : FVec Ideal S8192x1024 .f32) (g : FVec Ideal S1x1024 .f32) (w : FVec Ideal S1x2816x1024 .f32) (H : Fin 8192 → Fin 1024 → ℝ) (hH : ∀ r k, hrA f h w r k = ((H r k : ℝ) : EReal)) (fy : S8192x1024.Idx → ℝ) (fg : S1x1024.Idx → ℝ)
    (hy : ∀ i, y i = ((fy i : ℝ) : EReal)) (hg : ∀ i, g i = ((fg i : ℝ) : EReal)) :
    ∃ D : Fin 8192 → Fin 1024 → ℝ, ∀ r k, diffA f h y g w r k = ((D r k : ℝ) : EReal) := by
  have hi : ∀ r, ∃ ρ : ℝ, rinvA f h w r = (ρ : EReal) := fun r => by
    obtain ⟨v, hv, hm⟩ := Cert.Rms.ms (H r)
    refine ⟨(Real.sqrt v)⁻¹, ?_⟩
    simp only [rinvA, hH]
    rw [hm, Cert.Rms.rsqrt v hv]
  choose ρ hρ using hi
  refine ⟨fun r k => H r k * ρ r * fg (ix2 0 k) - fy (ix2 r k), fun r k => ?_⟩
  simp only [diffA, hH, hρ, hg, hy, ← EReal.coe_mul, ← EReal.coe_sub]

open Cert.Reference4Ideal.Read in
theorem ref_dout (f : FVec Ideal S8192x2816 .f32) (h : FVec Ideal S8192x1024 .f32) (y : FVec Ideal S8192x1024 .f32) (g : FVec Ideal S1x1024 .f32) (w : FVec Ideal S1x2816x1024 .f32) (D : Fin 8192 → Fin 1024 → ℝ) (hD : ∀ r k, diffA f h y g w r k = ((D r k : ℝ) : EReal)) (r : Fin 8192) (k : Fin 1024) :
    val_main_v34 (F := Ideal) f h y g w (ix2 r k) = ((D r k / 1024 : ℝ) : EReal) := by
  rw [ref34, ref_diff, hD, cHalf, cOne, cTwo, Cert.Rms.c1024]
  simp only [← EReal.coe_mul]
  rw [Cert.Reals.div_coe _ _ (by norm_num), ← EReal.coe_mul]
  congr 1; ring
theorem ker_dout (f : FVec Ideal S8192x2816 .f32) (h : FVec Ideal S8192x1024 .f32) (y : FVec Ideal S8192x1024 .f32) (g : FVec Ideal S1x1024 .f32) (w : FVec Ideal S1x2816x1024 .f32) (D : Fin 8192 → Fin 1024 → ℝ) (hD : ∀ r k, diffA f h y g w r k = ((D r k : ℝ) : EReal)) (r : Fin 8192) (k : Fin 1024) :
    doutA f h y g w r k = ((D r k / 1024 : ℝ) : EReal) := by
  rw [doutA, hD, cInv, ← EReal.coe_mul]
  congr 1; ring

open Cert.Reference4Ideal.Read in
/-- The two cotangents of the rows. -/
theorem same5 (f : FVec Ideal S8192x2816 .f32) (h : FVec Ideal S8192x1024 .f32) (y : FVec Ideal S8192x1024 .f32) (g : FVec Ideal S1x1024 .f32) (w : FVec Ideal S1x2816x1024 .f32) (H D : Fin 8192 → Fin 1024 → ℝ) (hH : ∀ r k, hrA f h w r k = ((H r k : ℝ) : EReal)) (hD : ∀ r k, diffA f h y g w r k = ((D r k : ℝ) : EReal)) (fg : S1x1024.Idx → ℝ)
    (hg : ∀ i, g i = ((fg i : ℝ) : EReal)) : val_main_v54 (F := Ideal) f h y g w = A5 f h y g w := by
  funext i
  idx_vars i
  rw [ref54]
  show _ = rinvA f h w i0 * (doutA f h y g w i0 i1 * g (ix2 0 i1) - hrA f h w i0 i1 * rinvA f h w i0 *
    Ideal.div (∑ k : Fin 1024, doutA f h y g w i0 k * g (ix2 0 k) * (hrA f h w i0 k * rinvA f h w i0)) (Ideal.ofBits .f32 0x44800000#32))
  have hi := (ref_rinv f h w i0).symm
  have h7 := ref10 f h w i0
  generalize val_main_v10 (F := Ideal) f h w (ix2 i0 0) = ms at h7 hi ⊢
  rw [hi]
  simp only [ref_dout f h y g w D hD, ker_dout f h y g w D hD, ref2, hH, hg] at h7 ⊢
  have b := Cert.Rms.back (H i0) (fun k => D i0 k / 1024) (fun k => fg (ix2 0 k)) 0 i1 ms _ h7 rfl
  rw [EReal.coe_zero, zero_add, zero_add] at b
  exact b.symm

/-- The eight rows of partial sums added up. -/
abbrev total (X : FVec Ideal S8x1024 .f32) : FVec Ideal S1x1024 .f32 :=
  broadcastInDim S1x1024 ![1] bcast_S1024_S1x1024_1 (Host.reduceAdd (F := Ideal) X (constant (F := Ideal) S_ .f32 0x00000000#32) reducesTo_S8x1024_S1024_d0 h_S_)
theorem total_at (X : FVec Ideal S8x1024 .f32) (k : Fin 1024) : total X (ix2 0 k) = ∑ l : Fin 8, X (ix2 l k) := by
  pointwise [total]
/-- The first entry. -/
abbrev corner (X : FVec Ideal S8x128 .f32) : FVec Ideal S_ .f32 :=
  shapeCast S_ (extractStridedSlice S1x1 ![0, 0] X slices_S8x128_S1x1_0_0) shapeCasts_S1x1_S_
theorem corner_at (X : FVec Ideal S8x128 .f32) (i : S_.Idx) : corner X i = X (ix2 0 0) := by
  pointwise [corner]

theorem A8_total (f : FVec Ideal S8192x2816 .f32) (h : FVec Ideal S8192x1024 .f32) (y : FVec Ideal S8192x1024 .f32) (g : FVec Ideal S1x1024 .f32) (w : FVec Ideal S1x2816x1024 .f32) (k : Fin 1024) : total (A8 f h y g w) (ix2 0 k) = ∑ r : Fin 8192, termA f h y g w r k := by
  rw [total_at]
  have e := Cert.Sums.rows8 fun n : ℕ => if hn : n < 8192 then termA f h y g w ⟨n, hn⟩ k else 0
  refine Eq.trans ?_ (e.trans ?_)
  · refine Finset.sum_congr rfl fun l _ => Finset.sum_congr rfl fun p _ => congrArg₂ (· + ·) ?_ ?_ <;> refine Finset.sum_congr rfl fun q _ => ?_
    · have hlt : p.val * 512 + (q.val * 8 + l.val) < 8192 := by have : p.val < 16 := p.isLt; omega
      show _ = dite _ _ _
      rw [dif_pos hlt]; rfl
    · have hlt : p.val * 512 + (256 + (q.val * 8 + l.val)) < 8192 := by have : p.val < 16 := p.isLt; omega
      show _ = dite _ _ _
      rw [dif_pos hlt]; rfl
  · exact Finset.sum_congr rfl fun r _ => dif_pos r.isLt

open Cert.Reference4Ideal.Read in
/-- The two gradients of the gain. -/
theorem same8 (f : FVec Ideal S8192x2816 .f32) (h : FVec Ideal S8192x1024 .f32) (y : FVec Ideal S8192x1024 .f32) (g : FVec Ideal S1x1024 .f32) (w : FVec Ideal S1x2816x1024 .f32) (D : Fin 8192 → Fin 1024 → ℝ) (hD : ∀ r k, diffA f h y g w r k = ((D r k : ℝ) : EReal)) :
    val_main_v55 (F := Ideal) f h y g w = total (A8 f h y g w) := by
  funext i
  have e : i = ix2 0 (i 1) := by
    funext a
    fin_cases a
    · apply Fin.ext; have : (i 0).val < 1 := (i 0).isLt; show (i 0).val = 0; omega
    · rfl
  obtain ⟨k, hk⟩ : ∃ k : Fin 1024, i = ix2 0 k := ⟨i 1, e⟩
  rw [hk]
  refine (ref55 f h y g w k).trans (Eq.trans ?_ (A8_total f h y g w k).symm)
  refine Finset.sum_congr rfl fun r _ => ?_
  rw [ref_dout f h y g w D hD, ref_rinv, ref2, termA, ker_dout f h y g w D hD, mul_comm]

/-- Sixteen tiles of two halves of 256 rows. -/
theorem halves (f : Fin 8192 → ℝ) : ∑ p : Fin 16, ((∑ q : Fin 256, f ⟨p.val * 512 + q.val, by omega⟩) + ∑ q : Fin 256, f ⟨p.val * 512 + (256 + q.val), by omega⟩) = ∑ r : Fin 8192, f r := by
  rw [← Cert.Sums.tiles f]
  exact Finset.sum_congr rfl fun p _ => (Fin.sum_univ_add (fun q : Fin (256 + 256) => f ⟨p.val * 512 + q.val, by omega⟩)).symm

open Cert.Reference4Ideal.Read in
/-- The two losses. -/
theorem same7 (f : FVec Ideal S8192x2816 .f32) (h : FVec Ideal S8192x1024 .f32) (y : FVec Ideal S8192x1024 .f32) (g : FVec Ideal S1x1024 .f32) (w : FVec Ideal S1x2816x1024 .f32) (D : Fin 8192 → Fin 1024 → ℝ) (hD : ∀ r k, diffA f h y g w r k = ((D r k : ℝ) : EReal)) :
    val_main_v28 (F := Ideal) f h y g w = corner (A7 f h y g w) := by
  funext i
  rw [ref28, corner_at]
  have hs : ∀ r, sqA f h y g w r = ((∑ k : Fin 1024, D r k * D r k : ℝ) : EReal) := fun r => by
    simp only [sqA, hD, ← EReal.coe_mul, Cert.Reals.sum_coe]
  have hl : ∀ r : Fin 8192, Ideal.div (∑ k : Fin 1024, val_main_v20 (F := Ideal) f h y g w (ix2 r k) * val_main_v20 (F := Ideal) f h y g w (ix2 r k)) (Ideal.ofBits .f32 0x44800000#32) = (((∑ k : Fin 1024, D r k * D r k) / 1024 : ℝ) : EReal) := fun r => by
    simp only [ref_diff, hD, ← EReal.coe_mul, Cert.Reals.sum_coe]
    rw [Cert.Rms.c1024, Cert.Reals.div_coe _ _ (by norm_num)]
  simp only [hl]
  show _ = ∑ p : Fin 16, ((∑ q : Fin 256, sqA f h y g w ⟨p.val * 512 + q.val, _⟩) * Ideal.ofBits .f32 0x3A000000#32
    + (∑ q : Fin 256, sqA f h y g w ⟨p.val * 512 + (256 + q.val), _⟩) * Ideal.ofBits .f32 0x3A000000#32)
  simp only [hs, cHalf, cHalfInv, ← EReal.coe_mul, Cert.Reals.sum_coe, ← EReal.coe_add]
  congr 1
  rw [← halves fun r => (∑ k : Fin 1024, D r k * D r k) / 1024, Finset.mul_sum]
  refine Finset.sum_congr rfl fun p _ => ?_
  rw [← Finset.sum_div, ← Finset.sum_div]
  ring

theorem tail7 (c : Dev nD) : Pipeline.afterTail₀ cfgs (dats m) 0 (V0 m) [hostOps1] c main_v7 = corner (A7 (m ((c : Thread nD τ).loc main_arg0)) (m ((c : Thread nD τ).loc main_arg1)) (m ((c : Thread nD τ).loc main_arg2)) (m ((c : Thread nD τ).loc main_arg3)) (m ((c : Thread nD τ).loc main_arg4))) := by
  rw [← final7 m c]
  show StableHlo.after hostOps1 _ _ = _
  after_results
  exact congrArg corner (Pipeline.withArrays_arr spec0 (by decide) c _ _ 7)
theorem tail6 (c : Dev nD) : Pipeline.afterTail₀ cfgs (dats m) 0 (V0 m) [hostOps1] c main_v8 = A5 (m ((c : Thread nD τ).loc main_arg0)) (m ((c : Thread nD τ).loc main_arg1)) (m ((c : Thread nD τ).loc main_arg2)) (m ((c : Thread nD τ).loc main_arg3)) (m ((c : Thread nD τ).loc main_arg4)) := by
  rw [← final6 m c]
  show StableHlo.after hostOps1 _ _ = _
  after_results
  exact congrArg (fun X : FVec Ideal S8192x1024 .bf16 => extf (F := Ideal) .f32 X bitsLt_bf16_f32) (Pipeline.withArrays_arr spec0 (by decide) c _ _ 6)
theorem tail8 (c : Dev nD) : Pipeline.afterTail₀ cfgs (dats m) 0 (V0 m) [hostOps1] c main_v10 = total (A8 (m ((c : Thread nD τ).loc main_arg0)) (m ((c : Thread nD τ).loc main_arg1)) (m ((c : Thread nD τ).loc main_arg2)) (m ((c : Thread nD τ).loc main_arg3)) (m ((c : Thread nD τ).loc main_arg4))) := by
  rw [← final8 m c]
  show StableHlo.after hostOps1 _ _ = _
  after_results
  exact congrArg total (Pipeline.withArrays_arr spec0 (by decide) c _ _ 8)
end Cert.Kernel4Ideal.Head

namespace Cert.Proof
open Cert.Kernel4Ideal.Head

theorem head_algebraic (hf : Cert.Pre_loss_head_finite.Facts) : Cert.algebraic_Kernel4Ideal_Reference4Ideal_pre_loss_head_finite (hKernel4Ideal := Cert.Kernel4Ideal.Gen.facts)
    (hReference4Ideal := Cert.Reference4Ideal.Gen.facts) (hPre_loss_head_finite := hf) := by
  pair_intro
  · run_from Cert.Kernel4Ideal.Gen.run_main m g
    · exact Cert.Kernel4Ideal.Gen.W_main_arg0 m _ c
    · exact Cert.Kernel4Ideal.Gen.W_main_arg4 m _ c
  · have hfin := hpre
    have reals : ∀ c : Dev Cert.Kernel4Ideal.nD, ∃ (H D : Fin 8192 → Fin 1024 → ℝ) (fg : Cert.Kernel4Ideal.S1x1024.Idx → ℝ),
        (∀ r k, hrA (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg4)) r k = ((H r k : ℝ) : EReal))
        ∧ (∀ r k, diffA (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) r k = ((D r k : ℝ) : EReal))
        ∧ ∀ i, m ((c : Thread Cert.Kernel4Ideal.nD Cert.Kernel4Ideal.τ).loc Cert.Kernel4Ideal.main_arg3) i = ((fg i : ℝ) : EReal) := fun c => by
      obtain ⟨f0, h0⟩ := Cert.Reals.finite _ _ (hfin c).1
      obtain ⟨f1, h1⟩ := Cert.Reals.finite _ _ (hfin c).2.1
      obtain ⟨f2, h2⟩ := Cert.Reals.finite _ _ (hfin c).2.2.1
      obtain ⟨f3, h3⟩ := Cert.Reals.finite _ _ (hfin c).2.2.2.1
      obtain ⟨f4, h4⟩ := Cert.Reals.finite _ _ (hfin c).2.2.2.2
      obtain ⟨H, hH⟩ := hr_real _ _ _ f0 f1 f4 h0 h1 h4
      obtain ⟨D, hD⟩ := diff_real _ _ _ _ _ H hH f2 f3 h2 h3
      exact ⟨H, D, f3, hH, hD, h3⟩
    run_from Cert.Reference4Ideal.Value.run m' g'
    · obtain ⟨H, D, fg, hH, hD, hg⟩ := reals c
      exact (same7 _ _ _ _ _ D hD).trans (tail7 m c).symm
    · obtain ⟨H, D, fg, hH, hD, hg⟩ := reals c
      obtain ⟨a0, a1, a2, a3, a4⟩ := hagree c
      rw [Cert.Reference4Ideal.Read.val_main_v54_eq, a0, a1, a2, a3, a4]
      exact (same5 _ _ _ _ _ H D hH hD fg hg).trans (final5 m c).symm
    · obtain ⟨H, D, fg, hH, hD, hg⟩ := reals c
      obtain ⟨a0, a1, a2, a3, a4⟩ := hagree c
      rw [Cert.Reference4Ideal.Read.val_main_v54_eq, a0, a1, a2, a3, a4]
      exact (same5 _ _ _ _ _ H D hH hD fg hg).trans (tail6 m c).symm
    · obtain ⟨H, D, fg, hH, hD, hg⟩ := reals c
      exact (same8 _ _ _ _ _ D hD).trans (tail8 m c).symm
end Cert.Proof
end
-- ==== Proof.Mixer.Runs.lean ====
module

public import proofs.«01_k».proof.Proof.Gen.Kernel5Ideal.Launch
public import proofs.«01_k».proof.Proof.Gen.Kernel5Ideal.Skeleton
public import proofs.«01_k».proof.Proof.Gen.Kernel5Ideal.Loops
public import proofs.«01_k».proof.Proof.Gen.Kernel5Ideal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- The windows' axes are long, and membership in a rectangle is looked at coordinate by coordinate.
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`). -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is its host lines before the pipeline, the pipeline, and its host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the pipeline touch only the pipeline's arrays and buffers beside it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch₀0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 1100000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- The arguments of `@main`. -/
abbrev argRefs : List (Ref sig .tc) := [main_arg0, main_arg1, main_arg2, main_arg3, main_arg4, main_arg5, main_arg6, main_arg7, main_arg8, main_arg9, main_arg10, main_arg11, main_arg12, main_arg13, main_arg14]
/-- A buffer that is no argument differs from every argument. -/
theorem arg_ne {b r : Ref sig .tc} (hb : b ∈ argRefs) (hr : r ∉ argRefs) :
    Proc.devRef .tc b ≠ Proc.devRef (τ := τ) .tc r :=
  StableHlo.devRef_ne_of_ne fun h => hr (h ▸ hb)
set_option maxHeartbeats 1600000 in
/-- The host lines `hostOps0` write no argument. -/
theorem hostOps0_keeps {b : Ref sig .tc} (hb : b ∈ argRefs) :
    (hostOps0 : List (HloOp τ sig (Elt F))).Forall fun op => Proc.devRef .tc b ∉ op.writes := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact arg_ne hb (by decide)
set_option maxHeartbeats 1600000 in
/-- The host lines `hostOps0_1` write no argument. -/
theorem hostOps0_1_keeps {b : Ref sig .tc} (hb : b ∈ argRefs) :
    (hostOps0_1 : List (HloOp τ sig (Elt F))).Forall fun op => Proc.devRef .tc b ∉ op.writes := by
  simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact arg_ne hb (by decide)
set_option maxHeartbeats 1600000 in
/-- The host lines `hostOps0_2` write no argument. -/
theorem hostOps0_2_keeps {b : Ref sig .tc} (hb : b ∈ argRefs) :
    (hostOps0_2 : List (HloOp τ sig (Elt F))).Forall fun op => Proc.devRef .tc b ∉ op.writes := by
  simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact arg_ne hb (by decide)
set_option maxHeartbeats 1600000 in
/-- The host lines `hostOps0_3` write no argument. -/
theorem hostOps0_3_keeps {b : Ref sig .tc} (hb : b ∈ argRefs) :
    (hostOps0_3 : List (HloOp τ sig (Elt F))).Forall fun op => Proc.devRef .tc b ∉ op.writes := by
  simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact arg_ne hb (by decide)
set_option maxHeartbeats 1600000 in
/-- The host lines `hostOps0_4` write no argument. -/
theorem hostOps0_4_keeps {b : Ref sig .tc} (hb : b ∈ argRefs) :
    (hostOps0_4 : List (HloOp τ sig (Elt F))).Forall fun op => Proc.devRef .tc b ∉ op.writes := by
  simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact arg_ne hb (by decide)
set_option maxHeartbeats 1600000 in
/-- The host lines `hostOps1` write no argument. -/
theorem hostOps1_keeps {b : Ref sig .tc} (hb : b ∈ argRefs) :
    (hostOps1 : List (HloOp τ sig (Elt F))).Forall fun op => Proc.devRef .tc b ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact arg_ne hb (by decide)
/-- The lines before the region write no argument: the region finds each as launched. -/
theorem V_arg {b : Ref sig .tc} (hb : b ∈ argRefs) (c : Dev nD) : V m c b = m ((c : Thread nD τ).loc b) :=
  StableHlo.after_of_forall_not_mem (b := Proc.devRef .tc b) _ _ fun op hop => by
    obtain ⟨ops, hops, hop⟩ := List.mem_flatten.mp hop
    simp only [List.mem_cons, List.mem_nil_iff, or_false] at hops
    rcases hops with rfl | rfl | rfl | rfl | rfl
    · exact (List.forall_iff_forall_mem.mp (hostOps0_keeps hb)) op hop
    · exact (List.forall_iff_forall_mem.mp (hostOps0_1_keeps hb)) op hop
    · exact (List.forall_iff_forall_mem.mp (hostOps0_2_keeps hb)) op hop
    · exact (List.forall_iff_forall_mem.mp (hostOps0_3_keeps hb)) op hop
    · exact (List.forall_iff_forall_mem.mp (hostOps0_4_keeps hb)) op hop
/-- Nor do the lines after it: each argument ends as launched. -/
theorem W_arg {b : Ref sig .tc} (hb : b ∈ argRefs) (hw : ∀ w, Pipeline.arrRef spec0 w ≠ b)
    (dats : (p : Fin _) → (c : Dev nD) → Dat τ (Elt F) Unit ℕ (UR sig nD τ) ℕ (cfgs p) c) (c : Dev nD) :
    Pipeline.afterTail₀ cfgs dats 0 (V0 m) [hostOps1] c b = m ((c : Thread nD τ).loc b) := by
  unfold Pipeline.afterTail₀
  rw [StableHlo.after_of_forall_not_mem (b := Proc.devRef .tc b) _ _ (by
      intro op hop
      obtain ⟨ops, hops, hop⟩ := List.mem_flatten.mp hop
      simp only [List.mem_cons, List.mem_nil_iff, or_false] at hops
      rcases hops with rfl
      exact (List.forall_iff_forall_mem.mp (hostOps1_keeps hb)) op hop),
    Pipeline.withArrays_of_ne _ c (V0 m c) _ b hw]
  exact V_arg m hb c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every point, whether or not it was fetched there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds the window's block at every point, whether or not it was fetched there. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds the window's block at every point, whether or not it was fetched there. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds the window's block at every point, whether or not it was fetched there. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds the window's block at every point, whether or not it was fetched there. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds the window's block at every point, whether or not it was fetched there. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds the window's block at every point, whether or not it was fetched there. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds the window's block at every point, whether or not it was fetched there. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds the window's block at every point, whether or not it was fetched there. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds the window's block at every point, whether or not it was fetched there. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds the window's block at every point, whether or not it was fetched there. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds the window's block at every point, whether or not it was fetched there. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds the window's block at every point, whether or not it was fetched there. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds the window's block at every point, whether or not it was fetched there. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds the window's block at every point, whether or not it was fetched there. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's staging buffer holds the window's block at every point, whether or not it was fetched there. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's staging buffer holds the window's block at every point, whether or not it was fetched there. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's staging buffer holds the window's block at every point, whether or not it was fetched there. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's staging buffer holds the window's block at every point, whether or not it was fetched there. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1320000 in
/-- If a run leaves the pipeline's arrays as `dats` says and every other array as the later lines leave it, then every
    argument ends as it was launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(((h c).2 main_arg0 (Pipeline.mem_restRefs_of main_arg0 (by decide) (by decide))).trans (W_arg (b := main_arg0) m (by decide) (by exact (by decide : ∀ w, Pipeline.arrRef spec0 w ≠ main_arg0)) dats c)),
      (((h c).2 main_arg1 (Pipeline.mem_restRefs_of main_arg1 (by decide) (by decide))).trans (W_arg (b := main_arg1) m (by decide) (by exact (by decide : ∀ w, Pipeline.arrRef spec0 w ≠ main_arg1)) dats c)),
      ((h c).1 7).trans (((dats 0 c).arrAt_in 7 rfl _).trans ((hA c 7).trans (V_arg (b := main_arg2) m (by decide) c))),
      (((h c).2 main_arg3 (Pipeline.mem_restRefs_of main_arg3 (by decide) (by decide))).trans (W_arg (b := main_arg3) m (by decide) (by exact (by decide : ∀ w, Pipeline.arrRef spec0 w ≠ main_arg3)) dats c)),
      ((h c).1 10).trans (((dats 0 c).arrAt_in 10 rfl _).trans ((hA c 10).trans (V_arg (b := main_arg4) m (by decide) c))),
      (((h c).2 main_arg5 (Pipeline.mem_restRefs_of main_arg5 (by decide) (by decide))).trans (W_arg (b := main_arg5) m (by decide) (by exact (by decide : ∀ w, Pipeline.arrRef spec0 w ≠ main_arg5)) dats c)),
      ((h c).1 11).trans (((dats 0 c).arrAt_in 11 rfl _).trans ((hA c 11).trans (V_arg (b := main_arg6) m (by decide) c))),
      ((h c).1 12).trans (((dats 0 c).arrAt_in 12 rfl _).trans ((hA c 12).trans (V_arg (b := main_arg7) m (by decide) c))),
      (((h c).2 main_arg8 (Pipeline.mem_restRefs_of main_arg8 (by decide) (by decide))).trans (W_arg (b := main_arg8) m (by decide) (by exact (by decide : ∀ w, Pipeline.arrRef spec0 w ≠ main_arg8)) dats c)),
      ((h c).1 14).trans (((dats 0 c).arrAt_in 14 rfl _).trans ((hA c 14).trans (V_arg (b := main_arg9) m (by decide) c))),
      ((h c).1 15).trans (((dats 0 c).arrAt_in 15 rfl _).trans ((hA c 15).trans (V_arg (b := main_arg10) m (by decide) c))),
      ((h c).1 16).trans (((dats 0 c).arrAt_in 16 rfl _).trans ((hA c 16).trans (V_arg (b := main_arg11) m (by decide) c))),
      ((h c).1 17).trans (((dats 0 c).arrAt_in 17 rfl _).trans ((hA c 17).trans (V_arg (b := main_arg12) m (by decide) c))),
      (((h c).2 main_arg13 (Pipeline.mem_restRefs_of main_arg13 (by decide) (by decide))).trans (W_arg (b := main_arg13) m (by decide) (by exact (by decide : ∀ w, Pipeline.arrRef spec0 w ≠ main_arg13)) dats c)),
      (((h c).2 main_arg14 (Pipeline.mem_restRefs_of main_arg14 (by decide) (by decide))).trans (W_arg (b := main_arg14) m (by decide) (by exact (by decide : ∀ w, Pipeline.arrRef spec0 w ≠ main_arg14)) dats c))⟩) h

/-! ## The body's branch conditions -/

/-- The body's branch condition 0, computed from the grid coordinates. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The body's branch condition 1, computed from the grid coordinates. -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle -/

/-- Window 0 is live at every point (an input). -/
theorem liveAt0_0 : ∀ t : Fin cfg0.N, cfg0.idle 0 (grid0.coords t) = false := fun _ => rfl
/-- Window 1 is live at every point (an input). -/
theorem liveAt0_1 : ∀ t : Fin cfg0.N, cfg0.idle 1 (grid0.coords t) = false := fun _ => rfl
/-- Window 2 is live at every point (an input). -/
theorem liveAt0_2 : ∀ t : Fin cfg0.N, cfg0.idle 2 (grid0.coords t) = false := fun _ => rfl
/-- Window 3 is live at every point (an input). -/
theorem liveAt0_3 : ∀ t : Fin cfg0.N, cfg0.idle 3 (grid0.coords t) = false := fun _ => rfl
/-- Window 4 is live at every point (an input). -/
theorem liveAt0_4 : ∀ t : Fin cfg0.N, cfg0.idle 4 (grid0.coords t) = false := fun _ => rfl
/-- Window 5 is live at every point (an input). -/
theorem liveAt0_5 : ∀ t : Fin cfg0.N, cfg0.idle 5 (grid0.coords t) = false := fun _ => rfl
/-- Window 6 is live at every point (an input). -/
theorem liveAt0_6 : ∀ t : Fin cfg0.N, cfg0.idle 6 (grid0.coords t) = false := fun _ => rfl
/-- Window 7 is live at every point (an input). -/
theorem liveAt0_7 : ∀ t : Fin cfg0.N, cfg0.idle 7 (grid0.coords t) = false := fun _ => rfl
/-- Window 8 is live at every point (an input). -/
theorem liveAt0_8 : ∀ t : Fin cfg0.N, cfg0.idle 8 (grid0.coords t) = false := fun _ => rfl
/-- Window 9 is live at every point (an input). -/
theorem liveAt0_9 : ∀ t : Fin cfg0.N, cfg0.idle 9 (grid0.coords t) = false := fun _ => rfl
/-- Window 10 is live at every point (an input). -/
theorem liveAt0_10 : ∀ t : Fin cfg0.N, cfg0.idle 10 (grid0.coords t) = false := fun _ => rfl
/-- Window 11 is live at every point (an input). -/
theorem liveAt0_11 : ∀ t : Fin cfg0.N, cfg0.idle 11 (grid0.coords t) = false := fun _ => rfl
/-- Window 12 is live at every point (an input). -/
theorem liveAt0_12 : ∀ t : Fin cfg0.N, cfg0.idle 12 (grid0.coords t) = false := fun _ => rfl
/-- Window 13 is live at every point (an input). -/
theorem liveAt0_13 : ∀ t : Fin cfg0.N, cfg0.idle 13 (grid0.coords t) = false := fun _ => rfl
/-- Window 14 is live at every point (an input). -/
theorem liveAt0_14 : ∀ t : Fin cfg0.N, cfg0.idle 14 (grid0.coords t) = false := fun _ => rfl
/-- Window 15 is live at every point (an input). -/
theorem liveAt0_15 : ∀ t : Fin cfg0.N, cfg0.idle 15 (grid0.coords t) = false := fun _ => rfl
/-- Window 16 is live at every point (an input). -/
theorem liveAt0_16 : ∀ t : Fin cfg0.N, cfg0.idle 16 (grid0.coords t) = false := fun _ => rfl
/-- Window 17 is live at every point (an input). -/
theorem liveAt0_17 : ∀ t : Fin cfg0.N, cfg0.idle 17 (grid0.coords t) = false := fun _ => rfl
/-- Window 18 is live at every point (an input). -/
theorem liveAt0_18 : ∀ t : Fin cfg0.N, cfg0.idle 18 (grid0.coords t) = false := fun _ => rfl
/-- Window 19 is live at every point (an output stored at every point, under no condition). -/
theorem liveAt0_19 : ∀ t : Fin cfg0.N, cfg0.idle 19 (grid0.coords t) = false := fun _ => rfl
/-- Window 21 is live at every point (an output stored at every point, under no condition). -/
theorem liveAt0_21 : ∀ t : Fin cfg0.N, cfg0.idle 21 (grid0.coords t) = false := fun _ => rfl
/-- In case A nothing is stored into output 20. -/
theorem idleAt0_20_A : ∀ t : Fin cfg0.N, cond0_0 (grid0.coords t) → ¬cond0_1 (grid0.coords t) → cfg0.idle 20 (grid0.coords t) = true := by decide +kernel
/-- At the points of case A the pipeline does not write output 20's block back. -/
theorem noFlush0_20_A : ∀ t : Fin cfg0.N, cond0_0 (grid0.coords t) → ¬cond0_1 (grid0.coords t) → (cfg0.win 20).flush t = false := by decide +kernel
/-- In case B nothing is stored into output 20. -/
theorem idleAt0_20_B : ∀ t : Fin cfg0.N, ¬cond0_0 (grid0.coords t) → ¬cond0_1 (grid0.coords t) → cfg0.idle 20 (grid0.coords t) = true := by decide +kernel
/-- At the points of case B the pipeline does not write output 20's block back. -/
theorem noFlush0_20_B : ∀ t : Fin cfg0.N, ¬cond0_0 (grid0.coords t) → ¬cond0_1 (grid0.coords t) → (cfg0.win 20).flush t = false := by decide +kernel
/-- In case C output 20 is stored into. -/
theorem liveAt0_20_C : ∀ t : Fin cfg0.N, ¬cond0_0 (grid0.coords t) → cond0_1 (grid0.coords t) → cfg0.idle 20 (grid0.coords t) = false := by decide +kernel

/-! ## The kernel body on any staging memrefs: a subtype the run finds -/

/-- One staging buffer of output window 19, through which its contents are stated; either buffer would do. -/
abbrev VO0_19 : View sig .tc .vmem S512x1536 .bf16 := (Memref.whole cc0_stg19_0 : Memref sig .tc .vmem S512x1536 .bf16).view
/-- One staging buffer of output window 20, through which its contents are stated; either buffer would do. -/
abbrev VO0_20 : View sig .tc .vmem S272x512 .f32 := (Memref.whole cc0_stg20_0 : Memref sig .tc .vmem S272x512 .f32).view
/-- One staging buffer of output window 21, through which its contents are stated; either buffer would do. -/
abbrev VO0_21 : View sig .tc .vmem S1024x1024 .f32 := (Memref.whole cc0_stg21_0 : Memref sig .tc .vmem S1024x1024 .f32).view
/-- Each window's current staging memref at point `t`, spelled as the pipeline passes it (`bodyAt0`), and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x64x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x64x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S4x128x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x512 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x512 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x512 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1024x1024 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S512x1536 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S272x512 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1024x1024 .f32 := win0_21.stage (cfg0.slots t 21)
abbrev hs0_21 (t : Fin cfg0.N) : (ms0_21 t).IsWhole := hstage0_21 ((cfg0.slots t 21).cast nbuf0_21)
/-- The scratch operands: whole scoped buffers of the kernel's own, passed beside the windows. -/
abbrev scM0_0 : Memref sig .tc .vmem S2x256x512 .bf16 := Memref.whole cc0_scratch0
abbrev scM0_1 : Memref sig .tc .vmem S512x512 .f32 := Memref.whole cc0_scratch1
abbrev scM0_2 : Memref sig .tc .vmem S512x512 .f32 := Memref.whole cc0_scratch2
abbrev scM0_3 : Memref sig .tc .vmem S512x512 .f32 := Memref.whole cc0_scratch3
abbrev scM0_4 : Memref sig .tc .vmem S8x512 .f32 := Memref.whole cc0_scratch4
abbrev scM0_5 : Memref sig .tc .vmem S8x512 .f32 := Memref.whole cc0_scratch5
abbrev scM0_6 : Memref sig .tc .vmem S16x512 .f32 := Memref.whole cc0_scratch6
abbrev scM0_7 : Memref sig .tc .vmem S128x512 .f32 := Memref.whole cc0_scratch7
abbrev scM0_8 : Memref sig .tc .vmem S32x512 .f32 := Memref.whole cc0_scratch8
abbrev scM0_9 : Memref sig .tc .vmem S2x256x512 .f32 := Memref.whole cc0_scratch9
abbrev scM0_10 : Memref sig .tc .vmem S128x512 .f32 := Memref.whole cc0_scratch10
/-- The scratch `arg23` the kernel carries between points, as a view: what it holds is stated through it. -/
abbrev VS0_0 : View sig .tc .vmem S2x256x512 .bf16 := scM0_0.view
/-- The scratch `arg27` the kernel carries between points, as a view: what it holds is stated through it. -/
abbrev VS0_4 : View sig .tc .vmem S8x512 .f32 := scM0_4.view
/-- The scratch `arg28` the kernel carries between points, as a view: what it holds is stated through it. -/
abbrev VS0_5 : View sig .tc .vmem S8x512 .f32 := scM0_5.view
/-- The scratch `arg29` the kernel carries between points, as a view: what it holds is stated through it. -/
abbrev VS0_6 : View sig .tc .vmem S16x512 .f32 := scM0_6.view
/-- The scratch `arg30` the kernel carries between points, as a view: what it holds is stated through it. -/
abbrev VS0_7 : View sig .tc .vmem S128x512 .f32 := scM0_7.view
/-- The scratch `arg31` the kernel carries between points, as a view: what it holds is stated through it. -/
abbrev VS0_8 : View sig .tc .vmem S32x512 .f32 := scM0_8.view
/-- The scratch `arg32` the kernel carries between points, as a view: what it holds is stated through it. -/
abbrev VS0_9 : View sig .tc .vmem S2x256x512 .f32 := scM0_9.view
/-- The scratch `arg33` the kernel carries between points, as a view: what it holds is stated through it. -/
abbrev VS0_10 : View sig .tc .vmem S128x512 .f32 := scM0_10.view

/-- The kernel's own scratch buffers, each owned at some contents: what the body is given and gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, owns_whole]; try rfl

end Cert.Kernel5Ideal.Gen

end
-- ==== Proof.Mixer.RunA.lean ====
module

public import proofs.«01_k».proof.Proof.Mixer.Runs

@[expose] public section

-- The windows' axes are long, and membership in a rectangle is looked at coordinate by coordinate.
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof is large)
set_option backward.proofsInPublic true in
set_option maxHeartbeats 40000000 in
/-- The body's run in case A: from the inputs at their contents, the carried scratch at what the point before left and
    every other buffer at anything, the body ends with the inputs unchanged and the listed pieces, last store first, written
    into each output and each scratch it stores into. -/
noncomputable def kernelRun0_A (c : Dev nD) (i : grid0.Coords) (arg1 : Memref sig .tc .vmem S512x512 .f32) (harg1 : arg1.IsWhole) (arg2 : Memref sig .tc .vmem S4x512x512 .f32) (harg2 : arg2.IsWhole) (arg3 : Memref sig .tc .vmem S4x512x512 .bf16) (harg3 : arg3.IsWhole) (arg4 : Memref sig .tc .vmem S512x512 .f32) (harg4 : arg4.IsWhole) (arg5 : Memref sig .tc .vmem S8x512 .f32) (harg5 : arg5.IsWhole) (arg6 : Memref sig .tc .vmem S512x1024 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S8x64x64 .f32) (harg9 : arg9.IsWhole) (arg10 : Memref sig .tc .vmem S8x64x64 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S4x128x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .bf16) (harg19 : arg19.IsWhole) (arg20 : Memref sig .tc .vmem S512x1536 .bf16) (harg20 : arg20.IsWhole) (arg21 : Memref sig .tc .vmem S272x512 .f32) (harg21 : arg21.IsWhole) (arg22 : Memref sig .tc .vmem S1024x1024 .f32) (harg22 : arg22.IsWhole) (arg23 : Memref sig .tc .vmem S2x256x512 .bf16) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S8x512 .f32) (harg27 : arg27.IsWhole) (arg28 : Memref sig .tc .vmem S8x512 .f32) (harg28 : arg28.IsWhole) (arg29 : Memref sig .tc .vmem S16x512 .f32) (harg29 : arg29.IsWhole) (arg30 : Memref sig .tc .vmem S128x512 .f32) (harg30 : arg30.IsWhole) (arg31 : Memref sig .tc .vmem S32x512 .f32) (harg31 : arg31.IsWhole) (arg32 : Memref sig .tc .vmem S2x256x512 .f32) (harg32 : arg32.IsWhole) (arg33 : Memref sig .tc .vmem S128x512 .f32) (harg33 : arg33.IsWhole) (hc0 : cond0_0 i) (hc1 : ¬cond0_1 i)
    (x0 : Vec F S512x512 .f32) (x1 : Vec F S4x512x512 .f32) (x2 : Vec F S4x512x512 .bf16) (x3 : Vec F S512x512 .f32) (x4 : Vec F S8x512 .f32) (x5 : Vec F S512x1024 .f32) (x6 : Vec F S4x512 .f32) (x7 : Vec F S1x512 .f32) (x8 : Vec F S8x64x64 .f32) (x9 : Vec F S8x64x64 .f32) (x10 : Vec F S1x512 .f32) (x11 : Vec F S1x512 .f32) (x12 : Vec F S1x512 .f32) (x13 : Vec F S4x128x128 .f32) (x14 : Vec F S1x512 .f32) (x15 : Vec F S1x512 .f32) (x16 : Vec F S1x512 .f32) (x17 : Vec F S1x512 .f32) (x18 : Vec F S1024x1024 .bf16) :
    Σ' (L19 : List (View.Piece (Elt F) S512x1536 .bf16)), Σ' (L20 : List (View.Piece (Elt F) S272x512 .f32)), Σ' (L21 : List (View.Piece (Elt F) S1024x1024 .f32)), Σ' (LS0 : List (View.Piece (Elt F) S2x256x512 .bf16)), Σ' (LS4 : List (View.Piece (Elt F) S8x512 .f32)), Σ' (LS5 : List (View.Piece (Elt F) S8x512 .f32)), Σ' (LS6 : List (View.Piece (Elt F) S16x512 .f32)), Σ' (LS7 : List (View.Piece (Elt F) S128x512 .f32)), Σ' (LS8 : List (View.Piece (Elt F) S32x512 .f32)), Σ' (LS9 : List (View.Piece (Elt F) S2x256x512 .f32)), { LS10 : List (View.Piece (Elt F) S128x512 .f32) //
      ∀ (xi20 : Vec F S272x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ owns (c : Thread nD τ) arg21 fullShare xi20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ owns (c : Thread nD τ) arg21 fullShare xi20 ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f LS0) ∗ (∃ d, owns (c : Thread nD τ) arg24 fullShare d) ∗ (∃ d, owns (c : Thread nD τ) arg25 fullShare d) ∗ (∃ d, owns (c : Thread nD τ) arg26 fullShare d) ∗ (∃ f, arg27.view.loc (c : Thread nD τ) ↦[arg27.view.set]{fullShare} arg27.view.writes (Elt F) f LS4) ∗ (∃ f, arg28.view.loc (c : Thread nD τ) ↦[arg28.view.set]{fullShare} arg28.view.writes (Elt F) f LS5) ∗ (∃ f, arg29.view.loc (c : Thread nD τ) ↦[arg29.view.set]{fullShare} arg29.view.writes (Elt F) f LS6) ∗ (∃ f, arg30.view.loc (c : Thread nD τ) ↦[arg30.view.set]{fullShare} arg30.view.writes (Elt F) f LS7) ∗ (∃ f, arg31.view.loc (c : Thread nD τ) ↦[arg31.view.set]{fullShare} arg31.view.writes (Elt F) f LS8) ∗ (∃ f, arg32.view.loc (c : Thread nD τ) ↦[arg32.view.set]{fullShare} arg32.view.writes (Elt F) f LS9) ∗ (∃ f, arg33.view.loc (c : Thread nD τ) ↦[arg33.view.set]{fullShare} arg33.view.writes (Elt F) f LS10)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K } := by
  refine ⟨?_, [], ?_, ?_, ?_, ?_, ?_, ?_, ?_, ?_, ?_, fun xi20 E K => ?run⟩
  case run =>
    simp only [cc0_mixer_bwd_eq_skeleton]; unfold cc0_mixer_bwd_skel
    simp only [k0_part11_eq_skeleton, k0_part1_eq_skeleton, k0_part2_eq_skeleton, k0_part3_eq_skeleton, k0_part4_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%f20, %hf20, H20⟩, ⟨%d21, %f21, -, H21⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg21.eq_unread hf20
    have hrd0 : ∀ (𝒱 : Variants) (c : Dev nD) (bd : Option 𝒱.V) (i : grid0.Coords) (arg1 : Memref sig .tc .vmem S512x512 .f32) (harg1 : arg1.IsWhole) (arg2 : Memref sig .tc .vmem S4x512x512 .f32) (harg2 : arg2.IsWhole) (arg3 : Memref sig .tc .vmem S4x512x512 .bf16) (harg3 : arg3.IsWhole) (arg4 : Memref sig .tc .vmem S512x512 .f32) (harg4 : arg4.IsWhole) (arg5 : Memref sig .tc .vmem S8x512 .f32) (harg5 : arg5.IsWhole) (arg6 : Memref sig .tc .vmem S512x1024 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S8x64x64 .f32) (harg9 : arg9.IsWhole) (arg10 : Memref sig .tc .vmem S8x64x64 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S4x128x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .bf16) (harg19 : arg19.IsWhole) (arg20 : Memref sig .tc .vmem S512x1536 .bf16) (harg20 : arg20.IsWhole) (arg21 : Memref sig .tc .vmem S272x512 .f32) (harg21 : arg21.IsWhole) (arg22 : Memref sig .tc .vmem S1024x1024 .f32) (harg22 : arg22.IsWhole) (arg23 : Memref sig .tc .vmem S2x256x512 .bf16) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S8x512 .f32) (harg27 : arg27.IsWhole) (arg28 : Memref sig .tc .vmem S8x512 .f32) (harg28 : arg28.IsWhole) (arg29 : Memref sig .tc .vmem S16x512 .f32) (harg29 : arg29.IsWhole) (arg30 : Memref sig .tc .vmem S128x512 .f32) (harg30 : arg30.IsWhole) (arg31 : Memref sig .tc .vmem S32x512 .f32) (harg31 : arg31.IsWhole) (arg32 : Memref sig .tc .vmem S2x256x512 .f32) (harg32 : arg32.IsWhole) (arg33 : Memref sig .tc .vmem S128x512 .f32) (harg33 : arg33.IsWhole) (v326 : FVec F S64x8x512 .f32) (v328 : IVec S64x8x512 32) (v332 : IVec S64x8x512 1) (v335 : FVec F S64x8x512 .f32) (v336 : FVec F S64x8x512 .f32) (X_arg24 : BufTy.Contents (Elt F) arg24.view.ty) (X_arg25 : BufTy.Contents (Elt F) arg25.view.ty) (init : Vec F S8x512 .f32) (hrdF : BufTy.Contents (Elt F) arg26.view.ty) (hrdB : LoadRect S512x512), arg26.view.readAt (Elt F) hrdB (arg26.view.writes (Elt F) hrdF (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v326 v328 v332 v335 v336 X_arg24 X_arg25 init (Scf.trips k0_t1_loop.lb k0_t1_loop.ub k0_t1_loop.st)).2) = arg26.view.readCov (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v326 v328 v332 v335 v336 X_arg24 X_arg25 init (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v326 v328 v332 v335 v336 X_arg24 X_arg25 init hrdF hrdB => View.readAt_writes_of_cover _ hrdF _ hrdB (fun hrdJ => View.cover_of_tiledL (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v326 v328 v332 v335 v336 X_arg24 X_arg25 init (Scf.trips k0_t1_loop.lb k0_t1_loop.ub k0_t1_loop.st)).2 S8x512.size (by sl_kernel_rfl) (hrdB.idx hrdJ))
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]
    · iexists _; isplitr; · ipureintro; exact harg21.read_unread _
      iexact H20
    isplitl [H21]; · iexists _; iexact H21
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    iexists _; iexact HS10

end Cert.Kernel5Ideal.Gen

end
-- ==== Proof.Mixer.RunB.lean ====
module

public import proofs.«01_k».proof.Proof.Mixer.Runs

@[expose] public section

-- The windows' axes are long, and membership in a rectangle is looked at coordinate by coordinate.
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof is large)
set_option backward.proofsInPublic true in
set_option maxHeartbeats 40000000 in
/-- The body's run in case B: from the inputs at their contents, the carried scratch at what the point before left and
    every other buffer at anything, the body ends with the inputs unchanged and the listed pieces, last store first, written
    into each output and each scratch it stores into. -/
noncomputable def kernelRun0_B (c : Dev nD) (i : grid0.Coords) (arg1 : Memref sig .tc .vmem S512x512 .f32) (harg1 : arg1.IsWhole) (arg2 : Memref sig .tc .vmem S4x512x512 .f32) (harg2 : arg2.IsWhole) (arg3 : Memref sig .tc .vmem S4x512x512 .bf16) (harg3 : arg3.IsWhole) (arg4 : Memref sig .tc .vmem S512x512 .f32) (harg4 : arg4.IsWhole) (arg5 : Memref sig .tc .vmem S8x512 .f32) (harg5 : arg5.IsWhole) (arg6 : Memref sig .tc .vmem S512x1024 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S8x64x64 .f32) (harg9 : arg9.IsWhole) (arg10 : Memref sig .tc .vmem S8x64x64 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S4x128x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .bf16) (harg19 : arg19.IsWhole) (arg20 : Memref sig .tc .vmem S512x1536 .bf16) (harg20 : arg20.IsWhole) (arg21 : Memref sig .tc .vmem S272x512 .f32) (harg21 : arg21.IsWhole) (arg22 : Memref sig .tc .vmem S1024x1024 .f32) (harg22 : arg22.IsWhole) (arg23 : Memref sig .tc .vmem S2x256x512 .bf16) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S8x512 .f32) (harg27 : arg27.IsWhole) (arg28 : Memref sig .tc .vmem S8x512 .f32) (harg28 : arg28.IsWhole) (arg29 : Memref sig .tc .vmem S16x512 .f32) (harg29 : arg29.IsWhole) (arg30 : Memref sig .tc .vmem S128x512 .f32) (harg30 : arg30.IsWhole) (arg31 : Memref sig .tc .vmem S32x512 .f32) (harg31 : arg31.IsWhole) (arg32 : Memref sig .tc .vmem S2x256x512 .f32) (harg32 : arg32.IsWhole) (arg33 : Memref sig .tc .vmem S128x512 .f32) (harg33 : arg33.IsWhole) (hc0 : ¬cond0_0 i) (hc1 : ¬cond0_1 i)
    (x0 : Vec F S512x512 .f32) (x1 : Vec F S4x512x512 .f32) (x2 : Vec F S4x512x512 .bf16) (x3 : Vec F S512x512 .f32) (x4 : Vec F S8x512 .f32) (x5 : Vec F S512x1024 .f32) (x6 : Vec F S4x512 .f32) (x7 : Vec F S1x512 .f32) (x8 : Vec F S8x64x64 .f32) (x9 : Vec F S8x64x64 .f32) (x10 : Vec F S1x512 .f32) (x11 : Vec F S1x512 .f32) (x12 : Vec F S1x512 .f32) (x13 : Vec F S4x128x128 .f32) (x14 : Vec F S1x512 .f32) (x15 : Vec F S1x512 .f32) (x16 : Vec F S1x512 .f32) (x17 : Vec F S1x512 .f32) (x18 : Vec F S1024x1024 .bf16) (xo21 : Vec F S1024x1024 .f32) (xs0 : Vec F S2x256x512 .bf16) (xs4 : Vec F S8x512 .f32) (xs5 : Vec F S8x512 .f32) (xs6 : Vec F S16x512 .f32) (xs7 : Vec F S128x512 .f32) (xs8 : Vec F S32x512 .f32) (xs9 : Vec F S2x256x512 .f32) (xs10 : Vec F S128x512 .f32) :
    Σ' (L19 : List (View.Piece (Elt F) S512x1536 .bf16)), Σ' (L20 : List (View.Piece (Elt F) S272x512 .f32)), Σ' (L21 : List (View.Piece (Elt F) S1024x1024 .f32)), Σ' (LS0 : List (View.Piece (Elt F) S2x256x512 .bf16)), Σ' (LS4 : List (View.Piece (Elt F) S8x512 .f32)), Σ' (LS5 : List (View.Piece (Elt F) S8x512 .f32)), Σ' (LS6 : List (View.Piece (Elt F) S16x512 .f32)), Σ' (LS7 : List (View.Piece (Elt F) S128x512 .f32)), Σ' (LS8 : List (View.Piece (Elt F) S32x512 .f32)), Σ' (LS9 : List (View.Piece (Elt F) S2x256x512 .f32)), { LS10 : List (View.Piece (Elt F) S128x512 .f32) //
      ∀ (xi20 : Vec F S272x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ owns (c : Thread nD τ) arg21 fullShare xi20 ∗ owns (c : Thread nD τ) arg22 fullShare xo21 ∗ owns (c : Thread nD τ) arg23 fullShare xs0 ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xs4 ∗ owns (c : Thread nD τ) arg28 fullShare xs5 ∗ owns (c : Thread nD τ) arg29 fullShare xs6 ∗ owns (c : Thread nD τ) arg30 fullShare xs7 ∗ owns (c : Thread nD τ) arg31 fullShare xs8 ∗ owns (c : Thread nD τ) arg32 fullShare xs9 ∗ owns (c : Thread nD τ) arg33 fullShare xs10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ owns (c : Thread nD τ) arg21 fullShare xi20 ∗ (∃ f, arg22.view.loc (c : Thread nD τ) ↦[arg22.view.set]{fullShare} arg22.view.writes (Elt F) f L21) ∗ owns (c : Thread nD τ) arg23 fullShare xs0 ∗ (∃ d, owns (c : Thread nD τ) arg24 fullShare d) ∗ (∃ d, owns (c : Thread nD τ) arg25 fullShare d) ∗ (∃ d, owns (c : Thread nD τ) arg26 fullShare d) ∗ (∃ f, arg27.view.loc (c : Thread nD τ) ↦[arg27.view.set]{fullShare} arg27.view.writes (Elt F) f LS4) ∗ (∃ f, arg28.view.loc (c : Thread nD τ) ↦[arg28.view.set]{fullShare} arg28.view.writes (Elt F) f LS5) ∗ (∃ f, arg29.view.loc (c : Thread nD τ) ↦[arg29.view.set]{fullShare} arg29.view.writes (Elt F) f LS6) ∗ (arg30.view.loc (c : Thread nD τ) ↦[arg30.view.set]{fullShare} arg30.view.writes (Elt F) (harg30.unread xs7) LS7) ∗ (∃ f, arg31.view.loc (c : Thread nD τ) ↦[arg31.view.set]{fullShare} arg31.view.writes (Elt F) f LS8) ∗ (∃ f, arg32.view.loc (c : Thread nD τ) ↦[arg32.view.set]{fullShare} arg32.view.writes (Elt F) f LS9) ∗ (∃ f, arg33.view.loc (c : Thread nD τ) ↦[arg33.view.set]{fullShare} arg33.view.writes (Elt F) f LS10)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K } := by
  refine ⟨?_, [], ?_, [], ?_, ?_, ?_, ?_, ?_, ?_, ?_, fun xi20 E K => ?run⟩
  case run =>
    simp only [cc0_mixer_bwd_eq_skeleton]; unfold cc0_mixer_bwd_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%f20, %hf20, H20⟩, ⟨%f21, %hf21, H21⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, ⟨%fs10, %hfs10, HS10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg21.eq_unread hf20; obtain rfl := harg22.eq_unread hf21; obtain rfl := harg23.eq_unread hfs0; obtain rfl := harg27.eq_unread hfs4; obtain rfl := harg28.eq_unread hfs5; obtain rfl := harg29.eq_unread hfs6; obtain rfl := harg30.eq_unread hfs7; obtain rfl := harg31.eq_unread hfs8; obtain rfl := harg32.eq_unread hfs9; obtain rfl := harg33.eq_unread hfs10
    have hrd0 : ∀ (𝒱 : Variants) (c : Dev nD) (bd : Option 𝒱.V) (i : grid0.Coords) (arg1 : Memref sig .tc .vmem S512x512 .f32) (harg1 : arg1.IsWhole) (arg2 : Memref sig .tc .vmem S4x512x512 .f32) (harg2 : arg2.IsWhole) (arg3 : Memref sig .tc .vmem S4x512x512 .bf16) (harg3 : arg3.IsWhole) (arg4 : Memref sig .tc .vmem S512x512 .f32) (harg4 : arg4.IsWhole) (arg5 : Memref sig .tc .vmem S8x512 .f32) (harg5 : arg5.IsWhole) (arg6 : Memref sig .tc .vmem S512x1024 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S8x64x64 .f32) (harg9 : arg9.IsWhole) (arg10 : Memref sig .tc .vmem S8x64x64 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S4x128x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .bf16) (harg19 : arg19.IsWhole) (arg20 : Memref sig .tc .vmem S512x1536 .bf16) (harg20 : arg20.IsWhole) (arg21 : Memref sig .tc .vmem S272x512 .f32) (harg21 : arg21.IsWhole) (arg22 : Memref sig .tc .vmem S1024x1024 .f32) (harg22 : arg22.IsWhole) (arg23 : Memref sig .tc .vmem S2x256x512 .bf16) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S8x512 .f32) (harg27 : arg27.IsWhole) (arg28 : Memref sig .tc .vmem S8x512 .f32) (harg28 : arg28.IsWhole) (arg29 : Memref sig .tc .vmem S16x512 .f32) (harg29 : arg29.IsWhole) (arg30 : Memref sig .tc .vmem S128x512 .f32) (harg30 : arg30.IsWhole) (arg31 : Memref sig .tc .vmem S32x512 .f32) (harg31 : arg31.IsWhole) (arg32 : Memref sig .tc .vmem S2x256x512 .f32) (harg32 : arg32.IsWhole) (arg33 : Memref sig .tc .vmem S128x512 .f32) (harg33 : arg33.IsWhole) (v326 : FVec F S64x8x512 .f32) (v328 : IVec S64x8x512 32) (v332 : IVec S64x8x512 1) (v335 : FVec F S64x8x512 .f32) (v336 : FVec F S64x8x512 .f32) (X_arg24 : BufTy.Contents (Elt F) arg24.view.ty) (X_arg25 : BufTy.Contents (Elt F) arg25.view.ty) (init : Vec F S8x512 .f32) (hrdF : BufTy.Contents (Elt F) arg26.view.ty) (hrdB : LoadRect S512x512), arg26.view.readAt (Elt F) hrdB (arg26.view.writes (Elt F) hrdF (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v326 v328 v332 v335 v336 X_arg24 X_arg25 init (Scf.trips k0_t1_loop.lb k0_t1_loop.ub k0_t1_loop.st)).2) = arg26.view.readCov (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v326 v328 v332 v335 v336 X_arg24 X_arg25 init (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v326 v328 v332 v335 v336 X_arg24 X_arg25 init hrdF hrdB => View.readAt_writes_of_cover _ hrdF _ hrdB (fun hrdJ => View.cover_of_tiledL (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v326 v328 v332 v335 v336 X_arg24 X_arg25 init (Scf.trips k0_t1_loop.lb k0_t1_loop.ub k0_t1_loop.st)).2 S8x512.size (by sl_kernel_rfl) (hrdB.idx hrdJ))
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]
    · iexists _; isplitr; · ipureintro; exact harg21.read_unread _
      iexact H20
    isplitl [H21]; · iexists _; iexact H21
    isplitl [HS0]
    · iexists _; isplitr; · ipureintro; exact harg23.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]; · iexists _; iexact HS4
    isplitl [HS5]; · iexists _; iexact HS5
    isplitl [HS6]; · iexists _; iexact HS6
    isplitl [HS7]; · iexact HS7
    isplitl [HS8]; · iexists _; iexact HS8
    isplitl [HS9]; · iexists _; iexact HS9
    iexists _; iexact HS10

end Cert.Kernel5Ideal.Gen

end
-- ==== Proof.Mixer.RunC.lean ====
module

public import proofs.«01_k».proof.Proof.Mixer.Runs

@[expose] public section

-- The windows' axes are long, and membership in a rectangle is looked at coordinate by coordinate.
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof is large)
set_option backward.proofsInPublic true in
set_option maxHeartbeats 40000000 in
/-- The body's run in case C: from the inputs at their contents, the carried scratch at what the point before left and
    every other buffer at anything, the body ends with the inputs unchanged and the listed pieces, last store first, written
    into each output and each scratch it stores into. -/
noncomputable def kernelRun0_C (c : Dev nD) (i : grid0.Coords) (arg1 : Memref sig .tc .vmem S512x512 .f32) (harg1 : arg1.IsWhole) (arg2 : Memref sig .tc .vmem S4x512x512 .f32) (harg2 : arg2.IsWhole) (arg3 : Memref sig .tc .vmem S4x512x512 .bf16) (harg3 : arg3.IsWhole) (arg4 : Memref sig .tc .vmem S512x512 .f32) (harg4 : arg4.IsWhole) (arg5 : Memref sig .tc .vmem S8x512 .f32) (harg5 : arg5.IsWhole) (arg6 : Memref sig .tc .vmem S512x1024 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S8x64x64 .f32) (harg9 : arg9.IsWhole) (arg10 : Memref sig .tc .vmem S8x64x64 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S4x128x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .bf16) (harg19 : arg19.IsWhole) (arg20 : Memref sig .tc .vmem S512x1536 .bf16) (harg20 : arg20.IsWhole) (arg21 : Memref sig .tc .vmem S272x512 .f32) (harg21 : arg21.IsWhole) (arg22 : Memref sig .tc .vmem S1024x1024 .f32) (harg22 : arg22.IsWhole) (arg23 : Memref sig .tc .vmem S2x256x512 .bf16) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S8x512 .f32) (harg27 : arg27.IsWhole) (arg28 : Memref sig .tc .vmem S8x512 .f32) (harg28 : arg28.IsWhole) (arg29 : Memref sig .tc .vmem S16x512 .f32) (harg29 : arg29.IsWhole) (arg30 : Memref sig .tc .vmem S128x512 .f32) (harg30 : arg30.IsWhole) (arg31 : Memref sig .tc .vmem S32x512 .f32) (harg31 : arg31.IsWhole) (arg32 : Memref sig .tc .vmem S2x256x512 .f32) (harg32 : arg32.IsWhole) (arg33 : Memref sig .tc .vmem S128x512 .f32) (harg33 : arg33.IsWhole) (hc0 : ¬cond0_0 i) (hc1 : cond0_1 i)
    (x0 : Vec F S512x512 .f32) (x1 : Vec F S4x512x512 .f32) (x2 : Vec F S4x512x512 .bf16) (x3 : Vec F S512x512 .f32) (x4 : Vec F S8x512 .f32) (x5 : Vec F S512x1024 .f32) (x6 : Vec F S4x512 .f32) (x7 : Vec F S1x512 .f32) (x8 : Vec F S8x64x64 .f32) (x9 : Vec F S8x64x64 .f32) (x10 : Vec F S1x512 .f32) (x11 : Vec F S1x512 .f32) (x12 : Vec F S1x512 .f32) (x13 : Vec F S4x128x128 .f32) (x14 : Vec F S1x512 .f32) (x15 : Vec F S1x512 .f32) (x16 : Vec F S1x512 .f32) (x17 : Vec F S1x512 .f32) (x18 : Vec F S1024x1024 .bf16) (xo21 : Vec F S1024x1024 .f32) (xs0 : Vec F S2x256x512 .bf16) (xs4 : Vec F S8x512 .f32) (xs5 : Vec F S8x512 .f32) (xs6 : Vec F S16x512 .f32) (xs7 : Vec F S128x512 .f32) (xs8 : Vec F S32x512 .f32) (xs9 : Vec F S2x256x512 .f32) (xs10 : Vec F S128x512 .f32) :
    Σ' (L19 : List (View.Piece (Elt F) S512x1536 .bf16)), Σ' (L20 : List (View.Piece (Elt F) S272x512 .f32)), Σ' (L21 : List (View.Piece (Elt F) S1024x1024 .f32)), Σ' (LS0 : List (View.Piece (Elt F) S2x256x512 .bf16)), Σ' (LS4 : List (View.Piece (Elt F) S8x512 .f32)), Σ' (LS5 : List (View.Piece (Elt F) S8x512 .f32)), Σ' (LS6 : List (View.Piece (Elt F) S16x512 .f32)), Σ' (LS7 : List (View.Piece (Elt F) S128x512 .f32)), Σ' (LS8 : List (View.Piece (Elt F) S32x512 .f32)), Σ' (LS9 : List (View.Piece (Elt F) S2x256x512 .f32)), { LS10 : List (View.Piece (Elt F) S128x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ owns (c : Thread nD τ) arg22 fullShare xo21 ∗ owns (c : Thread nD τ) arg23 fullShare xs0 ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xs4 ∗ owns (c : Thread nD τ) arg28 fullShare xs5 ∗ owns (c : Thread nD τ) arg29 fullShare xs6 ∗ owns (c : Thread nD τ) arg30 fullShare xs7 ∗ owns (c : Thread nD τ) arg31 fullShare xs8 ∗ owns (c : Thread nD τ) arg32 fullShare xs9 ∗ owns (c : Thread nD τ) arg33 fullShare xs10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ owns (c : Thread nD τ) arg23 fullShare xs0 ∗ (∃ d, owns (c : Thread nD τ) arg24 fullShare d) ∗ (∃ d, owns (c : Thread nD τ) arg25 fullShare d) ∗ (∃ d, owns (c : Thread nD τ) arg26 fullShare d) ∗ (∃ f, arg27.view.loc (c : Thread nD τ) ↦[arg27.view.set]{fullShare} arg27.view.writes (Elt F) f LS4) ∗ (∃ f, arg28.view.loc (c : Thread nD τ) ↦[arg28.view.set]{fullShare} arg28.view.writes (Elt F) f LS5) ∗ (∃ f, arg29.view.loc (c : Thread nD τ) ↦[arg29.view.set]{fullShare} arg29.view.writes (Elt F) f LS6) ∗ (arg30.view.loc (c : Thread nD τ) ↦[arg30.view.set]{fullShare} arg30.view.writes (Elt F) (harg30.unread xs7) LS7) ∗ (∃ f, arg31.view.loc (c : Thread nD τ) ↦[arg31.view.set]{fullShare} arg31.view.writes (Elt F) f LS8) ∗ (∃ f, arg32.view.loc (c : Thread nD τ) ↦[arg32.view.set]{fullShare} arg32.view.writes (Elt F) f LS9) ∗ (∃ f, arg33.view.loc (c : Thread nD τ) ↦[arg33.view.set]{fullShare} arg33.view.writes (Elt F) f LS10)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K } := by
  refine ⟨?_, ?_, ?_, [], ?_, ?_, ?_, ?_, ?_, ?_, ?_, fun E K => ?run⟩
  case run =>
    simp only [cc0_mixer_bwd_eq_skeleton]; unfold cc0_mixer_bwd_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%f21, %hf21, H21⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, ⟨%fs10, %hfs10, HS10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg22.eq_unread hf21; obtain rfl := harg23.eq_unread hfs0; obtain rfl := harg27.eq_unread hfs4; obtain rfl := harg28.eq_unread hfs5; obtain rfl := harg29.eq_unread hfs6; obtain rfl := harg30.eq_unread hfs7; obtain rfl := harg31.eq_unread hfs8; obtain rfl := harg32.eq_unread hfs9; obtain rfl := harg33.eq_unread hfs10
    have hrd0 : ∀ (𝒱 : Variants) (c : Dev nD) (bd : Option 𝒱.V) (i : grid0.Coords) (arg1 : Memref sig .tc .vmem S512x512 .f32) (harg1 : arg1.IsWhole) (arg2 : Memref sig .tc .vmem S4x512x512 .f32) (harg2 : arg2.IsWhole) (arg3 : Memref sig .tc .vmem S4x512x512 .bf16) (harg3 : arg3.IsWhole) (arg4 : Memref sig .tc .vmem S512x512 .f32) (harg4 : arg4.IsWhole) (arg5 : Memref sig .tc .vmem S8x512 .f32) (harg5 : arg5.IsWhole) (arg6 : Memref sig .tc .vmem S512x1024 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S8x64x64 .f32) (harg9 : arg9.IsWhole) (arg10 : Memref sig .tc .vmem S8x64x64 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S4x128x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .bf16) (harg19 : arg19.IsWhole) (arg20 : Memref sig .tc .vmem S512x1536 .bf16) (harg20 : arg20.IsWhole) (arg21 : Memref sig .tc .vmem S272x512 .f32) (harg21 : arg21.IsWhole) (arg22 : Memref sig .tc .vmem S1024x1024 .f32) (harg22 : arg22.IsWhole) (arg23 : Memref sig .tc .vmem S2x256x512 .bf16) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S8x512 .f32) (harg27 : arg27.IsWhole) (arg28 : Memref sig .tc .vmem S8x512 .f32) (harg28 : arg28.IsWhole) (arg29 : Memref sig .tc .vmem S16x512 .f32) (harg29 : arg29.IsWhole) (arg30 : Memref sig .tc .vmem S128x512 .f32) (harg30 : arg30.IsWhole) (arg31 : Memref sig .tc .vmem S32x512 .f32) (harg31 : arg31.IsWhole) (arg32 : Memref sig .tc .vmem S2x256x512 .f32) (harg32 : arg32.IsWhole) (arg33 : Memref sig .tc .vmem S128x512 .f32) (harg33 : arg33.IsWhole) (v326 : FVec F S64x8x512 .f32) (v328 : IVec S64x8x512 32) (v332 : IVec S64x8x512 1) (v335 : FVec F S64x8x512 .f32) (v336 : FVec F S64x8x512 .f32) (X_arg24 : BufTy.Contents (Elt F) arg24.view.ty) (X_arg25 : BufTy.Contents (Elt F) arg25.view.ty) (init : Vec F S8x512 .f32) (hrdF : BufTy.Contents (Elt F) arg26.view.ty) (hrdB : LoadRect S512x512), arg26.view.readAt (Elt F) hrdB (arg26.view.writes (Elt F) hrdF (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v326 v328 v332 v335 v336 X_arg24 X_arg25 init (Scf.trips k0_t1_loop.lb k0_t1_loop.ub k0_t1_loop.st)).2) = arg26.view.readCov (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v326 v328 v332 v335 v336 X_arg24 X_arg25 init (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v326 v328 v332 v335 v336 X_arg24 X_arg25 init hrdF hrdB => View.readAt_writes_of_cover _ hrdF _ hrdB (fun hrdJ => View.cover_of_tiledL (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v326 v328 v332 v335 v336 X_arg24 X_arg25 init (Scf.trips k0_t1_loop.lb k0_t1_loop.ub k0_t1_loop.st)).2 S8x512.size (by sl_kernel_rfl) (hrdB.idx hrdJ))
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]; · iexists _; iexact H20
    isplitl [H21]; · iexists _; iexact H21
    isplitl [HS0]
    · iexists _; isplitr; · ipureintro; exact harg23.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]; · iexists _; iexact HS4
    isplitl [HS5]; · iexists _; iexact HS5
    isplitl [HS6]; · iexists _; iexact HS6
    isplitl [HS7]; · iexact HS7
    isplitl [HS8]; · iexists _; iexact HS8
    isplitl [HS9]; · iexists _; iexact HS9
    iexists _; iexact HS10

end Cert.Kernel5Ideal.Gen

end
-- ==== Proof.Mixer.Cover.lean ====
module

public import proofs.«01_k».proof.Proof.Mixer.RunA
public import proofs.«01_k».proof.Proof.Mixer.RunB
public import proofs.«01_k».proof.Proof.Mixer.RunC
public import Idealize.ShloMosaic.Lib.Claim

@[expose] public section

set_option maxRecDepth 16384

noncomputable section

/-! What each kind of grid point leaves in the outputs and in the scratch it hands on. -/
namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three outputs' blocks and the eight pieces of scratch handed from point to point. -/
abbrev Outs (F : FTy → Type) : Type := Vec F S512x1536 .bf16 × Vec F S272x512 .f32 × Vec F S1024x1024 .f32 × Vec F S2x256x512 .bf16 × Vec F S8x512 .f32 × Vec F S8x512 .f32 × Vec F S16x512 .f32 × Vec F S128x512 .f32 × Vec F S32x512 .f32 × Vec F S2x256x512 .f32 × Vec F S128x512 .f32

/-- The body's run at a first point, on that point's buffers and blocks. -/
def runA (c : Dev nD) (t : Fin cfg0.N) (h0 : t.val % 16 = 0) (h1 : ¬t.val % 16 = 15) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-- The body's run at a middle point, on that point's buffers and blocks, after a point that left `p`. -/
def runB (c : Dev nD) (t : Fin cfg0.N) (h0 : ¬t.val % 16 = 0) (h1 : ¬t.val % 16 = 15) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p.2.2.1 p.2.2.2.1 p.2.2.2.2.1 p.2.2.2.2.2.1 p.2.2.2.2.2.2.1 p.2.2.2.2.2.2.2.1 p.2.2.2.2.2.2.2.2.1 p.2.2.2.2.2.2.2.2.2.1 p.2.2.2.2.2.2.2.2.2.2

/-- The body's run at a last point, on that point's buffers and blocks, after a point that left `p`. -/
def runC (c : Dev nD) (t : Fin cfg0.N) (h0 : ¬t.val % 16 = 0) (h1 : t.val % 16 = 15) (p : Outs F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p.2.2.1 p.2.2.2.1 p.2.2.2.2.1 p.2.2.2.2.2.1 p.2.2.2.2.2.2.1 p.2.2.2.2.2.2.2.1 p.2.2.2.2.2.2.2.2.1 p.2.2.2.2.2.2.2.2.2.1 p.2.2.2.2.2.2.2.2.2.2

theorem cover0_A_19 (c : Dev nD) (t : Fin cfg0.N) (h0 : t.val % 16 = 0) (h1 : ¬t.val % 16 = 15) (y : S512x1536.Idx) : ∃ pc ∈ (runA m c t h0 h1).1, y ∈ pc.1.set :=
  View.cover_of_tiledL (runA m c t h0 h1).1 S512x1536.size (by sl_kernel_rfl) y
def out0_A_19 (c : Dev nD) (t : Fin cfg0.N) (h0 : t.val % 16 = 0) (h1 : ¬t.val % 16 = 15) : Vec F S512x1536 .bf16 :=
  VO0_19.read (Elt F) (VO0_19.writes (Elt F) VO0_19.junk (runA m c t h0 h1).1)

def out0_A_20 (c : Dev nD) (t : Fin cfg0.N) (h0 : t.val % 16 = 0) (h1 : ¬t.val % 16 = 15) : Vec F S272x512 .f32 :=
  VO0_20.read (Elt F) (VO0_20.writes (Elt F) VO0_20.junk (runA m c t h0 h1).2.1)

theorem cover0_A_21 (c : Dev nD) (t : Fin cfg0.N) (h0 : t.val % 16 = 0) (h1 : ¬t.val % 16 = 15) (y : S1024x1024.Idx) : ∃ pc ∈ (runA m c t h0 h1).2.2.1, y ∈ pc.1.set :=
  View.cover_of_tiledL (runA m c t h0 h1).2.2.1 S1024x1024.size (by sl_kernel_rfl) y
def out0_A_21 (c : Dev nD) (t : Fin cfg0.N) (h0 : t.val % 16 = 0) (h1 : ¬t.val % 16 = 15) : Vec F S1024x1024 .f32 :=
  VO0_21.read (Elt F) (VO0_21.writes (Elt F) VO0_21.junk (runA m c t h0 h1).2.2.1)

theorem scover0_A_0 (c : Dev nD) (t : Fin cfg0.N) (h0 : t.val % 16 = 0) (h1 : ¬t.val % 16 = 15) (y : S2x256x512.Idx) : ∃ pc ∈ (runA m c t h0 h1).2.2.2.1, y ∈ pc.1.set :=
  View.cover_of_tiledL (runA m c t h0 h1).2.2.2.1 S1x64x256.size (by sl_kernel_rfl) y
def sout0_A_0 (c : Dev nD) (t : Fin cfg0.N) (h0 : t.val % 16 = 0) (h1 : ¬t.val % 16 = 15) : Vec F S2x256x512 .bf16 :=
  VS0_0.read (Elt F) (VS0_0.writes (Elt F) VS0_0.junk (runA m c t h0 h1).2.2.2.1)

theorem scover0_A_4 (c : Dev nD) (t : Fin cfg0.N) (h0 : t.val % 16 = 0) (h1 : ¬t.val % 16 = 15) (y : S8x512.Idx) : ∃ pc ∈ (runA m c t h0 h1).2.2.2.2.1, y ∈ pc.1.set :=
  View.cover_of_tiledL (runA m c t h0 h1).2.2.2.2.1 S8x512.size (by sl_kernel_rfl) y
def sout0_A_4 (c : Dev nD) (t : Fin cfg0.N) (h0 : t.val % 16 = 0) (h1 : ¬t.val % 16 = 15) : Vec F S8x512 .f32 :=
  VS0_4.read (Elt F) (VS0_4.writes (Elt F) VS0_4.junk (runA m c t h0 h1).2.2.2.2.1)

theorem scover0_A_5 (c : Dev nD) (t : Fin cfg0.N) (h0 : t.val % 16 = 0) (h1 : ¬t.val % 16 = 15) (y : S8x512.Idx) : ∃ pc ∈ (runA m c t h0 h1).2.2.2.2.2.1, y ∈ pc.1.set :=
  View.cover_of_tiledL (runA m c t h0 h1).2.2.2.2.2.1 S8x512.size (by sl_kernel_rfl) y
def sout0_A_5 (c : Dev nD) (t : Fin cfg0.N) (h0 : t.val % 16 = 0) (h1 : ¬t.val % 16 = 15) : Vec F S8x512 .f32 :=
  VS0_5.read (Elt F) (VS0_5.writes (Elt F) VS0_5.junk (runA m c t h0 h1).2.2.2.2.2.1)

theorem scover0_A_6 (c : Dev nD) (t : Fin cfg0.N) (h0 : t.val % 16 = 0) (h1 : ¬t.val % 16 = 15) (y : S16x512.Idx) : ∃ pc ∈ (runA m c t h0 h1).2.2.2.2.2.2.1, y ∈ pc.1.set :=
  View.cover_of_wholeMem (runA m c t h0 h1).2.2.2.2.2.2.1 (by sl_whole_mem) y
def sout0_A_6 (c : Dev nD) (t : Fin cfg0.N) (h0 : t.val % 16 = 0) (h1 : ¬t.val % 16 = 15) : Vec F S16x512 .f32 :=
  VS0_6.read (Elt F) (VS0_6.writes (Elt F) VS0_6.junk (runA m c t h0 h1).2.2.2.2.2.2.1)

theorem scover0_A_7 (c : Dev nD) (t : Fin cfg0.N) (h0 : t.val % 16 = 0) (h1 : ¬t.val % 16 = 15) (y : S128x512.Idx) : ∃ pc ∈ (runA m c t h0 h1).2.2.2.2.2.2.2.1, y ∈ pc.1.set :=
  View.cover_of_wholeMem (runA m c t h0 h1).2.2.2.2.2.2.2.1 (by sl_whole_mem) y
def sout0_A_7 (c : Dev nD) (t : Fin cfg0.N) (h0 : t.val % 16 = 0) (h1 : ¬t.val % 16 = 15) : Vec F S128x512 .f32 :=
  VS0_7.read (Elt F) (VS0_7.writes (Elt F) VS0_7.junk (runA m c t h0 h1).2.2.2.2.2.2.2.1)

theorem scover0_A_8 (c : Dev nD) (t : Fin cfg0.N) (h0 : t.val % 16 = 0) (h1 : ¬t.val % 16 = 15) (y : S32x512.Idx) : ∃ pc ∈ (runA m c t h0 h1).2.2.2.2.2.2.2.2.1, y ∈ pc.1.set :=
  View.cover_of_wholeMem (runA m c t h0 h1).2.2.2.2.2.2.2.2.1 (by sl_whole_mem) y
def sout0_A_8 (c : Dev nD) (t : Fin cfg0.N) (h0 : t.val % 16 = 0) (h1 : ¬t.val % 16 = 15) : Vec F S32x512 .f32 :=
  VS0_8.read (Elt F) (VS0_8.writes (Elt F) VS0_8.junk (runA m c t h0 h1).2.2.2.2.2.2.2.2.1)

theorem scover0_A_9 (c : Dev nD) (t : Fin cfg0.N) (h0 : t.val % 16 = 0) (h1 : ¬t.val % 16 = 15) (y : S2x256x512.Idx) : ∃ pc ∈ (runA m c t h0 h1).2.2.2.2.2.2.2.2.2.1, y ∈ pc.1.set :=
  View.cover_of_wholeMem (runA m c t h0 h1).2.2.2.2.2.2.2.2.2.1 (by sl_whole_mem) y
def sout0_A_9 (c : Dev nD) (t : Fin cfg0.N) (h0 : t.val % 16 = 0) (h1 : ¬t.val % 16 = 15) : Vec F S2x256x512 .f32 :=
  VS0_9.read (Elt F) (VS0_9.writes (Elt F) VS0_9.junk (runA m c t h0 h1).2.2.2.2.2.2.2.2.2.1)

theorem scover0_A_10 (c : Dev nD) (t : Fin cfg0.N) (h0 : t.val % 16 = 0) (h1 : ¬t.val % 16 = 15) (y : S128x512.Idx) : ∃ pc ∈ (runA m c t h0 h1).2.2.2.2.2.2.2.2.2.2.1, y ∈ pc.1.set :=
  View.cover_of_wholeMem (runA m c t h0 h1).2.2.2.2.2.2.2.2.2.2.1 (by sl_whole_mem) y
def sout0_A_10 (c : Dev nD) (t : Fin cfg0.N) (h0 : t.val % 16 = 0) (h1 : ¬t.val % 16 = 15) : Vec F S128x512 .f32 :=
  VS0_10.read (Elt F) (VS0_10.writes (Elt F) VS0_10.junk (runA m c t h0 h1).2.2.2.2.2.2.2.2.2.2.1)

theorem cover0_B_19 (c : Dev nD) (t : Fin cfg0.N) (h0 : ¬t.val % 16 = 0) (h1 : ¬t.val % 16 = 15) (p : Outs F) (y : S512x1536.Idx) : ∃ pc ∈ (runB m c t h0 h1 p).1, y ∈ pc.1.set :=
  View.cover_of_tiledL (runB m c t h0 h1 p).1 S512x1536.size (by sl_kernel_rfl) y
def out0_B_19 (c : Dev nD) (t : Fin cfg0.N) (h0 : ¬t.val % 16 = 0) (h1 : ¬t.val % 16 = 15) (p : Outs F) : Vec F S512x1536 .bf16 :=
  VO0_19.read (Elt F) (VO0_19.writes (Elt F) VO0_19.junk (runB m c t h0 h1 p).1)

def out0_B_20 (c : Dev nD) (t : Fin cfg0.N) (h0 : ¬t.val % 16 = 0) (h1 : ¬t.val % 16 = 15) (p : Outs F) : Vec F S272x512 .f32 :=
  VO0_20.read (Elt F) (VO0_20.writes (Elt F) VO0_20.junk (runB m c t h0 h1 p).2.1)

theorem cover0_B_21 (c : Dev nD) (t : Fin cfg0.N) (h0 : ¬t.val % 16 = 0) (h1 : ¬t.val % 16 = 15) (p : Outs F) (y : S1024x1024.Idx) : ∃ pc ∈ (runB m c t h0 h1 p).2.2.1, y ∈ pc.1.set :=
  View.cover_of_tiledL (runB m c t h0 h1 p).2.2.1 S1024x1024.size (by sl_kernel_rfl) y
def out0_B_21 (c : Dev nD) (t : Fin cfg0.N) (h0 : ¬t.val % 16 = 0) (h1 : ¬t.val % 16 = 15) (p : Outs F) : Vec F S1024x1024 .f32 :=
  VO0_21.read (Elt F) (VO0_21.writes (Elt F) VO0_21.junk (runB m c t h0 h1 p).2.2.1)

def sout0_B_0 (c : Dev nD) (t : Fin cfg0.N) (h0 : ¬t.val % 16 = 0) (h1 : ¬t.val % 16 = 15) (p : Outs F) : Vec F S2x256x512 .bf16 :=
  p.2.2.2.1

theorem scover0_B_4 (c : Dev nD) (t : Fin cfg0.N) (h0 : ¬t.val % 16 = 0) (h1 : ¬t.val % 16 = 15) (p : Outs F) (y : S8x512.Idx) : ∃ pc ∈ (runB m c t h0 h1 p).2.2.2.2.1, y ∈ pc.1.set :=
  View.cover_of_tiledL (runB m c t h0 h1 p).2.2.2.2.1 S8x512.size (by sl_kernel_rfl) y
def sout0_B_4 (c : Dev nD) (t : Fin cfg0.N) (h0 : ¬t.val % 16 = 0) (h1 : ¬t.val % 16 = 15) (p : Outs F) : Vec F S8x512 .f32 :=
  VS0_4.read (Elt F) (VS0_4.writes (Elt F) VS0_4.junk (runB m c t h0 h1 p).2.2.2.2.1)

theorem scover0_B_5 (c : Dev nD) (t : Fin cfg0.N) (h0 : ¬t.val % 16 = 0) (h1 : ¬t.val % 16 = 15) (p : Outs F) (y : S8x512.Idx) : ∃ pc ∈ (runB m c t h0 h1 p).2.2.2.2.2.1, y ∈ pc.1.set :=
  View.cover_of_tiledL (runB m c t h0 h1 p).2.2.2.2.2.1 S8x512.size (by sl_kernel_rfl) y
def sout0_B_5 (c : Dev nD) (t : Fin cfg0.N) (h0 : ¬t.val % 16 = 0) (h1 : ¬t.val % 16 = 15) (p : Outs F) : Vec F S8x512 .f32 :=
  VS0_5.read (Elt F) (VS0_5.writes (Elt F) VS0_5.junk (runB m c t h0 h1 p).2.2.2.2.2.1)

theorem scover0_B_6 (c : Dev nD) (t : Fin cfg0.N) (h0 : ¬t.val % 16 = 0) (h1 : ¬t.val % 16 = 15) (p : Outs F) (y : S16x512.Idx) : ∃ pc ∈ (runB m c t h0 h1 p).2.2.2.2.2.2.1, y ∈ pc.1.set :=
  View.cover_of_tiledL (runB m c t h0 h1 p).2.2.2.2.2.2.1 S16x128.size (by sl_kernel_rfl) y
def sout0_B_6 (c : Dev nD) (t : Fin cfg0.N) (h0 : ¬t.val % 16 = 0) (h1 : ¬t.val % 16 = 15) (p : Outs F) : Vec F S16x512 .f32 :=
  VS0_6.read (Elt F) (VS0_6.writes (Elt F) VS0_6.junk (runB m c t h0 h1 p).2.2.2.2.2.2.1)

def sout0_B_7 (c : Dev nD) (t : Fin cfg0.N) (h0 : ¬t.val % 16 = 0) (h1 : ¬t.val % 16 = 15) (p : Outs F) : Vec F S128x512 .f32 :=
  scM0_7.view.read (Elt F) (scM0_7.view.writes (Elt F) ((Memref.isWhole_whole _ : scM0_7.IsWhole).unread p.2.2.2.2.2.2.2.1) (runB m c t h0 h1 p).2.2.2.2.2.2.2.1)

theorem scover0_B_8 (c : Dev nD) (t : Fin cfg0.N) (h0 : ¬t.val % 16 = 0) (h1 : ¬t.val % 16 = 15) (p : Outs F) (y : S32x512.Idx) : ∃ pc ∈ (runB m c t h0 h1 p).2.2.2.2.2.2.2.2.1, y ∈ pc.1.set :=
  View.cover_of_tiledL (runB m c t h0 h1 p).2.2.2.2.2.2.2.2.1 S8x512.size (by sl_kernel_rfl) y
def sout0_B_8 (c : Dev nD) (t : Fin cfg0.N) (h0 : ¬t.val % 16 = 0) (h1 : ¬t.val % 16 = 15) (p : Outs F) : Vec F S32x512 .f32 :=
  VS0_8.read (Elt F) (VS0_8.writes (Elt F) VS0_8.junk (runB m c t h0 h1 p).2.2.2.2.2.2.2.2.1)

theorem scover0_B_9 (c : Dev nD) (t : Fin cfg0.N) (h0 : ¬t.val % 16 = 0) (h1 : ¬t.val % 16 = 15) (p : Outs F) (y : S2x256x512.Idx) : ∃ pc ∈ (runB m c t h0 h1 p).2.2.2.2.2.2.2.2.2.1, y ∈ pc.1.set :=
  View.cover_of_tiledL (runB m c t h0 h1 p).2.2.2.2.2.2.2.2.2.1 S1x256x512.size (by sl_kernel_rfl) y
def sout0_B_9 (c : Dev nD) (t : Fin cfg0.N) (h0 : ¬t.val % 16 = 0) (h1 : ¬t.val % 16 = 15) (p : Outs F) : Vec F S2x256x512 .f32 :=
  VS0_9.read (Elt F) (VS0_9.writes (Elt F) VS0_9.junk (runB m c t h0 h1 p).2.2.2.2.2.2.2.2.2.1)

theorem scover0_B_10 (c : Dev nD) (t : Fin cfg0.N) (h0 : ¬t.val % 16 = 0) (h1 : ¬t.val % 16 = 15) (p : Outs F) (y : S128x512.Idx) : ∃ pc ∈ (runB m c t h0 h1 p).2.2.2.2.2.2.2.2.2.2.1, y ∈ pc.1.set :=
  View.cover_of_tiledL (runB m c t h0 h1 p).2.2.2.2.2.2.2.2.2.2.1 S128x128.size (by sl_kernel_rfl) y
def sout0_B_10 (c : Dev nD) (t : Fin cfg0.N) (h0 : ¬t.val % 16 = 0) (h1 : ¬t.val % 16 = 15) (p : Outs F) : Vec F S128x512 .f32 :=
  VS0_10.read (Elt F) (VS0_10.writes (Elt F) VS0_10.junk (runB m c t h0 h1 p).2.2.2.2.2.2.2.2.2.2.1)

theorem cover0_C_19 (c : Dev nD) (t : Fin cfg0.N) (h0 : ¬t.val % 16 = 0) (h1 : t.val % 16 = 15) (p : Outs F) (y : S512x1536.Idx) : ∃ pc ∈ (runC m c t h0 h1 p).1, y ∈ pc.1.set :=
  View.cover_of_tiledL (runC m c t h0 h1 p).1 S512x1536.size (by sl_kernel_rfl) y
def out0_C_19 (c : Dev nD) (t : Fin cfg0.N) (h0 : ¬t.val % 16 = 0) (h1 : t.val % 16 = 15) (p : Outs F) : Vec F S512x1536 .bf16 :=
  VO0_19.read (Elt F) (VO0_19.writes (Elt F) VO0_19.junk (runC m c t h0 h1 p).1)

theorem cover0_C_20 (c : Dev nD) (t : Fin cfg0.N) (h0 : ¬t.val % 16 = 0) (h1 : t.val % 16 = 15) (p : Outs F) (y : S272x512.Idx) : ∃ pc ∈ (runC m c t h0 h1 p).2.1, y ∈ pc.1.set :=
  View.cover_of_tiledBy (runC m c t h0 h1 p).2.1 ![16, 256] (by sl_kernel_rfl) y
def out0_C_20 (c : Dev nD) (t : Fin cfg0.N) (h0 : ¬t.val % 16 = 0) (h1 : t.val % 16 = 15) (p : Outs F) : Vec F S272x512 .f32 :=
  VO0_20.read (Elt F) (VO0_20.writes (Elt F) VO0_20.junk (runC m c t h0 h1 p).2.1)

theorem cover0_C_21 (c : Dev nD) (t : Fin cfg0.N) (h0 : ¬t.val % 16 = 0) (h1 : t.val % 16 = 15) (p : Outs F) (y : S1024x1024.Idx) : ∃ pc ∈ (runC m c t h0 h1 p).2.2.1, y ∈ pc.1.set :=
  View.cover_of_tiledL (runC m c t h0 h1 p).2.2.1 S1024x1024.size (by sl_kernel_rfl) y
def out0_C_21 (c : Dev nD) (t : Fin cfg0.N) (h0 : ¬t.val % 16 = 0) (h1 : t.val % 16 = 15) (p : Outs F) : Vec F S1024x1024 .f32 :=
  VO0_21.read (Elt F) (VO0_21.writes (Elt F) VO0_21.junk (runC m c t h0 h1 p).2.2.1)

def sout0_C_0 (c : Dev nD) (t : Fin cfg0.N) (h0 : ¬t.val % 16 = 0) (h1 : t.val % 16 = 15) (p : Outs F) : Vec F S2x256x512 .bf16 :=
  p.2.2.2.1

theorem scover0_C_4 (c : Dev nD) (t : Fin cfg0.N) (h0 : ¬t.val % 16 = 0) (h1 : t.val % 16 = 15) (p : Outs F) (y : S8x512.Idx) : ∃ pc ∈ (runC m c t h0 h1 p).2.2.2.2.1, y ∈ pc.1.set :=
  View.cover_of_tiledL (runC m c t h0 h1 p).2.2.2.2.1 S8x512.size (by sl_kernel_rfl) y
def sout0_C_4 (c : Dev nD) (t : Fin cfg0.N) (h0 : ¬t.val % 16 = 0) (h1 : t.val % 16 = 15) (p : Outs F) : Vec F S8x512 .f32 :=
  VS0_4.read (Elt F) (VS0_4.writes (Elt F) VS0_4.junk (runC m c t h0 h1 p).2.2.2.2.1)

theorem scover0_C_5 (c : Dev nD) (t : Fin cfg0.N) (h0 : ¬t.val % 16 = 0) (h1 : t.val % 16 = 15) (p : Outs F) (y : S8x512.Idx) : ∃ pc ∈ (runC m c t h0 h1 p).2.2.2.2.2.1, y ∈ pc.1.set :=
  View.cover_of_tiledL (runC m c t h0 h1 p).2.2.2.2.2.1 S8x512.size (by sl_kernel_rfl) y
def sout0_C_5 (c : Dev nD) (t : Fin cfg0.N) (h0 : ¬t.val % 16 = 0) (h1 : t.val % 16 = 15) (p : Outs F) : Vec F S8x512 .f32 :=
  VS0_5.read (Elt F) (VS0_5.writes (Elt F) VS0_5.junk (runC m c t h0 h1 p).2.2.2.2.2.1)

theorem scover0_C_6 (c : Dev nD) (t : Fin cfg0.N) (h0 : ¬t.val % 16 = 0) (h1 : t.val % 16 = 15) (p : Outs F) (y : S16x512.Idx) : ∃ pc ∈ (runC m c t h0 h1 p).2.2.2.2.2.2.1, y ∈ pc.1.set :=
  View.cover_of_tiledL (runC m c t h0 h1 p).2.2.2.2.2.2.1 S16x128.size (by sl_kernel_rfl) y
def sout0_C_6 (c : Dev nD) (t : Fin cfg0.N) (h0 : ¬t.val % 16 = 0) (h1 : t.val % 16 = 15) (p : Outs F) : Vec F S16x512 .f32 :=
  VS0_6.read (Elt F) (VS0_6.writes (Elt F) VS0_6.junk (runC m c t h0 h1 p).2.2.2.2.2.2.1)

def sout0_C_7 (c : Dev nD) (t : Fin cfg0.N) (h0 : ¬t.val % 16 = 0) (h1 : t.val % 16 = 15) (p : Outs F) : Vec F S128x512 .f32 :=
  scM0_7.view.read (Elt F) (scM0_7.view.writes (Elt F) ((Memref.isWhole_whole _ : scM0_7.IsWhole).unread p.2.2.2.2.2.2.2.1) (runC m c t h0 h1 p).2.2.2.2.2.2.2.1)

theorem scover0_C_8 (c : Dev nD) (t : Fin cfg0.N) (h0 : ¬t.val % 16 = 0) (h1 : t.val % 16 = 15) (p : Outs F) (y : S32x512.Idx) : ∃ pc ∈ (runC m c t h0 h1 p).2.2.2.2.2.2.2.2.1, y ∈ pc.1.set :=
  View.cover_of_tiledL (runC m c t h0 h1 p).2.2.2.2.2.2.2.2.1 S8x512.size (by sl_kernel_rfl) y
def sout0_C_8 (c : Dev nD) (t : Fin cfg0.N) (h0 : ¬t.val % 16 = 0) (h1 : t.val % 16 = 15) (p : Outs F) : Vec F S32x512 .f32 :=
  VS0_8.read (Elt F) (VS0_8.writes (Elt F) VS0_8.junk (runC m c t h0 h1 p).2.2.2.2.2.2.2.2.1)

theorem scover0_C_9 (c : Dev nD) (t : Fin cfg0.N) (h0 : ¬t.val % 16 = 0) (h1 : t.val % 16 = 15) (p : Outs F) (y : S2x256x512.Idx) : ∃ pc ∈ (runC m c t h0 h1 p).2.2.2.2.2.2.2.2.2.1, y ∈ pc.1.set :=
  View.cover_of_tiledL (runC m c t h0 h1 p).2.2.2.2.2.2.2.2.2.1 S1x256x512.size (by sl_kernel_rfl) y
def sout0_C_9 (c : Dev nD) (t : Fin cfg0.N) (h0 : ¬t.val % 16 = 0) (h1 : t.val % 16 = 15) (p : Outs F) : Vec F S2x256x512 .f32 :=
  VS0_9.read (Elt F) (VS0_9.writes (Elt F) VS0_9.junk (runC m c t h0 h1 p).2.2.2.2.2.2.2.2.2.1)

theorem scover0_C_10 (c : Dev nD) (t : Fin cfg0.N) (h0 : ¬t.val % 16 = 0) (h1 : t.val % 16 = 15) (p : Outs F) (y : S128x512.Idx) : ∃ pc ∈ (runC m c t h0 h1 p).2.2.2.2.2.2.2.2.2.2.1, y ∈ pc.1.set :=
  View.cover_of_tiledL (runC m c t h0 h1 p).2.2.2.2.2.2.2.2.2.2.1 S128x128.size (by sl_kernel_rfl) y
def sout0_C_10 (c : Dev nD) (t : Fin cfg0.N) (h0 : ¬t.val % 16 = 0) (h1 : t.val % 16 = 15) (p : Outs F) : Vec F S128x512 .f32 :=
  VS0_10.read (Elt F) (VS0_10.writes (Elt F) VS0_10.junk (runC m c t h0 h1 p).2.2.2.2.2.2.2.2.2.2.1)

/-- All that a first point leaves. -/
def pointA (c : Dev nD) (t : Fin cfg0.N) (h0 : t.val % 16 = 0) (h1 : ¬t.val % 16 = 15) : Outs F :=
  (out0_A_19 m c t h0 h1, out0_A_20 m c t h0 h1, out0_A_21 m c t h0 h1, sout0_A_0 m c t h0 h1, sout0_A_4 m c t h0 h1, sout0_A_5 m c t h0 h1, sout0_A_6 m c t h0 h1, sout0_A_7 m c t h0 h1, sout0_A_8 m c t h0 h1, sout0_A_9 m c t h0 h1, sout0_A_10 m c t h0 h1)

/-- All that a middle point leaves. -/
def pointB (c : Dev nD) (t : Fin cfg0.N) (h0 : ¬t.val % 16 = 0) (h1 : ¬t.val % 16 = 15) (p : Outs F) : Outs F :=
  (out0_B_19 m c t h0 h1 p, out0_B_20 m c t h0 h1 p, out0_B_21 m c t h0 h1 p, sout0_B_0 c t h0 h1 p, sout0_B_4 m c t h0 h1 p, sout0_B_5 m c t h0 h1 p, sout0_B_6 m c t h0 h1 p, sout0_B_7 m c t h0 h1 p, sout0_B_8 m c t h0 h1 p, sout0_B_9 m c t h0 h1 p, sout0_B_10 m c t h0 h1 p)

/-- All that a last point leaves. -/
def pointC (c : Dev nD) (t : Fin cfg0.N) (h0 : ¬t.val % 16 = 0) (h1 : t.val % 16 = 15) (p : Outs F) : Outs F :=
  (out0_C_19 m c t h0 h1 p, out0_C_20 m c t h0 h1 p, out0_C_21 m c t h0 h1 p, sout0_C_0 c t h0 h1 p, sout0_C_4 m c t h0 h1 p, sout0_C_5 m c t h0 h1 p, sout0_C_6 m c t h0 h1 p, sout0_C_7 m c t h0 h1 p, sout0_C_8 m c t h0 h1 p, sout0_C_9 m c t h0 h1 p, sout0_C_10 m c t h0 h1 p)

end Cert.Kernel5Ideal.Gen
end
-- ==== Proof.Mixer.Outs.lean ====
module

public import proofs.«01_k».proof.Proof.Mixer.Cover

@[expose] public section

set_option maxRecDepth 16384

noncomputable section

/-! What the outputs and the scratch hold after every point, and the data of the pipeline. -/
namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the outputs and the scratch hold after point `n`: the kind of point decides which run, and a later point starts from what the point before left. -/
def outsAt0 (c : Dev nD) : (n : ℕ) → n < cfg0.N → Outs F
  | 0, hn => pointA m c ⟨0, hn⟩ (Nat.zero_mod _) (fun h => by (try dsimp only at h); omega)
  | n + 1, hn =>
    if h0 : (n + 1) % 16 = 0 then
      if h1 : (n + 1) % 16 = 15 then
        False.elim (by have hN : n + 1 < 16 := lt_of_lt_of_eq hn (show cfg0.N = 16 from N_0); omega)
      else pointA m c ⟨n + 1, hn⟩ h0 h1
    else
      if h1 : (n + 1) % 16 = 15 then pointC m c ⟨n + 1, hn⟩ h0 h1 (outsAt0 c n (Nat.lt_of_succ_lt hn))
      else pointB m c ⟨n + 1, hn⟩ h0 h1 (outsAt0 c n (Nat.lt_of_succ_lt hn))

theorem outsAt0_A (c : Dev nD) (t : Fin cfg0.N) (h0 : t.val % 16 = 0) (h1 : ¬t.val % 16 = 15) :
    outsAt0 m c t.val t.isLt = pointA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = pointB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = pointC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What holds of the scratch before point `n`: at the first point it may hold anything; later each scratch the kernel
    carries holds what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2.2.2.2.1) ∗ owns (c : Thread nD τ) scM0_5 fullShare ((outsAt0 m c n hn).2.2.2.2.2.1) ∗ owns (c : Thread nD τ) scM0_6 fullShare ((outsAt0 m c n hn).2.2.2.2.2.2.1) ∗ owns (c : Thread nD τ) scM0_7 fullShare ((outsAt0 m c n hn).2.2.2.2.2.2.2.1) ∗ owns (c : Thread nD τ) scM0_8 fullShare ((outsAt0 m c n hn).2.2.2.2.2.2.2.2.1) ∗ owns (c : Thread nD τ) scM0_9 fullShare ((outsAt0 m c n hn).2.2.2.2.2.2.2.2.2.1) ∗ owns (c : Thread nD τ) scM0_10 fullShare ((outsAt0 m c n hn).2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2.2.2.2.1) ∗ owns (c : Thread nD τ) scM0_5 fullShare ((outsAt0 m c n hn).2.2.2.2.2.1) ∗ owns (c : Thread nD τ) scM0_6 fullShare ((outsAt0 m c n hn).2.2.2.2.2.2.1) ∗ owns (c : Thread nD τ) scM0_7 fullShare ((outsAt0 m c n hn).2.2.2.2.2.2.2.1) ∗ owns (c : Thread nD τ) scM0_8 fullShare ((outsAt0 m c n hn).2.2.2.2.2.2.2.2.1) ∗ owns (c : Thread nD τ) scM0_9 fullShare ((outsAt0 m c n hn).2.2.2.2.2.2.2.2.2.1) ∗ owns (c : Thread nD τ) scM0_10 fullShare ((outsAt0 m c n hn).2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c (n - 1) (by omega)).2.2.2.2.1) ∗ owns (c : Thread nD τ) scM0_5 fullShare ((outsAt0 m c (n - 1) (by omega)).2.2.2.2.2.1) ∗ owns (c : Thread nD τ) scM0_6 fullShare ((outsAt0 m c (n - 1) (by omega)).2.2.2.2.2.2.1) ∗ owns (c : Thread nD τ) scM0_7 fullShare ((outsAt0 m c (n - 1) (by omega)).2.2.2.2.2.2.2.1) ∗ owns (c : Thread nD τ) scM0_8 fullShare ((outsAt0 m c (n - 1) (by omega)).2.2.2.2.2.2.2.2.1) ∗ owns (c : Thread nD τ) scM0_9 fullShare ((outsAt0 m c (n - 1) (by omega)).2.2.2.2.2.2.2.2.2.1) ∗ owns (c : Thread nD τ) scM0_10 fullShare ((outsAt0 m c (n - 1) (by omega)).2.2.2.2.2.2.2.2.2.2)) ∗ (∃ r, prngReg c r)) := by
  cases n with
  | zero => exact absurd rfl hz
  | succ n => rfl

/-! ## The pipeline's proof data -/

/-- The pipeline's contents on core `c`: the arrays as found, after point `t` each input's buffer at its block and the
    outputs' at `outsAt0`, with the scratch as `PhiS` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t.val t.isLt).1
    | ⟨20, _⟩ => (outsAt0 m c t.val t.isLt).2.1
    | ⟨21, _⟩ => (outsAt0 m c t.val t.isLt).2.2.1
    | ⟨_ + 22, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t.val t.isLt).1 := by dsimp only [dats]
theorem after0_20 (c : Dev nD) (t : Fin cfg0.N) : (dats m 0 c).after 20 t = (outsAt0 m c t.val t.isLt).2.1 := by dsimp only [dats]
theorem after0_21 (c : Dev nD) (t : Fin cfg0.N) : (dats m 0 c).after 21 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
/-- At a point of case B output 21's staging buffer still holds what the body left at the point before. -/
theorem before0_21_B (c : Dev nD) (t : Fin cfg0.N) (h0 : ¬t.val % 16 = 0) (h1 : ¬t.val % 16 = 15) (d) :
    (dats m 0 c).before 21 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 21 rfl t (by omega) (Bool.eq_false_iff.mpr fun h => by have := (flush0_21 _).mp h; dsimp only at this; omega)
    (fun _ => rfl) (fun _ _ => rfl)]
  dsimp only [dats]
/-- At a point of case C output 21's staging buffer still holds what the body left at the point before. -/
theorem before0_21_C (c : Dev nD) (t : Fin cfg0.N) (h0 : ¬t.val % 16 = 0) (h1 : t.val % 16 = 15) (d) :
    (dats m 0 c).before 21 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 21 rfl t (by omega) (Bool.eq_false_iff.mpr fun h => by have := (flush0_21 _).mp h; dsimp only at this; omega)
    (fun _ => rfl) (fun _ _ => rfl)]
  dsimp only [dats]

/-! ## The body obligation, at a generic point -/

/-- What the body is given at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t)

end Cert.Kernel5Ideal.Gen
end
-- ==== Proof.Mixer.Body.lean ====
module

public import proofs.«01_k».proof.Proof.Mixer.Outs

@[expose] public section

set_option maxRecDepth 16384

noncomputable section

/-! The body of the kernel at a point of the grid. -/
namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 38400000 in
/-- The body at any point: each input buffer holds its block, the kind of point is decided, that kind's run applies, and it leaves what `outsAt0` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [Dat.leavesExact_idle (dats m 0 c) 20 t (idleAt0_20_A t ((hcond0_0 t).mpr h0) (fun h => h1 ((hcond0_1 t).mp h))) (noFlush0_20_A t ((hcond0_0 t).mpr h0) (fun h => h1 ((hcond0_1 t).mp h)))]
      rw [show (dats m 0 c).leavesExact 21 t = owns (c : Thread nD τ) (ms0_21 t) fullShare ((dats m 0 c).after 21 t) from by
      unfold Dat.leavesExact; rw [liveAt0_21 t], after0_21]
      by_cases hz : t.val = 0
      · rw [PhiS_castSucc m c t, PhiS_zero m c _ _ hz, PhiA0_eq]
        rw [outsAt0_A m c t h0 h1]
        unfold pointA out0_A_19 out0_A_21 sout0_A_0 sout0_A_4 sout0_A_5 sout0_A_6 sout0_A_7 sout0_A_8 sout0_A_9 sout0_A_10; (try dsimp only)
        iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((runA m c t h0 h1).2.2.2.2.2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexists _; iexact H19
        isplitl [H20]; · iexact H20
        isplitl [H21]; · iexists _; iexact H21
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        iintro ⟨H0, H1, H2, H3, H4, H5, H6, H7, H8, H9, H10, H11, H12, H13, H14, H15, H16, H17, H18, ⟨%e19, H19⟩, H20, ⟨%e21, H21⟩, ⟨%es0, HS0⟩, HS1, HS2, HS3, ⟨%es4, HS4⟩, ⟨%es5, HS5⟩, ⟨%es6, HS6⟩, ⟨%es7, HS7⟩, ⟨%es8, HS8⟩, ⟨%es9, HS9⟩, ⟨%es10, HS10⟩⟩
        isplitl [HS0 HS1 HS2 HS3 HS4 HS5 HS6 HS7 HS8 HS9 HS10 Hg]
        · isplitl [HS0 HS1 HS2 HS3 HS4 HS5 HS6 HS7 HS8 HS9 HS10]
          · isplitl [HS0]
            · unfold owns; iexists _; isplitr
              swap; · iexact HS0
              ipureintro; exact View.read_writes_of_cover _ _ _ _ _ (scover0_A_0 m c t h0 h1)
            isplitl [HS1]
            · iexact HS1
            isplitl [HS2]
            · iexact HS2
            isplitl [HS3]
            · iexact HS3
            isplitl [HS4]
            · unfold owns; iexists _; isplitr
              swap; · iexact HS4
              ipureintro; exact View.read_writes_of_cover _ _ _ _ _ (scover0_A_4 m c t h0 h1)
            isplitl [HS5]
            · unfold owns; iexists _; isplitr
              swap; · iexact HS5
              ipureintro; exact View.read_writes_of_cover _ _ _ _ _ (scover0_A_5 m c t h0 h1)
            isplitl [HS6]
            · unfold owns; iexists _; isplitr
              swap; · iexact HS6
              ipureintro; exact View.read_writes_of_cover _ _ _ _ _ (scover0_A_6 m c t h0 h1)
            isplitl [HS7]
            · unfold owns; iexists _; isplitr
              swap; · iexact HS7
              ipureintro; exact View.read_writes_of_cover _ _ _ _ _ (scover0_A_7 m c t h0 h1)
            isplitl [HS8]
            · unfold owns; iexists _; isplitr
              swap; · iexact HS8
              ipureintro; exact View.read_writes_of_cover _ _ _ _ _ (scover0_A_8 m c t h0 h1)
            isplitl [HS9]
            · unfold owns; iexists _; isplitr
              swap; · iexact HS9
              ipureintro; exact View.read_writes_of_cover _ _ _ _ _ (scover0_A_9 m c t h0 h1)
            unfold owns; iexists _; isplitr
            swap; · iexact HS10
            ipureintro; exact View.read_writes_of_cover _ _ _ _ _ (scover0_A_10 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]
        · unfold owns; iexists _; isplitr
          swap; · iexact H19
          ipureintro; exact View.read_writes_of_cover _ _ _ _ _ (cover0_A_19 m c t h0 h1)
        isplitl [H20]; · iexists _; iexact H20
        unfold owns; iexists _; isplitr
        swap; · iexact H21
        ipureintro; exact View.read_writes_of_cover _ _ _ _ _ (cover0_A_21 m c t h0 h1)
      · exfalso; have hN : t.val < 16 := lt_of_lt_of_eq t.isLt (show cfg0.N = 16 from N_0); omega
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20_C t (fun h => h0 ((hcond0_0 t).mp h)) ((hcond0_1 t).mpr h1)], after0_20]
      rw [show (dats m 0 c).leavesExact 21 t = owns (c : Thread nD τ) (ms0_21 t) fullShare ((dats m 0 c).after 21 t) from by
      unfold Dat.leavesExact; rw [liveAt0_21 t], after0_21]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        simp only [before0_21_C m c t h0 h1]
        unfold pointC out0_C_19 out0_C_20 out0_C_21 sout0_C_0 sout0_C_4 sout0_C_5 sout0_C_6 sout0_C_7 sout0_C_8 sout0_C_9 sout0_C_10; (try dsimp only)
        iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((runC m c t h0 h1 _).2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexists _; iexact H19
        isplitl [H20]; · iexists _; iexact H20
        isplitl [H21]; · iexact H21
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        iintro ⟨H0, H1, H2, H3, H4, H5, H6, H7, H8, H9, H10, H11, H12, H13, H14, H15, H16, H17, H18, ⟨%e19, H19⟩, ⟨%e20, H20⟩, ⟨%e21, H21⟩, HS0, HS1, HS2, HS3, ⟨%es4, HS4⟩, ⟨%es5, HS5⟩, ⟨%es6, HS6⟩, HS7, ⟨%es8, HS8⟩, ⟨%es9, HS9⟩, ⟨%es10, HS10⟩⟩
        isplitl [HS0 HS1 HS2 HS3 HS4 HS5 HS6 HS7 HS8 HS9 HS10 Hg]
        · isplitl [HS0 HS1 HS2 HS3 HS4 HS5 HS6 HS7 HS8 HS9 HS10]
          · isplitl [HS0]
            · iexact HS0
            isplitl [HS1]
            · iexact HS1
            isplitl [HS2]
            · iexact HS2
            isplitl [HS3]
            · iexact HS3
            isplitl [HS4]
            · unfold owns; iexists _; isplitr
              swap; · iexact HS4
              ipureintro; exact View.read_writes_of_cover _ _ _ _ _ (scover0_C_4 m c t h0 h1 _)
            isplitl [HS5]
            · unfold owns; iexists _; isplitr
              swap; · iexact HS5
              ipureintro; exact View.read_writes_of_cover _ _ _ _ _ (scover0_C_5 m c t h0 h1 _)
            isplitl [HS6]
            · unfold owns; iexists _; isplitr
              swap; · iexact HS6
              ipureintro; exact View.read_writes_of_cover _ _ _ _ _ (scover0_C_6 m c t h0 h1 _)
            isplitl [HS7]
            · unfold owns; iexists _; isplitr
              swap; · iexact HS7
              ipureintro; rfl
            isplitl [HS8]
            · unfold owns; iexists _; isplitr
              swap; · iexact HS8
              ipureintro; exact View.read_writes_of_cover _ _ _ _ _ (scover0_C_8 m c t h0 h1 _)
            isplitl [HS9]
            · unfold owns; iexists _; isplitr
              swap; · iexact HS9
              ipureintro; exact View.read_writes_of_cover _ _ _ _ _ (scover0_C_9 m c t h0 h1 _)
            unfold owns; iexists _; isplitr
            swap; · iexact HS10
            ipureintro; exact View.read_writes_of_cover _ _ _ _ _ (scover0_C_10 m c t h0 h1 _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]
        · unfold owns; iexists _; isplitr
          swap; · iexact H19
          ipureintro; exact View.read_writes_of_cover _ _ _ _ _ (cover0_C_19 m c t h0 h1 _)
        isplitl [H20]
        · unfold owns; iexists _; isplitr
          swap; · iexact H20
          ipureintro; exact View.read_writes_of_cover _ _ _ _ _ (cover0_C_20 m c t h0 h1 _)
        unfold owns; iexists _; isplitr
        swap; · iexact H21
        ipureintro; exact View.read_writes_of_cover _ _ _ _ _ (cover0_C_21 m c t h0 h1 _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [Dat.leavesExact_idle (dats m 0 c) 20 t (idleAt0_20_B t (fun h => h0 ((hcond0_0 t).mp h)) (fun h => h1 ((hcond0_1 t).mp h))) (noFlush0_20_B t (fun h => h0 ((hcond0_0 t).mp h)) (fun h => h1 ((hcond0_1 t).mp h)))]
      rw [show (dats m 0 c).leavesExact 21 t = owns (c : Thread nD τ) (ms0_21 t) fullShare ((dats m 0 c).after 21 t) from by
      unfold Dat.leavesExact; rw [liveAt0_21 t], after0_21]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        simp only [before0_21_B m c t h0 h1]
        unfold pointB out0_B_19 out0_B_21 sout0_B_0 sout0_B_4 sout0_B_5 sout0_B_6 sout0_B_7 sout0_B_8 sout0_B_9 sout0_B_10; (try dsimp only)
        iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((runB m c t h0 h1 _).2.2.2.2.2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexists _; iexact H19
        isplitl [H20]; · iexact H20
        isplitl [H21]; · iexact H21
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        iintro ⟨H0, H1, H2, H3, H4, H5, H6, H7, H8, H9, H10, H11, H12, H13, H14, H15, H16, H17, H18, ⟨%e19, H19⟩, H20, ⟨%e21, H21⟩, HS0, HS1, HS2, HS3, ⟨%es4, HS4⟩, ⟨%es5, HS5⟩, ⟨%es6, HS6⟩, HS7, ⟨%es8, HS8⟩, ⟨%es9, HS9⟩, ⟨%es10, HS10⟩⟩
        isplitl [HS0 HS1 HS2 HS3 HS4 HS5 HS6 HS7 HS8 HS9 HS10 Hg]
        · isplitl [HS0 HS1 HS2 HS3 HS4 HS5 HS6 HS7 HS8 HS9 HS10]
          · isplitl [HS0]
            · iexact HS0
            isplitl [HS1]
            · iexact HS1
            isplitl [HS2]
            · iexact HS2
            isplitl [HS3]
            · iexact HS3
            isplitl [HS4]
            · unfold owns; iexists _; isplitr
              swap; · iexact HS4
              ipureintro; exact View.read_writes_of_cover _ _ _ _ _ (scover0_B_4 m c t h0 h1 _)
            isplitl [HS5]
            · unfold owns; iexists _; isplitr
              swap; · iexact HS5
              ipureintro; exact View.read_writes_of_cover _ _ _ _ _ (scover0_B_5 m c t h0 h1 _)
            isplitl [HS6]
            · unfold owns; iexists _; isplitr
              swap; · iexact HS6
              ipureintro; exact View.read_writes_of_cover _ _ _ _ _ (scover0_B_6 m c t h0 h1 _)
            isplitl [HS7]
            · unfold owns; iexists _; isplitr
              swap; · iexact HS7
              ipureintro; rfl
            isplitl [HS8]
            · unfold owns; iexists _; isplitr
              swap; · iexact HS8
              ipureintro; exact View.read_writes_of_cover _ _ _ _ _ (scover0_B_8 m c t h0 h1 _)
            isplitl [HS9]
            · unfold owns; iexists _; isplitr
              swap; · iexact HS9
              ipureintro; exact View.read_writes_of_cover _ _ _ _ _ (scover0_B_9 m c t h0 h1 _)
            unfold owns; iexists _; isplitr
            swap; · iexact HS10
            ipureintro; exact View.read_writes_of_cover _ _ _ _ _ (scover0_B_10 m c t h0 h1 _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]
        · unfold owns; iexists _; isplitr
          swap; · iexact H19
          ipureintro; exact View.read_writes_of_cover _ _ _ _ _ (cover0_B_19 m c t h0 h1 _)
        isplitl [H20]; · iexists _; iexact H20
        unfold owns; iexists _; isplitr
        swap; · iexact H21
        ipureintro; exact View.read_writes_of_cover _ _ _ _ _ (cover0_B_21 m c t h0 h1 _)

end Cert.Kernel5Ideal.Gen
end
-- ==== Proof.Mixer.Run.lean ====
module

public import proofs.«01_k».proof.Proof.Mixer.Body

@[expose] public section

set_option maxRecDepth 16384

noncomputable section

/-! The whole program: what every run of it leaves. -/
namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body meets what the pipeline asks of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9, HS10⟩, Hg⟩
  isplitl [HS0 HS1 HS2 HS3 HS4 HS5 HS6 HS7 HS8 HS9 HS10]
  · isplitl [HS0]
    · iexists _; iexact HS0
    isplitl [HS1]
    · iexact HS1
    isplitl [HS2]
    · iexact HS2
    isplitl [HS3]
    · iexact HS3
    isplitl [HS4]
    · iexists _; iexact HS4
    isplitl [HS5]
    · iexists _; iexact HS5
    isplitl [HS6]
    · iexists _; iexact HS6
    isplitl [HS7]
    · iexists _; iexact HS7
    isplitl [HS8]
    · iexists _; iexact HS8
    isplitl [HS9]
    · iexists _; iexact HS9
    iexists _; iexact HS10
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_around_track_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- Every weakly fair execution of the program terminates, with every array of the pipeline at the contents computed here
    and every other array as the later lines leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The frame, over any values: every execution terminates with the arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel5Ideal.Gen

end
-- ==== Proof.Mixer.Both.lean ====
module

public import proofs.«01_k».proof.Defs
public import proofs.«01_k».proof.Proof.Gen.Kernel5
public import proofs.«01_k».proof.Proof.Mixer.Run
public import Idealize.ShloMosaic.Lib.Claim
public import Idealize.ShloMosaic.Lib.Quiescent

@[expose] public section
noncomputable section
open Idealize.ShloMosaic Idealize.SL.Sem

/-! The two frames of the backward mixer from its one run. -/
namespace Cert.Proof

/-- The frame over any float values. -/
def MixerFrame (F : FTy → Type) [FloatOps F] : Prop :=
  ∀ (m : (ℓ : Loc Cert.Kernel5Ideal.nD Cert.Kernel5Ideal.τ Cert.Kernel5Ideal.sig) → Buf (Elt F) ℓ) (g : Dev Cert.Kernel5Ideal.nD → PrngReg), True →
    θ_run (Cert.Kernel5Ideal.defs (F := F)) (onTc (τ := Cert.Kernel5Ideal.τ) (Cert.Kernel5Ideal.main (F := F))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

theorem mixer_frame_any (F : FTy → Type) [FloatOps F] : MixerFrame F := fun m g _ => Cert.Kernel5Ideal.Gen.frame m g

theorem mixer_frame_ideal : Cert.quiescent_Kernel5Ideal := mixer_frame_any Ideal

theorem mixer_same : MixerFrame Bits = Cert.quiescent_Kernel5 := by sl_kernel_rfl

theorem mixer_frame : Cert.quiescent_Kernel5 := mixer_same ▸ mixer_frame_any Bits
end Cert.Proof
end
-- ==== Proof.Mixer.Rows.lean ====
module

public import proofs.«01_k».proof.Proof.Gen.Kernel5Ideal.Skeleton
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem

/-! The pool half's backward pass on one row of tokens. -/
namespace Cert.Pool

/-- Column `d` of group `g`. -/
def col (g : Fin 4) (d : Fin 128) : Fin 512 := ⟨128 * g.val + d.val, by omega⟩
/-- A column's group, -/
def grp (c : Fin 512) : Fin 4 := ⟨c.val / 128, by omega⟩
/-- and its place in the group. -/
def lane (c : Fin 512) : Fin 128 := ⟨c.val % 128, by omega⟩
theorem grp_col (g : Fin 4) (d : Fin 128) : grp (col g d) = g := by apply Fin.ext; show (128 * g.val + d.val) / 128 = g.val; omega
theorem lane_col (g : Fin 4) (d : Fin 128) : lane (col g d) = d := by apply Fin.ext; show (128 * g.val + d.val) % 128 = d.val; omega
theorem col_eta (c : Fin 512) : col (grp c) (lane c) = c := by apply Fin.ext; show 128 * (c.val / 128) + c.val % 128 = c.val; omega
theorem col0 (d : Fin 128) : col 0 d = ⟨d.val, by omega⟩ := Fin.ext (by show 128 * 0 + d.val = d.val; omega)
theorem col1 (d : Fin 128) : col 1 d = ⟨128 + d.val, by omega⟩ := rfl
theorem col2 (d : Fin 128) : col 2 d = ⟨256 + d.val, by omega⟩ := rfl
theorem col3 (d : Fin 128) : col 3 d = ⟨384 + d.val, by omega⟩ := rfl

/-- The mixed row. -/
def zR (p : Fin 512 → EReal) (W : Fin 4 → Fin 128 → Fin 128 → EReal) (pb : Fin 512 → EReal) (c : Fin 512) : EReal :=
  (∑ k : Fin 128, p (col (grp c) k) * W (grp c) k (lane c)) + pb c
/-- The mean square of a row, with the small constant. -/
def msR (y : Fin 512 → EReal) : EReal := Ideal.div (∑ k : Fin 512, y k * y k) (Ideal.ofBits .f32 0x44000000#32) + Ideal.ofBits .f32 0x358637BD#32
/-- The normed row before its gain. -/
def xR (y : Fin 512 → EReal) (c : Fin 512) : EReal := y c * Ideal.rsqrt (msR y)
/-- The cotangent of the normed row. -/
def dnR (w : Fin 1024 → EReal) (wo : Fin 512 → Fin 1024 → EReal) (c : Fin 512) : EReal := ∑ j : Fin 1024, w j * wo c j
/-- The norm's backward pass. -/
def dyR (y dn gp : Fin 512 → EReal) (c : Fin 512) : EReal :=
  Ideal.rsqrt (msR y) * (dn c * gp c - xR y c * Ideal.div (∑ l : Fin 512, dn l * gp l * xR y l) (Ideal.ofBits .f32 0x44000000#32))
/-- The cotangent of the pooled row. -/
def dpR (dz : Fin 512 → EReal) (W : Fin 4 → Fin 128 → Fin 128 → EReal) (g : Fin 4) (k : Fin 128) : EReal := ∑ d : Fin 128, dz (col g d) * W g k d

/-- The widths of the four windows. -/
def wid (g : Fin 4) : ℕ := match g with | 0 => 2 | 1 => 4 | 2 => 8 | 3 => 16
end Cert.Pool

namespace Cert.Kernel5Ideal.Pool
open Cert.Kernel5Ideal Cert.Kernel5Ideal.Gen Cert.Pool

theorem z_at (v36 : FVec Ideal S512x128 .bf16) (v37 : Vec Ideal S1x128x128 .f32) (v41 : Vec Ideal S1x512x128 .bf16) (v43 : Vec Ideal S1x128x128 .f32) (v47 : Vec Ideal S1x512x128 .bf16) (v49 : Vec Ideal S1x128x128 .f32) (v53 : Vec Ideal S1x512x128 .bf16) (v55 : Vec Ideal S1x128x128 .f32) (v60 : Vec Ideal S1x512 .f32)
    (r : Fin 512) (p : Fin 512 → EReal) (W : Fin 4 → Fin 128 → Fin 128 → EReal)
    (p0 : ∀ k, v36 (ix2 r k) = p (col 0 k)) (p1 : ∀ k, v41 (ix3 0 r k) = p (col 1 k)) (p2 : ∀ k, v47 (ix3 0 r k) = p (col 2 k)) (p3 : ∀ k, v53 (ix3 0 r k) = p (col 3 k))
    (w0 : ∀ k d, v37 (ix3 0 k d) = W 0 k d) (w1 : ∀ k d, v43 (ix3 0 k d) = W 1 k d) (w2 : ∀ k d, v49 (ix3 0 k d) = W 2 k d) (w3 : ∀ k d, v55 (ix3 0 k d) = W 3 k d) (c : Fin 512) :
    k0_pay57 (F := Ideal) v36 v37 v41 v43 v47 v49 v53 v55 v60 (ix2 r c) = zR p W (fun c => v60 (ix2 0 c)) c := by
  obtain ⟨g, d, rfl⟩ : ∃ g d, c = col g d := ⟨grp c, lane c, (col_eta c).symm⟩
  unfold zR
  rw [grp_col, lane_col]
  fin_cases g
  · show k0_pay57 (F := Ideal) v36 v37 v41 v43 v47 v49 v53 v55 v60 (ix2 r (col 0 d)) = (∑ k : Fin 128, p (col 0 k) * W 0 k d) + v60 (ix2 0 (col 0 d))
    simp only [← p0, ← w0]
    rw [col0 d]
    pointwise [k0_pay57]
  · show k0_pay57 (F := Ideal) v36 v37 v41 v43 v47 v49 v53 v55 v60 (ix2 r (col 1 d)) = (∑ k : Fin 128, p (col 1 k) * W 1 k d) + v60 (ix2 0 (col 1 d))
    simp only [← p1, ← w1]
    rw [col1 d]
    pointwise [k0_pay57]
  · show k0_pay57 (F := Ideal) v36 v37 v41 v43 v47 v49 v53 v55 v60 (ix2 r (col 2 d)) = (∑ k : Fin 128, p (col 2 k) * W 2 k d) + v60 (ix2 0 (col 2 d))
    simp only [← p2, ← w2]
    rw [col2 d]
    pointwise [k0_pay57]
    rw [dif_neg (by omega), dif_neg (by omega), dif_pos (by omega)]
    refine congrArg (· + _) (Finset.sum_congr rfl fun x _ => congrArg (fun e => v47 (ix3 0 r x) * v49 (ix3 0 x e)) (Fin.ext ?_))
    show 256 + d.val - 128 - 128 = d.val; omega
  · show k0_pay57 (F := Ideal) v36 v37 v41 v43 v47 v49 v53 v55 v60 (ix2 r (col 3 d)) = (∑ k : Fin 128, p (col 3 k) * W 3 k d) + v60 (ix2 0 (col 3 d))
    simp only [← p3, ← w3]
    rw [col3 d]
    pointwise [k0_pay57]
    rw [dif_neg (by omega), dif_neg (by omega), dif_neg (by omega)]
    refine congrArg (· + _) (Finset.sum_congr rfl fun x _ => congrArg (fun e => v53 (ix3 0 r x) * v55 (ix3 0 x e)) (Fin.ext ?_))
    show 384 + d.val - 128 - 128 - 128 = d.val; omega

theorem y_at (v7 : Vec Ideal S1x512 .f32) (v36 : FVec Ideal S512x128 .bf16) (v37 : Vec Ideal S1x128x128 .f32) (v41 : Vec Ideal S1x512x128 .bf16) (v43 : Vec Ideal S1x128x128 .f32) (v47 : Vec Ideal S1x512x128 .bf16) (v49 : Vec Ideal S1x128x128 .f32) (v53 : Vec Ideal S1x512x128 .bf16) (v55 : Vec Ideal S1x128x128 .f32) (v60 : Vec Ideal S1x512 .f32) (r c : Fin 512) :
    k0_pay58 (F := Ideal) v7 v36 v37 v41 v43 v47 v49 v53 v55 v60 (ix2 r c) = k0_pay57 (F := Ideal) v36 v37 v41 v43 v47 v49 v53 v55 v60 (ix2 r c) * v7 (ix2 0 c) := by
  pointwise [k0_pay58]

theorem rs_at (y : FVec Ideal S512x512 .f32) (r : Fin 512) : k0_pay62 (F := Ideal) y (ix2 r 0) = Ideal.rsqrt (msR fun k => y (ix2 r k)) := by
  pointwise [k0_pay62, msR]

theorem xh_at (y : FVec Ideal S512x512 .f32) (r c : Fin 512) : k0_pay64 (F := Ideal) y (ix2 r c) = xR (fun k => y (ix2 r k)) c := by
  pointwise [k0_pay64, k0_pay62, xR, msR]

theorem dn_at (v90 : Vec Ideal S512x1024 .f32) (v93 : Vec Ideal S1024x1024 .bf16) (r c : Fin 512) :
    k0_pay71 (F := Ideal) (k0_pay66 (F := Ideal) v90 v93) (ix2 r c) = dnR (fun j => v90 (ix2 r j)) (fun c j => v93 (ix2 ⟨512 + c.val, by omega⟩ j)) c := by
  pointwise [k0_pay71, k0_pay66, k0_pay65, dnR]

theorem dy_at (y : FVec Ideal S512x512 .f32) (v95 : FVec Ideal S512x1024 .f32) (v130 : Vec Ideal S1x512 .f32) (r c : Fin 512) :
    k0_pay75 (F := Ideal) (k0_pay62 (F := Ideal) y) (k0_pay64 (F := Ideal) y) v95 v130 (ix2 r c) = dyR (fun k => y (ix2 r k)) (fun k => k0_pay71 (F := Ideal) v95 (ix2 r k)) (fun c => v130 (ix2 0 c)) c := by
  pointwise [k0_pay75, k0_pay62, k0_pay64, k0_pay71, dyR, xR, msR]

theorem dz_at (v7 : Vec Ideal S1x512 .f32) (v85 : FVec Ideal S512x1 .f32) (v89 : FVec Ideal S512x512 .f32) (v95 : FVec Ideal S512x1024 .f32) (v130 : Vec Ideal S1x512 .f32) (r c : Fin 512) :
    k0_pay79 (F := Ideal) v7 v85 v89 v95 v130 (ix2 r c) = k0_pay75 (F := Ideal) v85 v89 v95 v130 (ix2 r c) * v7 (ix2 0 c) := by
  pointwise [k0_pay79, k0_pay77]

theorem dp0_at (v150 : FVec Ideal S512x512 .bf16) (v161 : Vec Ideal S1x128x128 .f32) (r : Fin 512) (W : Fin 4 → Fin 128 → Fin 128 → EReal) (hW : ∀ k d, v161 (ix3 0 k d) = W 0 k d) (k : Fin 128) :
    k0_pay81 (F := Ideal) v150 v161 (ix2 r k) = dpR (fun c => v150 (ix2 r c)) W 0 k := by
  unfold dpR
  simp only [← hW, col0]
  pointwise [k0_pay81]

theorem dp1_at (v150 : FVec Ideal S512x512 .bf16) (v161 : Vec Ideal S1x128x128 .f32) (r : Fin 512) (W : Fin 4 → Fin 128 → Fin 128 → EReal) (hW : ∀ k d, v161 (ix3 0 k d) = W 1 k d) (k : Fin 128) :
    k0_pay86 (F := Ideal) v150 v161 (ix2 r k) = dpR (fun c => v150 (ix2 r c)) W 1 k := by
  unfold dpR
  simp only [← hW, col1]
  pointwise [k0_pay86]

theorem dp2_at (v150 : FVec Ideal S512x512 .bf16) (v161 : Vec Ideal S1x128x128 .f32) (r : Fin 512) (W : Fin 4 → Fin 128 → Fin 128 → EReal) (hW : ∀ k d, v161 (ix3 0 k d) = W 2 k d) (k : Fin 128) :
    k0_pay92 (F := Ideal) v150 v161 (ix2 r k) = dpR (fun c => v150 (ix2 r c)) W 2 k := by
  unfold dpR
  simp only [← hW, col2]
  pointwise [k0_pay92]

theorem dp3_at (v150 : FVec Ideal S512x512 .bf16) (v161 : Vec Ideal S1x128x128 .f32) (r : Fin 512) (W : Fin 4 → Fin 128 → Fin 128 → EReal) (hW : ∀ k d, v161 (ix3 0 k d) = W 3 k d) (k : Fin 128) :
    k0_pay98 (F := Ideal) v150 v161 (ix2 r k) = dpR (fun c => v150 (ix2 r c)) W 3 k := by
  unfold dpR
  simp only [← hW, col3]
  pointwise [k0_pay98]

/-- A tile's rows followed by the sixteen rows after it. -/
def ext (q : Fin 512 → EReal) (n : Fin 16 → EReal) (i : ℕ) : EReal := if h : i < 512 then q ⟨i, h⟩ else if h' : i - 512 < 16 then n ⟨i - 512, h'⟩ else 0

theorem cat_at (q : FVec Ideal S512x128 .f32) (n : FVec Ideal S16x128 .f32) (i : Fin 528) (k : Fin 128) :
    concatenate S528x128 0 [⟨S512x128, q⟩, ⟨S16x128, n⟩] concatenates_S512x128_S16x128_S528x128_d0 (ix2 i k)
      = ext (fun r => q (ix2 r k)) (fun h => n (ix2 h k)) (i.val % 528) := by
  rw [Nat.mod_eq_of_lt i.isLt]
  pointwise [ext]
  split
  · rfl
  · rw [dif_pos (by have := i.isLt; omega)]
theorem cut_at (x : FVec Ideal S528x128 .f32) (r : Fin 512) (k : Fin 128) :
    extractStridedSlice S512x128 ![0, 0] x slices_S528x128_o0_0_S512x128 (ix2 r k) = x (ix2 ⟨r.val, by omega⟩ k) := by
  pointwise []

/-- Adding the rows `s` further on doubles the width of a window of `s` rows. -/
theorem double (s : ℕ) (F : ℕ → EReal) (hF : ∀ i, F (i % 528) = F i) (x y : FVec Ideal S528x128 .f32) (k : Fin 128) (hx : ∀ i : Fin 528, x (ix2 i k) = ∑ j ∈ Finset.range s, F (i.val + j))
    (hy : ∀ i : Fin 528, y (ix2 i k) = x (ix2 ⟨(i.val + s) % 528, Nat.mod_lt _ (by decide)⟩ k)) (i : Fin 528) :
    addf x y (ix2 i k) = ∑ j ∈ Finset.range (s + s), F (i.val + j) := by
  show (x (ix2 i k) : EReal) + y (ix2 i k) = _
  rw [hy, hx, hx, Finset.sum_range_add]
  refine congrArg _ (Finset.sum_congr rfl fun j _ => ?_)
  rw [← hF, ← hF (i.val + (s + j))]
  show F (((i.val + s) % 528 + j) % 528) = _
  rw [Nat.mod_add_mod, add_assoc]

theorem roll1 (x : FVec Ideal S528x128 .f32) (k : Fin 128) (i : Fin 528) :
    dynamicRotate 0 527#32 none x rotates_S528x128_d0 (ix2 i k) = x (ix2 ⟨(i.val + 1) % 528, Nat.mod_lt _ (by decide)⟩ k) := by
  pointwise []
  refine congrArg (fun e => x (ix2 e k)) (Fin.ext ?_)
  show (i.val + 528 - 527) % 528 = (i.val + 1) % 528
  omega

theorem roll2 (x : FVec Ideal S528x128 .f32) (k : Fin 128) (i : Fin 528) :
    dynamicRotate 0 526#32 none x rotates_S528x128_d0 (ix2 i k) = x (ix2 ⟨(i.val + 2) % 528, Nat.mod_lt _ (by decide)⟩ k) := by
  pointwise []
  refine congrArg (fun e => x (ix2 e k)) (Fin.ext ?_)
  show (i.val + 528 - 526) % 528 = (i.val + 2) % 528
  omega

theorem roll4 (x : FVec Ideal S528x128 .f32) (k : Fin 128) (i : Fin 528) :
    dynamicRotate 0 524#32 none x rotates_S528x128_d0 (ix2 i k) = x (ix2 ⟨(i.val + 4) % 528, Nat.mod_lt _ (by decide)⟩ k) := by
  pointwise []
  refine congrArg (fun e => x (ix2 e k)) (Fin.ext ?_)
  show (i.val + 528 - 524) % 528 = (i.val + 4) % 528
  omega

theorem roll8 (x : FVec Ideal S528x128 .f32) (k : Fin 128) (i : Fin 528) :
    dynamicRotate 0 520#32 none x rotates_S528x128_d0 (ix2 i k) = x (ix2 ⟨(i.val + 8) % 528, Nat.mod_lt _ (by decide)⟩ k) := by
  pointwise []
  refine congrArg (fun e => x (ix2 e k)) (Fin.ext ?_)
  show (i.val + 528 - 520) % 528 = (i.val + 8) % 528
  omega

/-- Windows of two, -/
abbrev two (x : FVec Ideal S528x128 .f32) : FVec Ideal S528x128 .f32 := addf x (dynamicRotate 0 527#32 none x rotates_S528x128_d0)
/-- four, -/
abbrev four (x : FVec Ideal S528x128 .f32) : FVec Ideal S528x128 .f32 := addf (two x) (dynamicRotate 0 526#32 none (two x) rotates_S528x128_d0)
/-- eight -/
abbrev eight (x : FVec Ideal S528x128 .f32) : FVec Ideal S528x128 .f32 := addf (four x) (dynamicRotate 0 524#32 none (four x) rotates_S528x128_d0)
/-- and sixteen rows. -/
abbrev sixteen (x : FVec Ideal S528x128 .f32) : FVec Ideal S528x128 .f32 := addf (eight x) (dynamicRotate 0 520#32 none (eight x) rotates_S528x128_d0)

theorem two_at (x : FVec Ideal S528x128 .f32) (F : ℕ → EReal) (hF : ∀ i, F (i % 528) = F i) (k : Fin 128) (hx : ∀ i : Fin 528, x (ix2 i k) = F (i.val % 528)) (i : Fin 528) : two x (ix2 i k) = ∑ j ∈ Finset.range 2, F (i.val + j) :=
  double 1 F hF x _ k (fun i => by rw [hx, hF, Finset.sum_range_one, add_zero]) (roll1 x k) i
theorem four_at (x : FVec Ideal S528x128 .f32) (F : ℕ → EReal) (hF : ∀ i, F (i % 528) = F i) (k : Fin 128) (hx : ∀ i : Fin 528, x (ix2 i k) = F (i.val % 528)) (i : Fin 528) : four x (ix2 i k) = ∑ j ∈ Finset.range 4, F (i.val + j) :=
  double 2 F hF _ _ k (two_at x F hF k hx) (roll2 _ k) i
theorem eight_at (x : FVec Ideal S528x128 .f32) (F : ℕ → EReal) (hF : ∀ i, F (i % 528) = F i) (k : Fin 128) (hx : ∀ i : Fin 528, x (ix2 i k) = F (i.val % 528)) (i : Fin 528) : eight x (ix2 i k) = ∑ j ∈ Finset.range 8, F (i.val + j) :=
  double 4 F hF _ _ k (four_at x F hF k hx) (roll4 _ k) i
theorem sixteen_at (x : FVec Ideal S528x128 .f32) (F : ℕ → EReal) (hF : ∀ i, F (i % 528) = F i) (k : Fin 128) (hx : ∀ i : Fin 528, x (ix2 i k) = F (i.val % 528)) (i : Fin 528) : sixteen x (ix2 i k) = ∑ j ∈ Finset.range 16, F (i.val + j) :=
  double 8 F hF _ _ k (eight_at x F hF k hx) (roll8 _ k) i

theorem window (w : ℕ) (hw : w ≤ 16) (q : Fin 512 → EReal) (n : Fin 16 → EReal) (r : Fin 512) :
    (∑ j ∈ Finset.range w, ext q n ((r.val + j) % 528)) = ∑ j ∈ Finset.range w, ext q n (r.val + j) :=
  Finset.sum_congr rfl fun j hj => by rw [Nat.mod_eq_of_lt]; have := Finset.mem_range.1 hj; omega

theorem dup0_at (v34 : IVec S16x128 32) (v150 : FVec Ideal S512x512 .bf16) (wt : Vec Ideal S1x128x128 .f32) (n : Vec Ideal S16x128 .f32) (r : Fin 512) (k : Fin 128) :
    k0_pay83 (F := Ideal) v34 v150 wt n (ix2 r k)
      = (∑ j ∈ Finset.range 2, ext (fun r => k0_pay82 (F := Ideal) v34 v150 wt (ix2 r k)) (fun h => n (ix2 h k)) (r.val + j)) - k0_pay81 (F := Ideal) v150 wt (ix2 r k) := by
  rw [← window 2 (by decide)]
  show extractStridedSlice S512x128 ![0, 0] (two (concatenate S528x128 0 [⟨S512x128, k0_pay82 (F := Ideal) v34 v150 wt⟩, ⟨S16x128, n⟩] concatenates_S512x128_S16x128_S528x128_d0)) slices_S528x128_o0_0_S512x128 (ix2 r k) - k0_pay81 (F := Ideal) v150 wt (ix2 r k) = _
  rw [cut_at, two_at _ (fun i => ext (fun r => k0_pay82 (F := Ideal) v34 v150 wt (ix2 r k)) (fun h => n (ix2 h k)) (i % 528)) (fun i => by rw [Nat.mod_mod]) k (fun i => (cat_at _ _ i k).trans (by rw [Nat.mod_mod]))]

theorem dup1_at (v34 : IVec S16x128 32) (v150 : FVec Ideal S512x512 .bf16) (wt : Vec Ideal S1x128x128 .f32) (n : Vec Ideal S16x128 .f32) (r : Fin 512) (k : Fin 128) :
    k0_pay88 (F := Ideal) v34 v150 wt n (ix2 r k)
      = (∑ j ∈ Finset.range 4, ext (fun r => k0_pay87 (F := Ideal) v34 v150 wt (ix2 r k)) (fun h => n (ix2 h k)) (r.val + j)) - k0_pay86 (F := Ideal) v150 wt (ix2 r k) := by
  rw [← window 4 (by decide)]
  show extractStridedSlice S512x128 ![0, 0] (four (concatenate S528x128 0 [⟨S512x128, k0_pay87 (F := Ideal) v34 v150 wt⟩, ⟨S16x128, n⟩] concatenates_S512x128_S16x128_S528x128_d0)) slices_S528x128_o0_0_S512x128 (ix2 r k) - k0_pay86 (F := Ideal) v150 wt (ix2 r k) = _
  rw [cut_at, four_at _ (fun i => ext (fun r => k0_pay87 (F := Ideal) v34 v150 wt (ix2 r k)) (fun h => n (ix2 h k)) (i % 528)) (fun i => by rw [Nat.mod_mod]) k (fun i => (cat_at _ _ i k).trans (by rw [Nat.mod_mod]))]

theorem dup2_at (v34 : IVec S16x128 32) (v150 : FVec Ideal S512x512 .bf16) (wt : Vec Ideal S1x128x128 .f32) (n : Vec Ideal S16x128 .f32) (r : Fin 512) (k : Fin 128) :
    k0_pay95 (F := Ideal) (k0_pay92 (F := Ideal) v150 wt) (k0_pay94 (F := Ideal) v34 v150 wt n) (ix2 r k)
      = (∑ j ∈ Finset.range 8, ext (fun r => k0_pay93 (F := Ideal) v34 v150 wt (ix2 r k)) (fun h => n (ix2 h k)) (r.val + j)) - k0_pay92 (F := Ideal) v150 wt (ix2 r k) := by
  rw [← window 8 (by decide)]
  show extractStridedSlice S512x128 ![0, 0] (eight (concatenate S528x128 0 [⟨S512x128, k0_pay93 (F := Ideal) v34 v150 wt⟩, ⟨S16x128, n⟩] concatenates_S512x128_S16x128_S528x128_d0)) slices_S528x128_o0_0_S512x128 (ix2 r k) - k0_pay92 (F := Ideal) v150 wt (ix2 r k) = _
  rw [cut_at, eight_at _ (fun i => ext (fun r => k0_pay93 (F := Ideal) v34 v150 wt (ix2 r k)) (fun h => n (ix2 h k)) (i % 528)) (fun i => by rw [Nat.mod_mod]) k (fun i => (cat_at _ _ i k).trans (by rw [Nat.mod_mod]))]

theorem dup3_at (v34 : IVec S16x128 32) (v150 : FVec Ideal S512x512 .bf16) (wt : Vec Ideal S1x128x128 .f32) (n : Vec Ideal S16x128 .f32) (r : Fin 512) (k : Fin 128) :
    k0_pay101 (F := Ideal) (k0_pay98 (F := Ideal) v150 wt) (k0_pay100 (F := Ideal) v34 v150 wt n) 526#32 (ix2 r k)
      = (∑ j ∈ Finset.range 16, ext (fun r => k0_pay99 (F := Ideal) v34 v150 wt (ix2 r k)) (fun h => n (ix2 h k)) (r.val + j)) - k0_pay98 (F := Ideal) v150 wt (ix2 r k) := by
  rw [← window 16 (by decide)]
  show extractStridedSlice S512x128 ![0, 0] (sixteen (concatenate S528x128 0 [⟨S512x128, k0_pay99 (F := Ideal) v34 v150 wt⟩, ⟨S16x128, n⟩] concatenates_S512x128_S16x128_S528x128_d0)) slices_S528x128_o0_0_S512x128 (ix2 r k) - k0_pay98 (F := Ideal) v150 wt (ix2 r k) = _
  rw [cut_at, sixteen_at _ (fun i => ext (fun r => k0_pay99 (F := Ideal) v34 v150 wt (ix2 r k)) (fun h => n (ix2 h k)) (i % 528)) (fun i => by rw [Nat.mod_mod]) k (fun i => (cat_at _ _ i k).trans (by rw [Nat.mod_mod]))]

/-- A quotient by a nonzero real is a product with its reciprocal. -/
theorem quot (x : EReal) (n : ℕ) (h : n ≠ 0) : x * Ideal.div ((1 : ℝ) : EReal) ((n : ℝ) : EReal) = Ideal.div x ((n : ℝ) : EReal) := by
  have hn : (n : ℝ) ≠ 0 := Nat.cast_ne_zero.2 h
  rw [Ideal.div_coe hn, Ideal.div_coe hn, ← EReal.coe_mul, one_mul]
theorem one : Ideal.ofBits .f32 0x3F800000#32 = ((1 : ℝ) : EReal) := by
  simp [Ideal.ofBits, Ideal.ieee]; rw [← EReal.coe_mul]; norm_num

/-- The count of the rows a window holds, as a number. -/
theorem seen (a b : ℕ) (ha : a < 2 ^ 31) (hb : b < 2 ^ 31) : FloatOps.sitofp (F := Ideal) .f32 (IntOp.minsi (BitVec.ofNat 32 a) (BitVec.ofNat 32 b)) = (((min a b : ℕ) : ℝ) : EReal) := by
  have h : ∀ n : ℕ, n < 2 ^ 31 → (BitVec.ofNat 32 n).toInt = (n : ℤ) := fun n hn => by
    rw [BitVec.toInt_ofNat', Int.bmod_def]; omega
  have e : (IntOp.minsi (BitVec.ofNat 32 a) (BitVec.ofNat 32 b)).toInt = ((min a b : ℕ) : ℤ) := by
    unfold IntOp.minsi
    simp only [BitVec.slt, BitVec.sle, h a ha, h b hb, decide_eq_true_eq]
    split <;> simp only [h a ha, h b hb] <;> omega
  show (((IntOp.minsi (BitVec.ofNat 32 a) (BitVec.ofNat 32 b)).toInt : ℝ) : EReal) = _
  rw [e, Int.cast_natCast]

theorem part2 : Ideal.ofBits .f32 0x3F000000#32 = Ideal.div ((1 : ℝ) : EReal) ((2 : ℕ) : ℝ) := by
  rw [Ideal.div_coe (by norm_num), ← EReal.coe_mul]
  simp [Ideal.ofBits, Ideal.ieee]; rw [← EReal.coe_mul]; norm_num
theorem head2 (v34 : IVec S16x128 32) (v150 : FVec Ideal S512x512 .bf16) (wt : Vec Ideal S1x128x128 .f32) (n : ℕ) (hn : n + 512 ≤ 8192) (hv : ∀ h k, v34 (ix2 h k) = BitVec.ofNat 32 (n + h.val)) (h : Fin 16) (k : Fin 128) :
    k0_pay82 (F := Ideal) v34 v150 wt (ix2 ⟨h.val, by omega⟩ k) = k0_pay81 (F := Ideal) v150 wt (ix2 ⟨h.val, by omega⟩ k) * Ideal.div ((1 : ℝ) : EReal) (((min (n + h.val + 1) 2 : ℕ) : ℝ) : EReal) := by
  pointwise [k0_pay82, hv]
  rw [show IntOp.addi (BitVec.ofNat 32 (n + h.val)) 1#32 = BitVec.ofNat 32 (n + h.val + 1) from (BitVec.ofNat_add _ _).symm, seen _ 2 (by omega) (by omega), EReal.coe_one]
theorem tail2 (v34 : IVec S16x128 32) (v150 : FVec Ideal S512x512 .bf16) (wt : Vec Ideal S1x128x128 .f32) (h : Fin 496) (k : Fin 128) :
    k0_pay82 (F := Ideal) v34 v150 wt (ix2 ⟨16 + h.val, by omega⟩ k) = k0_pay81 (F := Ideal) v150 wt (ix2 ⟨16 + h.val, by omega⟩ k) * Ideal.div ((1 : ℝ) : EReal) ((2 : ℕ) : ℝ) := by
  rw [← part2]
  pointwise [k0_pay82]
theorem q0_at (v34 : IVec S16x128 32) (v150 : FVec Ideal S512x512 .bf16) (wt : Vec Ideal S1x128x128 .f32) (n : ℕ) (hn : n + 512 ≤ 8192) (hv : ∀ h k, v34 (ix2 h k) = BitVec.ofNat 32 (n + h.val)) (r : Fin 512) (k : Fin 128) :
    k0_pay82 (F := Ideal) v34 v150 wt (ix2 r k) = Ideal.div (k0_pay81 (F := Ideal) v150 wt (ix2 r k)) (((min (n + r.val + 1) 2 : ℕ) : ℝ) : EReal) := by
  rw [← quot _ _ (by omega)]
  rcases Nat.lt_or_ge r.val 16 with hr | hr
  · exact head2 v34 v150 wt n hn hv ⟨r.val, hr⟩ k
  · have e : r = ⟨16 + (⟨r.val - 16, by omega⟩ : Fin 496).val, by omega⟩ := Fin.ext (by show r.val = 16 + (r.val - 16); omega)
    have := tail2 v34 v150 wt ⟨r.val - 16, by omega⟩ k
    rw [← e] at this
    rw [this, show min (n + r.val + 1) 2 = 2 from by omega]

theorem part4 : Ideal.ofBits .f32 0x3E800000#32 = Ideal.div ((1 : ℝ) : EReal) ((4 : ℕ) : ℝ) := by
  rw [Ideal.div_coe (by norm_num), ← EReal.coe_mul]
  simp [Ideal.ofBits, Ideal.ieee]; rw [← EReal.coe_mul]; norm_num
theorem head4 (v34 : IVec S16x128 32) (v150 : FVec Ideal S512x512 .bf16) (wt : Vec Ideal S1x128x128 .f32) (n : ℕ) (hn : n + 512 ≤ 8192) (hv : ∀ h k, v34 (ix2 h k) = BitVec.ofNat 32 (n + h.val)) (h : Fin 16) (k : Fin 128) :
    k0_pay87 (F := Ideal) v34 v150 wt (ix2 ⟨h.val, by omega⟩ k) = k0_pay86 (F := Ideal) v150 wt (ix2 ⟨h.val, by omega⟩ k) * Ideal.div ((1 : ℝ) : EReal) (((min (n + h.val + 1) 4 : ℕ) : ℝ) : EReal) := by
  pointwise [k0_pay87, hv]
  rw [show IntOp.addi (BitVec.ofNat 32 (n + h.val)) 1#32 = BitVec.ofNat 32 (n + h.val + 1) from (BitVec.ofNat_add _ _).symm, seen _ 4 (by omega) (by omega), EReal.coe_one]
theorem tail4 (v34 : IVec S16x128 32) (v150 : FVec Ideal S512x512 .bf16) (wt : Vec Ideal S1x128x128 .f32) (h : Fin 496) (k : Fin 128) :
    k0_pay87 (F := Ideal) v34 v150 wt (ix2 ⟨16 + h.val, by omega⟩ k) = k0_pay86 (F := Ideal) v150 wt (ix2 ⟨16 + h.val, by omega⟩ k) * Ideal.div ((1 : ℝ) : EReal) ((4 : ℕ) : ℝ) := by
  rw [← part4]
  pointwise [k0_pay87]
theorem q1_at (v34 : IVec S16x128 32) (v150 : FVec Ideal S512x512 .bf16) (wt : Vec Ideal S1x128x128 .f32) (n : ℕ) (hn : n + 512 ≤ 8192) (hv : ∀ h k, v34 (ix2 h k) = BitVec.ofNat 32 (n + h.val)) (r : Fin 512) (k : Fin 128) :
    k0_pay87 (F := Ideal) v34 v150 wt (ix2 r k) = Ideal.div (k0_pay86 (F := Ideal) v150 wt (ix2 r k)) (((min (n + r.val + 1) 4 : ℕ) : ℝ) : EReal) := by
  rw [← quot _ _ (by omega)]
  rcases Nat.lt_or_ge r.val 16 with hr | hr
  · exact head4 v34 v150 wt n hn hv ⟨r.val, hr⟩ k
  · have e : r = ⟨16 + (⟨r.val - 16, by omega⟩ : Fin 496).val, by omega⟩ := Fin.ext (by show r.val = 16 + (r.val - 16); omega)
    have := tail4 v34 v150 wt ⟨r.val - 16, by omega⟩ k
    rw [← e] at this
    rw [this, show min (n + r.val + 1) 4 = 4 from by omega]

theorem part8 : Ideal.ofBits .f32 0x3E000000#32 = Ideal.div ((1 : ℝ) : EReal) ((8 : ℕ) : ℝ) := by
  rw [Ideal.div_coe (by norm_num), ← EReal.coe_mul]
  simp [Ideal.ofBits, Ideal.ieee]; rw [← EReal.coe_mul]; norm_num
theorem head8 (v34 : IVec S16x128 32) (v150 : FVec Ideal S512x512 .bf16) (wt : Vec Ideal S1x128x128 .f32) (n : ℕ) (hn : n + 512 ≤ 8192) (hv : ∀ h k, v34 (ix2 h k) = BitVec.ofNat 32 (n + h.val)) (h : Fin 16) (k : Fin 128) :
    k0_pay93 (F := Ideal) v34 v150 wt (ix2 ⟨h.val, by omega⟩ k) = k0_pay92 (F := Ideal) v150 wt (ix2 ⟨h.val, by omega⟩ k) * Ideal.div ((1 : ℝ) : EReal) (((min (n + h.val + 1) 8 : ℕ) : ℝ) : EReal) := by
  pointwise [k0_pay93, hv]
  rw [show IntOp.addi (BitVec.ofNat 32 (n + h.val)) 1#32 = BitVec.ofNat 32 (n + h.val + 1) from (BitVec.ofNat_add _ _).symm, seen _ 8 (by omega) (by omega), EReal.coe_one]
theorem tail8 (v34 : IVec S16x128 32) (v150 : FVec Ideal S512x512 .bf16) (wt : Vec Ideal S1x128x128 .f32) (h : Fin 496) (k : Fin 128) :
    k0_pay93 (F := Ideal) v34 v150 wt (ix2 ⟨16 + h.val, by omega⟩ k) = k0_pay92 (F := Ideal) v150 wt (ix2 ⟨16 + h.val, by omega⟩ k) * Ideal.div ((1 : ℝ) : EReal) ((8 : ℕ) : ℝ) := by
  rw [← part8]
  pointwise [k0_pay93]
theorem q2_at (v34 : IVec S16x128 32) (v150 : FVec Ideal S512x512 .bf16) (wt : Vec Ideal S1x128x128 .f32) (n : ℕ) (hn : n + 512 ≤ 8192) (hv : ∀ h k, v34 (ix2 h k) = BitVec.ofNat 32 (n + h.val)) (r : Fin 512) (k : Fin 128) :
    k0_pay93 (F := Ideal) v34 v150 wt (ix2 r k) = Ideal.div (k0_pay92 (F := Ideal) v150 wt (ix2 r k)) (((min (n + r.val + 1) 8 : ℕ) : ℝ) : EReal) := by
  rw [← quot _ _ (by omega)]
  rcases Nat.lt_or_ge r.val 16 with hr | hr
  · exact head8 v34 v150 wt n hn hv ⟨r.val, hr⟩ k
  · have e : r = ⟨16 + (⟨r.val - 16, by omega⟩ : Fin 496).val, by omega⟩ := Fin.ext (by show r.val = 16 + (r.val - 16); omega)
    have := tail8 v34 v150 wt ⟨r.val - 16, by omega⟩ k
    rw [← e] at this
    rw [this, show min (n + r.val + 1) 8 = 8 from by omega]

theorem part16 : Ideal.ofBits .f32 0x3D800000#32 = Ideal.div ((1 : ℝ) : EReal) ((16 : ℕ) : ℝ) := by
  rw [Ideal.div_coe (by norm_num), ← EReal.coe_mul]
  simp [Ideal.ofBits, Ideal.ieee]; rw [← EReal.coe_mul]; norm_num
theorem head16 (v34 : IVec S16x128 32) (v150 : FVec Ideal S512x512 .bf16) (wt : Vec Ideal S1x128x128 .f32) (n : ℕ) (hn : n + 512 ≤ 8192) (hv : ∀ h k, v34 (ix2 h k) = BitVec.ofNat 32 (n + h.val)) (h : Fin 16) (k : Fin 128) :
    k0_pay99 (F := Ideal) v34 v150 wt (ix2 ⟨h.val, by omega⟩ k) = k0_pay98 (F := Ideal) v150 wt (ix2 ⟨h.val, by omega⟩ k) * Ideal.div ((1 : ℝ) : EReal) (((min (n + h.val + 1) 16 : ℕ) : ℝ) : EReal) := by
  pointwise [k0_pay99, hv]
  rw [show IntOp.addi (BitVec.ofNat 32 (n + h.val)) 1#32 = BitVec.ofNat 32 (n + h.val + 1) from (BitVec.ofNat_add _ _).symm, seen _ 16 (by omega) (by omega), EReal.coe_one]
theorem tail16 (v34 : IVec S16x128 32) (v150 : FVec Ideal S512x512 .bf16) (wt : Vec Ideal S1x128x128 .f32) (h : Fin 496) (k : Fin 128) :
    k0_pay99 (F := Ideal) v34 v150 wt (ix2 ⟨16 + h.val, by omega⟩ k) = k0_pay98 (F := Ideal) v150 wt (ix2 ⟨16 + h.val, by omega⟩ k) * Ideal.div ((1 : ℝ) : EReal) ((16 : ℕ) : ℝ) := by
  rw [← part16]
  pointwise [k0_pay99]
theorem q3_at (v34 : IVec S16x128 32) (v150 : FVec Ideal S512x512 .bf16) (wt : Vec Ideal S1x128x128 .f32) (n : ℕ) (hn : n + 512 ≤ 8192) (hv : ∀ h k, v34 (ix2 h k) = BitVec.ofNat 32 (n + h.val)) (r : Fin 512) (k : Fin 128) :
    k0_pay99 (F := Ideal) v34 v150 wt (ix2 r k) = Ideal.div (k0_pay98 (F := Ideal) v150 wt (ix2 r k)) (((min (n + r.val + 1) 16 : ℕ) : ℝ) : EReal) := by
  rw [← quot _ _ (by omega)]
  rcases Nat.lt_or_ge r.val 16 with hr | hr
  · exact head16 v34 v150 wt n hn hv ⟨r.val, hr⟩ k
  · have e : r = ⟨16 + (⟨r.val - 16, by omega⟩ : Fin 496).val, by omega⟩ := Fin.ext (by show r.val = 16 + (r.val - 16); omega)
    have := tail16 v34 v150 wt ⟨r.val - 16, by omega⟩ k
    rw [← e] at this
    rw [this, show min (n + r.val + 1) 16 = 16 from by omega]

theorem row_at (i : grid0.Coords) (h : Fin 16) (k : Fin 128) : k0_pay55 i (ix2 h k) = BitVec.ofNat 32 ((15 - (i 0).val) * 512 + h.val) := by
  have hi : (i 0).val < 16 := (i 0).isLt
  pointwise [k0_pay55]
  show BitVec.ofNat 32 h.val + (15#32 - BitVec.ofNat 32 (i 0).val) * 512#32 = _
  generalize (i 0).val = n at hi ⊢
  have hn : 15#32 - BitVec.ofNat 32 n = BitVec.ofNat 32 (15 - n) := by interval_cases n <;> rfl
  rw [hn, ← BitVec.ofNat_mul, ← BitVec.ofNat_add, add_comm]

theorem gp_at (v89 : FVec Ideal S512x512 .f32) (v95 : FVec Ideal S512x1024 .f32) (l : Fin 8) (c : Fin 512) :
    k0_pay73 (F := Ideal) v89 v95 (ix2 l c) = ∑ q : Fin 64, k0_pay71 (F := Ideal) v95 (ix2 ⟨q.val * 8 + l.val, by omega⟩ c) * v89 (ix2 ⟨q.val * 8 + l.val, by omega⟩ c) := by
  pointwise [k0_pay73]
theorem ps_at (v62 : FVec Ideal S512x512 .f32) (v85 : FVec Ideal S512x1 .f32) (v89 : FVec Ideal S512x512 .f32) (v95 : FVec Ideal S512x1024 .f32) (v130 : Vec Ideal S1x512 .f32) (l : Fin 8) (c : Fin 512) :
    k0_pay76 (F := Ideal) v62 v85 v89 v95 v130 (ix2 l c) = ∑ q : Fin 64, k0_pay75 (F := Ideal) v85 v89 v95 v130 (ix2 ⟨q.val * 8 + l.val, by omega⟩ c) * v62 (ix2 ⟨q.val * 8 + l.val, by omega⟩ c) := by
  pointwise [k0_pay76]
theorem pb_at (v7 : Vec Ideal S1x512 .f32) (v85 : FVec Ideal S512x1 .f32) (v89 : FVec Ideal S512x512 .f32) (v95 : FVec Ideal S512x1024 .f32) (v130 : Vec Ideal S1x512 .f32) (l : Fin 8) (c : Fin 512) :
    k0_pay78 (F := Ideal) v7 v85 v89 v95 v130 (ix2 l c) = ∑ q : Fin 64, k0_pay79 (F := Ideal) v7 v85 v89 v95 v130 (ix2 ⟨q.val * 8 + l.val, by omega⟩ c) := by
  pointwise [k0_pay78, k0_pay79]
theorem wo_at (v64 : FVec Ideal S512x512 .f32) (v66 : FVec Ideal S512x512 .f32) (v67 : Vec Ideal S1x512x512 .f32) (v90 : Vec Ideal S512x1024 .f32) (v96 : Vec Ideal S1x512 .f32) (v99 : Vec Ideal S1x512 .f32) (c : Fin 512) (j : Fin 1024) :
    k0_pay68 (F := Ideal) v64 v66 v67 v90 v96 v99 (ix2 ⟨512 + c.val, by omega⟩ j) = ∑ r : Fin 512, xR (fun k => v64 (ix2 r k)) c * v99 (ix2 0 c) * v90 (ix2 r j) := by
  simp only [← xh_at]
  pointwise [k0_pay68, k0_pay65]

theorem pw0_at (v150 : FVec Ideal S512x512 .bf16) (v151 : Vec Ideal S128x128 .f32) (v152 : Vec Ideal S1x512x128 .bf16) (k d : Fin 128) :
    k0_pay80 (F := Ideal) v150 v151 v152 (ix2 k d) = v151 (ix2 k d) + ∑ r : Fin 512, v152 (ix3 0 r k) * v150 (ix2 r (col 0 d)) := by
  simp only [col0]
  pointwise [k0_pay80]

theorem pw1_at (v150 : FVec Ideal S512x512 .bf16) (v151 : Vec Ideal S128x128 .f32) (v152 : Vec Ideal S1x512x128 .bf16) (k d : Fin 128) :
    k0_pay85 (F := Ideal) v150 v151 v152 (ix2 k d) = v151 (ix2 k d) + ∑ r : Fin 512, v152 (ix3 0 r k) * v150 (ix2 r (col 1 d)) := by
  simp only [col1]
  pointwise [k0_pay85]

theorem pw2_at (v150 : FVec Ideal S512x512 .bf16) (v151 : Vec Ideal S128x128 .f32) (v152 : Vec Ideal S1x512x128 .bf16) (k d : Fin 128) :
    k0_pay91 (F := Ideal) v150 v151 v152 (ix2 k d) = v151 (ix2 k d) + ∑ r : Fin 512, v152 (ix3 0 r k) * v150 (ix2 r (col 2 d)) := by
  simp only [col2]
  pointwise [k0_pay91]

theorem pw3_at (v150 : FVec Ideal S512x512 .bf16) (v151 : Vec Ideal S128x128 .f32) (v152 : Vec Ideal S1x512x128 .bf16) (k d : Fin 128) :
    k0_pay97 (F := Ideal) v150 v151 v152 (ix2 k d) = v151 (ix2 k d) + ∑ r : Fin 512, v152 (ix3 0 r k) * v150 (ix2 r (col 3 d)) := by
  simp only [col3]
  pointwise [k0_pay97]

end Cert.Kernel5Ideal.Pool
end
-- ==== Proof.Mixer.Block.lean ====
module

public import proofs.«01_k».proof.Proof.Mixer.Rows

@[expose] public section
set_option maxRecDepth 16384
noncomputable section
open Idealize.ShloMosaic Idealize.ShloMosaic.TcCoe Idealize.SL.Sem

/-! The pool half of one tile, read from the tile's blocks. -/
namespace Cert.Pool

/-- The parameters of the pool half: the block matrices, the bias, the scale, the gain, and the lower half of the output weights. -/
structure Par where
  W : Fin 4 → Fin 128 → Fin 128 → EReal
  pb : Fin 512 → EReal
  ps : Fin 512 → EReal
  gp : Fin 512 → EReal
  wo : Fin 512 → Fin 1024 → EReal

namespace Par
/-- The block product with its bias, of the pooled row `p`; -/
def z (π : Par) (p : Fin 512 → EReal) (c : Fin 512) : EReal := zR p π.W π.pb c
/-- scaled; -/
def y (π : Par) (p : Fin 512 → EReal) (c : Fin 512) : EReal := π.z p c * π.ps c
/-- normed. -/
def x (π : Par) (p : Fin 512 → EReal) (c : Fin 512) : EReal := xR (π.y p) c
/-- The cotangent of the normed row, of the cotangent row `w`; -/
def dn (π : Par) (w : Fin 1024 → EReal) (c : Fin 512) : EReal := dnR w π.wo c
/-- of the scaled row; -/
def dy (π : Par) (p : Fin 512 → EReal) (w : Fin 1024 → EReal) (c : Fin 512) : EReal := dyR (π.y p) (π.dn w) π.gp c
/-- of the block product; -/
def dz (π : Par) (p : Fin 512 → EReal) (w : Fin 1024 → EReal) (c : Fin 512) : EReal := π.dy p w c * π.ps c
/-- of the pooled row; -/
def dp (π : Par) (p : Fin 512 → EReal) (w : Fin 1024 → EReal) (g : Fin 4) (k : Fin 128) : EReal := dpR (π.dz p w) π.W g k
/-- divided by the number of tokens seen at position `s`. -/
def q (π : Par) (p : Fin 512 → EReal) (w : Fin 1024 → EReal) (s : ℕ) (g : Fin 4) (k : Fin 128) : EReal :=
  Ideal.div (π.dp p w g k) (((min (s + 1) (wid g) : ℕ) : ℝ) : EReal)
end Par
end Cert.Pool

namespace Cert.Kernel5Ideal.Pool
open Cert.Kernel5Ideal Cert.Kernel5Ideal.Gen Cert.Pool

/-- A tile's parameters, -/
abbrev par (x13 : Vec Ideal S4x128x128 .f32) (x14 x15 x17 : Vec Ideal S1x512 .f32) (x18 : Vec Ideal S1024x1024 .bf16) : Par where
  W g k d := x13 (ix3 g k d)
  pb c := x14 (ix2 0 c)
  ps c := x15 (ix2 0 c)
  gp c := x17 (ix2 0 c)
  wo c j := x18 (ix2 ⟨512 + c.val, by omega⟩ j)
/-- its pooled rows, -/
abbrev prow (x2 : Vec Ideal S4x512x512 .bf16) (r : Fin 512) (c : Fin 512) : EReal := x2 (ix3 3 r c)
/-- and its cotangent rows. -/
abbrev wrow (x5 : Vec Ideal S512x1024 .f32) (r : Fin 512) (j : Fin 1024) : EReal := x5 (ix2 r j)

section
variable (x2 : Vec Ideal S4x512x512 .bf16) (x13 : Vec Ideal S4x128x128 .f32) (x14 x15 x17 : Vec Ideal S1x512 .f32)
  (x5 : Vec Ideal S512x1024 .f32) (x18 : Vec Ideal S1024x1024 .bf16) (i : grid0.Coords)

/-- Group 0's pooled columns, -/
abbrev lp0 : Vec Ideal S1x512x128 .bf16 := View.ld x2 (Rect.unit ![3, 0, 0] ![1, 512, 128] inb_S4x512x512_S1x512x128_3_0_0)
/-- and its block matrix. -/
abbrev lw0 : Vec Ideal S1x128x128 .f32 := View.ld x13 (Rect.unit ![0, 0, 0] ![1, 128, 128] inb_S4x128x128_S1x128x128_0_0_0)
theorem lp0_at (r : Fin 512) (k : Fin 128) : lp0 x2 (ix3 0 r k) = prow x2 r (col 0 k) := by
  show lp0 x2 (ix3 0 r k) = x2 (ix3 3 r (col 0 k))
  rw [col0]
  unfold lp0
  pointwise []
theorem lw0_at (k d : Fin 128) : lw0 x13 (ix3 0 k d) = x13 (ix3 0 k d) := by
  unfold lw0
  pointwise []

/-- Group 1's pooled columns, -/
abbrev lp1 : Vec Ideal S1x512x128 .bf16 := View.ld x2 (Rect.unit ![3, 0, 128] ![1, 512, 128] inb_S4x512x512_S1x512x128_3_0_128)
/-- and its block matrix. -/
abbrev lw1 : Vec Ideal S1x128x128 .f32 := View.ld x13 (Rect.unit ![1, 0, 0] ![1, 128, 128] inb_S4x128x128_S1x128x128_1_0_0)
theorem lp1_at (r : Fin 512) (k : Fin 128) : lp1 x2 (ix3 0 r k) = prow x2 r (col 1 k) := by
  show lp1 x2 (ix3 0 r k) = x2 (ix3 3 r (col 1 k))
  rw [col1]
  unfold lp1
  pointwise []
theorem lw1_at (k d : Fin 128) : lw1 x13 (ix3 0 k d) = x13 (ix3 1 k d) := by
  unfold lw1
  pointwise []

/-- Group 2's pooled columns, -/
abbrev lp2 : Vec Ideal S1x512x128 .bf16 := View.ld x2 (Rect.unit ![3, 0, 256] ![1, 512, 128] inb_S4x512x512_S1x512x128_3_0_256)
/-- and its block matrix. -/
abbrev lw2 : Vec Ideal S1x128x128 .f32 := View.ld x13 (Rect.unit ![2, 0, 0] ![1, 128, 128] inb_S4x128x128_S1x128x128_2_0_0)
theorem lp2_at (r : Fin 512) (k : Fin 128) : lp2 x2 (ix3 0 r k) = prow x2 r (col 2 k) := by
  show lp2 x2 (ix3 0 r k) = x2 (ix3 3 r (col 2 k))
  rw [col2]
  unfold lp2
  pointwise []
theorem lw2_at (k d : Fin 128) : lw2 x13 (ix3 0 k d) = x13 (ix3 2 k d) := by
  unfold lw2
  pointwise []

/-- Group 3's pooled columns, -/
abbrev lp3 : Vec Ideal S1x512x128 .bf16 := View.ld x2 (Rect.unit ![3, 0, 384] ![1, 512, 128] inb_S4x512x512_S1x512x128_3_0_384)
/-- and its block matrix. -/
abbrev lw3 : Vec Ideal S1x128x128 .f32 := View.ld x13 (Rect.unit ![3, 0, 0] ![1, 128, 128] inb_S4x128x128_S1x128x128_3_0_0)
theorem lp3_at (r : Fin 512) (k : Fin 128) : lp3 x2 (ix3 0 r k) = prow x2 r (col 3 k) := by
  show lp3 x2 (ix3 0 r k) = x2 (ix3 3 r (col 3 k))
  rw [col3]
  unfold lp3
  pointwise []
theorem lw3_at (k d : Fin 128) : lw3 x13 (ix3 0 k d) = x13 (ix3 3 k d) := by
  unfold lw3
  pointwise []

/-- The block product with its bias, over the tile; -/
abbrev Zb : FVec Ideal S512x512 .f32 := k0_pay57 (F := Ideal) (k0_pay56 (lp0 x2)) (lw0 x13) (lp1 x2) (lw1 x13) (lp2 x2) (lw2 x13) (lp3 x2) (lw3 x13) x14
/-- scaled; -/
abbrev Yb : FVec Ideal S512x512 .f32 := k0_pay58 (F := Ideal) x15 (k0_pay56 (lp0 x2)) (lw0 x13) (lp1 x2) (lw1 x13) (lp2 x2) (lw2 x13) (lp3 x2) (lw3 x13) x14
/-- the cotangent of the scaled rows; -/
abbrev DYb : FVec Ideal S512x512 .f32 := k0_pay75 (F := Ideal) (k0_pay62 (Yb x2 x13 x14 x15)) (k0_pay64 (Yb x2 x13 x14 x15)) (k0_pay66 x5 x18) x17
/-- and of the block product. -/
abbrev DZb : FVec Ideal S512x512 .bf16 := k0_pay79 (F := Ideal) x15 (k0_pay62 (Yb x2 x13 x14 x15)) (k0_pay64 (Yb x2 x13 x14 x15)) (k0_pay66 x5 x18) x17

theorem first_at (v : Vec Ideal S1x512x128 .bf16) (r : Fin 512) (k : Fin 128) : k0_pay56 (F := Ideal) v (ix2 r k) = v (ix3 0 r k) := by
  pointwise [k0_pay56]

theorem Z_at (r c : Fin 512) : Zb x2 x13 x14 (ix2 r c) = (par x13 x14 x15 x17 x18).z (prow x2 r) c :=
  z_at _ _ _ _ _ _ _ _ _ r (prow x2 r) (fun g k d => x13 (ix3 g k d))
    (fun k => (first_at _ r k).trans (lp0_at x2 r k)) (fun k => lp1_at x2 r k) (fun k => lp2_at x2 r k) (fun k => lp3_at x2 r k)
    (fun k d => lw0_at x13 k d) (fun k d => lw1_at x13 k d) (fun k d => lw2_at x13 k d) (fun k d => lw3_at x13 k d) c

theorem Y_at (r c : Fin 512) : Yb x2 x13 x14 x15 (ix2 r c) = (par x13 x14 x15 x17 x18).y (prow x2 r) c :=
  (y_at x15 _ _ _ _ _ _ _ _ _ r c).trans (congrArg (· * x15 (ix2 0 c)) (Z_at x2 x13 x14 x15 x17 x18 r c))

theorem X_at (r c : Fin 512) : k0_pay64 (F := Ideal) (Yb x2 x13 x14 x15) (ix2 r c) = (par x13 x14 x15 x17 x18).x (prow x2 r) c :=
  (xh_at _ r c).trans (congrArg (fun f => xR f c) (funext fun k => Y_at x2 x13 x14 x15 x17 x18 r k))

theorem DY_at (r c : Fin 512) : DYb x2 x13 x14 x15 x17 x5 x18 (ix2 r c) = (par x13 x14 x15 x17 x18).dy (prow x2 r) (wrow x5 r) c := by
  refine (dy_at _ _ _ r c).trans ?_
  have e : (fun k => Yb x2 x13 x14 x15 (ix2 r k)) = (par x13 x14 x15 x17 x18).y (prow x2 r) := funext fun k => Y_at x2 x13 x14 x15 x17 x18 r k
  have e' : (fun k => k0_pay71 (F := Ideal) (k0_pay66 x5 x18) (ix2 r k)) = (par x13 x14 x15 x17 x18).dn (wrow x5 r) := funext fun k => dn_at x5 x18 r k
  exact congrArg₂ (fun a b => dyR a b (fun c => x17 (ix2 0 c)) c) e e'

theorem DZ_at (r c : Fin 512) : DZb x2 x13 x14 x15 x17 x5 x18 (ix2 r c) = (par x13 x14 x15 x17 x18).dz (prow x2 r) (wrow x5 r) c :=
  (dz_at x15 _ _ _ _ r c).trans (congrArg (· * x15 (ix2 0 c)) (DY_at x2 x13 x14 x15 x17 x5 x18 r c))

/-- The tile's first token. -/
abbrev base (i : grid0.Coords) : ℕ := (15 - (i 0).val) * 512
theorem base_le (i : grid0.Coords) : base i + 512 ≤ 8192 := by show (15 - (i 0).val) * 512 + 512 ≤ 8192; omega

theorem DP0_at (r : Fin 512) (k : Fin 128) : k0_pay81 (F := Ideal) (DZb x2 x13 x14 x15 x17 x5 x18) (lw0 x13) (ix2 r k) = (par x13 x14 x15 x17 x18).dp (prow x2 r) (wrow x5 r) 0 k :=
  (dp0_at _ _ r (fun g k d => x13 (ix3 g k d)) (fun k d => lw0_at x13 k d) k).trans
    (congrArg (fun f => dpR f (fun g k d => x13 (ix3 g k d)) 0 k) (funext fun c => DZ_at x2 x13 x14 x15 x17 x5 x18 r c))

theorem Q0_at (r : Fin 512) (k : Fin 128) : k0_pay82 (F := Ideal) (k0_pay55 i) (DZb x2 x13 x14 x15 x17 x5 x18) (lw0 x13) (ix2 r k) = (par x13 x14 x15 x17 x18).q (prow x2 r) (wrow x5 r) (base i + r.val) 0 k :=
  (q0_at _ _ _ (base i) (base_le i) (row_at i) r k).trans
    (congrArg (fun e => Ideal.div e (((min (base i + r.val + 1) 2 : ℕ) : ℝ) : EReal)) (DP0_at x2 x13 x14 x15 x17 x5 x18 r k))

theorem DUP0_at (n : Vec Ideal S16x128 .f32) (r : Fin 512) (k : Fin 128) : k0_pay83 (F := Ideal) (k0_pay55 i) (DZb x2 x13 x14 x15 x17 x5 x18) (lw0 x13) n (ix2 r k)
      = (∑ j ∈ Finset.range (wid 0), ext (fun r => (par x13 x14 x15 x17 x18).q (prow x2 r) (wrow x5 r) (base i + r.val) 0 k) (fun h => n (ix2 h k)) (r.val + j))
        - (par x13 x14 x15 x17 x18).dp (prow x2 r) (wrow x5 r) 0 k := by
  refine (dup0_at _ _ _ n r k).trans ?_
  rw [DP0_at x2 x13 x14 x15 x17 x5 x18 r k]
  have e := funext fun r => Q0_at x2 x13 x14 x15 x17 x5 x18 i r k
  exact congrArg (fun f => (∑ j ∈ Finset.range 2, ext f (fun h => n (ix2 h k)) (r.val + j)) - _) e

theorem DP1_at (r : Fin 512) (k : Fin 128) : k0_pay86 (F := Ideal) (DZb x2 x13 x14 x15 x17 x5 x18) (lw1 x13) (ix2 r k) = (par x13 x14 x15 x17 x18).dp (prow x2 r) (wrow x5 r) 1 k :=
  (dp1_at _ _ r (fun g k d => x13 (ix3 g k d)) (fun k d => lw1_at x13 k d) k).trans
    (congrArg (fun f => dpR f (fun g k d => x13 (ix3 g k d)) 1 k) (funext fun c => DZ_at x2 x13 x14 x15 x17 x5 x18 r c))

theorem Q1_at (r : Fin 512) (k : Fin 128) : k0_pay87 (F := Ideal) (k0_pay55 i) (DZb x2 x13 x14 x15 x17 x5 x18) (lw1 x13) (ix2 r k) = (par x13 x14 x15 x17 x18).q (prow x2 r) (wrow x5 r) (base i + r.val) 1 k :=
  (q1_at _ _ _ (base i) (base_le i) (row_at i) r k).trans
    (congrArg (fun e => Ideal.div e (((min (base i + r.val + 1) 4 : ℕ) : ℝ) : EReal)) (DP1_at x2 x13 x14 x15 x17 x5 x18 r k))

theorem DUP1_at (n : Vec Ideal S16x128 .f32) (r : Fin 512) (k : Fin 128) : k0_pay88 (F := Ideal) (k0_pay55 i) (DZb x2 x13 x14 x15 x17 x5 x18) (lw1 x13) n (ix2 r k)
      = (∑ j ∈ Finset.range (wid 1), ext (fun r => (par x13 x14 x15 x17 x18).q (prow x2 r) (wrow x5 r) (base i + r.val) 1 k) (fun h => n (ix2 h k)) (r.val + j))
        - (par x13 x14 x15 x17 x18).dp (prow x2 r) (wrow x5 r) 1 k := by
  refine (dup1_at _ _ _ n r k).trans ?_
  rw [DP1_at x2 x13 x14 x15 x17 x5 x18 r k]
  have e := funext fun r => Q1_at x2 x13 x14 x15 x17 x5 x18 i r k
  exact congrArg (fun f => (∑ j ∈ Finset.range 4, ext f (fun h => n (ix2 h k)) (r.val + j)) - _) e

theorem DP2_at (r : Fin 512) (k : Fin 128) : k0_pay92 (F := Ideal) (DZb x2 x13 x14 x15 x17 x5 x18) (lw2 x13) (ix2 r k) = (par x13 x14 x15 x17 x18).dp (prow x2 r) (wrow x5 r) 2 k :=
  (dp2_at _ _ r (fun g k d => x13 (ix3 g k d)) (fun k d => lw2_at x13 k d) k).trans
    (congrArg (fun f => dpR f (fun g k d => x13 (ix3 g k d)) 2 k) (funext fun c => DZ_at x2 x13 x14 x15 x17 x5 x18 r c))

theorem Q2_at (r : Fin 512) (k : Fin 128) : k0_pay93 (F := Ideal) (k0_pay55 i) (DZb x2 x13 x14 x15 x17 x5 x18) (lw2 x13) (ix2 r k) = (par x13 x14 x15 x17 x18).q (prow x2 r) (wrow x5 r) (base i + r.val) 2 k :=
  (q2_at _ _ _ (base i) (base_le i) (row_at i) r k).trans
    (congrArg (fun e => Ideal.div e (((min (base i + r.val + 1) 8 : ℕ) : ℝ) : EReal)) (DP2_at x2 x13 x14 x15 x17 x5 x18 r k))

theorem DUP2_at (n : Vec Ideal S16x128 .f32) (r : Fin 512) (k : Fin 128) : k0_pay95 (F := Ideal) (k0_pay92 (F := Ideal) (DZb x2 x13 x14 x15 x17 x5 x18) (lw2 x13)) (k0_pay94 (F := Ideal) (k0_pay55 i) (DZb x2 x13 x14 x15 x17 x5 x18) (lw2 x13) n) (ix2 r k)
      = (∑ j ∈ Finset.range (wid 2), ext (fun r => (par x13 x14 x15 x17 x18).q (prow x2 r) (wrow x5 r) (base i + r.val) 2 k) (fun h => n (ix2 h k)) (r.val + j))
        - (par x13 x14 x15 x17 x18).dp (prow x2 r) (wrow x5 r) 2 k := by
  refine (dup2_at _ _ _ n r k).trans ?_
  rw [DP2_at x2 x13 x14 x15 x17 x5 x18 r k]
  have e := funext fun r => Q2_at x2 x13 x14 x15 x17 x5 x18 i r k
  exact congrArg (fun f => (∑ j ∈ Finset.range 8, ext f (fun h => n (ix2 h k)) (r.val + j)) - _) e

theorem DP3_at (r : Fin 512) (k : Fin 128) : k0_pay98 (F := Ideal) (DZb x2 x13 x14 x15 x17 x5 x18) (lw3 x13) (ix2 r k) = (par x13 x14 x15 x17 x18).dp (prow x2 r) (wrow x5 r) 3 k :=
  (dp3_at _ _ r (fun g k d => x13 (ix3 g k d)) (fun k d => lw3_at x13 k d) k).trans
    (congrArg (fun f => dpR f (fun g k d => x13 (ix3 g k d)) 3 k) (funext fun c => DZ_at x2 x13 x14 x15 x17 x5 x18 r c))

theorem Q3_at (r : Fin 512) (k : Fin 128) : k0_pay99 (F := Ideal) (k0_pay55 i) (DZb x2 x13 x14 x15 x17 x5 x18) (lw3 x13) (ix2 r k) = (par x13 x14 x15 x17 x18).q (prow x2 r) (wrow x5 r) (base i + r.val) 3 k :=
  (q3_at _ _ _ (base i) (base_le i) (row_at i) r k).trans
    (congrArg (fun e => Ideal.div e (((min (base i + r.val + 1) 16 : ℕ) : ℝ) : EReal)) (DP3_at x2 x13 x14 x15 x17 x5 x18 r k))

theorem DUP3_at (n : Vec Ideal S16x128 .f32) (r : Fin 512) (k : Fin 128) : k0_pay101 (F := Ideal) (k0_pay98 (F := Ideal) (DZb x2 x13 x14 x15 x17 x5 x18) (lw3 x13)) (k0_pay100 (F := Ideal) (k0_pay55 i) (DZb x2 x13 x14 x15 x17 x5 x18) (lw3 x13) n) 526#32 (ix2 r k)
      = (∑ j ∈ Finset.range (wid 3), ext (fun r => (par x13 x14 x15 x17 x18).q (prow x2 r) (wrow x5 r) (base i + r.val) 3 k) (fun h => n (ix2 h k)) (r.val + j))
        - (par x13 x14 x15 x17 x18).dp (prow x2 r) (wrow x5 r) 3 k := by
  refine (dup3_at _ _ _ n r k).trans ?_
  rw [DP3_at x2 x13 x14 x15 x17 x5 x18 r k]
  have e := funext fun r => Q3_at x2 x13 x14 x15 x17 x5 x18 i r k
  exact congrArg (fun f => (∑ j ∈ Finset.range 16, ext f (fun h => n (ix2 h k)) (r.val + j)) - _) e

end
end Cert.Kernel5Ideal.Pool
end
-- ==== Proof.Mixer.Store.lean ====
module

public import proofs.«01_k».proof.Proof.Mixer.Block
public import Idealize.ShloMosaic.Lib.WritesUnit

@[expose] public section
set_option maxRecDepth 16384
noncomputable section
open Idealize.ShloMosaic Idealize.ShloMosaic.TcCoe Idealize.SL.Sem

/-! Reading a matrix after stores into rectangles of it. -/
namespace Cert.Store

variable {A B : ℕ} {e : EltTy} {κ : Kind} {sp : Space} {sg : RefSig}

/-- A matrix index inside a rectangle is the rectangle's own. -/
theorem inside {a b h w : ℕ} {inb : ∀ x, ![a, b] x + ![h, w] x ≤ (⟨2, ![A, B]⟩ : Shape).size x} (y0 : Fin A) (y1 : Fin B) (x0 : Fin h) (x1 : Fin w) (h0 : y0.val = a + x0.val) (h1 : y1.val = b + x1.val) :
    (ix2 y0 y1 : (⟨2, ![A, B]⟩ : Shape).Idx) = (Rect.unit (s := ⟨2, ![A, B]⟩) ![a, b] ![h, w] inb).emb (ix2 x0 x1 : (⟨2, ![h, w]⟩ : Shape).Idx) := by
  funext x
  apply Fin.ext
  fin_cases x
  · show y0.val = a + 1 * x0.val; omega
  · show y1.val = b + 1 * x1.val; omega

/-- The newest store decides inside its rectangle, -/
theorem hit {a b h w : ℕ} {inb : ∀ x, ![a, b] x + ![h, w] x ≤ (⟨2, ![A, B]⟩ : Shape).size x} {v : (Rect.unit (s := ⟨2, ![A, B]⟩) ![a, b] ![h, w] inb).shape.Idx → Elt Ideal e}
    {L : List (View.Piece (Elt Ideal) ⟨2, ![A, B]⟩ e)} (y0 : Fin A) (y1 : Fin B) (x0 : Fin h) (x1 : Fin w) (h0 : y0.val = a + x0.val) (h1 : y1.val = b + x1.val) :
    View.canon ((⟨Rect.unit ![a, b] ![h, w] inb, v⟩ : View.Piece (Elt Ideal) ⟨2, ![A, B]⟩ e) :: L) (ix2 y0 y1) = v (ix2 x0 x1 : (⟨2, ![h, w]⟩ : Shape).Idx) := by
  rw [inside (inb := inb) y0 y1 x0 x1 h0 h1]
  exact View.canon_cons_emb (Rect.unit (s := ⟨2, ![A, B]⟩) ![a, b] ![h, w] inb) v L _

/-- the older ones on other rows, -/
theorem rows {a b h w : ℕ} {inb : ∀ x, ![a, b] x + ![h, w] x ≤ (⟨2, ![A, B]⟩ : Shape).size x} {v : (Rect.unit (s := ⟨2, ![A, B]⟩) ![a, b] ![h, w] inb).shape.Idx → Elt Ideal e}
    {L : List (View.Piece (Elt Ideal) ⟨2, ![A, B]⟩ e)} {y0 : Fin A} {y1 : Fin B} (hy : y0.val < a ∨ a + h ≤ y0.val) :
    View.canon ((⟨Rect.unit ![a, b] ![h, w] inb, v⟩ : View.Piece (Elt Ideal) ⟨2, ![A, B]⟩ e) :: L) (ix2 y0 y1) = View.canon L (ix2 y0 y1) := by
  refine View.canon_cons_of_not_mem _ _ fun hm => ?_
  have h1 : a ≤ y0.val ∧ y0.val < a + h := (Rect.mem_set_unit (s := ⟨2, ![A, B]⟩) (inb := inb)).mp hm 0
  omega

/-- and on other columns. -/
theorem cols {a b h w : ℕ} {inb : ∀ x, ![a, b] x + ![h, w] x ≤ (⟨2, ![A, B]⟩ : Shape).size x} {v : (Rect.unit (s := ⟨2, ![A, B]⟩) ![a, b] ![h, w] inb).shape.Idx → Elt Ideal e}
    {L : List (View.Piece (Elt Ideal) ⟨2, ![A, B]⟩ e)} {y0 : Fin A} {y1 : Fin B} (hy : y1.val < b ∨ b + w ≤ y1.val) :
    View.canon ((⟨Rect.unit ![a, b] ![h, w] inb, v⟩ : View.Piece (Elt Ideal) ⟨2, ![A, B]⟩ e) :: L) (ix2 y0 y1) = View.canon L (ix2 y0 y1) := by
  refine View.canon_cons_of_not_mem _ _ fun hm => ?_
  have h1 : b ≤ y1.val ∧ y1.val < b + w := (Rect.mem_set_unit (s := ⟨2, ![A, B]⟩) (inb := inb)).mp hm 1
  omega

/-- The same over what was there before: inside the newest store, -/
theorem read_hit {r : View sg κ sp ⟨2, ![A, B]⟩ e} {f : r.ty.Contents (Elt Ideal)} {a b h w : ℕ} {inb : ∀ x, ![a, b] x + ![h, w] x ≤ (⟨2, ![A, B]⟩ : Shape).size x} {v : (Rect.unit (s := ⟨2, ![A, B]⟩) ![a, b] ![h, w] inb).shape.Idx → Elt Ideal e}
    {L : List (View.Piece (Elt Ideal) ⟨2, ![A, B]⟩ e)} (y0 : Fin A) (y1 : Fin B) (x0 : Fin h) (x1 : Fin w) (h0 : y0.val = a + x0.val) (h1 : y1.val = b + x1.val) :
    r.read (Elt Ideal) (r.writes (Elt Ideal) f ((⟨Rect.unit ![a, b] ![h, w] inb, v⟩ : View.Piece (Elt Ideal) ⟨2, ![A, B]⟩ e) :: L)) (ix2 y0 y1) = v (ix2 x0 x1 : (⟨2, ![h, w]⟩ : Shape).Idx) := by
  rw [inside (inb := inb) y0 y1 x0 x1 h0 h1]
  exact View.read_writes_cons_emb r f (Rect.unit (s := ⟨2, ![A, B]⟩) ![a, b] ![h, w] inb) v L _

/-- on other rows. -/
theorem read_rows {r : View sg κ sp ⟨2, ![A, B]⟩ e} {f : r.ty.Contents (Elt Ideal)} {a b h w : ℕ} {inb : ∀ x, ![a, b] x + ![h, w] x ≤ (⟨2, ![A, B]⟩ : Shape).size x} {v : (Rect.unit (s := ⟨2, ![A, B]⟩) ![a, b] ![h, w] inb).shape.Idx → Elt Ideal e}
    {L : List (View.Piece (Elt Ideal) ⟨2, ![A, B]⟩ e)} {y0 : Fin A} {y1 : Fin B} (hy : y0.val < a ∨ a + h ≤ y0.val) :
    r.read (Elt Ideal) (r.writes (Elt Ideal) f ((⟨Rect.unit ![a, b] ![h, w] inb, v⟩ : View.Piece (Elt Ideal) ⟨2, ![A, B]⟩ e) :: L)) (ix2 y0 y1) = r.read (Elt Ideal) (r.writes (Elt Ideal) f L) (ix2 y0 y1) :=
  View.read_writes_cons_unit_of_not_mem r f inb v L _ rfl 0 hy

/-- A rectangle of a matrix, -/
theorem part {a b h w : ℕ} {inb : ∀ x, ![a, b] x + ![h, w] x ≤ (⟨2, ![A, B]⟩ : Shape).size x} {X : Vec Ideal ⟨2, ![A, B]⟩ e} {x0 : Fin h} {x1 : Fin w} (y0 : Fin A) (y1 : Fin B) (h0 : y0.val = a + x0.val) (h1 : y1.val = b + x1.val) :
    View.ld X (Rect.unit (s := ⟨2, ![A, B]⟩) ![a, b] ![h, w] inb) (ix2 x0 x1 : (⟨2, ![h, w]⟩ : Shape).Idx) = X (ix2 y0 y1) :=
  congrArg X (inside (inb := inb) y0 y1 x0 x1 h0 h1).symm

/-- read back after stores. -/
theorem back {r : View sg κ sp ⟨2, ![A, B]⟩ e} {L : List (View.Piece (Elt Ideal) ⟨2, ![A, B]⟩ e)} {a b h w : ℕ} {inb : ∀ x, ![a, b] x + ![h, w] x ≤ (⟨2, ![A, B]⟩ : Shape).size x} {x0 : Fin h} {x1 : Fin w} (y0 : Fin A) (y1 : Fin B) (h0 : y0.val = a + x0.val) (h1 : y1.val = b + x1.val) :
    r.readCov L (Rect.unit (s := ⟨2, ![A, B]⟩) ![a, b] ![h, w] inb).toLoadRect (ix2 x0 x1 : (⟨2, ![h, w]⟩ : Shape).Idx) = View.canon L (ix2 y0 y1) := by
  rw [View.readCov_eq_canon']
  exact congrArg (View.canon L) (inside (inb := inb) y0 y1 x0 x1 h0 h1).symm

end Cert.Store

namespace Cert.Pool
theorem colv0 (d : Fin 128) : (col 0 d).val = d.val := by rw [col0]
theorem colv1 (d : Fin 128) : (col 1 d).val = 128 + d.val := rfl
theorem colv2 (d : Fin 128) : (col 2 d).val = 256 + d.val := rfl
theorem colv3 (d : Fin 128) : (col 3 d).val = 384 + d.val := rfl
end Cert.Pool
end
-- ==== Proof.Mixer.Entry.lean ====
module

public import proofs.«01_k».proof.Proof.Mixer.Runs
public import proofs.«01_k».proof.Proof.Gen.Reference5Ideal.Read
public import proofs.«01_k».proof.Proof.Mixer.Store
public import Idealize.ShloMosaic.Lib.Pipeline.ValueKit

@[expose] public section
set_option maxRecDepth 16384
noncomputable section
open Idealize.ShloMosaic Idealize.ShloMosaic.TcCoe Idealize.SL.Sem

/-! What the call finds in the arrays the host computed before it. -/
namespace Cert.Kernel5Ideal.Pool
open Cert.Kernel5Ideal Cert.Kernel5Ideal.Gen Cert.Pool

/-- The contents of a device's buffers. -/
abbrev Env : Type := Valuation τ sig (Elt Ideal)
/-- One buffer of them. -/
abbrev at_ (X : Env) (b : Ref sig .tc) := X (Proc.devRef .tc b)

/-- Two runs of operations, one after the other. -/
theorem after_two (l₁ l₂ : List (HloOp τ sig (Elt Ideal))) (X : Env) : StableHlo.after (l₁ ++ l₂) X = StableHlo.after l₂ (StableHlo.after l₁ X) := by
  induction l₁ generalizing X with
  | nil => rfl
  | cons op l ih => exact ih _

/-- The last of four stacked planes. -/
theorem plane3 (a b d e : FVec Ideal S1x8192x512 .f32) (s : Fin 8192) (k : Fin 512) :
    truncf (F := Ideal) .bf16 (concatenate S4x8192x512 0 [⟨S1x8192x512, a⟩, ⟨S1x8192x512, b⟩, ⟨S1x8192x512, d⟩, ⟨S1x8192x512, e⟩]
      concatenates_S1x8192x512_S1x8192x512_S1x8192x512_S1x8192x512_S4x8192x512_d0) bitsLt_bf16_f32 (ix3 3 s k) = e (ix3 0 s k) := by
  pointwise []

/-- A plane put under a new leading axis. -/
theorem lift (e : FVec Ideal S8192x512 .f32) (s : Fin 8192) (k : Fin 512) :
    broadcastInDim S1x8192x512 ![1, 2] bcast_S8192x512_S1x8192x512_1_2 e (ix3 0 s k) = e (ix2 s k) := by
  pointwise []

/-- Four columns side by side are equal where each is. -/
theorem counts_congr {a b d e a' b' d' e' : IVec S8192x1 32} (ha : a = a') (hb : b = b') (hd : d = d') (he : e = e') :
    concatenate S8192x4 1 [⟨S8192x1, a⟩, ⟨S8192x1, b⟩, ⟨S8192x1, d⟩, ⟨S8192x1, e⟩] concatenates_S8192x1_S8192x1_S8192x1_S8192x1_S8192x4_d1
      = concatenate S8192x4 1 [⟨S8192x1, a'⟩, ⟨S8192x1, b'⟩, ⟨S8192x1, d'⟩, ⟨S8192x1, e'⟩] concatenates_S8192x1_S8192x1_S8192x1_S8192x1_S8192x4_d1 := by
  rw [ha, hb, hd, he]

/-- Four groups of lanes side by side are equal where each is. -/
theorem groups_congr {a b d e a' b' d' e' : FVec Ideal S8192x128 .f32} (ha : a = a') (hb : b = b') (hd : d = d') (he : e = e') :
    concatenate S8192x512 1 [⟨S8192x128, a⟩, ⟨S8192x128, b⟩, ⟨S8192x128, d⟩, ⟨S8192x128, e⟩] concatenates_S8192x128_S8192x128_S8192x128_S8192x128_S8192x512_d1
      = concatenate S8192x512 1 [⟨S8192x128, a'⟩, ⟨S8192x128, b'⟩, ⟨S8192x128, d'⟩, ⟨S8192x128, e'⟩] concatenates_S8192x128_S8192x128_S8192x128_S8192x128_S8192x512_d1 := by
  rw [ha, hb, hd, he]

/-- The groups of a row laid out one after the other. -/
theorem flat (a : FVec Ideal S8192x4x128 .f32) (s : Fin 8192) (k : Fin 512) :
    shapeCast S8192x512 a shapeCasts_S8192x4x128_S8192x512 (ix2 s k) = a (ix3 s (grp k) (lane k)) := by
  pointwise [grp, lane]

set_option maxHeartbeats 1600000 in
/-- The last saved plane is the running means' argument of the reference. -/
theorem last_pooled (X : Env) (h : at_ X main_v533 = Cert.Reference5Ideal.Read.val_main_v10 (F := Ideal) (at_ X main_arg0)) (s : Fin 8192) (k : Fin 512) :
    StableHlo.after hostOps0_4 X (Proc.devRef .tc main_v579) (ix3 3 s k) = Cert.Reference5Ideal.Read.val_main_v37 (F := Ideal) (at_ X main_arg0) (ix3 s (grp k) (lane k)) := by
  after_results
  refine (plane3 _ _ _ _ s k).trans ?_
  dsimp only
  show StableHlo.after [] (HloOp.result _ _) (Proc.devRef .tc main_v577) (ix3 0 s k) = _
  after_results
  refine (lift _ s k).trans ((flat _ s k).trans (congrFun ?_ _))
  refine congrArg₂ (subf (F := Ideal)) (?_ : _ = Cert.Reference5Ideal.Read.val_main_v35 (F := Ideal) (at_ X main_arg0)) (?_ : _ = Cert.Reference5Ideal.Read.val_main_v36 (F := Ideal) (at_ X main_arg0))
  refine congrArg₂ (Host.divf (F := Ideal)) (?_ : _ = Cert.Reference5Ideal.Read.val_main_v18 (F := Ideal) (at_ X main_arg0)) (?_ : _ = Cert.Reference5Ideal.Read.val_main_v34 (F := Ideal))
  refine congrArg (fun x : FVec Ideal S8192x512 .f32 => shapeCast S8192x4x128 x shapeCasts_S8192x512_S8192x4x128) (?_ : _ = Cert.Reference5Ideal.Read.val_main_v17 (F := Ideal) (at_ X main_arg0))
  refine congrArg₂ (subf (F := Ideal)) (?_ : _ = Cert.Reference5Ideal.Read.val_main_v15 (F := Ideal) (at_ X main_arg0)) ((?_ : _ = Cert.Reference5Ideal.Read.val_main_v16 (F := Ideal) (at_ X main_arg0)))
  · rw [show X (Proc.devRef .tc main_v533) = _ from h]
    rfl
  · refine groups_congr ?_ ?_ ?_ ?_
    · dsimp only
      show StableHlo.after [] (HloOp.result _ _) (Proc.devRef .tc main_v534) = _
      after_results
      rw [show X (Proc.devRef .tc main_v533) = _ from h]
      rfl
    · dsimp only
      show StableHlo.after [] (HloOp.result _ _) (Proc.devRef .tc main_v535) = _
      after_results
      rw [show X (Proc.devRef .tc main_v533) = _ from h]
      rfl
    · dsimp only
      show StableHlo.after [] (HloOp.result _ _) (Proc.devRef .tc main_v536) = _
      after_results
      rw [show X (Proc.devRef .tc main_v533) = _ from h]
      rfl
    · dsimp only
      show StableHlo.after [] (HloOp.result _ _) (Proc.devRef .tc main_v537) = _
      after_results
      rw [show X (Proc.devRef .tc main_v533) = _ from h]
      rfl
  · unfold Cert.Reference5Ideal.Read.val_main_v34 Cert.Reference5Ideal.Read.val_main_v33 Cert.Reference5Ideal.Read.val_main_v32
    generalize hc : concatenate S8192x4 1 _ _ = cc
    suffices e : cc = Cert.Reference5Ideal.Read.val_main_v31 (F := Ideal) by rw [e]
    refine hc.symm.trans ?_
    refine counts_congr ?_ ?_ ?_ ?_
    · dsimp only
      show StableHlo.after [] (HloOp.result _ _) (Proc.devRef .tc main_v547) = _
      after_results
      rfl
    · dsimp only
      show StableHlo.after [] (HloOp.result _ _) (Proc.devRef .tc main_v549) = _
      after_results
      rfl
    · dsimp only
      show StableHlo.after [] (HloOp.result _ _) (Proc.devRef .tc main_v551) = _
      after_results
      rfl
    · dsimp only
      show StableHlo.after [] (HloOp.result _ _) (Proc.devRef .tc main_v553) = _
      after_results
      rfl
  · rfl

/-- The running sum of the padded rows. -/
theorem run_sum (X : Env) (h : at_ X main_v532 = Cert.Reference5Ideal.Read.val_main_v8 (F := Ideal) (at_ X main_arg0)) :
    StableHlo.after hostOps0_3 X (Proc.devRef .tc main_v533) = Cert.Reference5Ideal.Read.val_main_v10 (F := Ideal) (at_ X main_arg0) := by
  after_results
  rw [show X (Proc.devRef .tc main_v532) = _ from h]
  rfl

set_option maxHeartbeats 1600000 in
/-- The rows with sixteen rows of zeros before them. -/
theorem padded (X : Env) : StableHlo.after hostOps0_2 X (Proc.devRef .tc main_v532) = Cert.Reference5Ideal.Read.val_main_v8 (F := Ideal) (at_ X main_arg0) := by
  after_results
  rfl

theorem last_ct (X : Env) (s : Fin 8192) (j : Fin 1024) : StableHlo.after hostOps0_4 X (Proc.devRef .tc main_v586) (ix2 s j) = at_ X main_arg14 (ix3 0 s j) := by
  after_results
  refine Eq.trans ?_ (show shapeCast S8192x1024 (at_ X main_arg14) shapeCasts_S1x8192x1024_S8192x1024 (ix2 s j) = _ by pointwise [])
  rfl

theorem last_pw (X : Env) (g : Fin 4) (k d : Fin 128) : StableHlo.after hostOps0_4 X (Proc.devRef .tc main_v583) (ix3 g k d) = at_ X main_arg8 (ix4 0 g k d) := by
  after_results
  refine Eq.trans ?_ (show shapeCast S4x128x128 (at_ X main_arg8) shapeCasts_S1x4x128x128_S4x128x128 (ix3 g k d) = _ by pointwise [])
  rfl

theorem last_wo (X : Env) (c j : Fin 1024) : StableHlo.after hostOps0_4 X (Proc.devRef .tc main_v588) (ix2 c j) = at_ X main_arg13 (ix3 0 c j) := by
  after_results
  refine Eq.trans ?_ (show shapeCast S1024x1024 (at_ X main_arg13) shapeCasts_S1x1024x1024_S1024x1024 (ix2 c j) = _ by pointwise [])
  rfl

variable (m : (ℓ : Loc nD τ sig) → Buf (Elt Ideal) ℓ) (c : Dev nD)

/-- What the host held before its last run of operations. -/
def before : Env := StableHlo.after hostOps0_3 (StableHlo.after hostOps0_2 (StableHlo.after hostOps0_1 (StableHlo.after hostOps0 (fun b => m (c, b)))))

theorem V0_eq : V0 m c = StableHlo.after hostOps0_4 (before m c) := by
  unfold V0 before
  simp only [List.flatten_cons, List.flatten_nil, List.append_nil, after_two]

theorem before_arg {b : Ref sig .tc} (hb : b ∈ argRefs) : at_ (before m c) b = m ((c : Thread nD τ).loc b) := by
  have h : V0 m c (Proc.devRef .tc b) = _ := V_arg m hb c
  rw [V0_eq, StableHlo.after_of_forall_not_mem (b := Proc.devRef .tc b) _ _ (List.forall_iff_forall_mem.mp (hostOps0_4_keeps hb))] at h
  exact h

theorem before_run : at_ (before m c) main_v533 = Cert.Reference5Ideal.Read.val_main_v10 (F := Ideal) (at_ (before m c) main_arg0) := by
  have hb : main_arg0 ∈ argRefs := by decide
  unfold before
  refine (run_sum _ ?_).trans ?_
  · refine (padded _).trans ?_
    rw [at_, at_, StableHlo.after_of_forall_not_mem (b := Proc.devRef .tc main_arg0) _ _ (List.forall_iff_forall_mem.mp (hostOps0_2_keeps hb))]
  · rw [at_, at_, StableHlo.after_of_forall_not_mem (b := Proc.devRef .tc main_arg0) hostOps0_3 _ (List.forall_iff_forall_mem.mp (hostOps0_3_keeps hb))]

theorem pooled_entry (s : Fin 8192) (k : Fin 512) : V m c main_v579 (ix3 3 s k) = Cert.Reference5Ideal.Read.val_main_v37 (F := Ideal) (m ((c : Thread nD τ).loc main_arg0)) (ix3 s (grp k) (lane k)) := by
  unfold V
  rw [V0_eq, ← before_arg m c (b := main_arg0) (by decide)]
  exact last_pooled _ (before_run m c) s k

theorem ct_entry (s : Fin 8192) (j : Fin 1024) : V m c main_v586 (ix2 s j) = m ((c : Thread nD τ).loc main_arg14) (ix3 0 s j) := by
  unfold V
  rw [V0_eq, ← before_arg m c (b := main_arg14) (by decide)]
  exact last_ct _ s j

theorem pw_entry (g : Fin 4) (k d : Fin 128) : V m c main_v583 (ix3 g k d) = m ((c : Thread nD τ).loc main_arg8) (ix4 0 g k d) := by
  unfold V
  rw [V0_eq, ← before_arg m c (b := main_arg8) (by decide)]
  exact last_pw _ g k d

theorem wo_entry (d j : Fin 1024) : V m c main_v588 (ix2 d j) = m ((c : Thread nD τ).loc main_arg13) (ix3 0 d j) := by
  unfold V
  rw [V0_eq, ← before_arg m c (b := main_arg13) (by decide)]
  exact last_wo _ d j
end Cert.Kernel5Ideal.Pool
end
-- ==== Proof.Mixer.Terms.lean ====
module

public import proofs.«01_k».proof.Proof.Mixer.Store

@[expose] public section
set_option maxRecDepth 16384
noncomputable section
open Idealize.ShloMosaic Idealize.ShloMosaic.TcCoe Idealize.SL.Sem

/-! What one tile adds to each gradient of the pool half. -/
namespace Cert.Pool.Par
variable (π : Par) (P : Fin 512 → Fin 512 → EReal) (w : Fin 512 → Fin 1024 → EReal)

/-- The bias's gradient, over every eighth row from `l`; -/
def pbT (l : Fin 8) (c : Fin 512) : EReal := ∑ q : Fin 64, π.dz (P ⟨q.val * 8 + l.val, by omega⟩) (w ⟨q.val * 8 + l.val, by omega⟩) c
/-- the scale's; -/
def psT (l : Fin 8) (c : Fin 512) : EReal := ∑ q : Fin 64, π.dy (P ⟨q.val * 8 + l.val, by omega⟩) (w ⟨q.val * 8 + l.val, by omega⟩) c * π.z (P ⟨q.val * 8 + l.val, by omega⟩) c
/-- the gain's; -/
def gpT (l : Fin 8) (c : Fin 512) : EReal := ∑ q : Fin 64, π.dn (w ⟨q.val * 8 + l.val, by omega⟩) c * π.x (P ⟨q.val * 8 + l.val, by omega⟩) c
/-- the block matrices'; -/
def pwT (g : Fin 4) (k d : Fin 128) : EReal := ∑ r : Fin 512, P r (col g k) * π.dz (P r) (w r) (col g d)
/-- the output weights'. -/
def woT (c : Fin 512) (j : Fin 1024) : EReal := ∑ r : Fin 512, π.x (P r) c * π.gp c * w r j
/-- The cotangent of the pool half's inputs at a tile that starts at token `b`, from the tile's own divided rows and the next rows `n`. -/
def duT (b : ℕ) (n : Fin 4 → Fin 16 → Fin 128 → EReal) (r : Fin 512) (g : Fin 4) (k : Fin 128) : EReal :=
  (∑ j ∈ Finset.range (wid g), Cert.Kernel5Ideal.Pool.ext (fun r => π.q (P r) (w r) (b + r.val) g k) (fun h => n g h k) (r.val + j)) - π.dp (P r) (w r) g k
end Cert.Pool.Par

namespace Cert.Kernel5Ideal.Pool
open Cert.Kernel5Ideal Cert.Kernel5Ideal.Gen Cert.Pool

section
variable (x2 : Vec Ideal S4x512x512 .bf16) (x13 : Vec Ideal S4x128x128 .f32) (x14 x15 x17 : Vec Ideal S1x512 .f32)
  (x5 : Vec Ideal S512x1024 .f32) (x18 : Vec Ideal S1024x1024 .bf16) (i : grid0.Coords)

theorem PB_at (l : Fin 8) (c : Fin 512) : k0_pay78 (F := Ideal) x15 (k0_pay62 (Yb x2 x13 x14 x15)) (k0_pay64 (Yb x2 x13 x14 x15)) (k0_pay66 x5 x18) x17 (ix2 l c) = (par x13 x14 x15 x17 x18).pbT (prow x2) (wrow x5) l c :=
  (pb_at _ _ _ _ _ l c).trans (Finset.sum_congr rfl fun _ _ => DZ_at x2 x13 x14 x15 x17 x5 x18 _ c)

theorem PS_at (l : Fin 8) (c : Fin 512) : k0_pay76 (F := Ideal) (Zb x2 x13 x14) (k0_pay62 (Yb x2 x13 x14 x15)) (k0_pay64 (Yb x2 x13 x14 x15)) (k0_pay66 x5 x18) x17 (ix2 l c) = (par x13 x14 x15 x17 x18).psT (prow x2) (wrow x5) l c :=
  (ps_at _ _ _ _ _ l c).trans (Finset.sum_congr rfl fun _ _ => congrArg₂ (· * ·) (DY_at x2 x13 x14 x15 x17 x5 x18 _ c) (Z_at x2 x13 x14 x15 x17 x18 _ c))

theorem GP_at (l : Fin 8) (c : Fin 512) : k0_pay73 (F := Ideal) (k0_pay64 (Yb x2 x13 x14 x15)) (k0_pay66 x5 x18) (ix2 l c) = (par x13 x14 x15 x17 x18).gpT (prow x2) (wrow x5) l c :=
  (gp_at _ _ l c).trans (Finset.sum_congr rfl fun _ _ => congrArg₂ (· * ·) (dn_at x5 x18 _ c) (X_at x2 x13 x14 x15 x17 x18 _ c))

theorem WO_at (v66 : FVec Ideal S512x512 .f32) (v67 : Vec Ideal S1x512x512 .f32) (v96 : Vec Ideal S1x512 .f32) (c : Fin 512) (j : Fin 1024) :
    k0_pay68 (F := Ideal) (Yb x2 x13 x14 x15) v66 v67 x5 v96 x17 (ix2 ⟨512 + c.val, by omega⟩ j) = (par x13 x14 x15 x17 x18).woT (prow x2) (wrow x5) c j := by
  refine (wo_at _ _ _ _ _ _ c j).trans (Finset.sum_congr rfl fun r _ => ?_)
  have e : (fun k => Yb x2 x13 x14 x15 (ix2 r k)) = (par x13 x14 x15 x17 x18).y (prow x2 r) := funext fun k => Y_at x2 x13 x14 x15 x17 x18 r k
  exact congrArg (fun f => xR f c * x17 (ix2 0 c) * x5 (ix2 r j)) e

theorem PW0_at (v : Vec Ideal S128x128 .f32) (k d : Fin 128) : k0_pay80 (F := Ideal) (DZb x2 x13 x14 x15 x17 x5 x18) v (lp0 x2) (ix2 k d) = v (ix2 k d) + (par x13 x14 x15 x17 x18).pwT (prow x2) (wrow x5) 0 k d :=
  (pw0_at _ _ _ k d).trans (congrArg (v (ix2 k d) + ·) (Finset.sum_congr rfl fun r _ => congrArg₂ (· * ·) (lp0_at x2 r k) (DZ_at x2 x13 x14 x15 x17 x5 x18 r _)))

theorem PW1_at (v : Vec Ideal S128x128 .f32) (k d : Fin 128) : k0_pay85 (F := Ideal) (DZb x2 x13 x14 x15 x17 x5 x18) v (lp1 x2) (ix2 k d) = v (ix2 k d) + (par x13 x14 x15 x17 x18).pwT (prow x2) (wrow x5) 1 k d :=
  (pw1_at _ _ _ k d).trans (congrArg (v (ix2 k d) + ·) (Finset.sum_congr rfl fun r _ => congrArg₂ (· * ·) (lp1_at x2 r k) (DZ_at x2 x13 x14 x15 x17 x5 x18 r _)))

theorem PW2_at (v : Vec Ideal S128x128 .f32) (k d : Fin 128) : k0_pay91 (F := Ideal) (DZb x2 x13 x14 x15 x17 x5 x18) v (lp2 x2) (ix2 k d) = v (ix2 k d) + (par x13 x14 x15 x17 x18).pwT (prow x2) (wrow x5) 2 k d :=
  (pw2_at _ _ _ k d).trans (congrArg (v (ix2 k d) + ·) (Finset.sum_congr rfl fun r _ => congrArg₂ (· * ·) (lp2_at x2 r k) (DZ_at x2 x13 x14 x15 x17 x5 x18 r _)))

theorem PW3_at (v : Vec Ideal S128x128 .f32) (k d : Fin 128) : k0_pay97 (F := Ideal) (DZb x2 x13 x14 x15 x17 x5 x18) v (lp3 x2) (ix2 k d) = v (ix2 k d) + (par x13 x14 x15 x17 x18).pwT (prow x2) (wrow x5) 3 k d :=
  (pw3_at _ _ _ k d).trans (congrArg (v (ix2 k d) + ·) (Finset.sum_congr rfl fun r _ => congrArg₂ (· * ·) (lp3_at x2 r k) (DZ_at x2 x13 x14 x15 x17 x5 x18 r _)))

theorem first0_at (v34 : IVec S16x128 32) (v150 : FVec Ideal S512x512 .bf16) (wt : Vec Ideal S1x128x128 .f32) (h : Fin 16) (k : Fin 128) :
    k0_pay84 (F := Ideal) v34 v150 wt (ix2 h k) = k0_pay82 (F := Ideal) v34 v150 wt (ix2 ⟨h.val, by omega⟩ k) := by
  pointwise [k0_pay84]

theorem NX0_at (h : Fin 16) (k : Fin 128) : k0_pay84 (F := Ideal) (k0_pay55 i) (DZb x2 x13 x14 x15 x17 x5 x18) (lw0 x13) (ix2 h k)
    = (par x13 x14 x15 x17 x18).q (prow x2 ⟨h.val, by omega⟩) (wrow x5 ⟨h.val, by omega⟩) (base i + h.val) 0 k :=
  (first0_at _ _ _ h k).trans (Q0_at x2 x13 x14 x15 x17 x5 x18 i ⟨h.val, by omega⟩ k)

theorem first1_at (v34 : IVec S16x128 32) (v150 : FVec Ideal S512x512 .bf16) (wt : Vec Ideal S1x128x128 .f32) (h : Fin 16) (k : Fin 128) :
    k0_pay90 (F := Ideal) (k0_pay89 (F := Ideal) v34 v150 wt) (ix2 h k) = k0_pay87 (F := Ideal) v34 v150 wt (ix2 ⟨h.val, by omega⟩ k) := by
  pointwise [k0_pay90, k0_pay89]

theorem NX1_at (h : Fin 16) (k : Fin 128) : k0_pay90 (F := Ideal) (k0_pay89 (F := Ideal) (k0_pay55 i) (DZb x2 x13 x14 x15 x17 x5 x18) (lw1 x13)) (ix2 h k)
    = (par x13 x14 x15 x17 x18).q (prow x2 ⟨h.val, by omega⟩) (wrow x5 ⟨h.val, by omega⟩) (base i + h.val) 1 k :=
  (first1_at _ _ _ h k).trans (Q1_at x2 x13 x14 x15 x17 x5 x18 i ⟨h.val, by omega⟩ k)

theorem first2_at (v34 : IVec S16x128 32) (v150 : FVec Ideal S512x512 .bf16) (wt : Vec Ideal S1x128x128 .f32) (h : Fin 16) (k : Fin 128) :
    k0_pay96 (F := Ideal) (k0_pay93 (F := Ideal) v34 v150 wt) (ix2 h k) = k0_pay93 (F := Ideal) v34 v150 wt (ix2 ⟨h.val, by omega⟩ k) := by
  pointwise [k0_pay96]

theorem NX2_at (h : Fin 16) (k : Fin 128) : k0_pay96 (F := Ideal) (k0_pay93 (F := Ideal) (k0_pay55 i) (DZb x2 x13 x14 x15 x17 x5 x18) (lw2 x13)) (ix2 h k)
    = (par x13 x14 x15 x17 x18).q (prow x2 ⟨h.val, by omega⟩) (wrow x5 ⟨h.val, by omega⟩) (base i + h.val) 2 k :=
  (first2_at _ _ _ h k).trans (Q2_at x2 x13 x14 x15 x17 x5 x18 i ⟨h.val, by omega⟩ k)

theorem first3_at (v34 : IVec S16x128 32) (v150 : FVec Ideal S512x512 .bf16) (wt : Vec Ideal S1x128x128 .f32) (h : Fin 16) (k : Fin 128) :
    k0_pay102 (F := Ideal) (k0_pay99 (F := Ideal) v34 v150 wt) (ix2 h k) = k0_pay99 (F := Ideal) v34 v150 wt (ix2 ⟨h.val, by omega⟩ k) := by
  pointwise [k0_pay102]

theorem NX3_at (h : Fin 16) (k : Fin 128) : k0_pay102 (F := Ideal) (k0_pay99 (F := Ideal) (k0_pay55 i) (DZb x2 x13 x14 x15 x17 x5 x18) (lw3 x13)) (ix2 h k)
    = (par x13 x14 x15 x17 x18).q (prow x2 ⟨h.val, by omega⟩) (wrow x5 ⟨h.val, by omega⟩) (base i + h.val) 3 k :=
  (first3_at _ _ _ h k).trans (Q3_at x2 x13 x14 x15 x17 x5 x18 i ⟨h.val, by omega⟩ k)

end

theorem add156 (a b : Vec Ideal S8x512 .f32) (l : Fin 8) (c : Fin 512) : k0_pay156 (F := Ideal) a b (ix2 l c) = b (ix2 l c) + a (ix2 l c) := by
  pointwise [k0_pay156]
theorem add157 (a b : Vec Ideal S8x512 .f32) (l : Fin 8) (c : Fin 512) : k0_pay157 (F := Ideal) a b (ix2 l c) = b (ix2 l c) + a (ix2 l c) := by
  pointwise [k0_pay157]
theorem add158 (a b : Vec Ideal S8x512 .f32) (l : Fin 8) (c : Fin 512) : k0_pay158 (F := Ideal) a b (ix2 l c) = b (ix2 l c) + a (ix2 l c) := by
  pointwise [k0_pay158]
theorem add69 (a b : FVec Ideal S1024x1024 .f32) (k j : Fin 1024) : k0_pay69 (F := Ideal) (k0_pay67 a) b (ix2 k j) = a (ix2 k j) + b (ix2 k j) := by
  pointwise [k0_pay69, k0_pay67]
theorem zero48 (k : Fin 128) (c : Fin 512) : k0_pay48 (F := Ideal) (ix2 k c) = 0 := by
  pointwise [k0_pay48]
theorem zero51 (k : Fin 128) (c : Fin 512) : k0_pay51 (F := Ideal) (ix2 k c) = 0 := by
  pointwise [k0_pay51]
theorem zero52 (k j : Fin 1024) : k0_pay52 (F := Ideal) (ix2 k j) = 0 := by
  pointwise [k0_pay52]
theorem zero47 (k : Fin 16) (c : Fin 512) : k0_pay47 (F := Ideal) (ix2 k c) = 0 := by
  pointwise [k0_pay47]
theorem row8_at (v593 v596 v599 v602 v605 v608 v611 v620 : FVec Ideal S1x512 .f32) (v621 v624 v627 v630 : Vec Ideal S8x512 .f32) (c : Fin 512) :
    k0_pay31 (F := Ideal) v593 v596 v599 v602 v605 v608 v611 v620 v621 v624 v627 v630 (ix2 ⟨8, by omega⟩ c) = ∑ l : Fin 8, v621 (ix2 l c) := by
  pointwise [k0_pay31]
theorem row9_at (v593 v596 v599 v602 v605 v608 v611 v620 : FVec Ideal S1x512 .f32) (v621 v624 v627 v630 : Vec Ideal S8x512 .f32) (c : Fin 512) :
    k0_pay31 (F := Ideal) v593 v596 v599 v602 v605 v608 v611 v620 v621 v624 v627 v630 (ix2 ⟨9, by omega⟩ c) = ∑ l : Fin 8, v624 (ix2 l c) := by
  pointwise [k0_pay31]
theorem row11_at (v593 v596 v599 v602 v605 v608 v611 v620 : FVec Ideal S1x512 .f32) (v621 v624 v627 v630 : Vec Ideal S8x512 .f32) (c : Fin 512) :
    k0_pay31 (F := Ideal) v593 v596 v599 v602 v605 v608 v611 v620 v621 v624 v627 v630 (ix2 ⟨11, by omega⟩ c) = ∑ l : Fin 8, v630 (ix2 l c) := by
  pointwise [k0_pay31]
theorem du0_at (a0 a1 a2 a3 : FVec Ideal S512x128 .f32) (b b' : FVec Ideal S512x512 .f32) (r : Fin 512) (k : Fin 128) :
    k0_pay163 (F := Ideal) a0 a1 a2 a3 b b' (ix2 r ⟨1024 + k.val, by omega⟩) = a0 (ix2 r k) := by
  pointwise [k0_pay163]
  rw [dif_neg (by omega), dif_neg (by omega), dif_pos (by omega)]
  exact congrArg (fun q => a0 (ix2 r q)) (Fin.ext (by show 1024 + k.val - 512 - 512 = k.val; omega))
theorem du1_at (a0 a1 a2 a3 : FVec Ideal S512x128 .f32) (b b' : FVec Ideal S512x512 .f32) (r : Fin 512) (k : Fin 128) :
    k0_pay163 (F := Ideal) a0 a1 a2 a3 b b' (ix2 r ⟨1152 + k.val, by omega⟩) = a1 (ix2 r k) := by
  pointwise [k0_pay163]
  rw [dif_neg (by omega), dif_neg (by omega), dif_neg (by omega), dif_pos (by omega)]
  exact congrArg (fun q => a1 (ix2 r q)) (Fin.ext (by show 1152 + k.val - 512 - 512 - 128 = k.val; omega))
theorem du2_at (a0 a1 a2 a3 : FVec Ideal S512x128 .f32) (b b' : FVec Ideal S512x512 .f32) (r : Fin 512) (k : Fin 128) :
    k0_pay163 (F := Ideal) a0 a1 a2 a3 b b' (ix2 r ⟨1280 + k.val, by omega⟩) = a2 (ix2 r k) := by
  pointwise [k0_pay163]
  rw [dif_neg (by omega), dif_neg (by omega), dif_neg (by omega), dif_neg (by omega), dif_pos (by omega)]
  exact congrArg (fun q => a2 (ix2 r q)) (Fin.ext (by show 1280 + k.val - 512 - 512 - 128 - 128 = k.val; omega))
theorem du3_at (a0 a1 a2 a3 : FVec Ideal S512x128 .f32) (b b' : FVec Ideal S512x512 .f32) (r : Fin 512) (k : Fin 128) :
    k0_pay163 (F := Ideal) a0 a1 a2 a3 b b' (ix2 r ⟨1408 + k.val, by omega⟩) = a3 (ix2 r k) := by
  pointwise [k0_pay163]
  rw [dif_neg (by omega), dif_neg (by omega), dif_neg (by omega), dif_neg (by omega), dif_neg (by omega)]
  exact congrArg (fun q => a3 (ix2 r q)) (Fin.ext (by show 1408 + k.val - 512 - 512 - 128 - 128 - 128 = k.val; omega))
end Cert.Kernel5Ideal.Pool
end
-- ==== Proof.Mixer.Blocks.lean ====
module

public import proofs.«01_k».proof.Proof.Mixer.Entry
public import proofs.«01_k».proof.Proof.Mixer.Body
public import proofs.«01_k».proof.Proof.Mixer.Terms

@[expose] public section
set_option maxRecDepth 16384
noncomputable section
open Idealize.ShloMosaic Idealize.ShloMosaic.TcCoe Idealize.SL.Sem
open Idealize.ShloMosaic.Pipeline (Dat)

/-! The blocks a grid point reads, as entries of the program's arguments. -/
namespace Cert.Kernel5Ideal.Pool
open Cert.Kernel5Ideal Cert.Kernel5Ideal.Gen Cert.Pool
variable (m : (ℓ : Loc nD τ sig) → Buf (Elt Ideal) ℓ) (c : Dev nD)

/-- The pooled rows of the whole sequence, -/
def pooled (s : Fin 8192) (k : Fin 512) : EReal := Cert.Reference5Ideal.Read.val_main_v37 (F := Ideal) (m ((c : Thread nD τ).loc main_arg0)) (ix3 s (grp k) (lane k))
/-- the rows of the cotangent, -/
def cts (s : Fin 8192) (j : Fin 1024) : EReal := m ((c : Thread nD τ).loc main_arg14) (ix3 0 s j)
/-- and the parameters. -/
def par0 : Par where
  W g k d := m ((c : Thread nD τ).loc main_arg8) (ix4 0 g k d)
  pb d := m ((c : Thread nD τ).loc main_arg9) (ix2 0 d)
  ps d := m ((c : Thread nD τ).loc main_arg10) (ix2 0 d)
  gp d := m ((c : Thread nD τ).loc main_arg12) (ix2 0 d)
  wo d j := m ((c : Thread nD τ).loc main_arg13) (ix3 0 ⟨512 + d.val, by omega⟩ j)

/-- The blocks each point reads: the tiles are met from the last to the first. -/
theorem idx : ∀ t : Fin cfg0.N, win0_2.index t = ![0, 15 - t.val, 0] ∧ win0_5.index t = ![15 - t.val, 0] ∧ win0_13.index t = ![0, 0, 0] ∧ win0_14.index t = ![0, 0]
    ∧ win0_15.index t = ![0, 0] ∧ win0_17.index t = ![0, 0] ∧ win0_18.index t = ![0, 0] ∧ win0_19.index t = ![15 - t.val, 0] ∧ win0_20.index t = ![0, 0] ∧ win0_21.index t = ![0, 0] ∧ (grid0.coords t 0).val = t.val :=
  (by decide +kernel : ∀ t : Fin grid0.N, _)

/-- The token a point's row stands for. -/
def tok (t : ℕ) (r : Fin 512) : Fin 8192 := ⟨(15 - t) * 512 + r.val, by omega⟩

theorem prow_eq (t : Fin cfg0.N) : prow (iblk m c 2 t) = fun r => pooled m c (tok t.val r) := by
  funext r k
  show iblk m c 2 t (ix3 3 r k) = _
  have hA : V m c (Pipeline.arrRef spec0 2) (ix3 3 (tok t.val r) k) = pooled m c (tok t.val r) k := pooled_entry m c _ k
  unfold iblk
  generalize V m c (Pipeline.arrRef spec0 2) = A at hA ⊢
  refine Eq.trans (congrArg A ?_) hA
  blk_ext [idx t, tok]

theorem wrow_eq (t : Fin cfg0.N) : wrow (iblk m c 5 t) = fun r => cts m c (tok t.val r) := by
  funext r j
  show iblk m c 5 t (ix2 r j) = _
  have hA : V m c (Pipeline.arrRef spec0 5) (ix2 (tok t.val r) j) = cts m c (tok t.val r) j := ct_entry m c _ j
  unfold iblk
  generalize V m c (Pipeline.arrRef spec0 5) = A at hA ⊢
  refine Eq.trans (congrArg A ?_) hA
  blk_ext [idx t, tok]

theorem W_eq (t : Fin cfg0.N) (g : Fin 4) (k d : Fin 128) : iblk m c 13 t (ix3 g k d) = (par0 m c).W g k d := by
  have hA : V m c (Pipeline.arrRef spec0 13) (ix3 g k d) = (par0 m c).W g k d := pw_entry m c g k d
  unfold iblk
  generalize V m c (Pipeline.arrRef spec0 13) = A at hA ⊢
  refine Eq.trans (congrArg A ?_) hA
  blk_ext [idx t]

theorem pb_eq (t : Fin cfg0.N) (d : Fin 512) : iblk m c 14 t (ix2 0 d) = (par0 m c).pb d := by
  have hA : V m c (Pipeline.arrRef spec0 14) (ix2 0 d) = (par0 m c).pb d := congrFun (V_arg m (b := main_arg9) (by decide) c) (ix2 0 d)
  unfold iblk
  generalize V m c (Pipeline.arrRef spec0 14) = A at hA ⊢
  refine Eq.trans (congrArg A ?_) hA
  blk_ext [idx t]

theorem ps_eq (t : Fin cfg0.N) (d : Fin 512) : iblk m c 15 t (ix2 0 d) = (par0 m c).ps d := by
  have hA : V m c (Pipeline.arrRef spec0 15) (ix2 0 d) = (par0 m c).ps d := congrFun (V_arg m (b := main_arg10) (by decide) c) (ix2 0 d)
  unfold iblk
  generalize V m c (Pipeline.arrRef spec0 15) = A at hA ⊢
  refine Eq.trans (congrArg A ?_) hA
  blk_ext [idx t]

theorem gp_eq (t : Fin cfg0.N) (d : Fin 512) : iblk m c 17 t (ix2 0 d) = (par0 m c).gp d := by
  have hA : V m c (Pipeline.arrRef spec0 17) (ix2 0 d) = (par0 m c).gp d := congrFun (V_arg m (b := main_arg12) (by decide) c) (ix2 0 d)
  unfold iblk
  generalize V m c (Pipeline.arrRef spec0 17) = A at hA ⊢
  refine Eq.trans (congrArg A ?_) hA
  blk_ext [idx t]

theorem wo_eq (t : Fin cfg0.N) (d : Fin 512) (j : Fin 1024) : iblk m c 18 t (ix2 ⟨512 + d.val, by omega⟩ j) = (par0 m c).wo d j := by
  have hA : V m c (Pipeline.arrRef spec0 18) (ix2 ⟨512 + d.val, by omega⟩ j) = (par0 m c).wo d j := wo_entry m c ⟨512 + d.val, by omega⟩ j
  unfold iblk
  generalize V m c (Pipeline.arrRef spec0 18) = A at hA ⊢
  refine Eq.trans (congrArg A ?_) hA
  blk_ext [idx t]

theorem par_eq (t : Fin cfg0.N) : par (iblk m c 13 t) (iblk m c 14 t) (iblk m c 15 t) (iblk m c 17 t) (iblk m c 18 t) = par0 m c :=
  congr (congr (congr (congr (congrArg Par.mk (funext fun g => funext fun k => funext fun d => W_eq m c t g k d)) (funext fun d => pb_eq m c t d)) (funext fun d => ps_eq m c t d))
    (funext fun d => gp_eq m c t d)) (funext fun d => funext fun j => wo_eq m c t d j)

theorem base_eq (t : Fin cfg0.N) : base (grid0.coords t) = (15 - t.val) * 512 := by
  have h := (idx t).2.2.2.2.2.2.2.2.2.2
  show (15 - (grid0.coords t 0).val) * 512 = _
  rw [h]
end Cert.Kernel5Ideal.Pool
end
-- ==== Proof.Mixer.PointsA.lean ====
module

public import proofs.«01_k».proof.Proof.Mixer.Outs
public import proofs.«01_k».proof.Proof.Mixer.Terms
public import Idealize.ShloMosaic.Lib.Pipeline.ReadBack

@[expose] public section
set_option maxRecDepth 16384
noncomputable section
open Idealize.ShloMosaic Idealize.ShloMosaic.TcCoe Idealize.SL.Sem

/-! What the first point leaves of the pool half. -/
namespace Cert.Kernel5Ideal.Pool
open Cert.Kernel5Ideal Cert.Kernel5Ideal.Gen Cert.Pool
variable (m : (ℓ : Loc nD τ sig) → Buf (Elt Ideal) ℓ) (c : Dev nD) (t : Fin cfg0.N)

theorem pw0_A (h0 : t.val % 16 = 0) (h1 : ¬ t.val % 16 = 15) (k d : Fin 128) :
    (pointA m c t h0 h1).2.2.2.2.2.2.2.2.2.2 (ix2 k (col 0 d)) = 0 + (par (iblk m c 13 t) (iblk m c 14 t) (iblk m c 15 t) (iblk m c 17 t) (iblk m c 18 t)).pwT (prow (iblk m c 2 t)) (wrow (iblk m c 5 t)) 0 k d := by
  unfold pointA sout0_A_10 runA
  dsimp only
  frame_out
  refine Eq.trans (Cert.Store.cols (by have hd := d.isLt; have hc := colv0 d; omega)) ?_
  refine Eq.trans (Cert.Store.cols (by have hd := d.isLt; have hc := colv0 d; omega)) ?_
  refine Eq.trans (Cert.Store.cols (by have hd := d.isLt; have hc := colv0 d; omega)) ?_
  refine Eq.trans (Cert.Store.hit k (col 0 d) k d (Nat.zero_add _).symm (by have hd := d.isLt; have hc := colv0 d; omega)) ?_
  refine Eq.trans (PW0_at _ _ _ _ _ _ _ _ k d) ?_
  refine congrArg (· + _) ?_
  refine Eq.trans (Cert.Store.back k (col 0 d) (Nat.zero_add _).symm (by have hd := d.isLt; have hc := colv0 d; omega)) ?_
  refine Eq.trans (Cert.Store.hit k (col 0 d) k (col 0 d) (Nat.zero_add _).symm (Nat.zero_add _).symm) ?_
  exact zero51 _ _

theorem pw1_A (h0 : t.val % 16 = 0) (h1 : ¬ t.val % 16 = 15) (k d : Fin 128) :
    (pointA m c t h0 h1).2.2.2.2.2.2.2.2.2.2 (ix2 k (col 1 d)) = 0 + (par (iblk m c 13 t) (iblk m c 14 t) (iblk m c 15 t) (iblk m c 17 t) (iblk m c 18 t)).pwT (prow (iblk m c 2 t)) (wrow (iblk m c 5 t)) 1 k d := by
  unfold pointA sout0_A_10 runA
  dsimp only
  frame_out
  refine Eq.trans (Cert.Store.cols (by have hd := d.isLt; have hc := colv1 d; omega)) ?_
  refine Eq.trans (Cert.Store.cols (by have hd := d.isLt; have hc := colv1 d; omega)) ?_
  refine Eq.trans (Cert.Store.hit k (col 1 d) k d (Nat.zero_add _).symm (by have hd := d.isLt; have hc := colv1 d; omega)) ?_
  refine Eq.trans (PW1_at _ _ _ _ _ _ _ _ k d) ?_
  refine congrArg (· + _) ?_
  refine Eq.trans (Cert.Store.back k (col 1 d) (Nat.zero_add _).symm (by have hd := d.isLt; have hc := colv1 d; omega)) ?_
  refine Eq.trans (Cert.Store.cols (by have hd := d.isLt; have hc := colv1 d; omega)) ?_
  refine Eq.trans (Cert.Store.hit k (col 1 d) k (col 1 d) (Nat.zero_add _).symm (Nat.zero_add _).symm) ?_
  exact zero51 _ _

theorem pw2_A (h0 : t.val % 16 = 0) (h1 : ¬ t.val % 16 = 15) (k d : Fin 128) :
    (pointA m c t h0 h1).2.2.2.2.2.2.2.2.2.2 (ix2 k (col 2 d)) = 0 + (par (iblk m c 13 t) (iblk m c 14 t) (iblk m c 15 t) (iblk m c 17 t) (iblk m c 18 t)).pwT (prow (iblk m c 2 t)) (wrow (iblk m c 5 t)) 2 k d := by
  unfold pointA sout0_A_10 runA
  dsimp only
  frame_out
  refine Eq.trans (Cert.Store.cols (by have hd := d.isLt; have hc := colv2 d; omega)) ?_
  refine Eq.trans (Cert.Store.hit k (col 2 d) k d (Nat.zero_add _).symm (by have hd := d.isLt; have hc := colv2 d; omega)) ?_
  refine Eq.trans (PW2_at _ _ _ _ _ _ _ _ k d) ?_
  refine congrArg (· + _) ?_
  refine Eq.trans (Cert.Store.back k (col 2 d) (Nat.zero_add _).symm (by have hd := d.isLt; have hc := colv2 d; omega)) ?_
  refine Eq.trans (Cert.Store.cols (by have hd := d.isLt; have hc := colv2 d; omega)) ?_
  refine Eq.trans (Cert.Store.cols (by have hd := d.isLt; have hc := colv2 d; omega)) ?_
  refine Eq.trans (Cert.Store.hit k (col 2 d) k (col 2 d) (Nat.zero_add _).symm (Nat.zero_add _).symm) ?_
  exact zero51 _ _

theorem pw3_A (h0 : t.val % 16 = 0) (h1 : ¬ t.val % 16 = 15) (k d : Fin 128) :
    (pointA m c t h0 h1).2.2.2.2.2.2.2.2.2.2 (ix2 k (col 3 d)) = 0 + (par (iblk m c 13 t) (iblk m c 14 t) (iblk m c 15 t) (iblk m c 17 t) (iblk m c 18 t)).pwT (prow (iblk m c 2 t)) (wrow (iblk m c 5 t)) 3 k d := by
  unfold pointA sout0_A_10 runA
  dsimp only
  frame_out
  refine Eq.trans (Cert.Store.hit k (col 3 d) k d (Nat.zero_add _).symm (by have hd := d.isLt; have hc := colv3 d; omega)) ?_
  refine Eq.trans (PW3_at _ _ _ _ _ _ _ _ k d) ?_
  refine congrArg (· + _) ?_
  refine Eq.trans (Cert.Store.back k (col 3 d) (Nat.zero_add _).symm (by have hd := d.isLt; have hc := colv3 d; omega)) ?_
  refine Eq.trans (Cert.Store.cols (by have hd := d.isLt; have hc := colv3 d; omega)) ?_
  refine Eq.trans (Cert.Store.cols (by have hd := d.isLt; have hc := colv3 d; omega)) ?_
  refine Eq.trans (Cert.Store.cols (by have hd := d.isLt; have hc := colv3 d; omega)) ?_
  refine Eq.trans (Cert.Store.hit k (col 3 d) k (col 3 d) (Nat.zero_add _).symm (Nat.zero_add _).symm) ?_
  exact zero51 _ _

theorem nx0_A (h0 : t.val % 16 = 0) (h1 : ¬ t.val % 16 = 15) (k : Fin 16) (d : Fin 128) :
    (pointA m c t h0 h1).2.2.2.2.2.2.1 (ix2 k (col 0 d)) = (par (iblk m c 13 t) (iblk m c 14 t) (iblk m c 15 t) (iblk m c 17 t) (iblk m c 18 t)).q (prow (iblk m c 2 t) ⟨k.val, by omega⟩) (wrow (iblk m c 5 t) ⟨k.val, by omega⟩) (base (grid0.coords t) + k.val) 0 d := by
  unfold pointA sout0_A_6 runA
  dsimp only
  frame_out
  refine Eq.trans (Cert.Store.cols (by have hd := d.isLt; have hc := colv0 d; omega)) ?_
  refine Eq.trans (Cert.Store.cols (by have hd := d.isLt; have hc := colv0 d; omega)) ?_
  refine Eq.trans (Cert.Store.cols (by have hd := d.isLt; have hc := colv0 d; omega)) ?_
  refine Eq.trans (Cert.Store.hit k (col 0 d) k d (Nat.zero_add _).symm (by have hd := d.isLt; have hc := colv0 d; omega)) ?_
  exact NX0_at _ _ _ _ _ _ _ _ k d

theorem nx1_A (h0 : t.val % 16 = 0) (h1 : ¬ t.val % 16 = 15) (k : Fin 16) (d : Fin 128) :
    (pointA m c t h0 h1).2.2.2.2.2.2.1 (ix2 k (col 1 d)) = (par (iblk m c 13 t) (iblk m c 14 t) (iblk m c 15 t) (iblk m c 17 t) (iblk m c 18 t)).q (prow (iblk m c 2 t) ⟨k.val, by omega⟩) (wrow (iblk m c 5 t) ⟨k.val, by omega⟩) (base (grid0.coords t) + k.val) 1 d := by
  unfold pointA sout0_A_6 runA
  dsimp only
  frame_out
  refine Eq.trans (Cert.Store.cols (by have hd := d.isLt; have hc := colv1 d; omega)) ?_
  refine Eq.trans (Cert.Store.cols (by have hd := d.isLt; have hc := colv1 d; omega)) ?_
  refine Eq.trans (Cert.Store.hit k (col 1 d) k d (Nat.zero_add _).symm (by have hd := d.isLt; have hc := colv1 d; omega)) ?_
  exact NX1_at _ _ _ _ _ _ _ _ k d

theorem nx2_A (h0 : t.val % 16 = 0) (h1 : ¬ t.val % 16 = 15) (k : Fin 16) (d : Fin 128) :
    (pointA m c t h0 h1).2.2.2.2.2.2.1 (ix2 k (col 2 d)) = (par (iblk m c 13 t) (iblk m c 14 t) (iblk m c 15 t) (iblk m c 17 t) (iblk m c 18 t)).q (prow (iblk m c 2 t) ⟨k.val, by omega⟩) (wrow (iblk m c 5 t) ⟨k.val, by omega⟩) (base (grid0.coords t) + k.val) 2 d := by
  unfold pointA sout0_A_6 runA
  dsimp only
  frame_out
  refine Eq.trans (Cert.Store.cols (by have hd := d.isLt; have hc := colv2 d; omega)) ?_
  refine Eq.trans (Cert.Store.hit k (col 2 d) k d (Nat.zero_add _).symm (by have hd := d.isLt; have hc := colv2 d; omega)) ?_
  exact NX2_at _ _ _ _ _ _ _ _ k d

theorem nx3_A (h0 : t.val % 16 = 0) (h1 : ¬ t.val % 16 = 15) (k : Fin 16) (d : Fin 128) :
    (pointA m c t h0 h1).2.2.2.2.2.2.1 (ix2 k (col 3 d)) = (par (iblk m c 13 t) (iblk m c 14 t) (iblk m c 15 t) (iblk m c 17 t) (iblk m c 18 t)).q (prow (iblk m c 2 t) ⟨k.val, by omega⟩) (wrow (iblk m c 5 t) ⟨k.val, by omega⟩) (base (grid0.coords t) + k.val) 3 d := by
  unfold pointA sout0_A_6 runA
  dsimp only
  frame_out
  refine Eq.trans (Cert.Store.hit k (col 3 d) k d (Nat.zero_add _).symm (by have hd := d.isLt; have hc := colv3 d; omega)) ?_
  exact NX3_at _ _ _ _ _ _ _ _ k d

theorem pb_A (h0 : t.val % 16 = 0) (h1 : ¬ t.val % 16 = 15) (l : Fin 8) (d : Fin 512) :
    (pointA m c t h0 h1).2.2.2.2.2.2.2.1 (ix2 ⟨64 + l.val, by omega⟩ d) = 0 + (par (iblk m c 13 t) (iblk m c 14 t) (iblk m c 15 t) (iblk m c 17 t) (iblk m c 18 t)).pbT (prow (iblk m c 2 t)) (wrow (iblk m c 5 t)) l d := by
  unfold pointA sout0_A_7 runA
  dsimp only
  frame_out
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.hit ⟨64 + l.val, by omega⟩ d l d rfl (Nat.zero_add _).symm) ?_
  refine Eq.trans (add158 _ _ l d) ?_
  refine congrArg₂ (· + ·) ?_ (PB_at _ _ _ _ _ _ _ l d)
  refine Eq.trans (Cert.Store.back ⟨64 + l.val, by omega⟩ d rfl (Nat.zero_add _).symm) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.hit ⟨64 + l.val, by omega⟩ d ⟨64 + l.val, by omega⟩ d (Nat.zero_add _).symm (Nat.zero_add _).symm) ?_
  exact zero48 _ _

theorem ps_A (h0 : t.val % 16 = 0) (h1 : ¬ t.val % 16 = 15) (l : Fin 8) (d : Fin 512) :
    (pointA m c t h0 h1).2.2.2.2.2.2.2.1 (ix2 ⟨72 + l.val, by omega⟩ d) = 0 + (par (iblk m c 13 t) (iblk m c 14 t) (iblk m c 15 t) (iblk m c 17 t) (iblk m c 18 t)).psT (prow (iblk m c 2 t)) (wrow (iblk m c 5 t)) l d := by
  unfold pointA sout0_A_7 runA
  dsimp only
  frame_out
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.hit ⟨72 + l.val, by omega⟩ d l d rfl (Nat.zero_add _).symm) ?_
  refine Eq.trans (add157 _ _ l d) ?_
  refine congrArg₂ (· + ·) ?_ (PS_at _ _ _ _ _ _ _ l d)
  refine Eq.trans (Cert.Store.back ⟨72 + l.val, by omega⟩ d rfl (Nat.zero_add _).symm) ?_
  refine Eq.trans (Cert.Store.rows (by dsimp only; omega)) ?_
  refine Eq.trans (Cert.Store.rows (by dsimp only; omega)) ?_
  refine Eq.trans (Cert.Store.hit ⟨72 + l.val, by omega⟩ d ⟨72 + l.val, by omega⟩ d (Nat.zero_add _).symm (Nat.zero_add _).symm) ?_
  exact zero48 _ _

theorem gp_A (h0 : t.val % 16 = 0) (h1 : ¬ t.val % 16 = 15) (l : Fin 8) (d : Fin 512) :
    (pointA m c t h0 h1).2.2.2.2.2.2.2.1 (ix2 ⟨88 + l.val, by omega⟩ d) = 0 + (par (iblk m c 13 t) (iblk m c 14 t) (iblk m c 15 t) (iblk m c 17 t) (iblk m c 18 t)).gpT (prow (iblk m c 2 t)) (wrow (iblk m c 5 t)) l d := by
  unfold pointA sout0_A_7 runA
  dsimp only
  frame_out
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.hit ⟨88 + l.val, by omega⟩ d l d rfl (Nat.zero_add _).symm) ?_
  refine Eq.trans (add156 _ _ l d) ?_
  refine congrArg₂ (· + ·) ?_ (GP_at _ _ _ _ _ _ _ l d)
  refine Eq.trans (Cert.Store.back ⟨88 + l.val, by omega⟩ d rfl (Nat.zero_add _).symm) ?_
  refine Eq.trans (Cert.Store.rows (by dsimp only; omega)) ?_
  refine Eq.trans (Cert.Store.hit ⟨88 + l.val, by omega⟩ d ⟨88 + l.val, by omega⟩ d (Nat.zero_add _).symm (Nat.zero_add _).symm) ?_
  exact zero48 _ _

theorem wo_A (h0 : t.val % 16 = 0) (h1 : ¬ t.val % 16 = 15) (d : Fin 512) (j : Fin 1024) :
    (pointA m c t h0 h1).2.2.1 (ix2 ⟨512 + d.val, by omega⟩ j) = 0 + (par (iblk m c 13 t) (iblk m c 14 t) (iblk m c 15 t) (iblk m c 17 t) (iblk m c 18 t)).woT (prow (iblk m c 2 t)) (wrow (iblk m c 5 t)) d j := by
  unfold pointA out0_A_21 runA
  dsimp only
  frame_out
  refine Eq.trans (add69 _ _ _ _) ?_
  exact congrArg₂ (· + ·) (zero52 _ _) (WO_at _ _ _ _ _ _ _ _ _ _ d j)

theorem du0_A (h0 : t.val % 16 = 0) (h1 : ¬ t.val % 16 = 15) (r : Fin 512) (d : Fin 128) :
    (pointA m c t h0 h1).1 (ix2 r ⟨1024 + d.val, by omega⟩) = (par (iblk m c 13 t) (iblk m c 14 t) (iblk m c 15 t) (iblk m c 17 t) (iblk m c 18 t)).duT (prow (iblk m c 2 t)) (wrow (iblk m c 5 t)) (base (grid0.coords t)) (fun _ _ _ => 0) r 0 d := by
  unfold pointA out0_A_19 runA
  dsimp only
  frame_out
  refine Eq.trans (du0_at _ _ _ _ _ _ r d) ?_
  refine Eq.trans (DUP0_at _ _ _ _ _ _ _ _ _ r d) ?_
  refine congrArg (fun n => (∑ j ∈ Finset.range (wid 0), ext _ n (r.val + j)) - _) (funext fun h => ?_)
  refine Eq.trans (Cert.Store.back h (col 0 d) (Nat.zero_add _).symm (by have hd := d.isLt; have hc := colv0 d; omega)) ?_
  refine Eq.trans (Cert.Store.hit h (col 0 d) h (col 0 d) (Nat.zero_add _).symm (Nat.zero_add _).symm) ?_
  exact zero47 _ _

theorem du1_A (h0 : t.val % 16 = 0) (h1 : ¬ t.val % 16 = 15) (r : Fin 512) (d : Fin 128) :
    (pointA m c t h0 h1).1 (ix2 r ⟨1152 + d.val, by omega⟩) = (par (iblk m c 13 t) (iblk m c 14 t) (iblk m c 15 t) (iblk m c 17 t) (iblk m c 18 t)).duT (prow (iblk m c 2 t)) (wrow (iblk m c 5 t)) (base (grid0.coords t)) (fun _ _ _ => 0) r 1 d := by
  unfold pointA out0_A_19 runA
  dsimp only
  frame_out
  refine Eq.trans (du1_at _ _ _ _ _ _ r d) ?_
  refine Eq.trans (DUP1_at _ _ _ _ _ _ _ _ _ r d) ?_
  refine congrArg (fun n => (∑ j ∈ Finset.range (wid 1), ext _ n (r.val + j)) - _) (funext fun h => ?_)
  refine Eq.trans (Cert.Store.back h (col 1 d) (Nat.zero_add _).symm (by have hd := d.isLt; have hc := colv1 d; omega)) ?_
  refine Eq.trans (Cert.Store.cols (by have hd := d.isLt; have hc := colv1 d; omega)) ?_
  refine Eq.trans (Cert.Store.hit h (col 1 d) h (col 1 d) (Nat.zero_add _).symm (Nat.zero_add _).symm) ?_
  exact zero47 _ _

theorem du2_A (h0 : t.val % 16 = 0) (h1 : ¬ t.val % 16 = 15) (r : Fin 512) (d : Fin 128) :
    (pointA m c t h0 h1).1 (ix2 r ⟨1280 + d.val, by omega⟩) = (par (iblk m c 13 t) (iblk m c 14 t) (iblk m c 15 t) (iblk m c 17 t) (iblk m c 18 t)).duT (prow (iblk m c 2 t)) (wrow (iblk m c 5 t)) (base (grid0.coords t)) (fun _ _ _ => 0) r 2 d := by
  unfold pointA out0_A_19 runA
  dsimp only
  frame_out
  refine Eq.trans (du2_at _ _ _ _ _ _ r d) ?_
  refine Eq.trans (DUP2_at _ _ _ _ _ _ _ _ _ r d) ?_
  refine congrArg (fun n => (∑ j ∈ Finset.range (wid 2), ext _ n (r.val + j)) - _) (funext fun h => ?_)
  refine Eq.trans (Cert.Store.back h (col 2 d) (Nat.zero_add _).symm (by have hd := d.isLt; have hc := colv2 d; omega)) ?_
  refine Eq.trans (Cert.Store.cols (by have hd := d.isLt; have hc := colv2 d; omega)) ?_
  refine Eq.trans (Cert.Store.cols (by have hd := d.isLt; have hc := colv2 d; omega)) ?_
  refine Eq.trans (Cert.Store.hit h (col 2 d) h (col 2 d) (Nat.zero_add _).symm (Nat.zero_add _).symm) ?_
  exact zero47 _ _

theorem du3_A (h0 : t.val % 16 = 0) (h1 : ¬ t.val % 16 = 15) (r : Fin 512) (d : Fin 128) :
    (pointA m c t h0 h1).1 (ix2 r ⟨1408 + d.val, by omega⟩) = (par (iblk m c 13 t) (iblk m c 14 t) (iblk m c 15 t) (iblk m c 17 t) (iblk m c 18 t)).duT (prow (iblk m c 2 t)) (wrow (iblk m c 5 t)) (base (grid0.coords t)) (fun _ _ _ => 0) r 3 d := by
  unfold pointA out0_A_19 runA
  dsimp only
  frame_out
  refine Eq.trans (du3_at _ _ _ _ _ _ r d) ?_
  refine Eq.trans (DUP3_at _ _ _ _ _ _ _ _ _ r d) ?_
  refine congrArg (fun n => (∑ j ∈ Finset.range (wid 3), ext _ n (r.val + j)) - _) (funext fun h => ?_)
  refine Eq.trans (Cert.Store.back h (col 3 d) (Nat.zero_add _).symm (by have hd := d.isLt; have hc := colv3 d; omega)) ?_
  refine Eq.trans (Cert.Store.cols (by have hd := d.isLt; have hc := colv3 d; omega)) ?_
  refine Eq.trans (Cert.Store.cols (by have hd := d.isLt; have hc := colv3 d; omega)) ?_
  refine Eq.trans (Cert.Store.cols (by have hd := d.isLt; have hc := colv3 d; omega)) ?_
  refine Eq.trans (Cert.Store.hit h (col 3 d) h (col 3 d) (Nat.zero_add _).symm (Nat.zero_add _).symm) ?_
  exact zero47 _ _

end Cert.Kernel5Ideal.Pool
end
-- ==== Proof.Mixer.PointsB.lean ====
module

public import proofs.«01_k».proof.Proof.Mixer.Outs
public import proofs.«01_k».proof.Proof.Mixer.Terms
public import Idealize.ShloMosaic.Lib.Pipeline.ReadBack

@[expose] public section
set_option maxRecDepth 16384
noncomputable section
open Idealize.ShloMosaic Idealize.ShloMosaic.TcCoe Idealize.SL.Sem

/-! What the middle points leaves of the pool half. -/
namespace Cert.Kernel5Ideal.Pool
open Cert.Kernel5Ideal Cert.Kernel5Ideal.Gen Cert.Pool
variable (m : (ℓ : Loc nD τ sig) → Buf (Elt Ideal) ℓ) (c : Dev nD) (t : Fin cfg0.N)

theorem pw0_B (h0 : ¬ t.val % 16 = 0) (h1 : ¬ t.val % 16 = 15) (p : Outs Ideal) (k d : Fin 128) :
    (pointB m c t h0 h1 p).2.2.2.2.2.2.2.2.2.2 (ix2 k (col 0 d)) = p.2.2.2.2.2.2.2.2.2.2 (ix2 k (col 0 d)) + (par (iblk m c 13 t) (iblk m c 14 t) (iblk m c 15 t) (iblk m c 17 t) (iblk m c 18 t)).pwT (prow (iblk m c 2 t)) (wrow (iblk m c 5 t)) 0 k d := by
  unfold pointB sout0_B_10 runB
  dsimp only
  frame_out
  refine Eq.trans (Cert.Store.cols (by have hd := d.isLt; have hc := colv0 d; omega)) ?_
  refine Eq.trans (Cert.Store.cols (by have hd := d.isLt; have hc := colv0 d; omega)) ?_
  refine Eq.trans (Cert.Store.cols (by have hd := d.isLt; have hc := colv0 d; omega)) ?_
  refine Eq.trans (Cert.Store.hit k (col 0 d) k d (Nat.zero_add _).symm (by have hd := d.isLt; have hc := colv0 d; omega)) ?_
  refine Eq.trans (PW0_at _ _ _ _ _ _ _ _ k d) ?_
  refine congrArg (· + _) ?_
  refine Eq.trans (Cert.Store.part k (col 0 d) (Nat.zero_add _).symm (by have hd := d.isLt; have hc := colv0 d; omega)) ?_
  rw [read_unread_whole]

theorem pw1_B (h0 : ¬ t.val % 16 = 0) (h1 : ¬ t.val % 16 = 15) (p : Outs Ideal) (k d : Fin 128) :
    (pointB m c t h0 h1 p).2.2.2.2.2.2.2.2.2.2 (ix2 k (col 1 d)) = p.2.2.2.2.2.2.2.2.2.2 (ix2 k (col 1 d)) + (par (iblk m c 13 t) (iblk m c 14 t) (iblk m c 15 t) (iblk m c 17 t) (iblk m c 18 t)).pwT (prow (iblk m c 2 t)) (wrow (iblk m c 5 t)) 1 k d := by
  unfold pointB sout0_B_10 runB
  dsimp only
  frame_out
  refine Eq.trans (Cert.Store.cols (by have hd := d.isLt; have hc := colv1 d; omega)) ?_
  refine Eq.trans (Cert.Store.cols (by have hd := d.isLt; have hc := colv1 d; omega)) ?_
  refine Eq.trans (Cert.Store.hit k (col 1 d) k d (Nat.zero_add _).symm (by have hd := d.isLt; have hc := colv1 d; omega)) ?_
  refine Eq.trans (PW1_at _ _ _ _ _ _ _ _ k d) ?_
  refine congrArg (· + _) ?_
  refine Eq.trans (Cert.Store.part k (col 1 d) (Nat.zero_add _).symm (by have hd := d.isLt; have hc := colv1 d; omega)) ?_
  rw [read_unread_whole]

theorem pw2_B (h0 : ¬ t.val % 16 = 0) (h1 : ¬ t.val % 16 = 15) (p : Outs Ideal) (k d : Fin 128) :
    (pointB m c t h0 h1 p).2.2.2.2.2.2.2.2.2.2 (ix2 k (col 2 d)) = p.2.2.2.2.2.2.2.2.2.2 (ix2 k (col 2 d)) + (par (iblk m c 13 t) (iblk m c 14 t) (iblk m c 15 t) (iblk m c 17 t) (iblk m c 18 t)).pwT (prow (iblk m c 2 t)) (wrow (iblk m c 5 t)) 2 k d := by
  unfold pointB sout0_B_10 runB
  dsimp only
  frame_out
  refine Eq.trans (Cert.Store.cols (by have hd := d.isLt; have hc := colv2 d; omega)) ?_
  refine Eq.trans (Cert.Store.hit k (col 2 d) k d (Nat.zero_add _).symm (by have hd := d.isLt; have hc := colv2 d; omega)) ?_
  refine Eq.trans (PW2_at _ _ _ _ _ _ _ _ k d) ?_
  refine congrArg (· + _) ?_
  refine Eq.trans (Cert.Store.part k (col 2 d) (Nat.zero_add _).symm (by have hd := d.isLt; have hc := colv2 d; omega)) ?_
  rw [read_unread_whole]

theorem pw3_B (h0 : ¬ t.val % 16 = 0) (h1 : ¬ t.val % 16 = 15) (p : Outs Ideal) (k d : Fin 128) :
    (pointB m c t h0 h1 p).2.2.2.2.2.2.2.2.2.2 (ix2 k (col 3 d)) = p.2.2.2.2.2.2.2.2.2.2 (ix2 k (col 3 d)) + (par (iblk m c 13 t) (iblk m c 14 t) (iblk m c 15 t) (iblk m c 17 t) (iblk m c 18 t)).pwT (prow (iblk m c 2 t)) (wrow (iblk m c 5 t)) 3 k d := by
  unfold pointB sout0_B_10 runB
  dsimp only
  frame_out
  refine Eq.trans (Cert.Store.hit k (col 3 d) k d (Nat.zero_add _).symm (by have hd := d.isLt; have hc := colv3 d; omega)) ?_
  refine Eq.trans (PW3_at _ _ _ _ _ _ _ _ k d) ?_
  refine congrArg (· + _) ?_
  refine Eq.trans (Cert.Store.part k (col 3 d) (Nat.zero_add _).symm (by have hd := d.isLt; have hc := colv3 d; omega)) ?_
  rw [read_unread_whole]

theorem nx0_B (h0 : ¬ t.val % 16 = 0) (h1 : ¬ t.val % 16 = 15) (p : Outs Ideal) (k : Fin 16) (d : Fin 128) :
    (pointB m c t h0 h1 p).2.2.2.2.2.2.1 (ix2 k (col 0 d)) = (par (iblk m c 13 t) (iblk m c 14 t) (iblk m c 15 t) (iblk m c 17 t) (iblk m c 18 t)).q (prow (iblk m c 2 t) ⟨k.val, by omega⟩) (wrow (iblk m c 5 t) ⟨k.val, by omega⟩) (base (grid0.coords t) + k.val) 0 d := by
  unfold pointB sout0_B_6 runB
  dsimp only
  frame_out
  refine Eq.trans (Cert.Store.cols (by have hd := d.isLt; have hc := colv0 d; omega)) ?_
  refine Eq.trans (Cert.Store.cols (by have hd := d.isLt; have hc := colv0 d; omega)) ?_
  refine Eq.trans (Cert.Store.cols (by have hd := d.isLt; have hc := colv0 d; omega)) ?_
  refine Eq.trans (Cert.Store.hit k (col 0 d) k d (Nat.zero_add _).symm (by have hd := d.isLt; have hc := colv0 d; omega)) ?_
  exact NX0_at _ _ _ _ _ _ _ _ k d

theorem nx1_B (h0 : ¬ t.val % 16 = 0) (h1 : ¬ t.val % 16 = 15) (p : Outs Ideal) (k : Fin 16) (d : Fin 128) :
    (pointB m c t h0 h1 p).2.2.2.2.2.2.1 (ix2 k (col 1 d)) = (par (iblk m c 13 t) (iblk m c 14 t) (iblk m c 15 t) (iblk m c 17 t) (iblk m c 18 t)).q (prow (iblk m c 2 t) ⟨k.val, by omega⟩) (wrow (iblk m c 5 t) ⟨k.val, by omega⟩) (base (grid0.coords t) + k.val) 1 d := by
  unfold pointB sout0_B_6 runB
  dsimp only
  frame_out
  refine Eq.trans (Cert.Store.cols (by have hd := d.isLt; have hc := colv1 d; omega)) ?_
  refine Eq.trans (Cert.Store.cols (by have hd := d.isLt; have hc := colv1 d; omega)) ?_
  refine Eq.trans (Cert.Store.hit k (col 1 d) k d (Nat.zero_add _).symm (by have hd := d.isLt; have hc := colv1 d; omega)) ?_
  exact NX1_at _ _ _ _ _ _ _ _ k d

theorem nx2_B (h0 : ¬ t.val % 16 = 0) (h1 : ¬ t.val % 16 = 15) (p : Outs Ideal) (k : Fin 16) (d : Fin 128) :
    (pointB m c t h0 h1 p).2.2.2.2.2.2.1 (ix2 k (col 2 d)) = (par (iblk m c 13 t) (iblk m c 14 t) (iblk m c 15 t) (iblk m c 17 t) (iblk m c 18 t)).q (prow (iblk m c 2 t) ⟨k.val, by omega⟩) (wrow (iblk m c 5 t) ⟨k.val, by omega⟩) (base (grid0.coords t) + k.val) 2 d := by
  unfold pointB sout0_B_6 runB
  dsimp only
  frame_out
  refine Eq.trans (Cert.Store.cols (by have hd := d.isLt; have hc := colv2 d; omega)) ?_
  refine Eq.trans (Cert.Store.hit k (col 2 d) k d (Nat.zero_add _).symm (by have hd := d.isLt; have hc := colv2 d; omega)) ?_
  exact NX2_at _ _ _ _ _ _ _ _ k d

theorem nx3_B (h0 : ¬ t.val % 16 = 0) (h1 : ¬ t.val % 16 = 15) (p : Outs Ideal) (k : Fin 16) (d : Fin 128) :
    (pointB m c t h0 h1 p).2.2.2.2.2.2.1 (ix2 k (col 3 d)) = (par (iblk m c 13 t) (iblk m c 14 t) (iblk m c 15 t) (iblk m c 17 t) (iblk m c 18 t)).q (prow (iblk m c 2 t) ⟨k.val, by omega⟩) (wrow (iblk m c 5 t) ⟨k.val, by omega⟩) (base (grid0.coords t) + k.val) 3 d := by
  unfold pointB sout0_B_6 runB
  dsimp only
  frame_out
  refine Eq.trans (Cert.Store.hit k (col 3 d) k d (Nat.zero_add _).symm (by have hd := d.isLt; have hc := colv3 d; omega)) ?_
  exact NX3_at _ _ _ _ _ _ _ _ k d

theorem pb_B (h0 : ¬ t.val % 16 = 0) (h1 : ¬ t.val % 16 = 15) (p : Outs Ideal) (l : Fin 8) (d : Fin 512) :
    (pointB m c t h0 h1 p).2.2.2.2.2.2.2.1 (ix2 ⟨64 + l.val, by omega⟩ d) = p.2.2.2.2.2.2.2.1 (ix2 ⟨64 + l.val, by omega⟩ d) + (par (iblk m c 13 t) (iblk m c 14 t) (iblk m c 15 t) (iblk m c 17 t) (iblk m c 18 t)).pbT (prow (iblk m c 2 t)) (wrow (iblk m c 5 t)) l d := by
  unfold pointB sout0_B_7 runB
  dsimp only
  frame_out
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_hit ⟨64 + l.val, by omega⟩ d l d rfl (Nat.zero_add _).symm) ?_
  refine Eq.trans (add158 _ _ l d) ?_
  refine congrArg₂ (· + ·) ?_ (PB_at _ _ _ _ _ _ _ l d)
  refine Eq.trans (Cert.Store.part ⟨64 + l.val, by omega⟩ d rfl (Nat.zero_add _).symm) ?_
  rw [read_unread_whole]

theorem ps_B (h0 : ¬ t.val % 16 = 0) (h1 : ¬ t.val % 16 = 15) (p : Outs Ideal) (l : Fin 8) (d : Fin 512) :
    (pointB m c t h0 h1 p).2.2.2.2.2.2.2.1 (ix2 ⟨72 + l.val, by omega⟩ d) = p.2.2.2.2.2.2.2.1 (ix2 ⟨72 + l.val, by omega⟩ d) + (par (iblk m c 13 t) (iblk m c 14 t) (iblk m c 15 t) (iblk m c 17 t) (iblk m c 18 t)).psT (prow (iblk m c 2 t)) (wrow (iblk m c 5 t)) l d := by
  unfold pointB sout0_B_7 runB
  dsimp only
  frame_out
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_hit ⟨72 + l.val, by omega⟩ d l d rfl (Nat.zero_add _).symm) ?_
  refine Eq.trans (add157 _ _ l d) ?_
  refine congrArg₂ (· + ·) ?_ (PS_at _ _ _ _ _ _ _ l d)
  refine Eq.trans (Cert.Store.part ⟨72 + l.val, by omega⟩ d rfl (Nat.zero_add _).symm) ?_
  rw [read_unread_whole]

theorem gp_B (h0 : ¬ t.val % 16 = 0) (h1 : ¬ t.val % 16 = 15) (p : Outs Ideal) (l : Fin 8) (d : Fin 512) :
    (pointB m c t h0 h1 p).2.2.2.2.2.2.2.1 (ix2 ⟨88 + l.val, by omega⟩ d) = p.2.2.2.2.2.2.2.1 (ix2 ⟨88 + l.val, by omega⟩ d) + (par (iblk m c 13 t) (iblk m c 14 t) (iblk m c 15 t) (iblk m c 17 t) (iblk m c 18 t)).gpT (prow (iblk m c 2 t)) (wrow (iblk m c 5 t)) l d := by
  unfold pointB sout0_B_7 runB
  dsimp only
  frame_out
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_hit ⟨88 + l.val, by omega⟩ d l d rfl (Nat.zero_add _).symm) ?_
  refine Eq.trans (add156 _ _ l d) ?_
  refine congrArg₂ (· + ·) ?_ (GP_at _ _ _ _ _ _ _ l d)
  refine Eq.trans (Cert.Store.part ⟨88 + l.val, by omega⟩ d rfl (Nat.zero_add _).symm) ?_
  rw [read_unread_whole]

theorem wo_B (h0 : ¬ t.val % 16 = 0) (h1 : ¬ t.val % 16 = 15) (p : Outs Ideal) (d : Fin 512) (j : Fin 1024) :
    (pointB m c t h0 h1 p).2.2.1 (ix2 ⟨512 + d.val, by omega⟩ j) = p.2.2.1 (ix2 ⟨512 + d.val, by omega⟩ j) + (par (iblk m c 13 t) (iblk m c 14 t) (iblk m c 15 t) (iblk m c 17 t) (iblk m c 18 t)).woT (prow (iblk m c 2 t)) (wrow (iblk m c 5 t)) d j := by
  unfold pointB out0_B_21 runB
  dsimp only
  frame_out
  refine Eq.trans (add69 _ _ _ _) ?_
  exact congrArg₂ (· + ·) rfl (WO_at _ _ _ _ _ _ _ _ _ _ d j)

theorem du0_B (h0 : ¬ t.val % 16 = 0) (h1 : ¬ t.val % 16 = 15) (p : Outs Ideal) (r : Fin 512) (d : Fin 128) :
    (pointB m c t h0 h1 p).1 (ix2 r ⟨1024 + d.val, by omega⟩) = (par (iblk m c 13 t) (iblk m c 14 t) (iblk m c 15 t) (iblk m c 17 t) (iblk m c 18 t)).duT (prow (iblk m c 2 t)) (wrow (iblk m c 5 t)) (base (grid0.coords t)) (fun g h d => p.2.2.2.2.2.2.1 (ix2 h (col g d))) r 0 d := by
  unfold pointB out0_B_19 runB
  dsimp only
  frame_out
  refine Eq.trans (du0_at _ _ _ _ _ _ r d) ?_
  refine Eq.trans (DUP0_at _ _ _ _ _ _ _ _ _ r d) ?_
  refine congrArg (fun n => (∑ j ∈ Finset.range (wid 0), ext _ n (r.val + j)) - _) (funext fun h => ?_)
  refine Eq.trans (Cert.Store.part h (col 0 d) (Nat.zero_add _).symm (by have hd := d.isLt; have hc := colv0 d; omega)) ?_
  rw [read_unread_whole]

theorem du1_B (h0 : ¬ t.val % 16 = 0) (h1 : ¬ t.val % 16 = 15) (p : Outs Ideal) (r : Fin 512) (d : Fin 128) :
    (pointB m c t h0 h1 p).1 (ix2 r ⟨1152 + d.val, by omega⟩) = (par (iblk m c 13 t) (iblk m c 14 t) (iblk m c 15 t) (iblk m c 17 t) (iblk m c 18 t)).duT (prow (iblk m c 2 t)) (wrow (iblk m c 5 t)) (base (grid0.coords t)) (fun g h d => p.2.2.2.2.2.2.1 (ix2 h (col g d))) r 1 d := by
  unfold pointB out0_B_19 runB
  dsimp only
  frame_out
  refine Eq.trans (du1_at _ _ _ _ _ _ r d) ?_
  refine Eq.trans (DUP1_at _ _ _ _ _ _ _ _ _ r d) ?_
  refine congrArg (fun n => (∑ j ∈ Finset.range (wid 1), ext _ n (r.val + j)) - _) (funext fun h => ?_)
  refine Eq.trans (Cert.Store.part h (col 1 d) (Nat.zero_add _).symm (by have hd := d.isLt; have hc := colv1 d; omega)) ?_
  rw [read_unread_whole]

theorem du2_B (h0 : ¬ t.val % 16 = 0) (h1 : ¬ t.val % 16 = 15) (p : Outs Ideal) (r : Fin 512) (d : Fin 128) :
    (pointB m c t h0 h1 p).1 (ix2 r ⟨1280 + d.val, by omega⟩) = (par (iblk m c 13 t) (iblk m c 14 t) (iblk m c 15 t) (iblk m c 17 t) (iblk m c 18 t)).duT (prow (iblk m c 2 t)) (wrow (iblk m c 5 t)) (base (grid0.coords t)) (fun g h d => p.2.2.2.2.2.2.1 (ix2 h (col g d))) r 2 d := by
  unfold pointB out0_B_19 runB
  dsimp only
  frame_out
  refine Eq.trans (du2_at _ _ _ _ _ _ r d) ?_
  refine Eq.trans (DUP2_at _ _ _ _ _ _ _ _ _ r d) ?_
  refine congrArg (fun n => (∑ j ∈ Finset.range (wid 2), ext _ n (r.val + j)) - _) (funext fun h => ?_)
  refine Eq.trans (Cert.Store.part h (col 2 d) (Nat.zero_add _).symm (by have hd := d.isLt; have hc := colv2 d; omega)) ?_
  rw [read_unread_whole]

theorem du3_B (h0 : ¬ t.val % 16 = 0) (h1 : ¬ t.val % 16 = 15) (p : Outs Ideal) (r : Fin 512) (d : Fin 128) :
    (pointB m c t h0 h1 p).1 (ix2 r ⟨1408 + d.val, by omega⟩) = (par (iblk m c 13 t) (iblk m c 14 t) (iblk m c 15 t) (iblk m c 17 t) (iblk m c 18 t)).duT (prow (iblk m c 2 t)) (wrow (iblk m c 5 t)) (base (grid0.coords t)) (fun g h d => p.2.2.2.2.2.2.1 (ix2 h (col g d))) r 3 d := by
  unfold pointB out0_B_19 runB
  dsimp only
  frame_out
  refine Eq.trans (du3_at _ _ _ _ _ _ r d) ?_
  refine Eq.trans (DUP3_at _ _ _ _ _ _ _ _ _ r d) ?_
  refine congrArg (fun n => (∑ j ∈ Finset.range (wid 3), ext _ n (r.val + j)) - _) (funext fun h => ?_)
  refine Eq.trans (Cert.Store.part h (col 3 d) (Nat.zero_add _).symm (by have hd := d.isLt; have hc := colv3 d; omega)) ?_
  rw [read_unread_whole]

end Cert.Kernel5Ideal.Pool
end
-- ==== Proof.Mixer.PointsC.lean ====
module

public import proofs.«01_k».proof.Proof.Mixer.Outs
public import proofs.«01_k».proof.Proof.Mixer.Terms
public import Idealize.ShloMosaic.Lib.Pipeline.ReadBack

@[expose] public section
set_option maxRecDepth 16384
noncomputable section
open Idealize.ShloMosaic Idealize.ShloMosaic.TcCoe Idealize.SL.Sem

/-! What the last point leaves of the pool half. -/
namespace Cert.Kernel5Ideal.Pool
open Cert.Kernel5Ideal Cert.Kernel5Ideal.Gen Cert.Pool
variable (m : (ℓ : Loc nD τ sig) → Buf (Elt Ideal) ℓ) (c : Dev nD) (t : Fin cfg0.N)

theorem pw0_C (h0 : ¬ t.val % 16 = 0) (h1 : t.val % 16 = 15) (p : Outs Ideal) (k d : Fin 128) :
    (pointC m c t h0 h1 p).2.2.2.2.2.2.2.2.2.2 (ix2 k (col 0 d)) = p.2.2.2.2.2.2.2.2.2.2 (ix2 k (col 0 d)) + (par (iblk m c 13 t) (iblk m c 14 t) (iblk m c 15 t) (iblk m c 17 t) (iblk m c 18 t)).pwT (prow (iblk m c 2 t)) (wrow (iblk m c 5 t)) 0 k d := by
  unfold pointC sout0_C_10 runC
  dsimp only
  frame_out
  refine Eq.trans (Cert.Store.cols (by have hd := d.isLt; have hc := colv0 d; omega)) ?_
  refine Eq.trans (Cert.Store.cols (by have hd := d.isLt; have hc := colv0 d; omega)) ?_
  refine Eq.trans (Cert.Store.cols (by have hd := d.isLt; have hc := colv0 d; omega)) ?_
  refine Eq.trans (Cert.Store.hit k (col 0 d) k d (Nat.zero_add _).symm (by have hd := d.isLt; have hc := colv0 d; omega)) ?_
  refine Eq.trans (PW0_at _ _ _ _ _ _ _ _ k d) ?_
  refine congrArg (· + _) ?_
  refine Eq.trans (Cert.Store.part k (col 0 d) (Nat.zero_add _).symm (by have hd := d.isLt; have hc := colv0 d; omega)) ?_
  rw [read_unread_whole]

theorem pw1_C (h0 : ¬ t.val % 16 = 0) (h1 : t.val % 16 = 15) (p : Outs Ideal) (k d : Fin 128) :
    (pointC m c t h0 h1 p).2.2.2.2.2.2.2.2.2.2 (ix2 k (col 1 d)) = p.2.2.2.2.2.2.2.2.2.2 (ix2 k (col 1 d)) + (par (iblk m c 13 t) (iblk m c 14 t) (iblk m c 15 t) (iblk m c 17 t) (iblk m c 18 t)).pwT (prow (iblk m c 2 t)) (wrow (iblk m c 5 t)) 1 k d := by
  unfold pointC sout0_C_10 runC
  dsimp only
  frame_out
  refine Eq.trans (Cert.Store.cols (by have hd := d.isLt; have hc := colv1 d; omega)) ?_
  refine Eq.trans (Cert.Store.cols (by have hd := d.isLt; have hc := colv1 d; omega)) ?_
  refine Eq.trans (Cert.Store.hit k (col 1 d) k d (Nat.zero_add _).symm (by have hd := d.isLt; have hc := colv1 d; omega)) ?_
  refine Eq.trans (PW1_at _ _ _ _ _ _ _ _ k d) ?_
  refine congrArg (· + _) ?_
  refine Eq.trans (Cert.Store.part k (col 1 d) (Nat.zero_add _).symm (by have hd := d.isLt; have hc := colv1 d; omega)) ?_
  rw [read_unread_whole]

theorem pw2_C (h0 : ¬ t.val % 16 = 0) (h1 : t.val % 16 = 15) (p : Outs Ideal) (k d : Fin 128) :
    (pointC m c t h0 h1 p).2.2.2.2.2.2.2.2.2.2 (ix2 k (col 2 d)) = p.2.2.2.2.2.2.2.2.2.2 (ix2 k (col 2 d)) + (par (iblk m c 13 t) (iblk m c 14 t) (iblk m c 15 t) (iblk m c 17 t) (iblk m c 18 t)).pwT (prow (iblk m c 2 t)) (wrow (iblk m c 5 t)) 2 k d := by
  unfold pointC sout0_C_10 runC
  dsimp only
  frame_out
  refine Eq.trans (Cert.Store.cols (by have hd := d.isLt; have hc := colv2 d; omega)) ?_
  refine Eq.trans (Cert.Store.hit k (col 2 d) k d (Nat.zero_add _).symm (by have hd := d.isLt; have hc := colv2 d; omega)) ?_
  refine Eq.trans (PW2_at _ _ _ _ _ _ _ _ k d) ?_
  refine congrArg (· + _) ?_
  refine Eq.trans (Cert.Store.part k (col 2 d) (Nat.zero_add _).symm (by have hd := d.isLt; have hc := colv2 d; omega)) ?_
  rw [read_unread_whole]

theorem pw3_C (h0 : ¬ t.val % 16 = 0) (h1 : t.val % 16 = 15) (p : Outs Ideal) (k d : Fin 128) :
    (pointC m c t h0 h1 p).2.2.2.2.2.2.2.2.2.2 (ix2 k (col 3 d)) = p.2.2.2.2.2.2.2.2.2.2 (ix2 k (col 3 d)) + (par (iblk m c 13 t) (iblk m c 14 t) (iblk m c 15 t) (iblk m c 17 t) (iblk m c 18 t)).pwT (prow (iblk m c 2 t)) (wrow (iblk m c 5 t)) 3 k d := by
  unfold pointC sout0_C_10 runC
  dsimp only
  frame_out
  refine Eq.trans (Cert.Store.hit k (col 3 d) k d (Nat.zero_add _).symm (by have hd := d.isLt; have hc := colv3 d; omega)) ?_
  refine Eq.trans (PW3_at _ _ _ _ _ _ _ _ k d) ?_
  refine congrArg (· + _) ?_
  refine Eq.trans (Cert.Store.part k (col 3 d) (Nat.zero_add _).symm (by have hd := d.isLt; have hc := colv3 d; omega)) ?_
  rw [read_unread_whole]

theorem nx0_C (h0 : ¬ t.val % 16 = 0) (h1 : t.val % 16 = 15) (p : Outs Ideal) (k : Fin 16) (d : Fin 128) :
    (pointC m c t h0 h1 p).2.2.2.2.2.2.1 (ix2 k (col 0 d)) = (par (iblk m c 13 t) (iblk m c 14 t) (iblk m c 15 t) (iblk m c 17 t) (iblk m c 18 t)).q (prow (iblk m c 2 t) ⟨k.val, by omega⟩) (wrow (iblk m c 5 t) ⟨k.val, by omega⟩) (base (grid0.coords t) + k.val) 0 d := by
  unfold pointC sout0_C_6 runC
  dsimp only
  frame_out
  refine Eq.trans (Cert.Store.cols (by have hd := d.isLt; have hc := colv0 d; omega)) ?_
  refine Eq.trans (Cert.Store.cols (by have hd := d.isLt; have hc := colv0 d; omega)) ?_
  refine Eq.trans (Cert.Store.cols (by have hd := d.isLt; have hc := colv0 d; omega)) ?_
  refine Eq.trans (Cert.Store.hit k (col 0 d) k d (Nat.zero_add _).symm (by have hd := d.isLt; have hc := colv0 d; omega)) ?_
  exact NX0_at _ _ _ _ _ _ _ _ k d

theorem nx1_C (h0 : ¬ t.val % 16 = 0) (h1 : t.val % 16 = 15) (p : Outs Ideal) (k : Fin 16) (d : Fin 128) :
    (pointC m c t h0 h1 p).2.2.2.2.2.2.1 (ix2 k (col 1 d)) = (par (iblk m c 13 t) (iblk m c 14 t) (iblk m c 15 t) (iblk m c 17 t) (iblk m c 18 t)).q (prow (iblk m c 2 t) ⟨k.val, by omega⟩) (wrow (iblk m c 5 t) ⟨k.val, by omega⟩) (base (grid0.coords t) + k.val) 1 d := by
  unfold pointC sout0_C_6 runC
  dsimp only
  frame_out
  refine Eq.trans (Cert.Store.cols (by have hd := d.isLt; have hc := colv1 d; omega)) ?_
  refine Eq.trans (Cert.Store.cols (by have hd := d.isLt; have hc := colv1 d; omega)) ?_
  refine Eq.trans (Cert.Store.hit k (col 1 d) k d (Nat.zero_add _).symm (by have hd := d.isLt; have hc := colv1 d; omega)) ?_
  exact NX1_at _ _ _ _ _ _ _ _ k d

theorem nx2_C (h0 : ¬ t.val % 16 = 0) (h1 : t.val % 16 = 15) (p : Outs Ideal) (k : Fin 16) (d : Fin 128) :
    (pointC m c t h0 h1 p).2.2.2.2.2.2.1 (ix2 k (col 2 d)) = (par (iblk m c 13 t) (iblk m c 14 t) (iblk m c 15 t) (iblk m c 17 t) (iblk m c 18 t)).q (prow (iblk m c 2 t) ⟨k.val, by omega⟩) (wrow (iblk m c 5 t) ⟨k.val, by omega⟩) (base (grid0.coords t) + k.val) 2 d := by
  unfold pointC sout0_C_6 runC
  dsimp only
  frame_out
  refine Eq.trans (Cert.Store.cols (by have hd := d.isLt; have hc := colv2 d; omega)) ?_
  refine Eq.trans (Cert.Store.hit k (col 2 d) k d (Nat.zero_add _).symm (by have hd := d.isLt; have hc := colv2 d; omega)) ?_
  exact NX2_at _ _ _ _ _ _ _ _ k d

theorem nx3_C (h0 : ¬ t.val % 16 = 0) (h1 : t.val % 16 = 15) (p : Outs Ideal) (k : Fin 16) (d : Fin 128) :
    (pointC m c t h0 h1 p).2.2.2.2.2.2.1 (ix2 k (col 3 d)) = (par (iblk m c 13 t) (iblk m c 14 t) (iblk m c 15 t) (iblk m c 17 t) (iblk m c 18 t)).q (prow (iblk m c 2 t) ⟨k.val, by omega⟩) (wrow (iblk m c 5 t) ⟨k.val, by omega⟩) (base (grid0.coords t) + k.val) 3 d := by
  unfold pointC sout0_C_6 runC
  dsimp only
  frame_out
  refine Eq.trans (Cert.Store.hit k (col 3 d) k d (Nat.zero_add _).symm (by have hd := d.isLt; have hc := colv3 d; omega)) ?_
  exact NX3_at _ _ _ _ _ _ _ _ k d

theorem pb_C (h0 : ¬ t.val % 16 = 0) (h1 : t.val % 16 = 15) (p : Outs Ideal) (l : Fin 8) (d : Fin 512) :
    (pointC m c t h0 h1 p).2.2.2.2.2.2.2.1 (ix2 ⟨64 + l.val, by omega⟩ d) = p.2.2.2.2.2.2.2.1 (ix2 ⟨64 + l.val, by omega⟩ d) + (par (iblk m c 13 t) (iblk m c 14 t) (iblk m c 15 t) (iblk m c 17 t) (iblk m c 18 t)).pbT (prow (iblk m c 2 t)) (wrow (iblk m c 5 t)) l d := by
  unfold pointC sout0_C_7 runC
  dsimp only
  frame_out
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_hit ⟨64 + l.val, by omega⟩ d l d rfl (Nat.zero_add _).symm) ?_
  refine Eq.trans (add158 _ _ l d) ?_
  refine congrArg₂ (· + ·) ?_ (PB_at _ _ _ _ _ _ _ l d)
  refine Eq.trans (Cert.Store.part ⟨64 + l.val, by omega⟩ d rfl (Nat.zero_add _).symm) ?_
  rw [read_unread_whole]

theorem ps_C (h0 : ¬ t.val % 16 = 0) (h1 : t.val % 16 = 15) (p : Outs Ideal) (l : Fin 8) (d : Fin 512) :
    (pointC m c t h0 h1 p).2.2.2.2.2.2.2.1 (ix2 ⟨72 + l.val, by omega⟩ d) = p.2.2.2.2.2.2.2.1 (ix2 ⟨72 + l.val, by omega⟩ d) + (par (iblk m c 13 t) (iblk m c 14 t) (iblk m c 15 t) (iblk m c 17 t) (iblk m c 18 t)).psT (prow (iblk m c 2 t)) (wrow (iblk m c 5 t)) l d := by
  unfold pointC sout0_C_7 runC
  dsimp only
  frame_out
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_hit ⟨72 + l.val, by omega⟩ d l d rfl (Nat.zero_add _).symm) ?_
  refine Eq.trans (add157 _ _ l d) ?_
  refine congrArg₂ (· + ·) ?_ (PS_at _ _ _ _ _ _ _ l d)
  refine Eq.trans (Cert.Store.part ⟨72 + l.val, by omega⟩ d rfl (Nat.zero_add _).symm) ?_
  rw [read_unread_whole]

theorem gp_C (h0 : ¬ t.val % 16 = 0) (h1 : t.val % 16 = 15) (p : Outs Ideal) (l : Fin 8) (d : Fin 512) :
    (pointC m c t h0 h1 p).2.2.2.2.2.2.2.1 (ix2 ⟨88 + l.val, by omega⟩ d) = p.2.2.2.2.2.2.2.1 (ix2 ⟨88 + l.val, by omega⟩ d) + (par (iblk m c 13 t) (iblk m c 14 t) (iblk m c 15 t) (iblk m c 17 t) (iblk m c 18 t)).gpT (prow (iblk m c 2 t)) (wrow (iblk m c 5 t)) l d := by
  unfold pointC sout0_C_7 runC
  dsimp only
  frame_out
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_rows (by dsimp only; omega)) ?_
  refine Eq.trans (Cert.Store.read_hit ⟨88 + l.val, by omega⟩ d l d rfl (Nat.zero_add _).symm) ?_
  refine Eq.trans (add156 _ _ l d) ?_
  refine congrArg₂ (· + ·) ?_ (GP_at _ _ _ _ _ _ _ l d)
  refine Eq.trans (Cert.Store.part ⟨88 + l.val, by omega⟩ d rfl (Nat.zero_add _).symm) ?_
  rw [read_unread_whole]

theorem wo_C (h0 : ¬ t.val % 16 = 0) (h1 : t.val % 16 = 15) (p : Outs Ideal) (d : Fin 512) (j : Fin 1024) :
    (pointC m c t h0 h1 p).2.2.1 (ix2 ⟨512 + d.val, by omega⟩ j) = p.2.2.1 (ix2 ⟨512 + d.val, by omega⟩ j) + (par (iblk m c 13 t) (iblk m c 14 t) (iblk m c 15 t) (iblk m c 17 t) (iblk m c 18 t)).woT (prow (iblk m c 2 t)) (wrow (iblk m c 5 t)) d j := by
  unfold pointC out0_C_21 runC
  dsimp only
  frame_out
  refine Eq.trans (add69 _ _ _ _) ?_
  exact congrArg₂ (· + ·) rfl (WO_at _ _ _ _ _ _ _ _ _ _ d j)

theorem du0_C (h0 : ¬ t.val % 16 = 0) (h1 : t.val % 16 = 15) (p : Outs Ideal) (r : Fin 512) (d : Fin 128) :
    (pointC m c t h0 h1 p).1 (ix2 r ⟨1024 + d.val, by omega⟩) = (par (iblk m c 13 t) (iblk m c 14 t) (iblk m c 15 t) (iblk m c 17 t) (iblk m c 18 t)).duT (prow (iblk m c 2 t)) (wrow (iblk m c 5 t)) (base (grid0.coords t)) (fun g h d => p.2.2.2.2.2.2.1 (ix2 h (col g d))) r 0 d := by
  unfold pointC out0_C_19 runC
  dsimp only
  frame_out
  refine Eq.trans (du0_at _ _ _ _ _ _ r d) ?_
  refine Eq.trans (DUP0_at _ _ _ _ _ _ _ _ _ r d) ?_
  refine congrArg (fun n => (∑ j ∈ Finset.range (wid 0), ext _ n (r.val + j)) - _) (funext fun h => ?_)
  refine Eq.trans (Cert.Store.part h (col 0 d) (Nat.zero_add _).symm (by have hd := d.isLt; have hc := colv0 d; omega)) ?_
  rw [read_unread_whole]

theorem du1_C (h0 : ¬ t.val % 16 = 0) (h1 : t.val % 16 = 15) (p : Outs Ideal) (r : Fin 512) (d : Fin 128) :
    (pointC m c t h0 h1 p).1 (ix2 r ⟨1152 + d.val, by omega⟩) = (par (iblk m c 13 t) (iblk m c 14 t) (iblk m c 15 t) (iblk m c 17 t) (iblk m c 18 t)).duT (prow (iblk m c 2 t)) (wrow (iblk m c 5 t)) (base (grid0.coords t)) (fun g h d => p.2.2.2.2.2.2.1 (ix2 h (col g d))) r 1 d := by
  unfold pointC out0_C_19 runC
  dsimp only
  frame_out
  refine Eq.trans (du1_at _ _ _ _ _ _ r d) ?_
  refine Eq.trans (DUP1_at _ _ _ _ _ _ _ _ _ r d) ?_
  refine congrArg (fun n => (∑ j ∈ Finset.range (wid 1), ext _ n (r.val + j)) - _) (funext fun h => ?_)
  refine Eq.trans (Cert.Store.part h (col 1 d) (Nat.zero_add _).symm (by have hd := d.isLt; have hc := colv1 d; omega)) ?_
  rw [read_unread_whole]

theorem du2_C (h0 : ¬ t.val % 16 = 0) (h1 : t.val % 16 = 15) (p : Outs Ideal) (r : Fin 512) (d : Fin 128) :
    (pointC m c t h0 h1 p).1 (ix2 r ⟨1280 + d.val, by omega⟩) = (par (iblk m c 13 t) (iblk m c 14 t) (iblk m c 15 t) (iblk m c 17 t) (iblk m c 18 t)).duT (prow (iblk m c 2 t)) (wrow (iblk m c 5 t)) (base (grid0.coords t)) (fun g h d => p.2.2.2.2.2.2.1 (ix2 h (col g d))) r 2 d := by
  unfold pointC out0_C_19 runC
  dsimp only
  frame_out
  refine Eq.trans (du2_at _ _ _ _ _ _ r d) ?_
  refine Eq.trans (DUP2_at _ _ _ _ _ _ _ _ _ r d) ?_
  refine congrArg (fun n => (∑ j ∈ Finset.range (wid 2), ext _ n (r.val + j)) - _) (funext fun h => ?_)
  refine Eq.trans (Cert.Store.part h (col 2 d) (Nat.zero_add _).symm (by have hd := d.isLt; have hc := colv2 d; omega)) ?_
  rw [read_unread_whole]

theorem du3_C (h0 : ¬ t.val % 16 = 0) (h1 : t.val % 16 = 15) (p : Outs Ideal) (r : Fin 512) (d : Fin 128) :
    (pointC m c t h0 h1 p).1 (ix2 r ⟨1408 + d.val, by omega⟩) = (par (iblk m c 13 t) (iblk m c 14 t) (iblk m c 15 t) (iblk m c 17 t) (iblk m c 18 t)).duT (prow (iblk m c 2 t)) (wrow (iblk m c 5 t)) (base (grid0.coords t)) (fun g h d => p.2.2.2.2.2.2.1 (ix2 h (col g d))) r 3 d := by
  unfold pointC out0_C_19 runC
  dsimp only
  frame_out
  refine Eq.trans (du3_at _ _ _ _ _ _ r d) ?_
  refine Eq.trans (DUP3_at _ _ _ _ _ _ _ _ _ r d) ?_
  refine congrArg (fun n => (∑ j ∈ Finset.range (wid 3), ext _ n (r.val + j)) - _) (funext fun h => ?_)
  refine Eq.trans (Cert.Store.part h (col 3 d) (Nat.zero_add _).symm (by have hd := d.isLt; have hc := colv3 d; omega)) ?_
  rw [read_unread_whole]

theorem slab_pw0_C (h0 : ¬ t.val % 16 = 0) (h1 : t.val % 16 = 15) (p : Outs Ideal) (k d : Fin 128) :
    (pointC m c t h0 h1 p).2.1 (ix2 ⟨144 + k.val, by omega⟩ (col 0 d)) = p.2.2.2.2.2.2.2.2.2.2 (ix2 k (col 0 d)) + (par (iblk m c 13 t) (iblk m c 14 t) (iblk m c 15 t) (iblk m c 17 t) (iblk m c 18 t)).pwT (prow (iblk m c 2 t)) (wrow (iblk m c 5 t)) 0 k d := by
  unfold pointC out0_C_20 runC
  dsimp only
  frame_out
  refine Eq.trans (Cert.Store.hit ⟨144 + k.val, by omega⟩ (col 0 d) k (col 0 d) rfl (Nat.zero_add _).symm) ?_
  refine Eq.trans (Cert.Store.back k (col 0 d) (Nat.zero_add _).symm (Nat.zero_add _).symm) ?_
  refine Eq.trans (Cert.Store.cols (by have hd := d.isLt; have hc := colv0 d; omega)) ?_
  refine Eq.trans (Cert.Store.cols (by have hd := d.isLt; have hc := colv0 d; omega)) ?_
  refine Eq.trans (Cert.Store.cols (by have hd := d.isLt; have hc := colv0 d; omega)) ?_
  refine Eq.trans (Cert.Store.hit k (col 0 d) k d (Nat.zero_add _).symm (by have hd := d.isLt; have hc := colv0 d; omega)) ?_
  refine Eq.trans (PW0_at _ _ _ _ _ _ _ _ k d) ?_
  refine congrArg (· + _) ?_
  refine Eq.trans (Cert.Store.part k (col 0 d) (Nat.zero_add _).symm (by have hd := d.isLt; have hc := colv0 d; omega)) ?_
  rw [read_unread_whole]

theorem slab_pw1_C (h0 : ¬ t.val % 16 = 0) (h1 : t.val % 16 = 15) (p : Outs Ideal) (k d : Fin 128) :
    (pointC m c t h0 h1 p).2.1 (ix2 ⟨144 + k.val, by omega⟩ (col 1 d)) = p.2.2.2.2.2.2.2.2.2.2 (ix2 k (col 1 d)) + (par (iblk m c 13 t) (iblk m c 14 t) (iblk m c 15 t) (iblk m c 17 t) (iblk m c 18 t)).pwT (prow (iblk m c 2 t)) (wrow (iblk m c 5 t)) 1 k d := by
  unfold pointC out0_C_20 runC
  dsimp only
  frame_out
  refine Eq.trans (Cert.Store.hit ⟨144 + k.val, by omega⟩ (col 1 d) k (col 1 d) rfl (Nat.zero_add _).symm) ?_
  refine Eq.trans (Cert.Store.back k (col 1 d) (Nat.zero_add _).symm (Nat.zero_add _).symm) ?_
  refine Eq.trans (Cert.Store.cols (by have hd := d.isLt; have hc := colv1 d; omega)) ?_
  refine Eq.trans (Cert.Store.cols (by have hd := d.isLt; have hc := colv1 d; omega)) ?_
  refine Eq.trans (Cert.Store.hit k (col 1 d) k d (Nat.zero_add _).symm (by have hd := d.isLt; have hc := colv1 d; omega)) ?_
  refine Eq.trans (PW1_at _ _ _ _ _ _ _ _ k d) ?_
  refine congrArg (· + _) ?_
  refine Eq.trans (Cert.Store.part k (col 1 d) (Nat.zero_add _).symm (by have hd := d.isLt; have hc := colv1 d; omega)) ?_
  rw [read_unread_whole]

theorem slab_pw2_C (h0 : ¬ t.val % 16 = 0) (h1 : t.val % 16 = 15) (p : Outs Ideal) (k d : Fin 128) :
    (pointC m c t h0 h1 p).2.1 (ix2 ⟨144 + k.val, by omega⟩ (col 2 d)) = p.2.2.2.2.2.2.2.2.2.2 (ix2 k (col 2 d)) + (par (iblk m c 13 t) (iblk m c 14 t) (iblk m c 15 t) (iblk m c 17 t) (iblk m c 18 t)).pwT (prow (iblk m c 2 t)) (wrow (iblk m c 5 t)) 2 k d := by
  unfold pointC out0_C_20 runC
  dsimp only
  frame_out
  refine Eq.trans (Cert.Store.hit ⟨144 + k.val, by omega⟩ (col 2 d) k (col 2 d) rfl (Nat.zero_add _).symm) ?_
  refine Eq.trans (Cert.Store.back k (col 2 d) (Nat.zero_add _).symm (Nat.zero_add _).symm) ?_
  refine Eq.trans (Cert.Store.cols (by have hd := d.isLt; have hc := colv2 d; omega)) ?_
  refine Eq.trans (Cert.Store.hit k (col 2 d) k d (Nat.zero_add _).symm (by have hd := d.isLt; have hc := colv2 d; omega)) ?_
  refine Eq.trans (PW2_at _ _ _ _ _ _ _ _ k d) ?_
  refine congrArg (· + _) ?_
  refine Eq.trans (Cert.Store.part k (col 2 d) (Nat.zero_add _).symm (by have hd := d.isLt; have hc := colv2 d; omega)) ?_
  rw [read_unread_whole]

theorem slab_pw3_C (h0 : ¬ t.val % 16 = 0) (h1 : t.val % 16 = 15) (p : Outs Ideal) (k d : Fin 128) :
    (pointC m c t h0 h1 p).2.1 (ix2 ⟨144 + k.val, by omega⟩ (col 3 d)) = p.2.2.2.2.2.2.2.2.2.2 (ix2 k (col 3 d)) + (par (iblk m c 13 t) (iblk m c 14 t) (iblk m c 15 t) (iblk m c 17 t) (iblk m c 18 t)).pwT (prow (iblk m c 2 t)) (wrow (iblk m c 5 t)) 3 k d := by
  unfold pointC out0_C_20 runC
  dsimp only
  frame_out
  refine Eq.trans (Cert.Store.hit ⟨144 + k.val, by omega⟩ (col 3 d) k (col 3 d) rfl (Nat.zero_add _).symm) ?_
  refine Eq.trans (Cert.Store.back k (col 3 d) (Nat.zero_add _).symm (Nat.zero_add _).symm) ?_
  refine Eq.trans (Cert.Store.hit k (col 3 d) k d (Nat.zero_add _).symm (by have hd := d.isLt; have hc := colv3 d; omega)) ?_
  refine Eq.trans (PW3_at _ _ _ _ _ _ _ _ k d) ?_
  refine congrArg (· + _) ?_
  refine Eq.trans (Cert.Store.part k (col 3 d) (Nat.zero_add _).symm (by have hd := d.isLt; have hc := colv3 d; omega)) ?_
  rw [read_unread_whole]

theorem slab_pb_C (h0 : ¬ t.val % 16 = 0) (h1 : t.val % 16 = 15) (p : Outs Ideal) (d : Fin 512) :
    (pointC m c t h0 h1 p).2.1 (ix2 ⟨8, by omega⟩ d) = ∑ l : Fin 8, (p.2.2.2.2.2.2.2.1 (ix2 ⟨64 + l.val, by omega⟩ d) + (par (iblk m c 13 t) (iblk m c 14 t) (iblk m c 15 t) (iblk m c 17 t) (iblk m c 18 t)).pbT (prow (iblk m c 2 t)) (wrow (iblk m c 5 t)) l d) := by
  unfold pointC out0_C_20 runC
  dsimp only
  frame_out
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.hit (⟨8, by omega⟩ : Fin 272) d (⟨8, by omega⟩ : Fin 16) d rfl (Nat.zero_add _).symm) ?_
  refine (row8_at _ _ _ _ _ _ _ _ _ _ _ _ d).trans (Finset.sum_congr rfl fun l _ => ?_)
  refine Eq.trans (Cert.Store.back ⟨64 + l.val, by omega⟩ d rfl (Nat.zero_add _).symm) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.hit ⟨64 + l.val, by omega⟩ d l d rfl (Nat.zero_add _).symm) ?_
  refine Eq.trans (add158 _ _ l d) ?_
  refine congrArg₂ (· + ·) ?_ (PB_at _ _ _ _ _ _ _ l d)
  refine Eq.trans (Cert.Store.part ⟨64 + l.val, by omega⟩ d rfl (Nat.zero_add _).symm) ?_
  rw [read_unread_whole]

theorem slab_ps_C (h0 : ¬ t.val % 16 = 0) (h1 : t.val % 16 = 15) (p : Outs Ideal) (d : Fin 512) :
    (pointC m c t h0 h1 p).2.1 (ix2 ⟨9, by omega⟩ d) = ∑ l : Fin 8, (p.2.2.2.2.2.2.2.1 (ix2 ⟨72 + l.val, by omega⟩ d) + (par (iblk m c 13 t) (iblk m c 14 t) (iblk m c 15 t) (iblk m c 17 t) (iblk m c 18 t)).psT (prow (iblk m c 2 t)) (wrow (iblk m c 5 t)) l d) := by
  unfold pointC out0_C_20 runC
  dsimp only
  frame_out
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.hit (⟨9, by omega⟩ : Fin 272) d (⟨9, by omega⟩ : Fin 16) d rfl (Nat.zero_add _).symm) ?_
  refine (row9_at _ _ _ _ _ _ _ _ _ _ _ _ d).trans (Finset.sum_congr rfl fun l _ => ?_)
  refine Eq.trans (Cert.Store.back ⟨72 + l.val, by omega⟩ d rfl (Nat.zero_add _).symm) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.hit ⟨72 + l.val, by omega⟩ d l d rfl (Nat.zero_add _).symm) ?_
  refine Eq.trans (add157 _ _ l d) ?_
  refine congrArg₂ (· + ·) ?_ (PS_at _ _ _ _ _ _ _ l d)
  refine Eq.trans (Cert.Store.part ⟨72 + l.val, by omega⟩ d rfl (Nat.zero_add _).symm) ?_
  rw [read_unread_whole]

theorem slab_gp_C (h0 : ¬ t.val % 16 = 0) (h1 : t.val % 16 = 15) (p : Outs Ideal) (d : Fin 512) :
    (pointC m c t h0 h1 p).2.1 (ix2 ⟨11, by omega⟩ d) = ∑ l : Fin 8, (p.2.2.2.2.2.2.2.1 (ix2 ⟨88 + l.val, by omega⟩ d) + (par (iblk m c 13 t) (iblk m c 14 t) (iblk m c 15 t) (iblk m c 17 t) (iblk m c 18 t)).gpT (prow (iblk m c 2 t)) (wrow (iblk m c 5 t)) l d) := by
  unfold pointC out0_C_20 runC
  dsimp only
  frame_out
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.hit (⟨11, by omega⟩ : Fin 272) d (⟨11, by omega⟩ : Fin 16) d rfl (Nat.zero_add _).symm) ?_
  refine (row11_at _ _ _ _ _ _ _ _ _ _ _ _ d).trans (Finset.sum_congr rfl fun l _ => ?_)
  refine Eq.trans (Cert.Store.back ⟨88 + l.val, by omega⟩ d rfl (Nat.zero_add _).symm) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.rows (by dsimp only; omega)) ?_
  refine Eq.trans (Cert.Store.hit ⟨88 + l.val, by omega⟩ d l d rfl (Nat.zero_add _).symm) ?_
  refine Eq.trans (add156 _ _ l d) ?_
  refine congrArg₂ (· + ·) ?_ (GP_at _ _ _ _ _ _ _ l d)
  refine Eq.trans (Cert.Store.part ⟨88 + l.val, by omega⟩ d rfl (Nat.zero_add _).symm) ?_
  rw [read_unread_whole]

end Cert.Kernel5Ideal.Pool
end
-- ==== Proof.Mixer.Sums.lean ====
module

public import proofs.«01_k».proof.Proof.Mixer.Blocks
public import proofs.«01_k».proof.Proof.Mixer.PointsA
public import proofs.«01_k».proof.Proof.Mixer.PointsB
public import proofs.«01_k».proof.Proof.Mixer.PointsC
public import proofs.«01_k».proof.Proof.Common.Sums

@[expose] public section
set_option maxRecDepth 16384
noncomputable section
open Idealize.ShloMosaic Idealize.ShloMosaic.TcCoe Idealize.SL.Sem
open Idealize.ShloMosaic.Pipeline (Dat)

/-! What the run leaves of the pool half: sums over every token. -/
namespace Cert.Kernel5Ideal.Pool
open Cert.Kernel5Ideal Cert.Kernel5Ideal.Gen Cert.Pool
variable (m : (ℓ : Loc nD τ sig) → Buf (Elt Ideal) ℓ) (c : Dev nD)

/-- The points in order are the tiles in reverse. -/
theorem tile_sum {M : Type*} [AddCommMonoid M] (f : ℕ → M) : ∑ p : Fin cfg0.N, f (15 - p.val) = ∑ p : Fin 16, f p.val :=
  Fintype.sum_equiv ((finCongr (N_0 : cfg0.N = 16)).trans Fin.revPerm) _ _ fun p => congrArg f (by
    have h := lt_of_lt_of_eq p.isLt (N_0 : cfg0.N = 16)
    show 15 - p.val = (Fin.rev (Fin.cast N_0 p)).val
    rw [Fin.val_rev]
    show 15 - p.val = 16 - (p.val + 1)
    omega)

/-- Every row of every tile is every token. -/
theorem tok_sum (f : Fin 8192 → EReal) : ∑ p : Fin cfg0.N, ∑ r : Fin 512, f (tok p.val r) = ∑ s, f s := by
  rw [← Cert.Sums.tiles f]
  refine Eq.trans ?_ ((tile_sum fun n => ∑ r : Fin 512, if h : n * 512 + r.val < 8192 then f ⟨n * 512 + r.val, h⟩ else 0).trans ?_)
  · refine Finset.sum_congr rfl fun p _ => Finset.sum_congr rfl fun r _ => ?_
    have h : (15 - p.val) * 512 + r.val < 8192 := by omega
    rw [dif_pos h]
    rfl
  · refine Finset.sum_congr rfl fun p _ => Finset.sum_congr rfl fun r _ => ?_
    rw [dif_pos (by omega)]

theorem tok_lanes (f : Fin 8192 → EReal) : ∑ l : Fin 8, ∑ p : Fin cfg0.N, ∑ q : Fin 64, f (tok p.val ⟨q.val * 8 + l.val, by omega⟩) = ∑ s, f s := by
  rw [← tok_sum f, Finset.sum_comm]
  refine Finset.sum_congr rfl fun p _ => ?_
  rw [Finset.sum_comm]
  exact Fin.sum_mul_add_congr (S := 64) (n := 8) (L := 512) (f := fun k : Fin 512 => f (tok p.val k)) fun s k hl => rfl

/-- A quantity every point adds to, after the last. -/
theorem acc {ι : Type} (σ : Outs Ideal → ι → EReal) (T : Fin cfg0.N → ι → EReal)
    (hA : ∀ t h0 h1 i, σ (pointA m c t h0 h1) i = 0 + T t i) (hB : ∀ t h0 h1 p i, σ (pointB m c t h0 h1 p) i = σ p i + T t i)
    (hC : ∀ t h0 h1 p i, σ (pointC m c t h0 h1 p) i = σ p i + T t i) (i : ι) :
    σ (outsAt0 m c t0_15.val t0_15.isLt) i = ∑ p : Fin cfg0.N, T p i := by
  refine (Pipeline.eq_sum_fin_of_reset_step_apply_last (fun n h => σ (outsAt0 m c n h)) 16 (fun _ => 0) T (fun t h i => ?_) (fun t h i => ?_) (le_of_eq N_0) t0_15 rfl i).trans (zero_add _)
  · have h1 : ¬ t.val % 16 = 15 := by omega
    show σ (outsAt0 m c t.val t.isLt) i = _
    rw [outsAt0_A m c t h h1]
    exact hA t h h1 i
  · show σ (outsAt0 m c t.val t.isLt) i = _
    by_cases h1 : t.val % 16 = 15
    · rw [outsAt0_C m c t h h1]
      exact hC t h h1 _ i
    · rw [outsAt0_B m c t h h1]
      exact hB t h h1 _ i

theorem last0 : ¬ (t0_15 : Fin cfg0.N).val % 16 = 0 := by show ¬ 15 % 16 = 0; decide
theorem last1 : (t0_15 : Fin cfg0.N).val % 16 = 15 := by show 15 % 16 = 15; decide

theorem wo_last (i : Fin 512 × Fin 1024) : (outsAt0 m c t0_15.val t0_15.isLt).2.2.1 (ix2 ⟨512 + i.1.val, by have := i.1.isLt; omega⟩ i.2) = ∑ t : Fin cfg0.N, (par (iblk m c 13 t) (iblk m c 14 t) (iblk m c 15 t) (iblk m c 17 t) (iblk m c 18 t)).woT (prow (iblk m c 2 t)) (wrow (iblk m c 5 t)) i.1 i.2 :=
  acc m c (ι := Fin 512 × Fin 1024) (fun o i => o.2.2.1 (ix2 ⟨512 + i.1.val, by have := i.1.isLt; omega⟩ i.2)) (fun t i => (par (iblk m c 13 t) (iblk m c 14 t) (iblk m c 15 t) (iblk m c 17 t) (iblk m c 18 t)).woT (prow (iblk m c 2 t)) (wrow (iblk m c 5 t)) i.1 i.2)
    (fun t h0 h1 i => wo_A m c t h0 h1 i.1 i.2) (fun t h0 h1 p i => wo_B m c t h0 h1 p i.1 i.2) (fun t h0 h1 p i => wo_C m c t h0 h1 p i.1 i.2) i

theorem pb_last (i : Fin 8 × Fin 512) : (outsAt0 m c t0_15.val t0_15.isLt).2.2.2.2.2.2.2.1 (ix2 ⟨64 + i.1.val, by have := i.1.isLt; omega⟩ i.2) = ∑ t : Fin cfg0.N, (par (iblk m c 13 t) (iblk m c 14 t) (iblk m c 15 t) (iblk m c 17 t) (iblk m c 18 t)).pbT (prow (iblk m c 2 t)) (wrow (iblk m c 5 t)) i.1 i.2 :=
  acc m c (ι := Fin 8 × Fin 512) (fun o i => o.2.2.2.2.2.2.2.1 (ix2 ⟨64 + i.1.val, by have := i.1.isLt; omega⟩ i.2)) (fun t i => (par (iblk m c 13 t) (iblk m c 14 t) (iblk m c 15 t) (iblk m c 17 t) (iblk m c 18 t)).pbT (prow (iblk m c 2 t)) (wrow (iblk m c 5 t)) i.1 i.2)
    (fun t h0 h1 i => pb_A m c t h0 h1 i.1 i.2) (fun t h0 h1 p i => pb_B m c t h0 h1 p i.1 i.2) (fun t h0 h1 p i => pb_C m c t h0 h1 p i.1 i.2) i

theorem ps_last (i : Fin 8 × Fin 512) : (outsAt0 m c t0_15.val t0_15.isLt).2.2.2.2.2.2.2.1 (ix2 ⟨72 + i.1.val, by have := i.1.isLt; omega⟩ i.2) = ∑ t : Fin cfg0.N, (par (iblk m c 13 t) (iblk m c 14 t) (iblk m c 15 t) (iblk m c 17 t) (iblk m c 18 t)).psT (prow (iblk m c 2 t)) (wrow (iblk m c 5 t)) i.1 i.2 :=
  acc m c (ι := Fin 8 × Fin 512) (fun o i => o.2.2.2.2.2.2.2.1 (ix2 ⟨72 + i.1.val, by have := i.1.isLt; omega⟩ i.2)) (fun t i => (par (iblk m c 13 t) (iblk m c 14 t) (iblk m c 15 t) (iblk m c 17 t) (iblk m c 18 t)).psT (prow (iblk m c 2 t)) (wrow (iblk m c 5 t)) i.1 i.2)
    (fun t h0 h1 i => ps_A m c t h0 h1 i.1 i.2) (fun t h0 h1 p i => ps_B m c t h0 h1 p i.1 i.2) (fun t h0 h1 p i => ps_C m c t h0 h1 p i.1 i.2) i

theorem gp_last (i : Fin 8 × Fin 512) : (outsAt0 m c t0_15.val t0_15.isLt).2.2.2.2.2.2.2.1 (ix2 ⟨88 + i.1.val, by have := i.1.isLt; omega⟩ i.2) = ∑ t : Fin cfg0.N, (par (iblk m c 13 t) (iblk m c 14 t) (iblk m c 15 t) (iblk m c 17 t) (iblk m c 18 t)).gpT (prow (iblk m c 2 t)) (wrow (iblk m c 5 t)) i.1 i.2 :=
  acc m c (ι := Fin 8 × Fin 512) (fun o i => o.2.2.2.2.2.2.2.1 (ix2 ⟨88 + i.1.val, by have := i.1.isLt; omega⟩ i.2)) (fun t i => (par (iblk m c 13 t) (iblk m c 14 t) (iblk m c 15 t) (iblk m c 17 t) (iblk m c 18 t)).gpT (prow (iblk m c 2 t)) (wrow (iblk m c 5 t)) i.1 i.2)
    (fun t h0 h1 i => gp_A m c t h0 h1 i.1 i.2) (fun t h0 h1 p i => gp_B m c t h0 h1 p i.1 i.2) (fun t h0 h1 p i => gp_C m c t h0 h1 p i.1 i.2) i

theorem pw0_last (i : Fin 128 × Fin 128) : (outsAt0 m c t0_15.val t0_15.isLt).2.2.2.2.2.2.2.2.2.2 (ix2 i.1 (col 0 i.2)) = ∑ t : Fin cfg0.N, (par (iblk m c 13 t) (iblk m c 14 t) (iblk m c 15 t) (iblk m c 17 t) (iblk m c 18 t)).pwT (prow (iblk m c 2 t)) (wrow (iblk m c 5 t)) 0 i.1 i.2 :=
  acc m c (ι := Fin 128 × Fin 128) (fun o i => o.2.2.2.2.2.2.2.2.2.2 (ix2 i.1 (col 0 i.2))) (fun t i => (par (iblk m c 13 t) (iblk m c 14 t) (iblk m c 15 t) (iblk m c 17 t) (iblk m c 18 t)).pwT (prow (iblk m c 2 t)) (wrow (iblk m c 5 t)) 0 i.1 i.2)
    (fun t h0 h1 i => pw0_A m c t h0 h1 i.1 i.2) (fun t h0 h1 p i => pw0_B m c t h0 h1 p i.1 i.2) (fun t h0 h1 p i => pw0_C m c t h0 h1 p i.1 i.2) i

theorem pw1_last (i : Fin 128 × Fin 128) : (outsAt0 m c t0_15.val t0_15.isLt).2.2.2.2.2.2.2.2.2.2 (ix2 i.1 (col 1 i.2)) = ∑ t : Fin cfg0.N, (par (iblk m c 13 t) (iblk m c 14 t) (iblk m c 15 t) (iblk m c 17 t) (iblk m c 18 t)).pwT (prow (iblk m c 2 t)) (wrow (iblk m c 5 t)) 1 i.1 i.2 :=
  acc m c (ι := Fin 128 × Fin 128) (fun o i => o.2.2.2.2.2.2.2.2.2.2 (ix2 i.1 (col 1 i.2))) (fun t i => (par (iblk m c 13 t) (iblk m c 14 t) (iblk m c 15 t) (iblk m c 17 t) (iblk m c 18 t)).pwT (prow (iblk m c 2 t)) (wrow (iblk m c 5 t)) 1 i.1 i.2)
    (fun t h0 h1 i => pw1_A m c t h0 h1 i.1 i.2) (fun t h0 h1 p i => pw1_B m c t h0 h1 p i.1 i.2) (fun t h0 h1 p i => pw1_C m c t h0 h1 p i.1 i.2) i

theorem pw2_last (i : Fin 128 × Fin 128) : (outsAt0 m c t0_15.val t0_15.isLt).2.2.2.2.2.2.2.2.2.2 (ix2 i.1 (col 2 i.2)) = ∑ t : Fin cfg0.N, (par (iblk m c 13 t) (iblk m c 14 t) (iblk m c 15 t) (iblk m c 17 t) (iblk m c 18 t)).pwT (prow (iblk m c 2 t)) (wrow (iblk m c 5 t)) 2 i.1 i.2 :=
  acc m c (ι := Fin 128 × Fin 128) (fun o i => o.2.2.2.2.2.2.2.2.2.2 (ix2 i.1 (col 2 i.2))) (fun t i => (par (iblk m c 13 t) (iblk m c 14 t) (iblk m c 15 t) (iblk m c 17 t) (iblk m c 18 t)).pwT (prow (iblk m c 2 t)) (wrow (iblk m c 5 t)) 2 i.1 i.2)
    (fun t h0 h1 i => pw2_A m c t h0 h1 i.1 i.2) (fun t h0 h1 p i => pw2_B m c t h0 h1 p i.1 i.2) (fun t h0 h1 p i => pw2_C m c t h0 h1 p i.1 i.2) i

theorem pw3_last (i : Fin 128 × Fin 128) : (outsAt0 m c t0_15.val t0_15.isLt).2.2.2.2.2.2.2.2.2.2 (ix2 i.1 (col 3 i.2)) = ∑ t : Fin cfg0.N, (par (iblk m c 13 t) (iblk m c 14 t) (iblk m c 15 t) (iblk m c 17 t) (iblk m c 18 t)).pwT (prow (iblk m c 2 t)) (wrow (iblk m c 5 t)) 3 i.1 i.2 :=
  acc m c (ι := Fin 128 × Fin 128) (fun o i => o.2.2.2.2.2.2.2.2.2.2 (ix2 i.1 (col 3 i.2))) (fun t i => (par (iblk m c 13 t) (iblk m c 14 t) (iblk m c 15 t) (iblk m c 17 t) (iblk m c 18 t)).pwT (prow (iblk m c 2 t)) (wrow (iblk m c 5 t)) 3 i.1 i.2)
    (fun t h0 h1 i => pw3_A m c t h0 h1 i.1 i.2) (fun t h0 h1 p i => pw3_B m c t h0 h1 p i.1 i.2) (fun t h0 h1 p i => pw3_C m c t h0 h1 p i.1 i.2) i

/-- The gradients of the pool half, as sums over every token. -/
def gWo (d : Fin 512) (j : Fin 1024) : EReal := ∑ s : Fin 8192, (par0 m c).x (pooled m c s) d * (par0 m c).gp d * cts m c s j
def gPb (d : Fin 512) : EReal := ∑ s : Fin 8192, (par0 m c).dz (pooled m c s) (cts m c s) d
def gPs (d : Fin 512) : EReal := ∑ s : Fin 8192, (par0 m c).dy (pooled m c s) (cts m c s) d * (par0 m c).z (pooled m c s) d
def gGp (d : Fin 512) : EReal := ∑ s : Fin 8192, (par0 m c).dn (cts m c s) d * (par0 m c).x (pooled m c s) d
def gPw (g : Fin 4) (k d : Fin 128) : EReal := ∑ s : Fin 8192, pooled m c s (col g k) * (par0 m c).dz (pooled m c s) (cts m c s) (col g d)

theorem wo_sum (d : Fin 512) (j : Fin 1024) : (outsAt0 m c t0_15.val t0_15.isLt).2.2.1 (ix2 ⟨512 + d.val, by omega⟩ j) = gWo m c d j := by
  refine (wo_last m c (d, j)).trans (Eq.trans (Finset.sum_congr rfl fun t _ => ?_) (tok_sum fun s => (par0 m c).x (pooled m c s) d * (par0 m c).gp d * cts m c s j))
  rw [par_eq m c t, prow_eq m c t, wrow_eq m c t]
  rfl

theorem pb_sum (d : Fin 512) : (outsAt0 m c t0_15.val t0_15.isLt).2.1 (ix2 8 d) = gPb m c d := by
  have h : (outsAt0 m c t0_15.val t0_15.isLt).2.1 (ix2 8 d) = ∑ l : Fin 8, (outsAt0 m c t0_15.val t0_15.isLt).2.2.2.2.2.2.2.1 (ix2 ⟨64 + l.val, by omega⟩ d) := by
    have e := outsAt0_C m c t0_15 last0 last1
    rw [e]
    refine (slab_pb_C m c t0_15 last0 last1 _ d).trans (Finset.sum_congr rfl fun l _ => ?_)
    exact (pb_C m c t0_15 last0 last1 _ l d).symm
  refine h.trans (Eq.trans (Finset.sum_congr rfl fun l _ => (pb_last m c (l, d)).trans (Finset.sum_congr rfl fun t _ => ?_)) (tok_lanes fun s => (par0 m c).dz (pooled m c s) (cts m c s) d))
  rw [par_eq m c t, prow_eq m c t, wrow_eq m c t]
  rfl

theorem ps_sum (d : Fin 512) : (outsAt0 m c t0_15.val t0_15.isLt).2.1 (ix2 9 d) = gPs m c d := by
  have h : (outsAt0 m c t0_15.val t0_15.isLt).2.1 (ix2 9 d) = ∑ l : Fin 8, (outsAt0 m c t0_15.val t0_15.isLt).2.2.2.2.2.2.2.1 (ix2 ⟨72 + l.val, by omega⟩ d) := by
    have e := outsAt0_C m c t0_15 last0 last1
    rw [e]
    refine (slab_ps_C m c t0_15 last0 last1 _ d).trans (Finset.sum_congr rfl fun l _ => ?_)
    exact (ps_C m c t0_15 last0 last1 _ l d).symm
  refine h.trans (Eq.trans (Finset.sum_congr rfl fun l _ => (ps_last m c (l, d)).trans (Finset.sum_congr rfl fun t _ => ?_)) (tok_lanes fun s => (par0 m c).dy (pooled m c s) (cts m c s) d * (par0 m c).z (pooled m c s) d))
  rw [par_eq m c t, prow_eq m c t, wrow_eq m c t]
  rfl

theorem gp_sum (d : Fin 512) : (outsAt0 m c t0_15.val t0_15.isLt).2.1 (ix2 11 d) = gGp m c d := by
  have h : (outsAt0 m c t0_15.val t0_15.isLt).2.1 (ix2 11 d) = ∑ l : Fin 8, (outsAt0 m c t0_15.val t0_15.isLt).2.2.2.2.2.2.2.1 (ix2 ⟨88 + l.val, by omega⟩ d) := by
    have e := outsAt0_C m c t0_15 last0 last1
    rw [e]
    refine (slab_gp_C m c t0_15 last0 last1 _ d).trans (Finset.sum_congr rfl fun l _ => ?_)
    exact (gp_C m c t0_15 last0 last1 _ l d).symm
  refine h.trans (Eq.trans (Finset.sum_congr rfl fun l _ => (gp_last m c (l, d)).trans (Finset.sum_congr rfl fun t _ => ?_)) (tok_lanes fun s => (par0 m c).dn (cts m c s) d * (par0 m c).x (pooled m c s) d))
  rw [par_eq m c t, prow_eq m c t, wrow_eq m c t]
  rfl

theorem pw0_sum (k d : Fin 128) : (outsAt0 m c t0_15.val t0_15.isLt).2.1 (ix2 ⟨144 + k.val, by omega⟩ (col 0 d)) = gPw m c 0 k d := by
  have h : (outsAt0 m c t0_15.val t0_15.isLt).2.1 (ix2 ⟨144 + k.val, by omega⟩ (col 0 d)) = (outsAt0 m c t0_15.val t0_15.isLt).2.2.2.2.2.2.2.2.2.2 (ix2 k (col 0 d)) := by
    have e := outsAt0_C m c t0_15 last0 last1
    rw [e]
    exact (slab_pw0_C m c t0_15 last0 last1 _ k d).trans (pw0_C m c t0_15 last0 last1 _ k d).symm
  refine h.trans (Eq.trans ((pw0_last m c (k, d)).trans (Finset.sum_congr rfl fun t _ => ?_)) (tok_sum fun s => pooled m c s (col 0 k) * (par0 m c).dz (pooled m c s) (cts m c s) (col 0 d)))
  rw [par_eq m c t, prow_eq m c t, wrow_eq m c t]
  rfl

theorem pw1_sum (k d : Fin 128) : (outsAt0 m c t0_15.val t0_15.isLt).2.1 (ix2 ⟨144 + k.val, by omega⟩ (col 1 d)) = gPw m c 1 k d := by
  have h : (outsAt0 m c t0_15.val t0_15.isLt).2.1 (ix2 ⟨144 + k.val, by omega⟩ (col 1 d)) = (outsAt0 m c t0_15.val t0_15.isLt).2.2.2.2.2.2.2.2.2.2 (ix2 k (col 1 d)) := by
    have e := outsAt0_C m c t0_15 last0 last1
    rw [e]
    exact (slab_pw1_C m c t0_15 last0 last1 _ k d).trans (pw1_C m c t0_15 last0 last1 _ k d).symm
  refine h.trans (Eq.trans ((pw1_last m c (k, d)).trans (Finset.sum_congr rfl fun t _ => ?_)) (tok_sum fun s => pooled m c s (col 1 k) * (par0 m c).dz (pooled m c s) (cts m c s) (col 1 d)))
  rw [par_eq m c t, prow_eq m c t, wrow_eq m c t]
  rfl

theorem pw2_sum (k d : Fin 128) : (outsAt0 m c t0_15.val t0_15.isLt).2.1 (ix2 ⟨144 + k.val, by omega⟩ (col 2 d)) = gPw m c 2 k d := by
  have h : (outsAt0 m c t0_15.val t0_15.isLt).2.1 (ix2 ⟨144 + k.val, by omega⟩ (col 2 d)) = (outsAt0 m c t0_15.val t0_15.isLt).2.2.2.2.2.2.2.2.2.2 (ix2 k (col 2 d)) := by
    have e := outsAt0_C m c t0_15 last0 last1
    rw [e]
    exact (slab_pw2_C m c t0_15 last0 last1 _ k d).trans (pw2_C m c t0_15 last0 last1 _ k d).symm
  refine h.trans (Eq.trans ((pw2_last m c (k, d)).trans (Finset.sum_congr rfl fun t _ => ?_)) (tok_sum fun s => pooled m c s (col 2 k) * (par0 m c).dz (pooled m c s) (cts m c s) (col 2 d)))
  rw [par_eq m c t, prow_eq m c t, wrow_eq m c t]
  rfl

theorem pw3_sum (k d : Fin 128) : (outsAt0 m c t0_15.val t0_15.isLt).2.1 (ix2 ⟨144 + k.val, by omega⟩ (col 3 d)) = gPw m c 3 k d := by
  have h : (outsAt0 m c t0_15.val t0_15.isLt).2.1 (ix2 ⟨144 + k.val, by omega⟩ (col 3 d)) = (outsAt0 m c t0_15.val t0_15.isLt).2.2.2.2.2.2.2.2.2.2 (ix2 k (col 3 d)) := by
    have e := outsAt0_C m c t0_15 last0 last1
    rw [e]
    exact (slab_pw3_C m c t0_15 last0 last1 _ k d).trans (pw3_C m c t0_15 last0 last1 _ k d).symm
  refine h.trans (Eq.trans ((pw3_last m c (k, d)).trans (Finset.sum_congr rfl fun t _ => ?_)) (tok_sum fun s => pooled m c s (col 3 k) * (par0 m c).dz (pooled m c s) (cts m c s) (col 3 d)))
  rw [par_eq m c t, prow_eq m c t, wrow_eq m c t]
  rfl

end Cert.Kernel5Ideal.Pool
end
-- ==== Proof.Mixer.Final.lean ====
module

public import proofs.«01_k».proof.Proof.Mixer.Sums

@[expose] public section
set_option maxRecDepth 16384
noncomputable section
open Idealize.ShloMosaic Idealize.ShloMosaic.TcCoe Idealize.SL.Sem
open Idealize.ShloMosaic.Pipeline (Dat)

/-! The cotangent of the pool half's inputs, token by token, and the arrays the run leaves. -/
namespace Cert.Kernel5Ideal.Pool
open Cert.Kernel5Ideal Cert.Kernel5Ideal.Gen Cert.Pool
variable (m : (ℓ : Loc nD τ sig) → Buf (Elt Ideal) ℓ) (c : Dev nD)

/-- The divided cotangent at a position, zero past the last token. -/
def divided (s : ℕ) (g : Fin 4) (k : Fin 128) : EReal := if h : s < 8192 then (par0 m c).q (pooled m c ⟨s, h⟩) (cts m c ⟨s, h⟩) s g k else 0
theorem divided_in (s : ℕ) (h : s < 8192) (g : Fin 4) (k : Fin 128) : divided m c s g k = (par0 m c).q (pooled m c ⟨s, h⟩) (cts m c ⟨s, h⟩) s g k := dif_pos h
theorem divided_out (s : ℕ) (h : ¬ s < 8192) (g : Fin 4) (k : Fin 128) : divided m c s g k = 0 := dif_neg h
/-- The cotangent of the inputs: the divided ones of the windows a token is in, less its own. -/
def gDu (s : Fin 8192) (g : Fin 4) (k : Fin 128) : EReal := (∑ j ∈ Finset.range (wid g), divided m c (s.val + j) g k) - (par0 m c).dp (pooled m c s) (cts m c s) g k

theorem ext_next (t : ℕ) (ht : t < 16) (n : Fin 16 → EReal) (g : Fin 4) (k : Fin 128) (hn : ∀ h : Fin 16, n h = divided m c ((15 - t) * 512 + 512 + h.val) g k) (i : ℕ) (hi : i < 528) :
    ext (fun r => (par0 m c).q (pooled m c (tok t r)) (cts m c (tok t r)) ((15 - t) * 512 + r.val) g k) n i = divided m c ((15 - t) * 512 + i) g k := by
  unfold ext
  split_ifs with h h'
  · have h2 : (15 - t) * 512 + i < 8192 := by omega
    exact (divided_in m c _ h2 g k).symm
  · rw [hn]
    exact congrArg (fun s => divided m c s g k) (by dsimp only; omega)
  · omega

theorem wid_le (g : Fin 4) : wid g ≤ 16 := by revert g; decide

/-- A tile's rows, from the rows the next tile left. -/
theorem du_tile (t : Fin cfg0.N) (n : Fin 4 → Fin 16 → Fin 128 → EReal) (r : Fin 512) (g : Fin 4) (k : Fin 128) (hn : ∀ h : Fin 16, n g h k = divided m c ((15 - t.val) * 512 + 512 + h.val) g k) :
    (par (iblk m c 13 t) (iblk m c 14 t) (iblk m c 15 t) (iblk m c 17 t) (iblk m c 18 t)).duT (prow (iblk m c 2 t)) (wrow (iblk m c 5 t)) (base (grid0.coords t)) n r g k = gDu m c (tok t.val r) g k := by
  have ht := lt_of_lt_of_eq t.isLt (N_0 : cfg0.N = 16)
  rw [par_eq m c t, prow_eq m c t, wrow_eq m c t, base_eq t]
  refine congrArg (· - _) (Finset.sum_congr rfl fun j hj => ?_)
  have hj' := Finset.mem_range.mp hj
  have hw := wid_le g
  refine (ext_next m c t.val ht (fun h => n g h k) g k hn (r.val + j) (by omega)).trans ?_
  exact congrArg (fun s => divided m c s g k) (by show _ = (15 - t.val) * 512 + r.val + j; omega)

/-- The rows a point leaves for the next. -/
theorem next_at (t : Fin cfg0.N) (h : Fin 16) (g : Fin 4) (k : Fin 128) :
    (par (iblk m c 13 t) (iblk m c 14 t) (iblk m c 15 t) (iblk m c 17 t) (iblk m c 18 t)).q (prow (iblk m c 2 t) ⟨h.val, by omega⟩) (wrow (iblk m c 5 t) ⟨h.val, by omega⟩) (base (grid0.coords t) + h.val) g k
      = divided m c ((15 - t.val) * 512 + h.val) g k := by
  have ht := lt_of_lt_of_eq t.isLt (N_0 : cfg0.N = 16)
  rw [par_eq m c t, prow_eq m c t, wrow_eq m c t, base_eq t]
  have h2 : (15 - t.val) * 512 + h.val < 8192 := by omega
  exact (divided_in m c _ h2 g k).symm

theorem next0 (t : Fin cfg0.N) (h : Fin 16) (k : Fin 128) : (outsAt0 m c t.val t.isLt).2.2.2.2.2.2.1 (ix2 h (col 0 k)) = divided m c ((15 - t.val) * 512 + h.val) 0 k := by
  refine Eq.trans ?_ (next_at m c t h 0 k)
  by_cases h0 : t.val % 16 = 0
  · have h1 : ¬ t.val % 16 = 15 := by omega
    rw [outsAt0_A m c t h0 h1]
    exact nx0_A m c t h0 h1 h k
  · by_cases h1 : t.val % 16 = 15
    · rw [outsAt0_C m c t h0 h1]
      exact nx0_C m c t h0 h1 _ h k
    · rw [outsAt0_B m c t h0 h1]
      exact nx0_B m c t h0 h1 _ h k

theorem du0_row (t : Fin cfg0.N) (r : Fin 512) (k : Fin 128) : (outsAt0 m c t.val t.isLt).1 (ix2 r ⟨1024 + k.val, by omega⟩) = gDu m c (tok t.val r) 0 k := by
  have ht := lt_of_lt_of_eq t.isLt (N_0 : cfg0.N = 16)
  have hn (h0 : ¬ t.val % 16 = 0) (h : Fin 16) : (outsAt0 m c (t.val - 1) (Nat.lt_of_le_of_lt (Nat.sub_le _ _) t.isLt)).2.2.2.2.2.2.1 (ix2 h (col 0 k)) = divided m c ((15 - t.val) * 512 + 512 + h.val) 0 k := by
    refine (next0 m c ⟨t.val - 1, Nat.lt_of_le_of_lt (Nat.sub_le _ _) t.isLt⟩ h k).trans ?_
    exact congrArg (fun s => divided m c s 0 k) (by dsimp only; omega)
  by_cases h0 : t.val % 16 = 0
  · have h1 : ¬ t.val % 16 = 15 := by omega
    rw [outsAt0_A m c t h0 h1]
    refine (du0_A m c t h0 h1 r k).trans (du_tile m c t _ r 0 k fun h => ?_)
    exact (divided_out m c _ (by omega) 0 k).symm
  · by_cases h1 : t.val % 16 = 15
    · rw [outsAt0_C m c t h0 h1]
      exact (du0_C m c t h0 h1 _ r k).trans (du_tile m c t _ r 0 k fun h => hn h0 h)
    · rw [outsAt0_B m c t h0 h1]
      exact (du0_B m c t h0 h1 _ r k).trans (du_tile m c t _ r 0 k fun h => hn h0 h)

theorem next1 (t : Fin cfg0.N) (h : Fin 16) (k : Fin 128) : (outsAt0 m c t.val t.isLt).2.2.2.2.2.2.1 (ix2 h (col 1 k)) = divided m c ((15 - t.val) * 512 + h.val) 1 k := by
  refine Eq.trans ?_ (next_at m c t h 1 k)
  by_cases h0 : t.val % 16 = 0
  · have h1 : ¬ t.val % 16 = 15 := by omega
    rw [outsAt0_A m c t h0 h1]
    exact nx1_A m c t h0 h1 h k
  · by_cases h1 : t.val % 16 = 15
    · rw [outsAt0_C m c t h0 h1]
      exact nx1_C m c t h0 h1 _ h k
    · rw [outsAt0_B m c t h0 h1]
      exact nx1_B m c t h0 h1 _ h k

theorem du1_row (t : Fin cfg0.N) (r : Fin 512) (k : Fin 128) : (outsAt0 m c t.val t.isLt).1 (ix2 r ⟨1152 + k.val, by omega⟩) = gDu m c (tok t.val r) 1 k := by
  have ht := lt_of_lt_of_eq t.isLt (N_0 : cfg0.N = 16)
  have hn (h0 : ¬ t.val % 16 = 0) (h : Fin 16) : (outsAt0 m c (t.val - 1) (Nat.lt_of_le_of_lt (Nat.sub_le _ _) t.isLt)).2.2.2.2.2.2.1 (ix2 h (col 1 k)) = divided m c ((15 - t.val) * 512 + 512 + h.val) 1 k := by
    refine (next1 m c ⟨t.val - 1, Nat.lt_of_le_of_lt (Nat.sub_le _ _) t.isLt⟩ h k).trans ?_
    exact congrArg (fun s => divided m c s 1 k) (by dsimp only; omega)
  by_cases h0 : t.val % 16 = 0
  · have h1 : ¬ t.val % 16 = 15 := by omega
    rw [outsAt0_A m c t h0 h1]
    refine (du1_A m c t h0 h1 r k).trans (du_tile m c t _ r 1 k fun h => ?_)
    exact (divided_out m c _ (by omega) 1 k).symm
  · by_cases h1 : t.val % 16 = 15
    · rw [outsAt0_C m c t h0 h1]
      exact (du1_C m c t h0 h1 _ r k).trans (du_tile m c t _ r 1 k fun h => hn h0 h)
    · rw [outsAt0_B m c t h0 h1]
      exact (du1_B m c t h0 h1 _ r k).trans (du_tile m c t _ r 1 k fun h => hn h0 h)

theorem next2 (t : Fin cfg0.N) (h : Fin 16) (k : Fin 128) : (outsAt0 m c t.val t.isLt).2.2.2.2.2.2.1 (ix2 h (col 2 k)) = divided m c ((15 - t.val) * 512 + h.val) 2 k := by
  refine Eq.trans ?_ (next_at m c t h 2 k)
  by_cases h0 : t.val % 16 = 0
  · have h1 : ¬ t.val % 16 = 15 := by omega
    rw [outsAt0_A m c t h0 h1]
    exact nx2_A m c t h0 h1 h k
  · by_cases h1 : t.val % 16 = 15
    · rw [outsAt0_C m c t h0 h1]
      exact nx2_C m c t h0 h1 _ h k
    · rw [outsAt0_B m c t h0 h1]
      exact nx2_B m c t h0 h1 _ h k

theorem du2_row (t : Fin cfg0.N) (r : Fin 512) (k : Fin 128) : (outsAt0 m c t.val t.isLt).1 (ix2 r ⟨1280 + k.val, by omega⟩) = gDu m c (tok t.val r) 2 k := by
  have ht := lt_of_lt_of_eq t.isLt (N_0 : cfg0.N = 16)
  have hn (h0 : ¬ t.val % 16 = 0) (h : Fin 16) : (outsAt0 m c (t.val - 1) (Nat.lt_of_le_of_lt (Nat.sub_le _ _) t.isLt)).2.2.2.2.2.2.1 (ix2 h (col 2 k)) = divided m c ((15 - t.val) * 512 + 512 + h.val) 2 k := by
    refine (next2 m c ⟨t.val - 1, Nat.lt_of_le_of_lt (Nat.sub_le _ _) t.isLt⟩ h k).trans ?_
    exact congrArg (fun s => divided m c s 2 k) (by dsimp only; omega)
  by_cases h0 : t.val % 16 = 0
  · have h1 : ¬ t.val % 16 = 15 := by omega
    rw [outsAt0_A m c t h0 h1]
    refine (du2_A m c t h0 h1 r k).trans (du_tile m c t _ r 2 k fun h => ?_)
    exact (divided_out m c _ (by omega) 2 k).symm
  · by_cases h1 : t.val % 16 = 15
    · rw [outsAt0_C m c t h0 h1]
      exact (du2_C m c t h0 h1 _ r k).trans (du_tile m c t _ r 2 k fun h => hn h0 h)
    · rw [outsAt0_B m c t h0 h1]
      exact (du2_B m c t h0 h1 _ r k).trans (du_tile m c t _ r 2 k fun h => hn h0 h)

theorem next3 (t : Fin cfg0.N) (h : Fin 16) (k : Fin 128) : (outsAt0 m c t.val t.isLt).2.2.2.2.2.2.1 (ix2 h (col 3 k)) = divided m c ((15 - t.val) * 512 + h.val) 3 k := by
  refine Eq.trans ?_ (next_at m c t h 3 k)
  by_cases h0 : t.val % 16 = 0
  · have h1 : ¬ t.val % 16 = 15 := by omega
    rw [outsAt0_A m c t h0 h1]
    exact nx3_A m c t h0 h1 h k
  · by_cases h1 : t.val % 16 = 15
    · rw [outsAt0_C m c t h0 h1]
      exact nx3_C m c t h0 h1 _ h k
    · rw [outsAt0_B m c t h0 h1]
      exact nx3_B m c t h0 h1 _ h k

theorem du3_row (t : Fin cfg0.N) (r : Fin 512) (k : Fin 128) : (outsAt0 m c t.val t.isLt).1 (ix2 r ⟨1408 + k.val, by omega⟩) = gDu m c (tok t.val r) 3 k := by
  have ht := lt_of_lt_of_eq t.isLt (N_0 : cfg0.N = 16)
  have hn (h0 : ¬ t.val % 16 = 0) (h : Fin 16) : (outsAt0 m c (t.val - 1) (Nat.lt_of_le_of_lt (Nat.sub_le _ _) t.isLt)).2.2.2.2.2.2.1 (ix2 h (col 3 k)) = divided m c ((15 - t.val) * 512 + 512 + h.val) 3 k := by
    refine (next3 m c ⟨t.val - 1, Nat.lt_of_le_of_lt (Nat.sub_le _ _) t.isLt⟩ h k).trans ?_
    exact congrArg (fun s => divided m c s 3 k) (by dsimp only; omega)
  by_cases h0 : t.val % 16 = 0
  · have h1 : ¬ t.val % 16 = 15 := by omega
    rw [outsAt0_A m c t h0 h1]
    refine (du3_A m c t h0 h1 r k).trans (du_tile m c t _ r 3 k fun h => ?_)
    exact (divided_out m c _ (by omega) 3 k).symm
  · by_cases h1 : t.val % 16 = 15
    · rw [outsAt0_C m c t h0 h1]
      exact (du3_C m c t h0 h1 _ r k).trans (du_tile m c t _ r 3 k fun h => hn h0 h)
    · rw [outsAt0_B m c t h0 h1]
      exact (du3_B m c t h0 h1 _ r k).trans (du_tile m c t _ r 3 k fun h => hn h0 h)

/-- Every point's rows of the inputs' cotangent, in the place of the tokens they stand for. -/
def rows (i : S8192x1536.Idx) : EReal := (outsAt0 m c (15 - (i 0).val / 512) (by rw [show cfg0.N = 16 from N_0]; omega)).1 (ix2 ⟨(i 0).val % 512, Nat.mod_lt _ (by decide)⟩ (i 1))

theorem rows_at (t : Fin cfg0.N) (r : Fin 512) (k : Fin 1536) (i : S8192x1536.Idx) (h0 : (i 0).val = (15 - t.val) * 512 + r.val) (h1 : (i 1).val = k.val) :
    rows m c i = (outsAt0 m c t.val t.isLt).1 (ix2 r k) := by
  have ht := lt_of_lt_of_eq t.isLt (N_0 : cfg0.N = 16)
  have e (n : ℕ) (hn : n < cfg0.N) (r' : Fin 512) (k' : Fin 1536) (a : n = t.val) (b : r' = r) (d : k' = k) : (outsAt0 m c n hn).1 (ix2 r' k') = (outsAt0 m c t.val t.isLt).1 (ix2 r k) := by
    subst a b d
    rfl
  exact e _ _ _ _ (by omega) (Fin.ext (by dsimp only; omega)) (Fin.ext h1)

theorem final19 : (dats m 0 c).arrAt 19 (cfgs 0).N = rows m c := by
  refine (dats m 0 c).arrAt_eq_of_covers 19 _ (by decide +kernel) fun t _ y => ?_
  blk_simp
  rw [after0_19]
  have e : y = ix2 (y 0) (y 1) := by funext a; fin_cases a <;> rfl
  refine (congrArg _ e).trans (rows_at m c t (y 0) (y 1) _ ?_ ?_).symm
  · blk_simp [idx t]
  · blk_simp [idx t]

theorem final20 : (dats m 0 c).arrAt 20 (cfgs 0).N = (outsAt0 m c t0_15.val t0_15.isLt).2.1 := by
  refine (dats m 0 c).arrAt_eq_of_after_last 20 t0_15 (by decide +kernel) _ fun j => ?_
  blk_simp
  rw [after0_20]

theorem final21 : (dats m 0 c).arrAt 21 (cfgs 0).N = (outsAt0 m c t0_15.val t0_15.isLt).2.2.1 := by
  refine (dats m 0 c).arrAt_eq_of_after_last 21 t0_15 (by decide +kernel) _ fun j => ?_
  blk_simp
  rw [after0_21]

theorem rows0 (s : Fin 8192) (k : Fin 128) : rows m c (ix2 s ⟨1024 + k.val, by omega⟩) = gDu m c s 0 k := by
  have ht : 15 - s.val / 512 < cfg0.N := by rw [show cfg0.N = 16 from N_0]; omega
  refine (rows_at m c ⟨15 - s.val / 512, ht⟩ ⟨s.val % 512, Nat.mod_lt _ (by decide)⟩ ⟨1024 + k.val, by omega⟩ _ (by show s.val = (15 - (15 - s.val / 512)) * 512 + s.val % 512; omega) rfl).trans ?_
  refine (du0_row m c ⟨15 - s.val / 512, ht⟩ ⟨s.val % 512, Nat.mod_lt _ (by decide)⟩ k).trans ?_
  exact congrArg (fun s => gDu m c s 0 k) (Fin.ext (by show (15 - (15 - s.val / 512)) * 512 + s.val % 512 = s.val; omega))

theorem rows1 (s : Fin 8192) (k : Fin 128) : rows m c (ix2 s ⟨1152 + k.val, by omega⟩) = gDu m c s 1 k := by
  have ht : 15 - s.val / 512 < cfg0.N := by rw [show cfg0.N = 16 from N_0]; omega
  refine (rows_at m c ⟨15 - s.val / 512, ht⟩ ⟨s.val % 512, Nat.mod_lt _ (by decide)⟩ ⟨1152 + k.val, by omega⟩ _ (by show s.val = (15 - (15 - s.val / 512)) * 512 + s.val % 512; omega) rfl).trans ?_
  refine (du1_row m c ⟨15 - s.val / 512, ht⟩ ⟨s.val % 512, Nat.mod_lt _ (by decide)⟩ k).trans ?_
  exact congrArg (fun s => gDu m c s 1 k) (Fin.ext (by show (15 - (15 - s.val / 512)) * 512 + s.val % 512 = s.val; omega))

theorem rows2 (s : Fin 8192) (k : Fin 128) : rows m c (ix2 s ⟨1280 + k.val, by omega⟩) = gDu m c s 2 k := by
  have ht : 15 - s.val / 512 < cfg0.N := by rw [show cfg0.N = 16 from N_0]; omega
  refine (rows_at m c ⟨15 - s.val / 512, ht⟩ ⟨s.val % 512, Nat.mod_lt _ (by decide)⟩ ⟨1280 + k.val, by omega⟩ _ (by show s.val = (15 - (15 - s.val / 512)) * 512 + s.val % 512; omega) rfl).trans ?_
  refine (du2_row m c ⟨15 - s.val / 512, ht⟩ ⟨s.val % 512, Nat.mod_lt _ (by decide)⟩ k).trans ?_
  exact congrArg (fun s => gDu m c s 2 k) (Fin.ext (by show (15 - (15 - s.val / 512)) * 512 + s.val % 512 = s.val; omega))

theorem rows3 (s : Fin 8192) (k : Fin 128) : rows m c (ix2 s ⟨1408 + k.val, by omega⟩) = gDu m c s 3 k := by
  have ht : 15 - s.val / 512 < cfg0.N := by rw [show cfg0.N = 16 from N_0]; omega
  refine (rows_at m c ⟨15 - s.val / 512, ht⟩ ⟨s.val % 512, Nat.mod_lt _ (by decide)⟩ ⟨1408 + k.val, by omega⟩ _ (by show s.val = (15 - (15 - s.val / 512)) * 512 + s.val % 512; omega) rfl).trans ?_
  refine (du3_row m c ⟨15 - s.val / 512, ht⟩ ⟨s.val % 512, Nat.mod_lt _ (by decide)⟩ k).trans ?_
  exact congrArg (fun s => gDu m c s 3 k) (Fin.ext (by show (15 - (15 - s.val / 512)) * 512 + s.val % 512 = s.val; omega))
end Cert.Kernel5Ideal.Pool
end
-- ==== Proof.Mixer.Tail.lean ====
module

public import proofs.«01_k».proof.Proof.Mixer.Final

@[expose] public section
set_option maxRecDepth 16384
noncomputable section
open Idealize.ShloMosaic Idealize.ShloMosaic.TcCoe Idealize.SL.Sem
open Idealize.ShloMosaic.Pipeline (Dat)

/-! The results the host reads off the arrays the run leaves. -/
namespace Cert.Kernel5Ideal.Pool
open Cert.Kernel5Ideal Cert.Kernel5Ideal.Gen Cert.Pool
variable (m : (ℓ : Loc nD τ sig) → Buf (Elt Ideal) ℓ) (c : Dev nD)

/-- An array one window alone stages is what that window left. -/
theorem only (V : Valuation τ sig (Elt Ideal)) (A : (w : Fin cfg0.W) → Buf (Elt Ideal) ((spec0 w).arr.view.loc (c.tc : Thread nD τ))) (w : Fin cfg0.W)
    (hw : ∀ w', Pipeline.arrRef spec0 w' = Pipeline.arrRef spec0 w → w' = w) : Pipeline.withArrays spec0 c V A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt Ideal)) e) (A w') = A w from this _ h.choose_spec
  intro w' e
  obtain rfl := hw w' (Proc.devRef_injective _ e)
  rfl

abbrev lanesOf (X : FVec Ideal S8192x1536 .bf16) : FVec Ideal S8192x512 .f32 := extf (F := Ideal) .f32 (extractStridedSlice S8192x512 ![0, 1024] X slices_S8192x1536_S8192x512_0_1024) bitsLt_bf16_f32
theorem lanesOf_at (X : FVec Ideal S8192x1536 .bf16) (s : Fin 8192) (k : Fin 512) : lanesOf X (ix2 s k) = X (ix2 s ⟨1024 + k.val, by omega⟩) := by pointwise [lanesOf]

theorem tail_du : Pipeline.afterTail₀ cfgs (dats m) 0 (V0 m) [hostOps1] c main_v594 = lanesOf (rows m c) := by
  rw [← final19 m c]
  show StableHlo.after hostOps1 _ _ = _
  after_results
  exact congrArg lanesOf (only c _ _ 19 (by decide))

abbrev blocksOf (X : FVec Ideal S272x512 .f32) : FVec Ideal S1x4x128x128 .f32 := broadcastInDim S1x4x128x128 ![1, 2, 3] bcast_S4x128x128_S1x4x128x128_1_2_3
  (transpose S4x128x128 [1, 0, 2] (shapeCast S128x4x128 (extractStridedSlice S128x512 ![144, 0] X slices_S272x512_S128x512_144_0) shapeCasts_S128x512_S128x4x128) transposes_S128x4x128_S4x128x128_1_0_2)
theorem blocksOf_at (X : FVec Ideal S272x512 .f32) (g : Fin 4) (k d : Fin 128) : blocksOf X (ix4 0 g k d) = X (ix2 ⟨144 + k.val, by omega⟩ (col g d)) := by
  refine Eq.trans ?_ (congrArg (fun e => X (ix2 ⟨144 + k.val, by omega⟩ e)) (Fin.ext (by show g.val * 128 + d.val = 128 * g.val + d.val; omega) : (⟨g.val * 128 + d.val, by omega⟩ : Fin 512) = col g d))
  pointwise [blocksOf]

theorem tail_pw : Pipeline.afterTail₀ cfgs (dats m) 0 (V0 m) [hostOps1] c main_v595 = blocksOf (outsAt0 m c t0_15.val t0_15.isLt).2.1 := by
  rw [← final20 m c]
  show StableHlo.after hostOps1 _ _ = _
  after_results
  exact congrArg blocksOf (only c _ _ 20 (by decide))

abbrev slabRow8 (X : FVec Ideal S272x512 .f32) : FVec Ideal S1x512 .f32 := extractStridedSlice S1x512 ![8, 0] X slices_S272x512_S1x512_8_0
theorem slabRow8_at (X : FVec Ideal S272x512 .f32) (d : Fin 512) : slabRow8 X (ix2 0 d) = X (ix2 8 d) := by pointwise [slabRow8]
theorem tail_pb : Pipeline.afterTail₀ cfgs (dats m) 0 (V0 m) [hostOps1] c main_v596 = slabRow8 (outsAt0 m c t0_15.val t0_15.isLt).2.1 := by
  rw [← final20 m c]
  show StableHlo.after hostOps1 _ _ = _
  after_results
  exact congrArg slabRow8 (only c _ _ 20 (by decide))
theorem res_pb (d : Fin 512) : Pipeline.afterTail₀ cfgs (dats m) 0 (V0 m) [hostOps1] c main_v596 (ix2 0 d) = gPb m c d := by
  rw [tail_pb m c, slabRow8_at]
  exact pb_sum m c d

abbrev slabRow9 (X : FVec Ideal S272x512 .f32) : FVec Ideal S1x512 .f32 := extractStridedSlice S1x512 ![9, 0] X slices_S272x512_S1x512_9_0
theorem slabRow9_at (X : FVec Ideal S272x512 .f32) (d : Fin 512) : slabRow9 X (ix2 0 d) = X (ix2 9 d) := by pointwise [slabRow9]
theorem tail_ps : Pipeline.afterTail₀ cfgs (dats m) 0 (V0 m) [hostOps1] c main_v597 = slabRow9 (outsAt0 m c t0_15.val t0_15.isLt).2.1 := by
  rw [← final20 m c]
  show StableHlo.after hostOps1 _ _ = _
  after_results
  exact congrArg slabRow9 (only c _ _ 20 (by decide))
theorem res_ps (d : Fin 512) : Pipeline.afterTail₀ cfgs (dats m) 0 (V0 m) [hostOps1] c main_v597 (ix2 0 d) = gPs m c d := by
  rw [tail_ps m c, slabRow9_at]
  exact ps_sum m c d

abbrev slabRow11 (X : FVec Ideal S272x512 .f32) : FVec Ideal S1x512 .f32 := extractStridedSlice S1x512 ![11, 0] X slices_S272x512_S1x512_11_0
theorem slabRow11_at (X : FVec Ideal S272x512 .f32) (d : Fin 512) : slabRow11 X (ix2 0 d) = X (ix2 11 d) := by pointwise [slabRow11]
theorem tail_gp : Pipeline.afterTail₀ cfgs (dats m) 0 (V0 m) [hostOps1] c main_v598 = slabRow11 (outsAt0 m c t0_15.val t0_15.isLt).2.1 := by
  rw [← final20 m c]
  show StableHlo.after hostOps1 _ _ = _
  after_results
  exact congrArg slabRow11 (only c _ _ 20 (by decide))
theorem res_gp (d : Fin 512) : Pipeline.afterTail₀ cfgs (dats m) 0 (V0 m) [hostOps1] c main_v598 (ix2 0 d) = gGp m c d := by
  rw [tail_gp m c, slabRow11_at]
  exact gp_sum m c d

abbrev lower (X : FVec Ideal S1024x1024 .f32) : FVec Ideal S512x1024 .f32 := extractStridedSlice S512x1024 ![512, 0] X slices_S1024x1024_S512x1024_512_0
theorem lower_at (X : FVec Ideal S1024x1024 .f32) (d : Fin 512) (j : Fin 1024) : lower X (ix2 d j) = X (ix2 ⟨512 + d.val, by omega⟩ j) := by pointwise [lower]
theorem tail_wo : Pipeline.afterTail₀ cfgs (dats m) 0 (V0 m) [hostOps1] c main_v599 = lower (outsAt0 m c t0_15.val t0_15.isLt).2.2.1 := by
  rw [← final21 m c]
  show StableHlo.after hostOps1 _ _ = _
  after_results
  exact congrArg lower (only c _ _ 21 (by decide))

theorem res_wo (d : Fin 512) (j : Fin 1024) : Pipeline.afterTail₀ cfgs (dats m) 0 (V0 m) [hostOps1] c main_v599 (ix2 d j) = gWo m c d j := by
  rw [tail_wo m c, lower_at]
  exact wo_sum m c d j

theorem res_pw (g : Fin 4) (k d : Fin 128) : Pipeline.afterTail₀ cfgs (dats m) 0 (V0 m) [hostOps1] c main_v595 (ix4 0 g k d) = gPw m c g k d := by
  rw [tail_pw m c, blocksOf_at]
  fin_cases g
  · exact pw0_sum m c k d
  · exact pw1_sum m c k d
  · exact pw2_sum m c k d
  · exact pw3_sum m c k d

theorem res_du (s : Fin 8192) (g : Fin 4) (k : Fin 128) : Pipeline.afterTail₀ cfgs (dats m) 0 (V0 m) [hostOps1] c main_v594 (ix2 s (col g k)) = gDu m c s g k := by
  rw [tail_du m c, lanesOf_at]
  fin_cases g
  · exact (congrArg (fun e => rows m c (ix2 s e)) (Fin.ext (by show 1024 + (128 * 0 + k.val) = 1024 + k.val; omega))).trans (rows0 m c s k)
  · exact (congrArg (fun e => rows m c (ix2 s e)) (Fin.ext (by show 1024 + (128 * 1 + k.val) = 1152 + k.val; omega))).trans (rows1 m c s k)
  · exact (congrArg (fun e => rows m c (ix2 s e)) (Fin.ext (by show 1024 + (128 * 2 + k.val) = 1280 + k.val; omega))).trans (rows2 m c s k)
  · exact (congrArg (fun e => rows m c (ix2 s e)) (Fin.ext (by show 1024 + (128 * 3 + k.val) = 1408 + k.val; omega))).trans (rows3 m c s k)
end Cert.Kernel5Ideal.Pool
end
-- ==== Proof.Common.Window.lean ====
module

public import Idealize.ShloMosaic.Lib.Pipeline.ValueKit
public import Idealize.ShloMosaic.Lib.Pointwise

@[expose] public section
noncomputable section
open Idealize.ShloMosaic

/-! A sum over a sliding window down the rows of a matrix. -/
namespace Cert.Window

theorem foldl_sum {ι : Type*} (l : List ι) (f : ι → EReal) (z : EReal) : l.foldl (fun r n => r + f n) z = z + (l.map f).sum := by
  induction l generalizing z with
  | nil => simp
  | cons a l ih => rw [List.foldl_cons, ih, List.map_cons, List.sum_cons, add_assoc]

theorem numel_col (N : ℕ) : (⟨2, ![N, 1]⟩ : Shape).numel = N := by
  show ∏ a : Fin 2, (![N, 1] : Fin 2 → ℕ) a = N
  rw [Fin.prod_univ_two]
  show N * 1 = N
  omega

theorem symm_col (N : ℕ) (n : Fin (⟨2, ![N, 1]⟩ : Shape).numel) :
    ((⟨2, ![N, 1]⟩ : Shape).rowMajor.symm n 0).val = n.val ∧ ((⟨2, ![N, 1]⟩ : Shape).rowMajor.symm n 1).val = 0 := by
  have h1 : ((⟨2, ![N, 1]⟩ : Shape).rowMajor.symm n 1).val < 1 := ((⟨2, ![N, 1]⟩ : Shape).rowMajor.symm n 1).isLt
  have h := congrArg Fin.val ((⟨2, ![N, 1]⟩ : Shape).rowMajor.apply_symm_apply n)
  rw [Shape.rowMajor_val_two] at h
  have h' : ((⟨2, ![N, 1]⟩ : Shape).rowMajor.symm n 0).val * 1 + ((⟨2, ![N, 1]⟩ : Shape).rowMajor.symm n 1).val = n.val := h
  constructor <;> omega

/-- The running sums down the columns: row `j` adds the rows that the window of `N` rows starting `lo` rows above `j` meets. -/
theorem sum_at {N C lo hi : ℕ} {u : Shape} (x : FVec Ideal ⟨2, ![N, C]⟩ .f32) (init : FVec Ideal u .f32) (hu : 0 < u.numel)
    (hi0 : ∀ i, init i = (0 : EReal))
    (h : (⟨2, ![N, C]⟩ : Shape).ReduceWindows ![N, 1] ![1, 1] ![lo, 0] ![hi, 0] ⟨2, ![N, C]⟩) (j : Fin N) (k : Fin C) :
    Host.reduceWindowAdd ![N, 1] ![1, 1] ![lo, 0] ![hi, 0] x init h hu (ValueIdx.ix2 j k)
      = ∑ n : Fin N, if hn : lo ≤ j.val + n.val ∧ j.val + n.val - lo < N then x (ValueIdx.ix2 ⟨j.val + n.val - lo, hn.2⟩ k) else (0 : EReal) := by
  have hk := k.isLt
  show (List.finRange (⟨2, ![N, 1]⟩ : Shape).numel).foldl (fun (r : EReal) n => r + _) _ = _
  rw [foldl_sum]
  refine (congrArg₂ (· + ·) (hi0 _) rfl).trans ?_
  rw [zero_add, ← List.ofFn_eq_map, List.sum_ofFn]
  refine Fintype.sum_equiv (finCongr (numel_col N)) _ _ fun n => ?_
  obtain ⟨h0, h1⟩ := symm_col N n
  have e0 : (finCongr (numel_col N) n).val = n.val := rfl
  split
  · next hin =>
    have a0 : lo ≤ j.val * 1 + ((⟨2, ![N, 1]⟩ : Shape).rowMajor.symm n 0).val ∧ j.val * 1 + ((⟨2, ![N, 1]⟩ : Shape).rowMajor.symm n 0).val - lo < N := hin 0
    rw [h0] at a0
    rw [dif_pos (by rw [e0]; omega)]
    refine congrArg x (funext fun a => Fin.ext ?_)
    match a with
    | ⟨0, _⟩ =>
      show j.val * 1 + ((⟨2, ![N, 1]⟩ : Shape).rowMajor.symm n 0).val - lo = j.val + n.val - lo
      rw [h0]; omega
    | ⟨1, _⟩ =>
      show k.val * 1 + ((⟨2, ![N, 1]⟩ : Shape).rowMajor.symm n 1).val - 0 = k.val
      rw [h1]; omega
  · next hin =>
    rw [dif_neg]
    · exact hi0 _
    · intro hn
      rw [e0] at hn
      refine hin fun a => ?_
      match a with
      | ⟨0, _⟩ =>
        show lo ≤ j.val * 1 + ((⟨2, ![N, 1]⟩ : Shape).rowMajor.symm n 0).val ∧ j.val * 1 + ((⟨2, ![N, 1]⟩ : Shape).rowMajor.symm n 0).val - lo < N
        rw [h0]; omega
      | ⟨1, _⟩ =>
        show 0 ≤ k.val * 1 + ((⟨2, ![N, 1]⟩ : Shape).rowMajor.symm n 1).val ∧ k.val * 1 + ((⟨2, ![N, 1]⟩ : Shape).rowMajor.symm n 1).val - 0 < C
        rw [h1]; omega

end Cert.Window
end
-- ==== Proof.Mixer.Ref.lean ====
module

public import proofs.«01_k».proof.Proof.Mixer.Block
public import proofs.«01_k».proof.Proof.Gen.Reference5Ideal.Read
public import proofs.«01_k».proof.Proof.Common.Window
public import Idealize.ShloMosaic.Lib.Pointwise
public import Idealize.ShloMosaic.Lib.KernelVsHost

@[expose] public section
set_option maxRecDepth 16384
noncomputable section
open Idealize.ShloMosaic Idealize.ShloMosaic.TcCoe

/-! The reference's intermediate arrays of the pool half, row by row. -/
namespace Cert.PoolRef
open Cert.Pool
open Cert.Reference5Ideal (S1x8192x1536 S1x4x128x128 S1x512 S1x1024x1024 S1x8192x1024)

/-- The pooled rows; -/
def pooledOf (x0 : FVec Ideal S1x8192x1536 .f32) (s : Fin 8192) (k : Fin 512) : EReal := Cert.Reference5Ideal.Read.val_main_v37 (F := Ideal) x0 (ix3 s (grp k) (lane k))
/-- the rows of the cotangent; -/
def ctOf (x14 : FVec Ideal S1x8192x1024 .f32) (s : Fin 8192) (j : Fin 1024) : EReal := x14 (ix3 0 s j)
/-- the parameters. -/
def parOf (x8 : FVec Ideal S1x4x128x128 .f32) (x9 x10 x12 : FVec Ideal S1x512 .f32) (x13 : FVec Ideal S1x1024x1024 .f32) : Par where
  W g k d := x8 (ix4 0 g k d)
  pb d := x9 (ix2 0 d)
  ps d := x10 (ix2 0 d)
  gp d := x12 (ix2 0 d)
  wo d j := x13 (ix3 0 ⟨512 + d.val, by omega⟩ j)

section
variable (x0 : FVec Ideal S1x8192x1536 .f32) (x8 : FVec Ideal S1x4x128x128 .f32) (x9 x10 x12 : FVec Ideal S1x512 .f32) (x13 : FVec Ideal S1x1024x1024 .f32) (x14 : FVec Ideal S1x8192x1024 .f32)
open Cert.Reference5Ideal.Read

theorem ref43 (s : Fin 8192) (c : Fin 512) : val_main_v43 (F := Ideal) x0 x8 x9 (ix2 s c) = (parOf x8 x9 x10 x12 x13).z (pooledOf x0 s) c := by
  refine Eq.trans (b := (∑ k : Fin 128, x8 (ix4 0 (grp c) k (lane c)) * val_main_v37 (F := Ideal) x0 (ix3 s (grp c) k)) + x9 (ix2 0 c)) ?_ ?_
  · pointwise [val_main_v43, val_main_v42, val_main_v41, val_main_v40, val_main_v39, val_main_v38, val_main_v5, val_main_v4, grp, lane]
  · show _ = (∑ k : Fin 128, pooledOf x0 s (col (grp c) k) * x8 (ix4 0 (grp c) k (lane c))) + x9 (ix2 0 c)
    refine congrArg (· + _) (Finset.sum_congr rfl fun k _ => ?_)
    rw [mul_comm]
    unfold pooledOf
    rw [grp_col, lane_col]

theorem ref46 (s : Fin 8192) (c : Fin 512) : val_main_v46 (F := Ideal) x0 x8 x9 x10 (ix2 s c) = (parOf x8 x9 x10 x12 x13).y (pooledOf x0 s) c := by
  refine Eq.trans (b := val_main_v43 (F := Ideal) x0 x8 x9 (ix2 s c) * x10 (ix2 0 c)) ?_ (congrArg (· * _) (ref43 x0 x8 x9 x10 x12 x13 s c))
  pointwise [val_main_v46, val_main_v45, val_main_v44, val_main_v6]

theorem ref54 (s : Fin 8192) : val_main_v54 (F := Ideal) x0 x8 x9 x10 (ix2 s 0) = msR ((parOf x8 x9 x10 x12 x13).y (pooledOf x0 s)) := by
  refine Eq.trans (b := msR fun k => val_main_v46 (F := Ideal) x0 x8 x9 x10 (ix2 s k)) ?_ (congrArg msR (funext fun k => ref46 x0 x8 x9 x10 x12 x13 s k))
  pointwise [val_main_v54, val_main_v53, val_main_v52, val_main_v51, val_main_v50, val_main_v49, val_main_v48, val_main_cst_5, val_main_cst_6, val_main_cst_7, msR]

theorem ref60 (s : Fin 8192) (c : Fin 512) : val_main_v60 (F := Ideal) x0 x8 x9 x10 (ix2 s c) = (parOf x8 x9 x10 x12 x13).x (pooledOf x0 s) c := by
  refine Eq.trans (b := val_main_v46 (F := Ideal) x0 x8 x9 x10 (ix2 s c) * Ideal.rsqrt (val_main_v54 (F := Ideal) x0 x8 x9 x10 (ix2 s 0))) ?_ ?_
  · pointwise [val_main_v60, val_main_v59, val_main_v55]
  · rw [ref46 x0 x8 x9 x10 x12 x13, ref54 x0 x8 x9 x10 x12 x13]
    rfl

theorem ref63 (s : Fin 8192) (c : Fin 512) : val_main_v63 (F := Ideal) x0 x8 x9 x10 x12 (ix2 s c) = (parOf x8 x9 x10 x12 x13).x (pooledOf x0 s) c * x12 (ix2 0 c) := by
  refine Eq.trans (b := val_main_v60 (F := Ideal) x0 x8 x9 x10 (ix2 s c) * x12 (ix2 0 c)) ?_ (congrArg (· * _) (ref60 x0 x8 x9 x10 x12 x13 s c))
  pointwise [val_main_v63, val_main_v62, val_main_v61, val_main_v47]

theorem ref68 (s : Fin 8192) (c : Fin 512) : val_main_v68 (F := Ideal) x13 x14 (ix2 s c) = (parOf x8 x9 x10 x12 x13).dn (ctOf x14 s) c := by
  refine Eq.trans (b := ∑ j : Fin 1024, x14 (ix3 0 s j) * x13 (ix3 0 ⟨512 + c.val, by omega⟩ j)) ?_ rfl
  pointwise [val_main_v68, val_main_v65, val_main_v3, val_main_v2]

theorem ref67 (d : Fin 512) (j : Fin 1024) : val_main_v67 (F := Ideal) x0 x8 x9 x10 x12 x14 (ix2 d j)
    = ∑ s : Fin 8192, (parOf x8 x9 x10 x12 x13).x (pooledOf x0 s) d * x12 (ix2 0 d) * ctOf x14 s j := by
  refine Eq.trans (b := ∑ s : Fin 8192, x14 (ix3 0 s j) * val_main_v63 (F := Ideal) x0 x8 x9 x10 x12 (ix2 s d)) ?_ (Finset.sum_congr rfl fun s _ => ?_)
  · pointwise [val_main_v67, val_main_v66, val_main_v65]
  · rw [ref63 x0 x8 x9 x10 x12 x13, mul_comm]
    rfl

theorem ref89 (d : Fin 512) : val_main_v89 (F := Ideal) x0 x8 x9 x10 x13 x14 (ix2 0 d)
    = ∑ s : Fin 8192, (parOf x8 x9 x10 x12 x13).dn (ctOf x14 s) d * (parOf x8 x9 x10 x12 x13).x (pooledOf x0 s) d := by
  refine Eq.trans (b := ∑ s : Fin 8192, val_main_v60 (F := Ideal) x0 x8 x9 x10 (ix2 s d) * val_main_v68 (F := Ideal) x13 x14 (ix2 s d)) ?_ (Finset.sum_congr rfl fun s _ => ?_)
  · pointwise [val_main_v89, val_main_v74, val_main_v71, val_main_v70, val_main_v69, val_main_cst_9, val_main_cst_10]
    exact Fin.sum_univ_one _
  · rw [ref60 x0 x8 x9 x10 x12 x13, ref68 x8 x9 x10 x12 x13, mul_comm]

/-- The cotangent of the scaled row, as the reference differentiates the norm. -/
def back (y dn gp : Fin 512 → EReal) (M R : EReal) (k : Fin 512) : EReal :=
  dn k * gp k * R + y k * Ideal.div ((∑ l : Fin 512, y l * (dn l * gp l)) * (Ideal.ofBits .f32 0xBF000000#32 * Ideal.div R M)) (Ideal.ofBits .f32 0x44000000#32)
    + Ideal.div ((∑ l : Fin 512, y l * (dn l * gp l)) * (Ideal.ofBits .f32 0xBF000000#32 * Ideal.div R M)) (Ideal.ofBits .f32 0x44000000#32) * y k

theorem ref88 (s : Fin 8192) (c : Fin 512) : val_main_v88 (F := Ideal) x0 x8 x9 x10 x12 x13 x14 (ix2 s c)
    = back ((parOf x8 x9 x10 x12 x13).y (pooledOf x0 s)) ((parOf x8 x9 x10 x12 x13).dn (ctOf x14 s)) (parOf x8 x9 x10 x12 x13).gp
        (msR ((parOf x8 x9 x10 x12 x13).y (pooledOf x0 s))) (Ideal.rsqrt (msR ((parOf x8 x9 x10 x12 x13).y (pooledOf x0 s)))) c := by
  refine Eq.trans (b := back (fun k => val_main_v46 (F := Ideal) x0 x8 x9 x10 (ix2 s k)) (fun k => val_main_v68 (F := Ideal) x13 x14 (ix2 s k)) (fun k => x12 (ix2 0 k))
    (val_main_v54 (F := Ideal) x0 x8 x9 x10 (ix2 s 0)) (Ideal.rsqrt (val_main_v54 (F := Ideal) x0 x8 x9 x10 (ix2 s 0))) c) ?_ ?_
  · pointwise [val_main_v88, val_main_v87, val_main_v86, val_main_v85, val_main_v84, val_main_v83, val_main_v82, val_main_v81, val_main_v80, val_main_v79, val_main_v78, val_main_v77, val_main_v76, val_main_v75,
      val_main_v73, val_main_v72, val_main_v61, val_main_v47, val_main_v58, val_main_v57, val_main_v56, val_main_v55, val_main_cst_8, val_main_cst_11, val_main_cst_12, val_main_cst_13, back]
    try rw [Fin.sum_univ_one]
  · rw [ref54 x0 x8 x9 x10 x12 x13]
    refine congrArg₂ (fun a b => back a b _ _ _ c) (funext fun k => ref46 x0 x8 x9 x10 x12 x13 s k) (funext fun k => ref68 x8 x9 x10 x12 x13 x14 s k)

theorem ref94 (s : Fin 8192) (c : Fin 512) : val_main_v94 (F := Ideal) x0 x8 x9 x10 x12 x13 x14 (ix2 s c) = val_main_v88 (F := Ideal) x0 x8 x9 x10 x12 x13 x14 (ix2 s c) * x10 (ix2 0 c) := by
  pointwise [val_main_v94, val_main_v93, val_main_v44, val_main_v6]

theorem ref128 (d : Fin 512) : val_main_v128 (F := Ideal) x0 x8 x9 x10 x12 x13 x14 (ix2 0 d)
    = ∑ s : Fin 8192, val_main_v88 (F := Ideal) x0 x8 x9 x10 x12 x13 x14 (ix2 s d) * val_main_v43 (F := Ideal) x0 x8 x9 (ix2 s d) := by
  refine Eq.trans (b := ∑ s : Fin 8192, val_main_v43 (F := Ideal) x0 x8 x9 (ix2 s d) * val_main_v88 (F := Ideal) x0 x8 x9 x10 x12 x13 x14 (ix2 s d)) ?_ (Finset.sum_congr rfl fun s _ => mul_comm _ _)
  pointwise [val_main_v128, val_main_v95, val_main_v92, val_main_v91, val_main_v90, val_main_cst_14, val_main_cst_15]
  exact Fin.sum_univ_one _

theorem ref129 (d : Fin 512) : val_main_v129 (F := Ideal) x0 x8 x9 x10 x12 x13 x14 (ix2 0 d)
    = ∑ s : Fin 8192, val_main_v94 (F := Ideal) x0 x8 x9 x10 x12 x13 x14 (ix2 s d) := by
  pointwise [val_main_v129, val_main_v98, val_main_v97, val_main_v96, val_main_cst_16, val_main_cst_17]
  exact Fin.sum_univ_one _

theorem ref130 (g : Fin 4) (k d : Fin 128) : val_main_v130 (F := Ideal) x0 x8 x9 x10 x12 x13 x14 (ix4 0 g k d)
    = ∑ s : Fin 8192, pooledOf x0 s (col g k) * val_main_v94 (F := Ideal) x0 x8 x9 x10 x12 x13 x14 (ix2 s (col g d)) := by
  refine Eq.trans (b := ∑ s : Fin 8192, val_main_v94 (F := Ideal) x0 x8 x9 x10 x12 x13 x14 (ix2 s ⟨g.val * 128 + d.val, by omega⟩) * val_main_v37 (F := Ideal) x0 (ix3 s g k)) ?_ (Finset.sum_congr rfl fun s _ => ?_)
  · pointwise [val_main_v130, val_main_v104, val_main_v103, val_main_v100, val_main_v99]
  · rw [mul_comm]
    unfold pooledOf
    rw [grp_col, lane_col]
    exact congrArg (fun e => _ * val_main_v94 (F := Ideal) x0 x8 x9 x10 x12 x13 x14 (ix2 s e)) (Fin.ext (by show g.val * 128 + d.val = 128 * g.val + d.val; omega))

theorem ref102 (s : Fin 8192) (g : Fin 4) (k : Fin 128) : val_main_v102 (F := Ideal) x0 x8 x9 x10 x12 x13 x14 (ix3 s g k)
    = ∑ d : Fin 128, val_main_v94 (F := Ideal) x0 x8 x9 x10 x12 x13 x14 (ix2 s (col g d)) * x8 (ix4 0 g k d) := by
  refine Eq.trans (b := ∑ d : Fin 128, val_main_v94 (F := Ideal) x0 x8 x9 x10 x12 x13 x14 (ix2 s ⟨g.val * 128 + d.val, by omega⟩) * x8 (ix4 0 g k d)) ?_ (Finset.sum_congr rfl fun d _ => ?_)
  · pointwise [val_main_v102, val_main_v101, val_main_v100, val_main_v99, val_main_v4]
  · exact congrArg (fun e => val_main_v94 (F := Ideal) x0 x8 x9 x10 x12 x13 x14 (ix2 s e) * _) (Fin.ext (by show g.val * 128 + d.val = 128 * g.val + d.val; omega))

theorem ref106 (s : Fin 8192) (g : Fin 4) (k : Fin 128) : val_main_v106 (F := Ideal) x0 x8 x9 x10 x12 x13 x14 (ix2 s (col g k)) = -val_main_v102 (F := Ideal) x0 x8 x9 x10 x12 x13 x14 (ix3 s g k) := by
  refine Eq.trans (b := -val_main_v102 (F := Ideal) x0 x8 x9 x10 x12 x13 x14 (ix3 s (grp (col g k)) (lane (col g k)))) ?_ (by rw [grp_col, lane_col])
  generalize col g k = c
  pointwise [val_main_v106, val_main_v105, grp, lane]

theorem ref34 (s : Fin 8192) (g : Fin 4) (k : Fin 128) : val_main_v34 (F := Ideal) (ix3 s g k) = (((min (s.val + 1) (wid g) : ℕ) : ℝ) : EReal) := by
  fin_cases g
  · refine Eq.trans ?_ (Cert.Kernel5Ideal.Pool.seen (s.val + 1) 2 (by omega) (by decide))
    pointwise [val_main_v34, val_main_v33, val_main_v32, val_main_v31, val_main_v24, val_main_v22, val_main_v21, val_main_v20, val_main_v19, val_main_v23, val_main_c, val_main_c_1]
    rw [show IntOp.addi 1#32 (BitVec.ofNat 32 s.val) = BitVec.ofNat 32 (s.val + 1) from (BitVec.add_comm _ _).trans (BitVec.ofNat_add _ _).symm]
  · refine Eq.trans ?_ (Cert.Kernel5Ideal.Pool.seen (s.val + 1) 4 (by omega) (by decide))
    pointwise [val_main_v34, val_main_v33, val_main_v32, val_main_v31, val_main_v26, val_main_v22, val_main_v21, val_main_v20, val_main_v19, val_main_v25, val_main_c, val_main_c_2]
    rw [show IntOp.addi 1#32 (BitVec.ofNat 32 s.val) = BitVec.ofNat 32 (s.val + 1) from (BitVec.add_comm _ _).trans (BitVec.ofNat_add _ _).symm]
  · refine Eq.trans ?_ (Cert.Kernel5Ideal.Pool.seen (s.val + 1) 8 (by omega) (by decide))
    pointwise [val_main_v34, val_main_v33, val_main_v32, val_main_v31, val_main_v28, val_main_v22, val_main_v21, val_main_v20, val_main_v19, val_main_v27, val_main_c, val_main_c_3]
    rw [show IntOp.addi 1#32 (BitVec.ofNat 32 s.val) = BitVec.ofNat 32 (s.val + 1) from (BitVec.add_comm _ _).trans (BitVec.ofNat_add _ _).symm]
  · refine Eq.trans ?_ (Cert.Kernel5Ideal.Pool.seen (s.val + 1) 16 (by omega) (by decide))
    pointwise [val_main_v34, val_main_v33, val_main_v32, val_main_v31, val_main_v30, val_main_v22, val_main_v21, val_main_v20, val_main_v19, val_main_v29, val_main_c, val_main_c_4]
    rw [show IntOp.addi 1#32 (BitVec.ofNat 32 s.val) = BitVec.ofNat 32 (s.val + 1) from (BitVec.add_comm _ _).trans (BitVec.ofNat_add _ _).symm]

theorem ref109 (s : Fin 8192) (g : Fin 4) (k : Fin 128) : val_main_v109 (F := Ideal) x0 x8 x9 x10 x12 x13 x14 (ix2 s (col g k))
    = Ideal.div (val_main_v102 (F := Ideal) x0 x8 x9 x10 x12 x13 x14 (ix3 s g k)) (val_main_v34 (F := Ideal) (ix3 s g k)) := by
  refine Eq.trans (b := Ideal.div (val_main_v102 (F := Ideal) x0 x8 x9 x10 x12 x13 x14 (ix3 s (grp (col g k)) (lane (col g k)))) (val_main_v34 (F := Ideal) (ix3 s (grp (col g k)) (lane (col g k))))) ?_ (by rw [grp_col, lane_col])
  generalize col g k = c
  pointwise [val_main_v109, val_main_v108, val_main_v107, val_main_v34, grp, lane]

theorem ref126 (s : Fin 8192) (c : Fin 512) : val_main_v126 (F := Ideal) x0 x8 x9 x10 x12 x13 x14 (ix2 s c)
    = ∑ n : Fin 8208, if hn : 0 ≤ 16 + s.val + n.val ∧ 16 + s.val + n.val - 0 < 8208 then val_main_v123 (F := Ideal) x0 x8 x9 x10 x12 x13 x14 (ix2 ⟨16 + s.val + n.val - 0, hn.2⟩ c) else (0 : EReal) := by
  refine Eq.trans (b := val_main_v124 (F := Ideal) x0 x8 x9 x10 x12 x13 x14 (ix2 ⟨16 + s.val, by omega⟩ c)) ?_ ?_
  · pointwise [val_main_v126]
  · unfold val_main_v124
    exact Cert.Window.sum_at _ _ _ (fun i => by pointwise [val_main_call1_call0_v0, val_main_call1_call0_cst]) _ ⟨16 + s.val, by omega⟩ c

section
variable {C : ℕ} (lo0 lo1 hi0 hi1 : ℕ) (x : FVec Ideal ⟨2, ![8192, C]⟩ .f32) {u : Shape} (v : FVec Ideal u .f32)
  (h : (⟨2, ![8192, C]⟩ : Shape).Pads ![lo0, lo1] ![hi0, hi1] ![0, 0] ⟨2, ![8208, 512]⟩) (hu : 0 < u.numel) (i : Fin 8208) (c : Fin 512)
/-- A padded array at a place it holds, -/
theorem pad_in (r : Fin 8192) (k : Fin C) (hr : i.val = lo0 + r.val) (hk : c.val = lo1 + k.val) : pad ⟨2, ![8208, 512]⟩ ![lo0, lo1] ![hi0, hi1] ![0, 0] x v h hu (ix2 i c) = x (ix2 r k) := by
  refine pad_apply_of_inside ![lo0, lo1] ![hi0, hi1] ![0, 0] x v h hu (ix2 i c) (ix2 r k) fun a => ?_
  match a with
  | 0 => show i.val = lo0 + r.val * (0 + 1); omega
  | 1 => show c.val = lo1 + k.val * (0 + 1); omega
/-- past its rows, -/
theorem pad_row (hv : v (Shape.Idx.first hu) = 0) (hr : ¬ i.val - lo0 < 8192) : pad ⟨2, ![8208, 512]⟩ ![lo0, lo1] ![hi0, hi1] ![0, 0] x v h hu (ix2 i c) = 0 := by
  refine (pad_apply_of_not_inside ![lo0, lo1] ![hi0, hi1] ![0, 0] x v h hu (ix2 i c) 0 fun ⟨_, _, e⟩ => hr ?_).trans hv
  have e : (i.val - lo0) / (0 + 1) < 8192 := e
  omega
/-- and beside its columns. -/
theorem pad_col (hv : v (Shape.Idx.first hu) = 0) (hc : ¬ (lo1 ≤ c.val ∧ c.val - lo1 < C)) : pad ⟨2, ![8208, 512]⟩ ![lo0, lo1] ![hi0, hi1] ![0, 0] x v h hu (ix2 i c) = 0 := by
  refine (pad_apply_of_not_inside ![lo0, lo1] ![hi0, hi1] ![0, 0] x v h hu (ix2 i c) 1 fun ⟨l, _, e⟩ => hc ⟨l, ?_⟩).trans hv
  have e : (c.val - lo1) / (0 + 1) < C := e
  omega
end

theorem ref111 (r : Fin 8192) (k : Fin 128) : val_main_v111 (F := Ideal) x0 x8 x9 x10 x12 x13 x14 (ix2 r k) = -val_main_v109 (F := Ideal) x0 x8 x9 x10 x12 x13 x14 (ix2 r (col 0 k)) := by
  rw [col0]
  pointwise [val_main_v111, val_main_v110]
theorem cst22 (i) : val_main_cst_22 (F := Ideal) i = (0 : EReal) := by pointwise [val_main_cst_22]
theorem ref122 (i : Fin 8208) (k : Fin 128) (r : Fin 8192) (hi : i.val = 14 + r.val) : val_main_v122 (F := Ideal) x0 x8 x9 x10 x12 x13 x14 (ix2 i (col 0 k)) = -val_main_v109 (F := Ideal) x0 x8 x9 x10 x12 x13 x14 (ix2 r (col 0 k)) := by
  rw [← ref111]
  exact pad_in 14 0 2 384 _ _ _ _ i _ r k hi (by show 128 * 0 + k.val = 0 + k.val; omega)
theorem past122 (i : Fin 8208) (k : Fin 128) (hi : 8192 + 14 ≤ i.val) : val_main_v122 (F := Ideal) x0 x8 x9 x10 x12 x13 x14 (ix2 i (col 0 k)) = 0 :=
  pad_row 14 0 2 384 _ _ _ _ i _ (cst22 _) (by omega)
theorem other122 (i : Fin 8208) (g : Fin 4) (hg : g ≠ 0) (k : Fin 128) : val_main_v122 (F := Ideal) x0 x8 x9 x10 x12 x13 x14 (ix2 i (col g k)) = 0 :=
  pad_col 14 0 2 384 _ _ _ _ i _ (cst22 _) (by
    have h : g.val ≠ 0 := fun e => hg (Fin.ext e)
    show ¬ (0 ≤ 128 * g.val + k.val ∧ 128 * g.val + k.val - 0 < 128)
    omega)

theorem ref112 (r : Fin 8192) (k : Fin 128) : val_main_v112 (F := Ideal) x0 x8 x9 x10 x12 x13 x14 (ix2 r k) = -val_main_v109 (F := Ideal) x0 x8 x9 x10 x12 x13 x14 (ix2 r (col 1 k)) := by
  rw [col1]
  pointwise [val_main_v112, val_main_v110]
theorem cst21 (i) : val_main_cst_21 (F := Ideal) i = (0 : EReal) := by pointwise [val_main_cst_21]
theorem ref120 (i : Fin 8208) (k : Fin 128) (r : Fin 8192) (hi : i.val = 12 + r.val) : val_main_v120 (F := Ideal) x0 x8 x9 x10 x12 x13 x14 (ix2 i (col 1 k)) = -val_main_v109 (F := Ideal) x0 x8 x9 x10 x12 x13 x14 (ix2 r (col 1 k)) := by
  rw [← ref112]
  exact pad_in 12 128 4 256 _ _ _ _ i _ r k hi (by show 128 * 1 + k.val = 128 + k.val; omega)
theorem past120 (i : Fin 8208) (k : Fin 128) (hi : 8192 + 12 ≤ i.val) : val_main_v120 (F := Ideal) x0 x8 x9 x10 x12 x13 x14 (ix2 i (col 1 k)) = 0 :=
  pad_row 12 128 4 256 _ _ _ _ i _ (cst21 _) (by omega)
theorem other120 (i : Fin 8208) (g : Fin 4) (hg : g ≠ 1) (k : Fin 128) : val_main_v120 (F := Ideal) x0 x8 x9 x10 x12 x13 x14 (ix2 i (col g k)) = 0 :=
  pad_col 12 128 4 256 _ _ _ _ i _ (cst21 _) (by
    have h : g.val ≠ 1 := fun e => hg (Fin.ext e)
    show ¬ (128 ≤ 128 * g.val + k.val ∧ 128 * g.val + k.val - 128 < 128)
    omega)

theorem ref113 (r : Fin 8192) (k : Fin 128) : val_main_v113 (F := Ideal) x0 x8 x9 x10 x12 x13 x14 (ix2 r k) = -val_main_v109 (F := Ideal) x0 x8 x9 x10 x12 x13 x14 (ix2 r (col 2 k)) := by
  rw [col2]
  pointwise [val_main_v113, val_main_v110]
theorem cst20 (i) : val_main_cst_20 (F := Ideal) i = (0 : EReal) := by pointwise [val_main_cst_20]
theorem ref118 (i : Fin 8208) (k : Fin 128) (r : Fin 8192) (hi : i.val = 8 + r.val) : val_main_v118 (F := Ideal) x0 x8 x9 x10 x12 x13 x14 (ix2 i (col 2 k)) = -val_main_v109 (F := Ideal) x0 x8 x9 x10 x12 x13 x14 (ix2 r (col 2 k)) := by
  rw [← ref113]
  exact pad_in 8 256 8 128 _ _ _ _ i _ r k hi (by show 128 * 2 + k.val = 256 + k.val; omega)
theorem past118 (i : Fin 8208) (k : Fin 128) (hi : 8192 + 8 ≤ i.val) : val_main_v118 (F := Ideal) x0 x8 x9 x10 x12 x13 x14 (ix2 i (col 2 k)) = 0 :=
  pad_row 8 256 8 128 _ _ _ _ i _ (cst20 _) (by omega)
theorem other118 (i : Fin 8208) (g : Fin 4) (hg : g ≠ 2) (k : Fin 128) : val_main_v118 (F := Ideal) x0 x8 x9 x10 x12 x13 x14 (ix2 i (col g k)) = 0 :=
  pad_col 8 256 8 128 _ _ _ _ i _ (cst20 _) (by
    have h : g.val ≠ 2 := fun e => hg (Fin.ext e)
    show ¬ (256 ≤ 128 * g.val + k.val ∧ 128 * g.val + k.val - 256 < 128)
    omega)

theorem ref114 (r : Fin 8192) (k : Fin 128) : val_main_v114 (F := Ideal) x0 x8 x9 x10 x12 x13 x14 (ix2 r k) = -val_main_v109 (F := Ideal) x0 x8 x9 x10 x12 x13 x14 (ix2 r (col 3 k)) := by
  rw [col3]
  pointwise [val_main_v114, val_main_v110]
theorem cst19 (i) : val_main_cst_19 (F := Ideal) i = (0 : EReal) := by pointwise [val_main_cst_19]
theorem ref116 (i : Fin 8208) (k : Fin 128) (r : Fin 8192) (hi : i.val = 0 + r.val) : val_main_v116 (F := Ideal) x0 x8 x9 x10 x12 x13 x14 (ix2 i (col 3 k)) = -val_main_v109 (F := Ideal) x0 x8 x9 x10 x12 x13 x14 (ix2 r (col 3 k)) := by
  rw [← ref114]
  exact pad_in 0 384 16 0 _ _ _ _ i _ r k hi (by show 128 * 3 + k.val = 384 + k.val; omega)
theorem past116 (i : Fin 8208) (k : Fin 128) (hi : 8192 + 0 ≤ i.val) : val_main_v116 (F := Ideal) x0 x8 x9 x10 x12 x13 x14 (ix2 i (col 3 k)) = 0 :=
  pad_row 0 384 16 0 _ _ _ _ i _ (cst19 _) (by omega)
theorem other116 (i : Fin 8208) (g : Fin 4) (hg : g ≠ 3) (k : Fin 128) : val_main_v116 (F := Ideal) x0 x8 x9 x10 x12 x13 x14 (ix2 i (col g k)) = 0 :=
  pad_col 0 384 16 0 _ _ _ _ i _ (cst19 _) (by
    have h : g.val ≠ 3 := fun e => hg (Fin.ext e)
    show ¬ (384 ≤ 128 * g.val + k.val ∧ 128 * g.val + k.val - 384 < 128)
    omega)

theorem ref115 (i : Fin 8208) (c : Fin 512) (r : Fin 8192) (hi : i.val = 16 + r.val) : val_main_v115 (F := Ideal) x0 x8 x9 x10 x12 x13 x14 (ix2 i c) = val_main_v109 (F := Ideal) x0 x8 x9 x10 x12 x13 x14 (ix2 r c) :=
  pad_in 16 0 0 0 _ _ _ _ i c r c hi (by omega)

theorem add123 (i : Fin 8208) (c : Fin 512) : val_main_v123 (F := Ideal) x0 x8 x9 x10 x12 x13 x14 (ix2 i c) = val_main_v115 (F := Ideal) x0 x8 x9 x10 x12 x13 x14 (ix2 i c) + val_main_v116 (F := Ideal) x0 x8 x9 x10 x12 x13 x14 (ix2 i c)
    + val_main_v118 (F := Ideal) x0 x8 x9 x10 x12 x13 x14 (ix2 i c) + val_main_v120 (F := Ideal) x0 x8 x9 x10 x12 x13 x14 (ix2 i c) + val_main_v122 (F := Ideal) x0 x8 x9 x10 x12 x13 x14 (ix2 i c) := by
  pointwise [val_main_v123, val_main_v121, val_main_v119, val_main_v117]

/-- The differences at the window's distance. -/
theorem ref123 (j : Fin 8192) (g : Fin 4) (k : Fin 128) : val_main_v123 (F := Ideal) x0 x8 x9 x10 x12 x13 x14 (ix2 ⟨16 + j.val, by omega⟩ (col g k))
    = val_main_v109 (F := Ideal) x0 x8 x9 x10 x12 x13 x14 (ix2 j (col g k)) + (if h : j.val + wid g < 8192 then -val_main_v109 (F := Ideal) x0 x8 x9 x10 x12 x13 x14 (ix2 ⟨j.val + wid g, h⟩ (col g k)) else 0) := by
  rw [add123, ref115 _ _ _ _ _ _ _ _ _ j rfl]
  match g with
  | 0 =>
    rw [other116 _ _ _ _ _ _ _ _ 0 (by decide), other118 _ _ _ _ _ _ _ _ 0 (by decide), other120 _ _ _ _ _ _ _ _ 0 (by decide)]
    simp only [add_zero]
    by_cases h : j.val + 2 < 8192
    · rw [dif_pos (show j.val + wid 0 < 8192 from h), ref122 _ _ _ _ _ _ _ _ _ ⟨j.val + 2, h⟩ (by show 16 + j.val = 14 + (j.val + 2); omega)]
      rfl
    · rw [dif_neg (show ¬ j.val + wid 0 < 8192 from h), past122 _ _ _ _ _ _ _ _ _ (by show 8192 + 14 ≤ 16 + j.val; omega)]
  | 1 =>
    rw [other116 _ _ _ _ _ _ _ _ 1 (by decide), other118 _ _ _ _ _ _ _ _ 1 (by decide), other122 _ _ _ _ _ _ _ _ 1 (by decide)]
    simp only [add_zero]
    by_cases h : j.val + 4 < 8192
    · rw [dif_pos (show j.val + wid 1 < 8192 from h), ref120 _ _ _ _ _ _ _ _ _ ⟨j.val + 4, h⟩ (by show 16 + j.val = 12 + (j.val + 4); omega)]
      rfl
    · rw [dif_neg (show ¬ j.val + wid 1 < 8192 from h), past120 _ _ _ _ _ _ _ _ _ (by show 8192 + 12 ≤ 16 + j.val; omega)]
  | 2 =>
    rw [other116 _ _ _ _ _ _ _ _ 2 (by decide), other120 _ _ _ _ _ _ _ _ 2 (by decide), other122 _ _ _ _ _ _ _ _ 2 (by decide)]
    simp only [add_zero]
    by_cases h : j.val + 8 < 8192
    · rw [dif_pos (show j.val + wid 2 < 8192 from h), ref118 _ _ _ _ _ _ _ _ _ ⟨j.val + 8, h⟩ (by show 16 + j.val = 8 + (j.val + 8); omega)]
      rfl
    · rw [dif_neg (show ¬ j.val + wid 2 < 8192 from h), past118 _ _ _ _ _ _ _ _ _ (by show 8192 + 8 ≤ 16 + j.val; omega)]
  | 3 =>
    rw [other118 _ _ _ _ _ _ _ _ 3 (by decide), other120 _ _ _ _ _ _ _ _ 3 (by decide), other122 _ _ _ _ _ _ _ _ 3 (by decide)]
    simp only [add_zero]
    by_cases h : j.val + 16 < 8192
    · rw [dif_pos (show j.val + wid 3 < 8192 from h), ref116 _ _ _ _ _ _ _ _ _ ⟨j.val + 16, h⟩ (by show 16 + j.val = 0 + (j.val + 16); omega)]
      rfl
    · rw [dif_neg (show ¬ j.val + wid 3 < 8192 from h), past116 _ _ _ _ _ _ _ _ _ (by show 8192 + 0 ≤ 16 + j.val; omega)]
end
end Cert.PoolRef
end
-- ==== Proof.Mixer.Real.lean ====
module

public import proofs.«01_k».proof.Proof.Mixer.Ref
public import proofs.«01_k».proof.Proof.Common.Rms

@[expose] public section
set_option maxRecDepth 16384
noncomputable section
open Idealize.ShloMosaic Idealize.ShloMosaic.TcCoe

/-! The pool half over finite numbers. -/
namespace Cert.Pool

/-- A finite number. -/
def Fi (e : EReal) : Prop := ∃ r : ℝ, e = (r : EReal)
namespace Fi
theorem zero : Fi 0 := ⟨0, EReal.coe_zero.symm⟩
theorem add {a b : EReal} (ha : Fi a) (hb : Fi b) : Fi (a + b) := by
  obtain ⟨x, rfl⟩ := ha; obtain ⟨y, rfl⟩ := hb; exact ⟨x + y, (EReal.coe_add _ _).symm⟩
theorem sub {a b : EReal} (ha : Fi a) (hb : Fi b) : Fi (a - b) := by
  obtain ⟨x, rfl⟩ := ha; obtain ⟨y, rfl⟩ := hb; exact ⟨x - y, (EReal.coe_sub _ _).symm⟩
theorem mul {a b : EReal} (ha : Fi a) (hb : Fi b) : Fi (a * b) := by
  obtain ⟨x, rfl⟩ := ha; obtain ⟨y, rfl⟩ := hb; exact ⟨x * y, (EReal.coe_mul _ _).symm⟩
theorem sum {n : ℕ} {f : Fin n → EReal} (h : ∀ i, Fi (f i)) : Fi (∑ i : Fin n, f i) := by
  choose x hx using h
  exact ⟨_, (Finset.sum_congr rfl fun i _ => hx i).trans (Cert.Reals.sum_coe _ x)⟩
theorem div {a : EReal} (ha : Fi a) (n : ℕ) (hn : n ≠ 0) : Fi (Ideal.div a ((n : ℝ) : EReal)) := by
  obtain ⟨x, rfl⟩ := ha; exact ⟨x / n, Cert.Reals.div_coe _ _ (Nat.cast_ne_zero.2 hn)⟩
end Fi

theorem wid_pos (g : Fin 4) : 0 < wid g := by revert g; decide
theorem seen_pos (s : ℕ) (g : Fin 4) : min (s + 1) (wid g) ≠ 0 := by have := wid_pos g; omega

/-- The norm's gradient, differentiated or by the normed row's own mean. -/
theorem back_eq (y dn gp : Fin 512 → EReal) (hy : ∀ k, Fi (y k)) (hd : ∀ k, Fi (dn k)) (hg : ∀ k, Fi (gp k)) (c : Fin 512) :
    Cert.PoolRef.back y dn gp (msR y) (Ideal.rsqrt (msR y)) c = dyR y dn gp c := by
  choose a ha using hy
  choose b hb using hd
  choose e he using hg
  obtain rfl : y = fun k => (a k : EReal) := funext ha
  obtain rfl : dn = fun k => (b k : EReal) := funext hb
  obtain rfl : gp = fun k => (e k : EReal) := funext he
  have h := Cert.Rms.back_of _ 512 (by norm_num) Cert.Rms.c512 a b e 0 c _ _ rfl rfl
  rw [EReal.coe_zero, zero_add, zero_add] at h
  exact h.symm

theorem rs (y : Fin 512 → EReal) (hy : ∀ k, Fi (y k)) : Fi (Ideal.rsqrt (msR y)) := by
  choose a ha using hy
  obtain rfl : y = fun k => (a k : EReal) := funext ha
  obtain ⟨v, hv, h⟩ := Cert.Rms.ms_of _ 512 (by norm_num) Cert.Rms.c512 a
  exact ⟨_, (congrArg Ideal.rsqrt h).trans (Cert.Rms.rsqrt v hv)⟩

/-- Finite parameters. -/
structure Par.Fin (π : Par) : Prop where
  W : ∀ g k d, Fi (π.W g k d)
  pb : ∀ d, Fi (π.pb d)
  ps : ∀ d, Fi (π.ps d)
  gp : ∀ d, Fi (π.gp d)
  wo : ∀ d j, Fi (π.wo d j)

section
variable (π : Par) (hπ : π.Fin) (p : Fin 512 → EReal) (hp : ∀ k, Fi (p k)) (w : Fin 1024 → EReal) (hw : ∀ j, Fi (w j))
include hπ hp
theorem fi_y (c : Fin 512) : Fi (π.y p c) := ((Fi.sum fun k => (hp _).mul (hπ.W _ _ _)).add (hπ.pb _)).mul (hπ.ps _)
omit hp in
include hw in
theorem fi_dn (c : Fin 512) : Fi (π.dn w c) := Fi.sum fun j => (hw j).mul (hπ.wo _ _)
include hw
theorem back_dy (c : Fin 512) : Cert.PoolRef.back (π.y p) (π.dn w) π.gp (msR (π.y p)) (Ideal.rsqrt (msR (π.y p))) c = π.dy p w c :=
  back_eq _ _ _ (fi_y π hπ p hp) (fi_dn π hπ w hw) hπ.gp c
theorem fi_dy (c : Fin 512) : Fi (π.dy p w c) := by
  have hx : ∀ l, Fi (xR (π.y p) l) := fun l => (fi_y π hπ p hp l).mul (rs _ (fi_y π hπ p hp))
  have hd := fun l => fi_dn π hπ w hw l
  have hs : Fi (Ideal.div (∑ l : Fin 512, π.dn w l * π.gp l * xR (π.y p) l) (Ideal.ofBits .f32 0x44000000#32)) := by
    rw [Cert.Rms.c512]
    exact_mod_cast (Fi.sum fun l => ((hd l).mul (hπ.gp l)).mul (hx l)).div 512 (by decide)
  exact (rs _ (fi_y π hπ p hp)).mul (((hd c).mul (hπ.gp c)).sub ((hx c).mul hs))
theorem fi_dp (g : Fin 4) (k : Fin 128) : Fi (π.dp p w g k) := Fi.sum fun d => ((fi_dy π hπ p hp w hw _).mul (hπ.ps _)).mul (hπ.W _ _ _)
theorem fi_q (s : ℕ) (g : Fin 4) (k : Fin 128) : Fi (π.q p w s g k) := (fi_dp π hπ p hp w hw g k).div _ (seen_pos s g)
end

/-- A sum of differences at a distance, of a sequence that ends. -/
theorem tele (Q : ℕ → ℝ) (s w N : ℕ) (hz : ∀ i, s + N ≤ i → Q i = 0) :
    ∑ n ∈ Finset.range N, (Q (s + n) - Q (s + n + w)) = ∑ k ∈ Finset.range w, Q (s + k) := by
  induction w with
  | zero => simp
  | succ w ih =>
    rw [Finset.sum_range_succ, ← ih]
    have h := Finset.sum_range_sub' (fun n => Q (s + n + w)) N
    have e : ∑ n ∈ Finset.range N, (Q (s + n) - Q (s + n + (w + 1))) = ∑ n ∈ Finset.range N, (Q (s + n) - Q (s + n + w)) + ∑ n ∈ Finset.range N, (Q (s + n + w) - Q (s + (n + 1) + w)) := by
      rw [← Finset.sum_add_distrib]
      refine Finset.sum_congr rfl fun n _ => ?_
      rw [show s + (n + 1) + w = s + n + (w + 1) by omega]; ring
    rw [e, h, hz (s + N + w) (by omega)]
    simp
end Cert.Pool
-- ==== Proof.Mixer.Same.lean ====
module

public import proofs.«01_k».proof.Proof.Mixer.Real

@[expose] public section
set_option maxRecDepth 16384
noncomputable section
open Idealize.ShloMosaic Idealize.ShloMosaic.TcCoe

/-! The reference's results in the kernel's closed forms, at finite arguments. -/
namespace Cert.PoolRef
open Cert.Pool
open Cert.Reference5Ideal (S1x8192x1536 S1x4x128x128 S1x512 S1x1024x1024 S1x8192x1024)
open Cert.Reference5Ideal.Read
variable (x0 : FVec Ideal S1x8192x1536 .f32) (x8 : FVec Ideal S1x4x128x128 .f32) (x9 x10 x12 : FVec Ideal S1x512 .f32) (x13 : FVec Ideal S1x1024x1024 .f32) (x14 : FVec Ideal S1x8192x1024 .f32)

/-- The columns of the pool half. -/
def upper (c : Fin 512) : Fin 1536 := ⟨1024 + c.val, by omega⟩

section
variable (hu : ∀ (s : Fin 8192) (c : Fin 512), Fi (x0 (ix3 0 s (upper c))))
include hu
theorem fi1 (s : Fin 8192) (c : Fin 512) : Fi (val_main_v1 (F := Ideal) x0 (ix2 s c)) := by
  have e : val_main_v1 (F := Ideal) x0 (ix2 s c) = x0 (ix3 0 s (upper c)) := by
    unfold upper
    pointwise [val_main_v1, val_main_v0]
  exact e ▸ hu s c
theorem fi8 (i : Fin 8208) (c : Fin 512) : Fi (val_main_v8 (F := Ideal) x0 (ix2 i c)) := by
  by_cases h : i.val < 16
  · have e : val_main_v8 (F := Ideal) x0 (ix2 i c) = 0 := by
      pointwise [val_main_v8, val_main_v7, val_main_cst, h]
    exact e ▸ Fi.zero
  · have e : val_main_v8 (F := Ideal) x0 (ix2 i c) = val_main_v1 (F := Ideal) x0 (ix2 ⟨i.val - 16, by omega⟩ c) := by
      pointwise [val_main_v8, h]
    exact e ▸ fi1 x0 hu _ c
theorem fi10 (i : Fin 8208) (c : Fin 512) : Fi (val_main_v10 (F := Ideal) x0 (ix2 i c)) := by
  have e : val_main_v10 (F := Ideal) x0 (ix2 i c) = ∑ n : Fin 8208, if hn : 8207 ≤ i.val + n.val ∧ i.val + n.val - 8207 < 8208 then val_main_v8 (F := Ideal) x0 (ix2 ⟨i.val + n.val - 8207, hn.2⟩ c) else (0 : EReal) := by
    unfold val_main_v10
    exact Cert.Window.sum_at _ _ _ (fun i => by pointwise [val_main_call0_call0_v0, val_main_call0_call0_cst]) _ i c
  rw [e]
  refine Fi.sum fun n => ?_
  split
  · exact fi8 x0 hu _ c
  · exact Fi.zero
theorem fi16 (s : Fin 8192) (g : Fin 4) (k : Fin 128) : Fi (val_main_v16 (F := Ideal) x0 (ix2 s (col g k))) := by
  have e : val_main_v16 (F := Ideal) x0 (ix2 s (col g k)) = val_main_v10 (F := Ideal) x0 (ix2 ⟨16 - wid g + s.val, by omega⟩ (col g k)) := by
    fin_cases g
    · refine Eq.trans (b := val_main_v10 (F := Ideal) x0 (ix2 ⟨14 + s.val, by omega⟩ (col 0 k))) ?_ rfl
      show val_main_v16 (F := Ideal) x0 (ix2 s (col 0 k)) = _
      rw [col0]
      pointwise [val_main_v16, val_main_v11]
    · refine Eq.trans (b := val_main_v10 (F := Ideal) x0 (ix2 ⟨12 + s.val, by omega⟩ (col 1 k))) ?_ rfl
      show val_main_v16 (F := Ideal) x0 (ix2 s (col 1 k)) = _
      rw [col1]
      pointwise [val_main_v16, val_main_v12]
    · refine Eq.trans (b := val_main_v10 (F := Ideal) x0 (ix2 ⟨8 + s.val, by omega⟩ (col 2 k))) ?_ rfl
      show val_main_v16 (F := Ideal) x0 (ix2 s (col 2 k)) = _
      rw [col2]
      pointwise [val_main_v16, val_main_v13]
      rw [dif_neg (by omega), dif_neg (by omega), dif_pos (by omega)]
      exact congrArg (fun c => val_main_v10 (F := Ideal) x0 (ix2 _ c)) (Fin.ext (by show 256 + (256 + k.val - 128 - 128) = 256 + k.val; omega))
    · refine Eq.trans (b := val_main_v10 (F := Ideal) x0 (ix2 ⟨s.val, by omega⟩ (col 3 k))) ?_ (congrArg (fun i => val_main_v10 (F := Ideal) x0 (ix2 i (col 3 k))) (Fin.ext (by show s.val = 0 + s.val; omega)))
      show val_main_v16 (F := Ideal) x0 (ix2 s (col 3 k)) = _
      rw [col3]
      pointwise [val_main_v16, val_main_v14]
      rw [dif_neg (by omega), dif_neg (by omega), dif_neg (by omega)]
      exact congrArg (fun c => val_main_v10 (F := Ideal) x0 (ix2 _ c)) (Fin.ext (by show 384 + (384 + k.val - 128 - 128 - 128) = 384 + k.val; omega))
  exact e ▸ fi10 x0 hu _ _
theorem fi_pooled (s : Fin 8192) (c : Fin 512) : Fi (pooledOf x0 s c) := by
  have e : pooledOf x0 s c = Ideal.div (val_main_v10 (F := Ideal) x0 (ix2 ⟨16 + s.val, by omega⟩ c) - val_main_v16 (F := Ideal) x0 (ix2 s c)) (val_main_v34 (F := Ideal) (ix3 s (grp c) (lane c))) - val_main_v1 (F := Ideal) x0 (ix2 s c) := by
    have e17 : ∀ c, val_main_v17 (F := Ideal) x0 (ix2 s c) = val_main_v10 (F := Ideal) x0 (ix2 ⟨16 + s.val, by omega⟩ c) - val_main_v16 (F := Ideal) x0 (ix2 s c) := fun c => by
      pointwise [val_main_v17, val_main_v15]
    have e37 : ∀ (g : Fin 4) (k : Fin 128), val_main_v37 (F := Ideal) x0 (ix3 s g k) = Ideal.div (val_main_v17 (F := Ideal) x0 (ix2 s ⟨g.val * 128 + k.val, by omega⟩)) (val_main_v34 (F := Ideal) (ix3 s g k)) - val_main_v1 (F := Ideal) x0 (ix2 s ⟨g.val * 128 + k.val, by omega⟩) := fun g k => by
      pointwise [val_main_v37, val_main_v36, val_main_v35, val_main_v18, val_main_v34]
    have ec : (⟨(grp c).val * 128 + (lane c).val, by omega⟩ : Fin 512) = c := Fin.ext (by show c.val / 128 * 128 + c.val % 128 = c.val; omega)
    unfold pooledOf
    rw [e37, ec, e17]
  rw [e, ref34]
  have h16 := fi16 x0 hu s (grp c) (lane c)
  rw [col_eta] at h16
  exact (((fi10 x0 hu _ c).sub h16).div _ (seen_pos _ _)).sub (fi1 x0 hu s c)
end

section
variable (hp : ∀ s c, Fi (pooledOf x0 s c)) (hπ : (parOf x8 x9 x10 x12 x13).Fin) (hw : ∀ s j, Fi (ctOf x14 s j))
include hp hπ hw
theorem val88 (s : Fin 8192) (c : Fin 512) : val_main_v88 (F := Ideal) x0 x8 x9 x10 x12 x13 x14 (ix2 s c) = (parOf x8 x9 x10 x12 x13).dy (pooledOf x0 s) (ctOf x14 s) c :=
  (ref88 x0 x8 x9 x10 x12 x13 x14 s c).trans (back_dy _ hπ _ (hp s) _ (hw s) c)
theorem val94 (s : Fin 8192) (c : Fin 512) : val_main_v94 (F := Ideal) x0 x8 x9 x10 x12 x13 x14 (ix2 s c) = (parOf x8 x9 x10 x12 x13).dz (pooledOf x0 s) (ctOf x14 s) c := by
  rw [ref94, val88 x0 x8 x9 x10 x12 x13 x14 hp hπ hw]; rfl
theorem val102 (s : Fin 8192) (g : Fin 4) (k : Fin 128) : val_main_v102 (F := Ideal) x0 x8 x9 x10 x12 x13 x14 (ix3 s g k) = (parOf x8 x9 x10 x12 x13).dp (pooledOf x0 s) (ctOf x14 s) g k := by
  rw [ref102]
  exact Finset.sum_congr rfl fun d _ => congrArg (· * _) (val94 x0 x8 x9 x10 x12 x13 x14 hp hπ hw s _)
theorem val109 (s : Fin 8192) (g : Fin 4) (k : Fin 128) : val_main_v109 (F := Ideal) x0 x8 x9 x10 x12 x13 x14 (ix2 s (col g k)) = (parOf x8 x9 x10 x12 x13).q (pooledOf x0 s) (ctOf x14 s) s.val g k := by
  rw [ref109, ref34, val102 x0 x8 x9 x10 x12 x13 x14 hp hπ hw]; rfl

theorem same_ps (d : Fin 512) : val_main_v128 (F := Ideal) x0 x8 x9 x10 x12 x13 x14 (ix2 0 d)
    = ∑ s : Fin 8192, (parOf x8 x9 x10 x12 x13).dy (pooledOf x0 s) (ctOf x14 s) d * (parOf x8 x9 x10 x12 x13).z (pooledOf x0 s) d := by
  rw [ref128]
  exact Finset.sum_congr rfl fun s _ => congrArg₂ (· * ·) (val88 x0 x8 x9 x10 x12 x13 x14 hp hπ hw s d) (ref43 x0 x8 x9 x10 x12 x13 s d)
theorem same_pb (d : Fin 512) : val_main_v129 (F := Ideal) x0 x8 x9 x10 x12 x13 x14 (ix2 0 d) = ∑ s : Fin 8192, (parOf x8 x9 x10 x12 x13).dz (pooledOf x0 s) (ctOf x14 s) d := by
  rw [ref129]
  exact Finset.sum_congr rfl fun s _ => val94 x0 x8 x9 x10 x12 x13 x14 hp hπ hw s d
theorem same_pw (g : Fin 4) (k d : Fin 128) : val_main_v130 (F := Ideal) x0 x8 x9 x10 x12 x13 x14 (ix4 0 g k d)
    = ∑ s : Fin 8192, pooledOf x0 s (col g k) * (parOf x8 x9 x10 x12 x13).dz (pooledOf x0 s) (ctOf x14 s) (col g d) := by
  rw [ref130]
  exact Finset.sum_congr rfl fun s _ => congrArg (_ * ·) (val94 x0 x8 x9 x10 x12 x13 x14 hp hπ hw s _)

/-- The cotangents of the inputs: the differences added up from the end are the sums over the windows. -/
theorem same_du (s : Fin 8192) (g : Fin 4) (k : Fin 128) : val_main_v127 (F := Ideal) x0 x8 x9 x10 x12 x13 x14 (ix2 s (col g k))
    = (∑ j ∈ Finset.range (wid g), (if h : s.val + j < 8192 then (parOf x8 x9 x10 x12 x13).q (pooledOf x0 ⟨s.val + j, h⟩) (ctOf x14 ⟨s.val + j, h⟩) (s.val + j) g k else 0))
      - (parOf x8 x9 x10 x12 x13).dp (pooledOf x0 s) (ctOf x14 s) g k := by
  have e127 : ∀ c, val_main_v127 (F := Ideal) x0 x8 x9 x10 x12 x13 x14 (ix2 s c) = val_main_v106 (F := Ideal) x0 x8 x9 x10 x12 x13 x14 (ix2 s c) + val_main_v126 (F := Ideal) x0 x8 x9 x10 x12 x13 x14 (ix2 s c) := fun c => by
    pointwise [val_main_v127]
  have hq : ∀ i : ℕ, ∃ r : ℝ, (if h : i < 8192 then (parOf x8 x9 x10 x12 x13).q (pooledOf x0 ⟨i, h⟩) (ctOf x14 ⟨i, h⟩) i g k else 0) = (r : EReal) := fun i => by
    split
    · exact fi_q _ hπ _ (hp _) _ (hw _) i g k
    · exact Fi.zero
  choose Q hQ using hq
  have hz : ∀ i, s.val + 8208 ≤ i → Q i = 0 := fun i hi => by
    have h := hQ i
    rw [dif_neg (by omega)] at h
    exact EReal.coe_eq_zero.1 h.symm
  have hin : ∀ i : Fin 8192, val_main_v109 (F := Ideal) x0 x8 x9 x10 x12 x13 x14 (ix2 i (col g k)) = (Q i.val : EReal) := fun i => by
    rw [val109 x0 x8 x9 x10 x12 x13 x14 hp hπ hw, ← hQ i.val, dif_pos i.isLt]
  have hout : ∀ i, 8192 ≤ i → Q i = 0 := fun i hi => by
    have h := hQ i
    rw [dif_neg (by omega)] at h
    exact EReal.coe_eq_zero.1 h.symm
  rw [e127, ref106, val102 x0 x8 x9 x10 x12 x13 x14 hp hπ hw, ref126]
  have hs : (∑ n : Fin 8208, if hn : 0 ≤ 16 + s.val + n.val ∧ 16 + s.val + n.val - 0 < 8208 then val_main_v123 (F := Ideal) x0 x8 x9 x10 x12 x13 x14 (ix2 ⟨16 + s.val + n.val - 0, hn.2⟩ (col g k)) else (0 : EReal))
      = ∑ n : Fin 8208, ((Q (s.val + n.val) - Q (s.val + n.val + wid g) : ℝ) : EReal) := by
    refine Finset.sum_congr rfl fun n _ => ?_
    by_cases h : s.val + n.val < 8192
    · rw [dif_pos ⟨by omega, by omega⟩]
      refine (congrArg (fun i => val_main_v123 (F := Ideal) x0 x8 x9 x10 x12 x13 x14 (ix2 i (col g k))) (Fin.ext (by show 16 + s.val + n.val - 0 = 16 + (s.val + n.val); omega))).trans
        ((ref123 x0 x8 x9 x10 x12 x13 x14 ⟨s.val + n.val, h⟩ g k).trans ?_)
      rw [EReal.coe_sub, sub_eq_add_neg, hin]
      refine congrArg (_ + ·) ?_
      by_cases h' : s.val + n.val + wid g < 8192
      · rw [dif_pos h', hin]
      · rw [dif_neg h', hout _ (by omega), EReal.coe_zero, neg_zero]
    · rw [dif_neg (by omega), hout _ (by omega), hout _ (by omega), sub_zero, EReal.coe_zero]
  rw [hs, Finset.sum_congr rfl fun j _ => hQ (s.val + j), Cert.Reals.sum_coe, Cert.Reals.sum_coe, ← tele Q s.val (wid g) 8208 hz, Finset.sum_range, add_comm, sub_eq_add_neg]
end
end Cert.PoolRef
-- ==== Proof.Mixer.Equal.lean ====
module

public import proofs.«01_k».proof.Proof.Mixer.Tail
public import proofs.«01_k».proof.Proof.Mixer.Same
public import Idealize.ShloMosaic.Lib.Pipeline.ValueKit
public import Idealize.ShloMosaic.Lib.Pointwise
public import Idealize.ShloMosaic.Lib.Claim

@[expose] public section
set_option maxRecDepth 16384
noncomputable section
open Idealize.ShloMosaic Idealize.ShloMosaic.TcCoe Idealize.SL.Sem

/-! The two programs' gradients of the pool half are equal. -/
namespace Cert.Kernel5Ideal.Pool
open Cert.Kernel5Ideal Cert.Kernel5Ideal.Gen Cert.Pool

/-- The last columns of finite rows. -/
theorem cols_fi (X : FVec Ideal S1x8192x1536 .f32) (h) (Y : Shape.Idx ⟨3, ![1, 8192, 512]⟩ → ℝ)
    (e : ∀ i, (extractStridedSlice ⟨3, ![1, 8192, 512]⟩ ![0, 0, 1024] X h : FVec Ideal ⟨3, ![1, 8192, 512]⟩ .f32) i = ((Y i : ℝ) : EReal)) (s : Fin 8192) (k : Fin 512) :
    Fi (X (ix3 0 s (Cert.PoolRef.upper k))) := by
  refine ⟨Y (ix3 0 s k), Eq.trans ?_ (e (ix3 0 s k))⟩
  unfold Cert.PoolRef.upper
  pointwise []

/-- What the precondition gives of one device. -/
structure Good (m : (ℓ : Loc nD τ sig) → Buf (Elt Ideal) ℓ) (c : Dev nD) : Prop where
  p : ∀ s k, Fi (pooled m c s k)
  π : (par0 m c).Fin
  w : ∀ s j, Fi (cts m c s j)

theorem eq_du (m : (ℓ : Loc nD τ sig) → Buf (Elt Ideal) ℓ) (c : Dev nD) (h : Good m c) : Cert.Reference5Ideal.Read.val_main_v127 (F := Ideal) (m ((c : Thread nD τ).loc main_arg0)) (m ((c : Thread nD τ).loc main_arg8)) (m ((c : Thread nD τ).loc main_arg9)) (m ((c : Thread nD τ).loc main_arg10)) (m ((c : Thread nD τ).loc main_arg12)) (m ((c : Thread nD τ).loc main_arg13)) (m ((c : Thread nD τ).loc main_arg14))
    = Pipeline.afterTail₀ cfgs (dats m) 0 (V0 m) [hostOps1] c main_v594 := by
  funext i
  obtain ⟨s, d, rfl⟩ : ∃ (s : Fin 8192) (d : Fin 512), i = ix2 s d := ⟨i 0, i 1, eq_ix2 i⟩
  rw [← col_eta d]
  exact Eq.trans (b := gDu m c s (grp d) (lane d)) (Cert.PoolRef.same_du _ _ _ _ _ _ _ h.p h.π h.w s (grp d) (lane d)) (res_du m c s (grp d) (lane d)).symm
theorem eq_pw (m : (ℓ : Loc nD τ sig) → Buf (Elt Ideal) ℓ) (c : Dev nD) (h : Good m c) : Cert.Reference5Ideal.Read.val_main_v130 (F := Ideal) (m ((c : Thread nD τ).loc main_arg0)) (m ((c : Thread nD τ).loc main_arg8)) (m ((c : Thread nD τ).loc main_arg9)) (m ((c : Thread nD τ).loc main_arg10)) (m ((c : Thread nD τ).loc main_arg12)) (m ((c : Thread nD τ).loc main_arg13)) (m ((c : Thread nD τ).loc main_arg14))
    = Pipeline.afterTail₀ cfgs (dats m) 0 (V0 m) [hostOps1] c main_v595 := by
  funext i
  obtain ⟨r, g, k, d, rfl⟩ : ∃ (r : Fin 1) (g : Fin 4) (k d : Fin 128), i = ix4 r g k d := ⟨i 0, i 1, i 2, i 3, eq_ix4 i⟩
  obtain rfl : r = 0 := Subsingleton.elim _ _
  exact Eq.trans (b := gPw m c g k d) (Cert.PoolRef.same_pw _ _ _ _ _ _ _ h.p h.π h.w g k d) (res_pw m c g k d).symm
theorem eq_pb (m : (ℓ : Loc nD τ sig) → Buf (Elt Ideal) ℓ) (c : Dev nD) (h : Good m c) : Cert.Reference5Ideal.Read.val_main_v129 (F := Ideal) (m ((c : Thread nD τ).loc main_arg0)) (m ((c : Thread nD τ).loc main_arg8)) (m ((c : Thread nD τ).loc main_arg9)) (m ((c : Thread nD τ).loc main_arg10)) (m ((c : Thread nD τ).loc main_arg12)) (m ((c : Thread nD τ).loc main_arg13)) (m ((c : Thread nD τ).loc main_arg14))
    = Pipeline.afterTail₀ cfgs (dats m) 0 (V0 m) [hostOps1] c main_v596 := by
  funext i
  obtain ⟨r, d, rfl⟩ : ∃ (r : Fin 1) (d : Fin 512), i = ix2 r d := ⟨i 0, i 1, eq_ix2 i⟩
  obtain rfl : r = 0 := Subsingleton.elim _ _
  exact Eq.trans (b := gPb m c d) (Cert.PoolRef.same_pb _ _ _ _ _ _ _ h.p h.π h.w d) (res_pb m c d).symm
theorem eq_ps (m : (ℓ : Loc nD τ sig) → Buf (Elt Ideal) ℓ) (c : Dev nD) (h : Good m c) : Cert.Reference5Ideal.Read.val_main_v128 (F := Ideal) (m ((c : Thread nD τ).loc main_arg0)) (m ((c : Thread nD τ).loc main_arg8)) (m ((c : Thread nD τ).loc main_arg9)) (m ((c : Thread nD τ).loc main_arg10)) (m ((c : Thread nD τ).loc main_arg12)) (m ((c : Thread nD τ).loc main_arg13)) (m ((c : Thread nD τ).loc main_arg14))
    = Pipeline.afterTail₀ cfgs (dats m) 0 (V0 m) [hostOps1] c main_v597 := by
  funext i
  obtain ⟨r, d, rfl⟩ : ∃ (r : Fin 1) (d : Fin 512), i = ix2 r d := ⟨i 0, i 1, eq_ix2 i⟩
  obtain rfl : r = 0 := Subsingleton.elim _ _
  exact Eq.trans (b := gPs m c d) (Cert.PoolRef.same_ps _ _ _ _ _ _ _ h.p h.π h.w d) (res_ps m c d).symm
theorem eq_gp (m : (ℓ : Loc nD τ sig) → Buf (Elt Ideal) ℓ) (c : Dev nD) : Cert.Reference5Ideal.Read.val_main_v89 (F := Ideal) (m ((c : Thread nD τ).loc main_arg0)) (m ((c : Thread nD τ).loc main_arg8)) (m ((c : Thread nD τ).loc main_arg9)) (m ((c : Thread nD τ).loc main_arg10)) (m ((c : Thread nD τ).loc main_arg13)) (m ((c : Thread nD τ).loc main_arg14))
    = Pipeline.afterTail₀ cfgs (dats m) 0 (V0 m) [hostOps1] c main_v598 := by
  funext i
  obtain ⟨r, d, rfl⟩ : ∃ (r : Fin 1) (d : Fin 512), i = ix2 r d := ⟨i 0, i 1, eq_ix2 i⟩
  obtain rfl : r = 0 := Subsingleton.elim _ _
  exact Eq.trans (b := gGp m c d) (Cert.PoolRef.ref89 (m ((c : Thread nD τ).loc main_arg0)) (m ((c : Thread nD τ).loc main_arg8)) (m ((c : Thread nD τ).loc main_arg9)) (m ((c : Thread nD τ).loc main_arg10)) (m ((c : Thread nD τ).loc main_arg12)) (m ((c : Thread nD τ).loc main_arg13)) (m ((c : Thread nD τ).loc main_arg14)) d) (res_gp m c d).symm
theorem eq_wo (m : (ℓ : Loc nD τ sig) → Buf (Elt Ideal) ℓ) (c : Dev nD) : Cert.Reference5Ideal.Read.val_main_v67 (F := Ideal) (m ((c : Thread nD τ).loc main_arg0)) (m ((c : Thread nD τ).loc main_arg8)) (m ((c : Thread nD τ).loc main_arg9)) (m ((c : Thread nD τ).loc main_arg10)) (m ((c : Thread nD τ).loc main_arg12)) (m ((c : Thread nD τ).loc main_arg14))
    = Pipeline.afterTail₀ cfgs (dats m) 0 (V0 m) [hostOps1] c main_v599 := by
  funext i
  obtain ⟨d, j, rfl⟩ : ∃ (d : Fin 512) (j : Fin 1024), i = ix2 d j := ⟨i 0, i 1, eq_ix2 i⟩
  exact Eq.trans (b := gWo m c d j) (Cert.PoolRef.ref67 (m ((c : Thread nD τ).loc main_arg0)) (m ((c : Thread nD τ).loc main_arg8)) (m ((c : Thread nD τ).loc main_arg9)) (m ((c : Thread nD τ).loc main_arg10)) (m ((c : Thread nD τ).loc main_arg12)) (m ((c : Thread nD τ).loc main_arg13)) (m ((c : Thread nD τ).loc main_arg14)) d j) (res_wo m c d j).symm
end Cert.Kernel5Ideal.Pool
end
-- ==== Proof.Mixer.Value.lean ====
module

public import proofs.«01_k».proof.Proof.Mixer.Both
public import proofs.«01_k».proof.Proof.Mixer.Equal
public import proofs.«01_k».proof.Proof.Gen.Reference5Ideal
public import proofs.«01_k».proof.Proof.Gen.Reference5Ideal.Run
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem

/-! The claim: the two programs' gradients of the pool half are equal. -/

namespace Cert.Proof
open Cert.Kernel5Ideal.Pool

/-- The precondition gives finite numbers. -/
theorem goods [hf : Cert.Pre_pool_half_finite.Facts] (m : (ℓ : Loc Cert.Kernel5Ideal.nD Cert.Kernel5Ideal.τ Cert.Kernel5Ideal.sig) → Buf (Elt Ideal) ℓ) (hpre : Cert.Pre_Kernel5Ideal_pool_half_finite m) (c : Dev Cert.Kernel5Ideal.nD) : Good m c := by
  obtain ⟨f0, h0⟩ := Cert.Reals.finite _ _ (hpre c).1
  obtain ⟨f1, h1⟩ := Cert.Reals.finite _ _ (hpre c).2.1
  obtain ⟨f2, h2⟩ := Cert.Reals.finite _ _ (hpre c).2.2.1
  obtain ⟨f3, h3⟩ := Cert.Reals.finite _ _ (hpre c).2.2.2.1
  obtain ⟨f4, h4⟩ := Cert.Reals.finite _ _ (hpre c).2.2.2.2.1
  obtain ⟨f5, h5⟩ := Cert.Reals.finite _ _ (hpre c).2.2.2.2.2.1
  obtain ⟨f6, h6⟩ := Cert.Reals.finite _ _ (hpre c).2.2.2.2.2.2
  exact ⟨fun s k => Cert.PoolRef.fi_pooled _ (fun s k => cols_fi _ _ f0 h0 s k) s k,
    ⟨fun g k d => ⟨_, h1 _⟩, fun d => ⟨_, h2 _⟩, fun d => ⟨_, h3 _⟩, fun d => ⟨_, h4 _⟩, fun d j => ⟨_, h5 _⟩⟩, fun s j => ⟨_, h6 _⟩⟩

/-- What the kernel's program leaves in a buffer. -/
abbrev leaves (m : (ℓ : Loc Cert.Kernel5Ideal.nD Cert.Kernel5Ideal.τ Cert.Kernel5Ideal.sig) → Buf (Elt Ideal) ℓ) (c : Dev Cert.Kernel5Ideal.nD) (b : Ref Cert.Kernel5Ideal.sig .tc) :=
  Pipeline.afterTail₀ Cert.Kernel5Ideal.cfgs (Cert.Kernel5Ideal.Gen.dats m) 0 (Cert.Kernel5Ideal.Gen.V0 m) [Cert.Kernel5Ideal.Gen.hostOps1] c b

open Cert.Kernel5Ideal Cert.Kernel5Ideal.Gen in
/-- The run: the six results, and the arguments unchanged. -/
theorem mixer_kernel_run (m : (ℓ : Loc nD τ sig) → Buf (Elt Ideal) ℓ) (g : Dev nD → PrngReg) : θ_run defs (onTc (τ := τ) (main (F := Ideal))) ⟨m, fun _ => 0, g⟩ (fun r => ∀ c : Dev nD,
      r.2.mem ((c.tc : Thread nD τ).loc main_v594) = leaves m c main_v594
      ∧ r.2.mem ((c.tc : Thread nD τ).loc main_v595) = leaves m c main_v595
      ∧ r.2.mem ((c.tc : Thread nD τ).loc main_v596) = leaves m c main_v596
      ∧ r.2.mem ((c.tc : Thread nD τ).loc main_v597) = leaves m c main_v597
      ∧ r.2.mem ((c.tc : Thread nD τ).loc main_v598) = leaves m c main_v598
      ∧ r.2.mem ((c.tc : Thread nD τ).loc main_v599) = leaves m c main_v599
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h.1 c).2 main_v594 (Pipeline.mem_restRefs_of main_v594 (by decide) (by decide)), (h.1 c).2 main_v595 (Pipeline.mem_restRefs_of main_v595 (by decide) (by decide)),
    (h.1 c).2 main_v596 (Pipeline.mem_restRefs_of main_v596 (by decide) (by decide)), (h.1 c).2 main_v597 (Pipeline.mem_restRefs_of main_v597 (by decide) (by decide)),
    (h.1 c).2 main_v598 (Pipeline.mem_restRefs_of main_v598 (by decide) (by decide)), (h.1 c).2 main_v599 (Pipeline.mem_restRefs_of main_v599 (by decide) (by decide)), h.2 c⟩)
    (θ_run_and (run_main m g) (unchanged m g))

theorem mixer_algebraic (hf : Cert.Pre_pool_half_finite.Facts) : Cert.algebraic_Kernel5Ideal_Reference5Ideal_pre_pool_half_finite (hKernel5Ideal := Cert.Kernel5Ideal.Gen.facts)
    (hReference5Ideal := Cert.Reference5Ideal.Gen.facts) (hPre_pool_half_finite := hf) := by
  intro m g m' g' hpre hagree
  have good := fun c => goods m hpre c
  refine ⟨fun c => leaves m c Cert.Kernel5Ideal.main_v594, fun c => leaves m c Cert.Kernel5Ideal.main_v595, fun c => leaves m c Cert.Kernel5Ideal.main_v596,
    fun c => leaves m c Cert.Kernel5Ideal.main_v597, fun c => leaves m c Cert.Kernel5Ideal.main_v598, fun c => leaves m c Cert.Kernel5Ideal.main_v599, mixer_kernel_run m g, ?_⟩
  refine (θ_run _ _ _).mono (fun r h c => ?_) (Cert.Reference5Ideal.Value.run m' g')
  obtain ⟨r0, r1, r2, r3, r4, r5, rest⟩ := h c
  refine ⟨r0.trans ?_, r1.trans ?_, r2.trans ?_, r3.trans ?_, r4.trans ?_, r5.trans ?_, rest⟩
  · obtain ⟨a0, a1, a2, a3, a4, a5, a6, a7, a8, a9, a10, a11, a12, a13, a14⟩ := hagree c
    exact (Cert.Reference5Ideal.Read.val_main_v127_eq _).trans ((congr (congr (congr (congr (congr (congr (congrArg (Cert.Reference5Ideal.Read.val_main_v127 (F := Ideal)) a0) a8) a9) a10) a12) a13) a14).trans (eq_du m c (good c)))
  · obtain ⟨a0, a1, a2, a3, a4, a5, a6, a7, a8, a9, a10, a11, a12, a13, a14⟩ := hagree c
    exact (Cert.Reference5Ideal.Read.val_main_v130_eq _).trans ((congr (congr (congr (congr (congr (congr (congrArg (Cert.Reference5Ideal.Read.val_main_v130 (F := Ideal)) a0) a8) a9) a10) a12) a13) a14).trans (eq_pw m c (good c)))
  · obtain ⟨a0, a1, a2, a3, a4, a5, a6, a7, a8, a9, a10, a11, a12, a13, a14⟩ := hagree c
    exact (Cert.Reference5Ideal.Read.val_main_v129_eq _).trans ((congr (congr (congr (congr (congr (congr (congrArg (Cert.Reference5Ideal.Read.val_main_v129 (F := Ideal)) a0) a8) a9) a10) a12) a13) a14).trans (eq_pb m c (good c)))
  · obtain ⟨a0, a1, a2, a3, a4, a5, a6, a7, a8, a9, a10, a11, a12, a13, a14⟩ := hagree c
    exact (Cert.Reference5Ideal.Read.val_main_v128_eq _).trans ((congr (congr (congr (congr (congr (congr (congrArg (Cert.Reference5Ideal.Read.val_main_v128 (F := Ideal)) a0) a8) a9) a10) a12) a13) a14).trans (eq_ps m c (good c)))
  · obtain ⟨a0, a1, a2, a3, a4, a5, a6, a7, a8, a9, a10, a11, a12, a13, a14⟩ := hagree c
    exact (Cert.Reference5Ideal.Read.val_main_v89_eq _).trans ((congr (congr (congr (congr (congr (congrArg (Cert.Reference5Ideal.Read.val_main_v89 (F := Ideal)) a0) a8) a9) a10) a13) a14).trans (eq_gp m c))
  · obtain ⟨a0, a1, a2, a3, a4, a5, a6, a7, a8, a9, a10, a11, a12, a13, a14⟩ := hagree c
    exact (Cert.Reference5Ideal.Read.val_main_v67_eq _).trans ((congr (congr (congr (congr (congr (congrArg (Cert.Reference5Ideal.Read.val_main_v67 (F := Ideal)) a0) a8) a9) a10) a12) a14).trans (eq_wo m c))
end Cert.Proof
end
-- ==== Proof.Up.Body.lean ====
module

public import proofs.«01_k».proof.Proof.Gen.Kernel6Ideal.Frame
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.Kernel6Ideal.Up
open Cert.Kernel6Ideal Cert.Kernel6Ideal.Gen
variable (m : (ℓ : Loc nD τ sig) → Buf (Elt Ideal) ℓ)

/-- A normed entry of a tile. -/
def nrm (x0 : FVec Ideal S512x1024 .f32) (x1 : FVec Ideal S1x1024 .f32) (r : Fin 512) (k : Fin 1024) : EReal :=
  x0 (ix2 r k) * Ideal.rsqrt (Ideal.div (∑ l : Fin 1024, x0 (ix2 r l) * x0 (ix2 r l)) (Ideal.ofBits .f32 0x44800000#32) + Ideal.ofBits .f32 0x358637BD#32) * x1 (ix2 0 k)
/-- A normed row against a row of one block of a weight. -/
def dot (x0 : FVec Ideal S512x1024 .f32) (x1 : FVec Ideal S1x1024 .f32) (w : FVec Ideal S4x704x1024 .bf16) (j : Fin 4) (r : Fin 512) (n : Fin 704) : EReal :=
  ∑ k : Fin 1024, nrm x0 x1 r k * w (ix3 j n k)
/-- The gate of an activation. -/
def silu (a : EReal) : EReal := a * Ideal.div 1 (1 + Ideal.exp (0 - a))

theorem out4 (c : Dev nD) (t : Fin cfg0.N) (y : S512x1024.Idx) :
    (outsAt0 m c t).1 y = nrm (iblk m c 0 t) (iblk m c 1 t) (y 0) (y 1) := by
  unfold outsAt0; dsimp only; unfold out0_A_4
  frame_out
  generalize iblk m c 0 t = x0
  generalize iblk m c 1 t = x1
  generalize iblk m c 2 t = x2
  generalize iblk m c 3 t = x3
  idx_vars y
  open_payloads; pointwise [nrm]
theorem out5 (c : Dev nD) (t : Fin cfg0.N) (y : S4x512x704.Idx) :
    (outsAt0 m c t).2.1 y = dot (iblk m c 0 t) (iblk m c 1 t) (iblk m c 2 t) (y 0) (y 1) (y 2) := by
  unfold outsAt0; dsimp only; unfold out0_A_5
  frame_out
  generalize iblk m c 0 t = x0
  generalize iblk m c 1 t = x1
  generalize iblk m c 2 t = x2
  generalize iblk m c 3 t = x3
  idx_vars y
  canon_tiles x h
  case piece0 =>
    rw [show y0 = 3 from Fin.ext (h0.trans (by show _ = 3; omega)), show y1 = x 1 from Fin.ext h1, show y2 = x 2 from Fin.ext h2]
    open_payloads; pointwise [nrm, dot]
  case piece1 =>
    rw [show y0 = 2 from Fin.ext (h0.trans (by show _ = 2; omega)), show y1 = x 1 from Fin.ext h1, show y2 = x 2 from Fin.ext h2]
    open_payloads; pointwise [nrm, dot]
  case piece2 =>
    rw [show y0 = 1 from Fin.ext (h0.trans (by show _ = 1; omega)), show y1 = x 1 from Fin.ext h1, show y2 = x 2 from Fin.ext h2]
    open_payloads; pointwise [nrm, dot]
  case piece3 =>
    rw [show y0 = 0 from Fin.ext (h0.trans (by show _ = 0; omega)), show y1 = x 1 from Fin.ext h1, show y2 = x 2 from Fin.ext h2]
    open_payloads; pointwise [nrm, dot]
theorem out6 (c : Dev nD) (t : Fin cfg0.N) (y : S4x512x704.Idx) :
    (outsAt0 m c t).2.2.1 y = dot (iblk m c 0 t) (iblk m c 1 t) (iblk m c 3 t) (y 0) (y 1) (y 2) := by
  unfold outsAt0; dsimp only; unfold out0_A_6
  frame_out
  generalize iblk m c 0 t = x0
  generalize iblk m c 1 t = x1
  generalize iblk m c 2 t = x2
  generalize iblk m c 3 t = x3
  idx_vars y
  canon_tiles x h
  case piece0 =>
    rw [show y0 = 3 from Fin.ext (h0.trans (by show _ = 3; omega)), show y1 = x 1 from Fin.ext h1, show y2 = x 2 from Fin.ext h2]
    open_payloads; pointwise [nrm, dot]
  case piece1 =>
    rw [show y0 = 2 from Fin.ext (h0.trans (by show _ = 2; omega)), show y1 = x 1 from Fin.ext h1, show y2 = x 2 from Fin.ext h2]
    open_payloads; pointwise [nrm, dot]
  case piece2 =>
    rw [show y0 = 1 from Fin.ext (h0.trans (by show _ = 1; omega)), show y1 = x 1 from Fin.ext h1, show y2 = x 2 from Fin.ext h2]
    open_payloads; pointwise [nrm, dot]
  case piece3 =>
    rw [show y0 = 0 from Fin.ext (h0.trans (by show _ = 0; omega)), show y1 = x 1 from Fin.ext h1, show y2 = x 2 from Fin.ext h2]
    open_payloads; pointwise [nrm, dot]
theorem out7 (c : Dev nD) (t : Fin cfg0.N) (y : S4x512x704.Idx) :
    (outsAt0 m c t).2.2.2 y = silu (dot (iblk m c 0 t) (iblk m c 1 t) (iblk m c 2 t) (y 0) (y 1) (y 2)) * dot (iblk m c 0 t) (iblk m c 1 t) (iblk m c 3 t) (y 0) (y 1) (y 2) := by
  unfold outsAt0; dsimp only; unfold out0_A_7
  frame_out
  generalize iblk m c 0 t = x0
  generalize iblk m c 1 t = x1
  generalize iblk m c 2 t = x2
  generalize iblk m c 3 t = x3
  idx_vars y
  canon_tiles x h
  case piece0 =>
    rw [show y0 = 3 from Fin.ext (h0.trans (by show _ = 3; omega)), show y1 = x 1 from Fin.ext h1, show y2 = x 2 from Fin.ext h2]
    open_payloads; pointwise [silu, nrm, dot]
  case piece1 =>
    rw [show y0 = 2 from Fin.ext (h0.trans (by show _ = 2; omega)), show y1 = x 1 from Fin.ext h1, show y2 = x 2 from Fin.ext h2]
    open_payloads; pointwise [silu, nrm, dot]
  case piece2 =>
    rw [show y0 = 1 from Fin.ext (h0.trans (by show _ = 1; omega)), show y1 = x 1 from Fin.ext h1, show y2 = x 2 from Fin.ext h2]
    open_payloads; pointwise [silu, nrm, dot]
  case piece3 =>
    rw [show y0 = 0 from Fin.ext (h0.trans (by show _ = 0; omega)), show y1 = x 1 from Fin.ext h1, show y2 = x 2 from Fin.ext h2]
    open_payloads; pointwise [silu, nrm, dot]
end Cert.Kernel6Ideal.Up
end
-- ==== Proof.Up.Value.lean ====
module

public import proofs.«01_k».proof.Defs
public import proofs.«01_k».proof.Proof.Up.Body
public import proofs.«01_k».proof.Proof.Gen.Reference6Ideal
public import proofs.«01_k».proof.Proof.Gen.Reference6Ideal.Read
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Kernel6Ideal.Up
open Cert.Kernel6Ideal Cert.Kernel6Ideal.Gen
variable (m : (ℓ : Loc nD τ sig) → Buf (Elt Ideal) ℓ)

/-- Which block of each array a grid point works on. -/
theorem idx : ∀ t : Fin cfg0.N, win0_0.index t = ![t.val, 0] ∧ win0_1.index t = ![0, 0] ∧ win0_2.index t = ![0, 0, 0] ∧ win0_3.index t = ![0, 0, 0]
    ∧ win0_4.index t = ![t.val, 0] ∧ win0_5.index t = ![0, t.val, 0] ∧ win0_6.index t = ![0, t.val, 0] ∧ win0_7.index t = ![0, t.val, 0] :=
  (by decide +kernel : ∀ t : Fin grid0.N, _)

/-- Column of the whole array from block number and column within the block. -/
def col (j : Fin 4) (n : Fin 704) : Fin 2816 := ⟨j.val * 704 + n.val, by omega⟩

/-- A weight turned and cut into blocks of rows. -/
abbrev turned (X : FVec Ideal S1x1024x2816 .f32) : FVec Ideal S4x704x1024 .bf16 :=
  truncf (F := Ideal) .bf16 (shapeCast S4x704x1024 (transpose S2816x1024 [1, 0] (shapeCast S1024x2816 X shapeCasts_S1x1024x2816_S1024x2816) transposes_S1024x2816_S2816x1024_1_0) shapeCasts_S2816x1024_S4x704x1024) bitsLt_bf16_f32
theorem turned_at (X : FVec Ideal S1x1024x2816 .f32) (i : S4x704x1024.Idx) : turned X i = X (ix3 0 (i 2) (col (i 0) (i 1))) := by
  idx_vars i
  pointwise [col]
theorem entry3 (c : Dev nD) : V m c main_v3 = turned (m ((c : Thread nD τ).loc main_arg2)) := by
  show StableHlo.after hostOps0 _ _ = _
  after_results; rfl
theorem entry7 (c : Dev nD) : V m c main_v7 = turned (m ((c : Thread nD τ).loc main_arg3)) := by
  show StableHlo.after hostOps0 _ _ = _
  after_results; rfl

/-- A normed entry, from the whole arrays. -/
def nrmA (x : FVec Ideal S8192x1024 .f32) (g : FVec Ideal S1x1024 .f32) (r : Fin 8192) (k : Fin 1024) : EReal :=
  x (ix2 r k) * Ideal.rsqrt (Ideal.div (∑ l : Fin 1024, x (ix2 r l) * x (ix2 r l)) (Ideal.ofBits .f32 0x44800000#32) + Ideal.ofBits .f32 0x358637BD#32) * g (ix2 0 k)
/-- A normed row against a column of a weight. -/
def dotA (x : FVec Ideal S8192x1024 .f32) (g : FVec Ideal S1x1024 .f32) (w : FVec Ideal S1x1024x2816 .f32) (r : Fin 8192) (n : Fin 2816) : EReal :=
  ∑ k : Fin 1024, nrmA x g r k * w (ix3 0 k n)
/-- The normed rows. -/
def A4 (x : FVec Ideal S8192x1024 .f32) (g : FVec Ideal S1x1024 .f32) : FVec Ideal S8192x1024 .bf16 := fun i => nrmA x g (i 0) (i 1)
/-- A product, four blocks of columns. -/
def A5 (x : FVec Ideal S8192x1024 .f32) (g : FVec Ideal S1x1024 .f32) (w : FVec Ideal S1x1024x2816 .f32) : FVec Ideal S4x8192x704 .bf16 := fun i => dotA x g w (i 1) (col (i 0) (i 2))
/-- The gated product, four blocks of columns. -/
def A7 (x : FVec Ideal S8192x1024 .f32) (g : FVec Ideal S1x1024 .f32) (w w' : FVec Ideal S1x1024x2816 .f32) : FVec Ideal S4x8192x704 .bf16 := fun i => silu (A5 x g w i) * A5 x g w' i

theorem at0 (c : Dev nD) (t : Fin cfg0.N) (r : Fin 512) (k : Fin 1024) : iblk m c 0 t (ix2 r k) = m ((c : Thread nD τ).loc main_arg0) (ix2 ⟨t.val * 512 + r.val, by have := lt_of_lt_of_eq t.isLt N_0; omega⟩ k) := by
  blk_point [iblk, V_main_arg0, idx t]
theorem at1 (c : Dev nD) (t : Fin cfg0.N) (k : Fin 1024) : iblk m c 1 t (ix2 0 k) = m ((c : Thread nD τ).loc main_arg1) (ix2 0 k) := by
  blk_point [iblk, V_main_arg1, idx t]
theorem at2 (c : Dev nD) (t : Fin cfg0.N) (j : Fin 4) (n : Fin 704) (k : Fin 1024) : iblk m c 2 t (ix3 j n k) = m ((c : Thread nD τ).loc main_arg2) (ix3 0 k (col j n)) := by
  refine Eq.trans ?_ (turned_at (m ((c : Thread nD τ).loc main_arg2)) (ix3 j n k))
  rw [← entry3 m c]
  blk_point [iblk, idx t]
theorem at3 (c : Dev nD) (t : Fin cfg0.N) (j : Fin 4) (n : Fin 704) (k : Fin 1024) : iblk m c 3 t (ix3 j n k) = m ((c : Thread nD τ).loc main_arg3) (ix3 0 k (col j n)) := by
  refine Eq.trans ?_ (turned_at (m ((c : Thread nD τ).loc main_arg3)) (ix3 j n k))
  rw [← entry7 m c]
  blk_point [iblk, idx t]

theorem nrm_at (c : Dev nD) (t : Fin cfg0.N) (r : Fin 512) (k : Fin 1024) : nrm (iblk m c 0 t) (iblk m c 1 t) r k = nrmA (m ((c : Thread nD τ).loc main_arg0)) (m ((c : Thread nD τ).loc main_arg1)) ⟨t.val * 512 + r.val, by have := lt_of_lt_of_eq t.isLt N_0; omega⟩ k := by
  unfold nrm nrmA
  simp only [at0, at1]
theorem dot2_at (c : Dev nD) (t : Fin cfg0.N) (j : Fin 4) (r : Fin 512) (n : Fin 704) : dot (iblk m c 0 t) (iblk m c 1 t) (iblk m c 2 t) j r n = A5 (m ((c : Thread nD τ).loc main_arg0)) (m ((c : Thread nD τ).loc main_arg1)) (m ((c : Thread nD τ).loc main_arg2)) (ix3 j ⟨t.val * 512 + r.val, by have := lt_of_lt_of_eq t.isLt N_0; omega⟩ n) := by
  unfold dot
  simp only [nrm_at, at2]; rfl
theorem dot3_at (c : Dev nD) (t : Fin cfg0.N) (j : Fin 4) (r : Fin 512) (n : Fin 704) : dot (iblk m c 0 t) (iblk m c 1 t) (iblk m c 3 t) j r n = A5 (m ((c : Thread nD τ).loc main_arg0)) (m ((c : Thread nD τ).loc main_arg1)) (m ((c : Thread nD τ).loc main_arg3)) (ix3 j ⟨t.val * 512 + r.val, by have := lt_of_lt_of_eq t.isLt N_0; omega⟩ n) := by
  unfold dot
  simp only [nrm_at, at3]; rfl

theorem final4 (c : Dev nD) : (dats m 0 c).arrAt 4 (cfgs 0).N = A4 (m ((c : Thread nD τ).loc main_arg0)) (m ((c : Thread nD τ).loc main_arg1)) := by
  refine (dats m 0 c).arrAt_eq_of_covers 4 _ (by decide +kernel) fun t _ y => ?_
  blk_simp
  rw [after0_4, out4]
  refine (nrm_at m c t (y 0) (y 1)).trans (congrArg (A4 _ _) (?_ : ix2 ⟨t.val * 512 + (y 0).val, _⟩ (y 1) = _))
  blk_ext [idx t]
theorem final5 (c : Dev nD) : (dats m 0 c).arrAt 5 (cfgs 0).N = A5 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, out5]
  refine (dot2_at m c t (y 0) (y 1) (y 2)).trans (congrArg _ ?_)
  blk_ext [idx t]
theorem final6 (c : Dev nD) : (dats m 0 c).arrAt 6 (cfgs 0).N = A5 (m ((c : Thread nD τ).loc main_arg0)) (m ((c : Thread nD τ).loc main_arg1)) (m ((c : Thread nD τ).loc main_arg3)) := by
  refine (dats m 0 c).arrAt_eq_of_covers 6 _ (by decide +kernel) fun t _ y => ?_
  blk_simp
  rw [after0_6, out6]
  refine (dot3_at m c t (y 0) (y 1) (y 2)).trans (congrArg _ ?_)
  blk_ext [idx t]
theorem final7 (c : Dev nD) : (dats m 0 c).arrAt 7 (cfgs 0).N = A7 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7, out7]
  refine (congrArg₂ (fun a b => silu a * b) (dot2_at m c t (y 0) (y 1) (y 2)) (dot3_at m c t (y 0) (y 1) (y 2))).trans (congrArg (A7 _ _ _ _) (?_ : ix3 (y 0) ⟨t.val * 512 + (y 1).val, _⟩ (y 2) = _))
  blk_ext [idx t]

/-- The four blocks of a result laid side by side. -/
abbrev whole (X : FVec Ideal S4x8192x704 .bf16) : FVec Ideal S8192x2816 .f32 :=
  extf (F := Ideal) .f32 (shapeCast S8192x2816 (transpose S8192x4x704 [1, 0, 2] X transposes_S4x8192x704_S8192x4x704_1_0_2) shapeCasts_S8192x4x704_S8192x2816) bitsLt_bf16_f32
theorem whole_at (X : FVec Ideal S4x8192x704 .bf16) (r : Fin 8192) (n : Fin 2816) : whole X (ix2 r n)
    = X (ix3 ⟨n.val / 704, by omega⟩ r ⟨n.val % 704, by omega⟩) := by
  pointwise
theorem A5_at (x : FVec Ideal S8192x1024 .f32) (g : FVec Ideal S1x1024 .f32) (w : FVec Ideal S1x1024x2816 .f32) (r : Fin 8192) (n : Fin 2816) :
    A5 x g w (ix3 ⟨n.val / 704, by omega⟩ r ⟨n.val % 704, by omega⟩) = dotA x g w r n :=
  congrArg (dotA x g w r) (Fin.ext (by show n.val / 704 * 704 + n.val % 704 = n.val; omega))

theorem tail9 (c : Dev nD) : Pipeline.afterTail₀ cfgs (dats m) 0 (V0 m) [hostOps1] c main_v9 = extf (F := Ideal) .f32 (A4 (m ((c : Thread nD τ).loc main_arg0)) (m ((c : Thread nD τ).loc main_arg1))) bitsLt_bf16_f32 := by
  rw [← final4 m c]
  show StableHlo.after hostOps1 _ _ = _
  after_results
  exact congrArg (fun X : FVec Ideal S8192x1024 .bf16 => extf (F := Ideal) .f32 X bitsLt_bf16_f32) (Pipeline.withArrays_arr spec0 (by decide) c _ _ 4)
theorem tail12 (c : Dev nD) : Pipeline.afterTail₀ cfgs (dats m) 0 (V0 m) [hostOps1] c main_v12 = whole (A5 (m ((c : Thread nD τ).loc main_arg0)) (m ((c : Thread nD τ).loc main_arg1)) (m ((c : Thread nD τ).loc main_arg2))) := by
  rw [← final5 m c]
  show StableHlo.after hostOps1 _ _ = _
  after_results
  exact congrArg whole (Pipeline.withArrays_arr spec0 (by decide) c _ _ 5)
theorem tail15 (c : Dev nD) : Pipeline.afterTail₀ cfgs (dats m) 0 (V0 m) [hostOps1] c main_v15 = whole (A5 (m ((c : Thread nD τ).loc main_arg0)) (m ((c : Thread nD τ).loc main_arg1)) (m ((c : Thread nD τ).loc main_arg3))) := by
  rw [← final6 m c]
  show StableHlo.after hostOps1 _ _ = _
  after_results
  exact congrArg whole (Pipeline.withArrays_arr spec0 (by decide) c _ _ 6)
theorem tail18 (c : Dev nD) : Pipeline.afterTail₀ cfgs (dats m) 0 (V0 m) [hostOps1] c main_v18 = whole (A7 (m ((c : Thread nD τ).loc main_arg0)) (m ((c : Thread nD τ).loc main_arg1)) (m ((c : Thread nD τ).loc main_arg2)) (m ((c : Thread nD τ).loc main_arg3))) := by
  rw [← final7 m c]
  show StableHlo.after hostOps1 _ _ = _
  after_results
  exact congrArg whole (Pipeline.withArrays_arr spec0 (by decide) c _ _ 7)

open Cert.Reference6Ideal.Read in
theorem ref13 (x : FVec Ideal S8192x1024 .f32) (g : FVec Ideal S1x1024 .f32) (r : Fin 8192) (k : Fin 1024) : val_main_v13 (F := Ideal) x g (ix2 r k) = nrmA x g r k := by
  pointwise [nrmA, val_main_v13, val_main_v12, val_main_v11, val_main_v10, val_main_v9, val_main_v8, val_main_v7, val_main_v6, val_main_cst_1, val_main_v5, val_main_v4, val_main_cst_0, val_main_v3, val_main_v2, val_main_cst, val_main_v1, val_main_v0]
open Cert.Reference6Ideal.Read in
theorem ref15 (x : FVec Ideal S8192x1024 .f32) (g : FVec Ideal S1x1024 .f32) (w : FVec Ideal S1x1024x2816 .f32) (r : Fin 8192) (n : Fin 2816) : val_main_v15 (F := Ideal) x g w (ix2 r n) = dotA x g w r n := by
  unfold dotA; simp only [← ref13]
  pointwise [val_main_v15, val_main_v14]
open Cert.Reference6Ideal.Read in
theorem ref17 (x : FVec Ideal S8192x1024 .f32) (g : FVec Ideal S1x1024 .f32) (w : FVec Ideal S1x1024x2816 .f32) (r : Fin 8192) (n : Fin 2816) : val_main_v17 (F := Ideal) x g w (ix2 r n) = dotA x g w r n := by
  unfold dotA; simp only [← ref13]
  pointwise [val_main_v17, val_main_v16]
open Cert.Reference6Ideal.Read in
theorem ref19 (x : FVec Ideal S8192x1024 .f32) (g : FVec Ideal S1x1024 .f32) (w w' : FVec Ideal S1x1024x2816 .f32) (r : Fin 8192) (n : Fin 2816) :
    val_main_v19 (F := Ideal) x g w w' (ix2 r n) = silu (dotA x g w r n) * dotA x g w' r n := by
  rw [← ref15, ← ref17]; unfold silu; rw [zero_sub]
  pointwise [val_main_v19, val_main_v18, val_main_call0_v0, val_main_call0_v1, val_main_call0_cst, val_main_call0_v2, val_main_call0_v3, val_main_call0_cst_0, val_main_call0_v4, val_main_call0_v5]

open Cert.Reference6Ideal.Read in
theorem same4 (x : FVec Ideal S8192x1024 .f32) (g : FVec Ideal S1x1024 .f32) : val_main_v13 (F := Ideal) x g = extf (F := Ideal) .f32 (A4 x g) bitsLt_bf16_f32 := by
  funext i
  idx_vars i
  exact ref13 x g i0 i1
open Cert.Reference6Ideal.Read in
theorem same5 (x : FVec Ideal S8192x1024 .f32) (g : FVec Ideal S1x1024 .f32) (w : FVec Ideal S1x1024x2816 .f32) : val_main_v15 (F := Ideal) x g w = whole (A5 x g w) := by
  funext i
  idx_vars i
  exact (ref15 x g w i0 i1).trans ((whole_at _ i0 i1).trans (A5_at x g w i0 i1)).symm
open Cert.Reference6Ideal.Read in
theorem same6 (x : FVec Ideal S8192x1024 .f32) (g : FVec Ideal S1x1024 .f32) (w : FVec Ideal S1x1024x2816 .f32) : val_main_v17 (F := Ideal) x g w = whole (A5 x g w) := by
  funext i
  idx_vars i
  exact (ref17 x g w i0 i1).trans ((whole_at _ i0 i1).trans (A5_at x g w i0 i1)).symm
open Cert.Reference6Ideal.Read in
theorem same7 (x : FVec Ideal S8192x1024 .f32) (g : FVec Ideal S1x1024 .f32) (w w' : FVec Ideal S1x1024x2816 .f32) : val_main_v19 (F := Ideal) x g w w' = whole (A7 x g w w') := by
  funext i
  idx_vars i
  refine (ref19 x g w w' i0 i1).trans (Eq.trans ?_ (whole_at _ i0 i1).symm)
  rw [← A5_at, ← A5_at]; rfl
end Cert.Kernel6Ideal.Up

namespace Cert.Proof
open Cert.Kernel6Ideal.Up

theorem up_algebraic : Cert.algebraic_Kernel6Ideal_Reference6Ideal (hKernel6Ideal := Cert.Kernel6Ideal.Gen.facts) (hReference6Ideal := Cert.Reference6Ideal.Gen.facts) := by
  pair_intro
  · run_from Cert.Kernel6Ideal.Gen.run_main m g
    · exact Cert.Kernel6Ideal.Gen.W_main_arg2 m _ c
    · exact Cert.Kernel6Ideal.Gen.W_main_arg3 m _ c
  · run_from Cert.Reference6Ideal.Value.run m' g'
    · exact (same4 _ _).trans (tail9 m c).symm
    · exact (same5 _ _ _).trans (tail12 m c).symm
    · exact (same6 _ _ _).trans (tail15 m c).symm
    · exact (same7 _ _ _ _).trans (tail18 m c).symm
end Cert.Proof
end
-- ==== Proof.Inproj.Value.lean ====
module

public import proofs.«01_k».proof.Defs
public import proofs.«01_k».proof.Proof.Gen.Kernel7Ideal.Frame
public import proofs.«01_k».proof.Proof.Gen.Reference7Ideal
public import proofs.«01_k».proof.Proof.Gen.Reference7Ideal.Read
public import Idealize.ShloMosaic.Lib.Pipeline.ValueKit
public import Idealize.ShloMosaic.Lib.Pointwise
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Kernel7Ideal.Inproj
open Cert.Kernel7Ideal Cert.Kernel7Ideal.Gen
variable (m : (ℓ : Loc nD τ sig) → Buf (Elt Ideal) ℓ)

/-- Within a tile: a normed row against a column of the projection. -/
def tile (x0 : FVec Ideal S512x1024 .f32) (x1 : FVec Ideal S1x1024 .f32) (x2 : FVec Ideal S1024x1536 .bf16) (y : S512x1536.Idx) : EReal :=
  ∑ k : Fin 1024, x0 (ix2 (y 0) k) * Ideal.rsqrt (Ideal.div (∑ l : Fin 1024, x0 (ix2 (y 0) l) * x0 (ix2 (y 0) l)) (Ideal.ofBits .f32 0x44800000#32) + Ideal.ofBits .f32 0x358637BD#32)
    * x1 (ix2 0 k) * x2 (ix2 k (y 1))

set_option maxHeartbeats 2000000 in
theorem out3 (x0 : FVec Ideal S512x1024 .f32) (x1 : FVec Ideal S1x1024 .f32) (x2 : FVec Ideal S1024x1536 .bf16) (y : S512x1536.Idx) :
    out0_3 (F := Ideal) x0 x1 x2 y = tile x0 x1 x2 y := by
  unfold out0_3
  canon_tiles x h
  all_goals (open_payloads; pointwise [tile]; blk_point [])

/-- Which block of each array a grid point works on. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem weight (X : FVec Ideal S1x1024x1536 .f32) (i : S1024x1536.Idx) : truncf (F := Ideal) .bf16 (shapeCast S1024x1536 X shapeCasts_S1x1024x1536_S1024x1536) bitsLt_bf16_f32 i
    = X (ix3 0 (i 0) (i 1)) := by
  idx_vars i
  pointwise []
theorem entry1 (c : Dev nD) (i : S1024x1536.Idx) : V m c main_v1 i = m ((c : Thread nD τ).loc main_arg2) (ix3 0 (i 0) (i 1)) := by
  refine (congrFun (?_ : V m c main_v1 = truncf (F := Ideal) .bf16 (shapeCast S1024x1536 (m ((c : Thread nD τ).loc main_arg2)) shapeCasts_S1x1024x1536_S1024x1536) bitsLt_bf16_f32) i).trans (weight _ i)
  show StableHlo.after hostOps0 _ _ = _
  after_results; rfl

/-- The projection of the normed rows, from the whole arrays. -/
def proj (x : FVec Ideal S8192x1024 .f32) (g : FVec Ideal S1x1024 .f32) (w : FVec Ideal S1x1024x1536 .f32) : FVec Ideal S8192x1536 .f32 :=
  fun y => ∑ k : Fin 1024, x (ix2 (y 0) k) * Ideal.rsqrt (Ideal.div (∑ l : Fin 1024, x (ix2 (y 0) l) * x (ix2 (y 0) l)) (Ideal.ofBits .f32 0x44800000#32) + Ideal.ofBits .f32 0x358637BD#32)
    * g (ix2 0 k) * w (ix3 0 k (y 1))

theorem at0 (c : Dev nD) (t : Fin cfg0.N) (r : Fin 512) (k : Fin 1024) : iblk m c 0 t (ix2 r k) = m ((c : Thread nD τ).loc main_arg0) (ix2 ⟨t.val * 512 + r.val, by have := lt_of_lt_of_eq t.isLt N_0; omega⟩ k) := by
  blk_point [iblk, V_main_arg0, idx t]
theorem at1 (c : Dev nD) (t : Fin cfg0.N) (k : Fin 1024) : iblk m c 1 t (ix2 0 k) = m ((c : Thread nD τ).loc main_arg1) (ix2 0 k) := by
  blk_point [iblk, V_main_arg1, idx t]
theorem at2 (c : Dev nD) (t : Fin cfg0.N) (k : Fin 1024) (n : Fin 1536) : iblk m c 2 t (ix2 k n) = m ((c : Thread nD τ).loc main_arg2) (ix3 0 k n) := by
  blk_point [iblk, V, idx t]

theorem tile_open (x0 : FVec Ideal S512x1024 .f32) (x1 : FVec Ideal S1x1024 .f32) (x2 : FVec Ideal S1024x1536 .bf16) (r : Fin 512) (n : Fin 1536) :
    tile x0 x1 x2 (ix2 r n) = ∑ k : Fin 1024, x0 (ix2 r k) * Ideal.rsqrt (Ideal.div (∑ l : Fin 1024, x0 (ix2 r l) * x0 (ix2 r l)) (Ideal.ofBits .f32 0x44800000#32) + Ideal.ofBits .f32 0x358637BD#32)
    * x1 (ix2 0 k) * x2 (ix2 k n) := rfl
theorem tile_at (c : Dev nD) (t : Fin cfg0.N) (r : Fin 512) (n : Fin 1536) :
    tile (iblk m c 0 t) (iblk m c 1 t) (iblk m c 2 t) (ix2 r n) = proj (m ((c : Thread nD τ).loc main_arg0)) (m ((c : Thread nD τ).loc main_arg1)) (m ((c : Thread nD τ).loc main_arg2)) (ix2 ⟨t.val * 512 + r.val, by have := lt_of_lt_of_eq t.isLt N_0; omega⟩ n) := by
  rw [tile_open]
  simp only [at0, at1, at2]
  rfl

theorem final3 (c : Dev nD) : (dats m 0 c).arrAt 3 (cfgs 0).N = proj (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out3]
  have e : y = ix2 (y 0) (y 1) := by funext a; fin_cases a <;> rfl
  refine ((congrArg _ e).trans (tile_at m c t (y 0) (y 1))).trans (congrArg _ ?_)
  blk_ext [idx t]

open Cert.Reference7Ideal.Read in
/-- The reference's projection is the same function. -/
theorem same (x : FVec Ideal S8192x1024 .f32) (g : FVec Ideal S1x1024 .f32) (w : FVec Ideal S1x1024x1536 .f32) : val_main_v15 (F := Ideal) x g w = proj x g w := by
  funext i
  idx_vars i
  pointwise [proj, val_main_v15, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0]
end Cert.Kernel7Ideal.Inproj

namespace Cert.Proof
open Cert.Kernel7Ideal.Inproj

theorem inproj_algebraic : Cert.algebraic_Kernel7Ideal_Reference7Ideal (hKernel7Ideal := Cert.Kernel7Ideal.Gen.facts) (hReference7Ideal := Cert.Reference7Ideal.Gen.facts) := by
  pair_intro
  · run_from Cert.Kernel7Ideal.Gen.run_main m g
  · run_from Cert.Reference7Ideal.Value.run m' g'
    exact (same _ _ _).trans (final3 m c).symm
end Cert.Proof
end
-- ==== Proof.Mixfwd.Runs.lean ====
module

public import proofs.«01_k».proof.Proof.Gen.Kernel8Ideal.Launch
public import proofs.«01_k».proof.Proof.Gen.Kernel8Ideal.Skeleton
public import proofs.«01_k».proof.Proof.Gen.Kernel8Ideal.Loops
public import proofs.«01_k».proof.Proof.Gen.Kernel8Ideal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- The windows' axes are long, and membership in a rectangle is looked at coordinate by coordinate.
set_option maxRecDepth 16384

noncomputable section

namespace Cert.Kernel8Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is its host lines before the pipeline, the pipeline, and its host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the pipeline touch only the pipeline's arrays and buffers beside it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch₀0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 560000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The arguments of `@main`. -/
abbrev argRefs : List (Ref sig .tc) := [main_arg0, main_arg1, main_arg2, main_arg3, main_arg4, main_arg5, main_arg6, main_arg7, main_arg8, main_arg9, main_arg10, main_arg11, main_arg12, main_arg13, main_arg14]
/-- A buffer that is no argument differs from every argument. -/
theorem arg_ne {b r : Ref sig .tc} (hb : b ∈ argRefs) (hr : r ∉ argRefs) :
    Proc.devRef .tc b ≠ Proc.devRef (τ := τ) .tc r :=
  StableHlo.devRef_ne_of_ne fun h => hr (h ▸ hb)
set_option maxHeartbeats 1600000 in
/-- The host lines `hostOps0` write no argument. -/
theorem hostOps0_keeps {b : Ref sig .tc} (hb : b ∈ argRefs) :
    (hostOps0 : List (HloOp τ sig (Elt F))).Forall fun op => Proc.devRef .tc b ∉ op.writes := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact arg_ne hb (by decide)
set_option maxHeartbeats 1600000 in
/-- The host lines `hostOps1` write no argument. -/
theorem hostOps1_keeps {b : Ref sig .tc} (hb : b ∈ argRefs) :
    (hostOps1 : List (HloOp τ sig (Elt F))).Forall fun op => Proc.devRef .tc b ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact arg_ne hb (by decide)
/-- The lines before the region write no argument: the region finds each as launched. -/
theorem V_arg {b : Ref sig .tc} (hb : b ∈ argRefs) (c : Dev nD) : V m c b = m ((c : Thread nD τ).loc b) :=
  StableHlo.after_of_forall_not_mem (b := Proc.devRef .tc b) _ _ fun op hop => by
    obtain ⟨ops, hops, hop⟩ := List.mem_flatten.mp hop
    simp only [List.mem_cons, List.mem_nil_iff, or_false] at hops
    rcases hops with rfl
    · exact (List.forall_iff_forall_mem.mp (hostOps0_keeps hb)) op hop
/-- Nor do the lines after it: each argument ends as launched. -/
theorem W_arg {b : Ref sig .tc} (hb : b ∈ argRefs) (hw : ∀ w, Pipeline.arrRef spec0 w ≠ b)
    (dats : (p : Fin _) → (c : Dev nD) → Dat τ (Elt F) Unit ℕ (UR sig nD τ) ℕ (cfgs p) c) (c : Dev nD) :
    Pipeline.afterTail₀ cfgs dats 0 (V0 m) [hostOps1] c b = m ((c : Thread nD τ).loc b) := by
  unfold Pipeline.afterTail₀
  rw [StableHlo.after_of_forall_not_mem (b := Proc.devRef .tc b) _ _ (by
      intro op hop
      obtain ⟨ops, hops, hop⟩ := List.mem_flatten.mp hop
      simp only [List.mem_cons, List.mem_nil_iff, or_false] at hops
      rcases hops with rfl
      exact (List.forall_iff_forall_mem.mp (hostOps1_keeps hb)) op hop),
    Pipeline.withArrays_of_ne _ c (V0 m c) _ b hw]
  exact V_arg m hb c
theorem V_main_arg3 (c : Dev nD) : V m c main_arg3 = m ((c : Thread nD τ).loc main_arg3) := V_arg m (by decide) c
theorem V_main_arg5 (c : Dev nD) : V m c main_arg5 = m ((c : Thread nD τ).loc main_arg5) := V_arg m (by decide) c
theorem V_main_arg7 (c : Dev nD) : V m c main_arg7 = m ((c : Thread nD τ).loc main_arg7) := V_arg m (by decide) c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every point, whether or not it was fetched there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds the window's block at every point, whether or not it was fetched there. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds the window's block at every point, whether or not it was fetched there. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds the window's block at every point, whether or not it was fetched there. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds the window's block at every point, whether or not it was fetched there. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds the window's block at every point, whether or not it was fetched there. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds the window's block at every point, whether or not it was fetched there. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds the window's block at every point, whether or not it was fetched there. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds the window's block at every point, whether or not it was fetched there. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds the window's block at every point, whether or not it was fetched there. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds the window's block at every point, whether or not it was fetched there. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds the window's block at every point, whether or not it was fetched there. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds the window's block at every point, whether or not it was fetched there. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds the window's block at every point, whether or not it was fetched there. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds the window's block at every point, whether or not it was fetched there. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's staging buffer holds the window's block at every point, whether or not it was fetched there. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1200000 in
/-- If a run leaves the pipeline's arrays as `dats` says and every other array as the later lines leave it, then every
    argument ends as it was launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(((h c).2 main_arg0 (Pipeline.mem_restRefs_of main_arg0 (by decide) (by decide))).trans (W_arg (b := main_arg0) m (by decide) (by exact (by decide : ∀ w, Pipeline.arrRef spec0 w ≠ main_arg0)) dats c)),
      (((h c).2 main_arg1 (Pipeline.mem_restRefs_of main_arg1 (by decide) (by decide))).trans (W_arg (b := main_arg1) m (by decide) (by exact (by decide : ∀ w, Pipeline.arrRef spec0 w ≠ main_arg1)) dats c)),
      (((h c).2 main_arg2 (Pipeline.mem_restRefs_of main_arg2 (by decide) (by decide))).trans (W_arg (b := main_arg2) m (by decide) (by exact (by decide : ∀ w, Pipeline.arrRef spec0 w ≠ main_arg2)) dats c)),
      ((h c).1 4).trans (((dats 0 c).arrAt_in 4 rfl _).trans ((hA c 4).trans (V_arg (b := main_arg3) m (by decide) c))),
      (((h c).2 main_arg4 (Pipeline.mem_restRefs_of main_arg4 (by decide) (by decide))).trans (W_arg (b := main_arg4) m (by decide) (by exact (by decide : ∀ w, Pipeline.arrRef spec0 w ≠ main_arg4)) dats c)),
      ((h c).1 7).trans (((dats 0 c).arrAt_in 7 rfl _).trans ((hA c 7).trans (V_arg (b := main_arg5) m (by decide) c))),
      (((h c).2 main_arg6 (Pipeline.mem_restRefs_of main_arg6 (by decide) (by decide))).trans (W_arg (b := main_arg6) m (by decide) (by exact (by decide : ∀ w, Pipeline.arrRef spec0 w ≠ main_arg6)) dats c)),
      ((h c).1 8).trans (((dats 0 c).arrAt_in 8 rfl _).trans ((hA c 8).trans (V_arg (b := main_arg7) m (by decide) c))),
      ((h c).1 9).trans (((dats 0 c).arrAt_in 9 rfl _).trans ((hA c 9).trans (V_arg (b := main_arg8) m (by decide) c))),
      (((h c).2 main_arg9 (Pipeline.mem_restRefs_of main_arg9 (by decide) (by decide))).trans (W_arg (b := main_arg9) m (by decide) (by exact (by decide : ∀ w, Pipeline.arrRef spec0 w ≠ main_arg9)) dats c)),
      ((h c).1 11).trans (((dats 0 c).arrAt_in 11 rfl _).trans ((hA c 11).trans (V_arg (b := main_arg10) m (by decide) c))),
      ((h c).1 12).trans (((dats 0 c).arrAt_in 12 rfl _).trans ((hA c 12).trans (V_arg (b := main_arg11) m (by decide) c))),
      ((h c).1 13).trans (((dats 0 c).arrAt_in 13 rfl _).trans ((hA c 13).trans (V_arg (b := main_arg12) m (by decide) c))),
      ((h c).1 14).trans (((dats 0 c).arrAt_in 14 rfl _).trans ((hA c 14).trans (V_arg (b := main_arg13) m (by decide) c))),
      (((h c).2 main_arg14 (Pipeline.mem_restRefs_of main_arg14 (by decide) (by decide))).trans (W_arg (b := main_arg14) m (by decide) (by exact (by decide : ∀ w, Pipeline.arrRef spec0 w ≠ main_arg14)) dats c))⟩) h

/-! ## The body's branch conditions -/

/-- The body's branch condition 0, computed from the grid coordinates. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- One staging buffer of output window 16, through which its contents are stated; either buffer would do. -/
abbrev VO0_16 : View sig .tc .vmem S512x512 .f32 := (Memref.whole cc0_stg16_0 : Memref sig .tc .vmem S512x512 .f32).view
/-- One staging buffer of output window 17, through which its contents are stated; either buffer would do. -/
abbrev VO0_17 : View sig .tc .vmem S512x1024 .f32 := (Memref.whole cc0_stg17_0 : Memref sig .tc .vmem S512x1024 .f32).view
/-- One staging buffer of output window 18, through which its contents are stated; either buffer would do. -/
abbrev VO0_18 : View sig .tc .vmem S4x512x512 .f32 := (Memref.whole cc0_stg18_0 : Memref sig .tc .vmem S4x512x512 .f32).view
/-- One staging buffer of output window 19, through which its contents are stated; either buffer would do. -/
abbrev VO0_19 : View sig .tc .vmem S4x512x512 .bf16 := (Memref.whole cc0_stg19_0 : Memref sig .tc .vmem S4x512x512 .bf16).view
/-- Each window's current staging memref at point `t`, spelled as the pipeline passes it (`bodyAt0`), and its wholeness. -/
abbrev ms0_0 (t : Fin cfg0.N) : Memref sig .tc .vmem S512x1536 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x64x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x64x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x1024 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S512x512 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S512x1024 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S4x512x512 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S4x512x512 .bf16 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S2x256x512 .bf16 := Memref.whole cc0_scratch0
abbrev scM0_1 : Memref sig .tc .vmem S512x512 .f32 := Memref.whole cc0_scratch1
abbrev scM0_2 : Memref sig .tc .vmem S512x512 .f32 := Memref.whole cc0_scratch2
abbrev scM0_3 : Memref sig .tc .vmem S8x512 .f32 := Memref.whole cc0_scratch3
/-- The scratch `arg21` the kernel carries between points, as a view: what it holds is stated through it. -/
abbrev VS0_0 : View sig .tc .vmem S2x256x512 .bf16 := scM0_0.view
/-- The scratch `arg24` the kernel carries between points, as a view: what it holds is stated through it. -/
abbrev VS0_3 : View sig .tc .vmem S8x512 .f32 := scM0_3.view

/-- The kernel's own scratch buffers, each owned at some contents: what the body is given and gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel8Ideal.Gen

end
-- ==== Proof.Mixfwd.RunA.lean ====
module

public import proofs.«01_k».proof.Proof.Mixfwd.Runs

@[expose] public section

-- The windows' axes are long, and membership in a rectangle is looked at coordinate by coordinate.
set_option maxRecDepth 16384

noncomputable section

namespace Cert.Kernel8Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof is large)
set_option backward.proofsInPublic true in
set_option maxHeartbeats 40000000 in
/-- The body's run in case A: from the inputs at their contents, the carried scratch at what the point before left and
    every other buffer at anything, the body ends with the inputs unchanged and the listed pieces, last store first, written
    into each output and each scratch it stores into. -/
noncomputable def kernelRun0_A (c : Dev nD) (i : grid0.Coords) (arg1 : Memref sig .tc .vmem S512x1536 .f32) (harg1 : arg1.IsWhole) (arg2 : Memref sig .tc .vmem S16x1536 .f32) (harg2 : arg2.IsWhole) (arg3 : Memref sig .tc .vmem S512x1024 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S8x64x64 .f32) (harg6 : arg6.IsWhole) (arg7 : Memref sig .tc .vmem S8x64x64 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1024x1024 .bf16) (harg16 : arg16.IsWhole) (arg17 : Memref sig .tc .vmem S512x512 .f32) (harg17 : arg17.IsWhole) (arg18 : Memref sig .tc .vmem S512x1024 .f32) (harg18 : arg18.IsWhole) (arg19 : Memref sig .tc .vmem S4x512x512 .f32) (harg19 : arg19.IsWhole) (arg20 : Memref sig .tc .vmem S4x512x512 .bf16) (harg20 : arg20.IsWhole) (arg21 : Memref sig .tc .vmem S2x256x512 .bf16) (harg21 : arg21.IsWhole) (arg22 : Memref sig .tc .vmem S512x512 .f32) (harg22 : arg22.IsWhole) (arg23 : Memref sig .tc .vmem S512x512 .f32) (harg23 : arg23.IsWhole) (arg24 : Memref sig .tc .vmem S8x512 .f32) (harg24 : arg24.IsWhole) (hc0 : cond0_0 i)
    (x0 : Vec F S512x1536 .f32) (x1 : Vec F S16x1536 .f32) (x2 : Vec F S512x1024 .f32) (x3 : Vec F S4x512 .f32) (x4 : Vec F S1x512 .f32) (x5 : Vec F S8x64x64 .f32) (x6 : Vec F S8x64x64 .f32) (x7 : Vec F S1x512 .f32) (x8 : Vec F S1x512 .f32) (x9 : Vec F S1x512 .f32) (x10 : Vec F S4x128x128 .f32) (x11 : Vec F S1x512 .f32) (x12 : Vec F S1x512 .f32) (x13 : Vec F S1x512 .f32) (x14 : Vec F S1x512 .f32) (x15 : Vec F S1024x1024 .bf16) :
    Σ' (L16 : List (View.Piece (Elt F) S512x512 .f32)), Σ' (L17 : List (View.Piece (Elt F) S512x1024 .f32)), Σ' (L18 : List (View.Piece (Elt F) S4x512x512 .f32)), Σ' (L19 : List (View.Piece (Elt F) S4x512x512 .bf16)), Σ' (LS0 : List (View.Piece (Elt F) S2x256x512 .bf16)), { LS3 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f LS0) ∗ (∃ d, owns (c : Thread nD τ) arg22 fullShare d) ∗ (∃ d, owns (c : Thread nD τ) arg23 fullShare d) ∗ (∃ f, arg24.view.loc (c : Thread nD τ) ↦[arg24.view.set]{fullShare} arg24.view.writes (Elt F) f LS3)) -∗ K ⟨⟩))
          ⊢ wp frame (wpE (defs₀ (F := F)) Variants.none c none) E (cc0_mixer_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, fun E K => ?run⟩
  case run =>
    simp only [cc0_mixer_fwd_eq_skeleton]; unfold cc0_mixer_fwd_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    have hrd0 : ∀ (𝒱 : Variants) (c : Dev nD) (bd : Option 𝒱.V) (i : grid0.Coords) (arg1 : Memref sig .tc .vmem S512x1536 .f32) (harg1 : arg1.IsWhole) (arg2 : Memref sig .tc .vmem S16x1536 .f32) (harg2 : arg2.IsWhole) (arg3 : Memref sig .tc .vmem S512x1024 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S8x64x64 .f32) (harg6 : arg6.IsWhole) (arg7 : Memref sig .tc .vmem S8x64x64 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1024x1024 .bf16) (harg16 : arg16.IsWhole) (arg17 : Memref sig .tc .vmem S512x512 .f32) (harg17 : arg17.IsWhole) (arg18 : Memref sig .tc .vmem S512x1024 .f32) (harg18 : arg18.IsWhole) (arg19 : Memref sig .tc .vmem S4x512x512 .f32) (harg19 : arg19.IsWhole) (arg20 : Memref sig .tc .vmem S4x512x512 .bf16) (harg20 : arg20.IsWhole) (arg21 : Memref sig .tc .vmem S2x256x512 .bf16) (harg21 : arg21.IsWhole) (arg22 : Memref sig .tc .vmem S512x512 .f32) (harg22 : arg22.IsWhole) (arg23 : Memref sig .tc .vmem S512x512 .f32) (harg23 : arg23.IsWhole) (arg24 : Memref sig .tc .vmem S8x512 .f32) (harg24 : arg24.IsWhole) (v337 : IVec S64x8x512 32) (v353 : FVec F S64x8x512 .f32) (v355 : FVec F S64x8x512 .f32) (v356 : FVec F S64x8x512 .f32) (X_arg22 : BufTy.Contents (Elt F) arg22.view.ty) (X_arg23 : BufTy.Contents (Elt F) arg23.view.ty) (init : Vec F S8x512 .f32) (hrdF : BufTy.Contents (Elt F) arg17.view.ty) (hrdB : LoadRect S512x512), arg17.view.readAt (Elt F) hrdB (arg17.view.writes (Elt F) hrdF (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v337 v353 v355 v356 X_arg22 X_arg23 init (Scf.trips k0_t1_loop.lb k0_t1_loop.ub k0_t1_loop.st)).2) = arg17.view.readCov (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v337 v353 v355 v356 X_arg22 X_arg23 init (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v337 v353 v355 v356 X_arg22 X_arg23 init hrdF hrdB => View.readAt_writes_of_cover _ hrdF _ hrdB (fun hrdJ => View.cover_of_tiledL (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v337 v353 v355 v356 X_arg22 X_arg23 init (Scf.trips k0_t1_loop.lb k0_t1_loop.ub k0_t1_loop.st)).2 S8x512.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [HS0]; · iexists _; iexact HS0
    isplitl [HS1]
    · iexists _, _; isplitr; swap; · iexact HS1
      ipureintro; rfl
    isplitl [HS2]
    · iexists _, _; isplitr; swap; · iexact HS2
      ipureintro; rfl
    iexists _; iexact HS3

end Cert.Kernel8Ideal.Gen

end
-- ==== Proof.Mixfwd.RunB.lean ====
module

public import proofs.«01_k».proof.Proof.Mixfwd.Runs

@[expose] public section

-- The windows' axes are long, and membership in a rectangle is looked at coordinate by coordinate.
set_option maxRecDepth 16384

noncomputable section

namespace Cert.Kernel8Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof is large)
set_option backward.proofsInPublic true in
set_option maxHeartbeats 40000000 in
/-- The body's run in case B: from the inputs at their contents, the carried scratch at what the point before left and
    every other buffer at anything, the body ends with the inputs unchanged and the listed pieces, last store first, written
    into each output and each scratch it stores into. -/
noncomputable def kernelRun0_B (c : Dev nD) (i : grid0.Coords) (arg1 : Memref sig .tc .vmem S512x1536 .f32) (harg1 : arg1.IsWhole) (arg2 : Memref sig .tc .vmem S16x1536 .f32) (harg2 : arg2.IsWhole) (arg3 : Memref sig .tc .vmem S512x1024 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S8x64x64 .f32) (harg6 : arg6.IsWhole) (arg7 : Memref sig .tc .vmem S8x64x64 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1024x1024 .bf16) (harg16 : arg16.IsWhole) (arg17 : Memref sig .tc .vmem S512x512 .f32) (harg17 : arg17.IsWhole) (arg18 : Memref sig .tc .vmem S512x1024 .f32) (harg18 : arg18.IsWhole) (arg19 : Memref sig .tc .vmem S4x512x512 .f32) (harg19 : arg19.IsWhole) (arg20 : Memref sig .tc .vmem S4x512x512 .bf16) (harg20 : arg20.IsWhole) (arg21 : Memref sig .tc .vmem S2x256x512 .bf16) (harg21 : arg21.IsWhole) (arg22 : Memref sig .tc .vmem S512x512 .f32) (harg22 : arg22.IsWhole) (arg23 : Memref sig .tc .vmem S512x512 .f32) (harg23 : arg23.IsWhole) (arg24 : Memref sig .tc .vmem S8x512 .f32) (harg24 : arg24.IsWhole) (hc0 : ¬cond0_0 i)
    (x0 : Vec F S512x1536 .f32) (x1 : Vec F S16x1536 .f32) (x2 : Vec F S512x1024 .f32) (x3 : Vec F S4x512 .f32) (x4 : Vec F S1x512 .f32) (x5 : Vec F S8x64x64 .f32) (x6 : Vec F S8x64x64 .f32) (x7 : Vec F S1x512 .f32) (x8 : Vec F S1x512 .f32) (x9 : Vec F S1x512 .f32) (x10 : Vec F S4x128x128 .f32) (x11 : Vec F S1x512 .f32) (x12 : Vec F S1x512 .f32) (x13 : Vec F S1x512 .f32) (x14 : Vec F S1x512 .f32) (x15 : Vec F S1024x1024 .bf16) (xs0 : Vec F S2x256x512 .bf16) (xs3 : Vec F S8x512 .f32) :
    Σ' (L16 : List (View.Piece (Elt F) S512x512 .f32)), Σ' (L17 : List (View.Piece (Elt F) S512x1024 .f32)), Σ' (L18 : List (View.Piece (Elt F) S4x512x512 .f32)), Σ' (L19 : List (View.Piece (Elt F) S4x512x512 .bf16)), Σ' (LS0 : List (View.Piece (Elt F) S2x256x512 .bf16)), { LS3 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xs0 ∗ (∃ d, owns (c : Thread nD τ) arg22 fullShare d) ∗ (∃ d, owns (c : Thread nD τ) arg23 fullShare d) ∗ owns (c : Thread nD τ) arg24 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ owns (c : Thread nD τ) arg21 fullShare xs0 ∗ (∃ d, owns (c : Thread nD τ) arg22 fullShare d) ∗ (∃ d, owns (c : Thread nD τ) arg23 fullShare d) ∗ (∃ f, arg24.view.loc (c : Thread nD τ) ↦[arg24.view.set]{fullShare} arg24.view.writes (Elt F) f LS3)) -∗ K ⟨⟩))
          ⊢ wp frame (wpE (defs₀ (F := F)) Variants.none c none) E (cc0_mixer_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, [], ?_, fun E K => ?run⟩
  case run =>
    simp only [cc0_mixer_fwd_eq_skeleton]; unfold cc0_mixer_fwd_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%fs0, %hfs0, HS0⟩, ⟨%ds1, %fs1, -, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg21.eq_unread hfs0; obtain rfl := harg24.eq_unread hfs3
    have hrd0 : ∀ (𝒱 : Variants) (c : Dev nD) (bd : Option 𝒱.V) (i : grid0.Coords) (arg1 : Memref sig .tc .vmem S512x1536 .f32) (harg1 : arg1.IsWhole) (arg2 : Memref sig .tc .vmem S16x1536 .f32) (harg2 : arg2.IsWhole) (arg3 : Memref sig .tc .vmem S512x1024 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S8x64x64 .f32) (harg6 : arg6.IsWhole) (arg7 : Memref sig .tc .vmem S8x64x64 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1024x1024 .bf16) (harg16 : arg16.IsWhole) (arg17 : Memref sig .tc .vmem S512x512 .f32) (harg17 : arg17.IsWhole) (arg18 : Memref sig .tc .vmem S512x1024 .f32) (harg18 : arg18.IsWhole) (arg19 : Memref sig .tc .vmem S4x512x512 .f32) (harg19 : arg19.IsWhole) (arg20 : Memref sig .tc .vmem S4x512x512 .bf16) (harg20 : arg20.IsWhole) (arg21 : Memref sig .tc .vmem S2x256x512 .bf16) (harg21 : arg21.IsWhole) (arg22 : Memref sig .tc .vmem S512x512 .f32) (harg22 : arg22.IsWhole) (arg23 : Memref sig .tc .vmem S512x512 .f32) (harg23 : arg23.IsWhole) (arg24 : Memref sig .tc .vmem S8x512 .f32) (harg24 : arg24.IsWhole) (v337 : IVec S64x8x512 32) (v353 : FVec F S64x8x512 .f32) (v355 : FVec F S64x8x512 .f32) (v356 : FVec F S64x8x512 .f32) (X_arg22 : BufTy.Contents (Elt F) arg22.view.ty) (X_arg23 : BufTy.Contents (Elt F) arg23.view.ty) (init : Vec F S8x512 .f32) (hrdF : BufTy.Contents (Elt F) arg17.view.ty) (hrdB : LoadRect S512x512), arg17.view.readAt (Elt F) hrdB (arg17.view.writes (Elt F) hrdF (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v337 v353 v355 v356 X_arg22 X_arg23 init (Scf.trips k0_t1_loop.lb k0_t1_loop.ub k0_t1_loop.st)).2) = arg17.view.readCov (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v337 v353 v355 v356 X_arg22 X_arg23 init (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v337 v353 v355 v356 X_arg22 X_arg23 init hrdF hrdB => View.readAt_writes_of_cover _ hrdF _ hrdB (fun hrdJ => View.cover_of_tiledL (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v337 v353 v355 v356 X_arg22 X_arg23 init (Scf.trips k0_t1_loop.lb k0_t1_loop.ub k0_t1_loop.st)).2 S8x512.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [HS0]
    · iexists _; isplitr; · ipureintro; exact harg21.read_unread _
      iexact HS0
    isplitl [HS1]
    · iexists _, _; isplitr; swap; · iexact HS1
      ipureintro; rfl
    isplitl [HS2]
    · iexists _, _; isplitr; swap; · iexact HS2
      ipureintro; rfl
    iexists _; iexact HS3

end Cert.Kernel8Ideal.Gen

end
-- ==== Proof.Mixfwd.Run.lean ====
module

public import proofs.«01_k».proof.Proof.Mixfwd.RunA
public import proofs.«01_k».proof.Proof.Mixfwd.RunB
public import Idealize.ShloMosaic.Lib.Claim

@[expose] public section

set_option maxRecDepth 16384

noncomputable section

/-! The forward mixer: what each point of the grid leaves, and what every run of the program leaves. -/
namespace Cert.Kernel8Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The four outputs' blocks and the two pieces of scratch handed from point to point. -/
abbrev Outs (F : FTy → Type) : Type := Vec F S512x512 .f32 × Vec F S512x1024 .f32 × Vec F S4x512x512 .f32 × Vec F S4x512x512 .bf16 × Vec F S2x256x512 .bf16 × Vec F S8x512 .f32

/-- The body's run at a first point, on that point's buffers and blocks. -/
def runA (c : Dev nD) (t : Fin cfg0.N) (h0 : t.val % 16 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The body's run at a later point, on that point's buffers and blocks, after a point that left `p`. -/
def runB (c : Dev nD) (t : Fin cfg0.N) (h0 : ¬t.val % 16 = 0) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p.2.2.2.2.1 p.2.2.2.2.2

theorem cover0_A_16 (c : Dev nD) (t : Fin cfg0.N) (h0 : t.val % 16 = 0) (y : S512x512.Idx) : ∃ pc ∈ (runA m c t h0).1, y ∈ pc.1.set :=
  View.cover_of_tiledL (runA m c t h0).1 S8x512.size (by sl_kernel_rfl) y
def out0_A_16 (c : Dev nD) (t : Fin cfg0.N) (h0 : t.val % 16 = 0) : Vec F S512x512 .f32 :=
  VO0_16.read (Elt F) (VO0_16.writes (Elt F) VO0_16.junk (runA m c t h0).1)

theorem cover0_A_17 (c : Dev nD) (t : Fin cfg0.N) (h0 : t.val % 16 = 0) (y : S512x1024.Idx) : ∃ pc ∈ (runA m c t h0).2.1, y ∈ pc.1.set :=
  View.cover_of_tiledL (runA m c t h0).2.1 S512x1024.size (by sl_kernel_rfl) y
def out0_A_17 (c : Dev nD) (t : Fin cfg0.N) (h0 : t.val % 16 = 0) : Vec F S512x1024 .f32 :=
  VO0_17.read (Elt F) (VO0_17.writes (Elt F) VO0_17.junk (runA m c t h0).2.1)

theorem cover0_A_18 (c : Dev nD) (t : Fin cfg0.N) (h0 : t.val % 16 = 0) (y : S4x512x512.Idx) : ∃ pc ∈ (runA m c t h0).2.2.1, y ∈ pc.1.set :=
  View.cover_of_tiledL (runA m c t h0).2.2.1 S1x512x512.size (by sl_kernel_rfl) y
def out0_A_18 (c : Dev nD) (t : Fin cfg0.N) (h0 : t.val % 16 = 0) : Vec F S4x512x512 .f32 :=
  VO0_18.read (Elt F) (VO0_18.writes (Elt F) VO0_18.junk (runA m c t h0).2.2.1)

theorem cover0_A_19 (c : Dev nD) (t : Fin cfg0.N) (h0 : t.val % 16 = 0) (y : S4x512x512.Idx) : ∃ pc ∈ (runA m c t h0).2.2.2.1, y ∈ pc.1.set :=
  View.cover_of_tiledBy (runA m c t h0).2.2.2.1 ![1, 512, 128] (by sl_kernel_rfl) y
def out0_A_19 (c : Dev nD) (t : Fin cfg0.N) (h0 : t.val % 16 = 0) : Vec F S4x512x512 .bf16 :=
  VO0_19.read (Elt F) (VO0_19.writes (Elt F) VO0_19.junk (runA m c t h0).2.2.2.1)

theorem scover0_A_0 (c : Dev nD) (t : Fin cfg0.N) (h0 : t.val % 16 = 0) (y : S2x256x512.Idx) : ∃ pc ∈ (runA m c t h0).2.2.2.2.1, y ∈ pc.1.set :=
  View.cover_of_tiledL (runA m c t h0).2.2.2.2.1 S1x64x256.size (by sl_kernel_rfl) y
def sout0_A_0 (c : Dev nD) (t : Fin cfg0.N) (h0 : t.val % 16 = 0) : Vec F S2x256x512 .bf16 :=
  VS0_0.read (Elt F) (VS0_0.writes (Elt F) VS0_0.junk (runA m c t h0).2.2.2.2.1)

theorem scover0_A_3 (c : Dev nD) (t : Fin cfg0.N) (h0 : t.val % 16 = 0) (y : S8x512.Idx) : ∃ pc ∈ (runA m c t h0).2.2.2.2.2.1, y ∈ pc.1.set :=
  View.cover_of_tiledL (runA m c t h0).2.2.2.2.2.1 S8x512.size (by sl_kernel_rfl) y
def sout0_A_3 (c : Dev nD) (t : Fin cfg0.N) (h0 : t.val % 16 = 0) : Vec F S8x512 .f32 :=
  VS0_3.read (Elt F) (VS0_3.writes (Elt F) VS0_3.junk (runA m c t h0).2.2.2.2.2.1)

theorem cover0_B_16 (c : Dev nD) (t : Fin cfg0.N) (h0 : ¬t.val % 16 = 0) (p : Outs F) (y : S512x512.Idx) : ∃ pc ∈ (runB m c t h0 p).1, y ∈ pc.1.set :=
  View.cover_of_tiledL (runB m c t h0 p).1 S8x512.size (by sl_kernel_rfl) y
def out0_B_16 (c : Dev nD) (t : Fin cfg0.N) (h0 : ¬t.val % 16 = 0) (p : Outs F) : Vec F S512x512 .f32 :=
  VO0_16.read (Elt F) (VO0_16.writes (Elt F) VO0_16.junk (runB m c t h0 p).1)

theorem cover0_B_17 (c : Dev nD) (t : Fin cfg0.N) (h0 : ¬t.val % 16 = 0) (p : Outs F) (y : S512x1024.Idx) : ∃ pc ∈ (runB m c t h0 p).2.1, y ∈ pc.1.set :=
  View.cover_of_tiledL (runB m c t h0 p).2.1 S512x1024.size (by sl_kernel_rfl) y
def out0_B_17 (c : Dev nD) (t : Fin cfg0.N) (h0 : ¬t.val % 16 = 0) (p : Outs F) : Vec F S512x1024 .f32 :=
  VO0_17.read (Elt F) (VO0_17.writes (Elt F) VO0_17.junk (runB m c t h0 p).2.1)

theorem cover0_B_18 (c : Dev nD) (t : Fin cfg0.N) (h0 : ¬t.val % 16 = 0) (p : Outs F) (y : S4x512x512.Idx) : ∃ pc ∈ (runB m c t h0 p).2.2.1, y ∈ pc.1.set :=
  View.cover_of_tiledL (runB m c t h0 p).2.2.1 S1x512x512.size (by sl_kernel_rfl) y
def out0_B_18 (c : Dev nD) (t : Fin cfg0.N) (h0 : ¬t.val % 16 = 0) (p : Outs F) : Vec F S4x512x512 .f32 :=
  VO0_18.read (Elt F) (VO0_18.writes (Elt F) VO0_18.junk (runB m c t h0 p).2.2.1)

theorem cover0_B_19 (c : Dev nD) (t : Fin cfg0.N) (h0 : ¬t.val % 16 = 0) (p : Outs F) (y : S4x512x512.Idx) : ∃ pc ∈ (runB m c t h0 p).2.2.2.1, y ∈ pc.1.set :=
  View.cover_of_tiledBy (runB m c t h0 p).2.2.2.1 ![1, 512, 128] (by sl_kernel_rfl) y
def out0_B_19 (c : Dev nD) (t : Fin cfg0.N) (h0 : ¬t.val % 16 = 0) (p : Outs F) : Vec F S4x512x512 .bf16 :=
  VO0_19.read (Elt F) (VO0_19.writes (Elt F) VO0_19.junk (runB m c t h0 p).2.2.2.1)

theorem scover0_B_3 (c : Dev nD) (t : Fin cfg0.N) (h0 : ¬t.val % 16 = 0) (p : Outs F) (y : S8x512.Idx) : ∃ pc ∈ (runB m c t h0 p).2.2.2.2.2.1, y ∈ pc.1.set :=
  View.cover_of_tiledL (runB m c t h0 p).2.2.2.2.2.1 S8x512.size (by sl_kernel_rfl) y
def sout0_B_3 (c : Dev nD) (t : Fin cfg0.N) (h0 : ¬t.val % 16 = 0) (p : Outs F) : Vec F S8x512 .f32 :=
  VS0_3.read (Elt F) (VS0_3.writes (Elt F) VS0_3.junk (runB m c t h0 p).2.2.2.2.2.1)

/-- All that a first point leaves. -/
def pointA (c : Dev nD) (t : Fin cfg0.N) (h0 : t.val % 16 = 0) : Outs F :=
  (out0_A_16 m c t h0, out0_A_17 m c t h0, out0_A_18 m c t h0, out0_A_19 m c t h0, sout0_A_0 m c t h0, sout0_A_3 m c t h0)

/-- All that a later point leaves. -/
def pointB (c : Dev nD) (t : Fin cfg0.N) (h0 : ¬t.val % 16 = 0) (p : Outs F) : Outs F :=
  (out0_B_16 m c t h0 p, out0_B_17 m c t h0 p, out0_B_18 m c t h0 p, out0_B_19 m c t h0 p, p.2.2.2.2.1, sout0_B_3 m c t h0 p)

/-- What the outputs and the scratch hold after point `n`: the kind of point decides which run, and a later point starts from what the point before left. -/
def outsAt0 (c : Dev nD) : (n : ℕ) → n < cfg0.N → Outs F
  | 0, hn => pointA m c ⟨0, hn⟩ (Nat.zero_mod _)
  | n + 1, hn =>
    if h0 : (n + 1) % 16 = 0 then pointA m c ⟨n + 1, hn⟩ h0
    else pointB m c ⟨n + 1, hn⟩ h0 (outsAt0 c n (Nat.lt_of_succ_lt hn))

theorem outsAt0_A (c : Dev nD) (t : Fin cfg0.N) (h0 : t.val % 16 = 0) : outsAt0 m c t.val t.isLt = pointA m c t h0 := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = pointB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What holds of the scratch before point `n`: at the first point it may hold anything; later each scratch the kernel
    carries holds what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ (∃ d, owns (c : Thread nD τ) scM0_1 fullShare d) ∗ (∃ d, owns (c : Thread nD τ) scM0_2 fullShare d) ∗ owns (c : Thread nD τ) scM0_3 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ (∃ d, owns (c : Thread nD τ) scM0_1 fullShare d) ∗ (∃ d, owns (c : Thread nD τ) scM0_2 fullShare d) ∗ owns (c : Thread nD τ) scM0_3 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ (∃ d, owns (c : Thread nD τ) scM0_1 fullShare d) ∗ (∃ d, owns (c : Thread nD τ) scM0_2 fullShare d) ∗ owns (c : Thread nD τ) scM0_3 fullShare ((outsAt0 m c (n - 1) (by omega)).2.2.2.2.2)) ∗ (∃ r, prngReg c r)) := by
  cases n with
  | zero => exact absurd rfl hz
  | succ n => rfl

/-! ## The pipeline's proof data -/

/-- The pipeline's contents on core `c`: the arrays as found, after point `t` each input's buffer at its block and the
    outputs' at `outsAt0`, with the scratch as `PhiS` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2.1
    | ⟨18, _⟩ => (outsAt0 m c t.val t.isLt).2.2.1
    | ⟨19, _⟩ => (outsAt0 m c t.val t.isLt).2.2.2.1
    | ⟨_ + 20, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]
theorem after0_17 (c : Dev nD) (t : Fin cfg0.N) : (dats m 0 c).after 17 t = (outsAt0 m c t.val t.isLt).2.1 := by dsimp only [dats]
theorem after0_18 (c : Dev nD) (t : Fin cfg0.N) : (dats m 0 c).after 18 t = (outsAt0 m c t.val t.isLt).2.2.1 := by dsimp only [dats]
theorem after0_19 (c : Dev nD) (t : Fin cfg0.N) : (dats m 0 c).after 19 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is given at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 19200000 in
/-- The body at any point: each input buffer holds its block, the kind of point is decided, that kind's run applies, and it leaves what `outsAt0` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold pointA out0_A_16 out0_A_17 out0_A_18 out0_A_19 sout0_A_0 sout0_A_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((runA m c t h0).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [H18]; · iexists _; iexact H18
      isplitl [H19]; · iexists _; iexact H19
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, ⟨%e16, H16⟩, ⟨%e17, H17⟩, ⟨%e18, H18⟩, ⟨%e19, H19⟩, ⟨%es0, HS0⟩, HS1, HS2, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 m c t h0)
          isplitl [HS1]
          · iexact HS1
          isplitl [HS2]
          · iexact HS2
          unfold owns; iexists _; isplitr
          swap; · iexact HS3
          ipureintro; exact View.read_writes_of_cover _ _ _ _ _ (scover0_A_3 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_A_16 m c t h0)
      isplitl [H17]
      · unfold owns; iexists _; isplitr
        swap; · iexact H17
        ipureintro; exact View.read_writes_of_cover _ _ _ _ _ (cover0_A_17 m c t h0)
      isplitl [H18]
      · unfold owns; iexists _; isplitr
        swap; · iexact H18
        ipureintro; exact View.read_writes_of_cover _ _ _ _ _ (cover0_A_18 m c t h0)
      unfold owns; iexists _; isplitr
      swap; · iexact H19
      ipureintro; exact View.read_writes_of_cover _ _ _ _ _ (cover0_A_19 m c t h0)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold pointB out0_B_16 out0_B_17 out0_B_18 out0_B_19 sout0_B_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((runB m c t h0 _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [H18]; · iexists _; iexact H18
      isplitl [H19]; · iexists _; iexact H19
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, ⟨%e16, H16⟩, ⟨%e17, H17⟩, ⟨%e18, H18⟩, ⟨%e19, H19⟩, HS0, HS1, HS2, ⟨%es3, HS3⟩⟩
      isplitl [HS0 HS1 HS2 HS3 Hg]
      · isplitl [HS0 HS1 HS2 HS3]
        · isplitl [HS0]
          · iexact HS0
          isplitl [HS1]
          · iexact HS1
          isplitl [HS2]
          · iexact HS2
          unfold owns; iexists _; isplitr
          swap; · iexact HS3
          ipureintro; exact View.read_writes_of_cover _ _ _ _ _ (scover0_B_3 m c t h0 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_B_16 m c t h0 _)
      isplitl [H17]
      · unfold owns; iexists _; isplitr
        swap; · iexact H17
        ipureintro; exact View.read_writes_of_cover _ _ _ _ _ (cover0_B_17 m c t h0 _)
      isplitl [H18]
      · unfold owns; iexists _; isplitr
        swap; · iexact H18
        ipureintro; exact View.read_writes_of_cover _ _ _ _ _ (cover0_B_18 m c t h0 _)
      unfold owns; iexists _; isplitr
      swap; · iexact H19
      ipureintro; exact View.read_writes_of_cover _ _ _ _ _ (cover0_B_19 m c t h0 _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body meets what the pipeline asks of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_around_track_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- Every weakly fair execution of the program terminates, with every array of the pipeline at the contents computed here
    and every other array as the later lines leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The frame, over any values: every execution terminates with the arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel8Ideal.Gen

end
-- ==== Proof.Mixfwd.Both.lean ====
module

public import proofs.«01_k».proof.Defs
public import proofs.«01_k».proof.Proof.Gen.Kernel8
public import proofs.«01_k».proof.Proof.Mixfwd.Run
public import Idealize.ShloMosaic.Lib.Claim
public import Idealize.ShloMosaic.Lib.Quiescent

@[expose] public section
noncomputable section
open Idealize.ShloMosaic Idealize.SL.Sem

/-! The two frames of the forward mixer from its one run. -/
namespace Cert.Proof

/-- The frame over any float values. -/
def MixfwdFrame (F : FTy → Type) [FloatOps F] : Prop :=
  ∀ (m : (ℓ : Loc Cert.Kernel8Ideal.nD Cert.Kernel8Ideal.τ Cert.Kernel8Ideal.sig) → Buf (Elt F) ℓ) (g : Dev Cert.Kernel8Ideal.nD → PrngReg), True →
    θ_run (Cert.Kernel8Ideal.defs (F := F)) (onTc (τ := Cert.Kernel8Ideal.τ) (Cert.Kernel8Ideal.main (F := F))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14))
      ∧ r.2.sem = fun _ => 0)

theorem mixfwd_frame_any (F : FTy → Type) [FloatOps F] : MixfwdFrame F := fun m g _ => Cert.Kernel8Ideal.Gen.frame m g

theorem mixfwd_frame_ideal : Cert.quiescent_Kernel8Ideal := mixfwd_frame_any Ideal

theorem mixfwd_same : MixfwdFrame Bits = Cert.quiescent_Kernel8 := by sl_kernel_rfl

theorem mixfwd_frame : Cert.quiescent_Kernel8 := mixfwd_same ▸ mixfwd_frame_any Bits
end Cert.Proof
end
-- ==== Proof.Mixfwd.Tile.lean ====
module

public import proofs.«01_k».proof.Proof.Gen.Kernel8Ideal.Skeleton
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem

/-! What the forward mixer computes of one tile: the convolved rows, the two gates, and the gelu. -/
namespace Cert.Kernel8Ideal.Fwd
open Cert.Kernel8Ideal Cert.Kernel8Ideal.Gen

/-- A sum over four blocks of which one is not masked. -/
theorem sum_block (q : Fin 4) (f g : Fin 256 → EReal) :
    ∑ k : Fin 256, f k * (if k.val / 64 = q.val then g k else 0) = ∑ x : Fin 64, f ⟨64 * q.val + x.val, by omega⟩ * g ⟨64 * q.val + x.val, by omega⟩ := by
  rw [← (finProdFinEquiv (m := 4) (n := 64)).sum_comp, Fintype.sum_prod_type, Finset.sum_eq_single q]
  · refine Finset.sum_congr rfl fun x _ => ?_
    have e : (finProdFinEquiv (m := 4) (n := 64)) (q, x) = (⟨64 * q.val + x.val, by omega⟩ : Fin 256) :=
      Fin.ext (by show x.val + 64 * q.val = 64 * q.val + x.val; omega)
    rw [e, if_pos (show (64 * q.val + x.val) / 64 = q.val by omega)]
  · intro b _ hb
    refine Finset.sum_eq_zero fun x _ => ?_
    rw [if_neg, mul_zero]
    show ¬ (x.val + 64 * b.val) / 64 = q.val
    intro h
    exact hb (Fin.ext (by omega))
  · exact fun h => absurd (Finset.mem_univ _) h

/-- A gate's block weights, both gates side by side for one half of the channels, zero off the blocks. -/
def gw (a x : Vec Ideal S8x64x64 .f32) (b : Fin 2) (k : Fin 256) (j : Fin 512) : EReal :=
  if k.val / 64 = j.val % 256 / 64 then (if j.val < 256 then a else x) (ix3 ⟨4 * b.val + k.val / 64, by omega⟩ ⟨k.val % 64, by omega⟩ ⟨j.val % 64, by omega⟩) else 0

variable (i : grid0.Coords) (x0 : Vec Ideal S512x1536 .f32) (x1 : Vec Ideal S16x1536 .f32) (x3 : Vec Ideal S4x512 .f32) (x4 : Vec Ideal S1x512 .f32)

/-- The tile's first 512 columns, -/
abbrev lru : Vec Ideal S512x512 .f32 := View.ld x0 (Rect.unit ![0, 0] ![512, 512] inb_S512x1536_S512x512_0_0)
/-- convolved. -/
abbrev XC : FVec Ideal S512x512 .f32 :=
  k0_pay28 (F := Ideal) (k0_pay23 x3) (k0_pay24 i x1) (k0_pay26 i x1 x3 x4 (lru x0)) (k0_pay27 i x1 (lru x0)) (lru x0) (lru x0)

/-- Row `n` of the tile with the sixteen rows before it, which are zero at the first tile. -/
def ext (n : ℕ) (hn : n < 528) (c : Fin 512) : EReal :=
  if h : n < 16 then (if (i 0).val = 0 then 0 else x1 (ix2 ⟨n, h⟩ ⟨c.val, by omega⟩)) else x0 (ix2 ⟨n - 16, by omega⟩ ⟨c.val, by omega⟩)

/-- A convolved row. -/
def xc (r c : Fin 512) : EReal :=
  x4 (ix2 0 c) + ext i x0 x1 (13 + r.val) (by omega) c * x3 (ix2 0 c) + ext i x0 x1 (14 + r.val) (by omega) c * x3 (ix2 1 c)
    + ext i x0 x1 (15 + r.val) (by omega) c * x3 (ix2 2 c) + ext i x0 x1 (16 + r.val) (by omega) c * x3 (ix2 3 c)

theorem past : ∀ n : Fin 16, Scalar.cmpi .sgt (BitVec.ofNat 32 n.val) 0#32 = if n.val = 0 then 0#1 else 1#1 := by decide
theorem halo_at (n : Fin 16) (c : Fin 512) : k0_pay24 (F := Ideal) i x1 (ix2 n c) = if (i 0).val = 0 then 0 else x1 (ix2 n ⟨c.val, by omega⟩) := by
  have h := past (i 0)
  by_cases h0 : (i 0).val = 0
  · rw [if_pos h0] at h ⊢
    pointwise [k0_pay24, k0_pay22, h]
  · rw [if_neg h0] at h ⊢
    pointwise [k0_pay24, k0_pay22, h]
theorem halo25_at (n : Fin 16) (c : Fin 512) : k0_pay25 (F := Ideal) i x1 (ix2 n c) = if (i 0).val = 0 then 0 else x1 (ix2 n ⟨1024 + c.val, by omega⟩) := by
  have h := past (i 0)
  by_cases h0 : (i 0).val = 0
  · rw [if_pos h0] at h ⊢
    pointwise [k0_pay25, k0_pay22, h]
  · rw [if_neg h0] at h ⊢
    pointwise [k0_pay25, k0_pay22, h]
theorem lru_at (r c : Fin 512) : lru x0 (ix2 r c) = x0 (ix2 r ⟨c.val, by omega⟩) := by
  unfold lru
  pointwise []
theorem w_at (k : Fin 4) (c : Fin 512) : k0_pay23 (F := Ideal) x3 (ix2 k c) = x3 (ix2 k c) := by
  pointwise [k0_pay23]

/-- The rows with their halo, read by position. -/
theorem ext_at (n : ℕ) (hn : n < 528) (c : Fin 512) :
    (if h : n < 16 then k0_pay24 (F := Ideal) i x1 (ix2 ⟨n, h⟩ c) else lru x0 (ix2 ⟨n - 16, by omega⟩ c)) = ext i x0 x1 n hn c := by
  unfold ext
  split_ifs with h
  · rw [halo_at, if_pos ‹_›]
  · rw [halo_at, if_neg ‹_›]
  · rw [lru_at]

theorem first_at (r c : Fin 512) : k0_pay26 (F := Ideal) i x1 x3 x4 (lru x0) (ix2 r c) = x4 (ix2 0 c) + ext i x0 x1 (13 + r.val) (by omega) c * x3 (ix2 0 c) := by
  rw [← ext_at, ← w_at x3]
  generalize lru x0 = v
  have e : (16 + r.val + 528 - 3) % 528 = 13 + r.val := by omega
  pointwise [k0_pay26, e]
theorem second_at (r : Fin 528) (c : Fin 512) : k0_pay27 (F := Ideal) i x1 (lru x0) (ix2 r c) = ext i x0 x1 r.val r.isLt c := by
  rw [← ext_at]
  generalize lru x0 = v
  pointwise [k0_pay27]
theorem XC_at (r c : Fin 512) : XC i x0 x1 x3 x4 (ix2 r c) = xc i x0 x1 x3 x4 r c := by
  have e2 : (16 + r.val + 528 - 2) % 528 = 14 + r.val := by omega
  have e1 : (16 + r.val + 528 - 1) % 528 = 15 + r.val := by omega
  have l : lru x0 (ix2 r c) = ext i x0 x1 (16 + r.val) (by omega) c := by
    rw [← ext_at, dif_neg (by omega)]
    exact congrArg (fun q => lru x0 (ix2 q c)) (Fin.ext (by show r.val = 16 + r.val - 16; omega))
  unfold xc XC
  rw [← first_at, ← second_at i x0 x1 ⟨14 + r.val, by omega⟩ c, ← ext_at i x0 x1 (15 + r.val), ← l, ← w_at x3, ← w_at x3, ← w_at x3]
  generalize lru x0 = v
  generalize k0_pay26 (F := Ideal) i x1 x3 x4 v = v26
  generalize k0_pay27 (F := Ideal) i x1 v = v27
  generalize k0_pay23 (F := Ideal) x3 = v23
  pointwise [k0_pay28, e1, e2]

variable (a x : Vec Ideal S8x64x64 .f32) (x7 x8 : Vec Ideal S1x512 .f32) (v58 v62 : Vec Ideal S1x256x512 .bf16)

/-- A gate's product with its block weights. -/
def gateDot (y : Fin 512 → EReal) (w : Vec Ideal S8x64x64 .f32) (c : Fin 512) : EReal :=
  ∑ l : Fin 64, y ⟨c.val / 64 * 64 + l.val, by omega⟩ * w (ix3 ⟨c.val / 64, by omega⟩ l ⟨c.val % 64, by omega⟩)
/-- The logistic function as the tile computes it. -/
def logistic (v : EReal) : EReal := Ideal.div 1 (1 + Ideal.exp (0 - v))
/-- The gelu as the tile computes it. -/
def gelu (v : EReal) : EReal :=
  Ideal.ofBits .f32 1056964608#32 * v * (1 + Ideal.tanh (Ideal.ofBits .f32 1061962282#32 * (v + Ideal.ofBits .f32 1027024659#32 * (v * v) * v)))

/-- A convolved row against one half of the block weights is the gate's product, -/
theorem block_sum (y : Fin 512 → EReal) (b : Fin 2) (j : Fin 512) (w : Vec Ideal S8x64x64 .f32) (hw : w = if j.val < 256 then a else x) (c : Fin 512) (hc : c.val = 256 * b.val + j.val % 256) :
    ∑ k : Fin 256, y ⟨256 * b.val + k.val, by omega⟩ * gw a x b k j = gateDot y w c := by
  subst hw
  refine (sum_block ⟨j.val % 256 / 64, by omega⟩ (fun k => y ⟨256 * b.val + k.val, by omega⟩) fun k => (if j.val < 256 then a else x) (ix3 ⟨4 * b.val + k.val / 64, by omega⟩ ⟨k.val % 64, by omega⟩ ⟨j.val % 64, by omega⟩)).trans ?_
  refine Finset.sum_congr rfl fun l _ => ?_
  refine congrArg₂ (fun p q => y p * (if j.val < 256 then a else x) q) (Fin.ext ?_) ?_
  · show 256 * b.val + (64 * (j.val % 256 / 64) + l.val) = c.val / 64 * 64 + l.val
    omega
  · congr 1
    · exact Fin.ext (by show 4 * b.val + (64 * (j.val % 256 / 64) + l.val) / 64 = c.val / 64; omega)
    · exact Fin.ext (by show (64 * (j.val % 256 / 64) + l.val) % 64 = l.val; omega)
    · exact Fin.ext (by show j.val % 64 = c.val % 64; omega)

abbrev D0 : FVec Ideal S512x512 .f32 :=
  k0_pay31 (F := Ideal) (k0_pay23 x3) (k0_pay24 i x1) (k0_pay26 i x1 x3 x4 (lru x0)) (k0_pay27 i x1 (lru x0)) (lru x0) (lru x0) v58
abbrev D1 : FVec Ideal S512x512 .f32 :=
  k0_pay32 (F := Ideal) (k0_pay23 x3) (k0_pay24 i x1) (k0_pay26 i x1 x3 x4 (lru x0)) (k0_pay27 i x1 (lru x0)) (lru x0) (lru x0) v62
theorem D0_at (h : ∀ k j, v58 (ix3 0 k j) = gw a x 0 k j) (r j : Fin 512) : D0 i x0 x1 x3 x4 v58 (ix2 r j) = ∑ k : Fin 256, xc i x0 x1 x3 x4 r ⟨256 * (0 : Fin 2).val + k.val, by omega⟩ * gw a x 0 k j := by
  simp only [← XC_at, ← h]
  pointwise [k0_pay31, k0_pay30]
theorem D1_at (h : ∀ k j, v62 (ix3 0 k j) = gw a x 1 k j) (r j : Fin 512) : D1 i x0 x1 x3 x4 v62 (ix2 r j) = ∑ k : Fin 256, xc i x0 x1 x3 x4 r ⟨256 * (1 : Fin 2).val + k.val, by omega⟩ * gw a x 1 k j := by
  simp only [← XC_at, ← h]
  pointwise [k0_pay32, k0_pay30]

theorem keep_at (r c : Fin 512) : k0_pay29 (F := Ideal) (k0_pay23 x3) (k0_pay24 i x1) (k0_pay26 i x1 x3 x4 (lru x0)) (k0_pay27 i x1 (lru x0)) (lru x0) (lru x0) (ix3 0 r c) = xc i x0 x1 x3 x4 r c := by
  rw [← XC_at]
  pointwise [k0_pay29]

theorem pick0 (h : ∀ k j, v58 (ix3 0 k j) = gw a x 0 k j) (h' : ∀ k j, v62 (ix3 0 k j) = gw a x 1 k j) (r c : Fin 512) :
    (if g : c.val < 256 then D0 i x0 x1 x3 x4 v58 (ix2 r c) else D1 i x0 x1 x3 x4 v62 (ix2 r ⟨c.val - 256, by omega⟩)) = gateDot (xc i x0 x1 x3 x4 r) a c := by
  split_ifs with g
  · rw [D0_at i x0 x1 x3 x4 a x v58 h]
    exact block_sum a x _ 0 _ a (if_pos g).symm c (by show c.val = 256 * 0 + c.val % 256; omega)
  · rw [D1_at i x0 x1 x3 x4 a x v62 h']
    exact block_sum a x _ 1 _ a (if_pos (show c.val - 256 < 256 by omega)).symm c (by show c.val = 256 * 1 + (c.val - 256) % 256; omega)
theorem pick1 (h : ∀ k j, v58 (ix3 0 k j) = gw a x 0 k j) (h' : ∀ k j, v62 (ix3 0 k j) = gw a x 1 k j) (r c : Fin 512) :
    (if g : c.val < 256 then D0 i x0 x1 x3 x4 v58 (ix2 r ⟨256 + c.val, by omega⟩) else D1 i x0 x1 x3 x4 v62 (ix2 r ⟨256 + (c.val - 256), by omega⟩)) = gateDot (xc i x0 x1 x3 x4 r) x c := by
  split_ifs with g
  · rw [D0_at i x0 x1 x3 x4 a x v58 h]
    exact block_sum a x _ 0 _ x (if_neg (show ¬ 256 + c.val < 256 by omega)).symm c (by show c.val = 256 * 0 + (256 + c.val) % 256; omega)
  · rw [D1_at i x0 x1 x3 x4 a x v62 h']
    exact block_sum a x _ 1 _ x (if_neg (show ¬ 256 + (c.val - 256) < 256 by omega)).symm c (by show c.val = 256 * 1 + (256 + (c.val - 256)) % 256; omega)

/-- The recurrence gate, -/
theorem r_at (h : ∀ k j, v58 (ix3 0 k j) = gw a x 0 k j) (h' : ∀ k j, v62 (ix3 0 k j) = gw a x 1 k j) (r c : Fin 512) :
    k0_pay35 (k0_pay33 (F := Ideal) (k0_pay23 x3) x7 (k0_pay24 i x1) (k0_pay26 i x1 x3 x4 (lru x0)) (k0_pay27 i x1 (lru x0)) (lru x0) (lru x0) v58 v62) (ix3 0 r c)
      = logistic (gateDot (xc i x0 x1 x3 x4 r) a c + x7 (ix2 0 c)) := by
  rw [← pick0 i x0 x1 x3 x4 a x v58 v62 h h']
  unfold logistic
  pointwise [k0_pay35, k0_pay34, k0_pay33]
/-- the input gate, -/
theorem i_at (h : ∀ k j, v58 (ix3 0 k j) = gw a x 0 k j) (h' : ∀ k j, v62 (ix3 0 k j) = gw a x 1 k j) (r c : Fin 512) :
    k0_pay37 (F := Ideal) x8 (D0 i x0 x1 x3 x4 v58) (D1 i x0 x1 x3 x4 v62) (ix3 0 r c)
      = logistic (gateDot (xc i x0 x1 x3 x4 r) x c + x8 (ix2 0 c)) := by
  rw [← pick1 i x0 x1 x3 x4 a x v58 v62 h h']
  generalize D0 i x0 x1 x3 x4 v58 = d0
  generalize D1 i x0 x1 x3 x4 v62 = d1
  unfold logistic
  pointwise [k0_pay37, k0_pay36]
/-- and the gelu of the second 512 columns. -/
theorem ge_at (r c : Fin 512) : k0_pay56 (F := Ideal) (View.ld x0 (Rect.unit ![0, 512] ![512, 512] inb_S512x1536_S512x512_0_512)) (ix3 0 r c) = gelu (x0 (ix2 r ⟨512 + c.val, by omega⟩)) := by
  unfold gelu
  pointwise [k0_pay56, k0_pay52, k0_pay53, k0_pay54]
end Cert.Kernel8Ideal.Fwd
end
-- ==== Proof.Mixfwd.Gates.lean ====
module

public import proofs.«01_k».proof.Proof.Mixfwd.Tile
public import proofs.«01_k».proof.Proof.Mixfwd.Run
public import Idealize.ShloMosaic.Lib.Pipeline.ReadBack

@[expose] public section
set_option maxRecDepth 16384
noncomputable section
open Idealize.ShloMosaic Idealize.ShloMosaic.TcCoe Idealize.SL.Sem Cert.Kernel8Ideal Cert.Kernel8Ideal.Gen
open scoped BigOperators

/-! The gates' block weights, written at the first tile and kept. -/
namespace Cert.Kernel8Ideal.Fwd
variable (m : (ℓ : Loc nD τ sig) → Buf (Elt Ideal) ℓ) (c : Dev nD) (t : Fin cfg0.N)
theorem at3 {A B C : ℕ} {α : Type} (f : (⟨3, ![A, B, C]⟩ : Shape).Idx → α) {a a' : Fin A} {b b' : Fin B} {c c' : Fin C} (ha : a.val = a'.val) (hb : b.val = b'.val) (hc : c.val = c'.val) :
    f (ix3 a b c) = f (ix3 a' b' c') := by
  rw [Fin.ext ha, Fin.ext hb, Fin.ext hc]

set_option maxHeartbeats 4000000 in
/-- The first tile lays the two gates' blocks out along the diagonal. -/
theorem gw_A (h0 : t.val % 16 = 0) (y : S2x256x512.Idx) : sout0_A_0 m c t h0 y = gw (iblk m c 5 t) (iblk m c 6 t) (y 0) (y 1) (y 2) := by
  unfold sout0_A_0 runA
  dsimp only
  frame_out
  generalize iblk m c 5 t = a
  generalize iblk m c 6 t = b
  idx_vars y
  canon_tiles x h
  all_goals
    have g0 : y0.val = _ := h0
    have g1 : y1.val = _ := h1
    have g2 : y2.val = _ := h2
    open_payloads
    pointwise [gw, k0_pay2]
    split_ifs <;> first
      | rfl
      | omega
      | exact (if_neg (show ¬ y1.val / 64 = y2.val % 256 / 64 by omega)).symm
      | (rw [if_pos (show y1.val / 64 = y2.val % 256 / 64 by omega), if_pos (show y2.val < 256 by omega)]
         exact at3 _ (by show (_ : ℕ) = 4 * y0.val + y1.val / 64; omega) (by show (_ : ℕ) = y1.val % 64; omega) (by show (_ : ℕ) = y2.val % 64; first | omega | (dsimp only; omega)))
      | (rw [if_pos (show y1.val / 64 = y2.val % 256 / 64 by omega), if_neg (show ¬ y2.val < 256 by omega)]
         exact at3 _ (by show (_ : ℕ) = 4 * y0.val + y1.val / 64; omega) (by show (_ : ℕ) = y1.val % 64; omega) (by show (_ : ℕ) = y2.val % 64; first | omega | (dsimp only; omega)))
end Cert.Kernel8Ideal.Fwd
end
-- ==== Proof.Mixfwd.Points.lean ====
module

public import proofs.«01_k».proof.Proof.Mixfwd.Gates

@[expose] public section
set_option maxRecDepth 16384
noncomputable section
open Idealize.ShloMosaic Idealize.ShloMosaic.TcCoe Idealize.SL.Sem Cert.Kernel8Ideal Cert.Kernel8Ideal.Gen
open scoped BigOperators

/-! What a tile leaves in the two saved outputs. -/
namespace Cert.Kernel8Ideal.Fwd
variable {A B C : ℕ} {e : EltTy}

/-- The newest store does not touch another slice, -/
theorem miss {a b d h w k : ℕ} {inb : ∀ x, ![a, b, d] x + ![h, w, k] x ≤ (⟨3, ![A, B, C]⟩ : Shape).size x} {v : (Rect.unit (s := ⟨3, ![A, B, C]⟩) ![a, b, d] ![h, w, k] inb).shape.Idx → Elt Ideal e}
    {L : List (View.Piece (Elt Ideal) ⟨3, ![A, B, C]⟩ e)} {y0 : Fin A} {y1 : Fin B} {y2 : Fin C} (hy : y0.val < a ∨ a + h ≤ y0.val) :
    View.canon ((⟨Rect.unit ![a, b, d] ![h, w, k] inb, v⟩ : View.Piece (Elt Ideal) ⟨3, ![A, B, C]⟩ e) :: L) (ix3 y0 y1 y2) = View.canon L (ix3 y0 y1 y2) := by
  refine View.canon_cons_of_not_mem _ _ fun hm => ?_
  have h1 : a ≤ y0.val ∧ y0.val < a + h := (Rect.mem_set_unit (s := ⟨3, ![A, B, C]⟩) (inb := inb)).mp hm 0
  omega

/-- An index of a slice. -/
theorem slice {a : ℕ} {inb : ∀ x, ![a, 0, 0] x + ![1, B, C] x ≤ (⟨3, ![A, B, C]⟩ : Shape).size x} (y0 : Fin A) (y1 : Fin B) (y2 : Fin C) (h0 : y0.val = a) :
    (ix3 y0 y1 y2 : (⟨3, ![A, B, C]⟩ : Shape).Idx) = (Rect.unit (s := ⟨3, ![A, B, C]⟩) ![a, 0, 0] ![1, B, C] inb).emb (ix3 0 y1 y2 : (⟨3, ![1, B, C]⟩ : Shape).Idx) := by
  funext x
  apply Fin.ext
  fin_cases x
  · show y0.val = a + 1 * 0; omega
  · show y1.val = 0 + 1 * y1.val; omega
  · show y2.val = 0 + 1 * y2.val; omega

/-- and decides its own. -/
theorem hit {a : ℕ} {inb : ∀ x, ![a, 0, 0] x + ![1, B, C] x ≤ (⟨3, ![A, B, C]⟩ : Shape).size x} {v : (Rect.unit (s := ⟨3, ![A, B, C]⟩) ![a, 0, 0] ![1, B, C] inb).shape.Idx → Elt Ideal e}
    {L : List (View.Piece (Elt Ideal) ⟨3, ![A, B, C]⟩ e)} {y0 : Fin A} {y1 : Fin B} {y2 : Fin C} (h0 : y0.val = a) :
    View.canon ((⟨Rect.unit ![a, 0, 0] ![1, B, C] inb, v⟩ : View.Piece (Elt Ideal) ⟨3, ![A, B, C]⟩ e) :: L) (ix3 y0 y1 y2) = v (ix3 0 y1 y2 : (⟨3, ![1, B, C]⟩ : Shape).Idx) := by
  rw [slice (inb := inb) y0 y1 y2 h0]
  exact View.canon_cons_emb (Rect.unit (s := ⟨3, ![A, B, C]⟩) ![a, 0, 0] ![1, B, C] inb) v L _

/-- A slice read back after stores, -/
theorem back {κ : Kind} {sp : Space} {sg : RefSig} {r : View sg κ sp ⟨3, ![A, B, C]⟩ e} {L : List (View.Piece (Elt Ideal) ⟨3, ![A, B, C]⟩ e)} {a : ℕ} {inb : ∀ x, ![a, 0, 0] x + ![1, B, C] x ≤ (⟨3, ![A, B, C]⟩ : Shape).size x} (y0 : Fin A) (y1 : Fin B) (y2 : Fin C) (h0 : y0.val = a) :
    r.readCov L (Rect.unit (s := ⟨3, ![A, B, C]⟩) ![a, 0, 0] ![1, B, C] inb).toLoadRect (ix3 0 y1 y2 : (⟨3, ![1, B, C]⟩ : Shape).Idx) = View.canon L (ix3 y0 y1 y2) := by
  rw [View.readCov_eq_canon']
  exact congrArg (View.canon L) (slice (inb := inb) y0 y1 y2 h0).symm
/-- or as it is. -/
theorem part3 {X : Vec Ideal ⟨3, ![A, B, C]⟩ e} {a : ℕ} {inb : ∀ x, ![a, 0, 0] x + ![1, B, C] x ≤ (⟨3, ![A, B, C]⟩ : Shape).size x} (y0 : Fin A) (y1 : Fin B) (y2 : Fin C) (h0 : y0.val = a) :
    View.ld X (Rect.unit (s := ⟨3, ![A, B, C]⟩) ![a, 0, 0] ![1, B, C] inb) (ix3 0 y1 y2 : (⟨3, ![1, B, C]⟩ : Shape).Idx) = X (ix3 y0 y1 y2) :=
  congrArg X (slice (inb := inb) y0 y1 y2 h0).symm

variable (m : (ℓ : Loc nD τ sig) → Buf (Elt Ideal) ℓ) (c : Dev nD) (t : Fin cfg0.N)

theorem conv_A (h0 : t.val % 16 = 0) (r l : Fin 512) : out0_A_18 m c t h0 (ix3 0 r l) = xc (grid0.coords t) (iblk m c 0 t) (iblk m c 1 t) (iblk m c 3 t) (iblk m c 4 t) r l := by
  unfold out0_A_18 runA
  dsimp only
  frame_out
  refine (miss (by show (0 : ℕ) < 3 ∨ _; omega)).trans ?_
  refine (miss (by show (0 : ℕ) < 2 ∨ _; omega)).trans ?_
  refine (miss (by show (0 : ℕ) < 1 ∨ _; omega)).trans ?_
  refine (hit (by rfl)).trans ?_
  exact keep_at _ _ _ _ _ r l
theorem conv_B (h0 : ¬t.val % 16 = 0) (p : Outs Ideal) (r l : Fin 512) : out0_B_18 m c t h0 p (ix3 0 r l) = xc (grid0.coords t) (iblk m c 0 t) (iblk m c 1 t) (iblk m c 3 t) (iblk m c 4 t) r l := by
  unfold out0_B_18 runB
  dsimp only
  frame_out
  refine (miss (by show (0 : ℕ) < 3 ∨ _; omega)).trans ?_
  refine (miss (by show (0 : ℕ) < 2 ∨ _; omega)).trans ?_
  refine (miss (by show (0 : ℕ) < 1 ∨ _; omega)).trans ?_
  refine (hit (by rfl)).trans ?_
  exact keep_at _ _ _ _ _ r l
theorem ge_A (h0 : t.val % 16 = 0) (r l : Fin 512) : out0_A_18 m c t h0 (ix3 3 r l) = gelu (iblk m c 0 t (ix2 r ⟨512 + l.val, by omega⟩)) := by
  unfold out0_A_18 runA
  dsimp only
  frame_out
  refine (hit (by rfl)).trans ?_
  exact ge_at (iblk m c 0 t) r l
theorem ge_B (h0 : ¬t.val % 16 = 0) (p : Outs Ideal) (r l : Fin 512) : out0_B_18 m c t h0 p (ix3 3 r l) = gelu (iblk m c 0 t (ix2 r ⟨512 + l.val, by omega⟩)) := by
  unfold out0_B_18 runB
  dsimp only
  frame_out
  refine (hit (by rfl)).trans ?_
  exact ge_at (iblk m c 0 t) r l

set_option maxHeartbeats 4000000 in
theorem r_A (h0 : t.val % 16 = 0) (r l : Fin 512) : out0_A_19 m c t h0 (ix3 0 r l)
    = logistic (gateDot (xc (grid0.coords t) (iblk m c 0 t) (iblk m c 1 t) (iblk m c 3 t) (iblk m c 4 t) r) (iblk m c 5 t) l + iblk m c 7 t (ix2 0 l)) := by
  unfold out0_A_19 runA
  dsimp only
  frame_out
  refine (miss (by show (0 : ℕ) < 3 ∨ _; omega)).trans ?_
  refine (miss (by show (0 : ℕ) < 3 ∨ _; omega)).trans ?_
  refine (miss (by show (0 : ℕ) < 3 ∨ _; omega)).trans ?_
  refine (miss (by show (0 : ℕ) < 3 ∨ _; omega)).trans ?_
  refine (miss (by show (0 : ℕ) < 2 ∨ _; omega)).trans ?_
  refine (miss (by show (0 : ℕ) < 1 ∨ _; omega)).trans ?_
  refine (hit (by rfl)).trans ?_
  refine r_at _ _ _ _ _ _ (iblk m c 6 t) _ _ _ (fun k j => ?_) (fun k j => ?_) r l
  · refine (back 0 k j (by rfl)).trans (Eq.trans ?_ (gw_A m c t h0 (ix3 0 k j)))
    unfold sout0_A_0 runA
    dsimp only
    frame_out
  · refine (back 1 k j (by rfl)).trans (Eq.trans ?_ (gw_A m c t h0 (ix3 1 k j)))
    unfold sout0_A_0 runA
    dsimp only
    frame_out
set_option maxHeartbeats 4000000 in
theorem i_A (h0 : t.val % 16 = 0) (r l : Fin 512) : out0_A_19 m c t h0 (ix3 1 r l)
    = logistic (gateDot (xc (grid0.coords t) (iblk m c 0 t) (iblk m c 1 t) (iblk m c 3 t) (iblk m c 4 t) r) (iblk m c 6 t) l + iblk m c 8 t (ix2 0 l)) := by
  unfold out0_A_19 runA
  dsimp only
  frame_out
  refine (miss (by show (1 : ℕ) < 3 ∨ _; omega)).trans ?_
  refine (miss (by show (1 : ℕ) < 3 ∨ _; omega)).trans ?_
  refine (miss (by show (1 : ℕ) < 3 ∨ _; omega)).trans ?_
  refine (miss (by show (1 : ℕ) < 3 ∨ _; omega)).trans ?_
  refine (miss (by show (1 : ℕ) < 2 ∨ _; omega)).trans ?_
  refine (hit (by rfl)).trans ?_
  refine i_at _ _ _ _ _ (iblk m c 5 t) _ _ _ _ (fun k j => ?_) (fun k j => ?_) r l
  · refine (back 0 k j (by rfl)).trans (Eq.trans ?_ (gw_A m c t h0 (ix3 0 k j)))
    unfold sout0_A_0 runA
    dsimp only
    frame_out
  · refine (back 1 k j (by rfl)).trans (Eq.trans ?_ (gw_A m c t h0 (ix3 1 k j)))
    unfold sout0_A_0 runA
    dsimp only
    frame_out
set_option maxHeartbeats 4000000 in
theorem r_B (h0 : ¬t.val % 16 = 0) (p : Outs Ideal) (hp : ∀ b k j, p.2.2.2.2.1 (ix3 b k j) = gw (iblk m c 5 t) (iblk m c 6 t) b k j) (r l : Fin 512) : out0_B_19 m c t h0 p (ix3 0 r l)
    = logistic (gateDot (xc (grid0.coords t) (iblk m c 0 t) (iblk m c 1 t) (iblk m c 3 t) (iblk m c 4 t) r) (iblk m c 5 t) l + iblk m c 7 t (ix2 0 l)) := by
  unfold out0_B_19 runB
  dsimp only
  frame_out
  refine (miss (by show (0 : ℕ) < 3 ∨ _; omega)).trans ?_
  refine (miss (by show (0 : ℕ) < 3 ∨ _; omega)).trans ?_
  refine (miss (by show (0 : ℕ) < 3 ∨ _; omega)).trans ?_
  refine (miss (by show (0 : ℕ) < 3 ∨ _; omega)).trans ?_
  refine (miss (by show (0 : ℕ) < 2 ∨ _; omega)).trans ?_
  refine (miss (by show (0 : ℕ) < 1 ∨ _; omega)).trans ?_
  refine (hit (by rfl)).trans ?_
  refine r_at _ _ _ _ _ _ (iblk m c 6 t) _ _ _ (fun k j => ?_) (fun k j => ?_) r l
  · refine (part3 0 k j (by rfl)).trans ?_
    rw [read_unread_whole]
    exact hp 0 k j
  · refine (part3 1 k j (by rfl)).trans ?_
    rw [read_unread_whole]
    exact hp 1 k j
set_option maxHeartbeats 4000000 in
theorem i_B (h0 : ¬t.val % 16 = 0) (p : Outs Ideal) (hp : ∀ b k j, p.2.2.2.2.1 (ix3 b k j) = gw (iblk m c 5 t) (iblk m c 6 t) b k j) (r l : Fin 512) : out0_B_19 m c t h0 p (ix3 1 r l)
    = logistic (gateDot (xc (grid0.coords t) (iblk m c 0 t) (iblk m c 1 t) (iblk m c 3 t) (iblk m c 4 t) r) (iblk m c 6 t) l + iblk m c 8 t (ix2 0 l)) := by
  unfold out0_B_19 runB
  dsimp only
  frame_out
  refine (miss (by show (1 : ℕ) < 3 ∨ _; omega)).trans ?_
  refine (miss (by show (1 : ℕ) < 3 ∨ _; omega)).trans ?_
  refine (miss (by show (1 : ℕ) < 3 ∨ _; omega)).trans ?_
  refine (miss (by show (1 : ℕ) < 3 ∨ _; omega)).trans ?_
  refine (miss (by show (1 : ℕ) < 2 ∨ _; omega)).trans ?_
  refine (hit (by rfl)).trans ?_
  refine i_at _ _ _ _ _ (iblk m c 5 t) _ _ _ _ (fun k j => ?_) (fun k j => ?_) r l
  · refine (part3 0 k j (by rfl)).trans ?_
    rw [read_unread_whole]
    exact hp 0 k j
  · refine (part3 1 k j (by rfl)).trans ?_
    rw [read_unread_whole]
    exact hp 1 k j
end Cert.Kernel8Ideal.Fwd
end
-- ==== Proof.Mixfwd.Final.lean ====
module

public import proofs.«01_k».proof.Proof.Mixfwd.Points

@[expose] public section
set_option maxRecDepth 16384
noncomputable section
open Idealize.ShloMosaic Idealize.ShloMosaic.TcCoe Idealize.SL.Sem Cert.Kernel8Ideal Cert.Kernel8Ideal.Gen
open scoped BigOperators

/-! The saved outputs of all tiles, in terms of the arguments. -/
namespace Cert.Kernel8Ideal.Fwd
variable (m : (ℓ : Loc nD τ sig) → Buf (Elt Ideal) ℓ) (c : Dev nD) (t : Fin cfg0.N)

/-- Which block of each array a grid point works on. -/
theorem idx : ∀ t : Fin cfg0.N, win0_0.index t = ![t.val, 0] ∧ win0_1.index t = ![32 * t.val - 1, 0] ∧ win0_3.index t = ![0, 0] ∧ win0_4.index t = ![0, 0]
    ∧ win0_5.index t = ![0, 0, 0] ∧ win0_6.index t = ![0, 0, 0] ∧ win0_7.index t = ![0, 0] ∧ win0_8.index t = ![0, 0]
    ∧ win0_18.index t = ![0, t.val, 0] ∧ win0_19.index t = ![0, t.val, 0] :=
  (by decide +kernel : ∀ t : Fin grid0.N, _)
theorem coord : ∀ t : Fin cfg0.N, (grid0.coords t 0).val = t.val := (by decide +kernel : ∀ t : Fin grid0.N, _)
theorem lt16 : t.val < 16 := lt_of_lt_of_eq t.isLt N_0

abbrev a0 : FVec Ideal S1x8192x1536 .f32 := m ((c : Thread nD τ).loc main_arg0)
abbrev a2 : FVec Ideal S1x4x512 .f32 := m ((c : Thread nD τ).loc main_arg2)
abbrev a3 : FVec Ideal S1x512 .f32 := m ((c : Thread nD τ).loc main_arg3)
abbrev a4 : FVec Ideal S1x8x64x64 .f32 := m ((c : Thread nD τ).loc main_arg4)
abbrev a5 : FVec Ideal S1x512 .f32 := m ((c : Thread nD τ).loc main_arg5)
abbrev a6 : FVec Ideal S1x8x64x64 .f32 := m ((c : Thread nD τ).loc main_arg6)
abbrev a7 : FVec Ideal S1x512 .f32 := m ((c : Thread nD τ).loc main_arg7)

theorem entry4 : V m c main_v4 = shapeCast S8192x1536 (a0 m c) shapeCasts_S1x8192x1536_S8192x1536 := by
  show StableHlo.after hostOps0 _ _ = _
  after_results; rfl
theorem entry0 : V m c main_v0 = shapeCast S4x512 (a2 m c) shapeCasts_S1x4x512_S4x512 := by
  show StableHlo.after hostOps0 _ _ = _
  after_results; rfl
theorem entry1 : V m c main_v1 = shapeCast S8x64x64 (a4 m c) shapeCasts_S1x8x64x64_S8x64x64 := by
  show StableHlo.after hostOps0 _ _ = _
  after_results; rfl
theorem entry2 : V m c main_v2 = shapeCast S8x64x64 (a6 m c) shapeCasts_S1x8x64x64_S8x64x64 := by
  show StableHlo.after hostOps0 _ _ = _
  after_results; rfl

theorem rows_at (X : FVec Ideal S1x8192x1536 .f32) (r : Fin 8192) (k : Fin 1536) : shapeCast S8192x1536 X shapeCasts_S1x8192x1536_S8192x1536 (ix2 r k) = X (ix3 0 r k) := by pointwise
theorem taps_at (X : FVec Ideal S1x4x512 .f32) (r : Fin 4) (k : Fin 512) : shapeCast S4x512 X shapeCasts_S1x4x512_S4x512 (ix2 r k) = X (ix3 0 r k) := by pointwise
theorem blocks_at (X : FVec Ideal S1x8x64x64 .f32) (h : Fin 8) (r k : Fin 64) : shapeCast S8x64x64 X shapeCasts_S1x8x64x64_S8x64x64 (ix3 h r k) = X (ix4 0 h r k) := by pointwise

theorem at0 (r : Fin 512) (k : Fin 1536) : iblk m c 0 t (ix2 r k) = a0 m c (ix3 0 ⟨t.val * 512 + r.val, by have := lt16 t; omega⟩ k) := by
  refine Eq.trans ?_ (rows_at (a0 m c) _ k)
  rw [← entry4 m c]
  blk_point [iblk, idx t]
theorem at1 (ht : t.val ≠ 0) (r : Fin 16) (k : Fin 1536) : iblk m c 1 t (ix2 r k) = a0 m c (ix3 0 ⟨(32 * t.val - 1) * 16 + r.val, by have := lt16 t; omega⟩ k) := by
  refine Eq.trans ?_ (rows_at (a0 m c) _ k)
  rw [← entry4 m c]
  blk_point [iblk, idx t]
theorem at3' (r : Fin 4) (k : Fin 512) : iblk m c 3 t (ix2 r k) = a2 m c (ix3 0 r k) := by
  refine Eq.trans ?_ (taps_at (a2 m c) r k)
  rw [← entry0 m c]
  blk_point [iblk, idx t]
theorem at4 (k : Fin 512) : iblk m c 4 t (ix2 0 k) = a3 m c (ix2 0 k) := by
  blk_point [iblk, V_main_arg3, idx t]
theorem at5 (h : Fin 8) (r k : Fin 64) : iblk m c 5 t (ix3 h r k) = a4 m c (ix4 0 h r k) := by
  refine Eq.trans ?_ (blocks_at (a4 m c) h r k)
  rw [← entry1 m c]
  blk_point [iblk, idx t]
theorem at6 (h : Fin 8) (r k : Fin 64) : iblk m c 6 t (ix3 h r k) = a6 m c (ix4 0 h r k) := by
  refine Eq.trans ?_ (blocks_at (a6 m c) h r k)
  rw [← entry2 m c]
  blk_point [iblk, idx t]
theorem at7 (k : Fin 512) : iblk m c 7 t (ix2 0 k) = a5 m c (ix2 0 k) := by
  blk_point [iblk, V_main_arg5, idx t]
theorem at8 (k : Fin 512) : iblk m c 8 t (ix2 0 k) = a7 m c (ix2 0 k) := by
  blk_point [iblk, V_main_arg7, idx t]

variable (u : FVec Ideal S1x8192x1536 .f32) (w : FVec Ideal S1x4x512 .f32) (b : FVec Ideal S1x512 .f32)
/-- Row `n - 16` of a channel, zero before the first. -/
def padA (n : ℕ) (k : Fin 512) : EReal := if h : 16 ≤ n ∧ n < 8208 then u (ix3 0 ⟨n - 16, by omega⟩ ⟨k.val, by omega⟩) else 0
/-- A convolved entry. -/
def xcA (s : Fin 8192) (k : Fin 512) : EReal :=
  b (ix2 0 k) + padA u (13 + s.val) k * w (ix3 0 0 k) + padA u (14 + s.val) k * w (ix3 0 1 k) + padA u (15 + s.val) k * w (ix3 0 2 k) + padA u (16 + s.val) k * w (ix3 0 3 k)
/-- A gate. -/
def gateA (g : FVec Ideal S1x8x64x64 .f32) (d : FVec Ideal S1x512 .f32) (s : Fin 8192) (k : Fin 512) : EReal :=
  logistic (∑ l : Fin 64, xcA u w b s ⟨k.val / 64 * 64 + l.val, by omega⟩ * g (ix4 0 ⟨k.val / 64, by omega⟩ l ⟨k.val % 64, by omega⟩) + d (ix2 0 k))

theorem ext_eq (n : ℕ) (hn : n < 528) (k : Fin 512) : ext (grid0.coords t) (iblk m c 0 t) (iblk m c 1 t) n hn k = padA (a0 m c) (t.val * 512 + n) k := by
  have h16 := lt16 t
  unfold ext padA
  rw [coord t]
  by_cases h : n < 16
  · rw [dif_pos h]
    by_cases h0 : t.val = 0
    · rw [if_pos h0, dif_neg (by omega)]
    · rw [if_neg h0, dif_pos (by omega), at1 m c t h0]
      exact congrArg (fun r => a0 m c (ix3 0 r ⟨k.val, by omega⟩)) (Fin.ext (by show (32 * t.val - 1) * 16 + n = t.val * 512 + n - 16; omega))
  · rw [dif_neg h, dif_pos (by omega), at0]
    exact congrArg (fun r => a0 m c (ix3 0 r ⟨k.val, by omega⟩)) (Fin.ext (by show t.val * 512 + (n - 16) = t.val * 512 + n - 16; omega))

abbrev row (r : Fin 512) : Fin 8192 := ⟨t.val * 512 + r.val, by have := lt16 t; omega⟩
theorem xc_eq (r k : Fin 512) : xc (grid0.coords t) (iblk m c 0 t) (iblk m c 1 t) (iblk m c 3 t) (iblk m c 4 t) r k = xcA (a0 m c) (a2 m c) (a3 m c) (row t r) k := by
  have e : ∀ q : ℕ, t.val * 512 + (q + r.val) = q + (row t r).val := fun q => by show _ = q + (t.val * 512 + r.val); omega
  unfold xc xcA
  simp only [ext_eq, at3', at4, e]

theorem gate5 (r k : Fin 512) : logistic (gateDot (xc (grid0.coords t) (iblk m c 0 t) (iblk m c 1 t) (iblk m c 3 t) (iblk m c 4 t) r) (iblk m c 5 t) k + iblk m c 7 t (ix2 0 k)) = gateA (a0 m c) (a2 m c) (a3 m c) (a4 m c) (a5 m c) (row t r) k := by
  unfold gateDot gateA
  simp only [xc_eq, at5, at7]
theorem gate6 (r k : Fin 512) : logistic (gateDot (xc (grid0.coords t) (iblk m c 0 t) (iblk m c 1 t) (iblk m c 3 t) (iblk m c 4 t) r) (iblk m c 6 t) k + iblk m c 8 t (ix2 0 k)) = gateA (a0 m c) (a2 m c) (a3 m c) (a6 m c) (a7 m c) (row t r) k := by
  unfold gateDot gateA
  simp only [xc_eq, at6, at8]

/-- The block weights stay what they were. -/
theorem gw_const (s : Fin cfg0.N) : gw (iblk m c 5 t) (iblk m c 6 t) = gw (iblk m c 5 s) (iblk m c 6 s) := by
  funext p k j
  unfold gw
  split_ifs
  · simp only [at5]
  · simp only [at6]
  · rfl
theorem kept_A (h0 : t.val % 16 = 0) : (pointA m c t h0).2.2.2.2.1 = sout0_A_0 m c t h0 := by unfold pointA; dsimp only
theorem kept_B (h0 : ¬t.val % 16 = 0) (p : Outs Ideal) : (pointB m c t h0 p).2.2.2.2.1 = p.2.2.2.2.1 := by unfold pointB; dsimp only
theorem kept : ∀ (n : ℕ) (hn : n < cfg0.N) (p : Fin 2) (k : Fin 256) (j : Fin 512), (outsAt0 m c n hn).2.2.2.2.1 (ix3 p k j) = gw (iblk m c 5 ⟨n, hn⟩) (iblk m c 6 ⟨n, hn⟩) p k j
  | 0, hn, p, k, j => by
    have e : (outsAt0 m c 0 hn).2.2.2.2.1 = sout0_A_0 m c ⟨0, hn⟩ rfl := (congrArg (fun o : Outs Ideal => o.2.2.2.2.1) (outsAt0_A m c ⟨0, hn⟩ rfl)).trans (kept_A m c ⟨0, hn⟩ rfl)
    rw [e]
    exact gw_A m c ⟨0, hn⟩ rfl (ix3 p k j)
  | n + 1, hn, p, k, j => by
    have h16 : n + 1 < 16 := lt16 ⟨n + 1, hn⟩
    have h0 : ¬ (⟨n + 1, hn⟩ : Fin cfg0.N).val % 16 = 0 := by show ¬ (n + 1) % 16 = 0; omega
    have e : (outsAt0 m c (n + 1) hn).2.2.2.2.1 = (outsAt0 m c n (Nat.lt_of_succ_lt hn)).2.2.2.2.1 :=
      (congrArg (fun o : Outs Ideal => o.2.2.2.2.1) (outsAt0_B m c ⟨n + 1, hn⟩ h0)).trans (kept_B m c ⟨n + 1, hn⟩ h0 _)
    rw [e]
    refine (kept n (Nat.lt_of_succ_lt hn) p k j).trans ?_
    rw [gw_const m c ⟨n, Nat.lt_of_succ_lt hn⟩ ⟨n + 1, hn⟩]

theorem conv_out (r k : Fin 512) : (outsAt0 m c t.val t.isLt).2.2.1 (ix3 0 r k) = xcA (a0 m c) (a2 m c) (a3 m c) (row t r) k := by
  rw [← xc_eq]
  by_cases h : t.val % 16 = 0
  · rw [outsAt0_A m c t h]; unfold pointA; dsimp only; exact conv_A m c t h r k
  · rw [outsAt0_B m c t h]; unfold pointB; dsimp only; exact conv_B m c t h _ r k
theorem ge_out (r k : Fin 512) : (outsAt0 m c t.val t.isLt).2.2.1 (ix3 3 r k) = gelu (a0 m c (ix3 0 (row t r) ⟨512 + k.val, by omega⟩)) := by
  rw [← at0]
  by_cases h : t.val % 16 = 0
  · rw [outsAt0_A m c t h]; unfold pointA; dsimp only; exact ge_A m c t h r k
  · rw [outsAt0_B m c t h]; unfold pointB; dsimp only; exact ge_B m c t h _ r k
theorem before_kept (h : ¬ t.val % 16 = 0) (p : Fin 2) (k : Fin 256) (j : Fin 512) : (outsAt0 m c (t.val - 1) (Nat.lt_of_le_of_lt (Nat.sub_le _ _) t.isLt)).2.2.2.2.1 (ix3 p k j) = gw (iblk m c 5 t) (iblk m c 6 t) p k j := by
  rw [kept, gw_const m c _ t]
theorem r_out (r k : Fin 512) : (outsAt0 m c t.val t.isLt).2.2.2.1 (ix3 0 r k) = gateA (a0 m c) (a2 m c) (a3 m c) (a4 m c) (a5 m c) (row t r) k := by
  rw [← gate5]
  by_cases h : t.val % 16 = 0
  · rw [outsAt0_A m c t h]; unfold pointA; dsimp only; exact r_A m c t h r k
  · rw [outsAt0_B m c t h]; unfold pointB; dsimp only; exact r_B m c t h _ (before_kept m c t h) r k
theorem i_out (r k : Fin 512) : (outsAt0 m c t.val t.isLt).2.2.2.1 (ix3 1 r k) = gateA (a0 m c) (a2 m c) (a3 m c) (a6 m c) (a7 m c) (row t r) k := by
  rw [← gate6]
  by_cases h : t.val % 16 = 0
  · rw [outsAt0_A m c t h]; unfold pointA; dsimp only; exact i_A m c t h r k
  · rw [outsAt0_B m c t h]; unfold pointB; dsimp only; exact i_B m c t h _ (before_kept m c t h) r k

/-- The tile of a row. -/
abbrev tileOf (s : Fin 8192) : Fin cfg0.N := ⟨s.val / 512, by rw [show cfg0.N = 16 from N_0]; omega⟩
abbrev inTile (s : Fin 8192) : Fin 512 := ⟨s.val % 512, by omega⟩
theorem row_tile (s : Fin 8192) : row (tileOf s) (inTile s) = s := Fin.ext (by show s.val / 512 * 512 + s.val % 512 = s.val; omega)
/-- The two saved arrays, put together from the tiles. -/
def A18 : FVec Ideal S4x8192x512 .f32 := fun i => (outsAt0 m c (tileOf (i 1)).val (tileOf (i 1)).isLt).2.2.1 (ix3 (i 0) (inTile (i 1)) (i 2))
def A19 : FVec Ideal S4x8192x512 .bf16 := fun i => (outsAt0 m c (tileOf (i 1)).val (tileOf (i 1)).isLt).2.2.2.1 (ix3 (i 0) (inTile (i 1)) (i 2))
theorem tile_row (r : Fin 512) : tileOf (row t r) = t := Fin.ext (by show (t.val * 512 + r.val) / 512 = t.val; omega)
theorem in_row (r : Fin 512) : inTile (row t r) = r := Fin.ext (by show (t.val * 512 + r.val) % 512 = r.val; omega)
theorem A18_at (k : Fin 4) (r l : Fin 512) : (outsAt0 m c t.val t.isLt).2.2.1 (ix3 k r l) = A18 m c (ix3 k (row t r) l) := by
  show _ = (outsAt0 m c (tileOf (row t r)).val (tileOf (row t r)).isLt).2.2.1 (ix3 k (inTile (row t r)) l)
  rw [in_row]
  exact congrArg (fun s : Fin cfg0.N => (outsAt0 m c s.val s.isLt).2.2.1 (ix3 k r l)) (tile_row t r).symm
theorem A19_at (k : Fin 4) (r l : Fin 512) : (outsAt0 m c t.val t.isLt).2.2.2.1 (ix3 k r l) = A19 m c (ix3 k (row t r) l) := by
  show _ = (outsAt0 m c (tileOf (row t r)).val (tileOf (row t r)).isLt).2.2.2.1 (ix3 k (inTile (row t r)) l)
  rw [in_row]
  exact congrArg (fun s : Fin cfg0.N => (outsAt0 m c s.val s.isLt).2.2.2.1 (ix3 k r l)) (tile_row t r).symm
theorem final18 : (dats m 0 c).arrAt 18 (cfgs 0).N = A18 m c := by
  refine (dats m 0 c).arrAt_eq_of_covers 18 _ (by decide +kernel) fun t _ y => ?_
  blk_simp
  rw [after0_18]
  idx_vars y
  refine (A18_at m c t y0 y1 y2).trans (congrArg (A18 m c) ?_)
  blk_ext [idx t]
theorem final19 : (dats m 0 c).arrAt 19 (cfgs 0).N = A19 m c := by
  refine (dats m 0 c).arrAt_eq_of_covers 19 _ (by decide +kernel) fun t _ y => ?_
  blk_simp
  rw [after0_19]
  idx_vars y
  refine (A19_at m c t y0 y1 y2).trans (congrArg (A19 m c) ?_)
  blk_ext [idx t]
end Cert.Kernel8Ideal.Fwd
end
-- ==== Proof.Mixfwd.Ref.lean ====
module

public import proofs.«01_k».proof.Proof.Mixfwd.Final
public import proofs.«01_k».proof.Proof.Gen.Reference8Ideal
public import proofs.«01_k».proof.Proof.Gen.Reference8Ideal.Read

@[expose] public section
set_option maxRecDepth 16384
noncomputable section
open Idealize.ShloMosaic Idealize.ShloMosaic.TcCoe Idealize.SL.Sem
open Cert.Reference8Ideal.Read
open scoped BigOperators

/-! The reference's four results, entry by entry. -/
namespace Cert.Kernel8Ideal.Fwd
open Cert.Kernel8Ideal
variable (u : FVec Ideal S1x8192x1536 .f32) (w : FVec Ideal S1x4x512 .f32) (b d : FVec Ideal S1x512 .f32) (g : FVec Ideal S1x8x64x64 .f32)

theorem ref3 (n : ℕ) (hn : n < 8195) (k : Fin 512) : val_main_v3 (F := Ideal) u (ix3 0 ⟨n, hn⟩ k) = padA u (13 + n) k := by
  unfold padA
  pointwise [val_main_v3, val_main_v0, val_main_call0_v0, val_main_c]
  have z : (FloatOps.sitofp (F := Ideal) FTy.f32 0#32 : EReal) = 0 := by
    show ((((0#32 : BitVec 32).toInt : ℤ) : ℝ) : EReal) = 0
    simp
  by_cases h : 3 ≤ n
  · rw [dif_pos ⟨h, by omega⟩, dif_pos ⟨by omega, by omega⟩]
    exact congrArg (fun r => u (ix3 0 r ⟨k.val, by omega⟩)) (Fin.ext (by show n - 3 = 13 + n - 16; omega))
  · rw [dif_neg (by omega), dif_neg (by omega)]
    exact z
theorem ref33 (s : Fin 8192) (k : Fin 512) : val_main_v33 (F := Ideal) u w b (ix3 0 s k) = xcA u w b s k := by
  have h0 := ref3 u s.val (by omega) k
  have h1 := ref3 u (1 + s.val) (by omega) k
  have h2 := ref3 u (2 + s.val) (by omega) k
  have h3 := ref3 u (3 + s.val) (by omega) k
  rw [← Nat.add_assoc] at h1 h2 h3
  unfold xcA
  rw [← h0, ← h1, ← h2, ← h3]
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v2, val_main_v1]
theorem ref48 (s : Fin 8192) (k : Fin 512) : val_main_v48 (F := Ideal) u w b g d (ix3 0 s k) = gateA u w b g d s k := by
  unfold gateA logistic
  simp only [← ref33]
  rw [zero_sub]
  pointwise [val_main_cst, val_main_cst_0, val_main_v48, val_main_v47, val_main_v46, val_main_v45, val_main_v44, val_main_v43, val_main_v42, val_main_v41, val_main_v40, val_main_v39, val_main_v38, val_main_v37, val_main_v36, val_main_v35, val_main_v34]
  refine congrArg (fun z => Ideal.div 1 (1 + Ideal.exp (-(z + d (ix2 0 k))))) ?_
  exact Finset.sum_congr rfl fun x _ => mul_comm _ _
theorem ref62 (s : Fin 8192) (k : Fin 512) : val_main_v62 (F := Ideal) u w b g d (ix3 0 s k) = gateA u w b g d s k := by
  unfold gateA logistic
  simp only [← ref33]
  rw [zero_sub]
  pointwise [val_main_cst_1, val_main_cst_2, val_main_v62, val_main_v61, val_main_v60, val_main_v59, val_main_v58, val_main_v57, val_main_v56, val_main_v55, val_main_v54, val_main_v53, val_main_v52, val_main_v51, val_main_v50, val_main_v49, val_main_v34]
  refine congrArg (fun z => Ideal.div 1 (1 + Ideal.exp (-(z + d (ix2 0 k))))) ?_
  exact Finset.sum_congr rfl fun x _ => mul_comm _ _
theorem ref76 (s : Fin 8192) (k : Fin 512) : val_main_v76 (F := Ideal) u (ix3 0 s k) = gelu (u (ix3 0 s ⟨512 + k.val, by omega⟩)) := by
  unfold gelu
  pointwise [val_main_cst_3, val_main_cst_4, val_main_cst_5, val_main_cst_6, val_main_v76, val_main_v75, val_main_v74, val_main_v73, val_main_v72, val_main_v71, val_main_v70, val_main_v69, val_main_v68, val_main_v67, val_main_v66, val_main_v65, val_main_v64, val_main_v63]
  generalize u (ix3 0 s ⟨512 + k.val, _⟩) = v
  rw [mul_assoc (Ideal.ofBits .f32 1027024659#32) (v * v) v, mul_comm (Ideal.ofBits .f32 1056964608#32) v]
  exact (mul_assoc _ _ _).symm
end Cert.Kernel8Ideal.Fwd
end
-- ==== Proof.Mixfwd.Value.lean ====
module

public import proofs.«01_k».proof.Defs
public import proofs.«01_k».proof.Proof.Mixfwd.Both
public import proofs.«01_k».proof.Proof.Mixfwd.Ref
public import proofs.«01_k».proof.Proof.Gen.Reference8Ideal.Run
public import Idealize.ShloMosaic.Lib.Claim

@[expose] public section
set_option maxRecDepth 16384
noncomputable section
open Idealize.ShloMosaic Idealize.ShloMosaic.TcCoe Idealize.SL.Sem
open Idealize.ShloMosaic.Pipeline (Dat)

/-! The results the host reads off the saved arrays, and the claim. -/
namespace Cert.Kernel8Ideal.Fwd
open Cert.Kernel8Ideal Cert.Kernel8Ideal.Gen
variable (m : (ℓ : Loc nD τ sig) → Buf (Elt Ideal) ℓ) (c : Dev nD)

/-- An array staged by one window only holds what that window left in it. -/
theorem only (V : Valuation τ sig (Elt Ideal)) (A : (w : Fin cfg0.W) → Buf (Elt Ideal) ((spec0 w).arr.view.loc (c.tc : Thread nD τ))) (w : Fin cfg0.W)
    (hw : ∀ w', Pipeline.arrRef spec0 w' = Pipeline.arrRef spec0 w → w' = w) : Pipeline.withArrays spec0 c V A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt Ideal)) e) (A w') = A w from this _ h.choose_spec
  intro w' e
  obtain rfl := hw w' (Proc.devRef_injective _ e)
  rfl

/-- What the kernel's program leaves in a buffer. -/
abbrev leaves (b : Ref sig .tc) := Pipeline.afterTail₀ cfgs (dats m) 0 (V0 m) [hostOps1] c b

abbrev cut0 (X : FVec Ideal S4x8192x512 .f32) : FVec Ideal S1x8192x512 .f32 := broadcastInDim S1x8192x512 ![1, 2] bcast_S8192x512_S1x8192x512_1_2
  (shapeCast S8192x512 (extractStridedSlice S1x8192x512 ![0, 0, 0] X slices_S4x8192x512_S1x8192x512_0_0_0) shapeCasts_S1x8192x512_S8192x512)
theorem cut0_at (X : FVec Ideal S4x8192x512 .f32) (s : Fin 8192) (k : Fin 512) : cut0 X (ix3 0 s k) = X (ix3 0 s k) := by pointwise [cut0]
theorem tail0 : leaves m c main_v19 = cut0 (A18 m c) := by
  rw [← final18 m c]
  show StableHlo.after hostOps1 _ _ = _
  after_results
  exact congrArg cut0 (only c _ _ 18 (by decide))

abbrev cut1 (X : FVec Ideal S4x8192x512 .bf16) : FVec Ideal S1x8192x512 .f32 := broadcastInDim S1x8192x512 ![1, 2] bcast_S8192x512_S1x8192x512_1_2
  (extf (F := Ideal) .f32 (shapeCast S8192x512 (extractStridedSlice S1x8192x512 ![0, 0, 0] X slices_S4x8192x512_S1x8192x512_0_0_0) shapeCasts_S1x8192x512_S8192x512) bitsLt_bf16_f32)
theorem cut1_at (X : FVec Ideal S4x8192x512 .bf16) (s : Fin 8192) (k : Fin 512) : cut1 X (ix3 0 s k) = X (ix3 0 s k) := by pointwise [cut1]
theorem tail1 : leaves m c main_v20 = cut1 (A19 m c) := by
  rw [← final19 m c]
  show StableHlo.after hostOps1 _ _ = _
  after_results
  exact congrArg cut1 (only c _ _ 19 (by decide))

abbrev cut2 (X : FVec Ideal S4x8192x512 .bf16) : FVec Ideal S1x8192x512 .f32 := broadcastInDim S1x8192x512 ![1, 2] bcast_S8192x512_S1x8192x512_1_2
  (extf (F := Ideal) .f32 (shapeCast S8192x512 (extractStridedSlice S1x8192x512 ![1, 0, 0] X slices_S4x8192x512_S1x8192x512_1_0_0) shapeCasts_S1x8192x512_S8192x512) bitsLt_bf16_f32)
theorem cut2_at (X : FVec Ideal S4x8192x512 .bf16) (s : Fin 8192) (k : Fin 512) : cut2 X (ix3 0 s k) = X (ix3 1 s k) := by pointwise [cut2]
theorem tail2 : leaves m c main_v21 = cut2 (A19 m c) := by
  rw [← final19 m c]
  show StableHlo.after hostOps1 _ _ = _
  after_results
  exact congrArg cut2 (only c _ _ 19 (by decide))

abbrev cut3 (X : FVec Ideal S4x8192x512 .f32) : FVec Ideal S1x8192x512 .f32 := broadcastInDim S1x8192x512 ![1, 2] bcast_S8192x512_S1x8192x512_1_2
  (shapeCast S8192x512 (extractStridedSlice S1x8192x512 ![3, 0, 0] X slices_S4x8192x512_S1x8192x512_3_0_0) shapeCasts_S1x8192x512_S8192x512)
theorem cut3_at (X : FVec Ideal S4x8192x512 .f32) (s : Fin 8192) (k : Fin 512) : cut3 X (ix3 0 s k) = X (ix3 3 s k) := by pointwise [cut3]
theorem tail3 : leaves m c main_v22 = cut3 (A18 m c) := by
  rw [← final18 m c]
  show StableHlo.after hostOps1 _ _ = _
  after_results
  exact congrArg cut3 (only c _ _ 18 (by decide))

open Cert.Reference8Ideal.Read in
theorem eq0 : val_main_v33 (F := Ideal) (a0 m c) (a2 m c) (a3 m c) = leaves m c main_v19 := by
  rw [tail0]
  funext i
  idx_vars i
  rw [show i0 = 0 from Fin.ext (by show i0.val = 0; omega)]
  refine (ref33 _ _ _ i1 i2).trans (Eq.trans ?_ (cut0_at _ i1 i2).symm)
  have h := conv_out m c (tileOf i1) (inTile i1) i2
  rw [row_tile, A18_at, row_tile] at h
  exact h.symm

open Cert.Reference8Ideal.Read in
theorem eq1 : val_main_v48 (F := Ideal) (a0 m c) (a2 m c) (a3 m c) (a4 m c) (a5 m c) = leaves m c main_v20 := by
  rw [tail1]
  funext i
  idx_vars i
  rw [show i0 = 0 from Fin.ext (by show i0.val = 0; omega)]
  refine (ref48 _ _ _ _ _ i1 i2).trans (Eq.trans ?_ (cut1_at _ i1 i2).symm)
  have h := r_out m c (tileOf i1) (inTile i1) i2
  rw [row_tile, A19_at, row_tile] at h
  exact h.symm

open Cert.Reference8Ideal.Read in
theorem eq2 : val_main_v62 (F := Ideal) (a0 m c) (a2 m c) (a3 m c) (a6 m c) (a7 m c) = leaves m c main_v21 := by
  rw [tail2]
  funext i
  idx_vars i
  rw [show i0 = 0 from Fin.ext (by show i0.val = 0; omega)]
  refine (ref62 _ _ _ _ _ i1 i2).trans (Eq.trans ?_ (cut2_at _ i1 i2).symm)
  have h := i_out m c (tileOf i1) (inTile i1) i2
  rw [row_tile, A19_at, row_tile] at h
  exact h.symm

open Cert.Reference8Ideal.Read in
theorem eq3 : val_main_v76 (F := Ideal) (a0 m c) = leaves m c main_v22 := by
  rw [tail3]
  funext i
  idx_vars i
  rw [show i0 = 0 from Fin.ext (by show i0.val = 0; omega)]
  refine (ref76 _ i1 i2).trans (Eq.trans ?_ (cut3_at _ i1 i2).symm)
  have h := ge_out m c (tileOf i1) (inTile i1) i2
  rw [row_tile, A18_at, row_tile] at h
  exact h.symm

/-- The run: the four results, and the arguments unchanged. -/
theorem run (g : Dev nD → PrngReg) : θ_run defs (onTc (τ := τ) (main (F := Ideal))) ⟨m, fun _ => 0, g⟩ (fun r => ∀ c : Dev nD,
      r.2.mem ((c.tc : Thread nD τ).loc main_v19) = leaves m c main_v19
      ∧ r.2.mem ((c.tc : Thread nD τ).loc main_v20) = leaves m c main_v20
      ∧ r.2.mem ((c.tc : Thread nD τ).loc main_v21) = leaves m c main_v21
      ∧ r.2.mem ((c.tc : Thread nD τ).loc main_v22) = leaves m c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h.1 c).2 main_v19 (Pipeline.mem_restRefs_of main_v19 (by decide) (by decide)), (h.1 c).2 main_v20 (Pipeline.mem_restRefs_of main_v20 (by decide) (by decide)), (h.1 c).2 main_v21 (Pipeline.mem_restRefs_of main_v21 (by decide) (by decide)), (h.1 c).2 main_v22 (Pipeline.mem_restRefs_of main_v22 (by decide) (by decide)), h.2 c⟩)
    (θ_run_and (run_main m g) (unchanged m g))
end Cert.Kernel8Ideal.Fwd

namespace Cert.Proof
open Cert.Kernel8Ideal.Fwd

theorem mixfwd_algebraic : Cert.algebraic_Kernel8Ideal_Reference8Ideal (hKernel8Ideal := Cert.Kernel8Ideal.Gen.facts) (hReference8Ideal := Cert.Reference8Ideal.Gen.facts) := by
  intro m g m' g' _ hagree
  refine ⟨fun c => leaves m c Cert.Kernel8Ideal.main_v19, fun c => leaves m c Cert.Kernel8Ideal.main_v20, fun c => leaves m c Cert.Kernel8Ideal.main_v21, fun c => leaves m c Cert.Kernel8Ideal.main_v22, run m g, ?_⟩
  refine (θ_run _ _ _).mono (fun r h c => ?_) (Cert.Reference8Ideal.Value.run m' g')
  obtain ⟨r0, r1, r2, r3, rest⟩ := h c
  obtain ⟨h0, h1, h2, h3, h4, h5, h6, h7, h8, h9, h10, h11, h12, h13, h14⟩ := hagree c
  refine ⟨r0.trans ?_, r1.trans ?_, r2.trans ?_, r3.trans ?_, rest⟩
  · exact (Cert.Reference8Ideal.Read.val_main_v33_eq _ _ _).trans ((congr (congr (congrArg (Cert.Reference8Ideal.Read.val_main_v33 (F := Ideal)) h0) h2) h3).trans (eq0 m c))
  · exact (Cert.Reference8Ideal.Read.val_main_v48_eq _ _ _ _ _).trans ((congr (congr (congr (congr (congrArg (Cert.Reference8Ideal.Read.val_main_v48 (F := Ideal)) h0) h2) h3) h4) h5).trans (eq1 m c))
  · exact (Cert.Reference8Ideal.Read.val_main_v62_eq _ _ _ _ _).trans ((congr (congr (congr (congr (congrArg (Cert.Reference8Ideal.Read.val_main_v62 (F := Ideal)) h0) h2) h3) h6) h7).trans (eq2 m c))
  · exact (Cert.Reference8Ideal.Read.val_main_v76_eq _).trans ((congrArg (Cert.Reference8Ideal.Read.val_main_v76 (F := Ideal)) h0).trans (eq3 m c))
end Cert.Proof
end
-- ==== Proof.Wgrad.Body.lean ====
module

public import proofs.«01_k».proof.Proof.Gen.Kernel9Ideal.Frame
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.Kernel9Ideal.Wgrad
open Cert.Kernel9Ideal Cert.Kernel9Ideal.Gen
variable (m : (ℓ : Loc nD τ sig) → Buf (Elt Ideal) ℓ)

/-! What one point adds to the three weights' gradients. -/

/-- A tile's product: columns of `D` against columns of `X`, summed over the tile's rows. -/
def g (X : FVec Ideal S2048x1024 .bf16) (D : FVec Ideal S1x2048x704 .bf16) (y : S1x704x1024.Idx) : EReal :=
  ∑ q : Fin 2048, D (ix3 0 q (y 1)) * X (ix2 q (y 2))

/-- A first point of a column block sets gradient 1, -/
theorem out5_A (c : Dev nD) (t : Fin cfg0.N) (h : t.val % 4 = 0) (y : S1x704x1024.Idx) :
    (outsAt0 m c t.val t.isLt).1 y = 0 + g (iblk m c 0 t) (iblk m c 3 t) y := by
  rw [outsAt0_A m c t h]; dsimp only; unfold out0_A_5
  frame_out
  generalize iblk m c 0 t = X
  generalize iblk m c 3 t = D
  clear h
  idx_vars y
  open_payloads; pointwise [g]
/-- a later one adds to it. -/
theorem out5_B (c : Dev nD) (t : Fin cfg0.N) (h : ¬ t.val % 4 = 0) (y : S1x704x1024.Idx) :
    (outsAt0 m c t.val t.isLt).1 y = (outsAt0 m c (t.val - 1) (by omega)).1 y + g (iblk m c 0 t) (iblk m c 3 t) y := by
  rw [outsAt0_B m c t h]; dsimp only; unfold out0_B_5
  frame_out
  generalize iblk m c 0 t = X
  generalize iblk m c 3 t = D
  generalize (outsAt0 m c (t.val - 1) _).1 = acc
  clear h
  idx_vars y
  obtain rfl : y0 = 0 := Subsingleton.elim _ _
  open_payloads; pointwise [g]
/-- A first point of a column block sets gradient 2, -/
theorem out6_A (c : Dev nD) (t : Fin cfg0.N) (h : t.val % 4 = 0) (y : S1x704x1024.Idx) :
    (outsAt0 m c t.val t.isLt).2.1 y = 0 + g (iblk m c 0 t) (iblk m c 4 t) y := by
  rw [outsAt0_A m c t h]; dsimp only; unfold out0_A_6
  frame_out
  generalize iblk m c 0 t = X
  generalize iblk m c 4 t = D
  clear h
  idx_vars y
  open_payloads; pointwise [g]
/-- a later one adds to it. -/
theorem out6_B (c : Dev nD) (t : Fin cfg0.N) (h : ¬ t.val % 4 = 0) (y : S1x704x1024.Idx) :
    (outsAt0 m c t.val t.isLt).2.1 y = (outsAt0 m c (t.val - 1) (by omega)).2.1 y + g (iblk m c 0 t) (iblk m c 4 t) y := by
  rw [outsAt0_B m c t h]; dsimp only; unfold out0_B_6
  frame_out
  generalize iblk m c 0 t = X
  generalize iblk m c 4 t = D
  generalize (outsAt0 m c (t.val - 1) _).2.1 = acc
  clear h
  idx_vars y
  obtain rfl : y0 = 0 := Subsingleton.elim _ _
  open_payloads; pointwise [g]
/-- A first point of a column block sets gradient 3, -/
theorem out7_A (c : Dev nD) (t : Fin cfg0.N) (h : t.val % 4 = 0) (y : S1x704x1024.Idx) :
    (outsAt0 m c t.val t.isLt).2.2 y = 0 + g (iblk m c 1 t) (iblk m c 2 t) y := by
  rw [outsAt0_A m c t h]; dsimp only; unfold out0_A_7
  frame_out
  generalize iblk m c 1 t = X
  generalize iblk m c 2 t = D
  clear h
  idx_vars y
  open_payloads; pointwise [g]
/-- a later one adds to it. -/
theorem out7_B (c : Dev nD) (t : Fin cfg0.N) (h : ¬ t.val % 4 = 0) (y : S1x704x1024.Idx) :
    (outsAt0 m c t.val t.isLt).2.2 y = (outsAt0 m c (t.val - 1) (by omega)).2.2 y + g (iblk m c 1 t) (iblk m c 2 t) y := by
  rw [outsAt0_B m c t h]; dsimp only; unfold out0_B_7
  frame_out
  generalize iblk m c 1 t = X
  generalize iblk m c 2 t = D
  generalize (outsAt0 m c (t.val - 1) _).2.2 = acc
  clear h
  idx_vars y
  obtain rfl : y0 = 0 := Subsingleton.elim _ _
  open_payloads; pointwise [g]
end Cert.Kernel9Ideal.Wgrad
end
-- ==== Proof.Wgrad.Final.lean ====
module

public import proofs.«01_k».proof.Proof.Wgrad.Body
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.Kernel9Ideal.Wgrad
open Cert.Kernel9Ideal Cert.Kernel9Ideal.Gen
variable (m : (ℓ : Loc nD τ sig) → Buf (Elt Ideal) ℓ)

/-! The three arrays of gradients, put together from the tiles. -/

/-- Which block of each array a grid point works on: four column blocks, of each four tiles of rows. -/
theorem idx : ∀ t : Fin cfg0.N, win0_0.index t = ![t.val % 4, 0] ∧ win0_1.index t = ![t.val % 4, 0]
    ∧ win0_2.index t = ![t.val / 4, t.val % 4, 0] ∧ win0_3.index t = ![t.val / 4, t.val % 4, 0] ∧ win0_4.index t = ![t.val / 4, t.val % 4, 0]
    ∧ win0_5.index t = ![t.val / 4, 0, 0] ∧ win0_6.index t = ![t.val / 4, 0, 0] ∧ win0_7.index t = ![t.val / 4, 0, 0] :=
  (by decide +kernel : ∀ t : Fin grid0.N, _)

/-- Rows as the kernel is handed them. -/
abbrev cast (X : FVec Ideal S8192x1024 .f32) : FVec Ideal S8192x1024 .bf16 := truncf (F := Ideal) .bf16 X bitsLt_bf16_f32
/-- Column blocks as the kernel is handed them. -/
abbrev blocks (X : FVec Ideal S8192x2816 .f32) : FVec Ideal S4x8192x704 .bf16 :=
  truncf (F := Ideal) .bf16 (transpose S4x8192x704 [1, 0, 2] (shapeCast S8192x4x704 X shapeCasts_S8192x2816_S8192x4x704) transposes_S8192x4x704_S4x8192x704_1_0_2) bitsLt_bf16_f32
theorem blocks_at (X : FVec Ideal S8192x2816 .f32) (i : S4x8192x704.Idx) :
    blocks X i = X (ix2 (i 1) ⟨(i 0).val * 704 + (i 2).val, by have : (i 0).val < 4 := (i 0).isLt; have : (i 2).val < 704 := (i 2).isLt; omega⟩) := by
  idx_vars i
  pointwise [blocks]
theorem entry0 (c : Dev nD) : V m c main_v0 = cast (m ((c : Thread nD τ).loc main_arg0)) := by
  show StableHlo.after hostOps0 _ _ = _
  after_results
theorem entry1 (c : Dev nD) : V m c main_v1 = cast (m ((c : Thread nD τ).loc main_arg1)) := by
  show StableHlo.after hostOps0 _ _ = _
  after_results
theorem entry2 (c : Dev nD) : V m c main_v4 = blocks (m ((c : Thread nD τ).loc main_arg2)) := by
  show StableHlo.after hostOps0 _ _ = _
  after_results; rfl
theorem entry3 (c : Dev nD) : V m c main_v7 = blocks (m ((c : Thread nD τ).loc main_arg3)) := by
  show StableHlo.after hostOps0 _ _ = _
  after_results; rfl
theorem entry4 (c : Dev nD) : V m c main_v10 = blocks (m ((c : Thread nD τ).loc main_arg4)) := by
  show StableHlo.after hostOps0 _ _ = _
  after_results; rfl

theorem at0 (c : Dev nD) (t : Fin cfg0.N) (r : Fin 2048) (k : Fin 1024) :
    iblk m c 0 t (ix2 r k) = (m ((c : Thread nD τ).loc main_arg0)) (ix2 ⟨t.val % 4 * 2048 + r.val, by omega⟩ k) := by
  refine (congrFun (entry0 m c) _).trans ?_
  show (m ((c : Thread nD τ).loc main_arg0)) _ = _
  blk_ext [idx t]
theorem at1 (c : Dev nD) (t : Fin cfg0.N) (r : Fin 2048) (k : Fin 1024) :
    iblk m c 1 t (ix2 r k) = (m ((c : Thread nD τ).loc main_arg1)) (ix2 ⟨t.val % 4 * 2048 + r.val, by omega⟩ k) := by
  refine (congrFun (entry1 m c) _).trans ?_
  show (m ((c : Thread nD τ).loc main_arg1)) _ = _
  blk_ext [idx t]
theorem at2 (c : Dev nD) (t : Fin cfg0.N) (r : Fin 2048) (k : Fin 704) :
    iblk m c 2 t (ix3 0 r k) = (m ((c : Thread nD τ).loc main_arg2)) (ix2 ⟨t.val % 4 * 2048 + r.val, by omega⟩ ⟨t.val / 4 * 704 + k.val, by have := lt_of_lt_of_eq t.isLt N_0; omega⟩) := by
  refine (congrFun (entry2 m c) _).trans ((blocks_at _ _).trans ?_)
  blk_ext [idx t]
theorem at3 (c : Dev nD) (t : Fin cfg0.N) (r : Fin 2048) (k : Fin 704) :
    iblk m c 3 t (ix3 0 r k) = (m ((c : Thread nD τ).loc main_arg3)) (ix2 ⟨t.val % 4 * 2048 + r.val, by omega⟩ ⟨t.val / 4 * 704 + k.val, by have := lt_of_lt_of_eq t.isLt N_0; omega⟩) := by
  refine (congrFun (entry3 m c) _).trans ((blocks_at _ _).trans ?_)
  blk_ext [idx t]
theorem at4 (c : Dev nD) (t : Fin cfg0.N) (r : Fin 2048) (k : Fin 704) :
    iblk m c 4 t (ix3 0 r k) = (m ((c : Thread nD τ).loc main_arg4)) (ix2 ⟨t.val % 4 * 2048 + r.val, by omega⟩ ⟨t.val / 4 * 704 + k.val, by have := lt_of_lt_of_eq t.isLt N_0; omega⟩) := by
  refine (congrFun (entry4 m c) _).trans ((blocks_at _ _).trans ?_)
  blk_ext [idx t]

/-- A weight's gradient as the kernel leaves it: four blocks, each the sum over four tiles of rows. -/
def G (X : FVec Ideal S8192x1024 .f32) (D : FVec Ideal S8192x2816 .f32) : FVec Ideal S4x704x1024 .f32 :=
  fun y => ∑ s : Fin 4, ∑ q : Fin 2048, D (ix2 ⟨s.val * 2048 + q.val, by omega⟩ ⟨(y 0).val * 704 + (y 1).val, by have : (y 0).val < 4 := (y 0).isLt; have : (y 1).val < 704 := (y 1).isLt; omega⟩)
    * X (ix2 ⟨s.val * 2048 + q.val, by omega⟩ (y 2))

/-- The same with the block named. -/
theorem G_at (X : FVec Ideal S8192x1024 .f32) (D : FVec Ideal S8192x2816 .f32) (j : Fin 4) (k : Fin 704) (n : Fin 1024) :
    G X D (ix3 j k n) = ∑ s : Fin 4, ∑ q : Fin 2048, D (ix2 ⟨s.val * 2048 + q.val, by omega⟩ ⟨j.val * 704 + k.val, by omega⟩) * X (ix2 ⟨s.val * 2048 + q.val, by omega⟩ n) := rfl

/-- The last point of a column block is the one whose result is kept. -/
theorem kept : ∀ t : Fin cfg0.N, ((cfg0.win 5).flush t = true → t.val % 4 = 4 - 1) ∧ ((cfg0.win 6).flush t = true → t.val % 4 = 4 - 1) ∧ ((cfg0.win 7).flush t = true → t.val % 4 = 4 - 1) :=
  (by decide +kernel : ∀ t : Fin grid0.N, _)

/-- An index of a block that is one deep. -/
theorem first (y : S1x704x1024.Idx) : y = ix3 0 (y 1) (y 2) := by
  funext x
  fin_cases x
  · apply Fin.ext; have : (y 0).val < 1 := (y 0).isLt; show (y 0).val = 0; omega
  · rfl
  · rfl

theorem g_at (X : FVec Ideal S2048x1024 .bf16) (D : FVec Ideal S1x2048x704 .bf16) (k : Fin 704) (n : Fin 1024) :
    g X D (ix3 0 k n) = ∑ q : Fin 2048, D (ix3 0 q k) * X (ix2 q n) := rfl

/-- Four points' products are the block's. -/
theorem G_sum (x : (t : Fin cfg0.N) → FVec Ideal S2048x1024 .bf16) (d : (t : Fin cfg0.N) → FVec Ideal S1x2048x704 .bf16) (X : FVec Ideal S8192x1024 .f32) (D : FVec Ideal S8192x2816 .f32)
    (hx : ∀ t r k, x t (ix2 r k) = X (ix2 ⟨t.val % 4 * 2048 + r.val, by omega⟩ k))
    (hd : ∀ t r k, d t (ix3 0 r k) = D (ix2 ⟨t.val % 4 * 2048 + r.val, by omega⟩ ⟨t.val / 4 * 704 + k.val, by have := lt_of_lt_of_eq t.isLt N_0; omega⟩))
    (t : Fin cfg0.N) (hs : ∀ s : Fin 4, 4 * (t.val / 4) + s.val < cfg0.N) (k : Fin 704) (n : Fin 1024) :
    (∑ s : Fin 4, g (x ⟨4 * (t.val / 4) + s.val, hs s⟩) (d ⟨4 * (t.val / 4) + s.val, hs s⟩) (ix3 0 k n))
      = G X D (ix3 ⟨t.val / 4, by have := lt_of_lt_of_eq t.isLt N_0; omega⟩ k n) := by
  rw [G_at]
  refine Finset.sum_congr rfl fun s _ => (g_at _ _ k n).trans (Finset.sum_congr rfl fun q _ => ?_)
  rw [hx, hd]
  have e1 : (4 * (t.val / 4) + s.val) % 4 = s.val := by omega
  have e2 : (4 * (t.val / 4) + s.val) / 4 = t.val / 4 := by omega
  simp only [e1, e2]

theorem final5 (c : Dev nD) : (dats m 0 c).arrAt 5 (cfgs 0).N = G (m ((c : Thread nD τ).loc main_arg0)) (m ((c : Thread nD τ).loc main_arg3)) := by
  refine (dats m 0 c).arrAt_eq_of_covers 5 _ (by decide +kernel) fun t hf y => ?_
  have hr := (kept t).1 hf
  blk_simp
  rw [after0_5, Pipeline.eq_sum_fin_of_reset_step_apply_of_flush (fun n h => (outsAt0 m c n h).1) 4 (fun _ => 0)
    (fun p j => g (iblk m c 0 p) (iblk m c 3 p) j) (fun t h j => out5_A m c t h j) (fun t h j => out5_B m c t h j) t hr _, zero_add]
  refine ((Finset.sum_congr rfl fun s _ => congrArg _ (first y)).trans
    (G_sum (fun p => iblk m c 0 p) (fun p => iblk m c 3 p) _ _ (at0 m c) (at3 m c) t _ (y 1) (y 2))).trans (congrArg _ ?_)
  blk_ext [idx t]
theorem final6 (c : Dev nD) : (dats m 0 c).arrAt 6 (cfgs 0).N = G (m ((c : Thread nD τ).loc main_arg0)) (m ((c : Thread nD τ).loc main_arg4)) := by
  refine (dats m 0 c).arrAt_eq_of_covers 6 _ (by decide +kernel) fun t hf y => ?_
  have hr := (kept t).2.1 hf
  blk_simp
  rw [after0_6, Pipeline.eq_sum_fin_of_reset_step_apply_of_flush (fun n h => (outsAt0 m c n h).2.1) 4 (fun _ => 0)
    (fun p j => g (iblk m c 0 p) (iblk m c 4 p) j) (fun t h j => out6_A m c t h j) (fun t h j => out6_B m c t h j) t hr _, zero_add]
  refine ((Finset.sum_congr rfl fun s _ => congrArg _ (first y)).trans
    (G_sum (fun p => iblk m c 0 p) (fun p => iblk m c 4 p) _ _ (at0 m c) (at4 m c) t _ (y 1) (y 2))).trans (congrArg _ ?_)
  blk_ext [idx t]
theorem final7 (c : Dev nD) : (dats m 0 c).arrAt 7 (cfgs 0).N = G (m ((c : Thread nD τ).loc main_arg1)) (m ((c : Thread nD τ).loc main_arg2)) := by
  refine (dats m 0 c).arrAt_eq_of_covers 7 _ (by decide +kernel) fun t hf y => ?_
  have hr := (kept t).2.2 hf
  blk_simp
  rw [after0_7, Pipeline.eq_sum_fin_of_reset_step_apply_of_flush (fun n h => (outsAt0 m c n h).2.2) 4 (fun _ => 0)
    (fun p j => g (iblk m c 1 p) (iblk m c 2 p) j) (fun t h j => out7_A m c t h j) (fun t h j => out7_B m c t h j) t hr _, zero_add]
  refine ((Finset.sum_congr rfl fun s _ => congrArg _ (first y)).trans
    (G_sum (fun p => iblk m c 1 p) (fun p => iblk m c 2 p) _ _ (at1 m c) (at2 m c) t _ (y 1) (y 2))).trans (congrArg _ ?_)
  blk_ext [idx t]
end Cert.Kernel9Ideal.Wgrad
end
-- ==== Proof.Wgrad.Value.lean ====
module

public import proofs.«01_k».proof.Proof.Wgrad.Final
public import Idealize.ShloMosaic.Lib.Pipeline.ValueKit
public import Idealize.ShloMosaic.Lib.Pointwise
public import Idealize.ShloMosaic.Lib.Claim
public import proofs.«01_k».proof.Proof.Common.Sums
public import proofs.«01_k».proof.Defs
public import proofs.«01_k».proof.Proof.Gen.Reference9Ideal
public import proofs.«01_k».proof.Proof.Gen.Reference9Ideal.Run
public import proofs.«01_k».proof.Proof.Gen.Reference9Ideal.Read

@[expose] public section
set_option maxRecDepth 16384
noncomputable section
open Idealize.ShloMosaic Idealize.ShloMosaic.TcCoe Idealize.SL.Sem
open Idealize.ShloMosaic.Pipeline (Dat)
namespace Cert.Kernel9Ideal.Wgrad
open Cert.Kernel9Ideal Cert.Kernel9Ideal.Gen
variable (m : (ℓ : Loc nD τ sig) → Buf (Elt Ideal) ℓ)

/-! The three gradients agree with the reference's. -/

/-- Four tiles of rows are all the rows. -/
theorem rows {M : Type*} [AddCommMonoid M] (f : Fin 8192 → M) :
    (∑ s : Fin 4, ∑ q : Fin 2048, f ⟨s.val * 2048 + q.val, by omega⟩) = ∑ r : Fin 8192, f r := by
  rw [← Finset.sum_product', Finset.univ_product_univ]
  exact Fintype.sum_equiv (finProdFinEquiv.trans (finCongr (by norm_num : 4 * 2048 = 8192))) _ _ fun x => by
    congr 1; apply Fin.ext; show _ = x.2.val + 2048 * x.1.val; dsimp only; omega

/-- The blocks one above the other. -/
abbrev stacked (X : FVec Ideal S4x704x1024 .f32) : FVec Ideal S1x2816x1024 .f32 := shapeCast S1x2816x1024 X shapeCasts_S4x704x1024_S1x2816x1024
/-- The same with rows and columns exchanged. -/
abbrev turned (X : FVec Ideal S4x704x1024 .f32) : FVec Ideal S1x1024x2816 .f32 :=
  transpose S1x1024x2816 [0, 2, 1] (stacked X) transposes_S1x2816x1024_S1x1024x2816_0_2_1

theorem stacked_at (X : FVec Ideal S4x704x1024 .f32) (f : Fin 2816) (k : Fin 1024) :
    stacked X (ix3 0 f k) = X (ix3 ⟨f.val / 704, by omega⟩ ⟨f.val % 704, by omega⟩ k) := by
  pointwise [stacked]
theorem turned_at (X : FVec Ideal S4x704x1024 .f32) (f : Fin 2816) (k : Fin 1024) :
    turned X (ix3 0 k f) = X (ix3 ⟨f.val / 704, by omega⟩ ⟨f.val % 704, by omega⟩ k) := by
  pointwise [turned, stacked]

theorem G_rows (X : FVec Ideal S8192x1024 .f32) (D : FVec Ideal S8192x2816 .f32) (f : Fin 2816) (k : Fin 1024) :
    G X D (ix3 ⟨f.val / 704, by omega⟩ ⟨f.val % 704, by omega⟩ k) = ∑ r : Fin 8192, D (ix2 r f) * X (ix2 r k) := by
  have e : (⟨f.val / 704 * 704 + f.val % 704, by omega⟩ : Fin 2816) = f := Fin.ext (by show f.val / 704 * 704 + f.val % 704 = f.val; omega)
  rw [G_at]
  simp only [e]
  exact rows fun r => D (ix2 r f) * X (ix2 r k)

open Cert.Reference9Ideal.Read in
theorem ref16 (X : FVec Ideal S8192x1024 .f32) (D : FVec Ideal S8192x2816 .f32) (k : Fin 1024) (f : Fin 2816) :
    val_main_v16 (F := Ideal) X D (ix3 0 k f) = ∑ r : Fin 8192, D (ix2 r f) * X (ix2 r k) := by
  pointwise [val_main_v16, val_main_v15, val_main_v14]
open Cert.Reference9Ideal.Read in
theorem ref13 (X : FVec Ideal S8192x1024 .f32) (D : FVec Ideal S8192x2816 .f32) (k : Fin 1024) (f : Fin 2816) :
    val_main_v13 (F := Ideal) X D (ix3 0 k f) = ∑ r : Fin 8192, D (ix2 r f) * X (ix2 r k) := by
  pointwise [val_main_v13, val_main_v12, val_main_v11]
open Cert.Reference9Ideal.Read in
theorem ref10 (X : FVec Ideal S8192x1024 .f32) (D : FVec Ideal S8192x2816 .f32) (f : Fin 2816) (k : Fin 1024) :
    val_main_v10 (F := Ideal) X D (ix3 0 f k) = ∑ r : Fin 8192, X (ix2 r k) * D (ix2 r f) := by
  pointwise [val_main_v10, val_main_v9, val_main_v8]

/-- An index of a shape that starts with 1. -/
theorem lead {a b : ℕ} (i : Shape.Idx ⟨3, ![1, a, b]⟩) : ∃ (k : Fin a) (n : Fin b), i = ix3 0 k n :=
  ⟨i 1, i 2, by
    funext x
    fin_cases x
    · apply Fin.ext; have : (i 0).val < 1 := (i 0).isLt; show (i 0).val = 0; omega
    · rfl
    · rfl⟩

open Cert.Reference9Ideal.Read in
theorem same16 (X : FVec Ideal S8192x1024 .f32) (D : FVec Ideal S8192x2816 .f32) : val_main_v16 (F := Ideal) X D = turned (G X D) := by
  funext i
  obtain ⟨k, f, rfl⟩ := lead i
  exact (ref16 X D k f).trans ((turned_at _ f k).trans (G_rows X D f k)).symm
open Cert.Reference9Ideal.Read in
theorem same13 (X : FVec Ideal S8192x1024 .f32) (D : FVec Ideal S8192x2816 .f32) : val_main_v13 (F := Ideal) X D = turned (G X D) := by
  funext i
  obtain ⟨k, f, rfl⟩ := lead i
  exact (ref13 X D k f).trans ((turned_at _ f k).trans (G_rows X D f k)).symm
open Cert.Reference9Ideal.Read in
theorem same10 (X : FVec Ideal S8192x1024 .f32) (D : FVec Ideal S8192x2816 .f32) : val_main_v10 (F := Ideal) X D = stacked (G X D) := by
  funext i
  obtain ⟨f, k, rfl⟩ := lead i
  refine (ref10 X D f k).trans (Eq.trans ?_ ((stacked_at _ f k).trans (G_rows X D f k)).symm)
  exact Finset.sum_congr rfl fun r _ => mul_comm _ _

theorem tail5 (c : Dev nD) : Pipeline.afterTail₀ cfgs (dats m) 0 (V0 m) [hostOps1] c main_v13 = turned (G (m ((c : Thread nD τ).loc main_arg0)) (m ((c : Thread nD τ).loc main_arg3))) := by
  rw [← final5 m c]
  show StableHlo.after hostOps1 _ _ = _
  after_results
  exact congrArg turned (Pipeline.withArrays_arr spec0 (by decide) c _ _ 5)
theorem tail6 (c : Dev nD) : Pipeline.afterTail₀ cfgs (dats m) 0 (V0 m) [hostOps1] c main_v15 = turned (G (m ((c : Thread nD τ).loc main_arg0)) (m ((c : Thread nD τ).loc main_arg4))) := by
  rw [← final6 m c]
  show StableHlo.after hostOps1 _ _ = _
  after_results
  exact congrArg turned (Pipeline.withArrays_arr spec0 (by decide) c _ _ 6)
theorem tail7 (c : Dev nD) : Pipeline.afterTail₀ cfgs (dats m) 0 (V0 m) [hostOps1] c main_v16 = stacked (G (m ((c : Thread nD τ).loc main_arg1)) (m ((c : Thread nD τ).loc main_arg2))) := by
  rw [← final7 m c]
  show StableHlo.after hostOps1 _ _ = _
  after_results
  exact congrArg stacked (Pipeline.withArrays_arr spec0 (by decide) c _ _ 7)
end Cert.Kernel9Ideal.Wgrad

namespace Cert.Proof
open Cert.Kernel9Ideal.Wgrad

theorem wgrad_algebraic : Cert.algebraic_Kernel9Ideal_Reference9Ideal (hKernel9Ideal := Cert.Kernel9Ideal.Gen.facts)
    (hReference9Ideal := Cert.Reference9Ideal.Gen.facts) := by
  pair_intro
  · run_from Cert.Kernel9Ideal.Gen.run_main m g
    · exact Cert.Kernel9Ideal.Gen.W_main_arg0 m _ c
    · exact Cert.Kernel9Ideal.Gen.W_main_arg1 m _ c
    · exact Cert.Kernel9Ideal.Gen.W_main_arg2 m _ c
    · exact Cert.Kernel9Ideal.Gen.W_main_arg3 m _ c
    · exact Cert.Kernel9Ideal.Gen.W_main_arg4 m _ c
  · run_from Cert.Reference9Ideal.Value.run m' g'
    · exact (same16 _ _).trans (tail5 m c).symm
    · exact (same13 _ _).trans (tail6 m c).symm
    · exact (same10 _ _).trans (tail7 m c).symm
end Cert.Proof
end
-- ==== Proof.Adamw.Value.lean ====
module

public import proofs.«01_k».proof.Proof.Gen.Kernel10Ideal.Frame
public import Idealize.ShloMosaic.Lib.Pipeline.ValueKit
public import Idealize.ShloMosaic.Lib.Pointwise
public import Idealize.ShloMosaic.Lib.Claim
public import proofs.«01_k».proof.Defs
public import proofs.«01_k».proof.Proof.Gen.Reference10Ideal
public import proofs.«01_k».proof.Proof.Gen.Reference10Ideal.Run
public import proofs.«01_k».proof.Proof.Gen.Reference10Ideal.Read

@[expose] public section
set_option maxRecDepth 16384
noncomputable section
open Idealize.ShloMosaic Idealize.ShloMosaic.TcCoe Idealize.SL.Sem
open Idealize.ShloMosaic.Pipeline (Dat)
namespace Cert.Kernel10Ideal.Adamw
open Cert.Kernel10Ideal Cert.Kernel10Ideal.Gen Cert.Reference10Ideal.Read
variable (m : (ℓ : Loc nD τ sig) → Buf (Elt Ideal) ℓ)

/-! The optimiser's step for a large weight, on four tiles of rows. -/

/-- No window's place depends on the table. -/
theorem ok : Ok m := trivial

set_option backward.proofsInPublic true in
/-- The table as the host code makes it: the device's place, 0. -/
def place : pre0.Contents (Elt Ideal) := fun | ⟨0, _⟩ => fun _ => 0#32 | ⟨_ + 1, h⟩ => absurd h (by simp)

theorem tbl_eq : tbl m = place := by
  funext j x
  match j with
  | ⟨0, _⟩ =>
    show StableHlo.after hostOps0 _ main_v2 x = _
    after_results
    rfl
theorem adm_eq : adm m (ok m) = ⟨place, trivial⟩ := Subtype.ext (tbl_eq m)

theorem word : ∀ i, (View.readAt (Elt Ideal) (View.whole main_v2) (Rect.unit (s := S1) ![0] ![1] inb_S1_S1_0).toLoadRect (tbl m 0) i : BitVec 32) = 0#32 := by
  rw [tbl_eq m]; exact fun _ => rfl

/-- Which block of each array a grid point works on. -/
theorem idx (t : Fin (cfgM m (ok m)).N) : ((cfgM m (ok m)).win 0).index t = ![0, t.val, 0] ∧ ((cfgM m (ok m)).win 1).index t = ![t.val % 2, 0]
    ∧ ((cfgM m (ok m)).win 2).index t = ![t.val % 2, 0] ∧ ((cfgM m (ok m)).win 3).index t = ![0, t.val, 0] ∧ ((cfgM m (ok m)).win 4).index t = ![0, t.val, 0]
    ∧ ((cfgM m (ok m)).win 6).index t = ![0, t.val, 0] ∧ ((cfgM m (ok m)).win 7).index t = ![0, t.val, 0] ∧ ((cfgM m (ok m)).win 8).index t = ![0, t.val, 0] ∧ ((cfgM m (ok m)).win 9).index t = ![0, t.val, 0] :=
  (by decide +kernel : ∀ t : Fin grid0.N, cc0_transform_0 (grid0.coords t) = ![0, t.val, 0] ∧ cc0_transform_1 (grid0.coords t) = ![t.val % 2, 0]
    ∧ cc0_transform_2 (grid0.coords t) = ![t.val % 2, 0] ∧ cc0_transform_3 (grid0.coords t) = ![0, t.val, 0] ∧ cc0_transform_4 (grid0.coords t) = ![0, t.val, 0]
    ∧ cc0_transform_6 (grid0.coords t) = ![0, t.val, 0] ∧ cc0_transform_7 (grid0.coords t) = ![0, t.val, 0] ∧ cc0_transform_8 (grid0.coords t) = ![0, t.val, 0] ∧ cc0_transform_9 (grid0.coords t) = ![0, t.val, 0]) t

/-- The gradient's rows: the first two tiles are the device's own, the last two the other's. -/
theorem grad (t : Fin grid0.N) (a b : FVec Ideal S176x1024 .f32) (z : FVec Ideal S1x1 .f32) (r : Fin 176) (k : Fin 1024) :
    k0_pay6 (grid0.coords t) 0#32 a b z (ix2 r k) = (if t.val < 2 then a (ix2 r k) else b (ix2 r k)) + z (ix2 0 0) := by
  have ht : (grid0.coords t 0).val = t.val := (by decide +kernel : ∀ t : Fin grid0.N, (grid0.coords t 0).val = t.val) t
  have h4 : t.val < 4 := t.isLt
  unfold k0_pay6
  pointwise
  rw [ht]
  generalize t.val = n at h4 ⊢
  interval_cases n <;> rfl

/-- The gradient's rows at a point, as the kernel puts them together. -/
abbrev rows (t : Fin grid0.N) (x1 x2 : FVec Ideal S176x1024 .f32) (x5 : FVec Ideal S8x128 .f32) : FVec Ideal S176x1024 .f32 :=
  k0_pay6 (grid0.coords t) 0#32 x1 x2 (View.ld x5 (Rect.unit (s := S8x128) ![0, 0] ![1, 1] inb_S8x128_S1x1_0_0))

section
variable (c : Dev nD) (t : Fin (cfgM m (ok m)).N) (x0 x3 x4 : FVec Ideal S1x176x1024 .f32) (x1 x2 : FVec Ideal S176x1024 .f32) (x5 : FVec Ideal S8x128 .f32)
  (h0 : iblk m (ok m) c 0 t = x0) (h1 : iblk m (ok m) c 1 t = x1) (h2 : iblk m (ok m) c 2 t = x2) (h3 : iblk m (ok m) c 3 t = x3) (h4 : iblk m (ok m) c 4 t = x4)
  (h5 : iblk m (ok m) c 5 t = x5)
include h1 h2 h5 in
theorem out6 : (outsAt0 m (ok m) c t).1 = shapeCast S1x176x1024 (rows t x1 x2 x5) shapeCasts_S176x1024_S1x176x1024 := by
  unfold outsAt0; dsimp only; unfold out0_A_6
  frame_out
  rw [h1, h2, h5]
  simp only [Memref.IsWhole.read_unread]
  rw [word]; rfl
include h0 h1 h2 h3 h4 h5 in
theorem out7 : (outsAt0 m (ok m) c t).2.1 = k0_pay3 (rows t x1 x2 x5) (k0_pay8 x0) (k0_pay9 x3) x4 := by
  unfold outsAt0; dsimp only; unfold out0_A_7
  frame_out
  rw [h0, h1, h2, h3, h4, h5]
  simp only [Memref.IsWhole.read_unread]
  rw [word]
include h1 h2 h3 h5 in
theorem out8 : (outsAt0 m (ok m) c t).2.2.1 = k0_pay4 (rows t x1 x2 x5) (k0_pay9 x3) := by
  unfold outsAt0; dsimp only; unfold out0_A_8
  frame_out
  rw [h1, h2, h3, h5]
  simp only [Memref.IsWhole.read_unread]
  rw [word]
include h1 h2 h4 h5 in
theorem out9 : (outsAt0 m (ok m) c t).2.2.2 = k0_pay5 (rows t x1 x2 x5) x4 := by
  unfold outsAt0; dsimp only; unfold out0_A_9
  frame_out
  rw [h1, h2, h4, h5]
  simp only [Memref.IsWhole.read_unread]
  rw [word]
end

theorem entry5 (c : Dev nD) : V m c main_v0 = broadcastInDim S8x128 ![] bcast_S_S8x128 (constant (F := Ideal) S_ .f32 0x00000000#32) := by
  show StableHlo.after hostOps0 _ _ = _
  after_results
theorem at0 (c : Dev nD) (t : Fin (cfgM m (ok m)).N) (r : Fin 176) (k : Fin 1024) :
    (iblk m (ok m) c 0 t : FVec Ideal S1x176x1024 .f32) (ix3 0 r k) = (m ((c : Thread nD τ).loc main_arg0)) (ix3 0 ⟨t.val * 176 + r.val, by have : t.val < 4 := t.isLt; omega⟩ k) := by
  refine (congrFun (V_main_arg0 m c) _).trans ?_
  show (m ((c : Thread nD τ).loc main_arg0)) _ = _
  blk_ext [idx m t]
theorem at3 (c : Dev nD) (t : Fin (cfgM m (ok m)).N) (r : Fin 176) (k : Fin 1024) :
    (iblk m (ok m) c 3 t : FVec Ideal S1x176x1024 .f32) (ix3 0 r k) = (m ((c : Thread nD τ).loc main_arg3)) (ix3 0 ⟨t.val * 176 + r.val, by have : t.val < 4 := t.isLt; omega⟩ k) := by
  refine (congrFun (V_main_arg3 m c) _).trans ?_
  show (m ((c : Thread nD τ).loc main_arg3)) _ = _
  blk_ext [idx m t]
theorem at4 (c : Dev nD) (t : Fin (cfgM m (ok m)).N) (r : Fin 176) (k : Fin 1024) :
    (iblk m (ok m) c 4 t : FVec Ideal S1x176x1024 .f32) (ix3 0 r k) = (m ((c : Thread nD τ).loc main_arg4)) (ix3 0 ⟨t.val * 176 + r.val, by have : t.val < 4 := t.isLt; omega⟩ k) := by
  refine (congrFun (V_main_arg4 m c) _).trans ?_
  show (m ((c : Thread nD τ).loc main_arg4)) _ = _
  blk_ext [idx m t]
theorem at1 (c : Dev nD) (t : Fin (cfgM m (ok m)).N) (r : Fin 176) (k : Fin 1024) :
    (iblk m (ok m) c 1 t : FVec Ideal S176x1024 .f32) (ix2 r k) = (m ((c : Thread nD τ).loc main_arg1)) (ix2 ⟨t.val % 2 * 176 + r.val, by omega⟩ k) := by
  refine (congrFun (V_main_arg1 m c) _).trans ?_
  show (m ((c : Thread nD τ).loc main_arg1)) _ = _
  blk_ext [idx m t]
theorem at2 (c : Dev nD) (t : Fin (cfgM m (ok m)).N) (r : Fin 176) (k : Fin 1024) :
    (iblk m (ok m) c 2 t : FVec Ideal S176x1024 .f32) (ix2 r k) = (m ((c : Thread nD τ).loc main_arg2)) (ix2 ⟨t.val % 2 * 176 + r.val, by omega⟩ k) := by
  refine (congrFun (V_main_arg2 m c) _).trans ?_
  show (m ((c : Thread nD τ).loc main_arg2)) _ = _
  blk_ext [idx m t]
theorem at5 (c : Dev nD) (t : Fin (cfgM m (ok m)).N) (i : S8x128.Idx) : (iblk m (ok m) c 5 t : FVec Ideal S8x128 .f32) i = (0 : EReal) := by
  refine (congrFun (entry5 m c) _).trans ?_
  pointwise

/-- The gradient both programs step by: the device's own rows above the other's. -/
theorem whole_at (A B : FVec Ideal S352x1024 .f32) (r : Fin 704) (k : Fin 1024) :
    val_main_v1 (F := Ideal) A B (ix3 0 r k) = if h : r.val < 352 then A (ix2 ⟨r.val, h⟩ k) else B (ix2 ⟨r.val - 352, by omega⟩ k) := by
  pointwise [val_main_v1, val_main_v0]

theorem rows_at (t : Fin grid0.N) (x1 x2 : FVec Ideal S176x1024 .f32) (x5 : FVec Ideal S8x128 .f32) (A B : FVec Ideal S352x1024 .f32)
    (h1 : ∀ r k, x1 (ix2 r k) = A (ix2 ⟨t.val % 2 * 176 + r.val, by omega⟩ k)) (h2 : ∀ r k, x2 (ix2 r k) = B (ix2 ⟨t.val % 2 * 176 + r.val, by omega⟩ k)) (h5 : ∀ i, x5 i = (0 : EReal))
    (r : Fin 176) (k : Fin 1024) :
    rows t x1 x2 x5 (ix2 r k) = val_main_v1 (F := Ideal) A B (ix3 0 ⟨t.val * 176 + r.val, by have : t.val < 4 := t.isLt; omega⟩ k) := by
  have h4 : t.val < 4 := t.isLt
  refine (grad t x1 x2 _ r k).trans ((congrArg _ (h5 _)).trans ?_)
  rw [add_zero, whole_at, h1, h2]
  by_cases h : t.val < 2
  · rw [if_pos h, dif_pos (show t.val * 176 + r.val < 352 by omega)]
    congr 2; apply Fin.ext; show t.val % 2 * 176 + r.val = t.val * 176 + r.val; omega
  · rw [if_neg h, dif_neg (show ¬ t.val * 176 + r.val < 352 by omega)]
    congr 2; apply Fin.ext; show t.val % 2 * 176 + r.val = t.val * 176 + r.val - 352; omega
theorem rows_pt (c : Dev nD) (t : Fin (cfgM m (ok m)).N) (r : Fin 176) (k : Fin 1024) :
    rows t (iblk m (ok m) c 1 t) (iblk m (ok m) c 2 t) (iblk m (ok m) c 5 t) (ix2 r k)
      = val_main_v1 (F := Ideal) (m ((c : Thread nD τ).loc main_arg1)) (m ((c : Thread nD τ).loc main_arg2)) (ix3 0 ⟨t.val * 176 + r.val, by have : t.val < 4 := t.isLt; omega⟩ k) :=
  rows_at t _ _ _ _ _ (at1 m c t) (at2 m c t) (at5 m c t) r k

/-- The moments and the step at an entry. -/
theorem mean_at (g : FVec Ideal S176x1024 .f32) (X3 : FVec Ideal S1x176x1024 .f32) (A B : FVec Ideal S352x1024 .f32) (M : FVec Ideal S1x704x1024 .f32)
    (r : Fin 176) (k : Fin 1024) (R : Fin 704) (hg : g (ix2 r k) = val_main_v1 (F := Ideal) A B (ix3 0 R k)) (h3 : X3 (ix3 0 r k) = M (ix3 0 R k)) :
    k0_pay1 g (k0_pay9 X3) (ix2 r k) = val_main_v6 (F := Ideal) A B M (ix3 0 R k) := by
  unfold k0_pay1 k0_pay9
  pointwise [val_main_v6, val_main_v5, val_main_v4, val_main_v3, val_main_v2, val_main_cst, val_main_cst_0]
  rw [hg, h3]
theorem square_at (g : FVec Ideal S176x1024 .f32) (X4 : FVec Ideal S1x176x1024 .f32) (A B : FVec Ideal S352x1024 .f32) (N : FVec Ideal S1x704x1024 .f32)
    (r : Fin 176) (k : Fin 1024) (R : Fin 704) (hg : g (ix2 r k) = val_main_v1 (F := Ideal) A B (ix3 0 R k)) (h4 : X4 (ix3 0 r k) = N (ix3 0 R k)) :
    k0_pay2 g X4 (ix2 r k) = val_main_v12 (F := Ideal) A B N (ix3 0 R k) := by
  unfold k0_pay2
  pointwise [val_main_v12, val_main_v11, val_main_v10, val_main_v9, val_main_v8, val_main_v7, val_main_cst_1, val_main_cst_2]
  rw [hg, h4]
theorem step_at (g : FVec Ideal S176x1024 .f32) (X0 X3 X4 : FVec Ideal S1x176x1024 .f32) (A B : FVec Ideal S352x1024 .f32) (W M N : FVec Ideal S1x704x1024 .f32)
    (r : Fin 176) (k : Fin 1024) (R : Fin 704) (hg : g (ix2 r k) = val_main_v1 (F := Ideal) A B (ix3 0 R k)) (h0 : X0 (ix3 0 r k) = W (ix3 0 R k))
    (h3 : X3 (ix3 0 r k) = M (ix3 0 R k)) (h4 : X4 (ix3 0 r k) = N (ix3 0 R k)) :
    k0_pay3 g (k0_pay8 X0) (k0_pay9 X3) X4 (ix3 0 r k) = val_main_v25 (F := Ideal) W A B M N (ix3 0 R k) := by
  have e1 := mean_at g X3 A B M r k R hg h3
  have e2 := square_at g X4 A B N r k R hg h4
  unfold k0_pay3 k0_pay8
  pointwise [val_main_v25, val_main_v24, val_main_v23, val_main_v22, val_main_v21, val_main_v20, val_main_v19, val_main_v18, val_main_v17, val_main_v16, val_main_v15, val_main_v14, val_main_v13, val_main_cst_3, val_main_cst_4, val_main_cst_5, val_main_cst_6, val_main_cst_7]
  rw [e1, e2, h0]

/-- An index of a block that is one deep. -/
theorem first (y : S1x176x1024.Idx) : y = ix3 0 (y 1) (y 2) := by
  funext x
  fin_cases x
  · apply Fin.ext; have : (y 0).val < 1 := (y 0).isLt; show (y 0).val = 0; omega
  · rfl
  · rfl

theorem point6 (c : Dev nD) (t : Fin (cfgM m (ok m)).N) (r : Fin 176) (k : Fin 1024) :
    (outsAt0 m (ok m) c t).1 (ix3 0 r k) = val_main_v1 (F := Ideal) (m ((c : Thread nD τ).loc main_arg1)) (m ((c : Thread nD τ).loc main_arg2)) (ix3 0 ⟨t.val * 176 + r.val, by have : t.val < 4 := t.isLt; omega⟩ k) := by
  rw [out6 m c t _ _ _ rfl rfl rfl]
  refine Eq.trans ?_ (rows_pt m c t r k)
  pointwise
theorem block6 (c : Dev nD) (t : Fin (cfgM m (ok m)).N) (y : S1x176x1024.Idx) :
    (outsAt0 m (ok m) c t).1 y = val_main_v1 (F := Ideal) (m ((c : Thread nD τ).loc main_arg1)) (m ((c : Thread nD τ).loc main_arg2)) (ix3 0 ⟨t.val * 176 + (y 1).val, by have : t.val < 4 := t.isLt; have : (y 1).val < 176 := (y 1).isLt; omega⟩ (y 2)) :=
  (congrArg (outsAt0 m (ok m) c t).1 (first y)).trans (point6 m c t (y 1) (y 2))
theorem final6 (c : Dev nD) : (dats m (ok m) 0 c).arrAt 6 (cfgM m (ok m)).N = val_main_v1 (F := Ideal) (m ((c : Thread nD τ).loc main_arg1)) (m ((c : Thread nD τ).loc main_arg2)) := by
  refine (dats m (ok m) 0 c).arrAt_eq_of_covers 6 _ ?_ fun t hf y => ?_
  · show ((cfg0 (adm m (ok m))).win 6).Covers
    rw [adm_eq]; decide +kernel
  blk_simp
  rw [after0_6]
  refine (block6 m c t y).trans (congrArg _ ?_)
  blk_ext [idx m t]

theorem point7 (c : Dev nD) (t : Fin (cfgM m (ok m)).N) (r : Fin 176) (k : Fin 1024) :
    (outsAt0 m (ok m) c t).2.1 (ix3 0 r k) = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 ⟨t.val * 176 + r.val, by have : t.val < 4 := t.isLt; omega⟩ k) := by
  rw [out7 m c t _ _ _ _ _ _ rfl rfl rfl rfl rfl rfl]
  exact step_at _ _ _ _ _ _ _ _ _ r k _ (rows_pt m c t r k) (at0 m c t r k) (at3 m c t r k) (at4 m c t r k)
theorem block7 (c : Dev nD) (t : Fin (cfgM m (ok m)).N) (y : S1x176x1024.Idx) :
    (outsAt0 m (ok m) c t).2.1 y = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 ⟨t.val * 176 + (y 1).val, by have : t.val < 4 := t.isLt; have : (y 1).val < 176 := (y 1).isLt; omega⟩ (y 2)) :=
  (congrArg (outsAt0 m (ok m) c t).2.1 (first y)).trans (point7 m c t (y 1) (y 2))
theorem final7 (c : Dev nD) : (dats m (ok m) 0 c).arrAt 7 (cfgM m (ok m)).N = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 7 _ ?_ fun t hf y => ?_
  · show ((cfg0 (adm m (ok m))).win 7).Covers
    rw [adm_eq]; decide +kernel
  blk_simp
  rw [after0_7]
  refine (block7 m c t y).trans (congrArg _ ?_)
  blk_ext [idx m t]

theorem point8 (c : Dev nD) (t : Fin (cfgM m (ok m)).N) (r : Fin 176) (k : Fin 1024) :
    (outsAt0 m (ok m) c t).2.2.1 (ix3 0 r k) = val_main_v6 (F := Ideal) (m ((c : Thread nD τ).loc main_arg1)) (m ((c : Thread nD τ).loc main_arg2)) (m ((c : Thread nD τ).loc main_arg3)) (ix3 0 ⟨t.val * 176 + r.val, by have : t.val < 4 := t.isLt; omega⟩ k) := by
  rw [out8 m c t _ _ _ _ rfl rfl rfl rfl]
  refine Eq.trans ?_ (mean_at _ _ _ _ _ r k _ (rows_pt m c t r k) (at3 m c t r k))
  unfold k0_pay4
  pointwise
theorem block8 (c : Dev nD) (t : Fin (cfgM m (ok m)).N) (y : S1x176x1024.Idx) :
    (outsAt0 m (ok m) c t).2.2.1 y = val_main_v6 (F := Ideal) (m ((c : Thread nD τ).loc main_arg1)) (m ((c : Thread nD τ).loc main_arg2)) (m ((c : Thread nD τ).loc main_arg3)) (ix3 0 ⟨t.val * 176 + (y 1).val, by have : t.val < 4 := t.isLt; have : (y 1).val < 176 := (y 1).isLt; omega⟩ (y 2)) :=
  (congrArg (outsAt0 m (ok m) c t).2.2.1 (first y)).trans (point8 m c t (y 1) (y 2))
theorem final8 (c : Dev nD) : (dats m (ok m) 0 c).arrAt 8 (cfgM m (ok m)).N = val_main_v6 (F := Ideal) (m ((c : Thread nD τ).loc main_arg1)) (m ((c : Thread nD τ).loc main_arg2)) (m ((c : Thread nD τ).loc main_arg3)) := by
  refine (dats m (ok m) 0 c).arrAt_eq_of_covers 8 _ ?_ fun t hf y => ?_
  · show ((cfg0 (adm m (ok m))).win 8).Covers
    rw [adm_eq]; decide +kernel
  blk_simp
  rw [after0_8]
  refine (block8 m c t y).trans (congrArg _ ?_)
  blk_ext [idx m t]

theorem point9 (c : Dev nD) (t : Fin (cfgM m (ok m)).N) (r : Fin 176) (k : Fin 1024) :
    (outsAt0 m (ok m) c t).2.2.2 (ix3 0 r k) = val_main_v12 (F := Ideal) (m ((c : Thread nD τ).loc main_arg1)) (m ((c : Thread nD τ).loc main_arg2)) (m ((c : Thread nD τ).loc main_arg4)) (ix3 0 ⟨t.val * 176 + r.val, by have : t.val < 4 := t.isLt; omega⟩ k) := by
  rw [out9 m c t _ _ _ _ rfl rfl rfl rfl]
  refine Eq.trans ?_ (square_at _ _ _ _ _ r k _ (rows_pt m c t r k) (at4 m c t r k))
  unfold k0_pay5
  pointwise
theorem block9 (c : Dev nD) (t : Fin (cfgM m (ok m)).N) (y : S1x176x1024.Idx) :
    (outsAt0 m (ok m) c t).2.2.2 y = val_main_v12 (F := Ideal) (m ((c : Thread nD τ).loc main_arg1)) (m ((c : Thread nD τ).loc main_arg2)) (m ((c : Thread nD τ).loc main_arg4)) (ix3 0 ⟨t.val * 176 + (y 1).val, by have : t.val < 4 := t.isLt; have : (y 1).val < 176 := (y 1).isLt; omega⟩ (y 2)) :=
  (congrArg (outsAt0 m (ok m) c t).2.2.2 (first y)).trans (point9 m c t (y 1) (y 2))
theorem final9 (c : Dev nD) : (dats m (ok m) 0 c).arrAt 9 (cfgM m (ok m)).N = val_main_v12 (F := Ideal) (m ((c : Thread nD τ).loc main_arg1)) (m ((c : Thread nD τ).loc main_arg2)) (m ((c : Thread nD τ).loc main_arg4)) := by
  refine (dats m (ok m) 0 c).arrAt_eq_of_covers 9 _ ?_ fun t hf y => ?_
  · show ((cfg0 (adm m (ok m))).win 9).Covers
    rw [adm_eq]; decide +kernel
  blk_simp
  rw [after0_9]
  refine (block9 m c t y).trans (congrArg _ ?_)
  blk_ext [idx m t]

theorem run (ρ : Dev nD → PrngReg) : θ_run defs (onTc (τ := τ) (main (F := Ideal))) ⟨m, fun _ => 0, ρ⟩ (fun r => ∀ c : Dev nD,
      r.2.mem ((c.tc : Thread nD τ).loc main_v3_0) = val_main_v1 (F := Ideal) (m ((c : Thread nD τ).loc main_arg1)) (m ((c : Thread nD τ).loc main_arg2))
      ∧ r.2.mem ((c.tc : Thread nD τ).loc main_v3_1) = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v3_2) = val_main_v6 (F := Ideal) (m ((c : Thread nD τ).loc main_arg1)) (m ((c : Thread nD τ).loc main_arg2)) (m ((c : Thread nD τ).loc main_arg3))
      ∧ r.2.mem ((c.tc : Thread nD τ).loc main_v3_3) = val_main_v12 (F := Ideal) (m ((c : Thread nD τ).loc main_arg1)) (m ((c : Thread nD τ).loc main_arg2)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 6).trans (final6 m c),
      ((h c).1 7).trans (final7 m c),
      ((h c).1 8).trans (final8 m c),
      ((h c).1 9).trans (final9 m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c)))⟩) (run_main m ρ (ok m))
end Cert.Kernel10Ideal.Adamw

namespace Cert.Proof

theorem adamw_algebraic : Cert.algebraic_Kernel10Ideal_Reference10Ideal (hKernel10Ideal := Cert.Kernel10Ideal.Gen.facts)
    (hReference10Ideal := Cert.Reference10Ideal.Gen.facts) := by
  pair_intro
  · run_from Cert.Kernel10Ideal.Adamw.run m g
  · run_from Cert.Reference10Ideal.Value.run m' g'
    · exact (Cert.Reference10Ideal.Read.val_main_v1_eq (F := Ideal) _ _).trans (by rw [(hagree c).2.1, (hagree c).2.2.1])
    · exact (Cert.Reference10Ideal.Read.val_main_v25_eq (F := Ideal) _ _ _ _ _).trans (by rw [(hagree c).2.1, (hagree c).2.2.1])
    · exact Cert.Reference10Ideal.Read.val_main_v6_eq (F := Ideal) _ _ _ |>.trans (by rw [(hagree c).2.1, (hagree c).2.2.1])
    · exact Cert.Reference10Ideal.Read.val_main_v12_eq (F := Ideal) _ _ _ |>.trans (by rw [(hagree c).2.1, (hagree c).2.2.1])
end Cert.Proof
end
-- ==== Proof.Chips.Value.lean ====
module

public import proofs.«01_k».proof.Proof.Gen.Kernel11Ideal.Frame
public import Idealize.ShloMosaic.Lib.Pipeline.ValueKit
public import Idealize.ShloMosaic.Lib.Pointwise
public import Idealize.ShloMosaic.Lib.Claim
public import proofs.«01_k».proof.Defs
public import proofs.«01_k».proof.Proof.Gen.Reference11Ideal
public import proofs.«01_k».proof.Proof.Gen.Reference11Ideal.Run
public import proofs.«01_k».proof.Proof.Gen.Reference11Ideal.Read

@[expose] public section
set_option maxRecDepth 16384
noncomputable section
open Idealize.ShloMosaic Idealize.ShloMosaic.TcCoe Idealize.SL.Sem
open Idealize.ShloMosaic.Pipeline (Dat)
namespace Cert.Kernel11Ideal.Chips
open Cert.Kernel11Ideal Cert.Kernel11Ideal.Gen

/-! The sum of a device's own rows and those it received. -/

set_option backward.proofsInPublic true in
/-- The table as the host code makes it: the device's place, 0. -/
def place {F : FTy → Type} [FloatOps F] : pre0.Contents (Elt F) := fun | ⟨0, _⟩ => fun _ => 0#32 | ⟨_ + 1, h⟩ => absurd h (by simp)

theorem tbl_eq {F : FTy → Type} [FloatOps F] (m : (ℓ : Loc nD τ sig) → Buf (Elt F) ℓ) : tbl m = place := by
  funext j x
  match j with
  | ⟨0, _⟩ =>
    show StableHlo.after hostOps0 _ main_v2 x = _
    after_results
    rfl

theorem ok (m : (ℓ : Loc nD τ sig) → Buf (Elt Ideal) ℓ) : Ok m := by
  unfold Ok; rw [tbl_eq m]; decide

variable (m : (ℓ : Loc nD τ sig) → Buf (Elt Ideal) ℓ)

theorem ok_place : ok0 (F := Ideal) place := by decide
theorem adm_eq : adm m (ok m) = ⟨place, ok_place⟩ := Subtype.ext (tbl_eq m)

/-- What the call leaves, of the device's rows and the three blocks it received. -/
theorem out (c : Dev nD) (t : Fin (cfgM m (ok m)).N) (x0 : FVec Ideal S352x1024 .f32) (x2 x3 x4 : FVec Ideal S1x352x1024 .bf16)
    (h0 : iblk m (ok m) c 0 t = x0) (h2 : iblk m (ok m) c 2 t = x2) (h3 : iblk m (ok m) c 3 t = x3) (h4 : iblk m (ok m) c 4 t = x4) (y : S352x1024.Idx) :
    outsAt0 m (ok m) c t y = x0 y + x2 (ix3 0 (y 0) (y 1)) + x3 (ix3 0 (y 0) (y 1)) + x4 (ix3 0 (y 0) (y 1)) := by
  unfold outsAt0 out0_A_5
  frame_out
  rw [h0, h2, h3, h4]
  simp only [Memref.IsWhole.read_unread]
  have hw : ∀ i, (View.readAt (Elt Ideal) (View.whole main_v2) (Rect.unit (s := S1) ![0] ![1] inb_S1_S1_0).toLoadRect (tbl m 0) i : BitVec 32) = 0#32 := by
    rw [tbl_eq m]; exact fun _ => rfl
  rw [hw]
  idx_vars y
  open_payloads; pointwise
  rfl

/-- Which block of each array the one point works on. -/
theorem idx (t : Fin (cfgM m (ok m)).N) : ((cfgM m (ok m)).win 0).index t = ![0, 0] ∧ ((cfgM m (ok m)).win 2).index t = ![1, 0, 0]
    ∧ ((cfgM m (ok m)).win 3).index t = ![2, 0, 0] ∧ ((cfgM m (ok m)).win 4).index t = ![3, 0, 0] ∧ ((cfgM m (ok m)).win 5).index t = ![0, 0] := by
  have key : ∀ pf : pre0.Contents (Elt Ideal), pf = place → ∀ i : grid0.Coords, cc0_transform_0 i = ![0, 0] ∧ cc0_transform_2 inb_S1_S1_0 numel1_S1 pf i = ![1, 0, 0]
      ∧ cc0_transform_3 inb_S1_S1_0 numel1_S1 pf i = ![2, 0, 0] ∧ cc0_transform_4 inb_S1_S1_0 numel1_S1 pf i = ![3, 0, 0] ∧ cc0_transform_5 i = ![0, 0] := by
    rintro _ rfl; decide
  exact key _ (tbl_eq m) (grid0.coords t)

theorem entry1 (c : Dev nD) : V m c main_v0 = truncf (F := Ideal) .bf16 (m ((c : Thread nD τ).loc main_arg1)) bitsLt_bf16_f32 := by
  show StableHlo.after hostOps0 _ _ = _
  after_results
theorem at0 (c : Dev nD) (t : Fin (cfgM m (ok m)).N) (y : S352x1024.Idx) :
    (iblk m (ok m) c 0 t : FVec Ideal S352x1024 .f32) y = (m ((c : Thread nD τ).loc main_arg0)) y := by
  refine (congrFun (V_main_arg0 m c) _).trans ?_
  show (m ((c : Thread nD τ).loc main_arg0)) _ = _
  blk_ext [idx m t]
theorem at2 (c : Dev nD) (t : Fin (cfgM m (ok m)).N) (r : Fin 352) (k : Fin 1024) :
    (iblk m (ok m) c 2 t : FVec Ideal S1x352x1024 .bf16) (ix3 0 r k) = (m ((c : Thread nD τ).loc main_arg1)) (ix3 1 r k) := by
  refine (congrFun (entry1 m c) _).trans ?_
  show (m ((c : Thread nD τ).loc main_arg1)) _ = _
  blk_ext [idx m t]
theorem at3 (c : Dev nD) (t : Fin (cfgM m (ok m)).N) (r : Fin 352) (k : Fin 1024) :
    (iblk m (ok m) c 3 t : FVec Ideal S1x352x1024 .bf16) (ix3 0 r k) = (m ((c : Thread nD τ).loc main_arg1)) (ix3 2 r k) := by
  refine (congrFun (entry1 m c) _).trans ?_
  show (m ((c : Thread nD τ).loc main_arg1)) _ = _
  blk_ext [idx m t]
theorem at4 (c : Dev nD) (t : Fin (cfgM m (ok m)).N) (r : Fin 352) (k : Fin 1024) :
    (iblk m (ok m) c 4 t : FVec Ideal S1x352x1024 .bf16) (ix3 0 r k) = (m ((c : Thread nD τ).loc main_arg1)) (ix3 3 r k) := by
  refine (congrFun (entry1 m c) _).trans ?_
  show (m ((c : Thread nD τ).loc main_arg1)) _ = _
  blk_ext [idx m t]

/-- The reference: the device's rows, and the sum of the other three's. -/
abbrev R (X : FVec Ideal S352x1024 .f32) (Y : FVec Ideal S4x352x1024 .f32) : FVec Ideal S352x1024 .f32 :=
  Cert.Reference11Ideal.Read.val_main_v2 (F := Ideal) X Y

open Cert.Reference11Ideal.Read in
theorem R_at (X : FVec Ideal S352x1024 .f32) (Y : FVec Ideal S4x352x1024 .f32) (r : Fin 352) (k : Fin 1024) :
    R X Y (ix2 r k) = X (ix2 r k) + Y (ix3 1 r k) + Y (ix3 2 r k) + Y (ix3 3 r k) := by
  pointwise [R, val_main_v2, val_main_v1, val_main_v0, val_main_cst]
  rw [Fin.sum_univ_three, ← add_assoc, ← add_assoc]
  rfl

theorem point (c : Dev nD) (t : Fin (cfgM m (ok m)).N) (y : S352x1024.Idx) :
    outsAt0 m (ok m) c t y = R (m ((c : Thread nD τ).loc main_arg0)) (m ((c : Thread nD τ).loc main_arg1)) y := by
  refine (out m c t _ _ _ _ rfl rfl rfl rfl y).trans ?_
  idx_vars y
  rw [at0 m c t, at2 m c t, at3 m c t, at4 m c t]
  exact (R_at _ _ y0 y1).symm

theorem final (c : Dev nD) : (dats m (ok m) 0 c).arrAt 5 (cfgM m (ok m)).N = R (m ((c : Thread nD τ).loc main_arg0)) (m ((c : Thread nD τ).loc main_arg1)) := by
  refine (dats m (ok m) 0 c).arrAt_eq_of_covers 5 _ ?_ fun t hf y => ?_
  · show ((cfg0 (adm m (ok m))).win 5).Covers
    rw [adm_eq]; decide +kernel
  blk_simp
  rw [after0_5]
  refine (point m c t y).trans (congrArg _ ?_)
  blk_ext [idx m t]

theorem run (ρ : Dev nD → PrngReg) : θ_run defs (onTc (τ := τ) (main (F := Ideal))) ⟨m, fun _ => 0, ρ⟩ (fun r => ∀ c : Dev nD,
      r.2.mem ((c.tc : Thread nD τ).loc main_v3) = R (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 5).trans (final m c),
      ((h c).1 0).trans (((dats m (ok m) 0 c).arrAt_in 0 rfl _).trans ((A_eq m (ok m) c 0).trans (V_main_arg0 m c))),
      ((h c).2 main_arg1 (by decide : main_arg1 ∈ Pipeline.restRefs sig spec0)).trans (V_main_arg1 m c)⟩) (run_main m ρ (ok m))
end Cert.Kernel11Ideal.Chips

namespace Cert.Proof
open Cert.Kernel11Ideal.Chips

theorem chips_algebraic : Cert.algebraic_Kernel11Ideal_Reference11Ideal (hKernel11Ideal := Cert.Kernel11Ideal.Gen.facts)
    (hReference11Ideal := Cert.Reference11Ideal.Gen.facts) := by
  pair_intro
  · run_from Cert.Kernel11Ideal.Chips.run m g
  · run_from Cert.Reference11Ideal.Value.run m' g'
    exact Cert.Reference11Ideal.Read.val_main_v2_eq _ _
end Cert.Proof
end
-- ==== Proof.Chips.Ok.lean ====
module

public import proofs.«01_k».proof.Proof.Gen.Kernel11.Frame
public import Idealize.ShloMosaic.Lib.Pipeline.ValueKit

@[expose] public section
set_option maxRecDepth 16384
noncomputable section
open Idealize.ShloMosaic Idealize.ShloMosaic.TcCoe Idealize.SL.Sem
namespace Cert.Kernel11.Chips
open Cert.Kernel11 Cert.Kernel11.Gen

/-! The table of the call with formats: the blocks it asks for lie inside the arrays. -/

set_option backward.proofsInPublic true in
/-- The table as the host code makes it: the device's place, 0. -/
def place {F : FTy → Type} [FloatOps F] : pre0.Contents (Elt F) := fun | ⟨0, _⟩ => fun _ => 0#32 | ⟨_ + 1, h⟩ => absurd h (by simp)

theorem tbl_eq {F : FTy → Type} [FloatOps F] (m : (ℓ : Loc nD τ sig) → Buf (Elt F) ℓ) : tbl m = place := by
  funext j x
  match j with
  | ⟨0, _⟩ =>
    show StableHlo.after hostOps0 _ main_v2 x = _
    after_results
    rfl

theorem ok (m : (ℓ : Loc nD τ sig) → Buf (Elt Bits) ℓ) : Ok m := by
  unfold Ok; rw [tbl_eq m]; decide

variable (m : (ℓ : Loc nD τ sig) → Buf (Elt Bits) ℓ)

end Cert.Kernel11.Chips
end
-- ==== Proof.Half.Value.lean ====
module

public import proofs.«01_k».proof.Proof.Gen.Kernel12Ideal.Frame
public import Idealize.ShloMosaic.Lib.Pipeline.ValueKit
public import Idealize.ShloMosaic.Lib.Pointwise
public import Idealize.ShloMosaic.Lib.Claim
public import proofs.«01_k».proof.Defs
public import proofs.«01_k».proof.Proof.Gen.Reference12Ideal
public import proofs.«01_k».proof.Proof.Gen.Reference12Ideal.Run
public import proofs.«01_k».proof.Proof.Gen.Reference12Ideal.Read

@[expose] public section
set_option maxRecDepth 16384
noncomputable section
open Idealize.ShloMosaic Idealize.ShloMosaic.TcCoe Idealize.SL.Sem
open Idealize.ShloMosaic.Pipeline (Dat)
namespace Cert.Kernel12Ideal.Half
open Cert.Kernel12Ideal Cert.Kernel12Ideal.Gen Cert.Reference12Ideal.Read

/-! A device's half of each chip's rows, with what it received added. -/

set_option backward.proofsInPublic true in
/-- The table as the host code makes it: the device's half and its chip, both 0. -/
def place {F : FTy → Type} [FloatOps F] : pre0.Contents (Elt F) := fun | ⟨0, _⟩ => fun _ => 0#32 | ⟨_ + 1, h⟩ => absurd h (by simp)

theorem tbl_eq {F : FTy → Type} [FloatOps F] (m : (ℓ : Loc nD τ sig) → Buf (Elt F) ℓ) : tbl m = place := by
  funext j x
  match j with
  | ⟨0, _⟩ =>
    show StableHlo.after hostOps0 _ main_v4 x = _
    after_results
    revert x
    exact (by decide : ∀ x : S2.Idx, concatenate (α := BitVec 32) S2 0 [⟨S1, fun _ => 0#32⟩, ⟨S1, fun _ => 0#32⟩] concatenates_S1_S1_S2_d0 x = 0#32)

theorem ok (m : (ℓ : Loc nD τ sig) → Buf (Elt Ideal) ℓ) : Ok m := by
  unfold Ok; rw [tbl_eq m]; decide
theorem ok_place : ok0 (F := Ideal) place := by decide

variable (m : (ℓ : Loc nD τ sig) → Buf (Elt Ideal) ℓ)
theorem adm_eq : adm m (ok m) = ⟨place, ok_place⟩ := Subtype.ext (tbl_eq m)

/-- Which block of each array a grid point works on: the other three chips first, the device's own last. -/
theorem idx (t : Fin (cfgM m (ok m)).N) : ((cfgM m (ok m)).win 0).index t = ![(t.val + 1) % 4, 0, 0] ∧ ((cfgM m (ok m)).win 1).index t = ![(t.val + 1) % 4, 0, 0]
    ∧ ((cfgM m (ok m)).win 2).index t = ![0, 0] ∧ ((cfgM m (ok m)).win 3).index t = ![(t.val + 1) % 4, 0, 0] := by
  have key : ∀ pf : pre0.Contents (Elt Ideal), pf = place → ∀ t : Fin grid0.N, cc0_transform_0 inb_S2_S1_1 numel1_S1 inb_S2_S1_0 pf (grid0.coords t) = ![(t.val + 1) % 4, 0, 0]
      ∧ cc0_transform_1 inb_S2_S1_1 numel1_S1 pf (grid0.coords t) = ![(t.val + 1) % 4, 0, 0] ∧ cc0_transform_2 (grid0.coords t) = ![0, 0]
      ∧ cc0_transform_3 inb_S2_S1_1 numel1_S1 pf (grid0.coords t) = ![(t.val + 1) % 4, 0, 0] := by
    rintro _ rfl; decide +kernel
  exact key _ (tbl_eq m) t

section
variable (c : Dev nD) (t : Fin (cfgM m (ok m)).N) (x0 x1 : FVec Ideal S1x352x1024 .f32)
  (h0 : iblk m (ok m) c 0 t = x0) (h1 : iblk m (ok m) c 1 t = x1)
include h0 h1

theorem out2 (h : t.val % 4 = 3) (y : S352x1024.Idx) : (outsAt0 m (ok m) c t.val t.isLt).1 y = x0 (ix3 0 (y 0) (y 1)) + x1 (ix3 0 (y 0) (y 1)) := by
  rw [outsAt0_B m (ok m) c t h]; dsimp only; unfold out0_B_2
  frame_out
  rw [h0, h1]
  simp only [Memref.IsWhole.read_unread]
  idx_vars y
  open_payloads; pointwise
theorem out3 (y : S1x352x1024.Idx) : (outsAt0 m (ok m) c t.val t.isLt).2 y = x0 (ix3 0 (y 1) (y 2)) + x1 (ix3 0 (y 1) (y 2)) := by
  by_cases h : t.val % 4 = 3
  · rw [outsAt0_B m (ok m) c t h]; dsimp only; unfold out0_B_3
    frame_out
    rw [h0, h1]
    simp only [Memref.IsWhole.read_unread]
    idx_vars y
    open_payloads; pointwise
  · rw [outsAt0_A m (ok m) c t h]; dsimp only; unfold out0_A_3
    frame_out
    rw [h0, h1]
    simp only [Memref.IsWhole.read_unread]
    idx_vars y
    open_payloads; pointwise
end

theorem at0 (c : Dev nD) (t : Fin (cfgM m (ok m)).N) (r : Fin 352) (k : Fin 1024) :
    (iblk m (ok m) c 0 t : FVec Ideal S1x352x1024 .f32) (ix3 0 r k) = (m ((c : Thread nD τ).loc main_arg0)) (ix3 ⟨(t.val + 1) % 4, by omega⟩ ⟨r.val, by omega⟩ k) := by
  refine (congrFun (V_main_arg0 m c) _).trans ?_
  show (m ((c : Thread nD τ).loc main_arg0)) _ = _
  blk_ext [idx m t]
theorem at1 (c : Dev nD) (t : Fin (cfgM m (ok m)).N) (r : Fin 352) (k : Fin 1024) :
    (iblk m (ok m) c 1 t : FVec Ideal S1x352x1024 .f32) (ix3 0 r k) = (m ((c : Thread nD τ).loc main_arg1)) (ix3 ⟨(t.val + 1) % 4, by omega⟩ r k) := by
  refine (congrFun (V_main_arg1 m c) _).trans ?_
  show (m ((c : Thread nD τ).loc main_arg1)) _ = _
  blk_ext [idx m t]

theorem ref1 (X : FVec Ideal S4x704x1024 .f32) (Y : FVec Ideal S4x352x1024 .f32) (j : Fin 4) (r : Fin 352) (k : Fin 1024) :
    val_main_v1 (F := Ideal) X Y (ix3 j r k) = X (ix3 j ⟨r.val, by omega⟩ k) + Y (ix3 j r k) := by
  pointwise [val_main_v1, val_main_v0]
theorem ref3 (X : FVec Ideal S4x704x1024 .f32) (Y : FVec Ideal S4x352x1024 .f32) (r : Fin 352) (k : Fin 1024) :
    val_main_v3 (F := Ideal) X Y (ix2 r k) = X (ix3 0 ⟨r.val, by omega⟩ k) + Y (ix3 0 r k) := by
  pointwise [val_main_v3, val_main_v2, val_main_v1, val_main_v0]

theorem point2 (c : Dev nD) (t : Fin (cfgM m (ok m)).N) (h : t.val % 4 = 3) (y : S352x1024.Idx) :
    (outsAt0 m (ok m) c t.val t.isLt).1 y = val_main_v3 (F := Ideal) (m ((c : Thread nD τ).loc main_arg0)) (m ((c : Thread nD τ).loc main_arg1)) y := by
  refine (out2 m c t _ _ rfl rfl h y).trans ?_
  idx_vars y
  have e : (⟨(t.val + 1) % 4, by omega⟩ : Fin 4) = 0 := Fin.ext (by show (t.val + 1) % 4 = 0; omega)
  refine (congrArg₂ (fun p q : EReal => p + q) (at0 m c t y0 y1) (at1 m c t y0 y1)).trans ?_
  rw [e]; exact (ref3 _ _ y0 y1).symm
theorem point3 (c : Dev nD) (t : Fin (cfgM m (ok m)).N) (y : S1x352x1024.Idx) :
    (outsAt0 m (ok m) c t.val t.isLt).2 y = val_main_v1 (F := Ideal) (m ((c : Thread nD τ).loc main_arg0)) (m ((c : Thread nD τ).loc main_arg1)) (ix3 ⟨(t.val + 1) % 4, by omega⟩ (y 1) (y 2)) :=
  (out3 m c t _ _ rfl rfl y).trans ((congrArg₂ (fun p q : EReal => p + q) (at0 m c t (y 1) (y 2)) (at1 m c t (y 1) (y 2))).trans (ref1 _ _ _ (y 1) (y 2)).symm)

theorem last : ∀ t : Fin (cfg0 (F := Ideal) ⟨place, ok_place⟩).N, ((cfg0 (F := Ideal) ⟨place, ok_place⟩).win 2).flush t = true → t.val % 4 = 3 := by
  decide +kernel
theorem final2 (c : Dev nD) : (dats m (ok m) 0 c).arrAt 2 (cfgM m (ok m)).N = val_main_v3 (F := Ideal) (m ((c : Thread nD τ).loc main_arg0)) (m ((c : Thread nD τ).loc main_arg1)) := by
  refine (dats m (ok m) 0 c).arrAt_eq_of_covers 2 _ ?_ fun t hf y => ?_
  · show ((cfg0 (adm m (ok m))).win 2).Covers
    rw [adm_eq]; decide +kernel
  have ht : t.val % 4 = 3 := by
    have key : ∀ a, a = (⟨place, ok_place⟩ : (pcfg0 (F := Ideal)).Adm) → ∀ t : Fin (cfg0 a).N, ((cfg0 a).win 2).flush t = true → t.val % 4 = 3 := by
      rintro _ rfl; exact last
    exact key _ (adm_eq m) t hf
  blk_simp
  rw [after0_2]
  refine (point2 m c t ht y).trans (congrArg _ ?_)
  blk_ext [idx m t]
theorem final3 (c : Dev nD) : (dats m (ok m) 0 c).arrAt 3 (cfgM m (ok m)).N = val_main_v1 (F := Ideal) (m ((c : Thread nD τ).loc main_arg0)) (m ((c : Thread nD τ).loc main_arg1)) := by
  refine (dats m (ok m) 0 c).arrAt_eq_of_covers 3 _ ?_ fun t hf y => ?_
  · show ((cfg0 (adm m (ok m))).win 3).Covers
    rw [adm_eq]; decide +kernel
  blk_simp
  rw [after0_3]
  refine (point3 m c t y).trans (congrArg _ ?_)
  blk_ext [idx m t]

theorem tail3 (c : Dev nD) : Pipeline.afterTail pcfgs (fun _ => adm m (ok m)) (dats m (ok m)) 0 (V0 m) [hostOps1] c main_v6 = val_main_v1 (F := Ideal) (m ((c : Thread nD τ).loc main_arg0)) (m ((c : Thread nD τ).loc main_arg1)) := by
  show StableHlo.after hostOps1 _ _ = _
  after_results
  have e := (Pipeline.withArrays_arr spec0 (by decide) c (V0 m c) (fun w => (dats m (ok m) 0 c).arrAt w (cfgM m (ok m)).N) 3).trans (final3 m c)
  refine (congrArg (fun Z => extf (F := Ideal) (s := S4x352x1024) (φ := .bf16) .f32 Z bitsLt_bf16_f32) (e : _ = (val_main_v1 (F := Ideal) (m ((c : Thread nD τ).loc main_arg0)) (m ((c : Thread nD τ).loc main_arg1)) : FVec Ideal S4x352x1024 .bf16))).trans ?_
  funext y; rfl

theorem run (ρ : Dev nD → PrngReg) : θ_run defs (onTc (τ := τ) (main (F := Ideal))) ⟨m, fun _ => 0, ρ⟩ (fun r => ∀ c : Dev nD,
      r.2.mem ((c.tc : Thread nD τ).loc main_v5_0) = val_main_v3 (F := Ideal) (m ((c : Thread nD τ).loc main_arg0)) (m ((c : Thread nD τ).loc main_arg1))
      ∧ r.2.mem ((c.tc : Thread nD τ).loc main_v6) = val_main_v1 (F := Ideal) (m ((c : Thread nD τ).loc main_arg0)) (m ((c : Thread nD τ).loc main_arg1))
      ∧ r.2.mem ((c.tc : Thread nD τ).loc main_arg0) = (m ((c : Thread nD τ).loc main_arg0))
      ∧ r.2.mem ((c.tc : Thread nD τ).loc main_arg1) = (m ((c : Thread nD τ).loc main_arg1))) :=
  (θ_run defs _ _).mono (fun _ h c => ⟨((h c).1 2).trans (final2 m c),
      ((h c).2 main_v6 (by decide : main_v6 ∈ Pipeline.restRefs sig spec0)).trans (tail3 m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩) (run_main m ρ (ok m))
end Cert.Kernel12Ideal.Half

namespace Cert.Proof

theorem half_algebraic : Cert.algebraic_Kernel12Ideal_Reference12Ideal (hKernel12Ideal := Cert.Kernel12Ideal.Gen.facts)
    (hReference12Ideal := Cert.Reference12Ideal.Gen.facts) := by
  pair_intro
  · run_from Cert.Kernel12Ideal.Half.run m g
  · run_from Cert.Reference12Ideal.Value.run m' g'
    · exact Cert.Reference12Ideal.Read.val_main_v3_eq (F := Ideal) _ _
    · exact Cert.Reference12Ideal.Read.val_main_v1_eq (F := Ideal) _ _
end Cert.Proof
end
-- ==== Proof.Half.Ok.lean ====
module

public import proofs.«01_k».proof.Proof.Gen.Kernel12.Frame
public import Idealize.ShloMosaic.Lib.Pipeline.ValueKit

@[expose] public section
set_option maxRecDepth 16384
noncomputable section
open Idealize.ShloMosaic Idealize.ShloMosaic.TcCoe Idealize.SL.Sem
namespace Cert.Kernel12.Half
open Cert.Kernel12 Cert.Kernel12.Gen

/-! The table of the call with formats: the blocks it asks for lie inside the arrays. -/

set_option backward.proofsInPublic true in
/-- The table as the host code makes it: the device's half and its chip, both 0. -/
def place {F : FTy → Type} [FloatOps F] : pre0.Contents (Elt F) := fun | ⟨0, _⟩ => fun _ => 0#32 | ⟨_ + 1, h⟩ => absurd h (by simp)

theorem tbl_eq {F : FTy → Type} [FloatOps F] (m : (ℓ : Loc nD τ sig) → Buf (Elt F) ℓ) : tbl m = place := by
  funext j x
  match j with
  | ⟨0, _⟩ =>
    show StableHlo.after hostOps0 _ main_v4 x = _
    after_results
    revert x
    exact (by decide : ∀ x : S2.Idx, concatenate (α := BitVec 32) S2 0 [⟨S1, fun _ => 0#32⟩, ⟨S1, fun _ => 0#32⟩] concatenates_S1_S1_S2_d0 x = 0#32)

theorem ok (m : (ℓ : Loc nD τ sig) → Buf (Elt Bits) ℓ) : Ok m := by
  unfold Ok; rw [tbl_eq m]; decide
end Cert.Kernel12.Half
end
-- ==== Proof.Slab.Body.lean ====
module

public import proofs.«01_k».proof.Proof.Gen.Kernel13Ideal.Frame
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.Kernel13Ideal.Slab
open Cert.Kernel13Ideal Cert.Kernel13Ideal.Gen
variable (m : (ℓ : Loc nD τ sig) → Buf (Elt Ideal) ℓ)

/-! The packed rows: what each holds. -/

/-- Half `h` of a gain's gradient, its eight partial rows added up. -/
abbrev col (g : FVec Ideal S8x1024 .f32) (h : Fin 2) (n : Fin 512) : EReal := ∑ s : Fin 8, g (ix2 s ⟨h.val * 512 + n.val, by omega⟩)

/-- The last sixteen rows: three gains' gradients, two rows each, the loss in every lane, zeros. -/
def last (gm gf gn : FVec Ideal S8x1024 .f32) (l : FVec Ideal S1x128 .f32) (i : ℕ) (n : Fin 512) : EReal :=
  match i with
  | 0 => col gm 0 n | 1 => col gm 1 n | 2 => col gf 0 n | 3 => col gf 1 n | 4 => col gn 0 n | 5 => col gn 1 n
  | 6 => l (ix2 0 ⟨n.val % 128, by omega⟩)
  | _ + 7 => 0

/-- All rows: the mixer's, then these. -/
def packed (a : FVec Ideal S272x512 .f32) (gm gf gn : FVec Ideal S8x1024 .f32) (l : FVec Ideal S1x128 .f32) (r : Fin 288) (n : Fin 512) : EReal :=
  if h : r.val < 272 then a (ix2 ⟨r.val, h⟩ n) else last gm gf gn l (r.val - 272) n

theorem packed_low (a : FVec Ideal S272x512 .f32) (gm gf gn : FVec Ideal S8x1024 .f32) (l : FVec Ideal S1x128 .f32) (r : Fin 288) (n : Fin 512) (s : Fin 272)
    (h : r.val = s.val) : packed a gm gf gn l r n = a (ix2 s n) := by
  obtain ⟨r, hr⟩ := r; obtain rfl : r = s.val := h
  exact dif_pos s.isLt
theorem packed_high (a : FVec Ideal S272x512 .f32) (gm gf gn : FVec Ideal S8x1024 .f32) (l : FVec Ideal S1x128 .f32) (r : Fin 288) (n : Fin 512) (i : ℕ)
    (h : r.val = 272 + i) : packed a gm gf gn l r n = last gm gf gn l i n := by
  unfold packed
  rw [dif_neg (by omega), show r.val - 272 = i by omega]

theorem pay6_at (gm gf gn : FVec Ideal S8x1024 .f32) (l : FVec Ideal S1x128 .f32) (i : Fin 16) (n : Fin 512) :
    k0_pay6 (F := Ideal) gm gf gn l (ix2 i n) = last gm gf gn l i.val n := by
  open_payloads; pointwise
  obtain ⟨i, hi⟩ := i
  interval_cases i <;> simp [last, col]
  split_ifs <;> exact congrArg l (congrArg (ix2 0) (Fin.ext (by show _ = n.val % 128; dsimp only; omega)))

theorem lift16 (w : FVec Ideal S16x512 .f32) (x : S1x16x512.Idx) : shapeCast S1x16x512 w shapeCasts_S16x512_S1x16x512 x = w (ix2 (x 1) (x 2)) := by
  idx_vars x
  pointwise
theorem lift272 (w : FVec Ideal S272x512 .f32) (x : S1x272x512.Idx) : shapeCast S1x272x512 w shapeCasts_S272x512_S1x272x512 x = w (ix2 (x 1) (x 2)) := by
  idx_vars x
  pointwise
/-- The first row. -/
def top (l : FVec Ideal S8x128 .f32) : FVec Ideal S1x128 .f32 := fun y => l (ix2 0 (y 1 : Fin 128))
theorem first_row (l : FVec Ideal S8x128 .f32) :
    (View.ld (Val := Elt Ideal) (e' := .f32) (S := S8x128) l (Rect.unit ![0, 0] ![1, 128] inb_S8x128_S1x128_0_0) : FVec Ideal S1x128 .f32) = top l := by
  funext y
  idx_vars y
  pointwise [top]

section
variable (a : FVec Ideal S272x512 .f32) (gm gf gn : FVec Ideal S8x1024 .f32) (l : FVec Ideal S8x128 .f32) (r : Fin 288) (n : Fin 512)
theorem high (x : S1x16x512.Idx) (h1 : r.val = 272 + (x 1).val) (h2 : n.val = (x 2).val) :
    shapeCast S1x16x512 (k0_pay6 (F := Ideal) gm gf gn (View.ld (Val := Elt Ideal) (e' := .f32) (S := S8x128) l (Rect.unit ![0, 0] ![1, 128] inb_S8x128_S1x128_0_0))) shapeCasts_S16x512_S1x16x512 x
      = packed a gm gf gn (top l) r n := by
  rw [first_row, lift16, packed_high a gm gf gn _ r n (x 1).val h1, show n = x 2 from Fin.ext h2]
  exact pay6_at gm gf gn _ (x 1) (x 2)
theorem low (x : S1x272x512.Idx) (h1 : r.val = (x 1).val) (h2 : n.val = (x 2).val) :
    shapeCast S1x272x512 a shapeCasts_S272x512_S1x272x512 x = packed a gm gf gn (top l) r n := by
  rw [lift272, packed_low a gm gf gn _ r n (x 1) h1, show n = x 2 from Fin.ext h2]

theorem out (c : Dev nD) (t : Fin cfg0.N) (k : Fin 4) (h0 : iblk m c 0 t = a) (h1 : iblk m c 1 t = gm) (h2 : iblk m c 2 t = gf) (h3 : iblk m c 3 t = gn)
    (h4 : iblk m c 4 t = l) : outsAt0 m c t (ix3 k r n) = packed a gm gf gn (top l) r n := by
  unfold outsAt0 out0_A_5
  frame_out
  rw [h0, h1, h2, h3, h4]
  simp only [(hs0_0 t).read_unread, (hs0_1 t).read_unread, (hs0_2 t).read_unread, (hs0_3 t).read_unread, (hs0_4 t).read_unread]
  canon_tiles x h using View.cover_of_tiledBy _ ![1, 16, 512] (by sl_kernel_rfl) _
  all_goals first | exact high a gm gf gn l r n x h1 h2 | exact low a gm gf gn l r n x h1 h2
end

end Cert.Kernel13Ideal.Slab
end
-- ==== Proof.Slab.Value.lean ====
module

public import proofs.«01_k».proof.Proof.Slab.Body
public import Idealize.ShloMosaic.Lib.Claim
public import proofs.«01_k».proof.Defs
public import proofs.«01_k».proof.Proof.Gen.Reference13Ideal
public import proofs.«01_k».proof.Proof.Gen.Reference13Ideal.Run
public import proofs.«01_k».proof.Proof.Gen.Reference13Ideal.Read
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.Kernel13Ideal.Slab
open Cert.Kernel13Ideal Cert.Kernel13Ideal.Gen Cert.Reference13Ideal.Read
variable (m : (ℓ : Loc nD τ sig) → Buf (Elt Ideal) ℓ)

/-! The packed rows agree with the reference's. -/

theorem idx : ∀ t : Fin cfg0.N, (cfg0.win 0).index t = ![0, 0] ∧ (cfg0.win 1).index t = ![0, 0] ∧ (cfg0.win 2).index t = ![0, 0]
    ∧ (cfg0.win 3).index t = ![0, 0] ∧ (cfg0.win 4).index t = ![0, 0] ∧ (cfg0.win 5).index t = ![0, 0, 0] := by
  decide +kernel

theorem blk0 (c : Dev nD) (t : Fin cfg0.N) : (iblk m c 0 t : FVec Ideal S272x512 .f32) = (m ((c : Thread nD τ).loc main_arg0)) := by
  funext y
  refine (congrFun (V_main_arg0 m c) _).trans ?_
  show (m ((c : Thread nD τ).loc main_arg0)) _ = (m ((c : Thread nD τ).loc main_arg0)) _
  refine congrArg _ ?_
  blk_ext [idx t]
theorem blk1 (c : Dev nD) (t : Fin cfg0.N) : (iblk m c 1 t : FVec Ideal S8x1024 .f32) = (m ((c : Thread nD τ).loc main_arg1)) := by
  funext y
  refine (congrFun (V_main_arg1 m c) _).trans ?_
  show (m ((c : Thread nD τ).loc main_arg1)) _ = (m ((c : Thread nD τ).loc main_arg1)) _
  refine congrArg _ ?_
  blk_ext [idx t]
theorem blk2 (c : Dev nD) (t : Fin cfg0.N) : (iblk m c 2 t : FVec Ideal S8x1024 .f32) = (m ((c : Thread nD τ).loc main_arg2)) := by
  funext y
  refine (congrFun (V_main_arg2 m c) _).trans ?_
  show (m ((c : Thread nD τ).loc main_arg2)) _ = (m ((c : Thread nD τ).loc main_arg2)) _
  refine congrArg _ ?_
  blk_ext [idx t]
theorem blk3 (c : Dev nD) (t : Fin cfg0.N) : (iblk m c 3 t : FVec Ideal S8x1024 .f32) = (m ((c : Thread nD τ).loc main_arg3)) := by
  funext y
  refine (congrFun (V_main_arg3 m c) _).trans ?_
  show (m ((c : Thread nD τ).loc main_arg3)) _ = (m ((c : Thread nD τ).loc main_arg3)) _
  refine congrArg _ ?_
  blk_ext [idx t]
theorem blk4 (c : Dev nD) (t : Fin cfg0.N) : (iblk m c 4 t : FVec Ideal S8x128 .f32) = (m ((c : Thread nD τ).loc main_arg4)) := by
  funext y
  refine (congrFun (V_main_arg4 m c) _).trans ?_
  show (m ((c : Thread nD τ).loc main_arg4)) _ = (m ((c : Thread nD τ).loc main_arg4)) _
  refine congrArg _ ?_
  blk_ext [idx t]

section
variable (a : FVec Ideal S272x512 .f32) (gm gf gn : FVec Ideal S8x1024 .f32) (l : FVec Ideal S8x128 .f32)

theorem ref12 (r : Fin 288) (n : Fin 512) : val_main_v12 (F := Ideal) a gm gf gn l (ix2 r n) = packed a gm gf gn (top l) r n := by
  pointwise [val_main_v12, val_main_v11, val_main_v10, val_main_v9, val_main_v8, val_main_v7, val_main_v6, val_main_v5, val_main_v4, val_main_v3, val_main_v2, val_main_v1, val_main_v0, val_main_cst_2,
    val_main_cst_1, val_main_cst_0, val_main_cst]
  by_cases hr : r.val < 272
  · simp [hr, packed]
  obtain ⟨i, hi⟩ : ∃ i, r.val = 272 + i := ⟨r.val - 272, by omega⟩
  rw [packed_high a gm gf gn (top l) r n i hi]
  have : i < 16 := by omega
  simp only [hi, show 272 + i - 272 = i by omega]
  interval_cases i <;> simp [last, col, top]
theorem ref17 (y : S4x288x512.Idx) : val_main_v17 (F := Ideal) a gm gf gn l y = packed a gm gf gn (top l) (y 1) (y 2) := by
  idx_vars y
  refine Eq.trans ?_ (ref12 a gm gf gn l y1 y2)
  pointwise [val_main_v17, val_main_v16, val_main_v15, val_main_v14, val_main_v13]
  split_ifs <;> rfl
end

theorem point (c : Dev nD) (t : Fin cfg0.N) (y : S4x288x512.Idx) :
    outsAt0 m c t y = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) y := by
  refine Eq.trans ?_ (ref17 _ _ _ _ _ y).symm
  idx_vars y
  exact out m _ _ _ _ _ y1 y2 c t y0 (blk0 m c t) (blk1 m c t) (blk2 m c t) (blk3 m c t) (blk4 m c t)

theorem final (c : Dev nD) : (dats m 0 c).arrAt 5 cfg0.N = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  refine (point m c t y).trans (congrArg _ ?_)
  blk_ext [idx t]
end Cert.Kernel13Ideal.Slab

namespace Cert.Proof

theorem slab_algebraic : Cert.algebraic_Kernel13Ideal_Reference13Ideal (hKernel13Ideal := Cert.Kernel13Ideal.Gen.facts)
    (hReference13Ideal := Cert.Reference13Ideal.Gen.facts) := by
  pair_intro
  · run_from Cert.Kernel13Ideal.Gen.run_main m g
  · run_from Cert.Reference13Ideal.Value.run m' g'
    · obtain ⟨e0, e1, e2, e3, e4⟩ := hagree c
      refine (Cert.Reference13Ideal.Read.val_main_v17_eq (F := Ideal) m' c).trans ?_
      rw [e0, e1, e2, e3, e4]
      exact (Cert.Kernel13Ideal.Slab.final m c).symm
end Cert.Proof
end
-- ==== Proof.Swap.Body.lean ====
module

public import Idealize.ShloMosaic.Lib.Pipeline.Launch
public import Idealize.ShloMosaic.Lib.Tactic
public import proofs.«01_k».proof.Proof.Gen.Kernel14Ideal
public import proofs.«01_k».proof.Proof.Gen.Kernel14Ideal.Skeleton
public import proofs.«01_k».proof.Proof.Gen.Kernel14Ideal.Launch
public import Idealize.ShloMosaic.Lib.Pipeline.Kit
public import Idealize.ShloMosaic.Lib.Tactic

@[expose] public section
noncomputable section
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
namespace Cert.Kernel14Ideal.Swap
open Cert.Kernel14Ideal Cert.Kernel14Ideal.Gen

/-! Each core copies its array into the other core's result, then waits until its own copy has left and the
    other's has come. -/

variable {F : FTy → Type} [FloatOps F]

abbrev UU : Type := UR sig nD τ × UR sig nD τ
local notation "𝕄" => MT nD τ sig Unit (Elt F) ℕ UU ℕ
abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## The other core, the buffers, the two semaphores -/

/-- The other core. -/
def peer (c : Dev nD) : Dev nD := ⟨1 - c.val, by have := c.isLt; show 1 - c.val < 2; omega⟩
theorem peer_peer (c : Dev nD) : peer (peer c) = c := by revert c; decide
/-- The kernel's arithmetic of places names it. -/
theorem dev_eq (c : Dev nD) : (⟨k0_dev1 c, Facts₀.k0_dev1_lt c⟩ : Dev nD) = peer c := by revert c; decide
def turn : Dev nD ≃ Dev nD := ⟨peer, peer, peer_peer, peer_peer⟩

abbrev xM : Memref sig .tc .hbm S352x1024 .f32 := Memref.whole main_arg0
abbrev oM : Memref sig .tc .hbm S352x1024 .f32 := Memref.whole main_v1

abbrev only (a : DmaSems sig S1) : SemLoc sig :=
  .dma ((a.slice (Rect.unit (s := S1) ![0] S1.size Facts₀.inb_S1_S1_0)).squeeze S_ Facts₀.squeezes_S1_S_).sem
abbrev outS : SemLoc sig := only cc0_scratch0
abbrev inS : SemLoc sig := only cc0_scratch1
abbrev osem : Fin 2 → SemLoc sig := fun | 0 => outS | 1 => inS
theorem out_ne_in : outS ≠ inS := by decide

/-- Core `c`'s semaphore of what it sends, and of what comes. -/
abbrev outC (c : Dev nD) : GSem nD τ sig := ((c : Thread nD τ), outS)
abbrev inC (c : Dev nD) : GSem nD τ sig := ((c : Thread nD τ), inS)
abbrev cellAt (ck : Dev nD × Fin 2) : GSem nD τ sig := ((ck.1 : Thread nD τ), osem ck.2)

abbrev size : ℕ := oM.view.dmaCredit
theorem size_pos : 0 < size := View.dmaCredit_pos _ (by decide)

/-- Core `c`'s array, as launched. -/
abbrev x (c : Dev nD) : Buf (Elt F) ((c : Thread nD τ).loc main_arg0) := m ((c : Thread nD τ).loc main_arg0)
/-- What core `c`'s result will hold: the other core's array. -/
def got (c : Dev nD) : Buf (Elt F) ((c : Thread nD τ).loc main_v1) := x m (peer c)

def xHeld (c : Dev nD) : sProp 𝕄 := xM.view.loc (c : Thread nD τ) ↦[xM.view.set]{fullShare} x m c
def oHeld (c : Dev nD) (f : Buf (Elt F) ((c : Thread nD τ).loc main_v1)) : sProp 𝕄 := oM.view.loc (c : Thread nD τ) ↦[oM.view.set]{fullShare} f
theorem xHeld_eq (c : Dev nD) : xHeld m c = (((c : Thread nD τ).loc main_arg0) ↦{fullShare} x m c : sProp 𝕄) := by
  unfold xHeld; rw [View.set_whole]
theorem oHeld_eq (c : Dev nD) (f : Buf (Elt F) ((c : Thread nD τ).loc main_v1)) : oHeld c f = (((c : Thread nD τ).loc main_v1) ↦{fullShare} f : sProp 𝕄) := by
  unfold oHeld; rw [View.set_whole]
instance xHeld_storable (c : Dev nD) : BI.Storable (upEmb : UEmb _ 𝕄) (xHeld (F := F) m c) := by unfold xHeld; infer_instance
instance oHeld_storable (c : Dev nD) (f) : BI.Storable (upEmb : UEmb _ 𝕄) (oHeld (F := F) c f) := by unfold oHeld; infer_instance

theorem copied (fd : (main_v1 : Ref sig .tc).ty.Contents (Elt F)) (fs : (main_arg0 : Ref sig .tc).ty.Contents (Elt F)) :
    oM.view.write (Elt F) fd (xM.view.read (Elt F) fs) Finset.univ = fs := by
  show (View.whole main_v1).write (Elt F) fd ((View.whole main_arg0).read (Elt F) fs) Finset.univ = fs
  rw [View.read_whole]; exact View.write_whole_univ _ _ _

/-! ## What each semaphore brings -/

abbrev Ours (g : GSem nD τ sig) : Prop := g.1.2 = .tc ∧ (g.2 = outS ∨ g.2 = inS)

def plan : Rounds.Schedule (GSem nD τ sig) Unit 𝕄 where
  duties g r := if r = 0 ∧ Ours g then {()} else ∅
  unitless _ := False
  amount _ _ _ := size
  payload g _ _ := if g.2 = inS then oHeld g.1.1 (got m g.1.1) else if g.2 = outS then xHeld m g.1.1 else iprop(emp)
  amount_pos _ _ _ _ := size_pos

instance plan_storable (g : GSem nD τ sig) (r : ℕ) (d : Unit) : BI.Storable (upEmb : UEmb _ 𝕄) ((plan (F := F) m).payload g r d) := by
  show BI.Storable upEmb (if g.2 = inS then oHeld g.1.1 (got m g.1.1) else if g.2 = outS then xHeld m g.1.1 else iprop(emp))
  (repeat' split) <;> infer_instance

section Plan
variable (c : Dev nD)
theorem duties_out : (plan (F := F) m).duties (outC c) 0 = {()} := by dsimp only [plan]; exact if_pos ⟨rfl, rfl, .inl rfl⟩
theorem duties_in : (plan (F := F) m).duties (inC c) 0 = {()} := by dsimp only [plan]; exact if_pos ⟨rfl, rfl, .inr rfl⟩
theorem duties_after (g : GSem nD τ sig) : ∀ r, 1 ≤ r → (plan (F := F) m).duties g r = ∅ :=
  fun r hr => by dsimp only [plan]; exact if_neg fun h => by omega
theorem expect_out : (plan (F := F) m).expect (outC c) 0 = size := by
  unfold Schedule.expect Schedule.amountOf; rw [duties_out, Finset.sum_singleton]; rfl
theorem expect_in : (plan (F := F) m).expect (inC c) 0 = size := by
  unfold Schedule.expect Schedule.amountOf; rw [duties_in, Finset.sum_singleton]; rfl
theorem brings_out (u : Unit) : (plan (F := F) m).payload (outC c) 0 u = xHeld m c := by
  dsimp only [plan]; rw [if_neg out_ne_in, if_pos rfl]
theorem brings_in (u : Unit) : (plan (F := F) m).payload (inC c) 0 u = oHeld c (got m c) := by
  dsimp only [plan]; rw [if_pos rfl]
theorem all_out : bigSep ((plan (F := F) m).duties (outC c) 0 \ ∅) (fun u => (plan (F := F) m).payload (outC c) 0 u) = xHeld m c := by
  rw [Finset.sdiff_empty, duties_out, bigSep_singleton, brings_out]
theorem all_in : bigSep ((plan (F := F) m).duties (inC c) 0 \ ∅) (fun u => (plan (F := F) m).payload (inC c) 0 u) = oHeld c (got m c) := by
  rw [Finset.sdiff_empty, duties_in, bigSep_singleton, brings_in]
end Plan

/-- At the start core `c` owes the other core the arrival of its array. -/
def owed₀ (c : Dev nD) : CellTallies nD τ sig Unit := tallyAt (inC (peer c)) () size

/-! ## What a core holds before and after -/

def invs (K : Dev nD × Fin 2 → ℕ) (c : Dev nD) : sProp 𝕄 :=
  iprop(cellInv ER (plan m) (K (c, 0)) (outC c) ∗ cellInv ER (plan m) (K (c, 1)) (inC c) ∗ cellInv ER (plan m) (K (peer c, 1)) (inC (peer c)))
instance invs_persistent (K : Dev nD × Fin 2 → ℕ) (c : Dev nD) : BI.Persistent (invs m K c) := by unfold invs; infer_instance

def ghost (K : Dev nD × Fin 2 → ℕ) (c : Dev nD) : sProp 𝕄 :=
  iprop(invs m K c ∗ atPos ER (outC c) 0 ∅ 0 ∗ atPos ER (inC c) 0 ∅ 0 ∗ reached ER (outC c) 0 ∗ reached ER (inC (peer c)) 0
    ∗ dutyTok ER (outC c) 0 () ∗ dutyTok ER (inC (peer c)) 0 ())
/-- Core `c`'s array and the other core's result. -/
def bufs (c : Dev nD) : sProp 𝕄 := iprop(xHeld m c ∗ oHeld (peer c) (m ((peer c : Thread nD τ).loc main_v1)))
def before (c : Dev nD) : sProp 𝕄 := iprop((∃ K, ghost m K c) ∗ bufs m c ∗ cred (tallyAt (inC c) () size))
def after (c : Dev nD) : sProp 𝕄 := iprop((xHeld m c ∗ oHeld c (got m c)) ∗ semVal (outC c) 0 ∗ semVal (inC c) 0)

def dats (_ : Fin 1) (c : Dev nD) : Dat τ (Elt F) Unit ℕ UU ℕ cfg0 c where
  A w := w.elim0
  after w _ := w.elim0
  Φ t := match t with
    | ⟨0, _⟩ => before m c
    | ⟨_ + 1, _⟩ => after m c
  q _ := fullShare
  owed t := match t with
    | ⟨0, _⟩ => owed₀ c
    | ⟨_ + 1, _⟩ => 0

abbrev 𝒱₀ : Variants := Variants.none

/-! ## The body -/

theorem wp_give (K : Dev nD × Fin 2 → ℕ) (c n : Dev nD) (hn : n = peer c) {hsc : (oM : Memref sig (Dev.tc n : Thread nD τ).2.kind .hbm S352x1024 .f32).view.ref.isScScratch = false}
    {hsrc : xM.view.WordExact} {hdst : oM.view.WordExact}
    {hsem : DmaTarget.Typed .hbm inS (.remote (Dev.tc n : Thread nD τ) oM outS hsc)}
    {α : Type} {Q : α → sProp 𝕄} {k : PUnit → Prog (TpuEff nD τ sig (Elt F) Λ₀ .tc) α} (W : Waits sig Unit) :
    iprop(invs m K c ∗ bufs m c ∗ owes (c : Thread nD τ) (owed₀ c) W
        ∗ dutyTok ER (outC c) 0 () ∗ reached ER (outC c) 0 ∗ dutyTok ER (inC (peer c)) 0 () ∗ reached ER (inC (peer c)) 0)
      ⊢ iprop(((cred (tallyAt (outC c) () size) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) oM outS hsc) inS hsrc hdst hsem) k) Q) := by
  subst hn
  unfold invs bufs
  iintro ⟨⟨#HO, -, #HI⟩, ⟨Hx, Ho⟩, HL, Ht, #Hr, Ht', #Hr'⟩
  unfold xHeld oHeld
  iapply (Rounds.wp_send_pointsTo 𝒱₀ ER (plan m) (c : Thread nD τ) none (κ₁ := K (c, 0)) (κ₂ := K (peer c, 1))
    (r₁ := 0) (r₂ := 0) (d₁ := ()) (d₂ := ()) (fd := m ((peer c : Thread nD τ).loc main_v1)) (fs := x m c)
    (by rw [duties_out]; exact Finset.mem_singleton_self _) (by rw [duties_in]; exact Finset.mem_singleton_self _)
    () () size rfl rfl rfl 0 (by rw [zero_add]) (W := W)
    (by rw [brings_out]; exact BI.Entails.refl _)
    (by rw [brings_in]; unfold oHeld; rw [copied, got, peer_peer]))
  isplitr; · iexact HO
  isplitr; · iexact HI
  isplitl [Hx]; · iexact Hx
  isplitl [Ho]; · iexact Ho
  isplitl [HL]; · iexact HL
  isplitl [Ht]; · iexact Ht
  isplitr; · iexact Hr
  isplitl [Ht']; · iexact Ht'
  iexact Hr'

theorem only_point (t : Fin cfg0.N) : t = t0_0 := fin_N0 t

set_option maxHeartbeats 800000 in
theorem body (c : Dev nD) (Q : PUnit → sProp 𝕄) :
    iprop(before m c ∗ (dats m 0 c).owesAt () (t0_0 : Fin cfg0.N).castSucc ∗ ((after m c ∗ (dats m 0 c).owesAt () (t0_0 : Fin cfg0.N).succ) -∗ Q ⟨⟩))
      ⊢ wp frame (wpE (defs₀ (F := F)) 𝒱₀ c none) Set.univ
          (cc0_tail_swap xM (Memref.isWhole_whole _) oM (Memref.isWhole_whole _) cc0_scratch0 cc0_scratch1) Q := by
  simp only [cc0_tail_swap_eq_skeleton]; unfold cc0_tail_swap_skel
  simp only [k0_part1_eq_skeleton]; unfold k0_part1_skel
  simp only [Prog.lift, Prog.bind_op, Prog.bind_ret, Prog.pure_eq_ret, wp_deviceId]
  unfold before ghost
  iintro ⟨⟨⟨%K, #HI, HatO, HatI, #HrO, #HrI, HtO, HtI⟩, Hb, HcI⟩, Ho, Hk⟩
  unfold Dat.owesAt Pipeline.owesWithin
  icases Ho with ⟨%W, %hW, HL⟩
  rw [show (dats m 0 c).owed (t0_0 : Fin cfg0.N).castSucc = owed₀ c from rfl]
  iapply (wp_give m K c _ (dev_eq c) W) $$ [Hb HL HtO HtI]
  · isplitr; · iexact HI
    isplitl [Hb]; · iexact Hb
    isplitl [HL]; · iexact HL
    isplitl [HtO]; · iexact HtO
    isplitr; · iexact HrO
    isplitl [HtI]; · iexact HtI
    iexact HrI
  iintro ⟨HcO, HL⟩
  unfold invs
  icases HI with ⟨#HIo, #HIi, -⟩
  iapply (Rounds.wp_wait_rest_token 𝒱₀ ER (plan m) (c : Thread nD τ) none (κ := K (c, 0))
      (wpE_waitDma2_eq 𝒱₀ (c : Thread nD τ) none Set.univ) (Set.mem_univ _) () (O := 0) (W := W) (R := 0) (m := 0) (T := ∅)
      (by rw [Nat.zero_add, expect_out])) $$ [HcO HL HatO]
  · isplitr; · iexact HIo
    isplitl [HcO]; · iexact HcO
    isplitl [HL]; · iexact HL
    isplitr; · rw [MayWait_zero]; iempintro
    iexact HatO
  iintro ⟨HL, HatO, -, Hpay⟩
  ihave Hx := (Entails.of_eq (all_out m c)) $$ Hpay
  iapply (Rounds.wp_wait_rest_token 𝒱₀ ER (plan m) (c : Thread nD τ) none (κ := K (c, 1))
      (wpE_waitDma2_eq 𝒱₀ (c : Thread nD τ) none Set.univ) (Set.mem_univ _) () (O := 0) (W := insert (outS, ()) W) (R := 0) (m := 0) (T := ∅)
      (by rw [Nat.zero_add, expect_in])) $$ [HcI HL HatI]
  · isplitr; · iexact HIi
    isplitl [HcI]; · iexact HcI
    isplitl [HL]; · iexact HL
    isplitr; · rw [MayWait_zero]; iempintro
    iexact HatI
  iintro ⟨HL, HatI, -, Hpay⟩
  ihave Hv := (Entails.of_eq (all_in m c)) $$ Hpay
  imod (Rounds.cell_close ER (plan m) (Set.mem_univ (K (c, 0))) (fun h => h) (R := 0 + 1) (duties_after m (outC c))) $$ [HatO] with HzO
  · isplitr; · iexact HIo
    iexact HatO
  imod (Rounds.cell_close ER (plan m) (Set.mem_univ (K (c, 1))) (fun h => h) (R := 0 + 1) (duties_after m (inC c))) $$ [HatI] with HzI
  · isplitr; · iexact HIi
    iexact HatI
  rw [wp_ret]; imodintro
  iapply Hk
  unfold after
  rw [show (dats m 0 c).owed (t0_0 : Fin cfg0.N).succ = 0 from rfl]
  isplitr [HL]
  · isplitl [Hx Hv]; · isplitl [Hx] <;> iassumption
    isplitl [HzO] <;> iassumption
  iexists (insert (inS, ()) (insert (outS, ()) W))
  isplitr; · ipureintro; exact fun _ _ => Or.inl trivial
  iexact HL

theorem body_obligation (c : Dev nD) : BodyObligation (dats (F := F) m 0 c) (defs₀ (F := F)) 𝒱₀ () Set.univ := fun t => by
  rw [only_point t]
  rw [show (Finset.univ : Finset (Fin cfg0.W)) = ∅ from rfl, bigSep_empty, bigSep_empty]
  show iprop(before m c ∗ (dats m 0 c).owesAt () (t0_0 : Fin cfg0.N).castSucc ∗ emp) ⊢ wp frame (wpE (defs₀ (F := F)) 𝒱₀ c none) Set.univ
    (cc0_tail_swap xM (Memref.isWhole_whole _) oM (Memref.isWhole_whole _) cc0_scratch0 cc0_scratch1)
    (fun _ => iprop(after m c ∗ (dats m 0 c).owesAt () (t0_0 : Fin cfg0.N).succ ∗ emp))
  iintro ⟨Hb, Ho, -⟩
  iapply (body m c fun _ => iprop(after m c ∗ (dats m 0 c).owesAt () (t0_0 : Fin cfg0.N).succ ∗ emp))
  isplitl [Hb]; · iexact Hb
  isplitl [Ho]; · iexact Ho
  iintro ⟨Ha, Ho⟩
  isplitl [Ha]; · iexact Ha
  isplitl [Ho]; · iexact Ho
  iempintro

end Cert.Kernel14Ideal.Swap
end
-- ==== Proof.Swap.Run.lean ====
module

public import proofs.«01_k».proof.Proof.Swap.Body

@[expose] public section
noncomputable section
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
namespace Cert.Kernel14Ideal.Swap
open Cert.Kernel14Ideal Cert.Kernel14Ideal.Gen

/-! The launch: the invariants made, the tokens and the results dealt across, and the run. -/

variable {F : FTy → Type} [FloatOps F]
local notation "𝕄" => MT nD τ sig Unit (Elt F) ℕ UU ℕ
variable (m : (ℓ : Loc nD τ sig) → Buf (Elt F) ℓ) (ρ : Dev nD → PrngReg)

theorem ownSemFacts : Pipeline.OwnSemFacts cfg0.spec osem := by decide

theorem cellAt_injective : Function.Injective (cellAt : Dev nD × Fin 2 → GSem nD τ sig) := by
  rintro ⟨c, k⟩ ⟨c', k'⟩ h
  have h1 : c = c' := congrArg (fun g : GSem nD τ sig => g.1.1) h
  have h2 : osem k = osem k' := congrArg Prod.snd h
  subst h1
  have : k = k' := by fin_cases k <;> fin_cases k' <;> first | rfl | exact absurd h2 (by decide)
  rw [this]
def cells : Finset (GSem nD τ sig) := Finset.univ.map ⟨cellAt, cellAt_injective⟩
def tickets : Finset (GSem nD τ sig × ℕ × Unit) :=
  Finset.univ.map ⟨fun ck : Dev nD × Fin 2 => (cellAt ck, 0, ()), fun _ _ h => cellAt_injective (congrArg Prod.fst h)⟩
def u₀ : UU := (initOf (Pipeline.cells cfgs cellOf_inj) (Pipeline.launchToks cfgs cellOf_inj), initOf cells tickets)

theorem two (Φ : Fin 2 → sProp 𝕄) : bigSep Finset.univ Φ = iprop(Φ 0 ∗ Φ 1) := bigSep_univ_eq_bigSepL [0, 1] (by decide) (by decide) Φ

/-- Core `c`'s share of what is made at the launch. -/
def share (c : Dev nD) : sProp 𝕄 :=
  iprop((bigSep Finset.univ fun k : Fin 2 => roundState ER (plan m) (cellAt (c, k)) 0)
    ∗ (bigSep Finset.univ fun k : Fin 2 => reached ER (cellAt (c, k)) 0)
    ∗ (bigSep Finset.univ fun k : Fin 2 => atPos ER (cellAt (c, k)) 0 ∅ 0)
    ∗ (bigSep Finset.univ fun k : Fin 2 => dutyTok ER (cellAt (c, k)) 0 ()))

theorem funded : BI.own (ER (initOf cells tickets)) ⊢ (|==> bigSep Finset.univ (share m) : sProp 𝕄) := by
  have hX (Φ : GSem nD τ sig → sProp 𝕄) : bigSep cells Φ = bigSep Finset.univ fun c : Dev nD => bigSep Finset.univ fun k : Fin 2 => Φ (cellAt (c, k)) := by
    unfold cells; rw [bigSep_map, bigSep_univ_prod]; rfl
  have hT : bigSep tickets (fun x => (dutyTok ER x.1 x.2.1 x.2.2 : sProp 𝕄))
      = bigSep Finset.univ fun c : Dev nD => bigSep Finset.univ fun k : Fin 2 => dutyTok ER (cellAt (c, k)) 0 () := by
    unfold tickets; rw [bigSep_map, bigSep_univ_prod]; rfl
  iintro HX
  imod (Rounds.fund ER (plan m) cells tickets) $$ HX with ⟨Hst, Hr, Hat, Htok⟩
  imodintro
  ihave Hst' := (Entails.of_eq (hX fun g => roundState ER (plan m) g 0)) $$ Hst
  ihave Hr' := (Entails.of_eq (hX fun g => reached ER g 0)) $$ Hr
  ihave Hat' := (Entails.of_eq (hX fun g => atPos ER g 0 ∅ 0)) $$ Hat
  ihave Htok' := (Entails.of_eq hT) $$ Htok
  unfold share; simp only [bigSep_sep']
  isplitl [Hst']; · iexact Hst'
  isplitl [Hr']; · iexact Hr'
  isplitl [Hat'] <;> iassumption

/-- Every core's two invariants and what it has reached, which all may read. -/
def known (K : Dev nD × Fin 2 → ℕ) : sProp 𝕄 :=
  iprop((bigSep Finset.univ fun ck : Dev nD × Fin 2 => cellInv ER (plan m) (K ck) (cellAt ck))
    ∗ bigSep Finset.univ fun ck : Dev nD × Fin 2 => reached ER (cellAt ck) 0)
instance known_persistent (K : Dev nD × Fin 2 → ℕ) : BI.Persistent (known m K) := by unfold known; infer_instance

/-- What one core alone holds. -/
def alone (c : Dev nD) : sProp 𝕄 :=
  iprop((atPos ER (outC c) 0 ∅ 0 ∗ atPos ER (inC c) 0 ∅ 0) ∗ (dutyTok ER (outC c) 0 () ∗ dutyTok ER (inC (peer c)) 0 ()) ∗ bufs m c)
def ready (c : Dev nD) : sProp 𝕄 := iprop((∃ K, ghost m K c) ∗ bufs m c)

theorem ready_intro (K : Dev nD × Fin 2 → ℕ) (c : Dev nD) : iprop(known m K ∗ alone m c) ⊢ ready m c := by
  have hI (ck : Dev nD × Fin 2) : (bigSep Finset.univ fun ck : Dev nD × Fin 2 => (cellInv ER (plan m) (K ck) (cellAt ck) : sProp 𝕄)) ⊢ cellInv ER (plan m) (K ck) (cellAt ck) :=
    bigSep_elim (Finset.mem_univ ck)
  have hR (ck : Dev nD × Fin 2) : (bigSep Finset.univ fun ck : Dev nD × Fin 2 => (reached ER (cellAt ck) 0 : sProp 𝕄)) ⊢ reached ER (cellAt ck) 0 :=
    bigSep_elim (Finset.mem_univ ck)
  unfold known alone ready ghost invs
  iintro ⟨⟨#HI, #HR⟩, ⟨HaO, HaI⟩, ⟨HtO, HtI⟩, Hb⟩
  isplitr [Hb]
  · iexists K
    isplitr
    · isplitr; · iapply (hI (c, 0)); iexact HI
      isplitr; · iapply (hI (c, 1)); iexact HI
      iapply (hI (peer c, 1)); iexact HI
    isplitl [HaO]; · iexact HaO
    isplitl [HaI]; · iexact HaI
    isplitr; · iapply (hR (c, 0)); iexact HR
    isplitr; · iapply (hR (peer c, 1)); iexact HR
    isplitl [HtO] <;> iassumption
  iexact Hb

/-- The tokens of what comes, dealt across. -/
theorem tokens_across : (bigSep Finset.univ fun c : Dev nD => bigSep Finset.univ fun k : Fin 2 => (dutyTok ER (cellAt (c, k)) 0 () : sProp 𝕄))
    ⊢ bigSep Finset.univ fun c : Dev nD => iprop(dutyTok ER (outC c) 0 () ∗ dutyTok ER (inC (peer c)) 0 ()) := by
  rw [bigSep_congr fun c _ => two fun k => (dutyTok ER (cellAt (c, k)) 0 () : sProp 𝕄), bigSep_sep', bigSep_sep', bigSep_univ_equiv turn (fun c : Dev nD => (dutyTok ER (cellAt (c, 1)) 0 () : sProp 𝕄))]
  exact BI.Entails.refl _

theorem apart : (bigSep Finset.univ fun c : Dev nD => bigSep Finset.univ fun k : Fin 2 => (atPos ER (cellAt (c, k)) 0 ∅ 0 : sProp 𝕄))
    ⊢ bigSep Finset.univ fun c : Dev nD => iprop(atPos ER (outC c) 0 ∅ 0 ∗ atPos ER (inC c) 0 ∅ 0) :=
  bigSep_mono fun c _ => Entails.of_eq (two _)

/-- What a core's memory holds at the launch. -/
def given (c : Dev nD) : sProp 𝕄 := iprop(xHeld m c ∗ oHeld c (m ((c : Thread nD τ).loc main_v1)))

/-- The results, dealt across. -/
theorem bufs_across : bigSep Finset.univ (given m) ⊢ bigSep Finset.univ fun c : Dev nD => bufs m c := by
  unfold bufs given
  rw [bigSep_sep', bigSep_sep', bigSep_univ_equiv turn (fun c : Dev nD => (oHeld c (m ((c : Thread nD τ).loc main_v1)) : sProp 𝕄))]
  exact BI.Entails.refl _

theorem invs_made (c : Dev nD) :
    iprop((bigSep Finset.univ fun k : Fin 2 => semVal (cellAt (c, k)) 0) ∗ bigSep Finset.univ fun k : Fin 2 => roundState ER (plan m) (cellAt (c, k)) 0)
      ⊢ (|={Set.univ}=> bigSep Finset.univ fun k => iprop(∃ κ : ℕ, cellInv ER (plan m) κ (cellAt (c, k))) : sProp 𝕄) := by
  rw [← bigSep_sep']
  exact (bigSep_mono fun k _ => (Rounds.body_intro ER (plan m) (cellAt (c, k))).trans inv_alloc).trans (bigSep_fupd _ _)

theorem dealt : (bigSep Finset.univ fun c => iprop(Pipeline.ownSems0 (Ix := Unit) (Name := ℕ) (U := UU) (Lvl := ℕ) (Val := Elt F) (τ := τ) osem c
      ∗ given m c ∗ share m c) : sProp 𝕄)
    ⊢ |={Set.univ}=> bigSep Finset.univ (ready m) := by
  have hall : (bigSep Finset.univ fun c : Dev nD => iprop((bigSep Finset.univ fun k : Fin 2 => semVal (cellAt (c, k)) 0) ∗ bigSep Finset.univ fun k : Fin 2 => roundState ER (plan m) (cellAt (c, k)) 0) : sProp 𝕄)
      ⊢ |={Set.univ}=> bigSep Finset.univ fun ck : Dev nD × Fin 2 => iprop(∃ κ : ℕ, cellInv ER (plan m) κ (cellAt ck)) := by
    rw [bigSep_univ_prod (fun ck : Dev nD × Fin 2 => iprop(∃ κ : ℕ, cellInv ER (plan m) κ (cellAt ck)))]
    exact (bigSep_mono fun c _ => invs_made m c).trans (bigSep_fupd _ _)
  unfold share Pipeline.ownSems0
  simp only [bigSep_sep'] at hall ⊢
  iintro ⟨Hv, Hb, Hst, Hr, Hat, Htok⟩
  imod hall $$ [Hv Hst] with HI
  · isplitl [Hv] <;> iassumption
  imodintro
  ihave HK := (BI.bigSep_exists_pi Finset.univ (fun (ck : Dev nD × Fin 2) (κ : ℕ) => (cellInv ER (plan m) κ (cellAt ck) : sProp 𝕄))) $$ HI
  icases HK with ⟨%K, #HI⟩
  ihave Hr' := (Entails.of_eq (bigSep_univ_prod (fun ck : Dev nD × Fin 2 => (reached ER (cellAt ck) 0 : sProp 𝕄))).symm) $$ Hr
  icases Hr' with #HR
  ihave Htk := (tokens_across (F := F)) $$ Htok
  ihave Hbf := (bufs_across m) $$ Hb
  have hgo : iprop(known m K ∗ bigSep Finset.univ (alone m)) ⊢ bigSep Finset.univ (ready m) :=
    (sep_mono_left (BI.bigSep_of_persistent Finset.univ (known m K))).trans (by rw [← bigSep_sep']; exact bigSep_mono fun c _ => ready_intro m K c)
  iapply hgo
  isplitr
  · unfold known; isplitl; · iexact HI
    iexact HR
  unfold alone
  simp only [bigSep_sep']
  isplitl [Hat]
  · ihave Hat' := (apart (F := F)) $$ Hat
    simp only [bigSep_sep']
    iexact Hat'
  isplitl [Htk] <;> iassumption

theorem credit (c : Dev nD) : (Pipeline.launchCred owed₀ c : sProp 𝕄) ⊢ cred (tallyAt (inC c) () size) := by
  have ho (d : Dev nD) : owed₀ d (inC c) () = if d = peer c then size else 0 := by
    unfold owed₀; rw [tallyAt_apply]
    by_cases h : d = peer c
    · subst h; rw [peer_peer, if_pos ⟨rfl, rfl⟩, if_pos rfl]
    · rw [if_neg h, if_neg]
      rintro ⟨h1, _⟩
      have h2 : c = peer d := congrArg (fun g : GSem nD τ sig => g.1.1) h1
      exact h (by rw [h2, peer_peer])
  have hl : tallyOn (inC c) (launchCredit (Pipeline.owing owed₀) 0 (inC c)) = (tallyAt (inC c) () size : CellTallies nD τ sig Unit) := by
    unfold tallyAt; refine congrArg _ (Finsupp.ext fun u => ?_); cases u
    rw [Pipeline.launchCredit_owing, Finsupp.single_eq_same, Finset.sum_congr rfl fun d _ => ho d, Finset.sum_ite_eq' Finset.univ (peer c) fun _ => size,
      if_pos (Finset.mem_univ _)]
  unfold Pipeline.launchCred
  rw [← hl]
  exact bigSep_elim (Finset.mem_univ inS)

def held (c : Dev nD) : sProp 𝕄 := iprop(xHeld m c ∗ oHeld c (got m c))
/-- What the memory holds at the end. -/
def Ends (c : Dev nD) (s : MemSt nD τ sig (Elt F)) : Prop :=
  s.mem ((c : Thread nD τ).loc main_arg0) = x m c ∧ s.mem ((c : Thread nD τ).loc main_v1) = got m c

/-! No window, no table, no level: of the pipeline's own holdings a core needs only its scoped buffers, the
    semaphores nobody uses, and what it owes. -/

abbrev idle (c : Dev nD) : sProp 𝕄 := Pipeline.idleSems0 cfgs cellOf_inj 0 ownSemFacts c
/-- What a core starts `main` with, and what it has after. -/
def starts (c : Dev nD) : sProp 𝕄 := iprop(scopedBufs (c : Thread nD τ) ∗ idle c ∗ owes (c : Thread nD τ) (owed₀ c) ∅ ∗ before m c)
def ends (c : Dev nD) : sProp 𝕄 := iprop(held m c ∗ scopedSems0 (c : Thread nD τ))

theorem no_window (Φ : Fin 0 → sProp 𝕄) : (iprop(emp) : sProp 𝕄) ⊢ bigSep Finset.univ Φ :=
  Entails.of_eq (by rw [Finset.univ_eq_empty, bigSep_empty]; rfl)

theorem sems_split (c : Dev nD) : (scopedSems0 (c : Thread nD τ) : sProp 𝕄)
    = iprop((Pipeline.cellsSems0 cfgs 0 c ∗ Pipeline.ownSems0 osem c) ∗ idle c) :=
  Pipeline.scopedSems0_split cfgs cellOf_inj 0 winFacts0.to₀ ownSemFacts c

theorem memory_given (c : Dev nD) : (unscopedBufs c (fun b => m ((c : Thread nD τ).loc b)) : sProp 𝕄) = given m c := by
  unfold given unscopedBufs
  rw [xHeld_eq, oHeld_eq]
  exact bigSep_eq_bigSepL_of_eq [main_arg0, main_v1] (by decide) (by decide) _

/-- One core's launch bundle, sorted. -/
theorem sorted (c : Dev nD) :
    coreInit (Ix := Unit) (Name := ℕ) (U := UU) (Lvl := ℕ) (Pipeline.owing owed₀) 0 (⟨m, fun _ => 0, ρ⟩ : MemSt nD τ sig (Elt F)) (c : Thread nD τ)
      ⊢ iprop((Pipeline.ownSems0 osem c ∗ given m c) ∗ scopedBufs (c : Thread nD τ) ∗ idle c ∗ owes (c : Thread nD τ) (owed₀ c) ∅
          ∗ cred (tallyAt (inC c) () size)) := by
  refine (Pipeline.coreInit_boundary_owing owed₀ m ρ c).trans ?_
  unfold boundary
  rw [memory_given, sems_split]
  iintro ⟨⟨Hs, ⟨⟨-, Hown⟩, Hidle⟩, -⟩, Hm, -, Ho, -, -, Hcr⟩
  isplitl [Hown Hm]; · isplitl [Hown] <;> iassumption
  isplitl [Hs]; · iexact Hs
  isplitl [Hidle]; · iexact Hidle
  isplitl [Ho]; · iexact Ho
  iapply (credit (F := F) c); iexact Hcr

/-- The launch: what belongs together is dealt to all cores at once. -/
theorem launched :
    iprop((bigSep Finset.univ fun d : Dev nD => coreInit (Ix := Unit) (Name := ℕ) (Lvl := ℕ) (Pipeline.owing owed₀) 0 (⟨m, fun _ => 0, ρ⟩ : MemSt nD τ sig (Elt F)) (d : Thread nD τ)) ∗ ownU u₀)
      ⊢ (|={Set.univ}=> bigSep Finset.univ (starts m) : sProp 𝕄) := by
  refine (sep_mono_left (bigSep_mono fun c _ => sorted m ρ c)).trans ?_
  have hd := dealt m
  unfold u₀ starts before
  unfold ready at hd
  simp only [bigSep_sep'] at hd ⊢
  iintro ⟨⟨⟨Hown, Hm⟩, Hs, Hidle, Ho, Hcr⟩, Hu⟩
  ihave Hu' := (ownU_pair _ _) $$ Hu
  icases Hu' with ⟨-, HX⟩
  imod (funded m) $$ HX with Hsh
  imod hd $$ [Hown Hm Hsh] with ⟨HK, Hb⟩
  · isplitl [Hown]; · iexact Hown
    isplitl [Hm] <;> iassumption
  imodintro
  isplitl [Hs]; · iexact Hs
  isplitl [Hidle]; · iexact Hidle
  isplitl [Ho]; · iexact Ho
  isplitl [HK]; · iexact HK
  isplitl [Hb] <;> iassumption

/-- One core's run of `main`. -/
theorem ran (c : Dev nD) : starts m c ⊢ wp frame (wpE (defs (F := F)) (Variants.lift 𝒱₀) (c : Thread nD τ) none) Set.univ (main (F := F) c)
    (fun _ => post (liftTc (ends m) BI.emp) (c : Thread nD τ)) := by
  have hstore : (scopedBufs (c : Thread nD τ) : sProp 𝕄) = iprop(Dat.staging cfg0 c ∗ Pipeline.scopedRest cfg0.spec c) :=
    Pipeline.scopedBufs_split cfgs 0 winFacts0.stage_scoped winFacts0.stage_inj stage_whole0 c
  have hin : iprop(before m c ∗ Pipeline.prefHeld Pipeline.Prefetch.none c (fun k => k.elim0) (fun k => k.elim0) ∗ Pipeline.scopedRest cfg0.spec c) ⊢ before m c := by
    iintro ⟨H, -⟩; iexact H
  have hout : iprop(after m c ∗ Pipeline.cellsSems0 cfgs 0 c ∗ Dat.staging cfg0 c ∗ idle c)
      ⊢ iprop(held m c ∗ scopedSems0 (c : Thread nD τ) ∗ scopedBufs (c : Thread nD τ)) := by
    rw [sems_split, hstore, scopedRest0_eq]
    unfold after held Pipeline.ownSems0
    rw [two]
    iintro ⟨⟨H, Hz⟩, Hc, Hs, Hi⟩
    isplitl [H]; · iexact H
    isplitr [Hs]
    · isplitr [Hi]
      · isplitl [Hc] <;> iassumption
      · iexact Hi
    · isplitl; · iexact Hs
      iempintro
  have hmain : main (F := F) c = .op (.customCall (Pipeline.entry (0 : Fin 1)) ()) fun _ => .ret ⟨⟩ := rfl
  have hregion := Pipeline.wp_customCall_entry_frame (fun p => (cfgs p).toPCfg) (fun p => (cfgs p).toPCfg_adm) (dats m) () EP (fun _ => 0) cellOf_inj (0 : Fin 1) defs₀ 𝒱₀
      (fun k => k.elim0) c Set.univ (fun w => w.elim0) (body_obligation m c).loose (fun w => w.elim0) none (fun _ h => nomatch h)
      (Entails.of_eq hstore) hin hout (α := PUnit) (k := fun _ => .ret PUnit.unit) (Q := fun _ => post (liftTc (ends m) BI.emp) (c : Thread nD τ))
  rw [hmain]
  unfold starts
  iintro ⟨Hs, Hidle, Ho, Hb⟩
  iapply hregion $$ [Hs Hidle Ho Hb]
  · isplitl [Ho]
    · unfold Pipeline.EntryPre Pipeline.PerCore.EntryPre
      isplitr; · unfold Dat.arrays; iapply (no_window _); iempintro
      isplitl
      · unfold Dat.owesAt Pipeline.owesWithin
        iexists ∅
        isplitr; · ipureintro; rw [Finset.coe_empty]; exact Set.empty_subset _
        iexact Ho
      unfold Pipeline.PerCore.cellsWaits Pipeline.PerCore.RDat.cellsWaits Pipeline.PerCore.cellsInit Pipeline.PerCore.RDat.cellsInit Pipeline.PerCore.toksInit
      isplitr; · iapply (no_window _); iempintro
      isplitr <;> · iapply (no_window _); iempintro
    isplitr; · unfold Pipeline.prefHeld; iapply (no_window _); iempintro
    isplitl [Hb]; · iexact Hb
    isplitl [Hidle] <;> iassumption
  iintro ⟨He, Hh, Hz, -⟩
  rw [wp_ret]; imodintro
  unfold post Pipeline.EntryPost Pipeline.PerCore.EntryPost Dat.owesAt Pipeline.owesWithin
  simp only [liftTc_tc, ends]
  icases He with ⟨-, ⟨%W, -, HW⟩⟩
  isplitr [HW]
  · isplitl [Hh] <;> iassumption
  · iexists W; iexact HW

theorem ends_read (c : Dev nD) (s' : Phys nD τ sig (Elt F)) : iprop(ends m c ∗ SI s')
    ⊢ |={Set.univ}=> iprop(⌜Ends m c s'.mem ∧ ∀ sm : SemLoc sig, sm.isScoped .tc = true → s'.mem.sem ((c : Thread nD τ), sm) = 0⌝ ∗ SI s') := by
  unfold ends held Ends
  rw [xHeld_eq, oHeld_eq]
  iintro ⟨⟨⟨Hx, Hv⟩, Hz⟩, HSI⟩
  ihave %hz := (tcScoped_read_pers c s') $$ [Hz HSI]
  · isplitl [Hz] <;> iassumption
  icombine HSI Hx gives %h₀
  icombine HSI Hv gives %h₁
  imodintro
  isplitr; · ipureintro; exact ⟨⟨funext fun i => h₀ i (Finset.mem_univ i), funext fun i => h₁ i (Finset.mem_univ i)⟩, hz⟩
  iexact HSI

/-- Every execution ends, each core's array as launched and its result the other core's array. -/
theorem run : θ_run defs (onTc (τ := τ) (main (F := F))) ⟨m, fun _ => 0, ρ⟩ (fun r => (∀ c : Dev nD, Ends m c r.2) ∧ r.2.sem = fun _ => 0) := by
  refine adequate_tpu (defs (F := F)) _ _ _ (reflect_intro_fupd_tc_sems (X := Unit) (Variants.lift 𝒱₀) (Pipeline.owing owed₀) 0 (noBookings fun _ => le_rfl)
    (Pipeline.owing_of_ne owed₀) u₀ (fun _ => starts m) (fun _ => ends m) (fun _ => iprop(emp)) Set.univ ?_ (fun _ c => ran m c) fun _ => ?_)
  · iintro H
    imod (launched m ρ) $$ H with H
    imodintro
    iexists ()
    isplitl; · iexact H
    iempintro
  · iintro ⟨H, -, Hsc⟩ %s' HSI
    ihave %hsc := (scSems_read_zero m ρ s') $$ [Hsc HSI]
    · isplitl [Hsc] <;> iassumption
    imod (posts_fupd Finset.univ (ends_read m) s') $$ [H HSI] with %h
    · isplitl [H] <;> iassumption
    imodintro
    ipureintro
    exact ⟨fun c => (h c (Finset.mem_univ c)).1, sem_eq_zero_of_scoped (by decide) (sems_of_reads (fun c => (h c (Finset.mem_univ c)).2) hsc)⟩

end Cert.Kernel14Ideal.Swap
end
-- ==== Proof.Swap.Value.lean ====
module

public import proofs.«01_k».proof.Proof.Swap.Run
public import proofs.«01_k».proof.Defs
public import proofs.«01_k».proof.Proof.Gen.Kernel14
public import proofs.«01_k».proof.Proof.Gen.Reference14
public import proofs.«01_k».proof.Proof.Gen.Reference14Ideal
public import proofs.«01_k».proof.Proof.Gen.Reference14Ideal.Run
public import proofs.«01_k».proof.Proof.Gen.Reference14Ideal.Read
public import Idealize.ShloMosaic.Lib.Pipeline.ValueKit
public import Idealize.ShloMosaic.Lib.Pointwise
public import Idealize.ShloMosaic.Lib.Claim
public import Idealize.ShloMosaic.Lib.Layout

@[expose] public section
set_option maxRecDepth 16384
noncomputable section
open Idealize.ShloMosaic Idealize.ShloMosaic.TcCoe Idealize.SL.Sem
namespace Cert.Kernel14Ideal.Swap
open Cert.Kernel14Ideal Cert.Kernel14Ideal.Gen

/-! The frames, and the exchanged halves against the reference's. -/

variable {F : FTy → Type} [FloatOps F]

/-- Device `c`'s block of the whole array. -/
abbrev part (X : FVec F ⟨2, ![704, 1024]⟩ .f32) (c : Fin 2) : FVec F S352x1024 .f32 :=
  Layout.blockN ⟨2, ![352, 1024]⟩ ⟨2, ![704, 1024]⟩ (Layout.meshBlock [1, 1, 2] ![[2], []] c) X

theorem part_at (X : FVec F ⟨2, ![704, 1024]⟩ .f32) (c : Fin 2) (r : Fin 352) (k : Fin 1024) :
    part X c (ix2 r k) = X (ix2 ⟨c.val * 352 + r.val, by have := c.isLt; omega⟩ k) := by
  refine congrArg X (funext fun a => ?_)
  fin_cases c <;> fin_cases a <;> apply Fin.ext <;> simp [Layout.TilesN.idx, Layout.meshBlock, Layout.meshLin, Layout.meshCoord, ix2] <;> rfl

open Cert.Reference14Ideal.Read in
theorem first_at (X : FVec F ⟨2, ![704, 1024]⟩ .f32) (r : Fin 352) (k : Fin 1024) :
    val_main_v2 (F := F) X (ix2 ⟨r.val, by omega⟩ k) = X (ix2 ⟨352 + r.val, by omega⟩ k) := by
  pointwise [val_main_v2, val_main_v1, val_main_v0]
open Cert.Reference14Ideal.Read in
theorem second_at (X : FVec F ⟨2, ![704, 1024]⟩ .f32) (r : Fin 352) (k : Fin 1024) :
    val_main_v2 (F := F) X (ix2 ⟨352 + r.val, by omega⟩ k) = X (ix2 ⟨r.val, by omega⟩ k) := by
  pointwise [val_main_v2, val_main_v1, val_main_v0]

open Cert.Reference14Ideal.Read in
theorem parts (X : FVec F ⟨2, ![704, 1024]⟩ .f32) (c : Fin 2) : part X (peer c) = part (val_main_v2 (F := F) X) c := by
  funext i
  obtain ⟨r, k, rfl⟩ : ∃ (r : Fin 352) (k : Fin 1024), i = ix2 r k := ⟨i 0, i 1, by funext a; fin_cases a <;> rfl⟩
  refine (part_at X (peer c) r k).trans (Eq.trans ?_ (part_at _ c r k).symm)
  fin_cases c
  · refine Eq.trans ?_ ((first_at X r k).symm.trans ?_)
    · congr 2
    · congr 2; apply Fin.ext; show r.val = 0 * 352 + r.val; omega
  · refine Eq.trans ?_ ((second_at X r k).symm.trans ?_)
    · congr 2; apply Fin.ext; show 0 * 352 + r.val = r.val; omega
    · congr 2

/-- Over any float values the run leaves on each device its block of the reference's array. -/
theorem blocks (m : (ℓ : Loc nD τ sig) → Buf (Elt F) ℓ) (ρ : Dev nD → PrngReg) (X : FVec F ⟨2, ![704, 1024]⟩ .f32)
    (hX : ∀ c : Dev nD, m ((c.tc : Thread nD τ).loc main_arg0) = part X c) :
    θ_run defs (onTc (τ := τ) (main (F := F))) ⟨m, fun _ => 0, ρ⟩ (fun r => ∀ c : Dev nD,
      r.2.mem ((c.tc : Thread nD τ).loc main_v1) = part (Cert.Reference14Ideal.Read.val_main_v2 (F := F) X) c
      ∧ r.2.mem ((c.tc : Thread nD τ).loc main_arg0) = m ((c.tc : Thread nD τ).loc main_arg0)) :=
  (θ_run _ _ _).mono (fun r h c => ⟨(h.1 c).2.trans ((hX (peer c)).trans (parts _ c)), (h.1 c).1⟩) (run m ρ)

theorem swap_frame_any (F : FTy → Type) [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run _ _ _).mono (fun _ h => ⟨fun c => (h.1 c).1, h.2⟩) (run m ρ)
end Cert.Kernel14Ideal.Swap

namespace Cert.Proof
open Cert.Kernel14Ideal.Swap

theorem swap_frame_ideal : Cert.quiescent_Kernel14Ideal (hKernel14Ideal := Cert.Kernel14Ideal.Gen.facts) := fun m ρ _ => swap_frame_any Ideal m ρ
theorem swap_frame : Cert.quiescent_Kernel14 (hKernel14 := Cert.Kernel14.Gen.facts) := fun m ρ _ => swap_frame_any Bits m ρ

theorem swap_algebraic : Cert.algebraic_Kernel14Ideal_Reference14Ideal (hKernel14Ideal := Cert.Kernel14Ideal.Gen.facts)
    (hReference14Ideal := Cert.Reference14Ideal.Gen.facts) := by
  intro m g m' g' _ hagree
  exact ⟨_, blocks m g _ hagree, (θ_run _ _ _).mono (fun r h => h 0) (Cert.Reference14Ideal.Value.run m' g')⟩

theorem swap_bitexact : Cert.bitexact_Kernel14_Reference14 (hKernel14 := Cert.Kernel14.Gen.facts)
    (hReference14 := Cert.Reference14.Gen.facts) := by
  intro m g m' g' _ hagree
  exact ⟨_, blocks m g _ hagree, (θ_run _ _ _).mono (fun r h => h 0) (Cert.Reference14Ideal.Value.run m' g')⟩
end Cert.Proof
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gate.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Down.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Inb.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Head.Value
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Reference5Ideal.Run
public import proofs.«01_k».proof.Proof.Gen.Reference5Ideal.Read
public import proofs.«01_k».proof.Proof.Mixer.Value
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Up.Value
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Inproj.Value
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Loops
public import proofs.«01_k».proof.Proof.Gen.Kernel8Ideal.Launch
public import proofs.«01_k».proof.Proof.Gen.Kernel8Ideal.Points
public import proofs.«01_k».proof.Proof.Gen.Reference8Ideal
public import proofs.«01_k».proof.Proof.Gen.Reference8Ideal.Run
public import proofs.«01_k».proof.Proof.Gen.Reference8Ideal.Read
public import proofs.«01_k».proof.Proof.Mixfwd.Value
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Wgrad.Value
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Adamw.Value
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Chips.Value
public import proofs.«01_k».proof.Proof.Chips.Ok
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Half.Value
public import proofs.«01_k».proof.Proof.Half.Ok
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Slab.Value
public import proofs.«01_k».proof.Proof.Gen.Kernel14
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Reference14
public import proofs.«01_k».proof.Proof.Gen.Reference14Ideal
public import proofs.«01_k».proof.Proof.Gen.Reference14Ideal.Run
public import proofs.«01_k».proof.Proof.Gen.Reference14Ideal.Read
public import proofs.«01_k».proof.Proof.Swap.Value
public import Idealize.ShloMosaic.Lib.Claim
public import Idealize.ShloMosaic.Lib.Quiescent

@[expose] public section

noncomputable section

namespace Cert.Proof

open Idealize.ShloMosaic Idealize.SL.Sem

theorem gate_finite_facts : Cert.Pre_gate_finite.Facts := ⟨by decide, by decide, by decide⟩

theorem bwd_down_finite_facts : Cert.Pre_bwd_down_finite.Facts := ⟨by decide, by decide, by decide, by decide⟩

theorem inproj_bwd_finite_facts : Cert.Pre_inproj_bwd_finite.Facts := ⟨by decide, by decide, by decide, by decide⟩

theorem loss_head_finite_facts : Cert.Pre_loss_head_finite.Facts := ⟨by decide, by decide, by decide, by decide⟩

theorem pool_half_finite_facts : Cert.Pre_pool_half_finite.Facts := ⟨by decide, by decide, by decide, by decide, by decide, by decide⟩

theorem gate_frame_reference : Cert.quiescent_ReferenceIdeal := by
  intro m g _
  refine (θ_run _ _ _).mono (fun r h => ⟨fun c => (h c).2.2, sem_eq_zero_of_no_sems (by decide) _⟩) (Cert.ReferenceIdeal.Value.run m g)

theorem down_frame_reference : Cert.quiescent_Reference2Ideal := by
  intro m g _
  refine (θ_run _ _ _).mono (fun r h => ⟨fun c => (h c).2.2, sem_eq_zero_of_no_sems (by decide) _⟩) (Cert.Reference2Ideal.Value.run m g)

theorem inb_frame_reference : Cert.quiescent_Reference3Ideal := by
  intro m g _
  refine (θ_run _ _ _).mono (fun r h => ⟨fun c => (h c).2.2.2, sem_eq_zero_of_no_sems (by decide) _⟩) (Cert.Reference3Ideal.Value.run m g)

theorem head_frame_reference : Cert.quiescent_Reference4Ideal := by
  intro m g _
  refine (θ_run _ _ _).mono (fun r h => ⟨fun c => (h c).2.2.2.2, sem_eq_zero_of_no_sems (by decide) _⟩) (Cert.Reference4Ideal.Value.run m g)

theorem mixer_frame_reference : Cert.quiescent_Reference5Ideal := by
  intro m g _
  refine (θ_run _ _ _).mono (fun r h => ⟨fun c => (h c).2.2.2.2.2.2, sem_eq_zero_of_no_sems (by decide) _⟩) (Cert.Reference5Ideal.Value.run m g)

theorem up_frame_reference : Cert.quiescent_Reference6Ideal := by
  intro m g _
  refine (θ_run _ _ _).mono (fun r h => ⟨fun c => (h c).2.2.2.2, sem_eq_zero_of_no_sems (by decide) _⟩) (Cert.Reference6Ideal.Value.run m g)

theorem inproj_frame_reference : Cert.quiescent_Reference7Ideal := by
  intro m g _
  refine (θ_run _ _ _).mono (fun r h => ⟨fun c => (h c).2, sem_eq_zero_of_no_sems (by decide) _⟩) (Cert.Reference7Ideal.Value.run m g)

theorem mixfwd_frame_reference : Cert.quiescent_Reference8Ideal := by
  intro m g _
  refine (θ_run _ _ _).mono (fun r h => ⟨fun c => (h c).2.2.2.2, sem_eq_zero_of_no_sems (by decide) _⟩) (Cert.Reference8Ideal.Value.run m g)

theorem wgrad_frame_reference : Cert.quiescent_Reference9Ideal := by
  intro m g _
  refine (θ_run _ _ _).mono (fun r h => ⟨fun c => (h c).2.2.2, sem_eq_zero_of_no_sems (by decide) _⟩) (Cert.Reference9Ideal.Value.run m g)

theorem adamw_frame_reference : Cert.quiescent_Reference10Ideal := by
  intro m g _
  refine (θ_run _ _ _).mono (fun r h => ⟨fun c => (h c).2.2.2.2, sem_eq_zero_of_no_sems (by decide) _⟩) (Cert.Reference10Ideal.Value.run m g)

theorem chips_frame_reference : Cert.quiescent_Reference11Ideal := by
  intro m g _
  refine (θ_run _ _ _).mono (fun r h => ⟨fun c => (h c).2, sem_eq_zero_of_no_sems (by decide) _⟩) (Cert.Reference11Ideal.Value.run m g)

theorem half_frame_reference : Cert.quiescent_Reference12Ideal := by
  intro m g _
  refine (θ_run _ _ _).mono (fun r h => ⟨fun c => (h c).2.2, sem_eq_zero_of_no_sems (by decide) _⟩) (Cert.Reference12Ideal.Value.run m g)

theorem slab_frame_reference : Cert.quiescent_Reference13Ideal := by
  intro m g _
  refine (θ_run _ _ _).mono (fun r h => ⟨fun c => (h c).2, sem_eq_zero_of_no_sems (by decide) _⟩) (Cert.Reference13Ideal.Value.run m g)

theorem swap_frame_reference : Cert.quiescent_Reference14Ideal := by
  intro m g _
  refine (θ_run _ _ _).mono (fun r h => ⟨fun c => (h c).2, sem_eq_zero_of_no_sems (by decide) _⟩) (Cert.Reference14Ideal.Value.run m g)

theorem swap_frame_reference_bits : Cert.quiescent_Reference14 := by
  intro m g _
  refine (θ_run _ _ _).mono (fun r h => ⟨fun c => (h c).2, sem_eq_zero_of_no_sems (by decide) _⟩) (Cert.Reference14Ideal.Value.run m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Reference14.Gen.facts, gate_finite_facts, bwd_down_finite_facts, inproj_bwd_finite_facts, loss_head_finite_facts, pool_half_finite_facts,
  fun m ρ _ => Cert.Kernel.Gen.frame m ρ,
  fun m ρ _ => Cert.KernelIdeal.Gen.frame m ρ,
  fun m ρ _ => Cert.KernelIdeal.Gen.frame m ρ,
  gate_frame_reference,
  fun m ρ _ => gate_frame_reference m ρ trivial,
  fun m ρ _ => Cert.Kernel2.Gen.frame m ρ,
  fun m ρ _ => Cert.Kernel2Ideal.Gen.frame m ρ,
  fun m ρ _ => Cert.Kernel2Ideal.Gen.frame m ρ,
  down_frame_reference,
  fun m ρ _ => down_frame_reference m ρ trivial,
  fun m ρ _ => Cert.Kernel3.Gen.frame m ρ,
  fun m ρ _ => Cert.Kernel3Ideal.Gen.frame m ρ,
  fun m ρ _ => Cert.Kernel3Ideal.Gen.frame m ρ,
  inb_frame_reference,
  fun m ρ _ => inb_frame_reference m ρ trivial,
  fun m ρ _ => Cert.Kernel4.Gen.frame m ρ,
  fun m ρ _ => Cert.Kernel4Ideal.Gen.frame m ρ,
  fun m ρ _ => Cert.Kernel4Ideal.Gen.frame m ρ,
  head_frame_reference,
  fun m ρ _ => head_frame_reference m ρ trivial,
  mixer_frame,
  mixer_frame_ideal,
  fun m ρ _ => mixer_frame_ideal m ρ trivial,
  mixer_frame_reference,
  fun m ρ _ => mixer_frame_reference m ρ trivial,
  fun m ρ _ => Cert.Kernel6.Gen.frame m ρ,
  fun m ρ _ => Cert.Kernel6Ideal.Gen.frame m ρ,
  up_frame_reference,
  fun m ρ _ => Cert.Kernel7.Gen.frame m ρ,
  fun m ρ _ => Cert.Kernel7Ideal.Gen.frame m ρ,
  inproj_frame_reference,
  mixfwd_frame,
  mixfwd_frame_ideal,
  mixfwd_frame_reference,
  fun m ρ _ => Cert.Kernel9.Gen.frame m ρ,
  fun m ρ _ => Cert.Kernel9Ideal.Gen.frame m ρ,
  wgrad_frame_reference,
  fun m ρ _ => Cert.Kernel10.Gen.frame m ρ trivial,
  fun m ρ _ => Cert.Kernel10Ideal.Gen.frame m ρ trivial,
  adamw_frame_reference,
  fun m ρ _ => Cert.Kernel11.Gen.frame m ρ (Cert.Kernel11.Chips.ok m),
  fun m ρ _ => Cert.Kernel11Ideal.Gen.frame m ρ (Cert.Kernel11Ideal.Chips.ok m),
  chips_frame_reference,
  fun m ρ _ => Cert.Kernel12.Gen.frame m ρ (Cert.Kernel12.Half.ok m),
  fun m ρ _ => Cert.Kernel12Ideal.Gen.frame m ρ (Cert.Kernel12Ideal.Half.ok m),
  half_frame_reference,
  fun m ρ _ => Cert.Kernel13.Gen.frame m ρ,
  fun m ρ _ => Cert.Kernel13Ideal.Gen.frame m ρ,
  slab_frame_reference,
  swap_frame,
  swap_frame_ideal,
  swap_frame_reference,
  swap_frame_reference_bits,
  trivial,
  gate_algebraic _,
  trivial,
  down_algebraic _,
  trivial,
  inb_algebraic _,
  trivial,
  head_algebraic _,
  trivial,
  mixer_algebraic _,
  trivial,
  up_algebraic,
  trivial,
  inproj_algebraic,
  trivial,
  mixfwd_algebraic,
  trivial,
  wgrad_algebraic,
  trivial,
  adamw_algebraic,
  trivial,
  chips_algebraic,
  trivial,
  half_algebraic,
  trivial,
  slab_algebraic,
  trivial,
  swap_algebraic,
  swap_bitexact⟩

end Cert.Proof

end
